-- ==== Defs.lean ====
def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutIdeal_finite_odd_out [hPre_finite_odd_out : Cert.Pre_finite_odd_out.Facts] (m : (ℓ : Loc Cert.OddOutIdeal.nD Cert.OddOutIdeal.τ Cert.OddOutIdeal.sig) → Buf (Elt Ideal) ℓ) : Prop :=
  ∀ c : Dev Cert.OddOutIdeal.nD,
    (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).1 = (fun _ => 1#1)
    ∧ (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).2.1 = (fun _ => 1#1)
    ∧ (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).2.2.1 = (fun _ => 1#1)
    ∧ (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).2.2.2.1 = (fun _ => 1#1)
    ∧ (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).2.2.2.2.1 = (fun _ => 1#1)
    ∧ (Cert.Pre_finite_odd_out.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4)) (m ((c.tc : Thread Cert.OddOutIdeal.nD Cert.OddOutIdeal.τ).loc Cert.OddOutIdeal.main_arg5))).2.2.2.2.2 = (fun _ => 1#1)

def Pre_OddOutRefIdeal (m : (ℓ : Loc Cert.OddOutRefIdeal.nD Cert.OddOutRefIdeal.τ Cert.OddOutRefIdeal.sig) → Buf (Elt Ideal) ℓ) : Prop :=
  True

def Pre_OddOutRefIdeal_finite_odd_out [hPre_finite_odd_out : Cert.Pre_finite_odd_out.Facts] (m : (ℓ : Loc Cert.OddOutRefIdeal.nD Cert.OddOutRefIdeal.τ Cert.OddOutRefIdeal.sig) → Buf (Elt Ideal) ℓ) : Prop :=
  ∀ c : Dev Cert.OddOutRefIdeal.nD,
    (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).1 = (fun _ => 1#1)
    ∧ (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).2.1 = (fun _ => 1#1)
    ∧ (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).2.2.1 = (fun _ => 1#1)
    ∧ (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).2.2.2.1 = (fun _ => 1#1)
    ∧ (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).2.2.2.2.1 = (fun _ => 1#1)
    ∧ (Cert.Pre_finite_odd_out.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4)) (m ((c.tc : Thread Cert.OddOutRefIdeal.nD Cert.OddOutRefIdeal.τ).loc Cert.OddOutRefIdeal.main_arg5))).2.2.2.2.2 = (fun _ => 1#1)

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutIdeal_finite_even_out [hPre_finite_even_out : Cert.Pre_finite_even_out.Facts] (m : (ℓ : Loc Cert.EvenOutIdeal.nD Cert.EvenOutIdeal.τ Cert.EvenOutIdeal.sig) → Buf (Elt Ideal) ℓ) : Prop :=
  ∀ c : Dev Cert.EvenOutIdeal.nD,
    (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).1 = (fun _ => 1#1)
    ∧ (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).2.1 = (fun _ => 1#1)
    ∧ (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).2.2.1 = (fun _ => 1#1)
    ∧ (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).2.2.2.1 = (fun _ => 1#1)
    ∧ (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).2.2.2.2.1 = (fun _ => 1#1)
    ∧ (Cert.Pre_finite_even_out.fn (F := Ideal) (m ((c.tc : Thread Cert.EvenOutIdeal.nD Cert.EvenOutIdeal.τ).loc Cert.EvenOutIdeal.main_arg0)) (m ((c.tc : Thread Cert.EvenOutIdeal.nD Cert.EvenOutIdeal.τ).loc Cert.EvenOutIdeal.main_arg1)) (m ((c.tc : Thread Cert.EvenOutIdeal.nD Cert.EvenOutIdeal.τ).loc Cert.EvenOutIdeal.main_arg2)) (m ((c.tc : Thread Cert.EvenOutIdeal.nD Cert.EvenOutIdeal.τ).loc Cert.EvenOutIdeal.main_arg3)) (m ((c.tc : Thread Cert.EvenOutIdeal.nD Cert.EvenOutIdeal.τ).loc Cert.EvenOutIdeal.main_arg4)) (m ((c.tc : Thread Cert.EvenOutIdeal.nD Cert.EvenOutIdeal.τ).loc Cert.EvenOutIdeal.main_arg5))).2.2.2.2.2 = (fun _ => 1#1)

def Pre_EvenOutRefIdeal (m : (ℓ : Loc Cert.EvenOutRefIdeal.nD Cert.EvenOutRefIdeal.τ Cert.EvenOutRefIdeal.sig) → Buf (Elt Ideal) ℓ) : Prop :=
  True

def Pre_EvenOutRefIdeal_finite_even_out [hPre_finite_even_out : Cert.Pre_finite_even_out.Facts] (m : (ℓ : Loc Cert.EvenOutRefIdeal.nD Cert.EvenOutRefIdeal.τ Cert.EvenOutRefIdeal.sig) → Buf (Elt Ideal) ℓ) : Prop :=
  ∀ c : Dev Cert.EvenOutRefIdeal.nD,
    (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).1 = (fun _ => 1#1)
    ∧ (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).2.1 = (fun _ => 1#1)
    ∧ (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).2.2.1 = (fun _ => 1#1)
    ∧ (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).2.2.2.1 = (fun _ => 1#1)
    ∧ (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).2.2.2.2.1 = (fun _ => 1#1)
    ∧ (Cert.Pre_finite_even_out.fn (F := Ideal) (m ((c.tc : Thread Cert.EvenOutRefIdeal.nD Cert.EvenOutRefIdeal.τ).loc Cert.EvenOutRefIdeal.main_arg0)) (m ((c.tc : Thread Cert.EvenOutRefIdeal.nD Cert.EvenOutRefIdeal.τ).loc Cert.EvenOutRefIdeal.main_arg1)) (m ((c.tc : Thread Cert.EvenOutRefIdeal.nD Cert.EvenOutRefIdeal.τ).loc Cert.EvenOutRefIdeal.main_arg2)) (m ((c.tc : Thread Cert.EvenOutRefIdeal.nD Cert.EvenOutRefIdeal.τ).loc Cert.EvenOutRefIdeal.main_arg3)) (m ((c.tc : Thread Cert.EvenOutRefIdeal.nD Cert.EvenOutRefIdeal.τ).loc Cert.EvenOutRefIdeal.main_arg4)) (m ((c.tc : Thread Cert.EvenOutRefIdeal.nD Cert.EvenOutRefIdeal.τ).loc Cert.EvenOutRefIdeal.main_arg5))).2.2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjIdeal_finite_even_proj [hPre_finite_even_proj : Cert.Pre_finite_even_proj.Facts] (m : (ℓ : Loc Cert.EvenProjIdeal.nD Cert.EvenProjIdeal.τ Cert.EvenProjIdeal.sig) → Buf (Elt Ideal) ℓ) : Prop :=
  ∀ c : Dev Cert.EvenProjIdeal.nD,
    (Cert.Pre_finite_even_proj.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).1 = (fun _ => 1#1)
    ∧ (Cert.Pre_finite_even_proj.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).2.1 = (fun _ => 1#1)
    ∧ (Cert.Pre_finite_even_proj.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).2.2 = (fun _ => 1#1)

def Pre_EvenProjRefIdeal (m : (ℓ : Loc Cert.EvenProjRefIdeal.nD Cert.EvenProjRefIdeal.τ Cert.EvenProjRefIdeal.sig) → Buf (Elt Ideal) ℓ) : Prop :=
  True

def Pre_EvenProjRefIdeal_finite_even_proj [hPre_finite_even_proj : Cert.Pre_finite_even_proj.Facts] (m : (ℓ : Loc Cert.EvenProjRefIdeal.nD Cert.EvenProjRefIdeal.τ Cert.EvenProjRefIdeal.sig) → Buf (Elt Ideal) ℓ) : Prop :=
  ∀ c : Dev Cert.EvenProjRefIdeal.nD,
    (Cert.Pre_finite_even_proj.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).1 = (fun _ => 1#1)
    ∧ (Cert.Pre_finite_even_proj.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).2.1 = (fun _ => 1#1)
    ∧ (Cert.Pre_finite_even_proj.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).2.2 = (fun _ => 1#1)

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5)
      ∧ r.2.mem ((c.tc : Thread Cert.OddIn.nD Cert.OddIn.τ).loc Cert.OddIn.main_arg6) = m ((c.tc : Thread Cert.OddIn.nD Cert.OddIn.τ).loc Cert.OddIn.main_arg6))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
      ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4)
      ∧ r.2.mem ((c.tc : Thread Cert.OddInRefIdeal.nD Cert.OddInRefIdeal.τ).loc Cert.OddInRefIdeal.main_arg5) = m ((c.tc : Thread Cert.OddInRefIdeal.nD Cert.OddInRefIdeal.τ).loc Cert.OddInRefIdeal.main_arg5)
      ∧ r.2.mem ((c.tc : Thread Cert.OddInRefIdeal.nD Cert.OddInRefIdeal.τ).loc Cert.OddInRefIdeal.main_arg6) = m ((c.tc : Thread Cert.OddInRefIdeal.nD Cert.OddInRefIdeal.τ).loc Cert.OddInRefIdeal.main_arg6))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5)
      ∧ r.2.mem ((c.tc : Thread Cert.EvenInRefIdeal.nD Cert.EvenInRefIdeal.τ).loc Cert.EvenInRefIdeal.main_arg6) = m ((c.tc : Thread Cert.EvenInRefIdeal.nD Cert.EvenInRefIdeal.τ).loc Cert.EvenInRefIdeal.main_arg6))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutIdeal_pre_finite_odd_out [hOddOutIdeal : Cert.OddOutIdeal.Facts] [hPre_finite_odd_out : Cert.Pre_finite_odd_out.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal_finite_odd_out m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5))
      ∧ r.2.sem = fun _ => 0)

def quiescent_OddOutRefIdeal_pre_finite_odd_out [hOddOutRefIdeal : Cert.OddOutRefIdeal.Facts] [hPre_finite_odd_out : Cert.Pre_finite_odd_out.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal_finite_odd_out m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutIdeal_pre_finite_even_out [hEvenOutIdeal : Cert.EvenOutIdeal.Facts] [hPre_finite_even_out : Cert.Pre_finite_even_out.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal_finite_even_out m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_EvenOutRefIdeal_pre_finite_even_out [hEvenOutRefIdeal : Cert.EvenOutRefIdeal.Facts] [hPre_finite_even_out : Cert.Pre_finite_even_out.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal_finite_even_out m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ r.2.sem = fun _ => 0)

def quiescent_EvenProjIdeal_pre_finite_even_proj [hEvenProjIdeal : Cert.EvenProjIdeal.Facts] [hPre_finite_even_proj : Cert.Pre_finite_even_proj.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal_finite_even_proj m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4))
      ∧ r.2.sem = fun _ => 0)

def quiescent_EvenProjRefIdeal_pre_finite_even_proj [hEvenProjRefIdeal : Cert.EvenProjRefIdeal.Facts] [hPre_finite_even_proj : Cert.Pre_finite_even_proj.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal_finite_even_proj m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)
      ∧ m' ((c.tc : Thread Cert.OddInRefIdeal.nD Cert.OddInRefIdeal.τ).loc Cert.OddInRefIdeal.main_arg5) = m ((c.tc : Thread Cert.OddInIdeal.nD Cert.OddInIdeal.τ).loc Cert.OddInIdeal.main_arg5)
      ∧ m' ((c.tc : Thread Cert.OddInRefIdeal.nD Cert.OddInRefIdeal.τ).loc Cert.OddInRefIdeal.main_arg6) = m ((c.tc : Thread Cert.OddInIdeal.nD Cert.OddInIdeal.τ).loc Cert.OddInIdeal.main_arg6)) →
    ∃ (v0 : (c : Dev Cert.OddInIdeal.nD) → Buf (Elt Ideal) ((c.tc : Thread Cert.OddInIdeal.nD Cert.OddInIdeal.τ).loc Cert.OddInIdeal.main_v7_0)) (v1 : (c : Dev Cert.OddInIdeal.nD) → Buf (Elt Ideal) ((c.tc : Thread Cert.OddInIdeal.nD Cert.OddInIdeal.τ).loc Cert.OddInIdeal.main_v7_1)) (v2 : (c : Dev Cert.OddInIdeal.nD) → Buf (Elt Ideal) ((c.tc : Thread Cert.OddInIdeal.nD Cert.OddInIdeal.τ).loc Cert.OddInIdeal.main_v7_2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v7_0) = v0 c
          ∧ r.2.mem ((c.tc : Thread Cert.OddInIdeal.nD Cert.OddInIdeal.τ).loc Cert.OddInIdeal.main_v7_1) = v1 c
          ∧ r.2.mem ((c.tc : Thread Cert.OddInIdeal.nD Cert.OddInIdeal.τ).loc Cert.OddInIdeal.main_v7_2) = v2 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5)
          ∧ r.2.mem ((c.tc : Thread Cert.OddInIdeal.nD Cert.OddInIdeal.τ).loc Cert.OddInIdeal.main_arg6) = m ((c.tc : Thread Cert.OddInIdeal.nD Cert.OddInIdeal.τ).loc Cert.OddInIdeal.main_arg6))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v41) = v0 c
          ∧ r.2.mem ((c.tc : Thread Cert.OddInRefIdeal.nD Cert.OddInRefIdeal.τ).loc Cert.OddInRefIdeal.main_v42) = v1 c
          ∧ r.2.mem ((c.tc : Thread Cert.OddInRefIdeal.nD Cert.OddInRefIdeal.τ).loc Cert.OddInRefIdeal.main_v44) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4)
          ∧ r.2.mem ((c.tc : Thread Cert.OddInRefIdeal.nD Cert.OddInRefIdeal.τ).loc Cert.OddInRefIdeal.main_arg5) = m' ((c.tc : Thread Cert.OddInRefIdeal.nD Cert.OddInRefIdeal.τ).loc Cert.OddInRefIdeal.main_arg5)
          ∧ r.2.mem ((c.tc : Thread Cert.OddInRefIdeal.nD Cert.OddInRefIdeal.τ).loc Cert.OddInRefIdeal.main_arg6) = m' ((c.tc : Thread Cert.OddInRefIdeal.nD Cert.OddInRefIdeal.τ).loc Cert.OddInRefIdeal.main_arg6))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)
      ∧ m' ((c.tc : Thread Cert.EvenInRefIdeal.nD Cert.EvenInRefIdeal.τ).loc Cert.EvenInRefIdeal.main_arg6) = m ((c.tc : Thread Cert.EvenInIdeal.nD Cert.EvenInIdeal.τ).loc Cert.EvenInIdeal.main_arg6)) →
    ∃ (v0 : (c : Dev Cert.EvenInIdeal.nD) → Buf (Elt Ideal) ((c.tc : Thread Cert.EvenInIdeal.nD Cert.EvenInIdeal.τ).loc Cert.EvenInIdeal.main_v7_0)) (v1 : (c : Dev Cert.EvenInIdeal.nD) → Buf (Elt Ideal) ((c.tc : Thread Cert.EvenInIdeal.nD Cert.EvenInIdeal.τ).loc Cert.EvenInIdeal.main_v7_1)) (v2 : (c : Dev Cert.EvenInIdeal.nD) → Buf (Elt Ideal) ((c.tc : Thread Cert.EvenInIdeal.nD Cert.EvenInIdeal.τ).loc Cert.EvenInIdeal.main_v7_2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v7_0) = v0 c
          ∧ r.2.mem ((c.tc : Thread Cert.EvenInIdeal.nD Cert.EvenInIdeal.τ).loc Cert.EvenInIdeal.main_v7_1) = v1 c
          ∧ r.2.mem ((c.tc : Thread Cert.EvenInIdeal.nD Cert.EvenInIdeal.τ).loc Cert.EvenInIdeal.main_v7_2) = v2 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v41) = v0 c
          ∧ r.2.mem ((c.tc : Thread Cert.EvenInRefIdeal.nD Cert.EvenInRefIdeal.τ).loc Cert.EvenInRefIdeal.main_v42) = v1 c
          ∧ r.2.mem ((c.tc : Thread Cert.EvenInRefIdeal.nD Cert.EvenInRefIdeal.τ).loc Cert.EvenInRefIdeal.main_v44) = v2 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5)
          ∧ r.2.mem ((c.tc : Thread Cert.EvenInRefIdeal.nD Cert.EvenInRefIdeal.τ).loc Cert.EvenInRefIdeal.main_arg6) = m' ((c.tc : Thread Cert.EvenInRefIdeal.nD Cert.EvenInRefIdeal.τ).loc Cert.EvenInRefIdeal.main_arg6))

def preserves_OddOut_OddOutIdeal : Prop :=
  True

def algebraic_OddOutIdeal_OddOutRefIdeal_pre_finite_odd_out [hOddOutIdeal : Cert.OddOutIdeal.Facts] [hOddOutRefIdeal : Cert.OddOutRefIdeal.Facts] [hPre_finite_odd_out : Cert.Pre_finite_odd_out.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal_finite_odd_out m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)) →
    ∃ (v0 : (c : Dev Cert.OddOutIdeal.nD) → Buf (Elt Ideal) ((c.tc : Thread Cert.OddOutIdeal.nD Cert.OddOutIdeal.τ).loc Cert.OddOutIdeal.main_v31_0)) (v1 : (c : Dev Cert.OddOutIdeal.nD) → Buf (Elt Ideal) ((c.tc : Thread Cert.OddOutIdeal.nD Cert.OddOutIdeal.τ).loc Cert.OddOutIdeal.main_v31_1)) (v2 : (c : Dev Cert.OddOutIdeal.nD) → Buf (Elt Ideal) ((c.tc : Thread Cert.OddOutIdeal.nD Cert.OddOutIdeal.τ).loc Cert.OddOutIdeal.main_v31_2)) (v3 : (c : Dev Cert.OddOutIdeal.nD) → Buf (Elt Ideal) ((c.tc : Thread Cert.OddOutIdeal.nD Cert.OddOutIdeal.τ).loc Cert.OddOutIdeal.main_v31_3)) (v4 : (c : Dev Cert.OddOutIdeal.nD) → Buf (Elt Ideal) ((c.tc : Thread Cert.OddOutIdeal.nD Cert.OddOutIdeal.τ).loc Cert.OddOutIdeal.main_v31_4)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v31_0) = v0 c
          ∧ r.2.mem ((c.tc : Thread Cert.OddOutIdeal.nD Cert.OddOutIdeal.τ).loc Cert.OddOutIdeal.main_v31_1) = v1 c
          ∧ r.2.mem ((c.tc : Thread Cert.OddOutIdeal.nD Cert.OddOutIdeal.τ).loc Cert.OddOutIdeal.main_v31_2) = v2 c
          ∧ r.2.mem ((c.tc : Thread Cert.OddOutIdeal.nD Cert.OddOutIdeal.τ).loc Cert.OddOutIdeal.main_v31_3) = v3 c
          ∧ r.2.mem ((c.tc : Thread Cert.OddOutIdeal.nD Cert.OddOutIdeal.τ).loc Cert.OddOutIdeal.main_v31_4) = v4 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v67) = v0 c
          ∧ r.2.mem ((c.tc : Thread Cert.OddOutRefIdeal.nD Cert.OddOutRefIdeal.τ).loc Cert.OddOutRefIdeal.main_v68) = v1 c
          ∧ r.2.mem ((c.tc : Thread Cert.OddOutRefIdeal.nD Cert.OddOutRefIdeal.τ).loc Cert.OddOutRefIdeal.main_v31) = v2 c
          ∧ r.2.mem ((c.tc : Thread Cert.OddOutRefIdeal.nD Cert.OddOutRefIdeal.τ).loc Cert.OddOutRefIdeal.main_v69) = v3 c
          ∧ r.2.mem ((c.tc : Thread Cert.OddOutRefIdeal.nD Cert.OddOutRefIdeal.τ).loc Cert.OddOutRefIdeal.main_v70) = v4 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5))

def preserves_EvenOut_EvenOutIdeal : Prop :=
  True

def algebraic_EvenOutIdeal_EvenOutRefIdeal_pre_finite_even_out [hEvenOutIdeal : Cert.EvenOutIdeal.Facts] [hEvenOutRefIdeal : Cert.EvenOutRefIdeal.Facts] [hPre_finite_even_out : Cert.Pre_finite_even_out.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal_finite_even_out m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v81_0)) (v1 : (c : Dev Cert.EvenOutIdeal.nD) → Buf (Elt Ideal) ((c.tc : Thread Cert.EvenOutIdeal.nD Cert.EvenOutIdeal.τ).loc Cert.EvenOutIdeal.main_v81_1)) (v2 : (c : Dev Cert.EvenOutIdeal.nD) → Buf (Elt Ideal) ((c.tc : Thread Cert.EvenOutIdeal.nD Cert.EvenOutIdeal.τ).loc Cert.EvenOutIdeal.main_v81_2)) (v3 : (c : Dev Cert.EvenOutIdeal.nD) → Buf (Elt Ideal) ((c.tc : Thread Cert.EvenOutIdeal.nD Cert.EvenOutIdeal.τ).loc Cert.EvenOutIdeal.main_v81_3)) (v4 : (c : Dev Cert.EvenOutIdeal.nD) → Buf (Elt Ideal) ((c.tc : Thread Cert.EvenOutIdeal.nD Cert.EvenOutIdeal.τ).loc Cert.EvenOutIdeal.main_v81_4)) (v5 : (c : Dev Cert.EvenOutIdeal.nD) → Buf (Elt Ideal) ((c.tc : Thread Cert.EvenOutIdeal.nD Cert.EvenOutIdeal.τ).loc Cert.EvenOutIdeal.main_v81_5)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v81_0) = v0 c
          ∧ r.2.mem ((c.tc : Thread Cert.EvenOutIdeal.nD Cert.EvenOutIdeal.τ).loc Cert.EvenOutIdeal.main_v81_1) = v1 c
          ∧ r.2.mem ((c.tc : Thread Cert.EvenOutIdeal.nD Cert.EvenOutIdeal.τ).loc Cert.EvenOutIdeal.main_v81_2) = v2 c
          ∧ r.2.mem ((c.tc : Thread Cert.EvenOutIdeal.nD Cert.EvenOutIdeal.τ).loc Cert.EvenOutIdeal.main_v81_3) = v3 c
          ∧ r.2.mem ((c.tc : Thread Cert.EvenOutIdeal.nD Cert.EvenOutIdeal.τ).loc Cert.EvenOutIdeal.main_v81_4) = v4 c
          ∧ r.2.mem ((c.tc : Thread Cert.EvenOutIdeal.nD Cert.EvenOutIdeal.τ).loc Cert.EvenOutIdeal.main_v81_5) = v5 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v165) = v0 c
          ∧ r.2.mem ((c.tc : Thread Cert.EvenOutRefIdeal.nD Cert.EvenOutRefIdeal.τ).loc Cert.EvenOutRefIdeal.main_v166) = v1 c
          ∧ r.2.mem ((c.tc : Thread Cert.EvenOutRefIdeal.nD Cert.EvenOutRefIdeal.τ).loc Cert.EvenOutRefIdeal.main_v80) = v2 c
          ∧ r.2.mem ((c.tc : Thread Cert.EvenOutRefIdeal.nD Cert.EvenOutRefIdeal.τ).loc Cert.EvenOutRefIdeal.main_v167) = v3 c
          ∧ r.2.mem ((c.tc : Thread Cert.EvenOutRefIdeal.nD Cert.EvenOutRefIdeal.τ).loc Cert.EvenOutRefIdeal.main_v98) = v4 c
          ∧ r.2.mem ((c.tc : Thread Cert.EvenOutRefIdeal.nD Cert.EvenOutRefIdeal.τ).loc Cert.EvenOutRefIdeal.main_v168) = v5 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v5)) (v3 : (c : Dev Cert.ConvIdeal.nD) → Buf (Elt Ideal) ((c.tc : Thread Cert.ConvIdeal.nD Cert.ConvIdeal.τ).loc Cert.ConvIdeal.main_v2_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v5) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v50) = v0 c
          ∧ r.2.mem ((c.tc : Thread Cert.ConvRefIdeal.nD Cert.ConvRefIdeal.τ).loc Cert.ConvRefIdeal.main_v51) = v1 c
          ∧ r.2.mem ((c.tc : Thread Cert.ConvRefIdeal.nD Cert.ConvRefIdeal.τ).loc Cert.ConvRefIdeal.main_v44) = v2 c
          ∧ r.2.mem ((c.tc : Thread Cert.ConvRefIdeal.nD Cert.ConvRefIdeal.τ).loc Cert.ConvRefIdeal.main_v52) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v5_0)) (v1 : (c : Dev Cert.ConvFwdIdeal.nD) → Buf (Elt Ideal) ((c.tc : Thread Cert.ConvFwdIdeal.nD Cert.ConvFwdIdeal.τ).loc Cert.ConvFwdIdeal.main_v5_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v5_0) = v0 c
          ∧ r.2.mem ((c.tc : Thread Cert.ConvFwdIdeal.nD Cert.ConvFwdIdeal.τ).loc Cert.ConvFwdIdeal.main_v5_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v57) = v0 c
          ∧ r.2.mem ((c.tc : Thread Cert.ConvFwdRefIdeal.nD Cert.ConvFwdRefIdeal.τ).loc Cert.ConvFwdRefIdeal.main_v30) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v4)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v4) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v14) = v0 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2))

def preserves_EvenProj_EvenProjIdeal : Prop :=
  True

def algebraic_EvenProjIdeal_EvenProjRefIdeal_pre_finite_even_proj [hEvenProjIdeal : Cert.EvenProjIdeal.Facts] [hEvenProjRefIdeal : Cert.EvenProjRefIdeal.Facts] [hPre_finite_even_proj : Cert.Pre_finite_even_proj.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal_finite_even_proj m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)) →
    ∃ (v0 : (c : Dev Cert.EvenProjIdeal.nD) → Buf (Elt Ideal) ((c.tc : Thread Cert.EvenProjIdeal.nD Cert.EvenProjIdeal.τ).loc Cert.EvenProjIdeal.main_v6_0)) (v1 : (c : Dev Cert.EvenProjIdeal.nD) → Buf (Elt Ideal) ((c.tc : Thread Cert.EvenProjIdeal.nD Cert.EvenProjIdeal.τ).loc Cert.EvenProjIdeal.main_v6_1)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v6_0) = v0 c
          ∧ r.2.mem ((c.tc : Thread Cert.EvenProjIdeal.nD Cert.EvenProjIdeal.τ).loc Cert.EvenProjIdeal.main_v6_1) = v1 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v14) = v0 c
          ∧ r.2.mem ((c.tc : Thread Cert.EvenProjRefIdeal.nD Cert.EvenProjRefIdeal.τ).loc Cert.EvenProjRefIdeal.main_v85) = v1 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def preserves_Adam_AdamIdeal : Prop :=
  IdealRules.named_const.Statement Cert.AdamIdeal.κ "inv_bias1" .f32 0x3FC48605#32 ((8388608 / 5463681 : ℝ) : EReal)
  ∧ IdealRules.named_const.Statement Cert.AdamIdeal.κ "inv_bias2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hOddOut : Cert.OddOut.Facts) (hOddOutIdeal : Cert.OddOutIdeal.Facts) (hOddOutRefIdeal : Cert.OddOutRefIdeal.Facts) (hEvenOut : Cert.EvenOut.Facts) (hEvenOutIdeal : Cert.EvenOutIdeal.Facts) (hEvenOutRefIdeal : Cert.EvenOutRefIdeal.Facts) (hConv : Cert.Conv.Facts) (hConvIdeal : Cert.ConvIdeal.Facts) (hConvRefIdeal : Cert.ConvRefIdeal.Facts) (hConvFwd : Cert.ConvFwd.Facts) (hConvFwdIdeal : Cert.ConvFwdIdeal.Facts) (hConvFwdRefIdeal : Cert.ConvFwdRefIdeal.Facts) (hOddProj : Cert.OddProj.Facts) (hOddProjIdeal : Cert.OddProjIdeal.Facts) (hOddProjRefIdeal : Cert.OddProjRefIdeal.Facts) (hEvenProj : Cert.EvenProj.Facts) (hEvenProjIdeal : Cert.EvenProjIdeal.Facts) (hEvenProjRefIdeal : Cert.EvenProjRefIdeal.Facts) (hChipSum : Cert.ChipSum.Facts) (hChipSumIdeal : Cert.ChipSumIdeal.Facts) (hChipSumRefIdeal : Cert.ChipSumRefIdeal.Facts) (hAdam : Cert.Adam.Facts) (hAdamIdeal : Cert.AdamIdeal.Facts) (hAdamRefIdeal : Cert.AdamRefIdeal.Facts) (hPre_finite_odd_out : Cert.Pre_finite_odd_out.Facts) (hPre_finite_even_out : Cert.Pre_finite_even_out.Facts) (hPre_finite_even_proj : Cert.Pre_finite_even_proj.Facts),
    quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddOut (hOddOut := hOddOut)
    ∧ quiescent_OddOutIdeal (hOddOutIdeal := hOddOutIdeal)
    ∧ quiescent_OddOutIdeal_pre_finite_odd_out (hOddOutIdeal := hOddOutIdeal) (hPre_finite_odd_out := hPre_finite_odd_out)
    ∧ quiescent_OddOutRefIdeal (hOddOutRefIdeal := hOddOutRefIdeal)
    ∧ quiescent_OddOutRefIdeal_pre_finite_odd_out (hOddOutRefIdeal := hOddOutRefIdeal) (hPre_finite_odd_out := hPre_finite_odd_out)
    ∧ quiescent_EvenOut (hEvenOut := hEvenOut)
    ∧ quiescent_EvenOutIdeal (hEvenOutIdeal := hEvenOutIdeal)
    ∧ quiescent_EvenOutIdeal_pre_finite_even_out (hEvenOutIdeal := hEvenOutIdeal) (hPre_finite_even_out := hPre_finite_even_out)
    ∧ quiescent_EvenOutRefIdeal (hEvenOutRefIdeal := hEvenOutRefIdeal)
    ∧ quiescent_EvenOutRefIdeal_pre_finite_even_out (hEvenOutRefIdeal := hEvenOutRefIdeal) (hPre_finite_even_out := hPre_finite_even_out)
    ∧ quiescent_Conv (hConv := hConv)
    ∧ quiescent_ConvIdeal (hConvIdeal := hConvIdeal)
    ∧ quiescent_ConvRefIdeal (hConvRefIdeal := hConvRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_EvenProj (hEvenProj := hEvenProj)
    ∧ quiescent_EvenProjIdeal (hEvenProjIdeal := hEvenProjIdeal)
    ∧ quiescent_EvenProjIdeal_pre_finite_even_proj (hEvenProjIdeal := hEvenProjIdeal) (hPre_finite_even_proj := hPre_finite_even_proj)
    ∧ quiescent_EvenProjRefIdeal (hEvenProjRefIdeal := hEvenProjRefIdeal)
    ∧ quiescent_EvenProjRefIdeal_pre_finite_even_proj (hEvenProjRefIdeal := hEvenProjRefIdeal) (hPre_finite_even_proj := hPre_finite_even_proj)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_Adam (hAdam := hAdam)
    ∧ quiescent_AdamIdeal (hAdamIdeal := hAdamIdeal)
    ∧ quiescent_AdamRefIdeal (hAdamRefIdeal := hAdamRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal (hEvenInIdeal := hEvenInIdeal) (hEvenInRefIdeal := hEvenInRefIdeal)
    ∧ preserves_OddOut_OddOutIdeal
    ∧ algebraic_OddOutIdeal_OddOutRefIdeal_pre_finite_odd_out (hOddOutIdeal := hOddOutIdeal) (hOddOutRefIdeal := hOddOutRefIdeal) (hPre_finite_odd_out := hPre_finite_odd_out)
    ∧ preserves_EvenOut_EvenOutIdeal
    ∧ algebraic_EvenOutIdeal_EvenOutRefIdeal_pre_finite_even_out (hEvenOutIdeal := hEvenOutIdeal) (hEvenOutRefIdeal := hEvenOutRefIdeal) (hPre_finite_even_out := hPre_finite_even_out)
    ∧ preserves_Conv_ConvIdeal
    ∧ algebraic_ConvIdeal_ConvRefIdeal (hConvIdeal := hConvIdeal) (hConvRefIdeal := hConvRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_OddProj_OddProjIdeal
    ∧ algebraic_OddProjIdeal_OddProjRefIdeal (hOddProjIdeal := hOddProjIdeal) (hOddProjRefIdeal := hOddProjRefIdeal)
    ∧ preserves_EvenProj_EvenProjIdeal
    ∧ algebraic_EvenProjIdeal_EvenProjRefIdeal_pre_finite_even_proj (hEvenProjIdeal := hEvenProjIdeal) (hEvenProjRefIdeal := hEvenProjRefIdeal) (hPre_finite_even_proj := hPre_finite_even_proj)
    ∧ preserves_ChipSum_ChipSumIdeal
    ∧ algebraic_ChipSumIdeal_ChipSumRefIdeal (hChipSumIdeal := hChipSumIdeal) (hChipSumRefIdeal := hChipSumRefIdeal)
    ∧ preserves_Adam_AdamIdeal
    ∧ algebraic_AdamIdeal_AdamRefIdeal (hAdamIdeal := hAdamIdeal) (hAdamRefIdeal := hAdamRefIdeal)
-- ==== Pre_finite_even_out.lean ====
abbrev S8192x1024 : Shape := ⟨2, ![8192, 1024]⟩
abbrev S8192x2048 : Shape := ⟨2, ![8192, 2048]⟩
abbrev S8192x512 : Shape := ⟨2, ![8192, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S8192x512 : S_.BroadcastsInDim S8192x512 (![] : Fin 0 → Fin S8192x512.rank)
  bcast_S_S4x128x128 : S_.BroadcastsInDim S4x128x128 (![] : Fin 0 → Fin S4x128x128.rank)
  bcast_S_S512 : S_.BroadcastsInDim S512 (![] : Fin 0 → Fin S512.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x2048 .f32) (main_arg2 : FVec F S8192x512 .f32) (main_arg3 : FVec F S4x128x128 .f32) (main_arg4 : FVec F S512 .f32) (main_arg5 : FVec F S1024x1024 .f32) : IVec S8192x1024 1 × IVec S8192x2048 1 × IVec S8192x512 1 × IVec S4x128x128 1 × IVec S512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite_even_proj.lean ====
abbrev S8192x1024 : Shape := ⟨2, ![8192, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S8192x1024 .f32) (main_arg1 : FVec F S1024 .f32) (main_arg2 : FVec F S1024x2048 .f32) (main_arg3 : FVec F S4x128x128 .f32) (main_arg4 : FVec F S512 .f32) : IVec S8192x1024 1 × IVec S1024 1 × IVec S1024x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  (main_v2, main_v5, main_v8)
-- ==== Pre_finite_odd_out.lean ====
abbrev S8192x1024 : Shape := ⟨2, ![8192, 1024]⟩
abbrev S8192x3072 : Shape := ⟨2, ![8192, 3072]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x3072 : S_.BroadcastsInDim S8192x3072 (![] : Fin 0 → Fin S8192x3072.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S8192x3072 .f32) (main_arg3 : FVec F S1024 .f32) (main_arg4 : FVec F S1024 .f32) (main_arg5 : FVec F S1024x1024 .f32) : IVec S8192x1024 1 × IVec S8192x1024 1 × IVec S8192x3072 1 × IVec S1024 1 × IVec S1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x3072 .f32 := Host.absf main_arg2
  let main_cst_1 : FVec F S_ .f32 := constant S_ .f32 0x7F800000#32
  let main_v7 : FVec F S8192x3072 .f32 := broadcastInDim S8192x3072 ![] bcast_S_S8192x3072 main_cst_1
  let main_v8 : IVec S8192x3072 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== OddIn.lean ====
abbrev S8192x1024 : Shape := ⟨2, ![8192, 1024]⟩
abbrev S1024x3072 : Shape := ⟨2, ![1024, 3072]⟩
abbrev S1024 : Shape := ⟨1, ![1024]⟩
abbrev S1024x4x768 : Shape := ⟨3, ![1024, 4, 768]⟩
abbrev S4x1024x768 : Shape := ⟨3, ![4, 1024, 768]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S1x1024x768 : Shape := ⟨3, ![1, 1024, 768]⟩
abbrev S1024x768 : Shape := ⟨2, ![1024, 768]⟩
abbrev S512x256 : Shape := ⟨2, ![512, 256]⟩
abbrev S1x1024x256 : Shape := ⟨3, ![1, 1024, 256]⟩
abbrev S1024x256 : Shape := ⟨2, ![1024, 256]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x3072, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1024x3072, .bf16⟩
  | .hbm, ⟨8, _⟩ => ⟨S1024x4x768, .bf16⟩
  | .hbm, ⟨9, _⟩ => ⟨S4x1024x768, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x1024x768, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OddInRefIdeal.lean ====
abbrev S8192x1024 : Shape := ⟨2, ![8192, 1024]⟩
abbrev S1024x3072 : Shape := ⟨2, ![1024, 3072]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x3072, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x3072, .f32⟩
  | .hbm, ⟨29, _⟩ => ⟨S3072x1024, .f32⟩
  | .hbm, ⟨30, _⟩ => ⟨S1024x3072, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S1024x4x768, .f32⟩
  | .hbm, ⟨60, _⟩ => ⟨S4x1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== EvenIn.lean ====
abbrev S8192x512 : Shape := ⟨2, ![8192, 512]⟩
abbrev S8192x1024 : Shape := ⟨2, ![8192, 1024]⟩
abbrev S1024x2048 : Shape := ⟨2, ![1024, 2048]⟩
abbrev S1024 : Shape := ⟨1, ![1024]⟩
abbrev S1024x4x512 : Shape := ⟨3, ![1024, 4, 512]⟩
abbrev S4x1024x512 : Shape := ⟨3, ![4, 1024, 512]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 17
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x2048, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | .hbm, ⟨10, _⟩ => ⟨S8192x512, .bf16⟩
  | .hbm, ⟨11, _⟩ => ⟨S8192x512, .bf16⟩
  | .hbm, ⟨12, _⟩ => ⟨S8192x1024, .bf16⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S4x1024x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S4x1024x512, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== EvenInRefIdeal.lean ====
abbrev S8192x512 : Shape := ⟨2, ![8192, 512]⟩
abbrev S8192x1024 : Shape := ⟨2, ![8192, 1024]⟩
abbrev S1024x2048 : Shape := ⟨2, ![1024, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x2048, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x2048, .f32⟩
  | .hbm, ⟨29, _⟩ => ⟨S2048x1024, .f32⟩
  | .hbm, ⟨30, _⟩ => ⟨S1024x2048, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S1024x4x512, .f32⟩
  | .hbm, ⟨60, _⟩ => ⟨S4x1024x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== OddOut.lean ====
abbrev S8192x1024 : Shape := ⟨2, ![8192, 1024]⟩
abbrev S8192x3072 : Shape := ⟨2, ![8192, 3072]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 63
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024x1024, .bf16⟩
  | .hbm, ⟨54, _⟩ => ⟨S8192x1024, .bf16⟩
  | .hbm, ⟨55, _⟩ => ⟨S8192x3072, .bf16⟩
  | .hbm, ⟨56, _⟩ => ⟨S1x1024, .f32⟩
  | .hbm, ⟨57, _⟩ => ⟨S1x1024, .f32⟩
  | .hbm, ⟨58, _⟩ => ⟨S8192x1024, .f32⟩
  | .hbm, ⟨59, _⟩ => ⟨S8192x1024, .bf16⟩
  | .hbm, ⟨60, _⟩ => ⟨S1024x1024, .f32⟩
  | .hbm, ⟨61, _⟩ => ⟨S1x1024, .f32⟩
  | .hbm, ⟨62, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev main_v31_3 : Ref sig .tc := ⟨.hbm, 61, rfl⟩
abbrev main_v31_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OddOutRefIdeal.lean ====
abbrev S8192x1024 : Shape := ⟨2, ![8192, 1024]⟩
abbrev S8192x3072 : Shape := ⟨2, ![8192, 3072]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1024x1024, .f32⟩
  | .hbm, ⟨67, _⟩ => ⟨S1024x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S_, .f32⟩
  | .hbm, ⟨111, _⟩ => ⟨S8192, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .bf16⟩
  | .hbm, ⟨121, _⟩ => ⟨S1x1024, .f32⟩
  | .hbm, ⟨122, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v26_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v26_1 : Ref sig .tc := ⟨.hbm, 49, rfl⟩
abbrev main_v26_0 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_v27_2 : Ref sig .tc := ⟨.hbm, 58, rfl⟩
abbrev main_call1_cst_1 : Ref sig .tc := ⟨.hbm, 59, rfl⟩
abbrev main_call1_v6 : Ref sig .tc := ⟨.hbm, 60, rfl⟩
abbrev main_call1_v7 : Ref sig .tc := ⟨.hbm, 61, rfl⟩
abbrev main_v27_1 : Ref sig .tc := ⟨.hbm, 62, rfl⟩
abbrev main_v27_0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v35 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v36 : Ref sig .tc := ⟨.hbm, 78, rfl⟩
abbrev main_cst_5 : Ref sig .tc := ⟨.hbm, 79, rfl⟩
abbrev main_v37 : Ref sig .tc := ⟨.hbm, 80, rfl⟩
abbrev main_v38 : Ref sig .tc := ⟨.hbm, 81, rfl⟩
abbrev main_cst_6 : Ref sig .tc := ⟨.hbm, 82, rfl⟩
abbrev main_v39 : Ref sig .tc := ⟨.hbm, 83, rfl⟩
abbrev main_v40 : Ref sig .tc := ⟨.hbm, 84, rfl⟩
abbrev main_cst_7 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_8 : Ref sig .tc := ⟨.hbm, 90, rfl⟩
abbrev main_v45 : Ref sig .tc := ⟨.hbm, 91, rfl⟩
abbrev main_v46 : Ref sig .tc := ⟨.hbm, 92, rfl⟩
abbrev main_cst_9 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_10 : Ref sig .tc := ⟨.hbm, 99, rfl⟩
abbrev main_v52 : Ref sig .tc := ⟨.hbm, 100, rfl⟩
abbrev main_v53 : Ref sig .tc := ⟨.hbm, 101, rfl⟩
abbrev main_cst_11 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_12 : Ref sig .tc := ⟨.hbm, 110, rfl⟩
abbrev main_v61 : Ref sig .tc := ⟨.hbm, 111, rfl⟩
abbrev main_v62 : Ref sig .tc := ⟨.hbm, 112, rfl⟩
abbrev main_cst_13 : Ref sig .tc := ⟨.hbm, 113, rfl⟩
abbrev main_v63 : Ref sig .tc := ⟨.hbm, 114, rfl⟩
abbrev main_v64 : Ref sig .tc := ⟨.hbm, 115, rfl⟩
abbrev main_cst_14 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩

abbrev nD : Nat := 1
abbrev τ : Topo := Topo.v7x

variable {F : FTy → Type} [FloatOps F]
-- ==== EvenOut.lean ====
abbrev S8192x1024 : Shape := ⟨2, ![8192, 1024]⟩
abbrev S8192x2048 : Shape := ⟨2, ![8192, 2048]⟩
abbrev S8192x512 : Shape := ⟨2, ![8192, 512]⟩
abbrev S4x128x128 : Shape := ⟨3, ![4, 128, 128]⟩
abbrev S512 : Shape := ⟨1, ![512]⟩
abbrev S1024x1024 : Shape := ⟨2, ![1024, 1024]⟩
abbrev S8192x4x128 : Shape := ⟨3, ![8192, 4, 128]⟩
abbrev S_ : Shape := ⟨0, ![]⟩
abbrev S8192 : Shape := ⟨1, ![8192]⟩
abbrev S8192x1 : Shape := ⟨2, ![8192, 1]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩
abbrev S512x1024 : Shape := ⟨2, ![512, 1024]⟩
abbrev S512x512 : Shape := ⟨2, ![512, 512]⟩
abbrev S16x512 : Shape := ⟨2, ![16, 512]⟩
abbrev S512x1 : Shape := ⟨2, ![512, 1]⟩
abbrev S528x1 : Shape := ⟨2, ![528, 1]⟩
abbrev S512x128 : Shape := ⟨2, ![512, 128]⟩
abbrev S528x128 : Shape := ⟨2, ![528, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 112
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S8192x512, .f32⟩
  | .hbm, ⟨7, _⟩ => ⟨S8192x4x128, .f32⟩
  | .hbm, ⟨8, _⟩ => ⟨S_, .f32⟩
  | .hbm, ⟨9, _⟩ => ⟨S_, .f32⟩
  | .hbm, ⟨10, _⟩ => ⟨S8192x4x128, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x1x128, .f32⟩
  | .hbm, ⟨17, _⟩ => ⟨S8192x128, .f32⟩
  | .hbm, ⟨18, _⟩ => ⟨S_, .f32⟩
  | .hbm, ⟨19, _⟩ => ⟨S2x128, .f32⟩
  | .hbm, ⟨20, _⟩ => ⟨S8190x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192x1x128, .f32⟩
  | .hbm, ⟨29, _⟩ => ⟨S8192x128, .f32⟩
  | .hbm, ⟨30, _⟩ => ⟨S8192x128, .f32⟩
  | .hbm, ⟨31, _⟩ => ⟨S8192x1x128, .f32⟩
  | .hbm, ⟨32, _⟩ => ⟨S8192x128, .f32⟩
  | .hbm, ⟨33, _⟩ => ⟨S_, .f32⟩
  | .hbm, ⟨34, _⟩ => ⟨S4x128, .f32⟩
  | .hbm, ⟨35, _⟩ => ⟨S8188x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x128, .f32⟩
  | .hbm, ⟨42, _⟩ => ⟨S8192x128, .f32⟩
  | .hbm, ⟨43, _⟩ => ⟨S8192x1x128, .f32⟩
  | .hbm, ⟨44, _⟩ => ⟨S8192x128, .f32⟩
  | .hbm, ⟨45, _⟩ => ⟨S8192x128, .f32⟩
  | .hbm, ⟨46, _⟩ => ⟨S8192x1x128, .f32⟩
  | .hbm, ⟨47, _⟩ => ⟨S8192x128, .f32⟩
  | .hbm, ⟨48, _⟩ => ⟨S_, .f32⟩
  | .hbm, ⟨49, _⟩ => ⟨S8x128, .f32⟩
  | .hbm, ⟨50, _⟩ => ⟨S8184x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x128, .f32⟩
  | .hbm, ⟨57, _⟩ => ⟨S8192x128, .f32⟩
  | .hbm, ⟨58, _⟩ => ⟨S8192x1x128, .f32⟩
  | .hbm, ⟨59, _⟩ => ⟨S8192x128, .f32⟩
  | .hbm, ⟨60, _⟩ => ⟨S8192x128, .f32⟩
  | .hbm, ⟨61, _⟩ => ⟨S8192x1x128, .f32⟩
  | .hbm, ⟨62, _⟩ => ⟨S8192x128, .f32⟩
  | .hbm, ⟨63, _⟩ => ⟨S_, .f32⟩
  | .hbm, ⟨64, _⟩ => ⟨S16x128, .f32⟩
  | .hbm, ⟨65, _⟩ => ⟨S8176x128, .f32⟩
  | .hbm, ⟨66, _⟩ => ⟨S8192x128, .f32⟩
  | .hbm, ⟨67, _⟩ => ⟨S8192x128, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x128, .f32⟩
  | .hbm, ⟨72, _⟩ => ⟨S8192x128, .f32⟩
  | .hbm, ⟨73, _⟩ => ⟨S8192x1x128, .f32⟩
  | .hbm, ⟨74, _⟩ => ⟨S8192x128, .f32⟩
  | .hbm, ⟨75, _⟩ => ⟨S8192x128, .f32⟩
  | .hbm, ⟨76, _⟩ => ⟨S8192x1x128, .f32⟩
  | .hbm, ⟨77, _⟩ => ⟨S8192x1x128, .f32⟩
  | .hbm, ⟨78, _⟩ => ⟨S8192x1x128, .f32⟩
  | .hbm, ⟨79, _⟩ => ⟨S8192x1x128, .f32⟩
  | .hbm, ⟨80, _⟩ => ⟨S8192x4x128, .f32⟩
  | .hbm, ⟨81, _⟩ => ⟨S4x128x8192, .f32⟩
  | .hbm, ⟨82, _⟩ => ⟨S8192x4x128, .f32⟩
  | .hbm, ⟨83, _⟩ => ⟨S8192x512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S1024x1024, .bf16⟩
  | .hbm, ⟨100, _⟩ => ⟨S8192x1024, .bf16⟩
  | .hbm, ⟨101, _⟩ => ⟨S8192x512, .bf16⟩
  | .hbm, ⟨102, _⟩ => ⟨S8192x512, .bf16⟩
  | .hbm, ⟨103, _⟩ => ⟨S8192x2048, .bf16⟩
  | .hbm, ⟨104, _⟩ => ⟨S4x128x128, .bf16⟩
  | .hbm, ⟨105, _⟩ => ⟨S1x512, .f32⟩
  | .hbm, ⟨106, _⟩ => ⟨S8192x1024, .bf16⟩
  | .hbm, ⟨107, _⟩ => ⟨S8192x1024, .bf16⟩
  | .hbm, ⟨108, _⟩ => ⟨S1024x1024, .f32⟩
  | .hbm, ⟨109, _⟩ => ⟨S8192x512, .bf16⟩
  | .hbm, ⟨110, _⟩ => ⟨S4x128x128, .f32⟩
  | .hbm, ⟨111, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x512, .bf16⟩
  | .local _ .vmem, ⟨12, _⟩ => ⟨S512x512, .bf16⟩
  | .local _ .vmem, ⟨13, _⟩ => ⟨S16x512, .bf16⟩
  | .local _ .vmem, ⟨14, _⟩ => ⟨S16x512, .bf16⟩
  | .local _ .vmem, ⟨15, _⟩ => ⟨S4x128x128, .bf16⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S512x512, .bf16⟩
  | .local _ .vmem, ⟨23, _⟩ => ⟨S512x512, .bf16⟩
  | .local _ .vmem, ⟨24, _⟩ => ⟨S4x128x128, .f32⟩
  | .local _ .vmem, ⟨25, _⟩ => ⟨S1x512, .f32⟩
  | .local _ .vmem, ⟨26, _⟩ => ⟨S16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81_0 : Ref sig .tc := ⟨.hbm, 106, rfl⟩
abbrev main_v81_1 : Ref sig .tc := ⟨.hbm, 107, rfl⟩
abbrev main_v81_2 : Ref sig .tc := ⟨.hbm, 108, rfl⟩
abbrev main_v81_3 : Ref sig .tc := ⟨.hbm, 109, rfl⟩
abbrev main_v81_4 : Ref sig .tc := ⟨.hbm, 110, rfl⟩
abbrev main_v81_5 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== EvenOutRefIdeal.lean ====
abbrev S8192x1024 : Shape := ⟨2, ![8192, 1024]⟩
abbrev S8192x2048 : Shape := ⟨2, ![8192, 2048]⟩
abbrev S8192x512 : Shape := ⟨2, ![8192, 512]⟩
abbrev S4x128x128 : Shape := ⟨3, ![4, 128, 128]⟩
abbrev S512 : Shape := ⟨1, ![512]⟩
abbrev S1024x1024 : Shape := ⟨2, ![1024, 1024]⟩
abbrev S8192x4x128 : Shape := ⟨3, ![8192, 4, 128]⟩
abbrev S_ : Shape := ⟨0, ![]⟩
abbrev S8192 : Shape := ⟨1, ![8192]⟩
abbrev S8192x1 : Shape := ⟨2, ![8192, 1]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩
abbrev S4x8192x128 : Shape := ⟨3, ![4, 8192, 128]⟩

abbrev nBuf : Space → Nat
  | .hbm => 221
  | .vmem => 0
  | .smem => 0
  | _ => 0

abbrev hbmTy0_0 (i : Nat) : BufTy := match i % 128 with
  | 0 => ⟨S8192x1024, .f32⟩
  | 1 => ⟨S8192x2048, .f32⟩
  | 2 => ⟨S8192x512, .f32⟩
  | 3 => ⟨S4x128x128, .f32⟩
  | 4 => ⟨S512, .f32⟩
  | 5 => ⟨S1024x1024, .f32⟩
  | 6 => ⟨S8192x512, .f32⟩
  | 7 => ⟨S8192x4x128, .f32⟩
  | 8 => ⟨S_, .f32⟩
  | 9 => ⟨S_, .f32⟩
  | 10 => ⟨S8192x4x128, .f32⟩
  | 11 => ⟨S8192, .f32⟩
  | 12 => ⟨S_, .f32⟩
  | 13 => ⟨S8192, .f32⟩
  | 14 => ⟨S8192, .f32⟩
  | 15 => ⟨S8192x1, .f32⟩
  | 16 => ⟨S8192x1x128, .f32⟩
  | 17 => ⟨S8192x128, .f32⟩
  | 18 => ⟨S_, .f32⟩
  | 19 => ⟨S2x128, .f32⟩
  | 20 => ⟨S8190x128, .f32⟩
  | 21 => ⟨S8192x128, .f32⟩
  | 22 => ⟨S_, .f32⟩
  | 23 => ⟨S2x128, .f32⟩
  | 24 => ⟨S8192x128, .f32⟩
  | 25 => ⟨S_, .f32⟩
  | 26 => ⟨S8192x1, .f32⟩
  | 27 => ⟨S8192x1, .f32⟩
  | 28 => ⟨S8192x128, .f32⟩
  | 29 => ⟨S8192x128, .f32⟩
  | 30 => ⟨S8192x1x128, .f32⟩
  | 31 => ⟨S8192x128, .f32⟩
  | 32 => ⟨S8192x128, .f32⟩
  | 33 => ⟨S8192x1x128, .f32⟩
  | 34 => ⟨S8192x128, .f32⟩
  | 35 => ⟨S_, .f32⟩
  | 36 => ⟨S4x128, .f32⟩
  | 37 => ⟨S8188x128, .f32⟩
  | 38 => ⟨S8192x128, .f32⟩
  | 39 => ⟨S_, .f32⟩
  | 40 => ⟨S4x128, .f32⟩
  | 41 => ⟨S8192x128, .f32⟩
  | 42 => ⟨S_, .f32⟩
  | 43 => ⟨S8192x1, .f32⟩
  | 44 => ⟨S8192x1, .f32⟩
  | 45 => ⟨S8192x128, .f32⟩
  | 46 => ⟨S8192x128, .f32⟩
  | 47 => ⟨S8192x1x128, .f32⟩
  | 48 => ⟨S8192x128, .f32⟩
  | 49 => ⟨S8192x128, .f32⟩
  | 50 => ⟨S8192x1x128, .f32⟩
  | 51 => ⟨S8192x128, .f32⟩
  | 52 => ⟨S_, .f32⟩
  | 53 => ⟨S8x128, .f32⟩
  | 54 => ⟨S8184x128, .f32⟩
  | 55 => ⟨S8192x128, .f32⟩
  | 56 => ⟨S_, .f32⟩
  | 57 => ⟨S8x128, .f32⟩
  | 58 => ⟨S8192x128, .f32⟩
  | 59 => ⟨S_, .f32⟩
  | 60 => ⟨S8192x1, .f32⟩
  | 61 => ⟨S8192x1, .f32⟩
  | 62 => ⟨S8192x128, .f32⟩
  | 63 => ⟨S8192x128, .f32⟩
  | 64 => ⟨S8192x1x128, .f32⟩
  | 65 => ⟨S8192x128, .f32⟩
  | 66 => ⟨S8192x128, .f32⟩
  | 67 => ⟨S8192x1x128, .f32⟩
  | 68 => ⟨S8192x128, .f32⟩
  | 69 => ⟨S_, .f32⟩
  | 70 => ⟨S16x128, .f32⟩
  | 71 => ⟨S8176x128, .f32⟩
  | 72 => ⟨S8192x128, .f32⟩
  | 73 => ⟨S_, .f32⟩
  | 74 => ⟨S16x128, .f32⟩
  | 75 => ⟨S8192x128, .f32⟩
  | 76 => ⟨S_, .f32⟩
  | 77 => ⟨S8192x1, .f32⟩
  | 78 => ⟨S8192x1, .f32⟩
  | 79 => ⟨S8192x128, .f32⟩
  | 80 => ⟨S8192x128, .f32⟩
  | 81 => ⟨S8192x1x128, .f32⟩
  | 82 => ⟨S8192x128, .f32⟩
  | 83 => ⟨S8192x128, .f32⟩
  | 84 => ⟨S8192x1x128, .f32⟩
  | 85 => ⟨S8192x1x128, .f32⟩
  | 86 => ⟨S8192x1x128, .f32⟩
  | 87 => ⟨S8192x1x128, .f32⟩
  | 88 => ⟨S8192x4x128, .f32⟩
  | 89 => ⟨S4x128x8192, .f32⟩
  | 90 => ⟨S8192x4x128, .f32⟩
  | 91 => ⟨S8192x512, .f32⟩
  | 92 => ⟨S1x512, .f32⟩
  | 93 => ⟨S8192x512, .f32⟩
  | 94 => ⟨S8192x512, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1024x1024, .f32⟩
  | 113 => ⟨S1024x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x512, .f32⟩
  | 122 => ⟨S8192x512, .f32⟩
  | 123 => ⟨S8192x512, .f32⟩
  | 124 => ⟨S_, .f32⟩
  | 125 => ⟨S512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S_, .f32⟩
  | 2 => ⟨S512, .f32⟩
  | 3 => ⟨S8192x4x128, .f32⟩
  | 4 => ⟨S4x128x8192, .f32⟩
  | 5 => ⟨S4x8192x128, .f32⟩
  | 6 => ⟨S8192x4x128, .f32⟩
  | 7 => ⟨S4x128x128, .f32⟩
  | 8 => ⟨S4x128x128, .f32⟩
  | 9 => ⟨S8192x1x128, .f32⟩
  | 10 => ⟨S8192x128, .f32⟩
  | 11 => ⟨S8192x1x128, .f32⟩
  | 12 => ⟨S8192x128, .f32⟩
  | 13 => ⟨S8192x1x128, .f32⟩
  | 14 => ⟨S8192x128, .f32⟩
  | 15 => ⟨S8192x1x128, .f32⟩
  | 16 => ⟨S8192x128, .f32⟩
  | 17 => ⟨S8192x128, .f32⟩
  | 18 => ⟨S8192x1x128, .f32⟩
  | 19 => ⟨S_, .f32⟩
  | 20 => ⟨S8192x4x128, .f32⟩
  | 21 => ⟨S8192x128, .f32⟩
  | 22 => ⟨S8192x128, .f32⟩
  | 23 => ⟨S8192x128, .f32⟩
  | 24 => ⟨S16x128, .f32⟩
  | 25 => ⟨S8176x128, .f32⟩
  | 26 => ⟨S_, .f32⟩
  | 27 => ⟨S8192x128, .f32⟩
  | 28 => ⟨S8192x128, .f32⟩
  | 29 => ⟨S8192x1x128, .f32⟩
  | 30 => ⟨S_, .f32⟩
  | 31 => ⟨S8192x4x128, .f32⟩
  | 32 => ⟨S8192x128, .f32⟩
  | 33 => ⟨S8192x1x128, .f32⟩
  | 34 => ⟨S_, .f32⟩
  | 35 => ⟨S8192x4x128, .f32⟩
  | 36 => ⟨S8192x4x128, .f32⟩
  | 37 => ⟨S8192x128, .f32⟩
  | 38 => ⟨S8192x128, .f32⟩
  | 39 => ⟨S8192x128, .f32⟩
  | 40 => ⟨S8x128, .f32⟩
  | 41 => ⟨S8184x128, .f32⟩
  | 42 => ⟨S_, .f32⟩
  | 43 => ⟨S8192x128, .f32⟩
  | 44 => ⟨S8192x128, .f32⟩
  | 45 => ⟨S8192x1x128, .f32⟩
  | 46 => ⟨S_, .f32⟩
  | 47 => ⟨S8192x4x128, .f32⟩
  | 48 => ⟨S8192x4x128, .f32⟩
  | 49 => ⟨S8192x128, .f32⟩
  | 50 => ⟨S8192x1x128, .f32⟩
  | 51 => ⟨S_, .f32⟩
  | 52 => ⟨S8192x4x128, .f32⟩
  | 53 => ⟨S8192x4x128, .f32⟩
  | 54 => ⟨S8192x128, .f32⟩
  | 55 => ⟨S8192x128, .f32⟩
  | 56 => ⟨S8192x128, .f32⟩
  | 57 => ⟨S4x128, .f32⟩
  | 58 => ⟨S8188x128, .f32⟩
  | 59 => ⟨S_, .f32⟩
  | 60 => ⟨S8192x128, .f32⟩
  | 61 => ⟨S8192x128, .f32⟩
  | 62 => ⟨S8192x1x128, .f32⟩
  | 63 => ⟨S_, .f32⟩
  | 64 => ⟨S8192x4x128, .f32⟩
  | 65 => ⟨S8192x4x128, .f32⟩
  | 66 => ⟨S8192x128, .f32⟩
  | 67 => ⟨S8192x1x128, .f32⟩
  | 68 => ⟨S_, .f32⟩
  | 69 => ⟨S8192x4x128, .f32⟩
  | 70 => ⟨S8192x4x128, .f32⟩
  | 71 => ⟨S8192x128, .f32⟩
  | 72 => ⟨S8192x128, .f32⟩
  | 73 => ⟨S8192x128, .f32⟩
  | 74 => ⟨S2x128, .f32⟩
  | 75 => ⟨S8190x128, .f32⟩
  | 76 => ⟨S_, .f32⟩
  | 77 => ⟨S8192x128, .f32⟩
  | 78 => ⟨S8192x128, .f32⟩
  | 79 => ⟨S8192x1x128, .f32⟩
  | 80 => ⟨S_, .f32⟩
  | 81 => ⟨S8192x4x128, .f32⟩
  | 82 => ⟨S8192x4x128, .f32⟩
  | 83 => ⟨S_, .f32⟩
  | 84 => ⟨S_, .f32⟩
  | 85 => ⟨S8192x4x128, .f32⟩
  | 86 => ⟨S8192x4x128, .f32⟩
  | 87 => ⟨S8192x512, .f32⟩
  | 88 => ⟨S8192x1024, .f32⟩
  | 89 => ⟨S8192x1024, .bf16⟩
  | 90 => ⟨S8192x1024, .bf16⟩
  | 91 => ⟨S8192x512, .bf16⟩
  | 92 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_v76_2 : Ref sig .tc := ⟨.hbm, 104, rfl⟩
abbrev main_call1_cst_1 : Ref sig .tc := ⟨.hbm, 105, rfl⟩
abbrev main_call1_v6 : Ref sig .tc := ⟨.hbm, 106, rfl⟩
abbrev main_call1_v7 : Ref sig .tc := ⟨.hbm, 107, rfl⟩
abbrev main_v76_1 : Ref sig .tc := ⟨.hbm, 108, rfl⟩
abbrev main_v76_0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_12 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_13 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_14 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_15 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_16 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_17 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_18 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_19 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_20 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_21 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_22 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_23 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_24 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_25 : Ref sig .tc := ⟨.hbm, 208, rfl⟩
abbrev main_v159 : Ref sig .tc := ⟨.hbm, 209, rfl⟩
abbrev main_v160 : Ref sig .tc := ⟨.hbm, 210, rfl⟩
abbrev main_call3_call0_cst : Ref sig .tc := ⟨.hbm, 211, rfl⟩
abbrev main_call3_call0_v0 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩

abbrev nD : Nat := 1
abbrev τ : Topo := Topo.v7x

variable {F : FTy → Type} [FloatOps F]
-- ==== Conv.lean ====
abbrev S8192x1024 : Shape := ⟨2, ![8192, 1024]⟩
abbrev S8192x3072 : Shape := ⟨2, ![8192, 3072]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S256x1024 : Shape := ⟨2, ![256, 1024]⟩
abbrev S1x1024 : Shape := ⟨2, ![1, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S256x128 : Shape := ⟨2, ![256, 128]⟩
abbrev S1x128 : Shape := ⟨2, ![1, 128]⟩
abbrev S1x256x128 : Shape := ⟨3, ![1, 256, 128]⟩
abbrev S8x128 : Shape := ⟨2, ![8, 128]⟩
abbrev S1x8x128 : Shape := ⟨3, ![1, 8, 128]⟩
abbrev S32x8x1024 : Shape := ⟨3, ![32, 8, 1024]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S31x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S32x1024, .f32⟩
  | .hbm, ⟨7, _⟩ => ⟨S8192x3072, .bf16⟩
  | .hbm, ⟨8, _⟩ => ⟨S8192x1024, .bf16⟩
  | .hbm, ⟨9, _⟩ => ⟨S8192x1024, .bf16⟩
  | .hbm, ⟨10, _⟩ => ⟨S256x1024, .f32⟩
  | .hbm, ⟨11, _⟩ => ⟨S1x1024, .f32⟩
  | .hbm, ⟨12, _⟩ => ⟨S32x8x1024, .f32⟩
  | .hbm, ⟨13, _⟩ => ⟨S_, .f32⟩
  | .hbm, ⟨14, _⟩ => ⟨S32x1024, .f32⟩
  | .hbm, ⟨15, _⟩ => ⟨S31x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S32x1024, .bf16⟩
  | .local _ .vmem, ⟨9, _⟩ => ⟨S32x1024, .bf16⟩
  | .local _ .vmem, ⟨10, _⟩ => ⟨S32x1024, .bf16⟩
  | .local _ .vmem, ⟨11, _⟩ => ⟨S32x1024, .bf16⟩
  | .local _ .vmem, ⟨12, _⟩ => ⟨S32x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S1x1024, .f32⟩
  | .local _ .vmem, ⟨19, _⟩ => ⟨S288x1024, .f32⟩
  | .local _ .vmem, ⟨20, _⟩ => ⟨S288x1024, .f32⟩
  | .local _ .vmem, ⟨21, _⟩ => ⟨S256x1024, .f32⟩
  | .local _ .vmem, ⟨22, _⟩ => ⟨S7x280x1024, .f32⟩
  | .local _ .vmem, ⟨23, _⟩ => ⟨S7x280x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_94 : BitVec 32 := 0#32
  let c8_i32 : BitVec 32 := 8#32
  let v113 : BitVec 32 := Scalar.addi c0_i32_94 c8_i32
  let c1_i32 : BitVec 32 := 1#32
  ⟨c0_i32_94, v113, c1_i32⟩
def k0_mult1 (k0_t1 : Fin k0_t1_loop.trips) : BitVec 32 :=
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  v126
def k0_off1 (k0_t1 : Fin k0_t1_loop.trips) : Fin 2 → Nat :=
  let c0_108 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v129 : Index := Scalar.indexCast v127
  ![0, v129.toNat]
def k0_off2 (k0_t1 : Fin k0_t1_loop.trips) : Fin 3 → Nat :=
  let c5_109 : Index := 5#32
  let c24 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v132 : Index := Scalar.indexCast v127
  ![5, 24, v132.toNat]
def k0_off3 (k0_t1 : Fin k0_t1_loop.trips) : Fin 2 → Nat :=
  let c1_110 : Index := 1#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v138 : Index := Scalar.indexCast v127
  ![1, v138.toNat]
def k0_off4 (k0_t1 : Fin k0_t1_loop.trips) : Fin 3 → Nat :=
  let c4_111 : Index := 4#32
  let c24_112 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v141 : Index := Scalar.indexCast v127
  ![4, 24, v141.toNat]
def k0_off5 (k0_t1 : Fin k0_t1_loop.trips) : Fin 2 → Nat :=
  let c2_113 : Index := 2#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v147 : Index := Scalar.indexCast v127
  ![2, v147.toNat]
def k0_off6 (k0_t1 : Fin k0_t1_loop.trips) : Fin 3 → Nat :=
  let c3_114 : Index := 3#32
  let c24_115 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v150 : Index := Scalar.indexCast v127
  ![3, 24, v150.toNat]
def k0_off7 (k0_t1 : Fin k0_t1_loop.trips) : Fin 2 → Nat :=
  let c3_116 : Index := 3#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v156 : Index := Scalar.indexCast v127
  ![3, v156.toNat]
def k0_off8 (k0_t1 : Fin k0_t1_loop.trips) : Fin 3 → Nat :=
  let c2_117 : Index := 2#32
  let c24_118 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v159 : Index := Scalar.indexCast v127
  ![2, 24, v159.toNat]
def k0_off9 (k0_t1 : Fin k0_t1_loop.trips) : Fin 2 → Nat :=
  let c4_119 : Index := 4#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v165 : Index := Scalar.indexCast v127
  ![4, v165.toNat]
def k0_off10 (k0_t1 : Fin k0_t1_loop.trips) : Fin 3 → Nat :=
  let c1_120 : Index := 1#32
  let c24_121 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v168 : Index := Scalar.indexCast v127
  ![1, 24, v168.toNat]
def k0_off11 (k0_t1 : Fin k0_t1_loop.trips) : Fin 2 → Nat :=
  let c5_122 : Index := 5#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v174 : Index := Scalar.indexCast v127
  ![5, v174.toNat]
def k0_off12 (k0_t1 : Fin k0_t1_loop.trips) : Fin 3 → Nat :=
  let c0_123 : Index := 0#32
  let c24_124 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v177 : Index := Scalar.indexCast v127
  ![0, 24, v177.toNat]
def k0_off13 (k0_t1 : Fin k0_t1_loop.trips) : Fin 2 → Nat :=
  let c6_125 : Index := 6#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v183 : Index := Scalar.indexCast v127
  ![6, v183.toNat]
def k0_off14 (k0_t1 : Fin k0_t1_loop.trips) : Fin 2 → Nat :=
  let c24_126 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v186 : Index := Scalar.indexCast v127
  ![24, v186.toNat]
def k0_off15 (k0_t1 : Fin k0_t1_loop.trips) : Fin 2 → Nat :=
  let c7_127 : Index := 7#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v191 : Index := Scalar.indexCast v127
  ![7, v191.toNat]
def k0_off16 (k0_t1 : Fin k0_t1_loop.trips) : Fin 3 → Nat :=
  let c6_128 : Index := 6#32
  let c16 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v194 : Index := Scalar.indexCast v127
  ![6, 16, v194.toNat]
def k0_off17 (k0_t1 : Fin k0_t1_loop.trips) : Fin 2 → Nat :=
  let c8 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v200 : Index := Scalar.indexCast v127
  ![8, v200.toNat]
def k0_off18 (k0_t1 : Fin k0_t1_loop.trips) : Fin 3 → Nat :=
  let c5_129 : Index := 5#32
  let c16_130 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v203 : Index := Scalar.indexCast v127
  ![5, 16, v203.toNat]
def k0_off19 (k0_t1 : Fin k0_t1_loop.trips) : Fin 2 → Nat :=
  let c9 : Index := 9#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v209 : Index := Scalar.indexCast v127
  ![9, v209.toNat]
def k0_off20 (k0_t1 : Fin k0_t1_loop.trips) : Fin 3 → Nat :=
  let c4_131 : Index := 4#32
  let c16_132 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v212 : Index := Scalar.indexCast v127
  ![4, 16, v212.toNat]
def k0_off21 (k0_t1 : Fin k0_t1_loop.trips) : Fin 2 → Nat :=
  let c10 : Index := 10#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v218 : Index := Scalar.indexCast v127
  ![10, v218.toNat]
def k0_off22 (k0_t1 : Fin k0_t1_loop.trips) : Fin 3 → Nat :=
  let c3_133 : Index := 3#32
  let c16_134 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v221 : Index := Scalar.indexCast v127
  ![3, 16, v221.toNat]
def k0_off23 (k0_t1 : Fin k0_t1_loop.trips) : Fin 2 → Nat :=
  let c11 : Index := 11#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v227 : Index := Scalar.indexCast v127
  ![11, v227.toNat]
def k0_off24 (k0_t1 : Fin k0_t1_loop.trips) : Fin 3 → Nat :=
  let c2_135 : Index := 2#32
  let c16_136 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v230 : Index := Scalar.indexCast v127
  ![2, 16, v230.toNat]
def k0_off25 (k0_t1 : Fin k0_t1_loop.trips) : Fin 2 → Nat :=
  let c12 : Index := 12#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v236 : Index := Scalar.indexCast v127
  ![12, v236.toNat]
def k0_off26 (k0_t1 : Fin k0_t1_loop.trips) : Fin 3 → Nat :=
  let c1_137 : Index := 1#32
  let c16_138 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v239 : Index := Scalar.indexCast v127
  ![1, 16, v239.toNat]
def k0_off27 (k0_t1 : Fin k0_t1_loop.trips) : Fin 2 → Nat :=
  let c13 : Index := 13#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v245 : Index := Scalar.indexCast v127
  ![13, v245.toNat]
def k0_off28 (k0_t1 : Fin k0_t1_loop.trips) : Fin 3 → Nat :=
  let c0_139 : Index := 0#32
  let c16_140 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v248 : Index := Scalar.indexCast v127
  ![0, 16, v248.toNat]
def k0_off29 (k0_t1 : Fin k0_t1_loop.trips) : Fin 2 → Nat :=
  let c14 : Index := 14#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v254 : Index := Scalar.indexCast v127
  ![14, v254.toNat]
def k0_off30 (k0_t1 : Fin k0_t1_loop.trips) : Fin 2 → Nat :=
  let c16_141 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v257 : Index := Scalar.indexCast v127
  ![16, v257.toNat]
def k0_off31 (k0_t1 : Fin k0_t1_loop.trips) : Fin 2 → Nat :=
  let c15 : Index := 15#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v262 : Index := Scalar.indexCast v127
  ![15, v262.toNat]
def k0_off32 (k0_t1 : Fin k0_t1_loop.trips) : Fin 3 → Nat :=
  let c6_142 : Index := 6#32
  let c8_143 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v265 : Index := Scalar.indexCast v127
  ![6, 8, v265.toNat]
def k0_off33 (k0_t1 : Fin k0_t1_loop.trips) : Fin 2 → Nat :=
  let c16_144 : Index := 16#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v271 : Index := Scalar.indexCast v127
  ![16, v271.toNat]
def k0_off34 (k0_t1 : Fin k0_t1_loop.trips) : Fin 3 → Nat :=
  let c5_145 : Index := 5#32
  let c8_146 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v274 : Index := Scalar.indexCast v127
  ![5, 8, v274.toNat]
def k0_off35 (k0_t1 : Fin k0_t1_loop.trips) : Fin 2 → Nat :=
  let c17 : Index := 17#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v280 : Index := Scalar.indexCast v127
  ![17, v280.toNat]
def k0_off36 (k0_t1 : Fin k0_t1_loop.trips) : Fin 3 → Nat :=
  let c4_147 : Index := 4#32
  let c8_148 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v283 : Index := Scalar.indexCast v127
  ![4, 8, v283.toNat]
def k0_off37 (k0_t1 : Fin k0_t1_loop.trips) : Fin 2 → Nat :=
  let c18 : Index := 18#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v289 : Index := Scalar.indexCast v127
  ![18, v289.toNat]
def k0_off38 (k0_t1 : Fin k0_t1_loop.trips) : Fin 3 → Nat :=
  let c3_149 : Index := 3#32
  let c8_150 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v292 : Index := Scalar.indexCast v127
  ![3, 8, v292.toNat]
def k0_off39 (k0_t1 : Fin k0_t1_loop.trips) : Fin 2 → Nat :=
  let c19 : Index := 19#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v298 : Index := Scalar.indexCast v127
  ![19, v298.toNat]
def k0_off40 (k0_t1 : Fin k0_t1_loop.trips) : Fin 3 → Nat :=
  let c2_151 : Index := 2#32
  let c8_152 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v301 : Index := Scalar.indexCast v127
  ![2, 8, v301.toNat]
def k0_off41 (k0_t1 : Fin k0_t1_loop.trips) : Fin 2 → Nat :=
  let c20 : Index := 20#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v307 : Index := Scalar.indexCast v127
  ![20, v307.toNat]
def k0_off42 (k0_t1 : Fin k0_t1_loop.trips) : Fin 3 → Nat :=
  let c1_153 : Index := 1#32
  let c8_154 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v310 : Index := Scalar.indexCast v127
  ![1, 8, v310.toNat]
def k0_off43 (k0_t1 : Fin k0_t1_loop.trips) : Fin 2 → Nat :=
  let c21 : Index := 21#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v316 : Index := Scalar.indexCast v127
  ![21, v316.toNat]
def k0_off44 (k0_t1 : Fin k0_t1_loop.trips) : Fin 3 → Nat :=
  let c0_155 : Index := 0#32
  let c8_156 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v319 : Index := Scalar.indexCast v127
  ![0, 8, v319.toNat]
def k0_off45 (k0_t1 : Fin k0_t1_loop.trips) : Fin 2 → Nat :=
  let c22 : Index := 22#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v325 : Index := Scalar.indexCast v127
  ![22, v325.toNat]
def k0_off46 (k0_t1 : Fin k0_t1_loop.trips) : Fin 2 → Nat :=
  let c8_157 : Index := 8#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v328 : Index := Scalar.indexCast v127
  ![8, v328.toNat]
def k0_off47 (k0_t1 : Fin k0_t1_loop.trips) : Fin 2 → Nat :=
  let c23 : Index := 23#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v333 : Index := Scalar.indexCast v127
  ![23, v333.toNat]
def k0_off48 (k0_t1 : Fin k0_t1_loop.trips) : Fin 3 → Nat :=
  let c6_158 : Index := 6#32
  let c0_159 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v336 : Index := Scalar.indexCast v127
  ![6, 0, v336.toNat]
def k0_off49 (k0_t1 : Fin k0_t1_loop.trips) : Fin 2 → Nat :=
  let c24_160 : Index := 24#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v342 : Index := Scalar.indexCast v127
  ![24, v342.toNat]
def k0_off50 (k0_t1 : Fin k0_t1_loop.trips) : Fin 3 → Nat :=
  let c5_161 : Index := 5#32
  let c0_162 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v345 : Index := Scalar.indexCast v127
  ![5, 0, v345.toNat]
def k0_off51 (k0_t1 : Fin k0_t1_loop.trips) : Fin 2 → Nat :=
  let c25 : Index := 25#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v351 : Index := Scalar.indexCast v127
  ![25, v351.toNat]
def k0_off52 (k0_t1 : Fin k0_t1_loop.trips) : Fin 3 → Nat :=
  let c4_163 : Index := 4#32
  let c0_164 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v354 : Index := Scalar.indexCast v127
  ![4, 0, v354.toNat]
def k0_off53 (k0_t1 : Fin k0_t1_loop.trips) : Fin 2 → Nat :=
  let c26 : Index := 26#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v360 : Index := Scalar.indexCast v127
  ![26, v360.toNat]
def k0_off54 (k0_t1 : Fin k0_t1_loop.trips) : Fin 3 → Nat :=
  let c3_165 : Index := 3#32
  let c0_166 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v363 : Index := Scalar.indexCast v127
  ![3, 0, v363.toNat]
def k0_off55 (k0_t1 : Fin k0_t1_loop.trips) : Fin 2 → Nat :=
  let c27 : Index := 27#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v369 : Index := Scalar.indexCast v127
  ![27, v369.toNat]
def k0_off56 (k0_t1 : Fin k0_t1_loop.trips) : Fin 3 → Nat :=
  let c2_167 : Index := 2#32
  let c0_168 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v372 : Index := Scalar.indexCast v127
  ![2, 0, v372.toNat]
def k0_off57 (k0_t1 : Fin k0_t1_loop.trips) : Fin 2 → Nat :=
  let c28 : Index := 28#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v378 : Index := Scalar.indexCast v127
  ![28, v378.toNat]
def k0_off58 (k0_t1 : Fin k0_t1_loop.trips) : Fin 3 → Nat :=
  let c1_169 : Index := 1#32
  let c0_170 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v381 : Index := Scalar.indexCast v127
  ![1, 0, v381.toNat]
def k0_off59 (k0_t1 : Fin k0_t1_loop.trips) : Fin 2 → Nat :=
  let c29 : Index := 29#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v387 : Index := Scalar.indexCast v127
  ![29, v387.toNat]
def k0_off60 (k0_t1 : Fin k0_t1_loop.trips) : Fin 3 → Nat :=
  let c0_171 : Index := 0#32
  let c0_172 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v390 : Index := Scalar.indexCast v127
  ![0, 0, v390.toNat]
def k0_off61 (k0_t1 : Fin k0_t1_loop.trips) : Fin 2 → Nat :=
  let c30 : Index := 30#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v396 : Index := Scalar.indexCast v127
  ![30, v396.toNat]
def k0_off62 (k0_t1 : Fin k0_t1_loop.trips) : Fin 2 → Nat :=
  let c0_173 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v399 : Index := Scalar.indexCast v127
  ![0, v399.toNat]
def k0_off63 (k0_t1 : Fin k0_t1_loop.trips) : Fin 2 → Nat :=
  let c0_174 : Index := 0#32
  let c0_i32_94 : BitVec 32 := 0#32
  let c1_i32 : BitVec 32 := 1#32
  let arg17 : BitVec 32 := Scf.iv c0_i32_94 c1_i32 k0_t1
  let c128_i32 : BitVec 32 := 128#32
  let v126 : BitVec 32 := Scalar.muli arg17 c128_i32
  let v127 : BitVec 32 := v126
  let v404 : Index := Scalar.indexCast v127
  ![0, v404.toNat]
@[reducible] def k0_t2_loop : Scf.Loop 32 :=
  let c0_i32_96 : BitVec 32 := 0#32
  let c8_i32_97 : BitVec 32 := 8#32
  let v114 : BitVec 32 := Scalar.addi c0_i32_96 c8_i32_97
  let c1_i32_98 : BitVec 32 := 1#32
  ⟨c0_i32_96, v114, c1_i32_98⟩
def k0_mult2 (k0_t2 : Fin k0_t2_loop.trips) : BitVec 32 :=
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  v126
def k0_off64 (k0_t2 : Fin k0_t2_loop.trips) : Fin 2 → Nat :=
  let c0_107 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v128 : Index := Scalar.indexCast v127
  ![0, v128.toNat]
def k0_off65 (k0_t2 : Fin k0_t2_loop.trips) : Fin 2 → Nat :=
  let c8 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v130 : Index := Scalar.indexCast v127
  ![8, v130.toNat]
def k0_off66 (k0_t2 : Fin k0_t2_loop.trips) : Fin 2 → Nat :=
  let c16 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v132 : Index := Scalar.indexCast v127
  ![16, v132.toNat]
def k0_off67 (k0_t2 : Fin k0_t2_loop.trips) : Fin 2 → Nat :=
  let c24 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v134 : Index := Scalar.indexCast v127
  ![24, v134.toNat]
def k0_off68 (k0_t2 : Fin k0_t2_loop.trips) : Fin 2 → Nat :=
  let c32_108 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v136 : Index := Scalar.indexCast v127
  ![32, v136.toNat]
def k0_off69 (k0_t2 : Fin k0_t2_loop.trips) : Fin 2 → Nat :=
  let c40 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v138 : Index := Scalar.indexCast v127
  ![40, v138.toNat]
def k0_off70 (k0_t2 : Fin k0_t2_loop.trips) : Fin 2 → Nat :=
  let c48 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v140 : Index := Scalar.indexCast v127
  ![48, v140.toNat]
def k0_off71 (k0_t2 : Fin k0_t2_loop.trips) : Fin 2 → Nat :=
  let c56 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v142 : Index := Scalar.indexCast v127
  ![56, v142.toNat]
def k0_off72 (k0_t2 : Fin k0_t2_loop.trips) : Fin 2 → Nat :=
  let c64 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v144 : Index := Scalar.indexCast v127
  ![64, v144.toNat]
def k0_off73 (k0_t2 : Fin k0_t2_loop.trips) : Fin 2 → Nat :=
  let c72 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v146 : Index := Scalar.indexCast v127
  ![72, v146.toNat]
def k0_off74 (k0_t2 : Fin k0_t2_loop.trips) : Fin 2 → Nat :=
  let c80 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v148 : Index := Scalar.indexCast v127
  ![80, v148.toNat]
def k0_off75 (k0_t2 : Fin k0_t2_loop.trips) : Fin 2 → Nat :=
  let c88 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v150 : Index := Scalar.indexCast v127
  ![88, v150.toNat]
def k0_off76 (k0_t2 : Fin k0_t2_loop.trips) : Fin 2 → Nat :=
  let c96 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v152 : Index := Scalar.indexCast v127
  ![96, v152.toNat]
def k0_off77 (k0_t2 : Fin k0_t2_loop.trips) : Fin 2 → Nat :=
  let c104 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v154 : Index := Scalar.indexCast v127
  ![104, v154.toNat]
def k0_off78 (k0_t2 : Fin k0_t2_loop.trips) : Fin 2 → Nat :=
  let c112 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v156 : Index := Scalar.indexCast v127
  ![112, v156.toNat]
def k0_off79 (k0_t2 : Fin k0_t2_loop.trips) : Fin 2 → Nat :=
  let c120 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v158 : Index := Scalar.indexCast v127
  ![120, v158.toNat]
def k0_off80 (k0_t2 : Fin k0_t2_loop.trips) : Fin 2 → Nat :=
  let c128 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v160 : Index := Scalar.indexCast v127
  ![128, v160.toNat]
def k0_off81 (k0_t2 : Fin k0_t2_loop.trips) : Fin 2 → Nat :=
  let c136 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v162 : Index := Scalar.indexCast v127
  ![136, v162.toNat]
def k0_off82 (k0_t2 : Fin k0_t2_loop.trips) : Fin 2 → Nat :=
  let c144 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v164 : Index := Scalar.indexCast v127
  ![144, v164.toNat]
def k0_off83 (k0_t2 : Fin k0_t2_loop.trips) : Fin 2 → Nat :=
  let c152 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v166 : Index := Scalar.indexCast v127
  ![152, v166.toNat]
def k0_off84 (k0_t2 : Fin k0_t2_loop.trips) : Fin 2 → Nat :=
  let c160 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v168 : Index := Scalar.indexCast v127
  ![160, v168.toNat]
def k0_off85 (k0_t2 : Fin k0_t2_loop.trips) : Fin 2 → Nat :=
  let c168 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v170 : Index := Scalar.indexCast v127
  ![168, v170.toNat]
def k0_off86 (k0_t2 : Fin k0_t2_loop.trips) : Fin 2 → Nat :=
  let c176 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v172 : Index := Scalar.indexCast v127
  ![176, v172.toNat]
def k0_off87 (k0_t2 : Fin k0_t2_loop.trips) : Fin 2 → Nat :=
  let c184 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v174 : Index := Scalar.indexCast v127
  ![184, v174.toNat]
def k0_off88 (k0_t2 : Fin k0_t2_loop.trips) : Fin 2 → Nat :=
  let c192 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v176 : Index := Scalar.indexCast v127
  ![192, v176.toNat]
def k0_off89 (k0_t2 : Fin k0_t2_loop.trips) : Fin 2 → Nat :=
  let c200 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v178 : Index := Scalar.indexCast v127
  ![200, v178.toNat]
def k0_off90 (k0_t2 : Fin k0_t2_loop.trips) : Fin 2 → Nat :=
  let c208 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v180 : Index := Scalar.indexCast v127
  ![208, v180.toNat]
def k0_off91 (k0_t2 : Fin k0_t2_loop.trips) : Fin 2 → Nat :=
  let c216 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v182 : Index := Scalar.indexCast v127
  ![216, v182.toNat]
def k0_off92 (k0_t2 : Fin k0_t2_loop.trips) : Fin 2 → Nat :=
  let c224 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v184 : Index := Scalar.indexCast v127
  ![224, v184.toNat]
def k0_off93 (k0_t2 : Fin k0_t2_loop.trips) : Fin 2 → Nat :=
  let c232 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v186 : Index := Scalar.indexCast v127
  ![232, v186.toNat]
def k0_off94 (k0_t2 : Fin k0_t2_loop.trips) : Fin 2 → Nat :=
  let c240 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v188 : Index := Scalar.indexCast v127
  ![240, v188.toNat]
def k0_off95 (k0_t2 : Fin k0_t2_loop.trips) : Fin 2 → Nat :=
  let c248 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v190 : Index := Scalar.indexCast v127
  ![248, v190.toNat]
def k0_off96 (k0_t2 : Fin k0_t2_loop.trips) : Fin 2 → Nat :=
  let c8_109 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v192 : Index := Scalar.indexCast v127
  ![8, v192.toNat]
def k0_off97 (k0_t2 : Fin k0_t2_loop.trips) : Fin 2 → Nat :=
  let c16_110 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v195 : Index := Scalar.indexCast v127
  ![16, v195.toNat]
def k0_off98 (k0_t2 : Fin k0_t2_loop.trips) : Fin 2 → Nat :=
  let c24_111 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v200 : Index := Scalar.indexCast v127
  ![24, v200.toNat]
def k0_off99 (k0_t2 : Fin k0_t2_loop.trips) : Fin 2 → Nat :=
  let c32_112 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v207 : Index := Scalar.indexCast v127
  ![32, v207.toNat]
def k0_off100 (k0_t2 : Fin k0_t2_loop.trips) : Fin 2 → Nat :=
  let c40_113 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v216 : Index := Scalar.indexCast v127
  ![40, v216.toNat]
def k0_off101 (k0_t2 : Fin k0_t2_loop.trips) : Fin 2 → Nat :=
  let c48_114 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v226 : Index := Scalar.indexCast v127
  ![48, v226.toNat]
def k0_off102 (k0_t2 : Fin k0_t2_loop.trips) : Fin 2 → Nat :=
  let c56_115 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v236 : Index := Scalar.indexCast v127
  ![56, v236.toNat]
def k0_off103 (k0_t2 : Fin k0_t2_loop.trips) : Fin 2 → Nat :=
  let c64_116 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v246 : Index := Scalar.indexCast v127
  ![64, v246.toNat]
def k0_off104 (k0_t2 : Fin k0_t2_loop.trips) : Fin 2 → Nat :=
  let c72_117 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v256 : Index := Scalar.indexCast v127
  ![72, v256.toNat]
def k0_off105 (k0_t2 : Fin k0_t2_loop.trips) : Fin 2 → Nat :=
  let c80_118 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v266 : Index := Scalar.indexCast v127
  ![80, v266.toNat]
def k0_off106 (k0_t2 : Fin k0_t2_loop.trips) : Fin 2 → Nat :=
  let c88_119 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v276 : Index := Scalar.indexCast v127
  ![88, v276.toNat]
def k0_off107 (k0_t2 : Fin k0_t2_loop.trips) : Fin 2 → Nat :=
  let c96_120 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v286 : Index := Scalar.indexCast v127
  ![96, v286.toNat]
def k0_off108 (k0_t2 : Fin k0_t2_loop.trips) : Fin 2 → Nat :=
  let c104_121 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v296 : Index := Scalar.indexCast v127
  ![104, v296.toNat]
def k0_off109 (k0_t2 : Fin k0_t2_loop.trips) : Fin 2 → Nat :=
  let c112_122 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v306 : Index := Scalar.indexCast v127
  ![112, v306.toNat]
def k0_off110 (k0_t2 : Fin k0_t2_loop.trips) : Fin 2 → Nat :=
  let c120_123 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v316 : Index := Scalar.indexCast v127
  ![120, v316.toNat]
def k0_off111 (k0_t2 : Fin k0_t2_loop.trips) : Fin 2 → Nat :=
  let c128_124 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v326 : Index := Scalar.indexCast v127
  ![128, v326.toNat]
def k0_off112 (k0_t2 : Fin k0_t2_loop.trips) : Fin 2 → Nat :=
  let c136_125 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v336 : Index := Scalar.indexCast v127
  ![136, v336.toNat]
def k0_off113 (k0_t2 : Fin k0_t2_loop.trips) : Fin 2 → Nat :=
  let c144_126 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v346 : Index := Scalar.indexCast v127
  ![144, v346.toNat]
def k0_off114 (k0_t2 : Fin k0_t2_loop.trips) : Fin 2 → Nat :=
  let c152_127 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v356 : Index := Scalar.indexCast v127
  ![152, v356.toNat]
def k0_off115 (k0_t2 : Fin k0_t2_loop.trips) : Fin 2 → Nat :=
  let c160_128 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v366 : Index := Scalar.indexCast v127
  ![160, v366.toNat]
def k0_off116 (k0_t2 : Fin k0_t2_loop.trips) : Fin 2 → Nat :=
  let c168_129 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v376 : Index := Scalar.indexCast v127
  ![168, v376.toNat]
def k0_off117 (k0_t2 : Fin k0_t2_loop.trips) : Fin 2 → Nat :=
  let c176_130 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v386 : Index := Scalar.indexCast v127
  ![176, v386.toNat]
def k0_off118 (k0_t2 : Fin k0_t2_loop.trips) : Fin 2 → Nat :=
  let c184_131 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v396 : Index := Scalar.indexCast v127
  ![184, v396.toNat]
def k0_off119 (k0_t2 : Fin k0_t2_loop.trips) : Fin 2 → Nat :=
  let c192_132 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v406 : Index := Scalar.indexCast v127
  ![192, v406.toNat]
def k0_off120 (k0_t2 : Fin k0_t2_loop.trips) : Fin 2 → Nat :=
  let c200_133 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v416 : Index := Scalar.indexCast v127
  ![200, v416.toNat]
def k0_off121 (k0_t2 : Fin k0_t2_loop.trips) : Fin 2 → Nat :=
  let c208_134 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v426 : Index := Scalar.indexCast v127
  ![208, v426.toNat]
def k0_off122 (k0_t2 : Fin k0_t2_loop.trips) : Fin 2 → Nat :=
  let c216_135 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v436 : Index := Scalar.indexCast v127
  ![216, v436.toNat]
def k0_off123 (k0_t2 : Fin k0_t2_loop.trips) : Fin 2 → Nat :=
  let c224_136 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v446 : Index := Scalar.indexCast v127
  ![224, v446.toNat]
def k0_off124 (k0_t2 : Fin k0_t2_loop.trips) : Fin 2 → Nat :=
  let c232_137 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v456 : Index := Scalar.indexCast v127
  ![232, v456.toNat]
def k0_off125 (k0_t2 : Fin k0_t2_loop.trips) : Fin 2 → Nat :=
  let c240_138 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v466 : Index := Scalar.indexCast v127
  ![240, v466.toNat]
def k0_off126 (k0_t2 : Fin k0_t2_loop.trips) : Fin 2 → Nat :=
  let c248_139 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v476 : Index := Scalar.indexCast v127
  ![248, v476.toNat]
def k0_off127 (k0_t2 : Fin k0_t2_loop.trips) : Fin 2 → Nat :=
  let c256_140 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v486 : Index := Scalar.indexCast v127
  ![256, v486.toNat]
def k0_off128 (k0_t2 : Fin k0_t2_loop.trips) : Fin 2 → Nat :=
  let c264 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v496 : Index := Scalar.indexCast v127
  ![264, v496.toNat]
def k0_off129 (k0_t2 : Fin k0_t2_loop.trips) : Fin 2 → Nat :=
  let c272 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v504 : Index := Scalar.indexCast v127
  ![272, v504.toNat]
def k0_off130 (k0_t2 : Fin k0_t2_loop.trips) : Fin 2 → Nat :=
  let c280 : Index := 280#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v510 : Index := Scalar.indexCast v127
  ![280, v510.toNat]
def k0_off131 (k0_t2 : Fin k0_t2_loop.trips) : Fin 3 → Nat :=
  let c0_149 : Index := 0#32
  let c8_150 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v538 : Index := Scalar.indexCast v127
  ![0, 8, v538.toNat]
def k0_off132 (k0_t2 : Fin k0_t2_loop.trips) : Fin 3 → Nat :=
  let c0_151 : Index := 0#32
  let c16_152 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v542 : Index := Scalar.indexCast v127
  ![0, 16, v542.toNat]
def k0_off133 (k0_t2 : Fin k0_t2_loop.trips) : Fin 3 → Nat :=
  let c0_153 : Index := 0#32
  let c24_154 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v548 : Index := Scalar.indexCast v127
  ![0, 24, v548.toNat]
def k0_off134 (k0_t2 : Fin k0_t2_loop.trips) : Fin 3 → Nat :=
  let c0_155 : Index := 0#32
  let c32_156 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v556 : Index := Scalar.indexCast v127
  ![0, 32, v556.toNat]
def k0_off135 (k0_t2 : Fin k0_t2_loop.trips) : Fin 3 → Nat :=
  let c0_157 : Index := 0#32
  let c40_158 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v565 : Index := Scalar.indexCast v127
  ![0, 40, v565.toNat]
def k0_off136 (k0_t2 : Fin k0_t2_loop.trips) : Fin 3 → Nat :=
  let c0_159 : Index := 0#32
  let c48_160 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v574 : Index := Scalar.indexCast v127
  ![0, 48, v574.toNat]
def k0_off137 (k0_t2 : Fin k0_t2_loop.trips) : Fin 3 → Nat :=
  let c0_161 : Index := 0#32
  let c56_162 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v583 : Index := Scalar.indexCast v127
  ![0, 56, v583.toNat]
def k0_off138 (k0_t2 : Fin k0_t2_loop.trips) : Fin 3 → Nat :=
  let c0_163 : Index := 0#32
  let c64_164 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v592 : Index := Scalar.indexCast v127
  ![0, 64, v592.toNat]
def k0_off139 (k0_t2 : Fin k0_t2_loop.trips) : Fin 3 → Nat :=
  let c0_165 : Index := 0#32
  let c72_166 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v601 : Index := Scalar.indexCast v127
  ![0, 72, v601.toNat]
def k0_off140 (k0_t2 : Fin k0_t2_loop.trips) : Fin 3 → Nat :=
  let c0_167 : Index := 0#32
  let c80_168 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v610 : Index := Scalar.indexCast v127
  ![0, 80, v610.toNat]
def k0_off141 (k0_t2 : Fin k0_t2_loop.trips) : Fin 3 → Nat :=
  let c0_169 : Index := 0#32
  let c88_170 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v619 : Index := Scalar.indexCast v127
  ![0, 88, v619.toNat]
def k0_off142 (k0_t2 : Fin k0_t2_loop.trips) : Fin 3 → Nat :=
  let c0_171 : Index := 0#32
  let c96_172 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v628 : Index := Scalar.indexCast v127
  ![0, 96, v628.toNat]
def k0_off143 (k0_t2 : Fin k0_t2_loop.trips) : Fin 3 → Nat :=
  let c0_173 : Index := 0#32
  let c104_174 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v637 : Index := Scalar.indexCast v127
  ![0, 104, v637.toNat]
def k0_off144 (k0_t2 : Fin k0_t2_loop.trips) : Fin 3 → Nat :=
  let c0_175 : Index := 0#32
  let c112_176 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v646 : Index := Scalar.indexCast v127
  ![0, 112, v646.toNat]
def k0_off145 (k0_t2 : Fin k0_t2_loop.trips) : Fin 3 → Nat :=
  let c0_177 : Index := 0#32
  let c120_178 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v655 : Index := Scalar.indexCast v127
  ![0, 120, v655.toNat]
def k0_off146 (k0_t2 : Fin k0_t2_loop.trips) : Fin 3 → Nat :=
  let c0_179 : Index := 0#32
  let c128_180 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v664 : Index := Scalar.indexCast v127
  ![0, 128, v664.toNat]
def k0_off147 (k0_t2 : Fin k0_t2_loop.trips) : Fin 3 → Nat :=
  let c0_181 : Index := 0#32
  let c136_182 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v673 : Index := Scalar.indexCast v127
  ![0, 136, v673.toNat]
def k0_off148 (k0_t2 : Fin k0_t2_loop.trips) : Fin 3 → Nat :=
  let c0_183 : Index := 0#32
  let c144_184 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v682 : Index := Scalar.indexCast v127
  ![0, 144, v682.toNat]
def k0_off149 (k0_t2 : Fin k0_t2_loop.trips) : Fin 3 → Nat :=
  let c0_185 : Index := 0#32
  let c152_186 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v691 : Index := Scalar.indexCast v127
  ![0, 152, v691.toNat]
def k0_off150 (k0_t2 : Fin k0_t2_loop.trips) : Fin 3 → Nat :=
  let c0_187 : Index := 0#32
  let c160_188 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v700 : Index := Scalar.indexCast v127
  ![0, 160, v700.toNat]
def k0_off151 (k0_t2 : Fin k0_t2_loop.trips) : Fin 3 → Nat :=
  let c0_189 : Index := 0#32
  let c168_190 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v709 : Index := Scalar.indexCast v127
  ![0, 168, v709.toNat]
def k0_off152 (k0_t2 : Fin k0_t2_loop.trips) : Fin 3 → Nat :=
  let c0_191 : Index := 0#32
  let c176_192 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v718 : Index := Scalar.indexCast v127
  ![0, 176, v718.toNat]
def k0_off153 (k0_t2 : Fin k0_t2_loop.trips) : Fin 3 → Nat :=
  let c0_193 : Index := 0#32
  let c184_194 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v727 : Index := Scalar.indexCast v127
  ![0, 184, v727.toNat]
def k0_off154 (k0_t2 : Fin k0_t2_loop.trips) : Fin 3 → Nat :=
  let c0_195 : Index := 0#32
  let c192_196 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v736 : Index := Scalar.indexCast v127
  ![0, 192, v736.toNat]
def k0_off155 (k0_t2 : Fin k0_t2_loop.trips) : Fin 3 → Nat :=
  let c0_197 : Index := 0#32
  let c200_198 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v745 : Index := Scalar.indexCast v127
  ![0, 200, v745.toNat]
def k0_off156 (k0_t2 : Fin k0_t2_loop.trips) : Fin 3 → Nat :=
  let c0_199 : Index := 0#32
  let c208_200 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v754 : Index := Scalar.indexCast v127
  ![0, 208, v754.toNat]
def k0_off157 (k0_t2 : Fin k0_t2_loop.trips) : Fin 3 → Nat :=
  let c0_201 : Index := 0#32
  let c216_202 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v763 : Index := Scalar.indexCast v127
  ![0, 216, v763.toNat]
def k0_off158 (k0_t2 : Fin k0_t2_loop.trips) : Fin 3 → Nat :=
  let c0_203 : Index := 0#32
  let c224_204 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v772 : Index := Scalar.indexCast v127
  ![0, 224, v772.toNat]
def k0_off159 (k0_t2 : Fin k0_t2_loop.trips) : Fin 3 → Nat :=
  let c0_205 : Index := 0#32
  let c232_206 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v781 : Index := Scalar.indexCast v127
  ![0, 232, v781.toNat]
def k0_off160 (k0_t2 : Fin k0_t2_loop.trips) : Fin 3 → Nat :=
  let c0_207 : Index := 0#32
  let c240_208 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v790 : Index := Scalar.indexCast v127
  ![0, 240, v790.toNat]
def k0_off161 (k0_t2 : Fin k0_t2_loop.trips) : Fin 3 → Nat :=
  let c0_209 : Index := 0#32
  let c248_210 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v799 : Index := Scalar.indexCast v127
  ![0, 248, v799.toNat]
def k0_off162 (k0_t2 : Fin k0_t2_loop.trips) : Fin 3 → Nat :=
  let c0_211 : Index := 0#32
  let c256_212 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v808 : Index := Scalar.indexCast v127
  ![0, 256, v808.toNat]
def k0_off163 (k0_t2 : Fin k0_t2_loop.trips) : Fin 3 → Nat :=
  let c0_213 : Index := 0#32
  let c264_214 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v817 : Index := Scalar.indexCast v127
  ![0, 264, v817.toNat]
def k0_off164 (k0_t2 : Fin k0_t2_loop.trips) : Fin 3 → Nat :=
  let c0_215 : Index := 0#32
  let c272_216 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v824 : Index := Scalar.indexCast v127
  ![0, 272, v824.toNat]
def k0_off165 (k0_t2 : Fin k0_t2_loop.trips) : Fin 3 → Nat :=
  let c1_223 : Index := 1#32
  let c0_224 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v847 : Index := Scalar.indexCast v127
  ![1, 0, v847.toNat]
def k0_off166 (k0_t2 : Fin k0_t2_loop.trips) : Fin 3 → Nat :=
  let c1_225 : Index := 1#32
  let c8_226 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v851 : Index := Scalar.indexCast v127
  ![1, 8, v851.toNat]
def k0_off167 (k0_t2 : Fin k0_t2_loop.trips) : Fin 3 → Nat :=
  let c1_227 : Index := 1#32
  let c16_228 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v857 : Index := Scalar.indexCast v127
  ![1, 16, v857.toNat]
def k0_off168 (k0_t2 : Fin k0_t2_loop.trips) : Fin 3 → Nat :=
  let c1_229 : Index := 1#32
  let c24_230 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v865 : Index := Scalar.indexCast v127
  ![1, 24, v865.toNat]
def k0_off169 (k0_t2 : Fin k0_t2_loop.trips) : Fin 3 → Nat :=
  let c1_231 : Index := 1#32
  let c32_232 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v875 : Index := Scalar.indexCast v127
  ![1, 32, v875.toNat]
def k0_off170 (k0_t2 : Fin k0_t2_loop.trips) : Fin 3 → Nat :=
  let c1_233 : Index := 1#32
  let c40_234 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v886 : Index := Scalar.indexCast v127
  ![1, 40, v886.toNat]
def k0_off171 (k0_t2 : Fin k0_t2_loop.trips) : Fin 3 → Nat :=
  let c1_235 : Index := 1#32
  let c48_236 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v897 : Index := Scalar.indexCast v127
  ![1, 48, v897.toNat]
def k0_off172 (k0_t2 : Fin k0_t2_loop.trips) : Fin 3 → Nat :=
  let c1_237 : Index := 1#32
  let c56_238 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v908 : Index := Scalar.indexCast v127
  ![1, 56, v908.toNat]
def k0_off173 (k0_t2 : Fin k0_t2_loop.trips) : Fin 3 → Nat :=
  let c1_239 : Index := 1#32
  let c64_240 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v919 : Index := Scalar.indexCast v127
  ![1, 64, v919.toNat]
def k0_off174 (k0_t2 : Fin k0_t2_loop.trips) : Fin 3 → Nat :=
  let c1_241 : Index := 1#32
  let c72_242 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v930 : Index := Scalar.indexCast v127
  ![1, 72, v930.toNat]
def k0_off175 (k0_t2 : Fin k0_t2_loop.trips) : Fin 3 → Nat :=
  let c1_243 : Index := 1#32
  let c80_244 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v941 : Index := Scalar.indexCast v127
  ![1, 80, v941.toNat]
def k0_off176 (k0_t2 : Fin k0_t2_loop.trips) : Fin 3 → Nat :=
  let c1_245 : Index := 1#32
  let c88_246 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v952 : Index := Scalar.indexCast v127
  ![1, 88, v952.toNat]
def k0_off177 (k0_t2 : Fin k0_t2_loop.trips) : Fin 3 → Nat :=
  let c1_247 : Index := 1#32
  let c96_248 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v963 : Index := Scalar.indexCast v127
  ![1, 96, v963.toNat]
def k0_off178 (k0_t2 : Fin k0_t2_loop.trips) : Fin 3 → Nat :=
  let c1_249 : Index := 1#32
  let c104_250 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v974 : Index := Scalar.indexCast v127
  ![1, 104, v974.toNat]
def k0_off179 (k0_t2 : Fin k0_t2_loop.trips) : Fin 3 → Nat :=
  let c1_251 : Index := 1#32
  let c112_252 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v985 : Index := Scalar.indexCast v127
  ![1, 112, v985.toNat]
def k0_off180 (k0_t2 : Fin k0_t2_loop.trips) : Fin 3 → Nat :=
  let c1_253 : Index := 1#32
  let c120_254 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v996 : Index := Scalar.indexCast v127
  ![1, 120, v996.toNat]
def k0_off181 (k0_t2 : Fin k0_t2_loop.trips) : Fin 3 → Nat :=
  let c1_255 : Index := 1#32
  let c128_256 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1007 : Index := Scalar.indexCast v127
  ![1, 128, v1007.toNat]
def k0_off182 (k0_t2 : Fin k0_t2_loop.trips) : Fin 3 → Nat :=
  let c1_257 : Index := 1#32
  let c136_258 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1018 : Index := Scalar.indexCast v127
  ![1, 136, v1018.toNat]
def k0_off183 (k0_t2 : Fin k0_t2_loop.trips) : Fin 3 → Nat :=
  let c1_259 : Index := 1#32
  let c144_260 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1029 : Index := Scalar.indexCast v127
  ![1, 144, v1029.toNat]
def k0_off184 (k0_t2 : Fin k0_t2_loop.trips) : Fin 3 → Nat :=
  let c1_261 : Index := 1#32
  let c152_262 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1040 : Index := Scalar.indexCast v127
  ![1, 152, v1040.toNat]
def k0_off185 (k0_t2 : Fin k0_t2_loop.trips) : Fin 3 → Nat :=
  let c1_263 : Index := 1#32
  let c160_264 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1051 : Index := Scalar.indexCast v127
  ![1, 160, v1051.toNat]
def k0_off186 (k0_t2 : Fin k0_t2_loop.trips) : Fin 3 → Nat :=
  let c1_265 : Index := 1#32
  let c168_266 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1062 : Index := Scalar.indexCast v127
  ![1, 168, v1062.toNat]
def k0_off187 (k0_t2 : Fin k0_t2_loop.trips) : Fin 3 → Nat :=
  let c1_267 : Index := 1#32
  let c176_268 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1073 : Index := Scalar.indexCast v127
  ![1, 176, v1073.toNat]
def k0_off188 (k0_t2 : Fin k0_t2_loop.trips) : Fin 3 → Nat :=
  let c1_269 : Index := 1#32
  let c184_270 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1084 : Index := Scalar.indexCast v127
  ![1, 184, v1084.toNat]
def k0_off189 (k0_t2 : Fin k0_t2_loop.trips) : Fin 3 → Nat :=
  let c1_271 : Index := 1#32
  let c192_272 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1095 : Index := Scalar.indexCast v127
  ![1, 192, v1095.toNat]
def k0_off190 (k0_t2 : Fin k0_t2_loop.trips) : Fin 3 → Nat :=
  let c1_273 : Index := 1#32
  let c200_274 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1106 : Index := Scalar.indexCast v127
  ![1, 200, v1106.toNat]
def k0_off191 (k0_t2 : Fin k0_t2_loop.trips) : Fin 3 → Nat :=
  let c1_275 : Index := 1#32
  let c208_276 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1117 : Index := Scalar.indexCast v127
  ![1, 208, v1117.toNat]
def k0_off192 (k0_t2 : Fin k0_t2_loop.trips) : Fin 3 → Nat :=
  let c1_277 : Index := 1#32
  let c216_278 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1128 : Index := Scalar.indexCast v127
  ![1, 216, v1128.toNat]
def k0_off193 (k0_t2 : Fin k0_t2_loop.trips) : Fin 3 → Nat :=
  let c1_279 : Index := 1#32
  let c224_280 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1139 : Index := Scalar.indexCast v127
  ![1, 224, v1139.toNat]
def k0_off194 (k0_t2 : Fin k0_t2_loop.trips) : Fin 3 → Nat :=
  let c1_281 : Index := 1#32
  let c232_282 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1150 : Index := Scalar.indexCast v127
  ![1, 232, v1150.toNat]
def k0_off195 (k0_t2 : Fin k0_t2_loop.trips) : Fin 3 → Nat :=
  let c1_283 : Index := 1#32
  let c240_284 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1161 : Index := Scalar.indexCast v127
  ![1, 240, v1161.toNat]
def k0_off196 (k0_t2 : Fin k0_t2_loop.trips) : Fin 3 → Nat :=
  let c1_285 : Index := 1#32
  let c248_286 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1172 : Index := Scalar.indexCast v127
  ![1, 248, v1172.toNat]
def k0_off197 (k0_t2 : Fin k0_t2_loop.trips) : Fin 3 → Nat :=
  let c1_287 : Index := 1#32
  let c256_288 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1183 : Index := Scalar.indexCast v127
  ![1, 256, v1183.toNat]
def k0_off198 (k0_t2 : Fin k0_t2_loop.trips) : Fin 3 → Nat :=
  let c1_289 : Index := 1#32
  let c264_290 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1192 : Index := Scalar.indexCast v127
  ![1, 264, v1192.toNat]
def k0_off199 (k0_t2 : Fin k0_t2_loop.trips) : Fin 3 → Nat :=
  let c1_291 : Index := 1#32
  let c272_292 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1199 : Index := Scalar.indexCast v127
  ![1, 272, v1199.toNat]
def k0_off200 (k0_t2 : Fin k0_t2_loop.trips) : Fin 3 → Nat :=
  let c2_301 : Index := 2#32
  let c0_302 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1228 : Index := Scalar.indexCast v127
  ![2, 0, v1228.toNat]
def k0_off201 (k0_t2 : Fin k0_t2_loop.trips) : Fin 3 → Nat :=
  let c2_303 : Index := 2#32
  let c8_304 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1232 : Index := Scalar.indexCast v127
  ![2, 8, v1232.toNat]
def k0_off202 (k0_t2 : Fin k0_t2_loop.trips) : Fin 3 → Nat :=
  let c2_305 : Index := 2#32
  let c16_306 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1238 : Index := Scalar.indexCast v127
  ![2, 16, v1238.toNat]
def k0_off203 (k0_t2 : Fin k0_t2_loop.trips) : Fin 3 → Nat :=
  let c2_307 : Index := 2#32
  let c24_308 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1246 : Index := Scalar.indexCast v127
  ![2, 24, v1246.toNat]
def k0_off204 (k0_t2 : Fin k0_t2_loop.trips) : Fin 3 → Nat :=
  let c2_309 : Index := 2#32
  let c32_310 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1256 : Index := Scalar.indexCast v127
  ![2, 32, v1256.toNat]
def k0_off205 (k0_t2 : Fin k0_t2_loop.trips) : Fin 3 → Nat :=
  let c2_311 : Index := 2#32
  let c40_312 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1267 : Index := Scalar.indexCast v127
  ![2, 40, v1267.toNat]
def k0_off206 (k0_t2 : Fin k0_t2_loop.trips) : Fin 3 → Nat :=
  let c2_313 : Index := 2#32
  let c48_314 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1278 : Index := Scalar.indexCast v127
  ![2, 48, v1278.toNat]
def k0_off207 (k0_t2 : Fin k0_t2_loop.trips) : Fin 3 → Nat :=
  let c2_315 : Index := 2#32
  let c56_316 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1289 : Index := Scalar.indexCast v127
  ![2, 56, v1289.toNat]
def k0_off208 (k0_t2 : Fin k0_t2_loop.trips) : Fin 3 → Nat :=
  let c2_317 : Index := 2#32
  let c64_318 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1300 : Index := Scalar.indexCast v127
  ![2, 64, v1300.toNat]
def k0_off209 (k0_t2 : Fin k0_t2_loop.trips) : Fin 3 → Nat :=
  let c2_319 : Index := 2#32
  let c72_320 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1311 : Index := Scalar.indexCast v127
  ![2, 72, v1311.toNat]
def k0_off210 (k0_t2 : Fin k0_t2_loop.trips) : Fin 3 → Nat :=
  let c2_321 : Index := 2#32
  let c80_322 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1322 : Index := Scalar.indexCast v127
  ![2, 80, v1322.toNat]
def k0_off211 (k0_t2 : Fin k0_t2_loop.trips) : Fin 3 → Nat :=
  let c2_323 : Index := 2#32
  let c88_324 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1333 : Index := Scalar.indexCast v127
  ![2, 88, v1333.toNat]
def k0_off212 (k0_t2 : Fin k0_t2_loop.trips) : Fin 3 → Nat :=
  let c2_325 : Index := 2#32
  let c96_326 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1344 : Index := Scalar.indexCast v127
  ![2, 96, v1344.toNat]
def k0_off213 (k0_t2 : Fin k0_t2_loop.trips) : Fin 3 → Nat :=
  let c2_327 : Index := 2#32
  let c104_328 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1355 : Index := Scalar.indexCast v127
  ![2, 104, v1355.toNat]
def k0_off214 (k0_t2 : Fin k0_t2_loop.trips) : Fin 3 → Nat :=
  let c2_329 : Index := 2#32
  let c112_330 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1366 : Index := Scalar.indexCast v127
  ![2, 112, v1366.toNat]
def k0_off215 (k0_t2 : Fin k0_t2_loop.trips) : Fin 3 → Nat :=
  let c2_331 : Index := 2#32
  let c120_332 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1377 : Index := Scalar.indexCast v127
  ![2, 120, v1377.toNat]
def k0_off216 (k0_t2 : Fin k0_t2_loop.trips) : Fin 3 → Nat :=
  let c2_333 : Index := 2#32
  let c128_334 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1388 : Index := Scalar.indexCast v127
  ![2, 128, v1388.toNat]
def k0_off217 (k0_t2 : Fin k0_t2_loop.trips) : Fin 3 → Nat :=
  let c2_335 : Index := 2#32
  let c136_336 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1399 : Index := Scalar.indexCast v127
  ![2, 136, v1399.toNat]
def k0_off218 (k0_t2 : Fin k0_t2_loop.trips) : Fin 3 → Nat :=
  let c2_337 : Index := 2#32
  let c144_338 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1410 : Index := Scalar.indexCast v127
  ![2, 144, v1410.toNat]
def k0_off219 (k0_t2 : Fin k0_t2_loop.trips) : Fin 3 → Nat :=
  let c2_339 : Index := 2#32
  let c152_340 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1421 : Index := Scalar.indexCast v127
  ![2, 152, v1421.toNat]
def k0_off220 (k0_t2 : Fin k0_t2_loop.trips) : Fin 3 → Nat :=
  let c2_341 : Index := 2#32
  let c160_342 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1432 : Index := Scalar.indexCast v127
  ![2, 160, v1432.toNat]
def k0_off221 (k0_t2 : Fin k0_t2_loop.trips) : Fin 3 → Nat :=
  let c2_343 : Index := 2#32
  let c168_344 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1443 : Index := Scalar.indexCast v127
  ![2, 168, v1443.toNat]
def k0_off222 (k0_t2 : Fin k0_t2_loop.trips) : Fin 3 → Nat :=
  let c2_345 : Index := 2#32
  let c176_346 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1454 : Index := Scalar.indexCast v127
  ![2, 176, v1454.toNat]
def k0_off223 (k0_t2 : Fin k0_t2_loop.trips) : Fin 3 → Nat :=
  let c2_347 : Index := 2#32
  let c184_348 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1465 : Index := Scalar.indexCast v127
  ![2, 184, v1465.toNat]
def k0_off224 (k0_t2 : Fin k0_t2_loop.trips) : Fin 3 → Nat :=
  let c2_349 : Index := 2#32
  let c192_350 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1476 : Index := Scalar.indexCast v127
  ![2, 192, v1476.toNat]
def k0_off225 (k0_t2 : Fin k0_t2_loop.trips) : Fin 3 → Nat :=
  let c2_351 : Index := 2#32
  let c200_352 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1487 : Index := Scalar.indexCast v127
  ![2, 200, v1487.toNat]
def k0_off226 (k0_t2 : Fin k0_t2_loop.trips) : Fin 3 → Nat :=
  let c2_353 : Index := 2#32
  let c208_354 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1498 : Index := Scalar.indexCast v127
  ![2, 208, v1498.toNat]
def k0_off227 (k0_t2 : Fin k0_t2_loop.trips) : Fin 3 → Nat :=
  let c2_355 : Index := 2#32
  let c216_356 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1509 : Index := Scalar.indexCast v127
  ![2, 216, v1509.toNat]
def k0_off228 (k0_t2 : Fin k0_t2_loop.trips) : Fin 3 → Nat :=
  let c2_357 : Index := 2#32
  let c224_358 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1520 : Index := Scalar.indexCast v127
  ![2, 224, v1520.toNat]
def k0_off229 (k0_t2 : Fin k0_t2_loop.trips) : Fin 3 → Nat :=
  let c2_359 : Index := 2#32
  let c232_360 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1531 : Index := Scalar.indexCast v127
  ![2, 232, v1531.toNat]
def k0_off230 (k0_t2 : Fin k0_t2_loop.trips) : Fin 3 → Nat :=
  let c2_361 : Index := 2#32
  let c240_362 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1542 : Index := Scalar.indexCast v127
  ![2, 240, v1542.toNat]
def k0_off231 (k0_t2 : Fin k0_t2_loop.trips) : Fin 3 → Nat :=
  let c2_363 : Index := 2#32
  let c248_364 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1553 : Index := Scalar.indexCast v127
  ![2, 248, v1553.toNat]
def k0_off232 (k0_t2 : Fin k0_t2_loop.trips) : Fin 3 → Nat :=
  let c2_365 : Index := 2#32
  let c256_366 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1564 : Index := Scalar.indexCast v127
  ![2, 256, v1564.toNat]
def k0_off233 (k0_t2 : Fin k0_t2_loop.trips) : Fin 3 → Nat :=
  let c2_367 : Index := 2#32
  let c264_368 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1573 : Index := Scalar.indexCast v127
  ![2, 264, v1573.toNat]
def k0_off234 (k0_t2 : Fin k0_t2_loop.trips) : Fin 3 → Nat :=
  let c2_369 : Index := 2#32
  let c272_370 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1580 : Index := Scalar.indexCast v127
  ![2, 272, v1580.toNat]
def k0_off235 (k0_t2 : Fin k0_t2_loop.trips) : Fin 3 → Nat :=
  let c3_379 : Index := 3#32
  let c0_380 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1609 : Index := Scalar.indexCast v127
  ![3, 0, v1609.toNat]
def k0_off236 (k0_t2 : Fin k0_t2_loop.trips) : Fin 3 → Nat :=
  let c3_381 : Index := 3#32
  let c8_382 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1613 : Index := Scalar.indexCast v127
  ![3, 8, v1613.toNat]
def k0_off237 (k0_t2 : Fin k0_t2_loop.trips) : Fin 3 → Nat :=
  let c3_383 : Index := 3#32
  let c16_384 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1619 : Index := Scalar.indexCast v127
  ![3, 16, v1619.toNat]
def k0_off238 (k0_t2 : Fin k0_t2_loop.trips) : Fin 3 → Nat :=
  let c3_385 : Index := 3#32
  let c24_386 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1627 : Index := Scalar.indexCast v127
  ![3, 24, v1627.toNat]
def k0_off239 (k0_t2 : Fin k0_t2_loop.trips) : Fin 3 → Nat :=
  let c3_387 : Index := 3#32
  let c32_388 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1637 : Index := Scalar.indexCast v127
  ![3, 32, v1637.toNat]
def k0_off240 (k0_t2 : Fin k0_t2_loop.trips) : Fin 3 → Nat :=
  let c3_389 : Index := 3#32
  let c40_390 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1648 : Index := Scalar.indexCast v127
  ![3, 40, v1648.toNat]
def k0_off241 (k0_t2 : Fin k0_t2_loop.trips) : Fin 3 → Nat :=
  let c3_391 : Index := 3#32
  let c48_392 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1659 : Index := Scalar.indexCast v127
  ![3, 48, v1659.toNat]
def k0_off242 (k0_t2 : Fin k0_t2_loop.trips) : Fin 3 → Nat :=
  let c3_393 : Index := 3#32
  let c56_394 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1670 : Index := Scalar.indexCast v127
  ![3, 56, v1670.toNat]
def k0_off243 (k0_t2 : Fin k0_t2_loop.trips) : Fin 3 → Nat :=
  let c3_395 : Index := 3#32
  let c64_396 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1681 : Index := Scalar.indexCast v127
  ![3, 64, v1681.toNat]
def k0_off244 (k0_t2 : Fin k0_t2_loop.trips) : Fin 3 → Nat :=
  let c3_397 : Index := 3#32
  let c72_398 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1692 : Index := Scalar.indexCast v127
  ![3, 72, v1692.toNat]
def k0_off245 (k0_t2 : Fin k0_t2_loop.trips) : Fin 3 → Nat :=
  let c3_399 : Index := 3#32
  let c80_400 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1703 : Index := Scalar.indexCast v127
  ![3, 80, v1703.toNat]
def k0_off246 (k0_t2 : Fin k0_t2_loop.trips) : Fin 3 → Nat :=
  let c3_401 : Index := 3#32
  let c88_402 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1714 : Index := Scalar.indexCast v127
  ![3, 88, v1714.toNat]
def k0_off247 (k0_t2 : Fin k0_t2_loop.trips) : Fin 3 → Nat :=
  let c3_403 : Index := 3#32
  let c96_404 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1725 : Index := Scalar.indexCast v127
  ![3, 96, v1725.toNat]
def k0_off248 (k0_t2 : Fin k0_t2_loop.trips) : Fin 3 → Nat :=
  let c3_405 : Index := 3#32
  let c104_406 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1736 : Index := Scalar.indexCast v127
  ![3, 104, v1736.toNat]
def k0_off249 (k0_t2 : Fin k0_t2_loop.trips) : Fin 3 → Nat :=
  let c3_407 : Index := 3#32
  let c112_408 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1747 : Index := Scalar.indexCast v127
  ![3, 112, v1747.toNat]
def k0_off250 (k0_t2 : Fin k0_t2_loop.trips) : Fin 3 → Nat :=
  let c3_409 : Index := 3#32
  let c120_410 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1758 : Index := Scalar.indexCast v127
  ![3, 120, v1758.toNat]
def k0_off251 (k0_t2 : Fin k0_t2_loop.trips) : Fin 3 → Nat :=
  let c3_411 : Index := 3#32
  let c128_412 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1769 : Index := Scalar.indexCast v127
  ![3, 128, v1769.toNat]
def k0_off252 (k0_t2 : Fin k0_t2_loop.trips) : Fin 3 → Nat :=
  let c3_413 : Index := 3#32
  let c136_414 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1780 : Index := Scalar.indexCast v127
  ![3, 136, v1780.toNat]
def k0_off253 (k0_t2 : Fin k0_t2_loop.trips) : Fin 3 → Nat :=
  let c3_415 : Index := 3#32
  let c144_416 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1791 : Index := Scalar.indexCast v127
  ![3, 144, v1791.toNat]
def k0_off254 (k0_t2 : Fin k0_t2_loop.trips) : Fin 3 → Nat :=
  let c3_417 : Index := 3#32
  let c152_418 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1802 : Index := Scalar.indexCast v127
  ![3, 152, v1802.toNat]
def k0_off255 (k0_t2 : Fin k0_t2_loop.trips) : Fin 3 → Nat :=
  let c3_419 : Index := 3#32
  let c160_420 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1813 : Index := Scalar.indexCast v127
  ![3, 160, v1813.toNat]
def k0_off256 (k0_t2 : Fin k0_t2_loop.trips) : Fin 3 → Nat :=
  let c3_421 : Index := 3#32
  let c168_422 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1824 : Index := Scalar.indexCast v127
  ![3, 168, v1824.toNat]
def k0_off257 (k0_t2 : Fin k0_t2_loop.trips) : Fin 3 → Nat :=
  let c3_423 : Index := 3#32
  let c176_424 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1835 : Index := Scalar.indexCast v127
  ![3, 176, v1835.toNat]
def k0_off258 (k0_t2 : Fin k0_t2_loop.trips) : Fin 3 → Nat :=
  let c3_425 : Index := 3#32
  let c184_426 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1846 : Index := Scalar.indexCast v127
  ![3, 184, v1846.toNat]
def k0_off259 (k0_t2 : Fin k0_t2_loop.trips) : Fin 3 → Nat :=
  let c3_427 : Index := 3#32
  let c192_428 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1857 : Index := Scalar.indexCast v127
  ![3, 192, v1857.toNat]
def k0_off260 (k0_t2 : Fin k0_t2_loop.trips) : Fin 3 → Nat :=
  let c3_429 : Index := 3#32
  let c200_430 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1868 : Index := Scalar.indexCast v127
  ![3, 200, v1868.toNat]
def k0_off261 (k0_t2 : Fin k0_t2_loop.trips) : Fin 3 → Nat :=
  let c3_431 : Index := 3#32
  let c208_432 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1879 : Index := Scalar.indexCast v127
  ![3, 208, v1879.toNat]
def k0_off262 (k0_t2 : Fin k0_t2_loop.trips) : Fin 3 → Nat :=
  let c3_433 : Index := 3#32
  let c216_434 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1890 : Index := Scalar.indexCast v127
  ![3, 216, v1890.toNat]
def k0_off263 (k0_t2 : Fin k0_t2_loop.trips) : Fin 3 → Nat :=
  let c3_435 : Index := 3#32
  let c224_436 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1901 : Index := Scalar.indexCast v127
  ![3, 224, v1901.toNat]
def k0_off264 (k0_t2 : Fin k0_t2_loop.trips) : Fin 3 → Nat :=
  let c3_437 : Index := 3#32
  let c232_438 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1912 : Index := Scalar.indexCast v127
  ![3, 232, v1912.toNat]
def k0_off265 (k0_t2 : Fin k0_t2_loop.trips) : Fin 3 → Nat :=
  let c3_439 : Index := 3#32
  let c240_440 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1923 : Index := Scalar.indexCast v127
  ![3, 240, v1923.toNat]
def k0_off266 (k0_t2 : Fin k0_t2_loop.trips) : Fin 3 → Nat :=
  let c3_441 : Index := 3#32
  let c248_442 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1934 : Index := Scalar.indexCast v127
  ![3, 248, v1934.toNat]
def k0_off267 (k0_t2 : Fin k0_t2_loop.trips) : Fin 3 → Nat :=
  let c3_443 : Index := 3#32
  let c256_444 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1945 : Index := Scalar.indexCast v127
  ![3, 256, v1945.toNat]
def k0_off268 (k0_t2 : Fin k0_t2_loop.trips) : Fin 3 → Nat :=
  let c3_445 : Index := 3#32
  let c264_446 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1954 : Index := Scalar.indexCast v127
  ![3, 264, v1954.toNat]
def k0_off269 (k0_t2 : Fin k0_t2_loop.trips) : Fin 3 → Nat :=
  let c3_447 : Index := 3#32
  let c272_448 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1961 : Index := Scalar.indexCast v127
  ![3, 272, v1961.toNat]
def k0_off270 (k0_t2 : Fin k0_t2_loop.trips) : Fin 3 → Nat :=
  let c4_457 : Index := 4#32
  let c0_458 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1990 : Index := Scalar.indexCast v127
  ![4, 0, v1990.toNat]
def k0_off271 (k0_t2 : Fin k0_t2_loop.trips) : Fin 3 → Nat :=
  let c4_459 : Index := 4#32
  let c8_460 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v1994 : Index := Scalar.indexCast v127
  ![4, 8, v1994.toNat]
def k0_off272 (k0_t2 : Fin k0_t2_loop.trips) : Fin 3 → Nat :=
  let c4_461 : Index := 4#32
  let c16_462 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2000 : Index := Scalar.indexCast v127
  ![4, 16, v2000.toNat]
def k0_off273 (k0_t2 : Fin k0_t2_loop.trips) : Fin 3 → Nat :=
  let c4_463 : Index := 4#32
  let c24_464 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2008 : Index := Scalar.indexCast v127
  ![4, 24, v2008.toNat]
def k0_off274 (k0_t2 : Fin k0_t2_loop.trips) : Fin 3 → Nat :=
  let c4_465 : Index := 4#32
  let c32_466 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2018 : Index := Scalar.indexCast v127
  ![4, 32, v2018.toNat]
def k0_off275 (k0_t2 : Fin k0_t2_loop.trips) : Fin 3 → Nat :=
  let c4_467 : Index := 4#32
  let c40_468 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2029 : Index := Scalar.indexCast v127
  ![4, 40, v2029.toNat]
def k0_off276 (k0_t2 : Fin k0_t2_loop.trips) : Fin 3 → Nat :=
  let c4_469 : Index := 4#32
  let c48_470 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2040 : Index := Scalar.indexCast v127
  ![4, 48, v2040.toNat]
def k0_off277 (k0_t2 : Fin k0_t2_loop.trips) : Fin 3 → Nat :=
  let c4_471 : Index := 4#32
  let c56_472 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2051 : Index := Scalar.indexCast v127
  ![4, 56, v2051.toNat]
def k0_off278 (k0_t2 : Fin k0_t2_loop.trips) : Fin 3 → Nat :=
  let c4_473 : Index := 4#32
  let c64_474 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2062 : Index := Scalar.indexCast v127
  ![4, 64, v2062.toNat]
def k0_off279 (k0_t2 : Fin k0_t2_loop.trips) : Fin 3 → Nat :=
  let c4_475 : Index := 4#32
  let c72_476 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2073 : Index := Scalar.indexCast v127
  ![4, 72, v2073.toNat]
def k0_off280 (k0_t2 : Fin k0_t2_loop.trips) : Fin 3 → Nat :=
  let c4_477 : Index := 4#32
  let c80_478 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2084 : Index := Scalar.indexCast v127
  ![4, 80, v2084.toNat]
def k0_off281 (k0_t2 : Fin k0_t2_loop.trips) : Fin 3 → Nat :=
  let c4_479 : Index := 4#32
  let c88_480 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2095 : Index := Scalar.indexCast v127
  ![4, 88, v2095.toNat]
def k0_off282 (k0_t2 : Fin k0_t2_loop.trips) : Fin 3 → Nat :=
  let c4_481 : Index := 4#32
  let c96_482 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2106 : Index := Scalar.indexCast v127
  ![4, 96, v2106.toNat]
def k0_off283 (k0_t2 : Fin k0_t2_loop.trips) : Fin 3 → Nat :=
  let c4_483 : Index := 4#32
  let c104_484 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2117 : Index := Scalar.indexCast v127
  ![4, 104, v2117.toNat]
def k0_off284 (k0_t2 : Fin k0_t2_loop.trips) : Fin 3 → Nat :=
  let c4_485 : Index := 4#32
  let c112_486 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2128 : Index := Scalar.indexCast v127
  ![4, 112, v2128.toNat]
def k0_off285 (k0_t2 : Fin k0_t2_loop.trips) : Fin 3 → Nat :=
  let c4_487 : Index := 4#32
  let c120_488 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2139 : Index := Scalar.indexCast v127
  ![4, 120, v2139.toNat]
def k0_off286 (k0_t2 : Fin k0_t2_loop.trips) : Fin 3 → Nat :=
  let c4_489 : Index := 4#32
  let c128_490 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2150 : Index := Scalar.indexCast v127
  ![4, 128, v2150.toNat]
def k0_off287 (k0_t2 : Fin k0_t2_loop.trips) : Fin 3 → Nat :=
  let c4_491 : Index := 4#32
  let c136_492 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2161 : Index := Scalar.indexCast v127
  ![4, 136, v2161.toNat]
def k0_off288 (k0_t2 : Fin k0_t2_loop.trips) : Fin 3 → Nat :=
  let c4_493 : Index := 4#32
  let c144_494 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2172 : Index := Scalar.indexCast v127
  ![4, 144, v2172.toNat]
def k0_off289 (k0_t2 : Fin k0_t2_loop.trips) : Fin 3 → Nat :=
  let c4_495 : Index := 4#32
  let c152_496 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2183 : Index := Scalar.indexCast v127
  ![4, 152, v2183.toNat]
def k0_off290 (k0_t2 : Fin k0_t2_loop.trips) : Fin 3 → Nat :=
  let c4_497 : Index := 4#32
  let c160_498 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2194 : Index := Scalar.indexCast v127
  ![4, 160, v2194.toNat]
def k0_off291 (k0_t2 : Fin k0_t2_loop.trips) : Fin 3 → Nat :=
  let c4_499 : Index := 4#32
  let c168_500 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2205 : Index := Scalar.indexCast v127
  ![4, 168, v2205.toNat]
def k0_off292 (k0_t2 : Fin k0_t2_loop.trips) : Fin 3 → Nat :=
  let c4_501 : Index := 4#32
  let c176_502 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2216 : Index := Scalar.indexCast v127
  ![4, 176, v2216.toNat]
def k0_off293 (k0_t2 : Fin k0_t2_loop.trips) : Fin 3 → Nat :=
  let c4_503 : Index := 4#32
  let c184_504 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2227 : Index := Scalar.indexCast v127
  ![4, 184, v2227.toNat]
def k0_off294 (k0_t2 : Fin k0_t2_loop.trips) : Fin 3 → Nat :=
  let c4_505 : Index := 4#32
  let c192_506 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2238 : Index := Scalar.indexCast v127
  ![4, 192, v2238.toNat]
def k0_off295 (k0_t2 : Fin k0_t2_loop.trips) : Fin 3 → Nat :=
  let c4_507 : Index := 4#32
  let c200_508 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2249 : Index := Scalar.indexCast v127
  ![4, 200, v2249.toNat]
def k0_off296 (k0_t2 : Fin k0_t2_loop.trips) : Fin 3 → Nat :=
  let c4_509 : Index := 4#32
  let c208_510 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2260 : Index := Scalar.indexCast v127
  ![4, 208, v2260.toNat]
def k0_off297 (k0_t2 : Fin k0_t2_loop.trips) : Fin 3 → Nat :=
  let c4_511 : Index := 4#32
  let c216_512 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2271 : Index := Scalar.indexCast v127
  ![4, 216, v2271.toNat]
def k0_off298 (k0_t2 : Fin k0_t2_loop.trips) : Fin 3 → Nat :=
  let c4_513 : Index := 4#32
  let c224_514 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2282 : Index := Scalar.indexCast v127
  ![4, 224, v2282.toNat]
def k0_off299 (k0_t2 : Fin k0_t2_loop.trips) : Fin 3 → Nat :=
  let c4_515 : Index := 4#32
  let c232_516 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2293 : Index := Scalar.indexCast v127
  ![4, 232, v2293.toNat]
def k0_off300 (k0_t2 : Fin k0_t2_loop.trips) : Fin 3 → Nat :=
  let c4_517 : Index := 4#32
  let c240_518 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2304 : Index := Scalar.indexCast v127
  ![4, 240, v2304.toNat]
def k0_off301 (k0_t2 : Fin k0_t2_loop.trips) : Fin 3 → Nat :=
  let c4_519 : Index := 4#32
  let c248_520 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2315 : Index := Scalar.indexCast v127
  ![4, 248, v2315.toNat]
def k0_off302 (k0_t2 : Fin k0_t2_loop.trips) : Fin 3 → Nat :=
  let c4_521 : Index := 4#32
  let c256_522 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2326 : Index := Scalar.indexCast v127
  ![4, 256, v2326.toNat]
def k0_off303 (k0_t2 : Fin k0_t2_loop.trips) : Fin 3 → Nat :=
  let c4_523 : Index := 4#32
  let c264_524 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2335 : Index := Scalar.indexCast v127
  ![4, 264, v2335.toNat]
def k0_off304 (k0_t2 : Fin k0_t2_loop.trips) : Fin 3 → Nat :=
  let c4_525 : Index := 4#32
  let c272_526 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2342 : Index := Scalar.indexCast v127
  ![4, 272, v2342.toNat]
def k0_off305 (k0_t2 : Fin k0_t2_loop.trips) : Fin 3 → Nat :=
  let c5_535 : Index := 5#32
  let c0_536 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2371 : Index := Scalar.indexCast v127
  ![5, 0, v2371.toNat]
def k0_off306 (k0_t2 : Fin k0_t2_loop.trips) : Fin 3 → Nat :=
  let c5_537 : Index := 5#32
  let c8_538 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2375 : Index := Scalar.indexCast v127
  ![5, 8, v2375.toNat]
def k0_off307 (k0_t2 : Fin k0_t2_loop.trips) : Fin 3 → Nat :=
  let c5_539 : Index := 5#32
  let c16_540 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2381 : Index := Scalar.indexCast v127
  ![5, 16, v2381.toNat]
def k0_off308 (k0_t2 : Fin k0_t2_loop.trips) : Fin 3 → Nat :=
  let c5_541 : Index := 5#32
  let c24_542 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2389 : Index := Scalar.indexCast v127
  ![5, 24, v2389.toNat]
def k0_off309 (k0_t2 : Fin k0_t2_loop.trips) : Fin 3 → Nat :=
  let c5_543 : Index := 5#32
  let c32_544 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2399 : Index := Scalar.indexCast v127
  ![5, 32, v2399.toNat]
def k0_off310 (k0_t2 : Fin k0_t2_loop.trips) : Fin 3 → Nat :=
  let c5_545 : Index := 5#32
  let c40_546 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2410 : Index := Scalar.indexCast v127
  ![5, 40, v2410.toNat]
def k0_off311 (k0_t2 : Fin k0_t2_loop.trips) : Fin 3 → Nat :=
  let c5_547 : Index := 5#32
  let c48_548 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2421 : Index := Scalar.indexCast v127
  ![5, 48, v2421.toNat]
def k0_off312 (k0_t2 : Fin k0_t2_loop.trips) : Fin 3 → Nat :=
  let c5_549 : Index := 5#32
  let c56_550 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2432 : Index := Scalar.indexCast v127
  ![5, 56, v2432.toNat]
def k0_off313 (k0_t2 : Fin k0_t2_loop.trips) : Fin 3 → Nat :=
  let c5_551 : Index := 5#32
  let c64_552 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2443 : Index := Scalar.indexCast v127
  ![5, 64, v2443.toNat]
def k0_off314 (k0_t2 : Fin k0_t2_loop.trips) : Fin 3 → Nat :=
  let c5_553 : Index := 5#32
  let c72_554 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2454 : Index := Scalar.indexCast v127
  ![5, 72, v2454.toNat]
def k0_off315 (k0_t2 : Fin k0_t2_loop.trips) : Fin 3 → Nat :=
  let c5_555 : Index := 5#32
  let c80_556 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2465 : Index := Scalar.indexCast v127
  ![5, 80, v2465.toNat]
def k0_off316 (k0_t2 : Fin k0_t2_loop.trips) : Fin 3 → Nat :=
  let c5_557 : Index := 5#32
  let c88_558 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2476 : Index := Scalar.indexCast v127
  ![5, 88, v2476.toNat]
def k0_off317 (k0_t2 : Fin k0_t2_loop.trips) : Fin 3 → Nat :=
  let c5_559 : Index := 5#32
  let c96_560 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2487 : Index := Scalar.indexCast v127
  ![5, 96, v2487.toNat]
def k0_off318 (k0_t2 : Fin k0_t2_loop.trips) : Fin 3 → Nat :=
  let c5_561 : Index := 5#32
  let c104_562 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2498 : Index := Scalar.indexCast v127
  ![5, 104, v2498.toNat]
def k0_off319 (k0_t2 : Fin k0_t2_loop.trips) : Fin 3 → Nat :=
  let c5_563 : Index := 5#32
  let c112_564 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2509 : Index := Scalar.indexCast v127
  ![5, 112, v2509.toNat]
def k0_off320 (k0_t2 : Fin k0_t2_loop.trips) : Fin 3 → Nat :=
  let c5_565 : Index := 5#32
  let c120_566 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2520 : Index := Scalar.indexCast v127
  ![5, 120, v2520.toNat]
def k0_off321 (k0_t2 : Fin k0_t2_loop.trips) : Fin 3 → Nat :=
  let c5_567 : Index := 5#32
  let c128_568 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2531 : Index := Scalar.indexCast v127
  ![5, 128, v2531.toNat]
def k0_off322 (k0_t2 : Fin k0_t2_loop.trips) : Fin 3 → Nat :=
  let c5_569 : Index := 5#32
  let c136_570 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2542 : Index := Scalar.indexCast v127
  ![5, 136, v2542.toNat]
def k0_off323 (k0_t2 : Fin k0_t2_loop.trips) : Fin 3 → Nat :=
  let c5_571 : Index := 5#32
  let c144_572 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2553 : Index := Scalar.indexCast v127
  ![5, 144, v2553.toNat]
def k0_off324 (k0_t2 : Fin k0_t2_loop.trips) : Fin 3 → Nat :=
  let c5_573 : Index := 5#32
  let c152_574 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2564 : Index := Scalar.indexCast v127
  ![5, 152, v2564.toNat]
def k0_off325 (k0_t2 : Fin k0_t2_loop.trips) : Fin 3 → Nat :=
  let c5_575 : Index := 5#32
  let c160_576 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2575 : Index := Scalar.indexCast v127
  ![5, 160, v2575.toNat]
def k0_off326 (k0_t2 : Fin k0_t2_loop.trips) : Fin 3 → Nat :=
  let c5_577 : Index := 5#32
  let c168_578 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2586 : Index := Scalar.indexCast v127
  ![5, 168, v2586.toNat]
def k0_off327 (k0_t2 : Fin k0_t2_loop.trips) : Fin 3 → Nat :=
  let c5_579 : Index := 5#32
  let c176_580 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2597 : Index := Scalar.indexCast v127
  ![5, 176, v2597.toNat]
def k0_off328 (k0_t2 : Fin k0_t2_loop.trips) : Fin 3 → Nat :=
  let c5_581 : Index := 5#32
  let c184_582 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2608 : Index := Scalar.indexCast v127
  ![5, 184, v2608.toNat]
def k0_off329 (k0_t2 : Fin k0_t2_loop.trips) : Fin 3 → Nat :=
  let c5_583 : Index := 5#32
  let c192_584 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2619 : Index := Scalar.indexCast v127
  ![5, 192, v2619.toNat]
def k0_off330 (k0_t2 : Fin k0_t2_loop.trips) : Fin 3 → Nat :=
  let c5_585 : Index := 5#32
  let c200_586 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2630 : Index := Scalar.indexCast v127
  ![5, 200, v2630.toNat]
def k0_off331 (k0_t2 : Fin k0_t2_loop.trips) : Fin 3 → Nat :=
  let c5_587 : Index := 5#32
  let c208_588 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2641 : Index := Scalar.indexCast v127
  ![5, 208, v2641.toNat]
def k0_off332 (k0_t2 : Fin k0_t2_loop.trips) : Fin 3 → Nat :=
  let c5_589 : Index := 5#32
  let c216_590 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2652 : Index := Scalar.indexCast v127
  ![5, 216, v2652.toNat]
def k0_off333 (k0_t2 : Fin k0_t2_loop.trips) : Fin 3 → Nat :=
  let c5_591 : Index := 5#32
  let c224_592 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2663 : Index := Scalar.indexCast v127
  ![5, 224, v2663.toNat]
def k0_off334 (k0_t2 : Fin k0_t2_loop.trips) : Fin 3 → Nat :=
  let c5_593 : Index := 5#32
  let c232_594 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2674 : Index := Scalar.indexCast v127
  ![5, 232, v2674.toNat]
def k0_off335 (k0_t2 : Fin k0_t2_loop.trips) : Fin 3 → Nat :=
  let c5_595 : Index := 5#32
  let c240_596 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2685 : Index := Scalar.indexCast v127
  ![5, 240, v2685.toNat]
def k0_off336 (k0_t2 : Fin k0_t2_loop.trips) : Fin 3 → Nat :=
  let c5_597 : Index := 5#32
  let c248_598 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2696 : Index := Scalar.indexCast v127
  ![5, 248, v2696.toNat]
def k0_off337 (k0_t2 : Fin k0_t2_loop.trips) : Fin 3 → Nat :=
  let c5_599 : Index := 5#32
  let c256_600 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2707 : Index := Scalar.indexCast v127
  ![5, 256, v2707.toNat]
def k0_off338 (k0_t2 : Fin k0_t2_loop.trips) : Fin 3 → Nat :=
  let c5_601 : Index := 5#32
  let c264_602 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2716 : Index := Scalar.indexCast v127
  ![5, 264, v2716.toNat]
def k0_off339 (k0_t2 : Fin k0_t2_loop.trips) : Fin 3 → Nat :=
  let c5_603 : Index := 5#32
  let c272_604 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2723 : Index := Scalar.indexCast v127
  ![5, 272, v2723.toNat]
def k0_off340 (k0_t2 : Fin k0_t2_loop.trips) : Fin 3 → Nat :=
  let c6_613 : Index := 6#32
  let c0_614 : Index := 0#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2752 : Index := Scalar.indexCast v127
  ![6, 0, v2752.toNat]
def k0_off341 (k0_t2 : Fin k0_t2_loop.trips) : Fin 3 → Nat :=
  let c6_615 : Index := 6#32
  let c8_616 : Index := 8#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2756 : Index := Scalar.indexCast v127
  ![6, 8, v2756.toNat]
def k0_off342 (k0_t2 : Fin k0_t2_loop.trips) : Fin 3 → Nat :=
  let c6_617 : Index := 6#32
  let c16_618 : Index := 16#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2762 : Index := Scalar.indexCast v127
  ![6, 16, v2762.toNat]
def k0_off343 (k0_t2 : Fin k0_t2_loop.trips) : Fin 3 → Nat :=
  let c6_619 : Index := 6#32
  let c24_620 : Index := 24#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2770 : Index := Scalar.indexCast v127
  ![6, 24, v2770.toNat]
def k0_off344 (k0_t2 : Fin k0_t2_loop.trips) : Fin 3 → Nat :=
  let c6_621 : Index := 6#32
  let c32_622 : Index := 32#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2780 : Index := Scalar.indexCast v127
  ![6, 32, v2780.toNat]
def k0_off345 (k0_t2 : Fin k0_t2_loop.trips) : Fin 3 → Nat :=
  let c6_623 : Index := 6#32
  let c40_624 : Index := 40#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2791 : Index := Scalar.indexCast v127
  ![6, 40, v2791.toNat]
def k0_off346 (k0_t2 : Fin k0_t2_loop.trips) : Fin 3 → Nat :=
  let c6_625 : Index := 6#32
  let c48_626 : Index := 48#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2802 : Index := Scalar.indexCast v127
  ![6, 48, v2802.toNat]
def k0_off347 (k0_t2 : Fin k0_t2_loop.trips) : Fin 3 → Nat :=
  let c6_627 : Index := 6#32
  let c56_628 : Index := 56#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2813 : Index := Scalar.indexCast v127
  ![6, 56, v2813.toNat]
def k0_off348 (k0_t2 : Fin k0_t2_loop.trips) : Fin 3 → Nat :=
  let c6_629 : Index := 6#32
  let c64_630 : Index := 64#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2824 : Index := Scalar.indexCast v127
  ![6, 64, v2824.toNat]
def k0_off349 (k0_t2 : Fin k0_t2_loop.trips) : Fin 3 → Nat :=
  let c6_631 : Index := 6#32
  let c72_632 : Index := 72#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2835 : Index := Scalar.indexCast v127
  ![6, 72, v2835.toNat]
def k0_off350 (k0_t2 : Fin k0_t2_loop.trips) : Fin 3 → Nat :=
  let c6_633 : Index := 6#32
  let c80_634 : Index := 80#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2846 : Index := Scalar.indexCast v127
  ![6, 80, v2846.toNat]
def k0_off351 (k0_t2 : Fin k0_t2_loop.trips) : Fin 3 → Nat :=
  let c6_635 : Index := 6#32
  let c88_636 : Index := 88#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2857 : Index := Scalar.indexCast v127
  ![6, 88, v2857.toNat]
def k0_off352 (k0_t2 : Fin k0_t2_loop.trips) : Fin 3 → Nat :=
  let c6_637 : Index := 6#32
  let c96_638 : Index := 96#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2868 : Index := Scalar.indexCast v127
  ![6, 96, v2868.toNat]
def k0_off353 (k0_t2 : Fin k0_t2_loop.trips) : Fin 3 → Nat :=
  let c6_639 : Index := 6#32
  let c104_640 : Index := 104#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2879 : Index := Scalar.indexCast v127
  ![6, 104, v2879.toNat]
def k0_off354 (k0_t2 : Fin k0_t2_loop.trips) : Fin 3 → Nat :=
  let c6_641 : Index := 6#32
  let c112_642 : Index := 112#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2890 : Index := Scalar.indexCast v127
  ![6, 112, v2890.toNat]
def k0_off355 (k0_t2 : Fin k0_t2_loop.trips) : Fin 3 → Nat :=
  let c6_643 : Index := 6#32
  let c120_644 : Index := 120#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2901 : Index := Scalar.indexCast v127
  ![6, 120, v2901.toNat]
def k0_off356 (k0_t2 : Fin k0_t2_loop.trips) : Fin 3 → Nat :=
  let c6_645 : Index := 6#32
  let c128_646 : Index := 128#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2912 : Index := Scalar.indexCast v127
  ![6, 128, v2912.toNat]
def k0_off357 (k0_t2 : Fin k0_t2_loop.trips) : Fin 3 → Nat :=
  let c6_647 : Index := 6#32
  let c136_648 : Index := 136#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2923 : Index := Scalar.indexCast v127
  ![6, 136, v2923.toNat]
def k0_off358 (k0_t2 : Fin k0_t2_loop.trips) : Fin 3 → Nat :=
  let c6_649 : Index := 6#32
  let c144_650 : Index := 144#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2934 : Index := Scalar.indexCast v127
  ![6, 144, v2934.toNat]
def k0_off359 (k0_t2 : Fin k0_t2_loop.trips) : Fin 3 → Nat :=
  let c6_651 : Index := 6#32
  let c152_652 : Index := 152#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2945 : Index := Scalar.indexCast v127
  ![6, 152, v2945.toNat]
def k0_off360 (k0_t2 : Fin k0_t2_loop.trips) : Fin 3 → Nat :=
  let c6_653 : Index := 6#32
  let c160_654 : Index := 160#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2956 : Index := Scalar.indexCast v127
  ![6, 160, v2956.toNat]
def k0_off361 (k0_t2 : Fin k0_t2_loop.trips) : Fin 3 → Nat :=
  let c6_655 : Index := 6#32
  let c168_656 : Index := 168#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2967 : Index := Scalar.indexCast v127
  ![6, 168, v2967.toNat]
def k0_off362 (k0_t2 : Fin k0_t2_loop.trips) : Fin 3 → Nat :=
  let c6_657 : Index := 6#32
  let c176_658 : Index := 176#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2978 : Index := Scalar.indexCast v127
  ![6, 176, v2978.toNat]
def k0_off363 (k0_t2 : Fin k0_t2_loop.trips) : Fin 3 → Nat :=
  let c6_659 : Index := 6#32
  let c184_660 : Index := 184#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v2989 : Index := Scalar.indexCast v127
  ![6, 184, v2989.toNat]
def k0_off364 (k0_t2 : Fin k0_t2_loop.trips) : Fin 3 → Nat :=
  let c6_661 : Index := 6#32
  let c192_662 : Index := 192#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3000 : Index := Scalar.indexCast v127
  ![6, 192, v3000.toNat]
def k0_off365 (k0_t2 : Fin k0_t2_loop.trips) : Fin 3 → Nat :=
  let c6_663 : Index := 6#32
  let c200_664 : Index := 200#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3011 : Index := Scalar.indexCast v127
  ![6, 200, v3011.toNat]
def k0_off366 (k0_t2 : Fin k0_t2_loop.trips) : Fin 3 → Nat :=
  let c6_665 : Index := 6#32
  let c208_666 : Index := 208#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3022 : Index := Scalar.indexCast v127
  ![6, 208, v3022.toNat]
def k0_off367 (k0_t2 : Fin k0_t2_loop.trips) : Fin 3 → Nat :=
  let c6_667 : Index := 6#32
  let c216_668 : Index := 216#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3033 : Index := Scalar.indexCast v127
  ![6, 216, v3033.toNat]
def k0_off368 (k0_t2 : Fin k0_t2_loop.trips) : Fin 3 → Nat :=
  let c6_669 : Index := 6#32
  let c224_670 : Index := 224#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3044 : Index := Scalar.indexCast v127
  ![6, 224, v3044.toNat]
def k0_off369 (k0_t2 : Fin k0_t2_loop.trips) : Fin 3 → Nat :=
  let c6_671 : Index := 6#32
  let c232_672 : Index := 232#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3055 : Index := Scalar.indexCast v127
  ![6, 232, v3055.toNat]
def k0_off370 (k0_t2 : Fin k0_t2_loop.trips) : Fin 3 → Nat :=
  let c6_673 : Index := 6#32
  let c240_674 : Index := 240#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3066 : Index := Scalar.indexCast v127
  ![6, 240, v3066.toNat]
def k0_off371 (k0_t2 : Fin k0_t2_loop.trips) : Fin 3 → Nat :=
  let c6_675 : Index := 6#32
  let c248_676 : Index := 248#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3077 : Index := Scalar.indexCast v127
  ![6, 248, v3077.toNat]
def k0_off372 (k0_t2 : Fin k0_t2_loop.trips) : Fin 3 → Nat :=
  let c6_677 : Index := 6#32
  let c256_678 : Index := 256#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3088 : Index := Scalar.indexCast v127
  ![6, 256, v3088.toNat]
def k0_off373 (k0_t2 : Fin k0_t2_loop.trips) : Fin 3 → Nat :=
  let c6_679 : Index := 6#32
  let c264_680 : Index := 264#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3097 : Index := Scalar.indexCast v127
  ![6, 264, v3097.toNat]
def k0_off374 (k0_t2 : Fin k0_t2_loop.trips) : Fin 3 → Nat :=
  let c6_681 : Index := 6#32
  let c272_682 : Index := 272#32
  let c0_i32_96 : BitVec 32 := 0#32
  let c1_i32_98 : BitVec 32 := 1#32
  let arg17 : BitVec 32 := Scf.iv c0_i32_96 c1_i32_98 k0_t2
  let c128_i32 : BitVec 32 := 128#32
  let v126 : BitVec 32 := Scalar.muli arg17 c128_i32
  let v127 : BitVec 32 := v126
  let v3104 : Index := Scalar.indexCast v127
  ![6, 272, v3104.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S8192x1024 : Shape := ⟨2, ![8192, 1024]⟩
abbrev S8192x3072 : Shape := ⟨2, ![8192, 3072]⟩
abbrev S31x1024 : Shape := ⟨2, ![31, 1024]⟩
abbrev S1024 : Shape := ⟨1, ![1024]⟩
abbrev S_ : Shape := ⟨0, ![]⟩
abbrev S8192 : Shape := ⟨1, ![8192]⟩
abbrev S1x8192x1 : Shape := ⟨3, ![1, 8192, 1]⟩
abbrev S31 : Shape := ⟨1, ![31]⟩
abbrev S31x1x1 : Shape := ⟨3, ![31, 1, 1]⟩
abbrev S31x8192x1 : Shape := ⟨3, ![31, 8192, 1]⟩
abbrev S1x1x8192 : Shape := ⟨3, ![1, 1, 8192]⟩
abbrev S31x8192x8192 : Shape := ⟨3, ![31, 8192, 8192]⟩
abbrev S31x8192x1024 : Shape := ⟨3, ![31, 8192, 1024]⟩
abbrev S31x1x1024 : Shape := ⟨3, ![31, 1, 1024]⟩
abbrev S1x1024 : Shape := ⟨2, ![1, 1024]⟩
abbrev S1024x8192 : Shape := ⟨2, ![1024, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S31x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192, .i32⟩
  | .hbm, ⟨20, _⟩ => ⟨S1x8192x1, .i32⟩
  | .hbm, ⟨21, _⟩ => ⟨S31, .i32⟩
  | .hbm, ⟨22, _⟩ => ⟨S31x1x1, .i32⟩
  | .hbm, ⟨23, _⟩ => ⟨S31x8192x1, .i32⟩
  | .hbm, ⟨24, _⟩ => ⟨S31x8192x1, .i32⟩
  | .hbm, ⟨25, _⟩ => ⟨S31x8192x1, .i32⟩
  | .hbm, ⟨26, _⟩ => ⟨S_, .i32⟩
  | .hbm, ⟨27, _⟩ => ⟨S31x8192x1, .i32⟩
  | .hbm, ⟨28, _⟩ => ⟨S31x8192x1, .i32⟩
  | .hbm, ⟨29, _⟩ => ⟨S1x1x8192, .i32⟩
  | .hbm, ⟨30, _⟩ => ⟨S31x8192x8192, .i32⟩
  | .hbm, ⟨31, _⟩ => ⟨S31x8192x8192, .i32⟩
  | .hbm, ⟨32, _⟩ => ⟨S31x8192x8192, .i1⟩
  | .hbm, ⟨33, _⟩ => ⟨S31x8192x8192, .f32⟩
  | .hbm, ⟨34, _⟩ => ⟨S31x8192x1024, .f32⟩
  | .hbm, ⟨35, _⟩ => ⟨S31x1x1024, .f32⟩
  | .hbm, ⟨36, _⟩ => ⟨S31x8192x1024, .f32⟩
  | .hbm, ⟨37, _⟩ => ⟨S31x8192x1024, .f32⟩
  | .hbm, ⟨38, _⟩ => ⟨S_, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S31x8192x1024, .f32⟩
  | .hbm, ⟨50, _⟩ => ⟨S31x8192x1024, .f32⟩
  | .hbm, ⟨51, _⟩ => ⟨S_, .f32⟩
  | .hbm, ⟨52, _⟩ => ⟨S31x1024, .f32⟩
  | .hbm, ⟨53, _⟩ => ⟨S31x1x1024, .f32⟩
  | .hbm, ⟨54, _⟩ => ⟨S31x8192x1024, .f32⟩
  | .hbm, ⟨55, _⟩ => ⟨S31x8192x1024, .f32⟩
  | .hbm, ⟨56, _⟩ => ⟨S_, .f32⟩
  | .hbm, ⟨57, _⟩ => ⟨S31x1024, .f32⟩
  | .hbm, ⟨58, _⟩ => ⟨S1024x8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .bf16⟩
  | .hbm, ⟨65, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== ConvFwd.lean ====
abbrev S8192x3072 : Shape := ⟨2, ![8192, 3072]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S8192x1024 : Shape := ⟨2, ![8192, 1024]⟩
abbrev S256x1024 : Shape := ⟨2, ![256, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S1x128 : Shape := ⟨2, ![1, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S8192x3072, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S288x1024, .f32⟩
  | .local _ .vmem, ⟨19, _⟩ => ⟨S7x280x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_44 : BitVec 32 := 0#32
  let c8_i32 : BitVec 32 := 8#32
  let v65 : BitVec 32 := Scalar.addi c0_i32_44 c8_i32
  let c1_i32 : BitVec 32 := 1#32
  ⟨c0_i32_44, v65, c1_i32⟩
def k0_mult1 (k0_t1 : Fin k0_t1_loop.trips) : BitVec 32 :=
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  v114
def k0_off1 (k0_t1 : Fin k0_t1_loop.trips) : Fin 2 → Nat :=
  let c0_67 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v116 : Index := Scalar.indexCast v115
  ![0, v116.toNat]
def k0_off2 (k0_t1 : Fin k0_t1_loop.trips) : Fin 2 → Nat :=
  let c0_68 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v121 : Index := Scalar.indexCast v115
  ![0, v121.toNat]
def k0_off3 (k0_t1 : Fin k0_t1_loop.trips) : Fin 3 → Nat :=
  let c1_69 : Index := 1#32
  let c0_70 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v124 : Index := Scalar.indexCast v115
  ![1, 0, v124.toNat]
def k0_off4 (k0_t1 : Fin k0_t1_loop.trips) : Fin 2 → Nat :=
  let c1_71 : Index := 1#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v130 : Index := Scalar.indexCast v115
  ![1, v130.toNat]
def k0_off5 (k0_t1 : Fin k0_t1_loop.trips) : Fin 3 → Nat :=
  let c2_72 : Index := 2#32
  let c0_73 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v133 : Index := Scalar.indexCast v115
  ![2, 0, v133.toNat]
def k0_off6 (k0_t1 : Fin k0_t1_loop.trips) : Fin 2 → Nat :=
  let c2_74 : Index := 2#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v139 : Index := Scalar.indexCast v115
  ![2, v139.toNat]
def k0_off7 (k0_t1 : Fin k0_t1_loop.trips) : Fin 3 → Nat :=
  let c3_75 : Index := 3#32
  let c0_76 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v142 : Index := Scalar.indexCast v115
  ![3, 0, v142.toNat]
def k0_off8 (k0_t1 : Fin k0_t1_loop.trips) : Fin 2 → Nat :=
  let c3_77 : Index := 3#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v148 : Index := Scalar.indexCast v115
  ![3, v148.toNat]
def k0_off9 (k0_t1 : Fin k0_t1_loop.trips) : Fin 3 → Nat :=
  let c4_78 : Index := 4#32
  let c0_79 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v151 : Index := Scalar.indexCast v115
  ![4, 0, v151.toNat]
def k0_off10 (k0_t1 : Fin k0_t1_loop.trips) : Fin 2 → Nat :=
  let c4_80 : Index := 4#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v157 : Index := Scalar.indexCast v115
  ![4, v157.toNat]
def k0_off11 (k0_t1 : Fin k0_t1_loop.trips) : Fin 3 → Nat :=
  let c5_81 : Index := 5#32
  let c0_82 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v160 : Index := Scalar.indexCast v115
  ![5, 0, v160.toNat]
def k0_off12 (k0_t1 : Fin k0_t1_loop.trips) : Fin 2 → Nat :=
  let c5_83 : Index := 5#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v166 : Index := Scalar.indexCast v115
  ![5, v166.toNat]
def k0_off13 (k0_t1 : Fin k0_t1_loop.trips) : Fin 3 → Nat :=
  let c6_84 : Index := 6#32
  let c0_85 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v169 : Index := Scalar.indexCast v115
  ![6, 0, v169.toNat]
def k0_off14 (k0_t1 : Fin k0_t1_loop.trips) : Fin 2 → Nat :=
  let c6_86 : Index := 6#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v175 : Index := Scalar.indexCast v115
  ![6, v175.toNat]
def k0_off15 (k0_t1 : Fin k0_t1_loop.trips) : Fin 2 → Nat :=
  let c8 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v178 : Index := Scalar.indexCast v115
  ![8, v178.toNat]
def k0_off16 (k0_t1 : Fin k0_t1_loop.trips) : Fin 2 → Nat :=
  let c7_87 : Index := 7#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v183 : Index := Scalar.indexCast v115
  ![7, v183.toNat]
def k0_off17 (k0_t1 : Fin k0_t1_loop.trips) : Fin 3 → Nat :=
  let c0_88 : Index := 0#32
  let c8_89 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v186 : Index := Scalar.indexCast v115
  ![0, 8, v186.toNat]
def k0_off18 (k0_t1 : Fin k0_t1_loop.trips) : Fin 2 → Nat :=
  let c8_90 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v192 : Index := Scalar.indexCast v115
  ![8, v192.toNat]
def k0_off19 (k0_t1 : Fin k0_t1_loop.trips) : Fin 3 → Nat :=
  let c1_91 : Index := 1#32
  let c8_92 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v195 : Index := Scalar.indexCast v115
  ![1, 8, v195.toNat]
def k0_off20 (k0_t1 : Fin k0_t1_loop.trips) : Fin 2 → Nat :=
  let c9 : Index := 9#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v201 : Index := Scalar.indexCast v115
  ![9, v201.toNat]
def k0_off21 (k0_t1 : Fin k0_t1_loop.trips) : Fin 3 → Nat :=
  let c2_93 : Index := 2#32
  let c8_94 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v204 : Index := Scalar.indexCast v115
  ![2, 8, v204.toNat]
def k0_off22 (k0_t1 : Fin k0_t1_loop.trips) : Fin 2 → Nat :=
  let c10 : Index := 10#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v210 : Index := Scalar.indexCast v115
  ![10, v210.toNat]
def k0_off23 (k0_t1 : Fin k0_t1_loop.trips) : Fin 3 → Nat :=
  let c3_95 : Index := 3#32
  let c8_96 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v213 : Index := Scalar.indexCast v115
  ![3, 8, v213.toNat]
def k0_off24 (k0_t1 : Fin k0_t1_loop.trips) : Fin 2 → Nat :=
  let c11 : Index := 11#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v219 : Index := Scalar.indexCast v115
  ![11, v219.toNat]
def k0_off25 (k0_t1 : Fin k0_t1_loop.trips) : Fin 3 → Nat :=
  let c4_97 : Index := 4#32
  let c8_98 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v222 : Index := Scalar.indexCast v115
  ![4, 8, v222.toNat]
def k0_off26 (k0_t1 : Fin k0_t1_loop.trips) : Fin 2 → Nat :=
  let c12 : Index := 12#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v228 : Index := Scalar.indexCast v115
  ![12, v228.toNat]
def k0_off27 (k0_t1 : Fin k0_t1_loop.trips) : Fin 3 → Nat :=
  let c5_99 : Index := 5#32
  let c8_100 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v231 : Index := Scalar.indexCast v115
  ![5, 8, v231.toNat]
def k0_off28 (k0_t1 : Fin k0_t1_loop.trips) : Fin 2 → Nat :=
  let c13 : Index := 13#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v237 : Index := Scalar.indexCast v115
  ![13, v237.toNat]
def k0_off29 (k0_t1 : Fin k0_t1_loop.trips) : Fin 3 → Nat :=
  let c6_101 : Index := 6#32
  let c8_102 : Index := 8#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v240 : Index := Scalar.indexCast v115
  ![6, 8, v240.toNat]
def k0_off30 (k0_t1 : Fin k0_t1_loop.trips) : Fin 2 → Nat :=
  let c14 : Index := 14#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v246 : Index := Scalar.indexCast v115
  ![14, v246.toNat]
def k0_off31 (k0_t1 : Fin k0_t1_loop.trips) : Fin 2 → Nat :=
  let c16 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v249 : Index := Scalar.indexCast v115
  ![16, v249.toNat]
def k0_off32 (k0_t1 : Fin k0_t1_loop.trips) : Fin 2 → Nat :=
  let c15 : Index := 15#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v254 : Index := Scalar.indexCast v115
  ![15, v254.toNat]
def k0_off33 (k0_t1 : Fin k0_t1_loop.trips) : Fin 3 → Nat :=
  let c0_103 : Index := 0#32
  let c16_104 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v257 : Index := Scalar.indexCast v115
  ![0, 16, v257.toNat]
def k0_off34 (k0_t1 : Fin k0_t1_loop.trips) : Fin 2 → Nat :=
  let c16_105 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v263 : Index := Scalar.indexCast v115
  ![16, v263.toNat]
def k0_off35 (k0_t1 : Fin k0_t1_loop.trips) : Fin 3 → Nat :=
  let c1_106 : Index := 1#32
  let c16_107 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v266 : Index := Scalar.indexCast v115
  ![1, 16, v266.toNat]
def k0_off36 (k0_t1 : Fin k0_t1_loop.trips) : Fin 2 → Nat :=
  let c17 : Index := 17#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v272 : Index := Scalar.indexCast v115
  ![17, v272.toNat]
def k0_off37 (k0_t1 : Fin k0_t1_loop.trips) : Fin 3 → Nat :=
  let c2_108 : Index := 2#32
  let c16_109 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v275 : Index := Scalar.indexCast v115
  ![2, 16, v275.toNat]
def k0_off38 (k0_t1 : Fin k0_t1_loop.trips) : Fin 2 → Nat :=
  let c18 : Index := 18#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v281 : Index := Scalar.indexCast v115
  ![18, v281.toNat]
def k0_off39 (k0_t1 : Fin k0_t1_loop.trips) : Fin 3 → Nat :=
  let c3_110 : Index := 3#32
  let c16_111 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v284 : Index := Scalar.indexCast v115
  ![3, 16, v284.toNat]
def k0_off40 (k0_t1 : Fin k0_t1_loop.trips) : Fin 2 → Nat :=
  let c19 : Index := 19#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v290 : Index := Scalar.indexCast v115
  ![19, v290.toNat]
def k0_off41 (k0_t1 : Fin k0_t1_loop.trips) : Fin 3 → Nat :=
  let c4_112 : Index := 4#32
  let c16_113 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v293 : Index := Scalar.indexCast v115
  ![4, 16, v293.toNat]
def k0_off42 (k0_t1 : Fin k0_t1_loop.trips) : Fin 2 → Nat :=
  let c20 : Index := 20#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v299 : Index := Scalar.indexCast v115
  ![20, v299.toNat]
def k0_off43 (k0_t1 : Fin k0_t1_loop.trips) : Fin 3 → Nat :=
  let c5_114 : Index := 5#32
  let c16_115 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v302 : Index := Scalar.indexCast v115
  ![5, 16, v302.toNat]
def k0_off44 (k0_t1 : Fin k0_t1_loop.trips) : Fin 2 → Nat :=
  let c21 : Index := 21#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v308 : Index := Scalar.indexCast v115
  ![21, v308.toNat]
def k0_off45 (k0_t1 : Fin k0_t1_loop.trips) : Fin 3 → Nat :=
  let c6_116 : Index := 6#32
  let c16_117 : Index := 16#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v311 : Index := Scalar.indexCast v115
  ![6, 16, v311.toNat]
def k0_off46 (k0_t1 : Fin k0_t1_loop.trips) : Fin 2 → Nat :=
  let c22 : Index := 22#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v317 : Index := Scalar.indexCast v115
  ![22, v317.toNat]
def k0_off47 (k0_t1 : Fin k0_t1_loop.trips) : Fin 2 → Nat :=
  let c24 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v320 : Index := Scalar.indexCast v115
  ![24, v320.toNat]
def k0_off48 (k0_t1 : Fin k0_t1_loop.trips) : Fin 2 → Nat :=
  let c23 : Index := 23#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v325 : Index := Scalar.indexCast v115
  ![23, v325.toNat]
def k0_off49 (k0_t1 : Fin k0_t1_loop.trips) : Fin 3 → Nat :=
  let c0_118 : Index := 0#32
  let c24_119 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v328 : Index := Scalar.indexCast v115
  ![0, 24, v328.toNat]
def k0_off50 (k0_t1 : Fin k0_t1_loop.trips) : Fin 2 → Nat :=
  let c24_120 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v334 : Index := Scalar.indexCast v115
  ![24, v334.toNat]
def k0_off51 (k0_t1 : Fin k0_t1_loop.trips) : Fin 3 → Nat :=
  let c1_121 : Index := 1#32
  let c24_122 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v337 : Index := Scalar.indexCast v115
  ![1, 24, v337.toNat]
def k0_off52 (k0_t1 : Fin k0_t1_loop.trips) : Fin 2 → Nat :=
  let c25 : Index := 25#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v343 : Index := Scalar.indexCast v115
  ![25, v343.toNat]
def k0_off53 (k0_t1 : Fin k0_t1_loop.trips) : Fin 3 → Nat :=
  let c2_123 : Index := 2#32
  let c24_124 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v346 : Index := Scalar.indexCast v115
  ![2, 24, v346.toNat]
def k0_off54 (k0_t1 : Fin k0_t1_loop.trips) : Fin 2 → Nat :=
  let c26 : Index := 26#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v352 : Index := Scalar.indexCast v115
  ![26, v352.toNat]
def k0_off55 (k0_t1 : Fin k0_t1_loop.trips) : Fin 3 → Nat :=
  let c3_125 : Index := 3#32
  let c24_126 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v355 : Index := Scalar.indexCast v115
  ![3, 24, v355.toNat]
def k0_off56 (k0_t1 : Fin k0_t1_loop.trips) : Fin 2 → Nat :=
  let c27 : Index := 27#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v361 : Index := Scalar.indexCast v115
  ![27, v361.toNat]
def k0_off57 (k0_t1 : Fin k0_t1_loop.trips) : Fin 3 → Nat :=
  let c4_127 : Index := 4#32
  let c24_128 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v364 : Index := Scalar.indexCast v115
  ![4, 24, v364.toNat]
def k0_off58 (k0_t1 : Fin k0_t1_loop.trips) : Fin 2 → Nat :=
  let c28 : Index := 28#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v370 : Index := Scalar.indexCast v115
  ![28, v370.toNat]
def k0_off59 (k0_t1 : Fin k0_t1_loop.trips) : Fin 3 → Nat :=
  let c5_129 : Index := 5#32
  let c24_130 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v373 : Index := Scalar.indexCast v115
  ![5, 24, v373.toNat]
def k0_off60 (k0_t1 : Fin k0_t1_loop.trips) : Fin 2 → Nat :=
  let c29 : Index := 29#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v379 : Index := Scalar.indexCast v115
  ![29, v379.toNat]
def k0_off61 (k0_t1 : Fin k0_t1_loop.trips) : Fin 3 → Nat :=
  let c6_131 : Index := 6#32
  let c24_132 : Index := 24#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v382 : Index := Scalar.indexCast v115
  ![6, 24, v382.toNat]
def k0_off62 (k0_t1 : Fin k0_t1_loop.trips) : Fin 2 → Nat :=
  let c30 : Index := 30#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v388 : Index := Scalar.indexCast v115
  ![30, v388.toNat]
def k0_off63 (k0_t1 : Fin k0_t1_loop.trips) : Fin 2 → Nat :=
  let c32_133 : Index := 32#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v391 : Index := Scalar.indexCast v115
  ![32, v391.toNat]
def k0_off64 (k0_t1 : Fin k0_t1_loop.trips) : Fin 2 → Nat :=
  let c0_134 : Index := 0#32
  let c0_i32_44 : BitVec 32 := 0#32
  let c1_i32 : BitVec 32 := 1#32
  let arg14 : BitVec 32 := Scf.iv c0_i32_44 c1_i32 k0_t1
  let c128_i32 : BitVec 32 := 128#32
  let v114 : BitVec 32 := Scalar.muli arg14 c128_i32
  let v115 : BitVec 32 := v114
  let v396 : Index := Scalar.indexCast v115
  ![0, v396.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvFwdRefIdeal.lean ====
abbrev S8192x3072 : Shape := ⟨2, ![8192, 3072]⟩
abbrev S31x1024 : Shape := ⟨2, ![31, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S1x8192x1 : Shape := ⟨3, ![1, 8192, 1]⟩
abbrev S31 : Shape := ⟨1, ![31]⟩
abbrev S31x1x1 : Shape := ⟨3, ![31, 1, 1]⟩
abbrev S31x8192x1 : Shape := ⟨3, ![31, 8192, 1]⟩
abbrev S1x1x8192 : Shape := ⟨3, ![1, 1, 8192]⟩
abbrev S31x8192x8192 : Shape := ⟨3, ![31, 8192, 8192]⟩
abbrev S31x8192x1024 : Shape := ⟨3, ![31, 8192, 1024]⟩
abbrev S31x1x1024 : Shape := ⟨3, ![31, 1, 1024]⟩
abbrev S1x1024 : Shape := ⟨2, ![1, 1024]⟩
abbrev S8192x1 : Shape := ⟨2, ![8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192, .i32⟩
  | .hbm, ⟨17, _⟩ => ⟨S1x8192x1, .i32⟩
  | .hbm, ⟨18, _⟩ => ⟨S31, .i32⟩
  | .hbm, ⟨19, _⟩ => ⟨S31x1x1, .i32⟩
  | .hbm, ⟨20, _⟩ => ⟨S31x8192x1, .i32⟩
  | .hbm, ⟨21, _⟩ => ⟨S31x8192x1, .i32⟩
  | .hbm, ⟨22, _⟩ => ⟨S31x8192x1, .i32⟩
  | .hbm, ⟨23, _⟩ => ⟨S_, .i32⟩
  | .hbm, ⟨24, _⟩ => ⟨S31x8192x1, .i32⟩
  | .hbm, ⟨25, _⟩ => ⟨S31x8192x1, .i32⟩
  | .hbm, ⟨26, _⟩ => ⟨S1x1x8192, .i32⟩
  | .hbm, ⟨27, _⟩ => ⟨S31x8192x8192, .i32⟩
  | .hbm, ⟨28, _⟩ => ⟨S31x8192x8192, .i32⟩
  | .hbm, ⟨29, _⟩ => ⟨S31x8192x8192, .i1⟩
  | .hbm, ⟨30, _⟩ => ⟨S31x8192x8192, .f32⟩
  | .hbm, ⟨31, _⟩ => ⟨S31x8192x1024, .f32⟩
  | .hbm, ⟨32, _⟩ => ⟨S31x1x1024, .f32⟩
  | .hbm, ⟨33, _⟩ => ⟨S31x8192x1024, .f32⟩
  | .hbm, ⟨34, _⟩ => ⟨S31x8192x1024, .f32⟩
  | .hbm, ⟨35, _⟩ => ⟨S_, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v54 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== OddProj.lean ====
abbrev S8192x1024 : Shape := ⟨2, ![8192, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x4x768, .bf16⟩
  | .hbm, ⟨5, _⟩ => ⟨S4x1024x768, .bf16⟩
  | .hbm, ⟨6, _⟩ => ⟨S1x1024, .f32⟩
  | .hbm, ⟨7, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x3072, .bf16⟩
  | .local _ .vmem, ⟨5, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddProjRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== EvenProj.lean ====
abbrev S8192x1024 : Shape := ⟨2, ![8192, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S1024x4x512 : Shape := ⟨3, ![1024, 4, 512]⟩
abbrev S4x1024x512 : Shape := ⟨3, ![4, 1024, 512]⟩
abbrev S1x1024 : Shape := ⟨2, ![1, 1024]⟩
abbrev S1x512 : Shape := ⟨2, ![1, 512]⟩
abbrev S8192x2048 : Shape := ⟨2, ![8192, 2048]⟩
abbrev S8192x512 : Shape := ⟨2, ![8192, 512]⟩
abbrev S512x1024 : Shape := ⟨2, ![512, 1024]⟩
abbrev S512x2048 : Shape := ⟨2, ![512, 2048]⟩
abbrev S512x512 : Shape := ⟨2, ![512, 512]⟩
abbrev S16x512 : Shape := ⟨2, ![16, 512]⟩
abbrev S512x1 : Shape := ⟨2, ![512, 1]⟩
abbrev S1x1024x512 : Shape := ⟨3, ![1, 1024, 512]⟩
abbrev S1024x512 : Shape := ⟨2, ![1024, 512]⟩
abbrev S512x128 : Shape := ⟨2, ![512, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S1024x2048, .bf16⟩
  | .hbm, ⟨6, _⟩ => ⟨S1024x4x512, .bf16⟩
  | .hbm, ⟨7, _⟩ => ⟨S4x1024x512, .bf16⟩
  | .hbm, ⟨8, _⟩ => ⟨S1x1024, .f32⟩
  | .hbm, ⟨9, _⟩ => ⟨S4x128x128, .bf16⟩
  | .hbm, ⟨10, _⟩ => ⟨S1x512, .f32⟩
  | .hbm, ⟨11, _⟩ => ⟨S8192x2048, .bf16⟩
  | .hbm, ⟨12, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S4x128x128, .bf16⟩
  | .local _ .vmem, ⟨5, _⟩ => ⟨S1x512, .f32⟩
  | .local _ .vmem, ⟨6, _⟩ => ⟨S512x2048, .bf16⟩
  | .local _ .vmem, ⟨7, _⟩ => ⟨S512x2048, .bf16⟩
  | .local _ .vmem, ⟨8, _⟩ => ⟨S512x512, .bf16⟩
  | .local _ .vmem, ⟨9, _⟩ => ⟨S512x512, .bf16⟩
  | .local _ .vmem, ⟨10, _⟩ => ⟨S16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenProjRefIdeal.lean ====
abbrev S8192x1024 : Shape := ⟨2, ![8192, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S4x128x128, .f32⟩
  | .hbm, ⟨4, _⟩ => ⟨S512, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .bf16⟩
  | .hbm, ⟨23, _⟩ => ⟨S8192x512, .f32⟩
  | .hbm, ⟨24, _⟩ => ⟨S8192x4x128, .f32⟩
  | .hbm, ⟨25, _⟩ => ⟨S_, .f32⟩
  | .hbm, ⟨26, _⟩ => ⟨S_, .f32⟩
  | .hbm, ⟨27, _⟩ => ⟨S8192x4x128, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x1x128, .f32⟩
  | .hbm, ⟨34, _⟩ => ⟨S8192x128, .f32⟩
  | .hbm, ⟨35, _⟩ => ⟨S_, .f32⟩
  | .hbm, ⟨36, _⟩ => ⟨S2x128, .f32⟩
  | .hbm, ⟨37, _⟩ => ⟨S8190x128, .f32⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x128, .f32⟩
  | .hbm, ⟨44, _⟩ => ⟨S8192x128, .f32⟩
  | .hbm, ⟨45, _⟩ => ⟨S8192x1x128, .f32⟩
  | .hbm, ⟨46, _⟩ => ⟨S8192x128, .f32⟩
  | .hbm, ⟨47, _⟩ => ⟨S8192x128, .f32⟩
  | .hbm, ⟨48, _⟩ => ⟨S8192x1x128, .f32⟩
  | .hbm, ⟨49, _⟩ => ⟨S8192x128, .f32⟩
  | .hbm, ⟨50, _⟩ => ⟨S_, .f32⟩
  | .hbm, ⟨51, _⟩ => ⟨S4x128, .f32⟩
  | .hbm, ⟨52, _⟩ => ⟨S8188x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x128, .f32⟩
  | .hbm, ⟨59, _⟩ => ⟨S8192x128, .f32⟩
  | .hbm, ⟨60, _⟩ => ⟨S8192x1x128, .f32⟩
  | .hbm, ⟨61, _⟩ => ⟨S8192x128, .f32⟩
  | .hbm, ⟨62, _⟩ => ⟨S8192x128, .f32⟩
  | .hbm, ⟨63, _⟩ => ⟨S8192x1x128, .f32⟩
  | .hbm, ⟨64, _⟩ => ⟨S8192x128, .f32⟩
  | .hbm, ⟨65, _⟩ => ⟨S_, .f32⟩
  | .hbm, ⟨66, _⟩ => ⟨S8x128, .f32⟩
  | .hbm, ⟨67, _⟩ => ⟨S8184x128, .f32⟩
  | .hbm, ⟨68, _⟩ => ⟨S8192x128, .f32⟩
  | .hbm, ⟨69, _⟩ => ⟨S8192x128, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x128, .f32⟩
  | .hbm, ⟨74, _⟩ => ⟨S8192x128, .f32⟩
  | .hbm, ⟨75, _⟩ => ⟨S8192x1x128, .f32⟩
  | .hbm, ⟨76, _⟩ => ⟨S8192x128, .f32⟩
  | .hbm, ⟨77, _⟩ => ⟨S8192x128, .f32⟩
  | .hbm, ⟨78, _⟩ => ⟨S8192x1x128, .f32⟩
  | .hbm, ⟨79, _⟩ => ⟨S8192x128, .f32⟩
  | .hbm, ⟨80, _⟩ => ⟨S_, .f32⟩
  | .hbm, ⟨81, _⟩ => ⟨S16x128, .f32⟩
  | .hbm, ⟨82, _⟩ => ⟨S8176x128, .f32⟩
  | .hbm, ⟨83, _⟩ => ⟨S8192x128, .f32⟩
  | .hbm, ⟨84, _⟩ => ⟨S8192x128, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S8192x128, .f32⟩
  | .hbm, ⟨89, _⟩ => ⟨S8192x128, .f32⟩
  | .hbm, ⟨90, _⟩ => ⟨S8192x1x128, .f32⟩
  | .hbm, ⟨91, _⟩ => ⟨S8192x128, .f32⟩
  | .hbm, ⟨92, _⟩ => ⟨S8192x128, .f32⟩
  | .hbm, ⟨93, _⟩ => ⟨S8192x1x128, .f32⟩
  | .hbm, ⟨94, _⟩ => ⟨S8192x1x128, .f32⟩
  | .hbm, ⟨95, _⟩ => ⟨S8192x1x128, .f32⟩
  | .hbm, ⟨96, _⟩ => ⟨S8192x1x128, .f32⟩
  | .hbm, ⟨97, _⟩ => ⟨S8192x4x128, .f32⟩
  | .hbm, ⟨98, _⟩ => ⟨S4x128x8192, .f32⟩
  | .hbm, ⟨99, _⟩ => ⟨S8192x4x128, .f32⟩
  | .hbm, ⟨100, _⟩ => ⟨S8192x512, .f32⟩
  | .hbm, ⟨101, _⟩ => ⟨S1x512, .f32⟩
  | .hbm, ⟨102, _⟩ => ⟨S8192x512, .f32⟩
  | .hbm, ⟨103, _⟩ => ⟨S8192x512, .f32⟩
  | .hbm, ⟨104, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_call0_cst : Ref sig .tc := ⟨.hbm, 25, rfl⟩
abbrev main_call0_call0_v0 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== ChipSum.lean ====
abbrev S4x640x1024 : Shape := ⟨3, ![4, 640, 1024]⟩
abbrev S640x1024 : Shape := ⟨2, ![640, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x640x1024, .bf16⟩
  | .hbm, ⟨1, _⟩ => ⟨S640x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumRefIdeal.lean ====
abbrev S4x640x1024 : Shape := ⟨3, ![4, 640, 1024]⟩
abbrev S_ : Shape := ⟨0, ![]⟩
abbrev S640x1024 : Shape := ⟨2, ![640, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x640x1024, .bf16⟩
  | .hbm, ⟨1, _⟩ => ⟨S4x640x1024, .f32⟩
  | .hbm, ⟨2, _⟩ => ⟨S_, .f32⟩
  | .hbm, ⟨3, _⟩ => ⟨S640x1024, .f32⟩
  | _, _ => ⟨S4x640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S200x1024 : Shape := ⟨2, ![200, 1024]⟩

abbrev nBuf : Space → Nat
  | .hbm => 7
  | .vmem => 7
  | .smem => 0
  | _ => 0

abbrev bufTy : (tb : Table) → Fin (tcTables nBuf tb) → BufTy
  | .hbm, ⟨0, _⟩ => ⟨S200x1024, .f32⟩
  | .hbm, ⟨1, _⟩ => ⟨S200x1024, .f32⟩
  | .hbm, ⟨2, _⟩ => ⟨S200x1024, .f32⟩
  | .hbm, ⟨3, _⟩ => ⟨S200x1024, .f32⟩
  | .hbm, ⟨4, _⟩ => ⟨S200x1024, .f32⟩
  | .hbm, ⟨5, _⟩ => ⟨S200x1024, .f32⟩
  | .hbm, ⟨6, _⟩ => ⟨S200x1024, .f32⟩
  | .local _ .vmem, ⟨0, _⟩ => ⟨S200x1024, .f32⟩
  | .local _ .vmem, ⟨1, _⟩ => ⟨S200x1024, .f32⟩
  | .local _ .vmem, ⟨2, _⟩ => ⟨S200x1024, .f32⟩
  | .local _ .vmem, ⟨3, _⟩ => ⟨S200x1024, .f32⟩
  | .local _ .vmem, ⟨4, _⟩ => ⟨S200x1024, .f32⟩
  | .local _ .vmem, ⟨5, _⟩ => ⟨S200x1024, .f32⟩
  | .local _ .vmem, ⟨6, _⟩ => ⟨S200x1024, .f32⟩
  | _, _ => ⟨S200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S200x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S200x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S200x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S200x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S200x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S200x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S200x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamIdeal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== AdamRefIdeal.lean ====
abbrev S200x1024 : Shape := ⟨2, ![200, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S200x1024, .f32⟩
  | .hbm, ⟨1, _⟩ => ⟨S200x1024, .f32⟩
  | .hbm, ⟨2, _⟩ => ⟨S200x1024, .f32⟩
  | .hbm, ⟨3, _⟩ => ⟨S200x1024, .f32⟩
  | .hbm, ⟨4, _⟩ => ⟨S_, .f32⟩
  | .hbm, ⟨5, _⟩ => ⟨S200x1024, .f32⟩
  | .hbm, ⟨6, _⟩ => ⟨S200x1024, .f32⟩
  | .hbm, ⟨7, _⟩ => ⟨S_, .f32⟩
  | .hbm, ⟨8, _⟩ => ⟨S200x1024, .f32⟩
  | .hbm, ⟨9, _⟩ => ⟨S200x1024, .f32⟩
  | .hbm, ⟨10, _⟩ => ⟨S200x1024, .f32⟩
  | .hbm, ⟨11, _⟩ => ⟨S_, .f32⟩
  | .hbm, ⟨12, _⟩ => ⟨S200x1024, .f32⟩
  | .hbm, ⟨13, _⟩ => ⟨S200x1024, .f32⟩
  | .hbm, ⟨14, _⟩ => ⟨S200x1024, .f32⟩
  | .hbm, ⟨15, _⟩ => ⟨S_, .f32⟩
  | .hbm, ⟨16, _⟩ => ⟨S200x1024, .f32⟩
  | .hbm, ⟨17, _⟩ => ⟨S200x1024, .f32⟩
  | .hbm, ⟨18, _⟩ => ⟨S200x1024, .f32⟩
  | .hbm, ⟨19, _⟩ => ⟨S_, .f32⟩
  | .hbm, ⟨20, _⟩ => ⟨S200x1024, .f32⟩
  | .hbm, ⟨21, _⟩ => ⟨S200x1024, .f32⟩
  | .hbm, ⟨22, _⟩ => ⟨S_, .f32⟩
  | .hbm, ⟨23, _⟩ => ⟨S200x1024, .f32⟩
  | .hbm, ⟨24, _⟩ => ⟨S200x1024, .f32⟩
  | .hbm, ⟨25, _⟩ => ⟨S200x1024, .f32⟩
  | .hbm, ⟨26, _⟩ => ⟨S_, .f32⟩
  | .hbm, ⟨27, _⟩ => ⟨S200x1024, .f32⟩
  | .hbm, ⟨28, _⟩ => ⟨S200x1024, .f32⟩
  | .hbm, ⟨29, _⟩ => ⟨S200x1024, .f32⟩
  | .hbm, ⟨30, _⟩ => ⟨S_, .f32⟩
  | .hbm, ⟨31, _⟩ => ⟨S200x1024, .f32⟩
  | .hbm, ⟨32, _⟩ => ⟨S200x1024, .f32⟩
  | .hbm, ⟨33, _⟩ => ⟨S200x1024, .f32⟩
  | .hbm, ⟨34, _⟩ => ⟨S_, .f32⟩
  | .hbm, ⟨35, _⟩ => ⟨S200x1024, .f32⟩
  | .hbm, ⟨36, _⟩ => ⟨S200x1024, .f32⟩
  | _, _ => ⟨S200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rms.lean ====
/- The scalar mathematics of the gradient of a root-mean-square normalization, over the extended reals:
   the reciprocal root is always a nonnegative real, so the two spellings of the gradient agree for
   every row, finite or not. -/
module

public import Idealize.ShloMosaic.PureOps.Ideal.Laws
public import Idealize.ShloMosaic.Lib.Pointwise

@[expose] public section

noncomputable section

namespace Cert.Rms

open Idealize.ShloMosaic
open scoped BigOperators

/-- The f32 word of 1024 is the real 1024. -/
theorem word_1024 : Ideal.ofBits .f32 0x44800000#32 = ((1024 : ℝ) : EReal) := by
  simp [Ideal.ofBits, Ideal.ieee, -EReal.coe_mul]; norm_num

/-- The f32 word of minus one half is the real minus one half. -/
theorem word_neg_half : Ideal.ofBits .f32 0xBF000000#32 = ((-(1 / 2) : ℝ) : EReal) := by
  simp [Ideal.ofBits, Ideal.ieee, -EReal.coe_mul, -EReal.coe_neg]; norm_num

/-- The normalization's epsilon is a positive real. -/
theorem word_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- Dividing by 1024 is multiplying by the real 1/1024. -/
theorem div_1024 (x : EReal) : Ideal.div x (Ideal.ofBits .f32 0x44800000#32) = x * ((1 / 1024 : ℝ) : EReal) := by
  rw [word_1024, Ideal.div_coe (by norm_num)]

/-- A nonnegative real factor passes through a sum of extended reals. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- A square is not negative. -/
theorem mul_self_nonneg (x : EReal) : 0 ≤ x * x := by
  induction x with
  | bot => simp
  | top => simp
  | coe r => rw [← EReal.coe_mul]; exact_mod_cast _root_.mul_self_nonneg r

/-- The reciprocal root of a mean square plus epsilon is a nonnegative real `r`, and its quotient by the
    mean square plus epsilon is `r³`. -/
theorem rsqrt_facts (q : EReal) (hq : 0 ≤ q) : ∃ r : ℝ, 0 ≤ r
    ∧ Ideal.rsqrt (Ideal.div q (Ideal.ofBits .f32 0x44800000#32) + Ideal.ofBits .f32 0x358637BD#32) = (r : EReal)
    ∧ Ideal.div (Ideal.rsqrt (Ideal.div q (Ideal.ofBits .f32 0x44800000#32) + Ideal.ofBits .f32 0x358637BD#32))
        (Ideal.div q (Ideal.ofBits .f32 0x44800000#32) + Ideal.ofBits .f32 0x358637BD#32) = ((r * r * r : ℝ) : EReal) := by
  obtain ⟨e, he, hw⟩ := word_eps
  rw [div_1024, hw]
  induction q with
  | bot => simp at hq
  | top =>
    refine ⟨0, le_rfl, ?_, ?_⟩
    · rw [EReal.top_mul_coe_of_pos (by norm_num)]; simp
    · rw [EReal.top_mul_coe_of_pos (by norm_num)]; simp [Ideal.div]
  | coe v =>
    have hv : 0 ≤ v := by exact_mod_cast hq
    have hp : 0 < v * (1 / 1024) + e := by positivity
    rw [← EReal.coe_mul, ← EReal.coe_add, Ideal.rsqrt_coe, if_neg (not_lt.mpr hp.le), if_neg hp.ne',
      Ideal.div_coe hp.ne']
    refine ⟨(Real.sqrt (v * (1 / 1024) + e))⁻¹, by positivity, rfl, ?_⟩
    rw [← EReal.coe_mul]
    congr 1
    have hs : Real.sqrt (v * (1 / 1024) + e) * Real.sqrt (v * (1 / 1024) + e) = v * (1 / 1024) + e :=
      Real.mul_self_sqrt hp.le
    have hn : Real.sqrt (v * (1 / 1024) + e) ≠ 0 := (Real.sqrt_pos.mpr hp).ne'
    rw [mul_assoc (Real.sqrt _)⁻¹, ← mul_inv, hs]
    exact congrArg _ (one_div _)

/-- The mean square of a row plus epsilon. -/
def ms {n : ℕ} (x : Fin n → EReal) : EReal :=
  Ideal.div (∑ k, x k * x k) (Ideal.ofBits .f32 0x44800000#32) + Ideal.ofBits .f32 0x358637BD#32

/-- The gradient of the normalized row `x * rsqrt (ms x)` with cotangent `a`, by hand: `r (a - xn mean (a xn))`. -/
def gradHand {n : ℕ} (x a : Fin n → EReal) (d : Fin n) : EReal :=
  Ideal.rsqrt (ms x) * (a d - x d * Ideal.rsqrt (ms x) *
    Ideal.div (∑ k, a k * (x k * Ideal.rsqrt (ms x))) (Ideal.ofBits .f32 0x44800000#32))

/-- The cotangent of the sum of squares, halved: what the derivative of the reciprocal root sends back. -/
def back {n : ℕ} (x a : Fin n → EReal) : EReal :=
  Ideal.div ((∑ k, x k * a k) * (Ideal.ofBits .f32 0xBF000000#32 * Ideal.div (Ideal.rsqrt (ms x)) (ms x)))
    (Ideal.ofBits .f32 0x44800000#32)

theorem ms_sq_nonneg {n : ℕ} (x : Fin n → EReal) : 0 ≤ ∑ k, x k * x k :=
  Finset.sum_nonneg fun k _ => mul_self_nonneg (x k)

theorem add_self (y : EReal) : y + y = ((2 : ℝ) : EReal) * y := by
  induction y with
  | bot => rw [EReal.coe_mul_bot_of_pos (by norm_num)]; rfl
  | top => rw [EReal.coe_mul_top_of_pos (by norm_num)]; rfl
  | coe r => rw [← EReal.coe_mul, ← EReal.coe_add, two_mul]

/-- The hand gradient is the derivative's: `c + hand = ((c + a r) + x b) + b x`. -/
theorem grad_eq {n : ℕ} (x a : Fin n → EReal) (c : EReal) (d : Fin n) :
    c + gradHand x a d = c + a d * Ideal.rsqrt (ms x) + x d * back x a + back x a * x d := by
  obtain ⟨r, hr, h1, h2⟩ := rsqrt_facts _ (ms_sq_nonneg x)
  have hS : ∑ k, a k * (x k * (r : EReal)) = (∑ k, x k * a k) * (r : EReal) := by
    rw [sum_mul_coe _ _ r hr]
    exact Finset.sum_congr rfl fun k _ => by rw [mul_comm (x k) (a k), mul_assoc]
  unfold gradHand back ms
  rw [h2, h1, hS, div_1024, div_1024, word_neg_half]
  generalize (∑ k, x k * a k) = S
  rw [sub_eq_add_neg, EReal.left_distrib_of_nonneg_of_ne_top (by exact_mod_cast hr) (EReal.coe_ne_top r),
    mul_comm _ (x d), add_assoc, add_assoc c, add_self]
  rw [mul_comm (r : EReal) (a d)]
  congr 2
  have e1 : (r : EReal) * -(x d * r * (S * r * ((1 / 1024 : ℝ) : EReal)))
      = x d * S * (((-(r * r * r * (1 / 1024)) : ℝ)) : EReal) := by
    rw [EReal.coe_neg, mul_neg, mul_neg]
    simp only [EReal.coe_mul]
    congr 1; ac_rfl
  have e2 : ((2 : ℝ) : EReal) * (x d * (S * (((-(1 / 2) : ℝ) : EReal) * ((r * r * r : ℝ) : EReal)) * ((1 / 1024 : ℝ) : EReal)))
      = x d * S * (((2 * (-(1 / 2)) * (r * r * r) * (1 / 1024) : ℝ)) : EReal) := by
    simp only [EReal.coe_mul]; ac_rfl
  rw [e1, e2]; congr 2; ring

end Cert.Rms

end
-- ==== Proof.Columns.lean ====
/- Three arrays side by side, read at a column of the joined array. -/
module

public import Idealize.ShloMosaic.PureOps.Ideal.Laws
public import Idealize.ShloMosaic.Lib.Pointwise

@[expose] public section

noncomputable section

namespace Cert.Columns

open scoped BigOperators

/-- Row `k`, column `e` of three arrays of widths `a`, `b` and `c` joined along their columns (0 past the end). -/
def cat {n a b c : ℕ} (X : Fin n → Fin a → EReal) (Y : Fin n → Fin b → EReal) (Z : Fin n → Fin c → EReal)
    (k : Fin n) (e : ℕ) : EReal :=
  if h : e < a then X k ⟨e, h⟩ else if h : e - a < b then Y k ⟨e - a, h⟩
    else if h : e - (a + b) < c then Z k ⟨e - (a + b), h⟩ else 0

section
variable {n a b c : ℕ} (X : Fin n → Fin a → EReal) (Y : Fin n → Fin b → EReal) (Z : Fin n → Fin c → EReal)

theorem cat_first (k : Fin n) (e : ℕ) (j : Fin a) (h : e = j.val) : cat X Y Z k e = X k j := by
  subst h; simp [cat]

theorem cat_second (k : Fin n) (e : ℕ) (j : Fin b) (h : e = a + j.val) : cat X Y Z k e = Y k j := by
  subst h; simp [cat]

theorem cat_third (k : Fin n) (e : ℕ) (j : Fin c) (h : e = a + b + j.val) : cat X Y Z k e = Z k j := by
  subst h
  have h1 : ¬ a + b + j.val < a := by omega
  have h2 : ¬ a + b + j.val - a < b := by omega
  have h3 : a + b + j.val - (a + b) < c := by have := j.isLt; omega
  unfold cat; rw [dif_neg h1, dif_neg h2, dif_pos h3]
  congr 1; ext; simp

/-- A sum over the joined columns is the sum of the three sums. -/
theorem sum_cat (N : ℕ) (hN : N = a + b + c) (k : Fin n) (g : ℕ → EReal) :
    ∑ e : Fin N, cat X Y Z k e.val * g e.val
      = (∑ j : Fin a, X k j * g j.val) + (∑ j : Fin b, Y k j * g (a + j.val)) + ∑ j : Fin c, Z k j * g (a + b + j.val) := by
  subst hN
  rw [Fin.sum_univ_add, Fin.sum_univ_add]
  congr 1
  · congr 1
    · exact Finset.sum_congr rfl fun j _ => by rw [cat_first X Y Z k _ j (by simp)]; simp
    · exact Finset.sum_congr rfl fun j _ => by rw [cat_second X Y Z k _ j (by simp)]; simp
  · exact Finset.sum_congr rfl fun j _ => by rw [cat_third X Y Z k _ j (by simp)]; simp
end

end Cert.Columns

end
-- ==== Proof.OddInValue.lean ====
module

public import proofs.«01_k».proof.Proof.Rms
public import proofs.«01_k».proof.Proof.Columns
public import proofs.«01_k».proof.Proof.Gen.OddInIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.OddInIdeal.Gradient

open Cert.OddInIdeal Cert.OddInIdeal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The three cotangent blocks side by side, at row `k`, column `e`. -/
def dcol (X0 X1 X2 : FVec Ideal S512x1024 .bf16) (k : Fin 512) (e : ℕ) : EReal :=
  cat (fun r j => X0 (ix2 r j)) (fun r j => X1 (ix2 r j)) (fun r j => X2 (ix2 r j)) k e

theorem dcol_first (X0 X1 X2 : FVec Ideal S512x1024 .bf16) (k : Fin 512) (e : ℕ) (j : Fin 1024) (h : e = j.val) :
    dcol X0 X1 X2 k e = X0 (ix2 k j) :=
  cat_first _ _ _ k e j h

theorem dcol_second (X0 X1 X2 : FVec Ideal S512x1024 .bf16) (k : Fin 512) (e : ℕ) (j : Fin 1024) (h : e = 1024 + j.val) :
    dcol X0 X1 X2 k e = X1 (ix2 k j) :=
  cat_second _ _ _ k e j h

theorem dcol_third (X0 X1 X2 : FVec Ideal S512x1024 .bf16) (k : Fin 512) (e : ℕ) (j : Fin 1024) (h : e = 2048 + j.val) :
    dcol X0 X1 X2 k e = X2 (ix2 k j) :=
  cat_third _ _ _ k e j h

/-- What one point adds to the weight gradient. -/
def dwPart (X0 X1 X2 : FVec Ideal S512x1024 .bf16) (H : FVec Ideal S512x1024 .bf16) (y : S4x1024x768.Idx) : EReal :=
  ∑ k : Fin 512, H (ix2 k (y 1)) * dcol X0 X1 X2 k (768 * (y 0).val + (y 2).val)

/-- The six stores of a point into the weight gradient held so far. -/
def dwPieces (X0 X1 X2 : FVec Ideal S512x1024 .bf16) (X4 : FVec Ideal S512x1024 .f32) (X5 : FVec Ideal S1x1024 .f32)
    (acc : FVec Ideal S4x1024x768 .f32) : List (View.Piece (Elt Ideal) S4x1024x768 .f32) :=
  [⟨Rect.unit ![3, 0, 0] ![1, 1024, 768] inb_S4x1024x768_S1x1024x768_3_0_0,
          k0_pay1 (k0_pay8 (F := Ideal) X4 X5)
            (k0_pay22 (View.ld (Val := Elt Ideal) (e' := .bf16) X2 (Rect.unit ![0, 256] ![512, 768] inb_S512x1024_S512x768_0_256)))
            (View.ld (Val := Elt Ideal) (e' := .f32) acc (Rect.unit ![3, 0, 0] ![1, 1024, 768] inb_S4x1024x768_S1x1024x768_3_0_0))⟩,
        ⟨Rect.unit ![2, 0, 512] ![1, 1024, 256] inb_S4x1024x768_S1x1024x256_2_0_512,
          k0_pay21 (k0_pay8 (F := Ideal) X4 X5)
            (View.ld (Val := Elt Ideal) (e' := .bf16) X2 (Rect.unit ![0, 0] ![512, 256] inb_S512x1024_S512x256_0_0))
            (View.ld (Val := Elt Ideal) (e' := .f32) acc (Rect.unit ![2, 0, 512] ![1, 1024, 256] inb_S4x1024x768_S1x1024x256_2_0_512))⟩,
        ⟨Rect.unit ![2, 0, 0] ![1, 1024, 512] inb_S4x1024x768_S1x1024x512_2_0_0,
          k0_pay19 (k0_pay8 (F := Ideal) X4 X5)
            (k0_pay17 (View.ld (Val := Elt Ideal) (e' := .bf16) X1 (Rect.unit ![0, 512] ![512, 512] inb_S512x1024_S512x512_0_512)))
            (View.ld (Val := Elt Ideal) (e' := .f32) acc (Rect.unit ![2, 0, 0] ![1, 1024, 512] inb_S4x1024x768_S1x1024x512_2_0_0))⟩,
        ⟨Rect.unit ![1, 0, 256] ![1, 1024, 512] inb_S4x1024x768_S1x1024x512_1_0_256,
          k0_pay16 (k0_pay8 (F := Ideal) X4 X5)
            (View.ld (Val := Elt Ideal) (e' := .bf16) X1 (Rect.unit ![0, 0] ![512, 512] inb_S512x1024_S512x512_0_0))
            (View.ld (Val := Elt Ideal) (e' := .f32) acc (Rect.unit ![1, 0, 256] ![1, 1024, 512] inb_S4x1024x768_S1x1024x512_1_0_256))⟩,
        ⟨Rect.unit ![1, 0, 0] ![1, 1024, 256] inb_S4x1024x768_S1x1024x256_1_0_0,
          k0_pay13 (k0_pay8 (F := Ideal) X4 X5)
            (k0_pay12 (View.ld (Val := Elt Ideal) (e' := .bf16) X0 (Rect.unit ![0, 768] ![512, 256] inb_S512x1024_S512x256_0_768)))
            (View.ld (Val := Elt Ideal) (e' := .f32) acc (Rect.unit ![1, 0, 0] ![1, 1024, 256] inb_S4x1024x768_S1x1024x256_1_0_0))⟩,
        ⟨Rect.unit ![0, 0, 0] ![1, 1024, 768] inb_S4x1024x768_S1x1024x768_0_0_0,
          k0_pay11 (F := Ideal) X4 X5
            (View.ld (Val := Elt Ideal) (e' := .bf16) X0 (Rect.unit ![0, 0] ![512, 768] inb_S512x1024_S512x768_0_0))
            (View.ld (Val := Elt Ideal) (e' := .f32) acc (Rect.unit ![0, 0, 0] ![1, 1024, 768] inb_S4x1024x768_S1x1024x768_0_0_0))⟩]

theorem emb_at {p0 p2 n : ℕ} (inb : ∀ a, ![p0, 0, p2] a + ![1, 1024, n] a ≤ S4x1024x768.size a)
    (x : (Rect.unit (s := S4x1024x768) ![p0, 0, p2] ![1, 1024, n] inb).shape.Idx) (i : Fin 4) (j : Fin 768) (hi : i.val = p0) (hj : j.val = p2 + (x 2).val) :
    (Rect.unit (s := S4x1024x768) ![p0, 0, p2] ![1, 1024, n] inb).emb x = ix3 i (x 1) j := by
  have h0 : (x 0).val < 1 := (x 0).isLt
  funext a
  apply Fin.ext
  rw [ValueKit.rect_emb_unit_val]
  fin_cases a
  · show p0 + (x 0).val = i.val; omega
  · show 0 + (x 1).val = (x 1).val; omega
  · show p2 + (x 2).val = j.val; omega

/-- Each store writes its part of the held gradient plus the point's part. -/
theorem pieces (X0 X1 X2 : FVec Ideal S512x1024 .bf16) (X4 : FVec Ideal S512x1024 .f32) (X5 : FVec Ideal S1x1024 .f32)
    (acc : FVec Ideal S4x1024x768 .f32) :
    View.PiecesOf (Val := Elt Ideal) (s := S4x1024x768) (e := .f32) (fun y => acc y + dwPart X0 X1 X2 (k0_pay8 (F := Ideal) X4 X5) y)
      (dwPieces X0 X1 X2 X4 X5 acc) := by
  unfold dwPieces
  have h11 : ∀ (a : FVec Ideal S512x768 .bf16) (b), k0_pay11 (F := Ideal) X4 X5 a b = k0_pay1 (k0_pay8 (F := Ideal) X4 X5) a b := by
    intro a b; funext y; pointwise [k0_pay11, k0_pay1, k0_pay9]
  rw [h11]
  generalize k0_pay8 (F := Ideal) X4 X5 = H
  refine ⟨fun x => ?_, fun x => ?_, fun x => ?_, fun x => ?_, fun x => ?_, fun x => ?_, trivial⟩
  · pointwise [k0_pay1, k0_pay22]
    have hx : (x 2).val < 768 := (x 2).isLt
    rw [emb_at _ x 3 ⟨0 + (x 2).val, by omega⟩ rfl rfl]
    refine congrArg₂ (· + ·) (by congr 1 <;> simp) (Finset.sum_congr rfl fun k _ => congrArg₂ (· * ·) rfl (dcol_third X0 X1 X2 k _ _ ?_).symm)
    show 768 * 3 + (0 + (x 2).val) = _
    simp; try omega
  · pointwise [k0_pay21, k0_pay20]
    have hx : (x 2).val < 256 := (x 2).isLt
    rw [emb_at _ x 2 ⟨512 + (x 2).val, by omega⟩ rfl rfl]
    refine congrArg₂ (· + ·) (by congr 1 <;> simp) (Finset.sum_congr rfl fun k _ => congrArg₂ (· * ·) rfl (dcol_third X0 X1 X2 k _ _ ?_).symm)
    show 768 * 2 + (512 + (x 2).val) = _
    simp; try omega
  · pointwise [k0_pay19, k0_pay17]
    have hx : (x 2).val < 512 := (x 2).isLt
    rw [emb_at _ x 2 ⟨0 + (x 2).val, by omega⟩ rfl rfl]
    refine congrArg₂ (· + ·) (by congr 1 <;> simp) (Finset.sum_congr rfl fun k _ => congrArg₂ (· * ·) rfl (dcol_second X0 X1 X2 k _ _ ?_).symm)
    show 768 * 2 + (0 + (x 2).val) = _
    simp; try omega
  · pointwise [k0_pay16, k0_pay14]
    have hx : (x 2).val < 512 := (x 2).isLt
    rw [emb_at _ x 1 ⟨256 + (x 2).val, by omega⟩ rfl rfl]
    refine congrArg₂ (· + ·) (by congr 1 <;> simp) (Finset.sum_congr rfl fun k _ => congrArg₂ (· * ·) rfl (dcol_second X0 X1 X2 k _ _ ?_).symm)
    show 768 * 1 + (256 + (x 2).val) = _
    simp; try omega
  · pointwise [k0_pay13, k0_pay12]
    have hx : (x 2).val < 256 := (x 2).isLt
    rw [emb_at _ x 1 ⟨0 + (x 2).val, by omega⟩ rfl rfl]
    refine congrArg₂ (· + ·) (by congr 1 <;> simp) (Finset.sum_congr rfl fun k _ => congrArg₂ (· * ·) rfl (dcol_first X0 X1 X2 k _ _ ?_).symm)
    show 768 * 1 + (0 + (x 2).val) = _
    simp; try omega
  · pointwise [k0_pay1]
    have hx : (x 2).val < 768 := (x 2).isLt
    rw [emb_at _ x 0 ⟨0 + (x 2).val, by omega⟩ rfl rfl]
    refine congrArg₂ (· + ·) (by congr 1 <;> simp) (Finset.sum_congr rfl fun k _ => congrArg₂ (· * ·) rfl (dcol_first X0 X1 X2 k _ _ ?_).symm)
    show 768 * 0 + (0 + (x 2).val) = _
    simp; try omega

/-- The six stores cover the gradient, so over anything stored before they leave the held gradient plus the point's part. -/
theorem canon_pieces (X0 X1 X2 : FVec Ideal S512x1024 .bf16) (X4 : FVec Ideal S512x1024 .f32) (X5 : FVec Ideal S1x1024 .f32)
    (acc : FVec Ideal S4x1024x768 .f32) (L : List (View.Piece (Elt Ideal) S4x1024x768 .f32)) (y : S4x1024x768.Idx) :
    View.canon (dwPieces X0 X1 X2 X4 X5 acc ++ L) y = acc y + dwPart X0 X1 X2 (k0_pay8 (F := Ideal) X4 X5) y :=
  View.canon_append_of_piecesOf _ L _ (pieces X0 X1 X2 X4 X5 acc) y
    (View.cover_of_tiledBy _ ![1, 1024, 256] (by sl_kernel_rfl) y)

/-- The gradient of one block's normalised rows times the scale: the product of the cotangent blocks with the weight. -/
def dhBlk (X0 X1 X2 : FVec Ideal S512x1024 .bf16) (W : FVec Ideal S4x1024x768 .bf16) : FVec Ideal S512x1024 .f32 :=
  k0_pay23
    (k0_pay15
      (k0_pay10 (View.ld (Val := Elt Ideal) (e' := .bf16) X0 (Rect.unit ![0, 0] ![512, 768] inb_S512x1024_S512x768_0_0))
        (View.ld (Val := Elt Ideal) (e' := .bf16) W (Rect.unit ![0, 0, 0] ![1, 1024, 768] inb_S4x1024x768_S1x1024x768_0_0_0)))
      (k0_pay12 (View.ld (Val := Elt Ideal) (e' := .bf16) X0 (Rect.unit ![0, 768] ![512, 256] inb_S512x1024_S512x256_0_768)))
      (View.ld (Val := Elt Ideal) (e' := .bf16) W (Rect.unit ![1, 0, 0] ![1, 1024, 256] inb_S4x1024x768_S1x1024x256_1_0_0))
      (View.ld (Val := Elt Ideal) (e' := .bf16) X1 (Rect.unit ![0, 0] ![512, 512] inb_S512x1024_S512x512_0_0))
      (View.ld (Val := Elt Ideal) (e' := .bf16) W (Rect.unit ![1, 0, 256] ![1, 1024, 512] inb_S4x1024x768_S1x1024x512_1_0_256)))
    (k0_pay17 (View.ld (Val := Elt Ideal) (e' := .bf16) X1 (Rect.unit ![0, 512] ![512, 512] inb_S512x1024_S512x512_0_512)))
    (k0_pay18 (View.ld (Val := Elt Ideal) (e' := .bf16) W (Rect.unit ![2, 0, 0] ![1, 1024, 512] inb_S4x1024x768_S1x1024x512_2_0_0)))
    (constant S512x1024 FTy.f32 0#32)
    (View.ld (Val := Elt Ideal) (e' := .bf16) X2 (Rect.unit ![0, 0] ![512, 256] inb_S512x1024_S512x256_0_0))
    (View.ld (Val := Elt Ideal) (e' := .bf16) W (Rect.unit ![2, 0, 512] ![1, 1024, 256] inb_S4x1024x768_S1x1024x256_2_0_512))
    (View.ld (Val := Elt Ideal) (e' := .bf16) X2 (Rect.unit ![0, 256] ![512, 768] inb_S512x1024_S512x768_0_256))
    (View.ld (Val := Elt Ideal) (e' := .bf16) W (Rect.unit ![3, 0, 0] ![1, 1024, 768] inb_S4x1024x768_S1x1024x768_3_0_0))

/-- Column `e` of the weight, kept as four slabs of 768 columns, at row `d`. -/
def wcol (W : FVec Ideal S4x1024x768 .bf16) (d : Fin 1024) (e : ℕ) : EReal :=
  if h : e / 768 < 4 then W (ix3 ⟨e / 768, h⟩ d ⟨e % 768, Nat.mod_lt _ (by decide)⟩) else 0

theorem wcol_at (W : FVec Ideal S4x1024x768 .bf16) (d : Fin 1024) (e : ℕ) (p : Fin 4) (q : Fin 768) (h : e = 768 * p.val + q.val) :
    wcol W d e = W (ix3 p d q) := by
  have h1 : e / 768 = p.val := by have := q.isLt; omega
  have h2 : e % 768 = q.val := by have := q.isLt; omega
  unfold wcol
  rw [dif_pos (by rw [h1]; exact p.isLt)]
  congr 2 <;> exact Fin.ext (by assumption)

theorem dhBlk_apply (X0 X1 X2 : FVec Ideal S512x1024 .bf16) (W : FVec Ideal S4x1024x768 .bf16) (s : Fin 512) (d : Fin 1024) :
    dhBlk X0 X1 X2 W (ix2 s d) = ∑ e : Fin 3072, dcol X0 X1 X2 s e.val * wcol W d e.val := by
  unfold dcol
  rw [sum_cat _ _ _ 3072 rfl]
  pointwise [dhBlk, k0_pay23, k0_pay15, k0_pay10, k0_pay9, k0_pay12, k0_pay14, k0_pay17, k0_pay18, k0_pay20, k0_pay22]
  rw [show (∑ j : Fin 1024, X0 (ix2 s j) * wcol W d j.val) = _ from Fin.sum_univ_add (a := 768) (b := 256) _,
    show (∑ j : Fin 1024, X1 (ix2 s j) * wcol W d (1024 + j.val)) = _ from Fin.sum_univ_add (a := 512) (b := 512) _,
    show (∑ j : Fin 1024, X2 (ix2 s j) * wcol W d (2048 + j.val)) = _ from Fin.sum_univ_add (a := 256) (b := 768) _]
  simp only [← add_assoc]
  refine congrArg₂ (· + ·) (congrArg₂ (· + ·) (congrArg₂ (· + ·) (congrArg₂ (· + ·) (congrArg₂ (· + ·) ?_ ?_) ?_) ?_) ?_) ?_ <;>
    refine Finset.sum_congr rfl fun j _ => congrArg₂ (· * ·) (by congr 1) (wcol_at W d _ _ _ ?_).symm <;>
    simp <;> omega

theorem rsqrt_blk (X : FVec Ideal S512x1024 .f32) (s : Fin 512) :
    k0_pay6 (F := Ideal) X (ix2 s 0) = Ideal.rsqrt (Rms.ms fun k => X (ix2 s k)) := by
  pointwise [k0_pay6, Rms.ms]

theorem norm_blk (X : FVec Ideal S512x1024 .f32) (s : Fin 512) (d : Fin 1024) :
    k0_pay7 (F := Ideal) X (ix2 s d) = X (ix2 s d) * Ideal.rsqrt (Rms.ms fun k => X (ix2 s k)) := by
  rw [← rsqrt_blk]
  pointwise [k0_pay7]

theorem dx_blk (X : FVec Ideal S512x1024 .f32) (DH : FVec Ideal S512x1024 .f32) (G : FVec Ideal S1x1024 .f32) (R : FVec Ideal S512x1024 .f32)
    (s : Fin 512) (d : Fin 1024) :
    k0_pay3 (k0_pay6 X) (k0_pay7 X) DH G R (ix2 s d)
      = R (ix2 s d) + Rms.gradHand (fun k => X (ix2 s k)) (fun k => DH (ix2 s k) * G (ix2 0 k)) d := by
  pointwise [k0_pay3]
  simp only [norm_blk, rsqrt_blk]
  rfl

theorem dg_blk (N DH : FVec Ideal S512x1024 .f32) (acc : FVec Ideal S1x1024 .f32) (d : Fin 1024) :
    k0_pay2 N DH acc (ix2 0 d) = acc (ix2 0 d) + ∑ s : Fin 512, DH (ix2 s d) * N (ix2 s d) := by
  pointwise [k0_pay2]

theorem out7 (c : Dev nD) (t : Fin cfg0.N) :
    (outsAt0 m c t.val t.isLt).1 = k0_pay3 (k0_pay6 (iblk m c 4 t)) (k0_pay7 (iblk m c 4 t))
      (dhBlk (iblk m c 0 t) (iblk m c 1 t) (iblk m c 2 t) (iblk m c 3 t)) (iblk m c 5 t) (iblk m c 6 t) := by
  by_cases h : t.val % 16 = 0
  · funext y; rw [outsAt0_A m c t h]; frame_out; rfl
  · funext y; rw [outsAt0_B m c t h]; frame_out; rfl

theorem out8_A (c : Dev nD) (t : Fin cfg0.N) (h : t.val % 16 = 0) :
    (outsAt0 m c t.val t.isLt).2.1 = k0_pay2 (k0_pay7 (iblk m c 4 t))
      (dhBlk (iblk m c 0 t) (iblk m c 1 t) (iblk m c 2 t) (iblk m c 3 t)) (k0_pay4 (F := Ideal)) := by
  funext y; rw [outsAt0_A m c t h]; frame_out; rfl

theorem out8_B (c : Dev nD) (t : Fin cfg0.N) (h : ¬ t.val % 16 = 0) :
    (outsAt0 m c t.val t.isLt).2.1 = k0_pay2 (k0_pay7 (iblk m c 4 t))
      (dhBlk (iblk m c 0 t) (iblk m c 1 t) (iblk m c 2 t) (iblk m c 3 t)) (outsAt0 m c (t.val - 1) (by have := t.isLt; omega)).2.1 := by
  funext y; rw [outsAt0_B m c t h]; frame_out; rfl

set_option maxHeartbeats 1000000 in
/-- The first point of a run of sixteen starts the weight gradient from zero. -/
theorem out9_A (c : Dev nD) (t : Fin cfg0.N) (h : t.val % 16 = 0) (y : S4x1024x768.Idx) :
    (outsAt0 m c t.val t.isLt).2.2 y
      = 0 + dwPart (iblk m c 0 t) (iblk m c 1 t) (iblk m c 2 t) (k0_pay8 (iblk m c 4 t) (iblk m c 5 t)) y := by
  rw [outsAt0_A m c t h]; frame_open
  simp (disch := decide) only [↓ View.readCov_skip, ↓ View.readCov_cons_toLoadRect, ↓ View.readCov_fill]
  frame_out
  have hz : k0_pay5 (F := Ideal) y = 0 := by pointwise [k0_pay5]
  rw [← hz]
  generalize k0_pay5 (F := Ideal) = Z
  exact canon_pieces (iblk m c 0 t) (iblk m c 1 t) (iblk m c 2 t) (iblk m c 4 t) (iblk m c 5 t) Z
    [⟨Rect.unit ![0, 0, 0] ![4, 1024, 768] inb_S4x1024x768_S4x1024x768_0_0_0, Z⟩] y

theorem out9_B (c : Dev nD) (t : Fin cfg0.N) (h : ¬ t.val % 16 = 0) (y : S4x1024x768.Idx) :
    (outsAt0 m c t.val t.isLt).2.2 y
      = (outsAt0 m c (t.val - 1) (by have := t.isLt; omega)).2.2 y
        + dwPart (iblk m c 0 t) (iblk m c 1 t) (iblk m c 2 t) (k0_pay8 (iblk m c 4 t) (iblk m c 5 t)) y := by
  rw [outsAt0_B m c t h]; frame_out
  exact canon_pieces (iblk m c 0 t) (iblk m c 1 t) (iblk m c 2 t) (iblk m c 4 t) (iblk m c 5 t) _ [] y

end Cert.OddInIdeal.Gradient

end
-- ==== Proof.NormIn.lean ====
/- The backward pass of "normalise the rows, scale them, multiply with a weight", as plain sums over rows and columns. -/
module

public import proofs.«01_k».proof.Proof.Rms
public import proofs.«01_k».proof.Proof.Columns

@[expose] public section

noncomputable section

namespace Cert.NormIn

open scoped BigOperators
open Cert.Columns Idealize.ShloMosaic

variable {n a b c N : ℕ} (A : Fin n → Fin a → EReal) (B : Fin n → Fin b → EReal) (C : Fin n → Fin c → EReal)
  (W : Fin 1024 → Fin N → EReal) (X : Fin n → Fin 1024 → EReal) (G : Fin 1024 → EReal) (R : Fin n → Fin 1024 → EReal)

/-- The cotangent of the scaled rows: the cotangents of the product, side by side, times the weight. -/
def dh (s : Fin n) (d : Fin 1024) : EReal := ∑ e : Fin N, cat A B C s e.val * W d e

/-- The normalised row. -/
def xn (s : Fin n) (d : Fin 1024) : EReal := X s d * Ideal.rsqrt (Rms.ms (X s))

/-- The gradient of the rows, added to the residual branch's cotangent. -/
def dx (s : Fin n) (d : Fin 1024) : EReal := R s d + Rms.gradHand (X s) (fun k => dh A B C W s k * G k) d

/-- The gradient of the scale. -/
def dg (d : Fin 1024) : EReal := ∑ s : Fin n, dh A B C W s d * xn X s d

/-- The gradient of the weight at row `d`, column `e`. -/
def dw (d : Fin 1024) (e : ℕ) : EReal := ∑ s : Fin n, xn X s d * G d * cat A B C s e

/-- The rows' gradient as the chain rule through the mean of squares gives it. -/
theorem dx_chain (s : Fin n) (d : Fin 1024) :
    dx A B C W X G R s d
      = R s d + dh A B C W s d * G d * Ideal.rsqrt (Rms.ms (X s)) + X s d * Rms.back (X s) (fun k => dh A B C W s k * G k)
        + Rms.back (X s) (fun k => dh A B C W s k * G k) * X s d :=
  Rms.grad_eq (X s) (fun k => dh A B C W s k * G k) (R s d) d

end Cert.NormIn

end
-- ==== Proof.OddInFinal.lean ====
module

public import proofs.«01_k».proof.Proof.OddInValue
public import proofs.«01_k».proof.Proof.NormIn

@[expose] public section

set_option maxRecDepth 16384

noncomputable section

namespace Cert.OddInIdeal.Gradient

open Cert.OddInIdeal Cert.OddInIdeal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The block index of every window at every point. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0, 0] :=
  (by decide +kernel : ∀ t : Fin grid0.N, _)

/-- Row `s` of block `t`, as a row of the array. -/
def row (t : Fin cfg0.N) (s : Fin 512) : Fin 8192 :=
  ⟨t.val * 512 + s.val, by have := t.isLt; have h : cfg0.N = 16 := N_0; have := s.isLt; omega⟩

/-- The argument arrays of the kernel by row and column. -/
abbrev argA (c : Dev nD) (r : Fin 8192) (j : Fin 1024) : EReal := m ((c : Thread nD τ).loc main_arg0) (ix2 r j)
abbrev argB (c : Dev nD) (r : Fin 8192) (j : Fin 1024) : EReal := m ((c : Thread nD τ).loc main_arg1) (ix2 r j)
abbrev argC (c : Dev nD) (r : Fin 8192) (j : Fin 1024) : EReal := m ((c : Thread nD τ).loc main_arg2) (ix2 r j)
abbrev argW (c : Dev nD) (d : Fin 1024) (e : Fin 3072) : EReal := m ((c : Thread nD τ).loc main_arg3) (ix2 d e)
abbrev argX (c : Dev nD) (r : Fin 8192) (j : Fin 1024) : EReal := m ((c : Thread nD τ).loc main_arg4) (ix2 r j)
abbrev argG (c : Dev nD) (j : Fin 1024) : EReal := m ((c : Thread nD τ).loc main_arg5) (ix1 j)
abbrev argR (c : Dev nD) (r : Fin 8192) (j : Fin 1024) : EReal := m ((c : Thread nD τ).loc main_arg6) (ix2 r j)

theorem blkA (c : Dev nD) (t : Fin cfg0.N) (s : Fin 512) (j : Fin 1024) : iblk m c 0 t (ix2 s j) = argA m c (row t s) j := by
  blk_point [iblk, V, idx t, row]
theorem blkB (c : Dev nD) (t : Fin cfg0.N) (s : Fin 512) (j : Fin 1024) : iblk m c 1 t (ix2 s j) = argB m c (row t s) j := by
  blk_point [iblk, V, idx t, row]
theorem blkC (c : Dev nD) (t : Fin cfg0.N) (s : Fin 512) (j : Fin 1024) : iblk m c 2 t (ix2 s j) = argC m c (row t s) j := by
  blk_point [iblk, V, idx t, row]
theorem blkX (c : Dev nD) (t : Fin cfg0.N) (s : Fin 512) (j : Fin 1024) : iblk m c 4 t (ix2 s j) = argX m c (row t s) j := by
  blk_point [iblk, V, idx t, row]
theorem blkR (c : Dev nD) (t : Fin cfg0.N) (s : Fin 512) (j : Fin 1024) : iblk m c 6 t (ix2 s j) = argR m c (row t s) j := by
  blk_point [iblk, V, idx t, row]
theorem blkG (c : Dev nD) (t : Fin cfg0.N) (j : Fin 1024) : iblk m c 5 t (ix2 0 j) = argG m c j := by
  blk_point [iblk, V, idx t, row]
theorem blkW (c : Dev nD) (t : Fin cfg0.N) (p : Fin 4) (d : Fin 1024) (q : Fin 768) (e : Fin 3072) (h : e.val = 768 * p.val + q.val) :
    iblk m c 3 t (ix3 p d q) = argW m c d e := by
  blk_point [iblk, V, idx t]

/-- The cotangent blocks of point `t`, side by side, are the rows of block `t` of the arrays side by side. -/
theorem dcol_blk (c : Dev nD) (t : Fin cfg0.N) (k : Fin 512) (e : ℕ) :
    dcol (iblk m c 0 t) (iblk m c 1 t) (iblk m c 2 t) k e = cat (argA m c) (argB m c) (argC m c) (row t k) e := by
  unfold dcol cat
  simp only [blkA, blkB, blkC]

theorem dh_blk (c : Dev nD) (t : Fin cfg0.N) (s : Fin 512) (d : Fin 1024) :
    dhBlk (iblk m c 0 t) (iblk m c 1 t) (iblk m c 2 t) (iblk m c 3 t) (ix2 s d)
      = NormIn.dh (argA m c) (argB m c) (argC m c) (argW m c) (row t s) d := by
  rw [dhBlk_apply]
  refine Finset.sum_congr rfl fun e _ => ?_
  rw [dcol_blk, wcol_at _ d e.val ⟨e.val / 768, by have := e.isLt; omega⟩ ⟨e.val % 768, by omega⟩ (by simp; omega),
    blkW m c t _ d _ e (by simp; omega)]

theorem xn_blk (c : Dev nD) (t : Fin cfg0.N) (s : Fin 512) (d : Fin 1024) :
    k0_pay7 (F := Ideal) (iblk m c 4 t) (ix2 s d) = NormIn.xn (argX m c) (row t s) d := by
  rw [norm_blk]
  simp only [blkX]
  rfl

theorem hn_blk (c : Dev nD) (t : Fin cfg0.N) (s : Fin 512) (d : Fin 1024) :
    k0_pay8 (F := Ideal) (iblk m c 4 t) (iblk m c 5 t) (ix2 s d) = NormIn.xn (argX m c) (row t s) d * argG m c d := by
  rw [← xn_blk, ← blkG m c t]
  pointwise [k0_pay8]

/-- The rows' gradient the kernel leaves. -/
theorem final7 (c : Dev nD) : (dats m 0 c).arrAt 7 (cfgs 0).N = fun y : S8192x1024.Idx =>
    NormIn.dx (argA m c) (argB m c) (argC m c) (argW m c) (argX m c) (argG m c) (argR m c) (y 0) (y 1) := by
  refine (dats m 0 c).arrAt_eq_of_covers 7 _ (by decide +kernel) fun t hf y => ?_
  blk_simp
  rw [after0_7, out7 m c t]
  obtain ⟨s, d, rfl⟩ : ∃ (s : Fin 512) (d : Fin 1024), y = ix2 s d := ⟨y 0, y 1, by ext a; fin_cases a <;> rfl⟩
  have he : (win0_7.blk t).view.emb (ix2 s d) = ix2 (row t s) d := by blk_ext [idx t, row]
  refine (dx_blk _ _ _ _ s d).trans ?_
  rw [he]
  simp only [blkX, blkR, blkG, dh_blk]
  rfl

/-- The scale's gradient the kernel leaves. -/
theorem final8 (c : Dev nD) : (dats m 0 c).arrAt 8 (cfgs 0).N = fun y : S1x1024.Idx =>
    NormIn.dg (argA m c) (argB m c) (argC m c) (argW m c) (argX m c) (y 1) := by
  refine (dats m 0 c).arrAt_eq_of_after_last 8 t0_15 (by decide +kernel) _ fun j => ?_
  blk_simp
  have hd : ∀ i : S1x1024.Idx, i = ix2 0 (i 1) := fun i => by
    ext a; fin_cases a
    · have h0 := (i 0).isLt; show (i 0).val = 0; change (i 0).val < 1 at h0; omega
    · rfl
  have hz : ∀ i : S1x1024.Idx, k0_pay4 (F := Ideal) i = 0 := fun i => by pointwise [k0_pay4]
  have hp : ∀ (t : Fin cfg0.N) (acc : FVec Ideal S1x1024 .f32) (i : S1x1024.Idx),
      k0_pay2 (F := Ideal) (k0_pay7 (iblk m c 4 t)) (dhBlk (iblk m c 0 t) (iblk m c 1 t) (iblk m c 2 t) (iblk m c 3 t)) acc i
        = acc i + ∑ s : Fin 512, NormIn.dh (argA m c) (argB m c) (argC m c) (argW m c) (row t s) (i 1) * NormIn.xn (argX m c) (row t s) (i 1) :=
    fun t acc i => by
      rw [hd i]
      refine (dg_blk _ _ _ _).trans (congrArg₂ (· + ·) rfl (Finset.sum_congr rfl fun s _ => ?_))
      exact congrArg₂ (· * ·) (dh_blk m c t s _) (xn_blk m c t s _)
  rw [after0_8, Pipeline.eq_sum_fin_of_reset_step_apply_last (fun n h => (outsAt0 m c n h).2.1) 16 (fun _ => 0) _
    (fun t h i => by rw [out8_A m c t h, hp, hz]) (fun t h i => by rw [out8_B m c t h, hp]) (le_of_eq N_0) t0_15 rfl j, zero_add]
  exact Fin.sum_mul_add_congr fun t k hl => rfl

/-- The weight's gradient the kernel leaves. -/
theorem final9 (c : Dev nD) : (dats m 0 c).arrAt 9 (cfgs 0).N = fun y : S4x1024x768.Idx =>
    NormIn.dw (argA m c) (argB m c) (argC m c) (argX m c) (argG m c) (y 1) (768 * (y 0).val + (y 2).val) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => out9_A m c t h j) (fun t h j => out9_B m c t h j) (le_of_eq N_0) t0_15 rfl j, zero_add]
  unfold dwPart
  refine Fin.sum_mul_add_congr fun t k hl => ?_
  exact congrArg₂ (· * ·) (hn_blk m c t k (j 1)) (dcol_blk m c t k _)

end Cert.OddInIdeal.Gradient

end
-- ==== Proof.OddInRefValue.lean ====
module

public import proofs.«01_k».proof.Proof.NormIn
public import proofs.«01_k».proof.Proof.Gen.OddInRefIdeal.Read
public import Idealize.ShloMosaic.Lib.Pipeline.ValueKit
public import Idealize.ShloMosaic.Lib.Claim

@[expose] public section

set_option maxRecDepth 16384

noncomputable section

namespace Cert.OddInRefIdeal.Gradient

open Cert.OddInRefIdeal Cert.OddInRefIdeal.Read Idealize.ShloMosaic Idealize.ShloMosaic.TcCoe Idealize.SL.Sem
open Cert.Columns

variable (x0 x1 x2 : FVec Ideal S8192x1024 .f32) (x3 : FVec Ideal S1024x3072 .f32) (x4 : FVec Ideal S8192x1024 .f32)
  (x5 : FVec Ideal S1024 .f32) (x6 : FVec Ideal S8192x1024 .f32)

/-- The cotangents side by side. -/
theorem v17_at (s : Fin 8192) (e : Fin 3072) :
    val_main_v17 (F := Ideal) x0 x1 x2 (ix2 s e) = cat (fun r j => x0 (ix2 r j)) (fun r j => x1 (ix2 r j)) (fun r j => x2 (ix2 r j)) s e.val := by
  have he := e.isLt
  pointwise [val_main_v17]
  by_cases h1 : e.val < 1024
  · exact (dif_pos h1).trans (cat_first (fun r j => x0 (ix2 r j)) _ _ s e.val ⟨e.val, h1⟩ rfl).symm
  · by_cases h2 : e.val - 1024 < 1024
    · exact (dif_neg h1).trans ((dif_pos h2).trans (cat_second _ (fun r j => x1 (ix2 r j)) _ s e.val ⟨e.val - 1024, h2⟩ (by show e.val = 1024 + (e.val - 1024); omega)).symm)
    · exact (dif_neg h1).trans ((dif_neg h2).trans (cat_third _ _ (fun r j => x2 (ix2 r j)) s e.val
          ⟨e.val - 1024 - 1024, by omega⟩ (by show e.val = 1024 + 1024 + (e.val - 1024 - 1024); omega)).symm)

/-- The cotangent of the scaled rows. -/
theorem v20_at (s : Fin 8192) (d : Fin 1024) :
    val_main_v20 (F := Ideal) x0 x1 x2 x3 (ix2 s d)
      = NormIn.dh (fun r j => x0 (ix2 r j)) (fun r j => x1 (ix2 r j)) (fun r j => x2 (ix2 r j)) (fun k e => x3 (ix2 k e)) s d := by
  pointwise [val_main_v20]
  exact Finset.sum_congr rfl fun e _ => congrArg₂ (· * ·) (v17_at x0 x1 x2 s e) rfl

theorem v7_at (s : Fin 8192) :
    val_main_v7 (F := Ideal) x4 (ix2 s 0) = Ideal.rsqrt (Rms.ms fun k => x4 (ix2 s k)) := by
  pointwise [val_main_v7, val_main_v6, val_main_v5, val_main_v4, val_main_v3, val_main_v2, val_main_v1, val_main_v0,
    val_main_cst, val_main_cst_0, val_main_cst_1, Rms.ms]

theorem v10_at (s : Fin 8192) :
    val_main_v10 (F := Ideal) x4 (ix2 s 0)
      = Ideal.ofBits .f32 0xBF000000#32 * Ideal.div (Ideal.rsqrt (Rms.ms fun k => x4 (ix2 s k))) (Rms.ms fun k => x4 (ix2 s k)) := by
  have h6 : val_main_v6 (F := Ideal) x4 (ix2 s 0) = Rms.ms fun k => x4 (ix2 s k) := by
    pointwise [val_main_v6, val_main_v5, val_main_v4, val_main_v3, val_main_v2, val_main_v1, val_main_v0,
      val_main_cst, val_main_cst_0, val_main_cst_1, Rms.ms]
  rw [← v7_at, ← h6]
  pointwise [val_main_v10, val_main_v9, val_main_v8, val_main_cst_2]

/-- The rows' gradient of the reference. -/
theorem v41_at (s : Fin 8192) (d : Fin 1024) :
    val_main_v41 (F := Ideal) x0 x1 x2 x3 x4 x5 x6 (ix2 s d)
      = NormIn.dx (fun r j => x0 (ix2 r j)) (fun r j => x1 (ix2 r j)) (fun r j => x2 (ix2 r j)) (fun k e => x3 (ix2 k e))
          (fun r k => x4 (ix2 r k)) (fun k => x5 (ix1 k)) (fun r k => x6 (ix2 r k)) s d := by
  rw [NormIn.dx_chain]
  have h13 : ∀ k : Fin 1024, val_main_v13 (F := Ideal) x5 (ix2 0 k) = x5 (ix1 k) := fun k => by pointwise [val_main_v13]
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_cst_7, val_main_cst_5, val_main_cst_6]
  simp only [Fin.sum_univ_one, v20_at, v10_at, v7_at, h13, Fin.isValue]
  rfl

/-- The scale's gradient of the reference. -/
theorem v42_at (d : Fin 1024) :
    val_main_v42 (F := Ideal) x0 x1 x2 x3 x4 (ix2 0 d)
      = NormIn.dg (fun r j => x0 (ix2 r j)) (fun r j => x1 (ix2 r j)) (fun r j => x2 (ix2 r j)) (fun k e => x3 (ix2 k e))
          (fun r k => x4 (ix2 r k)) d := by
  pointwise [val_main_v42, val_main_v26, val_main_v23, val_main_v22, val_main_v21, val_main_v12, val_main_v11, val_main_cst_3, val_main_cst_4]
  simp only [Fin.sum_univ_one, v20_at, v7_at, Fin.isValue]
  exact Finset.sum_congr rfl fun s _ => mul_comm _ _

/-- The weight's gradient of the reference, in four slabs of 768 columns. -/
theorem v44_at (p : Fin 4) (d : Fin 1024) (q : Fin 768) :
    val_main_v44 (F := Ideal) x0 x1 x2 x4 x5 (ix3 p d q)
      = NormIn.dw (fun r j => x0 (ix2 r j)) (fun r j => x1 (ix2 r j)) (fun r j => x2 (ix2 r j)) (fun r k => x4 (ix2 r k))
          (fun k => x5 (ix1 k)) d (768 * p.val + q.val) := by
  pointwise [val_main_v44, val_main_v43, val_main_v19, val_main_v18, val_main_v15, val_main_v14, val_main_v13, val_main_v12, val_main_v11]
  refine Finset.sum_congr rfl fun s _ => ?_
  rw [v17_at, v7_at, mul_comm (768 : ℕ)]
  exact mul_comm _ _

end Cert.OddInRefIdeal.Gradient

end
-- ==== Proof.OddInClaim.lean ====
/- The kernel's three gradients are the reference's three gradients. -/
module

public import proofs.«01_k».proof.Defs
public import proofs.«01_k».proof.Proof.OddInFinal
public import proofs.«01_k».proof.Proof.OddInRefValue
public import proofs.«01_k».proof.Proof.Gen.OddInIdeal
public import proofs.«01_k».proof.Proof.Gen.OddInRefIdeal

@[expose] public section

set_option maxRecDepth 16384

noncomputable section

namespace Cert.Proof

open Idealize.ShloMosaic Idealize.SL.Sem

/-- From the same arguments the kernel and the reference leave the same rows' gradient, scale's gradient and weight's gradient. -/
theorem algebraic_oddIn : Cert.algebraic_OddInIdeal_OddInRefIdeal := by
  pair_intro
  · run_from Cert.OddInIdeal.Gen.run_main m g
  · run_from Cert.OddInRefIdeal.Value.run m' g'
    · obtain ⟨h0, h1, h2, h3, h4, h5, h6⟩ := hagree c
      rw [Cert.OddInIdeal.Gradient.final7 m c, Cert.OddInRefIdeal.Read.val_main_v41_eq, h0, h1, h2, h3, h4, h5, h6]
      funext y
      obtain ⟨s, d, rfl⟩ : ∃ (s : Fin 8192) (d : Fin 1024), y = ix2 s d := ⟨y 0, y 1, by ext a; fin_cases a <;> rfl⟩
      exact Cert.OddInRefIdeal.Gradient.v41_at _ _ _ _ _ _ _ s d
    · rw [Cert.OddInIdeal.Gradient.final8 m c]
      refine (Cert.OddInRefIdeal.Read.val_main_v42_eq _ _ _ _ _).trans (funext fun y => ?_)
      obtain ⟨s, d, rfl⟩ : ∃ (s : Fin 1) (d : Fin 1024), y = ix2 s d := ⟨y 0, y 1, by ext a; fin_cases a <;> rfl⟩
      obtain rfl : s = 0 := Subsingleton.elim _ _
      exact Cert.OddInRefIdeal.Gradient.v42_at _ _ _ _ _ d
    · rw [Cert.OddInIdeal.Gradient.final9 m c]
      refine (Cert.OddInRefIdeal.Read.val_main_v44_eq _ _ _ _ _).trans (funext fun y => ?_)
      obtain ⟨p, d, q, rfl⟩ : ∃ (p : Fin 4) (d : Fin 1024) (q : Fin 768), y = ix3 p d q := ⟨y 0, y 1, y 2, by ext a; fin_cases a <;> rfl⟩
      exact Cert.OddInRefIdeal.Gradient.v44_at _ _ _ _ _ p d q

end Cert.Proof

end
-- ==== Proof.EvenInValue.lean ====
module

public import proofs.«01_k».proof.Proof.Rms
public import proofs.«01_k».proof.Proof.Columns
public import proofs.«01_k».proof.Proof.Gen.EvenInIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.EvenInIdeal.Gradient

open Cert.EvenInIdeal Cert.EvenInIdeal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The three cotangent blocks side by side, at row `k`, column `e`. -/
def dcol (X0 X1 : FVec Ideal S512x512 .bf16) (X2 : FVec Ideal S512x1024 .bf16) (k : Fin 512) (e : ℕ) : EReal :=
  cat (fun r j => X0 (ix2 r j)) (fun r j => X1 (ix2 r j)) (fun r j => X2 (ix2 r j)) k e

theorem dcol_first (X0 X1 : FVec Ideal S512x512 .bf16) (X2 : FVec Ideal S512x1024 .bf16) (k : Fin 512) (e : ℕ) (j : Fin 512) (h : e = j.val) :
    dcol X0 X1 X2 k e = X0 (ix2 k j) :=
  cat_first _ _ _ k e j h

theorem dcol_second (X0 X1 : FVec Ideal S512x512 .bf16) (X2 : FVec Ideal S512x1024 .bf16) (k : Fin 512) (e : ℕ) (j : Fin 512) (h : e = 512 + j.val) :
    dcol X0 X1 X2 k e = X1 (ix2 k j) :=
  cat_second _ _ _ k e j h

theorem dcol_third (X0 X1 : FVec Ideal S512x512 .bf16) (X2 : FVec Ideal S512x1024 .bf16) (k : Fin 512) (e : ℕ) (j : Fin 1024) (h : e = 1024 + j.val) :
    dcol X0 X1 X2 k e = X2 (ix2 k j) :=
  cat_third _ _ _ k e j h

/-- What one point adds to the weight gradient. -/
def dwPart (X0 X1 : FVec Ideal S512x512 .bf16) (X2 : FVec Ideal S512x1024 .bf16) (H : FVec Ideal S512x1024 .bf16) (y : S4x1024x512.Idx) : EReal :=
  ∑ k : Fin 512, H (ix2 k (y 1)) * dcol X0 X1 X2 k (512 * (y 0).val + (y 2).val)

/-- The four stores of a point into the weight gradient held so far. -/
def dwPieces (X0 X1 : FVec Ideal S512x512 .bf16) (X2 : FVec Ideal S512x1024 .bf16) (X4 : FVec Ideal S512x1024 .f32) (X5 : FVec Ideal S1x1024 .f32)
    (acc : FVec Ideal S4x1024x512 .f32) : List (View.Piece (Elt Ideal) S4x1024x512 .f32) :=
  [⟨Rect.unit ![3, 0, 0] ![1, 1024, 512] inb_S4x1024x512_S1x1024x512_3_0_0,
      k0_pay2 (k0_pay9 (F := Ideal) X4 X5) (k0_pay18 (View.ld (Val := Elt Ideal) (e' := .bf16) X2 (Rect.unit ![0, 512] ![512, 512] inb_S512x1024_S512x512_0_512)))
        (View.ld (Val := Elt Ideal) (e' := .f32) acc (Rect.unit ![3, 0, 0] ![1, 1024, 512] inb_S4x1024x512_S1x1024x512_3_0_0))⟩,
    ⟨Rect.unit ![2, 0, 0] ![1, 1024, 512] inb_S4x1024x512_S1x1024x512_2_0_0,
      k0_pay17 (k0_pay9 (F := Ideal) X4 X5) (View.ld (Val := Elt Ideal) (e' := .bf16) X2 (Rect.unit ![0, 0] ![512, 512] inb_S512x1024_S512x512_0_0))
        (View.ld (Val := Elt Ideal) (e' := .f32) acc (Rect.unit ![2, 0, 0] ![1, 1024, 512] inb_S4x1024x512_S1x1024x512_2_0_0))⟩,
    ⟨Rect.unit ![1, 0, 0] ![1, 1024, 512] inb_S4x1024x512_S1x1024x512_1_0_0,
      k0_pay14 (k0_pay9 (F := Ideal) X4 X5) (k0_pay13 X1)
        (View.ld (Val := Elt Ideal) (e' := .f32) acc (Rect.unit ![1, 0, 0] ![1, 1024, 512] inb_S4x1024x512_S1x1024x512_1_0_0))⟩,
    ⟨Rect.unit ![0, 0, 0] ![1, 1024, 512] inb_S4x1024x512_S1x1024x512_0_0_0,
      k0_pay12 (F := Ideal) X4 X5 X0
        (View.ld (Val := Elt Ideal) (e' := .f32) acc (Rect.unit ![0, 0, 0] ![1, 1024, 512] inb_S4x1024x512_S1x1024x512_0_0_0))⟩]

theorem emb_at {p0 : ℕ} (inb : ∀ a, ![p0, 0, 0] a + ![1, 1024, 512] a ≤ S4x1024x512.size a)
    (x : (Rect.unit (s := S4x1024x512) ![p0, 0, 0] ![1, 1024, 512] inb).shape.Idx) (i : Fin 4) (hi : i.val = p0) :
    (Rect.unit (s := S4x1024x512) ![p0, 0, 0] ![1, 1024, 512] inb).emb x = ix3 i (x 1) (x 2) := by
  have h0 : (x 0).val < 1 := (x 0).isLt
  funext a
  apply Fin.ext
  rw [ValueKit.rect_emb_unit_val]
  fin_cases a
  · show p0 + (x 0).val = i.val; omega
  · show 0 + (x 1).val = (x 1).val; omega
  · show 0 + (x 2).val = (x 2).val; omega

/-- Each store writes its part of the held gradient plus the point's part. -/
theorem pieces (X0 X1 : FVec Ideal S512x512 .bf16) (X2 : FVec Ideal S512x1024 .bf16) (X4 : FVec Ideal S512x1024 .f32) (X5 : FVec Ideal S1x1024 .f32)
    (acc : FVec Ideal S4x1024x512 .f32) :
    View.PiecesOf (Val := Elt Ideal) (s := S4x1024x512) (e := .f32) (fun y => acc y + dwPart X0 X1 X2 (k0_pay9 (F := Ideal) X4 X5) y)
      (dwPieces X0 X1 X2 X4 X5 acc) := by
  unfold dwPieces
  have h12 : ∀ (a : FVec Ideal S512x512 .bf16) (b), k0_pay12 (F := Ideal) X4 X5 a b = k0_pay14 (k0_pay9 (F := Ideal) X4 X5) (k0_pay13 a) b := by
    intro a b; funext y; pointwise [k0_pay12, k0_pay14, k0_pay13, k0_pay10]
  rw [h12]
  generalize (k0_pay9 (F := Ideal) X4 X5) = H
  refine ⟨fun x => ?_, fun x => ?_, fun x => ?_, fun x => ?_, trivial⟩
  · pointwise [k0_pay2, k0_pay18]
    have hx : (x 2).val < 512 := (x 2).isLt
    rw [emb_at _ x 3 rfl]
    refine congrArg₂ (· + ·) (by congr 1 <;> simp) (Finset.sum_congr rfl fun k _ => congrArg₂ (· * ·) rfl (dcol_third X0 X1 X2 k _ _ ?_).symm)
    show 512 * 3 + (x 2).val = _
    simp; try omega
  · pointwise [k0_pay17, k0_pay15]
    have hx : (x 2).val < 512 := (x 2).isLt
    rw [emb_at _ x 2 rfl]
    refine congrArg₂ (· + ·) (by congr 1 <;> simp) (Finset.sum_congr rfl fun k _ => congrArg₂ (· * ·) rfl (dcol_third X0 X1 X2 k _ _ ?_).symm)
    show 512 * 2 + (x 2).val = _
    simp; try omega
  · pointwise [k0_pay14, k0_pay13]
    have hx : (x 2).val < 512 := (x 2).isLt
    rw [emb_at _ x 1 rfl]
    refine congrArg₂ (· + ·) (by congr 1 <;> simp) (Finset.sum_congr rfl fun k _ => congrArg₂ (· * ·) rfl (dcol_second X0 X1 X2 k _ _ ?_).symm)
    show 512 * 1 + (x 2).val = _
    simp; try omega
  · pointwise [k0_pay14, k0_pay13]
    have hx : (x 2).val < 512 := (x 2).isLt
    rw [emb_at _ x 0 rfl]
    refine congrArg₂ (· + ·) (by congr 1 <;> simp) (Finset.sum_congr rfl fun k _ => congrArg₂ (· * ·) rfl (dcol_first X0 X1 X2 k _ _ ?_).symm)
    show 512 * 0 + (x 2).val = _
    simp; try omega

/-- The four stores cover the gradient, so over anything stored before they leave the held gradient plus the point's part. -/
theorem canon_pieces (X0 X1 : FVec Ideal S512x512 .bf16) (X2 : FVec Ideal S512x1024 .bf16) (X4 : FVec Ideal S512x1024 .f32) (X5 : FVec Ideal S1x1024 .f32)
    (acc : FVec Ideal S4x1024x512 .f32) (L : List (View.Piece (Elt Ideal) S4x1024x512 .f32)) (y : S4x1024x512.Idx) :
    View.canon (dwPieces X0 X1 X2 X4 X5 acc ++ L) y = acc y + dwPart X0 X1 X2 (k0_pay9 (F := Ideal) X4 X5) y :=
  View.canon_append_of_piecesOf _ L _ (pieces X0 X1 X2 X4 X5 acc) y
    (View.cover_of_tiledBy _ ![1, 1024, 512] (by sl_kernel_rfl) y)

/-- The parts of the cotangent of the scaled rows that come from the first three slabs of the weight. -/
def dhFirst (X0 X1 : FVec Ideal S512x512 .bf16) (X2 : FVec Ideal S512x1024 .bf16) (W : FVec Ideal S4x1024x512 .bf16) : FVec Ideal S512x1024 .f32 :=
  k0_pay16
    (k0_pay11 X0
      (View.ld (Val := Elt Ideal) (e' := .bf16) W (Rect.unit ![0, 0, 0] ![1, 1024, 512] inb_S4x1024x512_S1x1024x512_0_0_0)))
    (k0_pay13 X1)
    (View.ld (Val := Elt Ideal) (e' := .bf16) W (Rect.unit ![1, 0, 0] ![1, 1024, 512] inb_S4x1024x512_S1x1024x512_1_0_0))
    (View.ld (Val := Elt Ideal) (e' := .bf16) X2 (Rect.unit ![0, 0] ![512, 512] inb_S512x1024_S512x512_0_0))
    (View.ld (Val := Elt Ideal) (e' := .bf16) W (Rect.unit ![2, 0, 0] ![1, 1024, 512] inb_S4x1024x512_S1x1024x512_2_0_0))

/-- The cotangent of one block's scaled rows: the product of the cotangent blocks with the weight. -/
def dhBlk (X0 X1 : FVec Ideal S512x512 .bf16) (X2 : FVec Ideal S512x1024 .bf16) (W : FVec Ideal S4x1024x512 .bf16) : FVec Ideal S512x1024 .f32 :=
  k0_pay1 (dhFirst X0 X1 X2 W) (k0_pay18 (View.ld (Val := Elt Ideal) (e' := .bf16) X2 (Rect.unit ![0, 512] ![512, 512] inb_S512x1024_S512x512_0_512)))
    (k0_pay19 (View.ld (Val := Elt Ideal) (e' := .bf16) W (Rect.unit ![3, 0, 0] ![1, 1024, 512] inb_S4x1024x512_S1x1024x512_3_0_0)))
    (constant S512x1024 FTy.f32 0#32)

/-- Column `e` of the weight, kept as four slabs of 512 columns, at row `d`. -/
def wcol (W : FVec Ideal S4x1024x512 .bf16) (d : Fin 1024) (e : ℕ) : EReal :=
  if h : e / 512 < 4 then W (ix3 ⟨e / 512, h⟩ d ⟨e % 512, Nat.mod_lt _ (by decide)⟩) else 0

theorem wcol_at (W : FVec Ideal S4x1024x512 .bf16) (d : Fin 1024) (e : ℕ) (p : Fin 4) (q : Fin 512) (h : e = 512 * p.val + q.val) :
    wcol W d e = W (ix3 p d q) := by
  have h1 : e / 512 = p.val := by have := q.isLt; omega
  have h2 : e % 512 = q.val := by have := q.isLt; omega
  unfold wcol
  rw [dif_pos (by rw [h1]; exact p.isLt)]
  congr 2 <;> exact Fin.ext (by assumption)

theorem dhBlk_apply (X0 X1 : FVec Ideal S512x512 .bf16) (X2 : FVec Ideal S512x1024 .bf16) (W : FVec Ideal S4x1024x512 .bf16) (s : Fin 512) (d : Fin 1024) :
    dhBlk X0 X1 X2 W (ix2 s d) = ∑ e : Fin 2048, dcol X0 X1 X2 s e.val * wcol W d e.val := by
  unfold dcol
  rw [sum_cat _ _ _ 2048 rfl]
  pointwise [dhBlk, dhFirst, k0_pay1, k0_pay16, k0_pay11, k0_pay10, k0_pay13, k0_pay15, k0_pay18, k0_pay19]
  rw [show (∑ j : Fin 1024, X2 (ix2 s j) * wcol W d (512 + 512 + j.val)) = _ from Fin.sum_univ_add (a := 512) (b := 512) _]
  simp only [← add_assoc]
  refine congrArg₂ (· + ·) (congrArg₂ (· + ·) (congrArg₂ (· + ·) ?_ ?_) ?_) ?_ <;>
    refine Finset.sum_congr rfl fun j _ => congrArg₂ (· * ·) (by congr 1) (wcol_at W d _ _ _ ?_).symm <;>
    simp <;> omega

theorem rsqrt_blk (X : FVec Ideal S512x1024 .f32) (s : Fin 512) :
    k0_pay7 (F := Ideal) X (ix2 s 0) = Ideal.rsqrt (Rms.ms fun k => X (ix2 s k)) := by
  pointwise [k0_pay7, Rms.ms]

theorem norm_blk (X : FVec Ideal S512x1024 .f32) (s : Fin 512) (d : Fin 1024) :
    k0_pay8 (F := Ideal) X (ix2 s d) = X (ix2 s d) * Ideal.rsqrt (Rms.ms fun k => X (ix2 s k)) := by
  rw [← rsqrt_blk]
  pointwise [k0_pay8]

/-- The block of the rows' gradient a point stores. -/
def dxBlk (X : FVec Ideal S512x1024 .f32) (X0 X1 : FVec Ideal S512x512 .bf16) (X2 : FVec Ideal S512x1024 .bf16) (W : FVec Ideal S4x1024x512 .bf16) (G : FVec Ideal S1x1024 .f32)
    (R : FVec Ideal S512x1024 .f32) : FVec Ideal S512x1024 .f32 :=
  k0_pay4 (k0_pay7 X) (k0_pay8 X) (dhFirst X0 X1 X2 W) (k0_pay18 (View.ld (Val := Elt Ideal) (e' := .bf16) X2 (Rect.unit ![0, 512] ![512, 512] inb_S512x1024_S512x512_0_512)))
    (k0_pay19 (View.ld (Val := Elt Ideal) (e' := .bf16) W (Rect.unit ![3, 0, 0] ![1, 1024, 512] inb_S4x1024x512_S1x1024x512_3_0_0)))
    (constant S512x1024 FTy.f32 0#32) G R

theorem dx_blk (X : FVec Ideal S512x1024 .f32) (X0 X1 : FVec Ideal S512x512 .bf16) (X2 : FVec Ideal S512x1024 .bf16) (W : FVec Ideal S4x1024x512 .bf16) (G : FVec Ideal S1x1024 .f32)
    (R : FVec Ideal S512x1024 .f32) (s : Fin 512) (d : Fin 1024) :
    dxBlk X X0 X1 X2 W G R (ix2 s d)
      = R (ix2 s d) + Rms.gradHand (fun k => X (ix2 s k)) (fun k => dhBlk X0 X1 X2 W (ix2 s k) * G (ix2 0 k)) d := by
  unfold dhBlk
  generalize hF : dhFirst X0 X1 X2 W = F1
  generalize hP : k0_pay18 (F := Ideal) (View.ld (Val := Elt Ideal) (e' := .bf16) X2 (Rect.unit ![0, 512] ![512, 512] inb_S512x1024_S512x512_0_512)) = P1
  generalize hQ : k0_pay19 (F := Ideal) (View.ld (Val := Elt Ideal) (e' := .bf16) W (Rect.unit ![3, 0, 0] ![1, 1024, 512] inb_S4x1024x512_S1x1024x512_3_0_0)) = Q1
  pointwise [dxBlk]
  rw [hF, hP, hQ]
  pointwise [k0_pay4]
  simp only [norm_blk, rsqrt_blk]
  rfl

/-- The scale's gradient a point leaves over the one held so far. -/
def dgBlk (N : FVec Ideal S512x1024 .f32) (X0 X1 : FVec Ideal S512x512 .bf16) (X2 : FVec Ideal S512x1024 .bf16) (W : FVec Ideal S4x1024x512 .bf16) (acc : FVec Ideal S1x1024 .f32) : FVec Ideal S1x1024 .f32 :=
  k0_pay3 N (dhFirst X0 X1 X2 W) (k0_pay18 (View.ld (Val := Elt Ideal) (e' := .bf16) X2 (Rect.unit ![0, 512] ![512, 512] inb_S512x1024_S512x512_0_512)))
    (k0_pay19 (View.ld (Val := Elt Ideal) (e' := .bf16) W (Rect.unit ![3, 0, 0] ![1, 1024, 512] inb_S4x1024x512_S1x1024x512_3_0_0)))
    (constant S512x1024 FTy.f32 0#32) acc

theorem dg_blk (N : FVec Ideal S512x1024 .f32) (X0 X1 : FVec Ideal S512x512 .bf16) (X2 : FVec Ideal S512x1024 .bf16) (W : FVec Ideal S4x1024x512 .bf16) (acc : FVec Ideal S1x1024 .f32) (d : Fin 1024) :
    dgBlk N X0 X1 X2 W acc (ix2 0 d) = acc (ix2 0 d) + ∑ s : Fin 512, dhBlk X0 X1 X2 W (ix2 s d) * N (ix2 s d) := by
  unfold dgBlk dhBlk
  pointwise [k0_pay3]

theorem out7 (c : Dev nD) (t : Fin cfg0.N) :
    (outsAt0 m c t.val t.isLt).1
      = dxBlk (iblk m c 4 t) (iblk m c 0 t) (iblk m c 1 t) (iblk m c 2 t) (iblk m c 3 t) (iblk m c 5 t) (iblk m c 6 t) := by
  by_cases h : t.val % 16 = 0
  · funext y; rw [outsAt0_A m c t h]; frame_out; rfl
  · funext y; rw [outsAt0_B m c t h]; frame_out; rfl

theorem out8_A (c : Dev nD) (t : Fin cfg0.N) (h : t.val % 16 = 0) :
    (outsAt0 m c t.val t.isLt).2.1
      = dgBlk (k0_pay8 (iblk m c 4 t)) (iblk m c 0 t) (iblk m c 1 t) (iblk m c 2 t) (iblk m c 3 t) (k0_pay5 (F := Ideal)) := by
  funext y; rw [outsAt0_A m c t h]; frame_out; rfl

theorem out8_B (c : Dev nD) (t : Fin cfg0.N) (h : ¬ t.val % 16 = 0) :
    (outsAt0 m c t.val t.isLt).2.1
      = dgBlk (k0_pay8 (iblk m c 4 t)) (iblk m c 0 t) (iblk m c 1 t) (iblk m c 2 t) (iblk m c 3 t)
          (outsAt0 m c (t.val - 1) (by have := t.isLt; omega)).2.1 := by
  funext y; rw [outsAt0_B m c t h]; frame_out; rfl

set_option maxHeartbeats 1000000 in
/-- The first point of a run of sixteen starts the weight gradient from zero. -/
theorem out9_A (c : Dev nD) (t : Fin cfg0.N) (h : t.val % 16 = 0) (y : S4x1024x512.Idx) :
    (outsAt0 m c t.val t.isLt).2.2 y
      = 0 + dwPart (iblk m c 0 t) (iblk m c 1 t) (iblk m c 2 t) (k0_pay9 (iblk m c 4 t) (iblk m c 5 t)) y := by
  rw [outsAt0_A m c t h]; frame_open
  simp (disch := decide) only [↓ View.readCov_skip, ↓ View.readCov_cons_toLoadRect, ↓ View.readCov_fill]
  frame_out
  have hz : k0_pay6 (F := Ideal) y = 0 := by pointwise [k0_pay6]
  rw [← hz]
  generalize k0_pay6 (F := Ideal) = Z
  exact canon_pieces (iblk m c 0 t) (iblk m c 1 t) (iblk m c 2 t) (iblk m c 4 t) (iblk m c 5 t) Z
    [⟨Rect.unit ![0, 0, 0] ![4, 1024, 512] inb_S4x1024x512_S4x1024x512_0_0_0, Z⟩] y

theorem out9_B (c : Dev nD) (t : Fin cfg0.N) (h : ¬ t.val % 16 = 0) (y : S4x1024x512.Idx) :
    (outsAt0 m c t.val t.isLt).2.2 y
      = (outsAt0 m c (t.val - 1) (by have := t.isLt; omega)).2.2 y
        + dwPart (iblk m c 0 t) (iblk m c 1 t) (iblk m c 2 t) (k0_pay9 (iblk m c 4 t) (iblk m c 5 t)) y := by
  rw [outsAt0_B m c t h]; frame_out
  exact canon_pieces (iblk m c 0 t) (iblk m c 1 t) (iblk m c 2 t) (iblk m c 4 t) (iblk m c 5 t) _ [] y

end Cert.EvenInIdeal.Gradient

end
-- ==== Proof.EvenInFinal.lean ====
module

public import proofs.«01_k».proof.Proof.EvenInValue
public import proofs.«01_k».proof.Proof.NormIn

@[expose] public section

set_option maxRecDepth 16384

noncomputable section

namespace Cert.EvenInIdeal.Gradient

open Cert.EvenInIdeal Cert.EvenInIdeal.Gen Idealize.ShloMosaic Idealize.ShloMosaic.TcCoe Idealize.SL.Sem
open Idealize.ShloMosaic.Pipeline (Dat)
open Cert.Columns

variable (m : (ℓ : Loc nD τ sig) → Buf (Elt Ideal) ℓ)

/-- The block index of every window at every point. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0, 0] :=
  (by decide +kernel : ∀ t : Fin grid0.N, _)

/-- Row `s` of block `t`, as a row of the array. -/
def row (t : Fin cfg0.N) (s : Fin 512) : Fin 8192 :=
  ⟨t.val * 512 + s.val, by have := t.isLt; have h : cfg0.N = 16 := N_0; have := s.isLt; omega⟩

/-- The argument arrays of the kernel by row and column. -/
abbrev argA (c : Dev nD) (r : Fin 8192) (j : Fin 512) : EReal := m ((c : Thread nD τ).loc main_arg0) (ix2 r j)
abbrev argB (c : Dev nD) (r : Fin 8192) (j : Fin 512) : EReal := m ((c : Thread nD τ).loc main_arg1) (ix2 r j)
abbrev argC (c : Dev nD) (r : Fin 8192) (j : Fin 1024) : EReal := m ((c : Thread nD τ).loc main_arg2) (ix2 r j)
abbrev argW (c : Dev nD) (d : Fin 1024) (e : Fin 2048) : EReal := m ((c : Thread nD τ).loc main_arg3) (ix2 d e)
abbrev argX (c : Dev nD) (r : Fin 8192) (j : Fin 1024) : EReal := m ((c : Thread nD τ).loc main_arg4) (ix2 r j)
abbrev argG (c : Dev nD) (j : Fin 1024) : EReal := m ((c : Thread nD τ).loc main_arg5) (ix1 j)
abbrev argR (c : Dev nD) (r : Fin 8192) (j : Fin 1024) : EReal := m ((c : Thread nD τ).loc main_arg6) (ix2 r j)

theorem blkA (c : Dev nD) (t : Fin cfg0.N) (s : Fin 512) (j : Fin 512) : iblk m c 0 t (ix2 s j) = argA m c (row t s) j := by
  blk_point [iblk, V, idx t, row]
theorem blkB (c : Dev nD) (t : Fin cfg0.N) (s : Fin 512) (j : Fin 512) : iblk m c 1 t (ix2 s j) = argB m c (row t s) j := by
  blk_point [iblk, V, idx t, row]
theorem blkC (c : Dev nD) (t : Fin cfg0.N) (s : Fin 512) (j : Fin 1024) : iblk m c 2 t (ix2 s j) = argC m c (row t s) j := by
  blk_point [iblk, V, idx t, row]
theorem blkX (c : Dev nD) (t : Fin cfg0.N) (s : Fin 512) (j : Fin 1024) : iblk m c 4 t (ix2 s j) = argX m c (row t s) j := by
  blk_point [iblk, V, idx t, row]
theorem blkR (c : Dev nD) (t : Fin cfg0.N) (s : Fin 512) (j : Fin 1024) : iblk m c 6 t (ix2 s j) = argR m c (row t s) j := by
  blk_point [iblk, V, idx t, row]
theorem blkG (c : Dev nD) (t : Fin cfg0.N) (j : Fin 1024) : iblk m c 5 t (ix2 0 j) = argG m c j := by
  blk_point [iblk, V, idx t, row]
theorem blkW (c : Dev nD) (t : Fin cfg0.N) (p : Fin 4) (d : Fin 1024) (q : Fin 512) (e : Fin 2048) (h : e.val = 512 * p.val + q.val) :
    iblk m c 3 t (ix3 p d q) = argW m c d e := by
  blk_point [iblk, V, idx t]

/-- The cotangent blocks of point `t`, side by side, are the rows of block `t` of the arrays side by side. -/
theorem dcol_blk (c : Dev nD) (t : Fin cfg0.N) (k : Fin 512) (e : ℕ) :
    dcol (iblk m c 0 t) (iblk m c 1 t) (iblk m c 2 t) k e = cat (argA m c) (argB m c) (argC m c) (row t k) e := by
  unfold dcol cat
  simp only [blkA, blkB, blkC]

theorem dh_blk (c : Dev nD) (t : Fin cfg0.N) (s : Fin 512) (d : Fin 1024) :
    dhBlk (iblk m c 0 t) (iblk m c 1 t) (iblk m c 2 t) (iblk m c 3 t) (ix2 s d)
      = NormIn.dh (argA m c) (argB m c) (argC m c) (argW m c) (row t s) d := by
  rw [dhBlk_apply]
  refine Finset.sum_congr rfl fun e _ => ?_
  rw [dcol_blk, wcol_at _ d e.val ⟨e.val / 512, by have := e.isLt; omega⟩ ⟨e.val % 512, by omega⟩ (by simp; omega),
    blkW m c t _ d _ e (by simp; omega)]

theorem xn_blk (c : Dev nD) (t : Fin cfg0.N) (s : Fin 512) (d : Fin 1024) :
    k0_pay8 (F := Ideal) (iblk m c 4 t) (ix2 s d) = NormIn.xn (argX m c) (row t s) d := by
  rw [norm_blk]
  simp only [blkX]
  rfl

theorem hn_blk (c : Dev nD) (t : Fin cfg0.N) (s : Fin 512) (d : Fin 1024) :
    k0_pay9 (F := Ideal) (iblk m c 4 t) (iblk m c 5 t) (ix2 s d) = NormIn.xn (argX m c) (row t s) d * argG m c d := by
  rw [← xn_blk, ← blkG m c t]
  pointwise [k0_pay9]

/-- The rows' gradient the kernel leaves. -/
theorem final7 (c : Dev nD) : (dats m 0 c).arrAt 7 (cfgs 0).N = fun y : S8192x1024.Idx =>
    NormIn.dx (argA m c) (argB m c) (argC m c) (argW m c) (argX m c) (argG m c) (argR m c) (y 0) (y 1) := by
  refine (dats m 0 c).arrAt_eq_of_covers 7 _ (by decide +kernel) fun t hf y => ?_
  blk_simp
  rw [after0_7, out7 m c t]
  obtain ⟨s, d, rfl⟩ : ∃ (s : Fin 512) (d : Fin 1024), y = ix2 s d := ⟨y 0, y 1, by ext a; fin_cases a <;> rfl⟩
  have he : (win0_7.blk t).view.emb (ix2 s d) = ix2 (row t s) d := by blk_ext [idx t, row]
  refine (dx_blk _ _ _ _ _ _ _ s d).trans ?_
  rw [he]
  simp only [blkX, blkR, blkG, dh_blk]
  rfl

/-- The scale's gradient the kernel leaves. -/
theorem final8 (c : Dev nD) : (dats m 0 c).arrAt 8 (cfgs 0).N = fun y : S1x1024.Idx =>
    NormIn.dg (argA m c) (argB m c) (argC m c) (argW m c) (argX m c) (y 1) := by
  refine (dats m 0 c).arrAt_eq_of_after_last 8 t0_15 (by decide +kernel) _ fun j => ?_
  blk_simp
  have hd : ∀ i : S1x1024.Idx, i = ix2 0 (i 1) := fun i => by
    ext a; fin_cases a
    · have h0 := (i 0).isLt; show (i 0).val = 0; change (i 0).val < 1 at h0; omega
    · rfl
  have hz : ∀ i : S1x1024.Idx, k0_pay5 (F := Ideal) i = 0 := fun i => by pointwise [k0_pay5]
  have hp : ∀ (t : Fin cfg0.N) (acc : FVec Ideal S1x1024 .f32) (i : S1x1024.Idx),
      dgBlk (k0_pay8 (iblk m c 4 t)) (iblk m c 0 t) (iblk m c 1 t) (iblk m c 2 t) (iblk m c 3 t) acc i
        = acc i + ∑ s : Fin 512, NormIn.dh (argA m c) (argB m c) (argC m c) (argW m c) (row t s) (i 1) * NormIn.xn (argX m c) (row t s) (i 1) :=
    fun t acc i => by
      rw [hd i]
      refine (dg_blk _ _ _ _ _ _ _).trans (congrArg₂ (· + ·) rfl (Finset.sum_congr rfl fun s _ => ?_))
      exact congrArg₂ (· * ·) (dh_blk m c t s _) (xn_blk m c t s _)
  rw [after0_8, Pipeline.eq_sum_fin_of_reset_step_apply_last (fun n h => (outsAt0 m c n h).2.1) 16 (fun _ => 0) _
    (fun t h i => by rw [out8_A m c t h, hp, hz]) (fun t h i => by rw [out8_B m c t h, hp]) (le_of_eq N_0) t0_15 rfl j, zero_add]
  exact Fin.sum_mul_add_congr fun t k hl => rfl

/-- The weight's gradient the kernel leaves. -/
theorem final9 (c : Dev nD) : (dats m 0 c).arrAt 9 (cfgs 0).N = fun y : S4x1024x512.Idx =>
    NormIn.dw (argA m c) (argB m c) (argC m c) (argX m c) (argG m c) (y 1) (512 * (y 0).val + (y 2).val) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => out9_A m c t h j) (fun t h j => out9_B m c t h j) (le_of_eq N_0) t0_15 rfl j, zero_add]
  unfold dwPart
  refine Fin.sum_mul_add_congr fun t k hl => ?_
  exact congrArg₂ (· * ·) (hn_blk m c t k (j 1)) (dcol_blk m c t k _)

end Cert.EvenInIdeal.Gradient

end
-- ==== Proof.EvenInRefValue.lean ====
module

public import proofs.«01_k».proof.Proof.NormIn
public import proofs.«01_k».proof.Proof.Gen.EvenInRefIdeal.Read
public import Idealize.ShloMosaic.Lib.Pipeline.ValueKit
public import Idealize.ShloMosaic.Lib.Claim

@[expose] public section

set_option maxRecDepth 16384

noncomputable section

namespace Cert.EvenInRefIdeal.Gradient

open Cert.EvenInRefIdeal Cert.EvenInRefIdeal.Read Idealize.ShloMosaic Idealize.ShloMosaic.TcCoe Idealize.SL.Sem
open Cert.Columns

variable (x0 x1 : FVec Ideal S8192x512 .f32) (x2 : FVec Ideal S8192x1024 .f32) (x3 : FVec Ideal S1024x2048 .f32) (x4 : FVec Ideal S8192x1024 .f32)
  (x5 : FVec Ideal S1024 .f32) (x6 : FVec Ideal S8192x1024 .f32)

/-- The cotangents side by side. -/
theorem v17_at (s : Fin 8192) (e : Fin 2048) :
    val_main_v17 (F := Ideal) x0 x1 x2 (ix2 s e) = cat (fun r j => x0 (ix2 r j)) (fun r j => x1 (ix2 r j)) (fun r j => x2 (ix2 r j)) s e.val := by
  have he := e.isLt
  pointwise [val_main_v17]
  by_cases h1 : e.val < 512
  · exact (dif_pos h1).trans (cat_first (fun r j => x0 (ix2 r j)) _ _ s e.val ⟨e.val, h1⟩ rfl).symm
  · by_cases h2 : e.val - 512 < 512
    · exact (dif_neg h1).trans ((dif_pos h2).trans (cat_second _ (fun r j => x1 (ix2 r j)) _ s e.val ⟨e.val - 512, h2⟩ (by show e.val = 512 + (e.val - 512); omega)).symm)
    · exact (dif_neg h1).trans ((dif_neg h2).trans (cat_third _ _ (fun r j => x2 (ix2 r j)) s e.val
          ⟨e.val - 512 - 512, by omega⟩ (by show e.val = 512 + 512 + (e.val - 512 - 512); omega)).symm)

/-- The cotangent of the scaled rows. -/
theorem v20_at (s : Fin 8192) (d : Fin 1024) :
    val_main_v20 (F := Ideal) x0 x1 x2 x3 (ix2 s d)
      = NormIn.dh (fun r j => x0 (ix2 r j)) (fun r j => x1 (ix2 r j)) (fun r j => x2 (ix2 r j)) (fun k e => x3 (ix2 k e)) s d := by
  pointwise [val_main_v20]
  exact Finset.sum_congr rfl fun e _ => congrArg₂ (· * ·) (v17_at x0 x1 x2 s e) rfl

theorem v7_at (s : Fin 8192) :
    val_main_v7 (F := Ideal) x4 (ix2 s 0) = Ideal.rsqrt (Rms.ms fun k => x4 (ix2 s k)) := by
  pointwise [val_main_v7, val_main_v6, val_main_v5, val_main_v4, val_main_v3, val_main_v2, val_main_v1, val_main_v0,
    val_main_cst, val_main_cst_0, val_main_cst_1, Rms.ms]

theorem v10_at (s : Fin 8192) :
    val_main_v10 (F := Ideal) x4 (ix2 s 0)
      = Ideal.ofBits .f32 0xBF000000#32 * Ideal.div (Ideal.rsqrt (Rms.ms fun k => x4 (ix2 s k))) (Rms.ms fun k => x4 (ix2 s k)) := by
  have h6 : val_main_v6 (F := Ideal) x4 (ix2 s 0) = Rms.ms fun k => x4 (ix2 s k) := by
    pointwise [val_main_v6, val_main_v5, val_main_v4, val_main_v3, val_main_v2, val_main_v1, val_main_v0,
      val_main_cst, val_main_cst_0, val_main_cst_1, Rms.ms]
  rw [← v7_at, ← h6]
  pointwise [val_main_v10, val_main_v9, val_main_v8, val_main_cst_2]

/-- The rows' gradient of the reference. -/
theorem v41_at (s : Fin 8192) (d : Fin 1024) :
    val_main_v41 (F := Ideal) x0 x1 x2 x3 x4 x5 x6 (ix2 s d)
      = NormIn.dx (fun r j => x0 (ix2 r j)) (fun r j => x1 (ix2 r j)) (fun r j => x2 (ix2 r j)) (fun k e => x3 (ix2 k e))
          (fun r k => x4 (ix2 r k)) (fun k => x5 (ix1 k)) (fun r k => x6 (ix2 r k)) s d := by
  rw [NormIn.dx_chain]
  have h13 : ∀ k : Fin 1024, val_main_v13 (F := Ideal) x5 (ix2 0 k) = x5 (ix1 k) := fun k => by pointwise [val_main_v13]
  pointwise [val_main_v41, val_main_v40, val_main_v39, val_main_v38, val_main_v37, val_main_v36, val_main_v35, val_main_v34,
    val_main_v33, val_main_v32, val_main_v31, val_main_v30, val_main_v29, val_main_v28, val_main_v27, val_main_v25, val_main_v24,
    val_main_cst_7, val_main_cst_5, val_main_cst_6]
  simp only [Fin.sum_univ_one, v20_at, v10_at, v7_at, h13, Fin.isValue]
  rfl

/-- The scale's gradient of the reference. -/
theorem v42_at (d : Fin 1024) :
    val_main_v42 (F := Ideal) x0 x1 x2 x3 x4 (ix2 0 d)
      = NormIn.dg (fun r j => x0 (ix2 r j)) (fun r j => x1 (ix2 r j)) (fun r j => x2 (ix2 r j)) (fun k e => x3 (ix2 k e))
          (fun r k => x4 (ix2 r k)) d := by
  pointwise [val_main_v42, val_main_v26, val_main_v23, val_main_v22, val_main_v21, val_main_v12, val_main_v11, val_main_cst_3, val_main_cst_4]
  simp only [Fin.sum_univ_one, v20_at, v7_at, Fin.isValue]
  exact Finset.sum_congr rfl fun s _ => mul_comm _ _

/-- The weight's gradient of the reference, in four slabs of 512 columns. -/
theorem v44_at (p : Fin 4) (d : Fin 1024) (q : Fin 512) :
    val_main_v44 (F := Ideal) x0 x1 x2 x4 x5 (ix3 p d q)
      = NormIn.dw (fun r j => x0 (ix2 r j)) (fun r j => x1 (ix2 r j)) (fun r j => x2 (ix2 r j)) (fun r k => x4 (ix2 r k))
          (fun k => x5 (ix1 k)) d (512 * p.val + q.val) := by
  pointwise [val_main_v44, val_main_v43, val_main_v19, val_main_v18, val_main_v15, val_main_v14, val_main_v13, val_main_v12, val_main_v11]
  refine Finset.sum_congr rfl fun s _ => ?_
  rw [v17_at, v7_at, mul_comm (512 : ℕ)]
  exact mul_comm _ _

end Cert.EvenInRefIdeal.Gradient

end
-- ==== Proof.EvenInClaim.lean ====
/- The kernel's three gradients are the reference's three gradients. -/
module

public import proofs.«01_k».proof.Defs
public import proofs.«01_k».proof.Proof.EvenInFinal
public import proofs.«01_k».proof.Proof.EvenInRefValue
public import proofs.«01_k».proof.Proof.Gen.EvenInIdeal
public import proofs.«01_k».proof.Proof.Gen.EvenInRefIdeal

@[expose] public section

set_option maxRecDepth 16384

noncomputable section

namespace Cert.Proof

open Idealize.ShloMosaic Idealize.SL.Sem

/-- From the same arguments the kernel and the reference leave the same rows' gradient, scale's gradient and weight's gradient. -/
theorem algebraic_evenIn : Cert.algebraic_EvenInIdeal_EvenInRefIdeal := by
  pair_intro
  · run_from Cert.EvenInIdeal.Gen.run_main m g
  · run_from Cert.EvenInRefIdeal.Value.run m' g'
    · obtain ⟨h0, h1, h2, h3, h4, h5, h6⟩ := hagree c
      rw [Cert.EvenInIdeal.Gradient.final7 m c, Cert.EvenInRefIdeal.Read.val_main_v41_eq, h0, h1, h2, h3, h4, h5, h6]
      funext y
      obtain ⟨s, d, rfl⟩ : ∃ (s : Fin 8192) (d : Fin 1024), y = ix2 s d := ⟨y 0, y 1, by ext a; fin_cases a <;> rfl⟩
      exact Cert.EvenInRefIdeal.Gradient.v41_at _ _ _ _ _ _ _ s d
    · rw [Cert.EvenInIdeal.Gradient.final8 m c]
      refine (Cert.EvenInRefIdeal.Read.val_main_v42_eq _ _ _ _ _).trans (funext fun y => ?_)
      obtain ⟨s, d, rfl⟩ : ∃ (s : Fin 1) (d : Fin 1024), y = ix2 s d := ⟨y 0, y 1, by ext a; fin_cases a <;> rfl⟩
      obtain rfl : s = 0 := Subsingleton.elim _ _
      exact Cert.EvenInRefIdeal.Gradient.v42_at _ _ _ _ _ d
    · rw [Cert.EvenInIdeal.Gradient.final9 m c]
      refine (Cert.EvenInRefIdeal.Read.val_main_v44_eq _ _ _ _ _).trans (funext fun y => ?_)
      obtain ⟨p, d, q, rfl⟩ : ∃ (p : Fin 4) (d : Fin 1024) (q : Fin 512), y = ix3 p d q := ⟨y 0, y 1, y 2, by ext a; fin_cases a <;> rfl⟩
      exact Cert.EvenInRefIdeal.Gradient.v44_at _ _ _ _ _ p d q

end Cert.Proof

end
-- ==== Proof.Finite.lean ====
/- Finite values among the extended reals: sums, products and quotients of finite values are finite. -/
module

public import proofs.«01_k».proof.Proof.Rms

@[expose] public section

noncomputable section

namespace Cert.Finite

open Idealize.ShloMosaic
open scoped BigOperators

/-- The value is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, rfl⟩

theorem IsReal.sub {x y : EReal} (hx : IsReal x) (hy : IsReal y) : IsReal (x - y) := by
  rw [sub_eq_add_neg]; exact hx.add hy.neg

/-- The sum of real numbers, taken among the extended reals, is their real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem isReal_sum {ι : Type} (s : Finset ι) {f : ι → EReal} (hf : ∀ k, IsReal (f k)) : IsReal (∑ k ∈ s, f k) := by
  choose g hg using hf
  exact ⟨∑ k ∈ s, g k, by rw [coe_sum]; exact Finset.sum_congr rfl fun k _ => hg k⟩

/-- A value whose absolute value lies below infinity is a real number. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end Cert.Finite

end
-- ==== Proof.LayerNorm.lean ====
/- The scalar mathematics of the gradient of a layer normalization: on finite rows the gradient written by hand is
   the one the chain rule gives through the reciprocal root, the variance and the mean. -/
module

public import proofs.«01_k».proof.Proof.Finite

@[expose] public section

noncomputable section

namespace Cert.LayerNorm

open Idealize.ShloMosaic Cert.Finite
open scoped BigOperators

/-- The mean of a row. -/
def mean (x : Fin 1024 → EReal) : EReal := Ideal.div (∑ k, x k) (Ideal.ofBits .f32 0x44800000#32)

/-- The row less its mean. -/
def cen (x : Fin 1024 → EReal) (d : Fin 1024) : EReal := x d - mean x

/-- The variance of the row plus epsilon. -/
def var (x : Fin 1024 → EReal) : EReal := mean (fun k => cen x k * cen x k) + Ideal.ofBits .f32 0x3727C5AC#32

/-- The normalized row. -/
def xh (x : Fin 1024 → EReal) (d : Fin 1024) : EReal := cen x d * Ideal.rsqrt (var x)

/-- The gradient of the row from the normalized row's cotangent `a`, by hand. -/
def gradHand (x a : Fin 1024 → EReal) (d : Fin 1024) : EReal :=
  Ideal.rsqrt (var x) * (a d - mean a - xh x d * mean (fun k => a k * xh x k))

/-- What the derivative of the reciprocal root sends back to the squares. -/
def back (x a : Fin 1024 → EReal) : EReal :=
  Ideal.div ((∑ k, cen x k * a k) * (Ideal.ofBits .f32 0xBF000000#32 * Ideal.div (Ideal.rsqrt (var x)) (var x)))
    (Ideal.ofBits .f32 0x44800000#32)

/-- The cotangent of the centred row. -/
def chain (x a : Fin 1024 → EReal) (d : Fin 1024) : EReal :=
  a d * Ideal.rsqrt (var x) + cen x d * back x a + back x a * cen x d

/-- The normalization's epsilon is a positive real. -/
theorem word_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

theorem mean_coe (x : Fin 1024 → ℝ) : mean (fun k => (x k : EReal)) = (((∑ k, x k) * (1 / 1024) : ℝ) : EReal) := by
  unfold mean; rw [Rms.div_1024, ← coe_sum, ← EReal.coe_mul]

theorem cen_coe (x : Fin 1024 → ℝ) (d : Fin 1024) :
    cen (fun k => (x k : EReal)) d = ((x d - (∑ k, x k) * (1 / 1024) : ℝ) : EReal) := by
  unfold cen; rw [mean_coe, EReal.coe_sub]

/-- The centred row sums to zero. -/
theorem sum_cen (x : Fin 1024 → ℝ) : ∑ k, (x k - (∑ k, x k) * (1 / 1024)) = 0 := by
  rw [Finset.sum_sub_distrib, Finset.sum_const, Finset.card_univ, Fintype.card_fin, nsmul_eq_mul]
  push_cast; ring

/-- On a finite row the reciprocal root `r` is a positive real and its quotient by the variance is `r³`. -/
theorem rsqrt_var (x : Fin 1024 → ℝ) : ∃ r : ℝ, Ideal.rsqrt (var fun k => (x k : EReal)) = (r : EReal)
    ∧ Ideal.div (Ideal.rsqrt (var fun k => (x k : EReal))) (var fun k => (x k : EReal)) = ((r * r * r : ℝ) : EReal) := by
  obtain ⟨e, he, hw⟩ := word_eps
  set v : ℝ := (∑ k, (x k - (∑ k, x k) * (1 / 1024)) * (x k - (∑ k, x k) * (1 / 1024))) * (1 / 1024) + e with hvdef
  have hv : var (fun k => (x k : EReal)) = (v : EReal) := by
    unfold var
    simp only [cen_coe, ← EReal.coe_mul]
    rw [mean_coe, hw, ← EReal.coe_add]
  have hp : 0 < v := by
    have : 0 ≤ ∑ k, (x k - (∑ k, x k) * (1 / 1024)) * (x k - (∑ k, x k) * (1 / 1024)) :=
      Finset.sum_nonneg fun k _ => mul_self_nonneg _
    positivity
  rw [hv, Ideal.rsqrt_coe, if_neg (not_lt.mpr hp.le), if_neg hp.ne', Ideal.div_coe hp.ne']
  refine ⟨(Real.sqrt v)⁻¹, rfl, ?_⟩
  rw [← EReal.coe_mul]
  congr 1
  have hs : Real.sqrt v * Real.sqrt v = v := Real.mul_self_sqrt hp.le
  rw [mul_assoc (Real.sqrt _)⁻¹, ← mul_inv, hs]
  exact congrArg _ (one_div _)

/-- On finite rows and cotangents the hand gradient is the chain rule's: the centred row's cotangent less its mean. -/
theorem grad_eq (x a : Fin 1024 → EReal) (hx : ∀ k, IsReal (x k)) (ha : ∀ k, IsReal (a k)) (d : Fin 1024) :
    gradHand x a d = chain x a d + Ideal.div (∑ k, -(chain x a k)) (Ideal.ofBits .f32 0x44800000#32) := by
  choose X hX using hx
  choose A hA using ha
  obtain rfl : x = fun k => (X k : EReal) := funext hX
  obtain rfl : a = fun k => (A k : EReal) := funext hA
  obtain ⟨r, h1, h2⟩ := rsqrt_var X
  have hc := sum_cen X
  unfold gradHand chain back xh
  rw [h2, h1]
  simp only [cen_coe, ← EReal.coe_mul, mean_coe, Rms.div_1024, Rms.word_neg_half, ← coe_sum, ← EReal.coe_add, ← EReal.coe_sub,
    ← EReal.coe_neg]
  congr 1
  generalize hm : (∑ k, X k) * (1 / 1024) = m at *
  have e1 : ∑ k, A k * ((X k - m) * r) = (∑ k, (X k - m) * A k) * r := by
    rw [Finset.sum_mul]; exact Finset.sum_congr rfl fun k _ => by ring
  rw [e1]
  generalize (∑ k, (X k - m) * A k) = S
  have e2 : ∀ q : ℝ, ∑ k, -(A k * r + (X k - m) * q + q * (X k - m)) = -((∑ k, A k) * r) - 2 * q * ∑ k, (X k - m) := by
    intro q
    rw [Finset.sum_mul, Finset.mul_sum, ← Finset.sum_neg_distrib, ← Finset.sum_sub_distrib]
    exact Finset.sum_congr rfl fun k _ => by ring
  rw [e2, hc]
  ring

/-- The normalized row of a finite row is finite. -/
theorem isReal_xh (x : Fin 1024 → EReal) (hx : ∀ k, IsReal (x k)) (d : Fin 1024) : IsReal (xh x d) := by
  choose X hX using hx
  obtain rfl : x = fun k => (X k : EReal) := funext hX
  obtain ⟨r, h1, -⟩ := rsqrt_var X
  unfold xh; rw [cen_coe, h1]
  exact (isReal_coe _).mul (isReal_coe _)

end Cert.LayerNorm

end
-- ==== Proof.Gate.lean ====
/- The sigmoid-weighted gate `y · σ(y)` and its derivative: on finite values the derivative written as one factor
   is the one the product rule gives. -/
module

public import proofs.«01_k».proof.Proof.Finite

@[expose] public section

noncomputable section

namespace Cert.Gate

open Idealize.ShloMosaic Cert.Finite
open scoped BigOperators

/-- The f32 word of one. -/
abbrev one : EReal := Ideal.ofBits .f32 0x3F800000#32

theorem one_eq : one = ((1 : ℝ) : EReal) := by
  simp [one, Ideal.ofBits, Ideal.ieee, -EReal.coe_mul]; norm_num

/-- The sigmoid. -/
def sig (y : EReal) : EReal := Ideal.div one (one + Ideal.exp (-y))

/-- The gate. -/
def silu (y : EReal) : EReal := y * sig y

/-- The gate's derivative as one factor. -/
def dsilu (y : EReal) : EReal := sig y * (one + y * (one - sig y))

theorem sig_coe (y : ℝ) : sig (y : EReal) = ((1 / (1 + Real.exp (-y)) : ℝ) : EReal) := by
  unfold sig
  have h : (1 + Real.exp (-y)) ≠ 0 := by positivity
  rw [one_eq, ← EReal.coe_neg, Ideal.exp_coe, ← EReal.coe_add, Ideal.div_coe h, ← EReal.coe_mul, one_mul]

theorem isReal_sig {y : EReal} (h : IsReal y) : IsReal (sig y) := by
  obtain ⟨r, rfl⟩ := h; rw [sig_coe]; exact isReal_coe _

theorem isReal_silu {y : EReal} (h : IsReal y) : IsReal (silu y) := h.mul (isReal_sig h)

theorem isReal_dsilu {y : EReal} (h : IsReal y) : IsReal (dsilu y) := by
  have h1 : IsReal one := ⟨1, one_eq⟩
  exact (isReal_sig h).mul (h1.add (h.mul (h1.sub (isReal_sig h))))

/-- The product rule's derivative of the gate is the one factor. -/
theorem grad_eq {c y : EReal} (hc : IsReal c) (hy : IsReal y) :
    c * sig y + y * c * (sig y * (one - sig y)) = c * dsilu y := by
  obtain ⟨s, hs⟩ := isReal_sig hy
  obtain ⟨c, rfl⟩ := hc
  obtain ⟨y, rfl⟩ := hy
  unfold dsilu
  rw [hs, one_eq]
  simp only [← EReal.coe_mul, ← EReal.coe_add, ← EReal.coe_sub]
  congr 1; ring

end Cert.Gate

end
-- ==== Proof.NormOut.lean ====
/- The backward pass of "layer-normalise the rows, gate them, multiply with a weight", as plain sums over rows and
   columns. -/
module

public import proofs.«01_k».proof.Proof.LayerNorm
public import proofs.«01_k».proof.Proof.Gate

@[expose] public section

noncomputable section

namespace Cert.NormOut

open scoped BigOperators
open Cert.Finite Idealize.ShloMosaic

variable {n : ℕ} (DX : Fin n → Fin 1024 → EReal) (X Z : Fin n → Fin 1024 → EReal) (G B : Fin 1024 → EReal)
  (W : Fin 1024 → Fin 1024 → EReal)

/-- The scaled and shifted normalized row. -/
def act (s : Fin n) (d : Fin 1024) : EReal := LayerNorm.xh (X s) d * G d + B d

/-- The gated row: what the weight is multiplied with. -/
def gated (s : Fin n) (d : Fin 1024) : EReal := Gate.silu (act X G B s d) * Gate.silu (Z s d)

/-- The cotangent of the gated row. -/
def dy (s : Fin n) (d : Fin 1024) : EReal := ∑ e, DX s e * W d e

/-- The cotangent of the scaled and shifted normalized row. -/
def dn (s : Fin n) (d : Fin 1024) : EReal := dy DX W s d * Gate.silu (Z s d) * Gate.dsilu (act X G B s d)

/-- The gradient of the rows. -/
def dc (s : Fin n) (d : Fin 1024) : EReal := LayerNorm.gradHand (X s) (fun k => dn DX X Z G B W s k * G k) d

/-- The gradient of the gate's other factor. -/
def dz (s : Fin n) (d : Fin 1024) : EReal := dy DX W s d * Gate.silu (act X G B s d) * Gate.dsilu (Z s d)

/-- The gradient of the weight. -/
def dw (d e : Fin 1024) : EReal := ∑ s, gated X Z G B s d * DX s e

/-- The gradient of the scale. -/
def dg (d : Fin 1024) : EReal := ∑ s, dn DX X Z G B W s d * LayerNorm.xh (X s) d

/-- The gradient of the shift. -/
def db (d : Fin 1024) : EReal := ∑ s, dn DX X Z G B W s d

section
variable (hDX : ∀ s e, IsReal (DX s e)) (hX : ∀ s e, IsReal (X s e)) (hZ : ∀ s e, IsReal (Z s e)) (hG : ∀ d, IsReal (G d))
  (hB : ∀ d, IsReal (B d)) (hW : ∀ d e, IsReal (W d e))
include hDX hW

theorem isReal_dy (s : Fin n) (d : Fin 1024) : IsReal (dy DX W s d) :=
  isReal_sum _ fun e => (hDX s e).mul (hW d e)

omit hDX hW in
include hX hG hB in
theorem isReal_act (s : Fin n) (d : Fin 1024) : IsReal (act X G B s d) :=
  ((LayerNorm.isReal_xh _ (hX s) d).mul (hG d)).add (hB d)

include hX hZ hG hB in
theorem isReal_dn (s : Fin n) (d : Fin 1024) : IsReal (dn DX X Z G B W s d) :=
  ((isReal_dy DX W hDX hW s d).mul (Gate.isReal_silu (hZ s d))).mul (Gate.isReal_dsilu (isReal_act X G B hX hG hB s d))

include hX hZ hG hB in
/-- The rows' gradient as the chain rule gives it. -/
theorem dc_chain (s : Fin n) (d : Fin 1024) :
    dc DX X Z G B W s d = LayerNorm.chain (X s) (fun k => dn DX X Z G B W s k * G k) d
      + Ideal.div (∑ k, -(LayerNorm.chain (X s) (fun k => dn DX X Z G B W s k * G k) k)) (Ideal.ofBits .f32 0x44800000#32) :=
  LayerNorm.grad_eq (X s) _ (hX s) (fun k => (isReal_dn DX X Z G B W hDX hX hZ hG hB hW s k).mul (hG k)) d

include hX hZ hG hB in
/-- The normalized row's cotangent as the product rule gives it. -/
theorem dn_rule (s : Fin n) (d : Fin 1024) :
    dy DX W s d * Gate.silu (Z s d) * Gate.sig (act X G B s d)
      + act X G B s d * (dy DX W s d * Gate.silu (Z s d)) * (Gate.sig (act X G B s d) * (Gate.one - Gate.sig (act X G B s d)))
      = dn DX X Z G B W s d :=
  Gate.grad_eq ((isReal_dy DX W hDX hW s d).mul (Gate.isReal_silu (hZ s d))) (isReal_act X G B hX hG hB s d)

include hX hZ hG hB in
/-- The other factor's gradient as the product rule gives it. -/
theorem dz_rule (s : Fin n) (d : Fin 1024) :
    Gate.silu (act X G B s d) * dy DX W s d * Gate.sig (Z s d)
      + Z s d * (Gate.silu (act X G B s d) * dy DX W s d) * (Gate.sig (Z s d) * (Gate.one - Gate.sig (Z s d)))
      = dz DX X Z G B W s d := by
  rw [Gate.grad_eq ((Gate.isReal_silu (isReal_act X G B hX hG hB s d)).mul (isReal_dy DX W hDX hW s d)) (hZ s d),
    mul_comm (Gate.silu _)]
  rfl
end

end Cert.NormOut

end
-- ==== Proof.OddOutValue.lean ====
/- What one block of rows computes in the kernel of the gated layer normalization's backward pass, and what it leaves
   of each output. -/
module

public import proofs.«01_k».proof.Proof.NormOut
public import proofs.«01_k».proof.Proof.Gen.OddOutIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.OddOutIdeal.Gradient

open Cert.OddOutIdeal Cert.OddOutIdeal.Gen Idealize.ShloMosaic Idealize.ShloMosaic.TcCoe Idealize.SL.Sem
open Idealize.ShloMosaic.Pipeline (Dat)

variable (m : (ℓ : Loc nD τ sig) → Buf (Elt Ideal) ℓ)

/-- The rows of a block. -/
abbrev rows {e : FTy} (X : FVec Ideal S512x1024 e) (s : Fin 512) (d : Fin 1024) : EReal := X (ix2 s d)

/-- The entries of a one-row array. -/
abbrev vec (G : FVec Ideal S1x1024 .f32) (d : Fin 1024) : EReal := G (ix2 0 d)

/-- The entries of the weight. -/
abbrev mat (W : FVec Ideal S1024x1024 .bf16) (d e : Fin 1024) : EReal := W (ix2 d e)

section
variable (DX : FVec Ideal S512x1024 .f32) (W : FVec Ideal S1024x1024 .bf16) (Y : FVec Ideal S512x1024 .bf16)
  (X : FVec Ideal S512x1024 .f32) (Z : FVec Ideal S512x1024 .bf16) (G B : FVec Ideal S1x1024 .f32)

theorem cen_blk (s : Fin 512) (d : Fin 1024) : k0_pay10 (F := Ideal) X (ix2 s d) = LayerNorm.cen (rows X s) d := by
  pointwise [k0_pay10, LayerNorm.cen, LayerNorm.mean]

theorem rsqrt_blk (s : Fin 512) : k0_pay11 (F := Ideal) X (ix2 s 0) = Ideal.rsqrt (LayerNorm.var (rows X s)) := by
  pointwise [k0_pay11]
  simp only [cen_blk]
  rfl

theorem norm_blk (s : Fin 512) (d : Fin 1024) : k0_pay12 (F := Ideal) X (ix2 s d) = LayerNorm.xh (rows X s) d := by
  unfold LayerNorm.xh
  rw [← cen_blk, ← rsqrt_blk]
  pointwise [k0_pay12]

theorem act_blk (s : Fin 512) (d : Fin 1024) :
    k0_pay14 (F := Ideal) (k0_pay12 X) (k0_pay13 G) B (ix2 s d) = NormOut.act (rows X) (vec G) (vec B) s d := by
  unfold NormOut.act
  rw [← norm_blk]
  pointwise [k0_pay14, k0_pay13]

theorem sig_blk (s : Fin 512) (d : Fin 1024) :
    k0_pay15 (F := Ideal) (k0_pay12 X) (k0_pay13 G) B (ix2 s d) = Gate.sig (NormOut.act (rows X) (vec G) (vec B) s d) := by
  rw [← act_blk]
  generalize hA : k0_pay14 (F := Ideal) (k0_pay12 X) (k0_pay13 G) B = A
  pointwise [k0_pay15]
  simp only [hA, Gate.sig, Gate.one_eq, EReal.coe_one, zero_sub]

theorem sigz_blk (s : Fin 512) (d : Fin 1024) : k0_pay17 (F := Ideal) Z (ix2 s d) = Gate.sig (rows Z s d) := by
  pointwise [k0_pay17, k0_pay16]
  simp only [Gate.sig, Gate.one_eq, EReal.coe_one, zero_sub]

theorem dy_blk (s : Fin 512) (d : Fin 1024) : k0_pay8 (F := Ideal) DX W (ix2 s d) = NormOut.dy (rows DX) (mat W) s d := by
  pointwise [k0_pay8, k0_pay7, NormOut.dy]

/-- The normalized row's cotangent over a block. -/
abbrev dnBlk : FVec Ideal S512x1024 .f32 := k0_pay18 (k0_pay8 DX W) (k0_pay12 X) (k0_pay13 G) B Z

theorem dn_blk (s : Fin 512) (d : Fin 1024) :
    dnBlk DX W X Z G B (ix2 s d) = NormOut.dn (rows DX) (rows X) (rows Z) (vec G) (vec B) (mat W) s d := by
  have hz : ∀ i, k0_pay16 (F := Ideal) Z i = Z i := fun i => by pointwise [k0_pay16]
  unfold NormOut.dn Gate.dsilu Gate.silu
  rw [← dy_blk, ← sig_blk, ← sigz_blk, ← act_blk]
  unfold dnBlk
  pointwise [k0_pay18]
  simp only [hz, Gate.one_eq, EReal.coe_one]

theorem dz_blk (s : Fin 512) (d : Fin 1024) :
    k0_pay19 (F := Ideal) (k0_pay8 DX W) (k0_pay12 X) (k0_pay13 G) B Z (ix2 s d)
      = NormOut.dz (rows DX) (rows X) (rows Z) (vec G) (vec B) (mat W) s d := by
  have hz : ∀ i, k0_pay16 (F := Ideal) Z i = Z i := fun i => by pointwise [k0_pay16]
  unfold NormOut.dz Gate.dsilu Gate.silu
  rw [← dy_blk, ← sig_blk, ← sigz_blk, ← act_blk]
  pointwise [k0_pay19]
  simp only [hz, Gate.one_eq, EReal.coe_one]

/-- The block of the rows' gradient. -/
theorem dc_blk (s : Fin 512) (d : Fin 1024) :
    k0_pay3 (k0_pay11 X) (k0_pay12 X) (dnBlk DX W X Z G B) G (ix2 s d)
      = NormOut.dc (rows DX) (rows X) (rows Z) (vec G) (vec B) (mat W) s d := by
  unfold NormOut.dc
  simp only [← dn_blk]
  generalize dnBlk DX W X Z G B = D
  pointwise [k0_pay3]
  simp only [norm_blk, rsqrt_blk]
  rfl

/-- What a block adds to the weight's gradient. -/
theorem dw_blk (acc : FVec Ideal S1024x1024 .f32) (d e : Fin 1024) :
    k0_pay9 DX acc Y (ix2 d e) = acc (ix2 d e) + ∑ s : Fin 512, rows Y s d * rows DX s e := by
  pointwise [k0_pay9, k0_pay7]

/-- What a block adds to the scale's gradient. -/
theorem dg_blk (acc : FVec Ideal S1x1024 .f32) (d : Fin 1024) :
    k0_pay1 (k0_pay12 X) (dnBlk DX W X Z G B) acc (ix2 0 d)
      = acc (ix2 0 d) + ∑ s : Fin 512, NormOut.dn (rows DX) (rows X) (rows Z) (vec G) (vec B) (mat W) s d * LayerNorm.xh (rows X s) d := by
  simp only [← dn_blk, ← norm_blk]
  generalize dnBlk DX W X Z G B = D
  pointwise [k0_pay1]

/-- What a block adds to the shift's gradient. -/
theorem db_blk (acc : FVec Ideal S1x1024 .f32) (d : Fin 1024) :
    k0_pay2 (dnBlk DX W X Z G B) acc (ix2 0 d)
      = acc (ix2 0 d) + ∑ s : Fin 512, NormOut.dn (rows DX) (rows X) (rows Z) (vec G) (vec B) (mat W) s d := by
  simp only [← dn_blk]
  generalize dnBlk DX W X Z G B = D
  pointwise [k0_pay2]
end

/-- The normalized row's cotangent over the rows of point `t`. -/
abbrev dnAt (c : Dev nD) (t : Fin cfg0.N) : FVec Ideal S512x1024 .f32 :=
  dnBlk (iblk m c 0 t) (iblk m c 1 t) (iblk m c 3 t) (iblk m c 4 t) (iblk m c 5 t) (iblk m c 6 t)

theorem out7 (c : Dev nD) (t : Fin cfg0.N) :
    (outsAt0 m c t.val t.isLt).1 = k0_pay3 (k0_pay11 (iblk m c 3 t)) (k0_pay12 (iblk m c 3 t)) (dnAt m c t) (iblk m c 5 t) := by
  by_cases h : t.val % 16 = 0
  · funext y; rw [outsAt0_A m c t h]; frame_out
  · funext y; rw [outsAt0_B m c t h]; frame_out

theorem out8 (c : Dev nD) (t : Fin cfg0.N) :
    (outsAt0 m c t.val t.isLt).2.1 = k0_pay19 (k0_pay8 (iblk m c 0 t) (iblk m c 1 t)) (k0_pay12 (iblk m c 3 t)) (k0_pay13 (iblk m c 5 t))
      (iblk m c 6 t) (iblk m c 4 t) := by
  by_cases h : t.val % 16 = 0
  · funext y; rw [outsAt0_A m c t h]; frame_out
  · funext y; rw [outsAt0_B m c t h]; frame_out

theorem out9_A (c : Dev nD) (t : Fin cfg0.N) (h : t.val % 16 = 0) :
    (outsAt0 m c t.val t.isLt).2.2.1 = k0_pay9 (iblk m c 0 t) (k0_pay4 (F := Ideal)) (iblk m c 2 t) := by
  funext y; rw [outsAt0_A m c t h]; frame_out

theorem out9_B (c : Dev nD) (t : Fin cfg0.N) (h : ¬ t.val % 16 = 0) :
    (outsAt0 m c t.val t.isLt).2.2.1
      = k0_pay9 (iblk m c 0 t) (outsAt0 m c (t.val - 1) (by have := t.isLt; omega)).2.2.1 (iblk m c 2 t) := by
  funext y; rw [outsAt0_B m c t h]; frame_out

theorem out10_A (c : Dev nD) (t : Fin cfg0.N) (h : t.val % 16 = 0) :
    (outsAt0 m c t.val t.isLt).2.2.2.1 = k0_pay1 (k0_pay12 (iblk m c 3 t)) (dnAt m c t) (k0_pay5 (F := Ideal)) := by
  funext y; rw [outsAt0_A m c t h]; frame_out

theorem out10_B (c : Dev nD) (t : Fin cfg0.N) (h : ¬ t.val % 16 = 0) :
    (outsAt0 m c t.val t.isLt).2.2.2.1 = k0_pay1 (k0_pay12 (iblk m c 3 t)) (dnAt m c t)
      (outsAt0 m c (t.val - 1) (by have := t.isLt; omega)).2.2.2.1 := by
  funext y; rw [outsAt0_B m c t h]; frame_out

theorem out11_A (c : Dev nD) (t : Fin cfg0.N) (h : t.val % 16 = 0) :
    (outsAt0 m c t.val t.isLt).2.2.2.2 = k0_pay2 (dnAt m c t) (k0_pay6 (F := Ideal)) := by
  funext y; rw [outsAt0_A m c t h]; frame_out

theorem out11_B (c : Dev nD) (t : Fin cfg0.N) (h : ¬ t.val % 16 = 0) :
    (outsAt0 m c t.val t.isLt).2.2.2.2 = k0_pay2 (dnAt m c t) (outsAt0 m c (t.val - 1) (by have := t.isLt; omega)).2.2.2.2 := by
  funext y; rw [outsAt0_B m c t h]; frame_out

end Cert.OddOutIdeal.Gradient

end
-- ==== Proof.OddOutFinal.lean ====
/- What the kernel of the gated layer normalization's backward pass leaves in each of its five results, as plain sums
   over the rows and columns of the arguments. -/
module

public import proofs.«01_k».proof.Proof.OddOutValue
public import proofs.«01_k».proof.Proof.NormOut
public import Idealize.ShloMosaic.Lib.StableHlo.ReadAt

@[expose] public section

set_option maxRecDepth 16384

noncomputable section

namespace Cert.OddOutIdeal.Gradient

open Cert.OddOutIdeal Cert.OddOutIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 2] ∧ win0_5.index t = ![0, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] :=
  (by decide +kernel : ∀ t : Fin grid0.N, _)

/-- Row `s` of block `t`, as a row of the array. -/
def row (t : Fin cfg0.N) (s : Fin 512) : Fin 8192 :=
  ⟨t.val * 512 + s.val, by have := t.isLt; have h : cfg0.N = 16 := N_0; have := s.isLt; omega⟩

/-- The argument arrays of the kernel by row and column; of the projection the columns the gate reads. -/
abbrev argDX (c : Dev nD) (r : Fin 8192) (j : Fin 1024) : EReal := m ((c : Thread nD τ).loc main_arg0) (ix2 r j)
abbrev argX (c : Dev nD) (r : Fin 8192) (j : Fin 1024) : EReal := m ((c : Thread nD τ).loc main_arg1) (ix2 r j)
abbrev argZ (c : Dev nD) (r : Fin 8192) (j : Fin 1024) : EReal :=
  m ((c : Thread nD τ).loc main_arg2) (ix2 r ⟨2048 + j.val, by have := j.isLt; omega⟩)
abbrev argG (c : Dev nD) (j : Fin 1024) : EReal := m ((c : Thread nD τ).loc main_arg3) (ix1 j)
abbrev argB (c : Dev nD) (j : Fin 1024) : EReal := m ((c : Thread nD τ).loc main_arg4) (ix1 j)
abbrev argW (c : Dev nD) (d e : Fin 1024) : EReal := m ((c : Thread nD τ).loc main_arg5) (ix2 d e)

theorem blkDX (c : Dev nD) (t : Fin cfg0.N) (s : Fin 512) (j : Fin 1024) : iblk m c 0 t (ix2 s j) = argDX m c (row t s) j := by
  blk_point [iblk, V, idx t, row]
theorem blkW (c : Dev nD) (t : Fin cfg0.N) (d e : Fin 1024) : iblk m c 1 t (ix2 d e) = argW m c d e := by
  blk_point [iblk, V, idx t, row]
theorem blkX (c : Dev nD) (t : Fin cfg0.N) (s : Fin 512) (j : Fin 1024) : iblk m c 3 t (ix2 s j) = argX m c (row t s) j := by
  blk_point [iblk, V, idx t, row]
theorem blkZ (c : Dev nD) (t : Fin cfg0.N) (s : Fin 512) (j : Fin 1024) : iblk m c 4 t (ix2 s j) = argZ m c (row t s) j := by
  blk_point [iblk, V, idx t, row]
theorem blkG (c : Dev nD) (t : Fin cfg0.N) (j : Fin 1024) : iblk m c 5 t (ix2 0 j) = argG m c j := by
  have he : (win0_5.blk t).view.emb (ix2 0 j) = ix2 0 j := by blk_ext [idx t, row]
  blk_simp [iblk]
  rw [he]
  after_reads_at
theorem blkB (c : Dev nD) (t : Fin cfg0.N) (j : Fin 1024) : iblk m c 6 t (ix2 0 j) = argB m c j := by
  have he : (win0_6.blk t).view.emb (ix2 0 j) = ix2 0 j := by blk_ext [idx t, row]
  blk_simp [iblk]
  rw [he]
  after_reads_at

/-- The gated rows the host hands to the kernel. -/
theorem blkY (c : Dev nD) (t : Fin cfg0.N) (s : Fin 512) (j : Fin 1024) :
    iblk m c 2 t (ix2 s j) = NormOut.gated (argX m c) (argZ m c) (argG m c) (argB m c) (row t s) j := by
  have he : (win0_2.blk t).view.emb (ix2 s j) = ix2 (row t s) j := by blk_ext [idx t, row]
  blk_simp [iblk]
  rw [he]
  generalize row t s = r
  after_reads_at
  simp only [NormOut.gated, NormOut.act, Gate.silu, Gate.sig, LayerNorm.xh, LayerNorm.cen, LayerNorm.var, LayerNorm.mean,
    Gate.one_eq, EReal.coe_one]

section
variable (c : Dev nD) (t : Fin cfg0.N)

theorem rowsDX : rows (e := .f32) (iblk m c 0 t) = fun s => argDX m c (row t s) := funext₂ (blkDX m c t)
theorem rowsX : rows (e := .f32) (iblk m c 3 t) = fun s => argX m c (row t s) := funext₂ (blkX m c t)
theorem rowsZ : rows (e := .bf16) (iblk m c 4 t) = fun s => argZ m c (row t s) := funext₂ (blkZ m c t)
theorem rowsY : rows (e := .bf16) (iblk m c 2 t) = fun s => NormOut.gated (argX m c) (argZ m c) (argG m c) (argB m c) (row t s) :=
  funext₂ (blkY m c t)
theorem vecG : vec (iblk m c 5 t) = argG m c := funext (blkG m c t)
theorem vecB : vec (iblk m c 6 t) = argB m c := funext (blkB m c t)
theorem matW : mat (iblk m c 1 t) = argW m c := funext₂ (blkW m c t)
end

/-- The rows' gradient the kernel leaves. -/
theorem final7 (c : Dev nD) : (dats m 0 c).arrAt 7 (cfgs 0).N = fun y : S8192x1024.Idx =>
    NormOut.dc (argDX m c) (argX m c) (argZ m c) (argG m c) (argB m c) (argW m c) (y 0) (y 1) := by
  refine (dats m 0 c).arrAt_eq_of_covers 7 _ (by decide +kernel) fun t hf y => ?_
  blk_simp
  rw [after0_7, out7 m c t]
  obtain ⟨s, d, rfl⟩ : ∃ (s : Fin 512) (d : Fin 1024), y = ix2 s d := ⟨y 0, y 1, by ext a; fin_cases a <;> rfl⟩
  have he : (win0_7.blk t).view.emb (ix2 s d) = ix2 (row t s) d := by blk_ext [idx t, row]
  refine (dc_blk _ _ _ _ _ _ s d).trans ?_
  rw [he, rowsDX, rowsX, rowsZ, vecG, vecB, matW]
  rfl

/-- The other factor's gradient the kernel leaves. -/
theorem final8 (c : Dev nD) : (dats m 0 c).arrAt 8 (cfgs 0).N = fun y : S8192x1024.Idx =>
    NormOut.dz (argDX m c) (argX m c) (argZ m c) (argG m c) (argB m c) (argW m c) (y 0) (y 1) := by
  refine (dats m 0 c).arrAt_eq_of_covers 8 _ (by decide +kernel) fun t hf y => ?_
  blk_simp
  rw [after0_8, out8 m c t]
  obtain ⟨s, d, rfl⟩ : ∃ (s : Fin 512) (d : Fin 1024), y = ix2 s d := ⟨y 0, y 1, by ext a; fin_cases a <;> rfl⟩
  have he : (win0_8.blk t).view.emb (ix2 s d) = ix2 (row t s) d := by blk_ext [idx t, row]
  refine (dz_blk _ _ _ _ _ _ s d).trans ?_
  rw [he, rowsDX, rowsX, rowsZ, vecG, vecB, matW]
  rfl

/-- The weight's gradient the kernel leaves. -/
theorem final9 (c : Dev nD) : (dats m 0 c).arrAt 9 (cfgs 0).N = fun y : S1024x1024.Idx =>
    NormOut.dw (argDX m c) (argX m c) (argZ m c) (argG m c) (argB m c) (y 0) (y 1) := by
  refine (dats m 0 c).arrAt_eq_of_after_last 9 t0_15 (by decide +kernel) _ fun j => ?_
  blk_simp
  have hz : ∀ i : S1024x1024.Idx, k0_pay4 (F := Ideal) i = 0 := fun i => by pointwise [k0_pay4]
  have hd : ∀ i : S1024x1024.Idx, i = ix2 (i 0) (i 1) := fun i => by ext a; fin_cases a <;> rfl
  have hp : ∀ (t : Fin cfg0.N) (acc : FVec Ideal S1024x1024 .f32) (i : S1024x1024.Idx),
      k0_pay9 (F := Ideal) (iblk m c 0 t) acc (iblk m c 2 t) i = acc i + ∑ s : Fin 512,
        NormOut.gated (argX m c) (argZ m c) (argG m c) (argB m c) (row t s) (i 0) * argDX m c (row t s) (i 1) := fun t acc i => by
    rw [hd i]
    refine (dw_blk _ _ _ _ _).trans ?_
    rw [rowsDX, rowsY]
    rfl
  rw [after0_9, Pipeline.eq_sum_fin_of_reset_step_apply_last (fun n h => (outsAt0 m c n h).2.2.1) 16 (fun _ => 0) _
    (fun t h i => by rw [out9_A m c t h, hp, hz]) (fun t h i => by rw [out9_B m c t h, hp]) (le_of_eq N_0) t0_15 rfl j, zero_add]
  exact Fin.sum_mul_add_congr fun t k hl => rfl

/-- A row vector's index has first coordinate zero. -/
theorem row_idx (i : S1x1024.Idx) : i = ix2 0 (i 1) := by
  ext a; fin_cases a
  · have h0 := (i 0).isLt; show (i 0).val = 0; change (i 0).val < 1 at h0; omega
  · rfl

/-- The scale's gradient the kernel leaves. -/
theorem final10 (c : Dev nD) : (dats m 0 c).arrAt 10 (cfgs 0).N = fun y : S1x1024.Idx =>
    NormOut.dg (argDX m c) (argX m c) (argZ m c) (argG m c) (argB m c) (argW m c) (y 1) := by
  refine (dats m 0 c).arrAt_eq_of_after_last 10 t0_15 (by decide +kernel) _ fun j => ?_
  blk_simp
  have hz : ∀ i : S1x1024.Idx, k0_pay5 (F := Ideal) i = 0 := fun i => by pointwise [k0_pay5]
  have hp : ∀ (t : Fin cfg0.N) (acc : FVec Ideal S1x1024 .f32) (i : S1x1024.Idx),
      k0_pay1 (F := Ideal) (k0_pay12 (iblk m c 3 t)) (dnAt m c t) acc i = acc i + ∑ s : Fin 512,
        NormOut.dn (argDX m c) (argX m c) (argZ m c) (argG m c) (argB m c) (argW m c) (row t s) (i 1)
          * LayerNorm.xh (argX m c (row t s)) (i 1) := fun t acc i => by
    rw [row_idx i]
    refine (dg_blk _ _ _ _ _ _ _ _).trans ?_
    rw [rowsDX, rowsX, rowsZ, vecG, vecB, matW]
    rfl
  rw [after0_10, Pipeline.eq_sum_fin_of_reset_step_apply_last (fun n h => (outsAt0 m c n h).2.2.2.1) 16 (fun _ => 0) _
    (fun t h i => by rw [out10_A m c t h, hp, hz]) (fun t h i => by rw [out10_B m c t h, hp]) (le_of_eq N_0) t0_15 rfl j, zero_add]
  exact Fin.sum_mul_add_congr fun t k hl => rfl

/-- The shift's gradient the kernel leaves. -/
theorem final11 (c : Dev nD) : (dats m 0 c).arrAt 11 (cfgs 0).N = fun y : S1x1024.Idx =>
    NormOut.db (argDX m c) (argX m c) (argZ m c) (argG m c) (argB m c) (argW m c) (y 1) := by
  refine (dats m 0 c).arrAt_eq_of_after_last 11 t0_15 (by decide +kernel) _ fun j => ?_
  blk_simp
  have hz : ∀ i : S1x1024.Idx, k0_pay6 (F := Ideal) i = 0 := fun i => by pointwise [k0_pay6]
  have hp : ∀ (t : Fin cfg0.N) (acc : FVec Ideal S1x1024 .f32) (i : S1x1024.Idx),
      k0_pay2 (F := Ideal) (dnAt m c t) acc i = acc i + ∑ s : Fin 512,
        NormOut.dn (argDX m c) (argX m c) (argZ m c) (argG m c) (argB m c) (argW m c) (row t s) (i 1) := fun t acc i => by
    rw [row_idx i]
    refine (db_blk _ _ _ _ _ _ _ _).trans ?_
    rw [rowsDX, rowsX, rowsZ, vecG, vecB, matW]
    rfl
  rw [after0_11, Pipeline.eq_sum_fin_of_reset_step_apply_last (fun n h => (outsAt0 m c n h).2.2.2.2) 16 (fun _ => 0) _
    (fun t h i => by rw [out11_A m c t h, hp, hz]) (fun t h i => by rw [out11_B m c t h, hp]) (le_of_eq N_0) t0_15 rfl j, zero_add]
  exact Fin.sum_mul_add_congr fun t k hl => rfl

end Cert.OddOutIdeal.Gradient

end
-- ==== Proof.OddOutRefValue.lean ====
/- What the derivative of the gated layer normalization leaves in each of its five results, as the same plain sums the
   kernel leaves; on finite arguments where the product rule is regrouped. The reference's operations are read in four
   stretches. -/
module

public import proofs.«01_k».proof.Proof.NormOut
public import proofs.«01_k».proof.Proof.Gen.OddOutRefIdeal
public import Idealize.ShloMosaic.Lib.Pipeline.ValueKit
public import Idealize.ShloMosaic.Lib.Claim
public import Idealize.ShloMosaic.Lib.StableHlo.ReadAt

@[expose] public section

set_option maxRecDepth 16384

noncomputable section

namespace Cert.OddOutRefIdeal.Gradient

open Cert.Finite Cert.OddOutRefIdeal Idealize.ShloMosaic Idealize.ShloMosaic.TcCoe Idealize.SL.Sem Idealize.ShloMosaic.StableHlo

/-- The reference's operations, in order, as read off the program. -/
def line : { ops : List (HloOp τ sig (Elt Ideal)) // ∀ d, IsSeq (main (F := Ideal) d) ops } := by
  apply Subtype.mk; hlo_seq

/-- The reference's operations. -/
abbrev ops : List (HloOp τ sig (Elt Ideal)) := line.1

theorem ops_sub : ops.Forall fun op => op.bufs ⊆ tcRefs τ sig := by
  unfold ops line; simp

theorem ops_fresh : ∀ op ∈ ops, op.fresh = ∅ := by
  unfold ops line
  intro _ h; (repeat (cases h with | head => rfl | tail _ h => ?_)); exact nomatch h

/-- The reference runs to the contents its operations leave. -/
theorem ran (m : (ℓ : Loc nD τ sig) → Buf (Elt Ideal) ℓ) (g : Dev nD → PrngReg) :
    θ_run defs (onTc (τ := τ) (main (F := Ideal))) ⟨m, fun _ => 0, g⟩ fun r => ∀ (c : Dev nD) (b : Ref sig .tc),
      r.2.mem ((c.tc : Thread nD τ).loc b) = after ops (launchContents m c) (Proc.devRef .tc b) :=
  run_hlo _ _ line.2 (by decide) (by decide) ops_sub ops_fresh m g

/-! The operations in four stretches: the normalization, the gates and the weight's product, the gates' derivatives, and the way back
    through the normalization. -/

abbrev seg1 : List (HloOp τ sig (Elt Ideal)) := ops.take 32
abbrev seg2 : List (HloOp τ sig (Elt Ideal)) := (ops.drop 32).take 33
abbrev seg3 : List (HloOp τ sig (Elt Ideal)) := (ops.drop 65).take 8
abbrev seg4 : List (HloOp τ sig (Elt Ideal)) := ops.drop 73

variable (V : Valuation τ sig (Elt Ideal))

/-- The whole line is the four stretches one after the other. -/
theorem after_ops : after ops V = after seg4 (after seg3 (after seg2 (after seg1 V))) := by
  have h : ops = seg1 ++ (seg2 ++ (seg3 ++ seg4)) := rfl
  rw [h, after_append, after_append, after_append]

/-- The arguments by row and column; of the projection the columns the gate reads. -/
abbrev argDX (r : Fin 8192) (j : Fin 1024) : EReal := V (Proc.devRef .tc main_arg0) (ix2 r j)
abbrev argX (r : Fin 8192) (j : Fin 1024) : EReal := V (Proc.devRef .tc main_arg1) (ix2 r j)
abbrev argZ (r : Fin 8192) (j : Fin 1024) : EReal := V (Proc.devRef .tc main_arg2) (ix2 r ⟨2048 + j.val, by have := j.isLt; omega⟩)
abbrev argG (j : Fin 1024) : EReal := V (Proc.devRef .tc main_arg3) (ix1 j)
abbrev argB (j : Fin 1024) : EReal := V (Proc.devRef .tc main_arg4) (ix1 j)
abbrev argW (d e : Fin 1024) : EReal := V (Proc.devRef .tc main_arg5) (ix2 d e)

section
variable (s : Fin 8192) (d : Fin 1024)

theorem v0_at : after seg1 V (Proc.devRef .tc main_v0) (ix2 s d) = argZ V s d := by after_reads_at
theorem v6_at : after seg1 V (Proc.devRef .tc main_v6) (ix2 s d) = LayerNorm.cen (argX V s) d := by
  after_reads_at; rfl
theorem v14_at : after seg1 V (Proc.devRef .tc main_v14) (ix2 s 0) = Ideal.rsqrt (LayerNorm.var (argX V s)) := by
  after_reads_at; rfl
theorem v17_at : after seg1 V (Proc.devRef .tc main_v17) (ix2 s 0)
    = Ideal.ofBits .f32 0xBF000000#32 * Ideal.div (Ideal.rsqrt (LayerNorm.var (argX V s))) (LayerNorm.var (argX V s)) := by
  after_reads_at; rfl
theorem v19_at : after seg1 V (Proc.devRef .tc main_v19) (ix2 s d) = LayerNorm.xh (argX V s) d := by
  after_reads_at; rfl
theorem v20_at : after seg1 V (Proc.devRef .tc main_v20) (ix2 0 d) = argG V d := by after_reads_at
theorem v25_at : after seg1 V (Proc.devRef .tc main_v25) (ix2 s d) = NormOut.act (argX V) (argG V) (argB V) s d := by
  after_reads_at; rfl
end

/-- The normalization leaves the cotangent and the weight as they were. -/
theorem keep1 : after seg1 V (Proc.devRef .tc main_arg0) = V (Proc.devRef .tc main_arg0)
    ∧ after seg1 V (Proc.devRef .tc main_arg5) = V (Proc.devRef .tc main_arg5) := by
  refine ⟨?_, ?_⟩ <;> after_reads_simp

/-- The gates leave the normalization's values as they were. -/
theorem keep2 : after seg2 V (Proc.devRef .tc main_v0) = V (Proc.devRef .tc main_v0)
    ∧ after seg2 V (Proc.devRef .tc main_v25) = V (Proc.devRef .tc main_v25)
    ∧ after seg2 V (Proc.devRef .tc main_v6) = V (Proc.devRef .tc main_v6)
    ∧ after seg2 V (Proc.devRef .tc main_v14) = V (Proc.devRef .tc main_v14)
    ∧ after seg2 V (Proc.devRef .tc main_v17) = V (Proc.devRef .tc main_v17)
    ∧ after seg2 V (Proc.devRef .tc main_v19) = V (Proc.devRef .tc main_v19)
    ∧ after seg2 V (Proc.devRef .tc main_v20) = V (Proc.devRef .tc main_v20) := by
  refine ⟨?_, ?_, ?_, ?_, ?_, ?_, ?_⟩ <;> after_reads_simp

/-- The gates' derivatives leave the normalization's values and the weight's gradient as they were. -/
theorem keep3 : after seg3 V (Proc.devRef .tc main_v31) = V (Proc.devRef .tc main_v31)
    ∧ after seg3 V (Proc.devRef .tc main_v6) = V (Proc.devRef .tc main_v6)
    ∧ after seg3 V (Proc.devRef .tc main_v14) = V (Proc.devRef .tc main_v14)
    ∧ after seg3 V (Proc.devRef .tc main_v17) = V (Proc.devRef .tc main_v17)
    ∧ after seg3 V (Proc.devRef .tc main_v19) = V (Proc.devRef .tc main_v19)
    ∧ after seg3 V (Proc.devRef .tc main_v20) = V (Proc.devRef .tc main_v20) := by
  refine ⟨?_, ?_, ?_, ?_, ?_, ?_⟩ <;> after_reads_simp

/-- The way back leaves the weight's gradient as it was. -/
theorem keep4 : after seg4 V (Proc.devRef .tc main_v31) = V (Proc.devRef .tc main_v31) := by
  after_reads_simp

theorem dx_keep : argDX (after seg1 V) = argDX V := by
  funext r j; exact congrFun (keep1 V).1 _
theorem w_keep : argW (after seg1 V) = argW V := by
  funext r j; exact congrFun (keep1 V).2 _

/-- The contents before the way back. -/
abbrev mid : Valuation τ sig (Elt Ideal) := after seg3 (after seg2 (after seg1 V))

/-- What the normalization left is still there before the way back. -/
theorem mid_norm : (∀ s d, mid V (Proc.devRef .tc main_v6) (ix2 s d) = LayerNorm.cen (argX V s) d)
    ∧ (∀ s, mid V (Proc.devRef .tc main_v14) (ix2 s 0) = Ideal.rsqrt (LayerNorm.var (argX V s)))
    ∧ (∀ s, mid V (Proc.devRef .tc main_v17) (ix2 s 0)
      = Ideal.ofBits .f32 0xBF000000#32 * Ideal.div (Ideal.rsqrt (LayerNorm.var (argX V s))) (LayerNorm.var (argX V s)))
    ∧ (∀ s d, mid V (Proc.devRef .tc main_v19) (ix2 s d) = LayerNorm.xh (argX V s) d)
    ∧ (∀ d, mid V (Proc.devRef .tc main_v20) (ix2 0 d) = argG V d) := by
  obtain ⟨-, -, k6, k14, k17, k19, k20⟩ := keep2 (after seg1 V)
  obtain ⟨-, l6, l14, l17, l19, l20⟩ := keep3 (after seg2 (after seg1 V))
  unfold mid
  rw [l6, l14, l17, l19, l20, k6, k14, k17, k19, k20]
  exact ⟨v6_at V, v14_at V, v17_at V, v19_at V, v20_at V⟩

/-- The sigmoid as the reference writes it. -/
theorem sig_one (y : EReal) : Ideal.div 1 (1 + Ideal.exp (-y)) = Gate.sig y := by
  unfold Gate.sig; rw [Gate.one_eq, EReal.coe_one]

/-- The product rule's two summands. -/
abbrev rule (g u a b : EReal) : EReal := g * a + u * g * b

section
variable (s : Fin 8192) (d : Fin 1024)

theorem v26_2_at : after seg2 V (Proc.devRef .tc main_v26_2) (ix2 s d) = Gate.sig (V (Proc.devRef .tc main_v25) (ix2 s d)) := by
  rw [← sig_one]; after_reads_at
theorem v27_2_at : after seg2 V (Proc.devRef .tc main_v27_2) (ix2 s d) = Gate.sig (V (Proc.devRef .tc main_v0) (ix2 s d)) := by
  rw [← sig_one]; after_reads_at
theorem v26_1_at : after seg2 V (Proc.devRef .tc main_v26_1) (ix2 s d)
    = Gate.sig (V (Proc.devRef .tc main_v25) (ix2 s d)) * (Gate.one - Gate.sig (V (Proc.devRef .tc main_v25) (ix2 s d))) := by
  rw [← sig_one, Gate.one_eq, EReal.coe_one]; after_reads_at
theorem v27_1_at : after seg2 V (Proc.devRef .tc main_v27_1) (ix2 s d)
    = Gate.sig (V (Proc.devRef .tc main_v0) (ix2 s d)) * (Gate.one - Gate.sig (V (Proc.devRef .tc main_v0) (ix2 s d))) := by
  rw [← sig_one, Gate.one_eq, EReal.coe_one]; after_reads_at
theorem v34_at : after seg2 V (Proc.devRef .tc main_v34) (ix2 s d)
    = (∑ e, argDX V s e * argW V d e) * Gate.silu (V (Proc.devRef .tc main_v0) (ix2 s d)) := by
  unfold Gate.silu; rw [← sig_one]; after_reads_at
theorem v33_at : after seg2 V (Proc.devRef .tc main_v33) (ix2 s d)
    = Gate.silu (V (Proc.devRef .tc main_v25) (ix2 s d)) * ∑ e, argDX V s e * argW V d e := by
  unfold Gate.silu; rw [← sig_one]; after_reads_at
theorem v36_raw : after seg3 V (Proc.devRef .tc main_v36) (ix2 s d) = rule (V (Proc.devRef .tc main_v34) (ix2 s d)) (V (Proc.devRef .tc main_v25) (ix2 s d)) (V (Proc.devRef .tc main_v26_2) (ix2 s d))
    (V (Proc.devRef .tc main_v26_1) (ix2 s d)) := by
  after_reads_at
theorem v35_raw : after seg3 V (Proc.devRef .tc main_v35) (ix2 s d) = rule (V (Proc.devRef .tc main_v33) (ix2 s d)) (V (Proc.devRef .tc main_v0) (ix2 s d)) (V (Proc.devRef .tc main_v27_2) (ix2 s d))
    (V (Proc.devRef .tc main_v27_1) (ix2 s d)) := by
  after_reads_at
end

theorem v31_raw (d e : Fin 1024) : @Eq EReal (after seg2 V (Proc.devRef .tc main_v31) (ix2 d e))
    (∑ s : Fin 8192, argDX V s e * (Gate.silu (V (Proc.devRef .tc main_v25) (ix2 s d)) * Gate.silu (V (Proc.devRef .tc main_v0) (ix2 s d)))) := by
  unfold Gate.silu
  simp only [← sig_one]
  after_reads_at

/-- The weight's gradient of the reference. -/
theorem v31_at (d e : Fin 1024) : after ops V (Proc.devRef .tc main_v31) (ix2 d e) = NormOut.dw (argDX V) (argX V) (argZ V) (argG V) (argB V) d e := by
  rw [after_ops, keep4, (keep3 _).1, v31_raw]
  unfold NormOut.dw NormOut.gated
  refine Finset.sum_congr (M := EReal) rfl fun s _ => ?_
  rw [v25_at, v0_at, dx_keep]
  exact mul_comm (G := EReal) _ _

section
variable (h0 : ∀ s e, IsReal (argDX V s e)) (h1 : ∀ s e, IsReal (argX V s e)) (h2 : ∀ s e, IsReal (argZ V s e))
  (h3 : ∀ d, IsReal (argG V d)) (h4 : ∀ d, IsReal (argB V d)) (h5 : ∀ d e, IsReal (argW V d e))
include h0 h1 h2 h3 h4 h5

/-- The cotangent of the scaled and shifted normalized row. -/
theorem v36_at (s : Fin 8192) (d : Fin 1024) : mid V (Proc.devRef .tc main_v36) (ix2 s d) = NormOut.dn (argDX V) (argX V) (argZ V) (argG V) (argB V) (argW V) s d := by
  rw [← NormOut.dn_rule (argDX V) (argX V) (argZ V) (argG V) (argB V) (argW V) h0 h1 h2 h3 h4 h5]
  unfold mid NormOut.dy
  rw [v36_raw, v34_at, v26_2_at, v26_1_at, (keep2 _).2.1, v25_at, v0_at, dx_keep, w_keep]

/-- The other factor's gradient of the reference, before its rounding. -/
theorem v35_at (s : Fin 8192) (d : Fin 1024) : mid V (Proc.devRef .tc main_v35) (ix2 s d) = NormOut.dz (argDX V) (argX V) (argZ V) (argG V) (argB V) (argW V) s d := by
  rw [← NormOut.dz_rule (argDX V) (argX V) (argZ V) (argG V) (argB V) (argW V) h0 h1 h2 h3 h4 h5]
  unfold mid NormOut.dy
  rw [v35_raw, v33_at, v27_2_at, v27_1_at, (keep2 _).1, v25_at, v0_at, dx_keep, w_keep]

/-- The other factor's gradient of the reference. -/
theorem v68_at (s : Fin 8192) (d : Fin 1024) : after ops V (Proc.devRef .tc main_v68) (ix2 s d) = NormOut.dz (argDX V) (argX V) (argZ V) (argG V) (argB V) (argW V) s d := by
  rw [after_ops, ← v35_at V h0 h1 h2 h3 h4 h5]
  unfold mid
  generalize after seg3 _ = U
  after_reads_at

/-- The rows' gradient of the reference. -/
theorem v67_at (s : Fin 8192) (d : Fin 1024) : after ops V (Proc.devRef .tc main_v67) (ix2 s d) = NormOut.dc (argDX V) (argX V) (argZ V) (argG V) (argB V) (argW V) s d := by
  obtain ⟨k6, k14, k17, k19, k20⟩ := mid_norm V
  have k36 := v36_at V h0 h1 h2 h3 h4 h5
  rw [after_ops, NormOut.dc_chain (argDX V) (argX V) (argZ V) (argG V) (argB V) (argW V) h0 h1 h2 h3 h4 h5]
  unfold LayerNorm.chain LayerNorm.back
  simp only [← k17]
  simp only [← k6, ← k14, ← k20, ← k36]
  unfold mid
  generalize after seg3 _ = U
  after_reads_at
  simp only [Fin.sum_univ_one, Fin.isValue]

/-- The scale's gradient of the reference. -/
theorem v69_at (d : Fin 1024) : after ops V (Proc.devRef .tc main_v69) (ix2 0 d) = NormOut.dg (argDX V) (argX V) (argZ V) (argG V) (argB V) (argW V) d := by
  obtain ⟨k6, k14, k17, k19, k20⟩ := mid_norm V
  have k36 := v36_at V h0 h1 h2 h3 h4 h5
  rw [after_ops]
  unfold NormOut.dg
  simp only [← k19, ← k36]
  unfold mid
  generalize after seg3 _ = U
  after_reads_at
  simp only [Fin.sum_univ_one, Fin.isValue]
  exact Finset.sum_congr rfl fun s _ => mul_comm _ _

/-- The shift's gradient of the reference. -/
theorem v70_at (d : Fin 1024) : after ops V (Proc.devRef .tc main_v70) (ix2 0 d) = NormOut.db (argDX V) (argX V) (argZ V) (argG V) (argB V) (argW V) d := by
  have k36 := v36_at V h0 h1 h2 h3 h4 h5
  rw [after_ops]
  unfold NormOut.db
  simp only [← k36]
  unfold mid
  generalize after seg3 _ = U
  after_reads_at
  simp only [Fin.sum_univ_one, Fin.isValue]
end

/-- Reading one buffer of rows, or a row vector, at its coordinates. -/
theorem idx2 {a b : ℕ} (y : (⟨2, ![a, b]⟩ : Shape).Idx) : y = ix2 (y 0) (y 1) := by ext k; fin_cases k <;> rfl

theorem idx1 {b : ℕ} (y : (⟨2, ![1, b]⟩ : Shape).Idx) : y = ix2 0 (y 1) := by
  ext k; fin_cases k
  · exact congrArg Fin.val (Subsingleton.elim (α := Fin 1) (y 0) 0)
  · rfl

/-- The reference writes none of its arguments. -/
theorem args_keep : after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5) := by
  rw [after_ops]
  refine ⟨?_, ?_, ?_, ?_, ?_, ?_⟩ <;> after_reads_simp

/-- All arguments are finite. -/
structure Finites (V : Valuation τ sig (Elt Ideal)) : Prop where
  dx : ∀ s e, IsReal (argDX V s e)
  x : ∀ s e, IsReal (argX V s e)
  z : ∀ s e, IsReal (argZ V s e)
  g : ∀ d, IsReal (argG V d)
  b : ∀ d, IsReal (argB V d)
  w : ∀ d e, IsReal (argW V d e)

/-- On finite arguments the reference leaves the five gradients and its arguments as they were. -/
theorem run (m : (ℓ : Loc nD τ sig) → Buf (Elt Ideal) ℓ) (g : Dev nD → PrngReg) (h : ∀ c, Finites (launchContents m c)) :
    θ_run defs (onTc (τ := τ) (main (F := Ideal))) ⟨m, fun _ => 0, g⟩ fun r => ∀ c : Dev nD,
      r.2.mem ((c.tc : Thread nD τ).loc main_v67) = (fun y : S8192x1024.Idx => NormOut.dc (argDX (launchContents m c)) (argX (launchContents m c)) (argZ (launchContents m c)) (argG (launchContents m c)) (argB (launchContents m c)) (argW (launchContents m c)) (y 0) (y 1))
      ∧ r.2.mem ((c.tc : Thread nD τ).loc main_v68) = (fun y : S8192x1024.Idx => NormOut.dz (argDX (launchContents m c)) (argX (launchContents m c)) (argZ (launchContents m c)) (argG (launchContents m c)) (argB (launchContents m c)) (argW (launchContents m c)) (y 0) (y 1))
      ∧ r.2.mem ((c.tc : Thread nD τ).loc main_v31) = (fun y : S1024x1024.Idx => NormOut.dw (argDX (launchContents m c)) (argX (launchContents m c)) (argZ (launchContents m c)) (argG (launchContents m c)) (argB (launchContents m c)) (y 0) (y 1))
      ∧ r.2.mem ((c.tc : Thread nD τ).loc main_v69) = (fun y : S1x1024.Idx => NormOut.dg (argDX (launchContents m c)) (argX (launchContents m c)) (argZ (launchContents m c)) (argG (launchContents m c)) (argB (launchContents m c)) (argW (launchContents m c)) (y 1))
      ∧ r.2.mem ((c.tc : Thread nD τ).loc main_v70) = (fun y : S1x1024.Idx => NormOut.db (argDX (launchContents m c)) (argX (launchContents m c)) (argZ (launchContents m c)) (argG (launchContents m c)) (argB (launchContents m c)) (argW (launchContents m c)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (ran m g)
  obtain ⟨h0, h1, h2, h3, h4, h5⟩ := h c
  simp only [hr c]
  refine ⟨funext fun y => ?_, funext fun y => ?_, funext fun y => ?_, funext fun y => ?_, funext fun y => ?_, args_keep _⟩
  all_goals generalize launchContents m c = V at *
  · exact (congrArg _ (idx2 y)).trans (v67_at V h0 h1 h2 h3 h4 h5 (y 0) (y 1))
  · exact (congrArg _ (idx2 y)).trans (v68_at V h0 h1 h2 h3 h4 h5 (y 0) (y 1))
  · exact (congrArg _ (idx2 y)).trans (v31_at V (y 0) (y 1))
  · exact (congrArg _ (idx1 y)).trans (v69_at V h0 h1 h2 h3 h4 h5 (y 1))
  · exact (congrArg _ (idx1 y)).trans (v70_at V h0 h1 h2 h3 h4 h5 (y 1))

end Cert.OddOutRefIdeal.Gradient

end
-- ==== Proof.OddOutClaim.lean ====
/- The kernel's five gradients of the gated layer normalization are the derivative's, on finite arguments. -/
module

public import proofs.«01_k».proof.Defs
public import proofs.«01_k».proof.Proof.OddOutFinal
public import proofs.«01_k».proof.Proof.OddOutRefValue
public import proofs.«01_k».proof.Proof.Gen.OddOutIdeal
public import proofs.«01_k».proof.Proof.Gen.OddOutRefIdeal

@[expose] public section

set_option maxRecDepth 16384

noncomputable section

namespace Cert.OddOutIdeal

open Idealize.ShloMosaic Idealize.ShloMosaic.TcCoe Idealize.SL.Sem Cert.OddOutIdeal.Gen

/-- On any arguments the kernel leaves the five gradients and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v31_0) = (dats m 0 c).arrAt 7 (cfgs 0).N
      ∧ r.2.mem ((c.tc : Thread nD τ).loc main_v31_1) = (dats m 0 c).arrAt 8 (cfgs 0).N
      ∧ r.2.mem ((c.tc : Thread nD τ).loc main_v31_2) = (dats m 0 c).arrAt 9 (cfgs 0).N
      ∧ r.2.mem ((c.tc : Thread nD τ).loc main_v31_3) = (dats m 0 c).arrAt 10 (cfgs 0).N
      ∧ r.2.mem ((c.tc : Thread nD τ).loc main_v31_4) = (dats m 0 c).arrAt 11 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 7, (h.1 c).1 8, (h.1 c).1 9, (h.1 c).1 10, (h.1 c).1 11, h.2 c⟩)
    (θ_run_and (run_main m g) (unchanged m g))

end Cert.OddOutIdeal

namespace Cert.Proof

open Idealize.ShloMosaic Idealize.SL.Sem

/-- From the same finite arguments the kernel and the reference leave the same gradients of the rows, of the gate's other factor,
    of the weight, of the scale and of the shift. -/
theorem algebraic_oddOut [Cert.Pre_finite_odd_out.Facts] : Cert.algebraic_OddOutIdeal_OddOutRefIdeal_pre_finite_odd_out := by
  intro m g m' g' hpre hagree
  refine ⟨_, _, _, _, _, Cert.OddOutIdeal.run m g, ?_⟩
  have e0 : ∀ c, Cert.OddOutRefIdeal.Gradient.argDX (StableHlo.launchContents m' c) = Cert.OddOutIdeal.Gradient.argDX m c := fun c => funext₂ fun _ _ => congrFun (hagree c).1 _
  have e1 : ∀ c, Cert.OddOutRefIdeal.Gradient.argX (StableHlo.launchContents m' c) = Cert.OddOutIdeal.Gradient.argX m c := fun c => funext₂ fun _ _ => congrFun (hagree c).2.1 _
  have e2 : ∀ c, Cert.OddOutRefIdeal.Gradient.argZ (StableHlo.launchContents m' c) = Cert.OddOutIdeal.Gradient.argZ m c := fun c => funext₂ fun _ _ => congrFun (hagree c).2.2.1 _
  have e3 : ∀ c, Cert.OddOutRefIdeal.Gradient.argG (StableHlo.launchContents m' c) = Cert.OddOutIdeal.Gradient.argG m c := fun c => funext fun _ => congrFun (hagree c).2.2.2.1 _
  have e4 : ∀ c, Cert.OddOutRefIdeal.Gradient.argB (StableHlo.launchContents m' c) = Cert.OddOutIdeal.Gradient.argB m c := fun c => funext fun _ => congrFun (hagree c).2.2.2.2.1 _
  have e5 : ∀ c, Cert.OddOutRefIdeal.Gradient.argW (StableHlo.launchContents m' c) = Cert.OddOutIdeal.Gradient.argW m c := fun c => funext₂ fun _ _ => congrFun (hagree c).2.2.2.2.2 _
  have hf : ∀ c, Cert.OddOutRefIdeal.Gradient.Finites (StableHlo.launchContents m' c) := fun c => by
    obtain ⟨p0, p1, p2, p3, p4, p5⟩ := hpre c
    constructor
    · intro s d; rw [e0 c]; exact Cert.Finite.isReal_of_lt _ (congrFun p0 _)
    · intro s d; rw [e1 c]; exact Cert.Finite.isReal_of_lt _ (congrFun p1 _)
    · intro s d; rw [e2 c]; exact Cert.Finite.isReal_of_lt _ (congrFun p2 _)
    · intro d; rw [e3 c]; exact Cert.Finite.isReal_of_lt _ (congrFun p3 _)
    · intro d; rw [e4 c]; exact Cert.Finite.isReal_of_lt _ (congrFun p4 _)
    · intro s d; rw [e5 c]; exact Cert.Finite.isReal_of_lt _ (congrFun p5 _)
  refine (θ_run _ _ _).mono (fun r hr c => ?_) (Cert.OddOutRefIdeal.Gradient.run m' g' hf)
  obtain ⟨r0, r1, r2, r3, r4, ra⟩ := hr c
  rw [e0 c, e1 c, e2 c, e3 c, e4 c, e5 c] at r0 r1 r3 r4
  rw [e0 c, e1 c, e2 c, e3 c, e4 c] at r2
  exact ⟨r0.trans (Cert.OddOutIdeal.Gradient.final7 m c).symm, r1.trans (Cert.OddOutIdeal.Gradient.final8 m c).symm, r2.trans (Cert.OddOutIdeal.Gradient.final9 m c).symm,
    r3.trans (Cert.OddOutIdeal.Gradient.final10 m c).symm, r4.trans (Cert.OddOutIdeal.Gradient.final11 m c).symm, ra⟩

end Cert.Proof

end
-- ==== Proof.GateOut.lean ====
/- The backward pass of "two halves of the columns side by side, gated, multiplied with a weight", as plain sums over rows and
   columns. -/
module

public import proofs.«01_k».proof.Proof.NormOut

@[expose] public section

noncomputable section

namespace Cert.GateOut

open scoped BigOperators
open Cert.Finite Idealize.ShloMosaic

variable {n : ℕ} (DX : Fin n → Fin 1024 → EReal) (YP YS : Fin n → Fin 512 → EReal) (Z : Fin n → Fin 1024 → EReal)
  (W : Fin 1024 → Fin 1024 → EReal)

/-- The two halves side by side. -/
def both (r : Fin n) (e : Fin 1024) : EReal :=
  if h : e.val < 512 then YP r ⟨e.val, h⟩ else YS r ⟨e.val - 512, by have := e.isLt; omega⟩

/-- The gated rows: what the weight is multiplied with. -/
def gated (r : Fin n) (e : Fin 1024) : EReal := both YP YS r e * Gate.silu (Z r e)

/-- The gradient of the two halves. -/
def dy (r : Fin n) (e : Fin 1024) : EReal := NormOut.dy DX W r e * Gate.silu (Z r e)

/-- The gradient of the first half. -/
def dyFirst (r : Fin n) (e : Fin 512) : EReal := dy DX Z W r ⟨e.val, by have := e.isLt; omega⟩

/-- The gradient of the gate's argument. -/
def dz (r : Fin n) (e : Fin 1024) : EReal := NormOut.dy DX W r e * both YP YS r e * Gate.dsilu (Z r e)

/-- The gradient of the weight. -/
def dw (d e : Fin 1024) : EReal := ∑ r, gated YP YS Z r d * DX r e

section
variable (hDX : ∀ s e, IsReal (DX s e)) (hYP : ∀ s e, IsReal (YP s e)) (hYS : ∀ s e, IsReal (YS s e)) (hZ : ∀ s e, IsReal (Z s e))
  (hW : ∀ d e, IsReal (W d e))

include hYP hYS in
theorem isReal_both (r : Fin n) (e : Fin 1024) : IsReal (both YP YS r e) := by
  unfold both; split
  · exact hYP _ _
  · exact hYS _ _

include hDX hZ hW in
theorem isReal_dy (r : Fin n) (e : Fin 1024) : IsReal (dy DX Z W r e) :=
  (NormOut.isReal_dy DX W hDX hW r e).mul (Gate.isReal_silu (hZ r e))

include hDX hYP hYS hZ hW in
/-- The gate's argument's gradient as the product rule gives it. -/
theorem dz_rule (r : Fin n) (e : Fin 1024) :
    both YP YS r e * NormOut.dy DX W r e * Gate.sig (Z r e)
      + Z r e * (both YP YS r e * NormOut.dy DX W r e) * (Gate.sig (Z r e) * (Gate.one - Gate.sig (Z r e)))
      = dz DX YP YS Z W r e := by
  rw [Gate.grad_eq ((isReal_both YP YS hYP hYS r e).mul (NormOut.isReal_dy DX W hDX hW r e)) (hZ r e), mul_comm (both YP YS r e)]
  rfl
end

end Cert.GateOut

end
-- ==== Proof.Pool.lean ====
/- Sums over a window of rows, as differences of running sums and as sums doubled by rotating the rows. -/
module

public import proofs.«01_k».proof.Proof.Finite
public import Idealize.ShloMosaic.Lib.KernelVsHost

@[expose] public section

noncomputable section

namespace Cert.Pool

open Idealize.ShloMosaic Cert.Finite
open scoped BigOperators

/-- A row's values continued by zero beyond the last row. -/
def tail {n : ℕ} (f : Fin n → EReal) (k : ℕ) : EReal := if h : k < n then f ⟨k, h⟩ else 0

theorem tail_lt {n : ℕ} (f : Fin n → EReal) (k : Fin n) : tail f k.val = f k := by simp [tail]

theorem isReal_tail {n : ℕ} {f : Fin n → EReal} (h : ∀ k, IsReal (f k)) (k : ℕ) : IsReal (tail f k) := by
  unfold tail; split
  · exact h _
  · exact ⟨0, rfl⟩

/-- The sum of a row and the rows before it, `w` in all, as far as there are rows. -/
def win (f : ℕ → EReal) (w p : ℕ) : EReal := ∑ j ∈ Finset.range w, if j ≤ p then f (p - j) else 0

/-- The sum of a row and the rows after it, `w` in all. -/
def lead (f : ℕ → EReal) (w p : ℕ) : EReal := ∑ j ∈ Finset.range w, f (p + j)

/-- The sum of all rows up to one. -/
def cum (f : ℕ → EReal) (r : ℕ) : EReal := ∑ i ∈ Finset.range (r + 1), f i

/-- The difference of two running sums `w` rows apart is the window's sum. -/
theorem cum_diff {f : ℕ → EReal} (hf : ∀ i, IsReal (f i)) (w r : ℕ) :
    cum f r - (if w ≤ r then cum f (r - w) else 0) = win f w r := by
  choose g hg using hf
  obtain rfl : f = fun i => (g i : EReal) := funext hg
  unfold cum win
  split
  · next h =>
    have e : (∑ j ∈ Finset.range w, if j ≤ r then ((g (r - j) : ℝ) : EReal) else 0) = ((∑ j ∈ Finset.range w, g (r - j) : ℝ) : EReal) := by
      rw [coe_sum]; exact Finset.sum_congr rfl fun j hj => if_pos (by have := Finset.mem_range.mp hj; omega)
    rw [e, ← coe_sum, ← coe_sum, ← EReal.coe_sub]
    congr 1
    have h1 : r + 1 = (r - w + 1) + w := by omega
    rw [h1, Finset.sum_range_add, add_sub_cancel_left, ← Finset.sum_range_reflect]
    refine Finset.sum_congr rfl fun j hj => ?_
    have := Finset.mem_range.mp hj
    congr 1; omega
  · next h =>
    obtain ⟨k, rfl⟩ : ∃ k, w = r + 1 + k := ⟨w - (r + 1), by omega⟩
    symm
    rw [sub_zero, Finset.sum_range_add, Finset.sum_eq_zero (s := Finset.range k) (fun j _ => if_neg (by omega)), add_zero,
      ← Finset.sum_range_reflect]
    refine Finset.sum_congr rfl fun j hj => ?_
    have := Finset.mem_range.mp hj
    rw [if_pos (by omega)]
    congr 2; omega

/-- The running sum from the end of the differences of two rows `w` apart is the sum of the window ahead. -/
theorem rev_diff {q : ℕ → EReal} {n : ℕ} (hq : ∀ i, IsReal (q i)) (h0 : ∀ i, n ≤ i → q i = 0) (w r : ℕ) (hr : r < n) :
    (∑ i ∈ Finset.range n, if r ≤ i then q i + -q (i + w) else 0) = lead q w r := by
  choose g hg using hq
  obtain rfl : q = fun i => (g i : EReal) := funext hg
  have g0 : ∀ i, n ≤ i → g i = 0 := fun i hi => by have h := h0 i hi; exact EReal.coe_eq_zero.mp h
  unfold lead
  have e : ∀ i, (if r ≤ i then ((g i : ℝ) : EReal) + -((g (i + w) : ℝ) : EReal) else 0) = (((if r ≤ i then g i - g (i + w) else 0) : ℝ) : EReal) := by
    intro i; split
    · rw [← sub_eq_add_neg, EReal.coe_sub]
    · rfl
  rw [Finset.sum_congr rfl fun i _ => e i, ← coe_sum, ← coe_sum]
  congr 1
  obtain ⟨m, rfl⟩ : ∃ m, n = r + m := ⟨n - r, by omega⟩
  rw [Finset.sum_range_add, Finset.sum_eq_zero (s := Finset.range r) (fun j hj => if_neg (by have := Finset.mem_range.mp hj; omega)), zero_add,
    Finset.sum_congr rfl (fun j _ => if_pos (Nat.le_add_right r j)), Finset.sum_sub_distrib]
  have h1 : ∑ j ∈ Finset.range (m + w), g (r + j) = ∑ j ∈ Finset.range m, g (r + j) := by
    rw [Finset.sum_range_add, Finset.sum_eq_zero (s := Finset.range w) (fun j _ => g0 _ (by omega)), add_zero]
  have h2 : ∑ j ∈ Finset.range (w + m), g (r + j) = ∑ j ∈ Finset.range w, g (r + j) + ∑ j ∈ Finset.range m, g (r + j + w) := by
    rw [Finset.sum_range_add]; congr 1; exact Finset.sum_congr rfl fun j _ => congrArg g (by omega)
  rw [← h1, Nat.add_comm m w, h2]; ring

section
variable {α : Type} (X : FVec Ideal ⟨2, ![528, 128]⟩ .f32) (hr : (⟨2, ![528, 128]⟩ : Shape).Rotates 0 none) (c : Fin 128) (e : ℕ → EReal)

/-- A block whose rows hold windows of `k` rows, added to itself rotated by `k` rows, holds windows of `2 k` rows. -/
theorem roll_back (k : ℕ) (b : BitVec 32) (hb : b.toNat = k) (hk : k ≤ 16) (h : ∀ p : Fin 528, k ≤ p.val + 1 → X (ix2 p c) = ∑ j ∈ Finset.range k, e (p.val - j))
    (p : Fin 528) (hp : k + k ≤ p.val + 1) : addf X (dynamicRotate 0 b none X hr) (ix2 p c) = ∑ j ∈ Finset.range (k + k), e (p.val - j) := by
  have h1 : dynamicRotate 0 b none X hr (ix2 p c) = X (ix2 ⟨p.val - k, by omega⟩ c) := dynamicRotate_apply _ _ _ _ _ _ fun a => by
    match a with
    | ⟨0, _⟩ => simp [ix2, hb]; omega
    | ⟨1, _⟩ => simp [ix2]
  show X (ix2 p c) + dynamicRotate 0 b none X hr (ix2 p c) = _
  rw [h1, h p (by omega), h ⟨p.val - k, by omega⟩ (by show k ≤ p.val - k + 1; omega), Finset.sum_range_add]
  congr 1
  exact Finset.sum_congr rfl fun j _ => congrArg e (by show p.val - k - j = p.val - (k + j); omega)

/-- The same with the rows after each row. -/
theorem roll_ahead (k : ℕ) (b : BitVec 32) (hb : b.toNat = 528 - k) (hk : k ≤ 16) (hk0 : 0 < k)
    (h : ∀ p : Fin 528, p.val + k ≤ 528 → X (ix2 p c) = ∑ j ∈ Finset.range k, e (p.val + j))
    (p : Fin 528) (hp : p.val + (k + k) ≤ 528) : addf X (dynamicRotate 0 b none X hr) (ix2 p c) = ∑ j ∈ Finset.range (k + k), e (p.val + j) := by
  have h1 : dynamicRotate 0 b none X hr (ix2 p c) = X (ix2 ⟨p.val + k, by omega⟩ c) := dynamicRotate_apply _ _ _ _ _ _ fun a => by
    match a with
    | ⟨0, _⟩ => simp [ix2, hb]; omega
    | ⟨1, _⟩ => simp [ix2]
  show X (ix2 p c) + dynamicRotate 0 b none X hr (ix2 p c) = _
  rw [h1, h p (by omega), h ⟨p.val + k, by omega⟩ (by show p.val + k + k ≤ 528; omega), Finset.sum_range_add]
  congr 1
  exact Finset.sum_congr rfl fun j _ => congrArg e (by show p.val + k + j = p.val + (k + j); omega)

end

end Cert.Pool

end
-- ==== Proof.PoolGrad.lean ====
/- The mean over the rows before each row, taken at four widths over four groups of columns, mixed by a weight of each group
   and scaled, and the gradients of its three arguments, as plain sums. -/
module

public import proofs.«01_k».proof.Proof.Pool

@[expose] public section

noncomputable section

namespace Cert.PoolGrad

open scoped BigOperators
open Cert.Finite Cert.Pool Idealize.ShloMosaic

/-- The width of a group's mean. -/
def wid (g : Fin 4) : ℕ := 2 ^ (g.val + 1)

/-- The width as a float's word. -/
def word : Fin 4 → BitVec 32
  | 0 => 0x40000000#32
  | 1 => 0x40800000#32
  | 2 => 0x41000000#32
  | 3 => 0x41800000#32

/-- The number of rows a group's mean is over at row `r`. -/
def cnt (g : Fin 4) (r : ℕ) : EReal := min (((r + 1 : ℕ) : ℝ) : EReal) (Ideal.ofBits .f32 (word g))

theorem word_eq (g : Fin 4) : ∃ x : ℝ, 0 < x ∧ Ideal.ofBits .f32 (word g) = (x : EReal) := by
  match g with
  | 0 => exact ⟨2, by norm_num, by simp [word, Ideal.ofBits, Ideal.ieee, -EReal.coe_mul]; norm_num⟩
  | 1 => exact ⟨4, by norm_num, by simp [word, Ideal.ofBits, Ideal.ieee, -EReal.coe_mul]; norm_num⟩
  | 2 => exact ⟨8, by norm_num, by simp [word, Ideal.ofBits, Ideal.ieee, -EReal.coe_mul]; norm_num⟩
  | 3 => exact ⟨16, by norm_num, by simp [word, Ideal.ofBits, Ideal.ieee, -EReal.coe_mul]; norm_num⟩

theorem cnt_eq (g : Fin 4) (r : ℕ) : ∃ x : ℝ, x ≠ 0 ∧ cnt g r = (x : EReal) := by
  obtain ⟨x, hx, h⟩ := word_eq g
  refine ⟨min ((r + 1 : ℕ) : ℝ) x, (lt_min (by positivity) hx).ne', ?_⟩
  unfold cnt
  rw [h]
  exact (EReal.coe_strictMono.monotone.map_min).symm

theorem isReal_div_cnt {a : EReal} (ha : IsReal a) (g : Fin 4) (r : ℕ) : IsReal (Ideal.div a (cnt g r)) := by
  obtain ⟨x, hx, h⟩ := cnt_eq g r
  obtain ⟨y, rfl⟩ := ha
  rw [h]
  exact ⟨y / x, by simp [Ideal.div, hx]; rw [div_eq_mul_inv, EReal.coe_mul, EReal.coe_inv]⟩

theorem div_cnt_zero (g : Fin 4) (r : ℕ) : Ideal.div 0 (cnt g r) = 0 := by
  obtain ⟨x, hx, h⟩ := cnt_eq g r
  rw [h]
  simp [Ideal.div, hx]

/-- Column `l` of group `g`. -/
def col (g : Fin 4) (l : Fin 128) : Fin 512 := ⟨128 * g.val + l.val, by have := g.isLt; have := l.isLt; omega⟩

/-- The group of a column. -/
def grp (c : Fin 512) : Fin 4 := ⟨c.val / 128, by have := c.isLt; omega⟩

/-- The place of a column in its group. -/
def lane (c : Fin 512) : Fin 128 := ⟨c.val % 128, Nat.mod_lt _ (by decide)⟩

theorem grp_col (g : Fin 4) (l : Fin 128) : grp (col g l) = g := Fin.ext (by show (128 * g.val + l.val) / 128 = g.val; have := l.isLt; omega)
theorem lane_col (g : Fin 4) (l : Fin 128) : lane (col g l) = l := Fin.ext (by show (128 * g.val + l.val) % 128 = l.val; have := l.isLt; omega)
theorem col_grp (c : Fin 512) : col (grp c) (lane c) = c := Fin.ext (by show 128 * (c.val / 128) + c.val % 128 = c.val; omega)

variable {n : ℕ} (U DY : Fin n → Fin 512 → EReal) (WP : Fin 4 → Fin 128 → Fin 128 → EReal) (PS : Fin 512 → EReal)

/-- The mean over the rows before a row, less the row. -/
def pooled (g : Fin 4) (r : Fin n) (l : Fin 128) : EReal :=
  Ideal.div (win (tail fun i => U i (col g l)) (wid g) r.val) (cnt g r.val) - U r (col g l)

/-- The means mixed by their group's weight. -/
def mixed (g : Fin 4) (r : Fin n) (l : Fin 128) : EReal := ∑ k, pooled U g r k * WP g k l

/-- The mixed means scaled. -/
def out (r : Fin n) (c : Fin 512) : EReal := mixed U WP (grp c) r (lane c) * PS c

/-- The mixed means' cotangent; zero past the last row. -/
def dmix (g : Fin 4) (r : ℕ) (l : Fin 128) : EReal := tail (fun i => DY i (col g l)) r * PS (col g l)

/-- The means' cotangent. -/
def dpool (g : Fin 4) (r : ℕ) (k : Fin 128) : EReal := ∑ l, dmix DY PS g r l * WP g k l

/-- The means' cotangent over the number of rows. -/
def quot (g : Fin 4) (k : Fin 128) (r : ℕ) : EReal := Ideal.div (dpool DY WP PS g r k) (cnt g r)

/-- The gradient of the rows. -/
def du (g : Fin 4) (r : Fin n) (k : Fin 128) : EReal := lead (quot DY WP PS g k) (wid g) r.val - dpool DY WP PS g r.val k

/-- The gradient of the groups' weights. -/
def dwp (g : Fin 4) (k l : Fin 128) : EReal := ∑ r : Fin n, pooled U g r k * dmix DY PS g r.val l

/-- The gradient of the scale. -/
def dps (g : Fin 4) (l : Fin 128) : EReal := ∑ r : Fin n, DY r (col g l) * mixed U WP g r l

section
variable (hDY : ∀ r c, IsReal (DY r c)) (hWP : ∀ g k l, IsReal (WP g k l)) (hPS : ∀ c, IsReal (PS c))
include hDY hPS
theorem isReal_dmix (g : Fin 4) (r : ℕ) (l : Fin 128) : IsReal (dmix DY PS g r l) := (isReal_tail (fun _ => hDY _ _) r).mul (hPS _)

include hWP
theorem isReal_dpool (g : Fin 4) (r : ℕ) (k : Fin 128) : IsReal (dpool DY WP PS g r k) :=
  isReal_sum _ fun l => (isReal_dmix DY PS hDY hPS g r l).mul (hWP _ _ _)

theorem isReal_quot (g : Fin 4) (k : Fin 128) (r : ℕ) : IsReal (quot DY WP PS g k r) := isReal_div_cnt (isReal_dpool DY WP PS hDY hWP hPS g r k) g r
end

theorem dpool_past (g : Fin 4) (r : ℕ) (hr : n ≤ r) (k : Fin 128) : dpool DY WP PS g r k = 0 :=
  Finset.sum_eq_zero fun l _ => by unfold dmix tail; rw [dif_neg (by omega), zero_mul, zero_mul]

theorem quot_past (g : Fin 4) (k : Fin 128) (r : ℕ) (hr : n ≤ r) : quot DY WP PS g k r = 0 := by
  unfold quot; rw [dpool_past DY WP PS g r hr k, div_cnt_zero]

section
variable (hU : ∀ r c, IsReal (U r c))
include hU
theorem isReal_win (f : ℕ → EReal) (hf : ∀ i, IsReal (f i)) (w r : ℕ) : IsReal (win f w r) :=
  isReal_sum _ fun j => by split; exacts [hf _, ⟨0, rfl⟩]
theorem isReal_pooled (g : Fin 4) (r : Fin n) (l : Fin 128) : IsReal (pooled U g r l) :=
  (isReal_div_cnt (isReal_win U hU _ (isReal_tail fun i => hU i _) _ _) g r.val).sub (hU _ _)
theorem isReal_out (hWP : ∀ g k l, IsReal (WP g k l)) (hPS : ∀ c, IsReal (PS c)) (r : Fin n) (c : Fin 512) : IsReal (out U WP PS r c) :=
  (isReal_sum _ fun k => (isReal_pooled U hU _ r k).mul (hWP _ _ _)).mul (hPS c)
end

end Cert.PoolGrad

end
-- ==== Proof.EvenOutBlock.lean ====
/- One block of rows of the backward kernel of the mean over earlier rows: the same operations for each of the four groups of
   columns, and what they compute. -/
module

public import proofs.«01_k».proof.Proof.PoolGrad
public import proofs.«01_k».proof.Proof.Gen.EvenOutIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.EvenOutIdeal.Gradient

open Cert.EvenOutIdeal Cert.EvenOutIdeal.Gen Cert.Pool Cert.PoolGrad Idealize.ShloMosaic Idealize.ShloMosaic.TcCoe Idealize.SL.Sem

/-- A block added to itself rotated by `b` rows. -/
def fold (b : BitVec 32) (X : FVec Ideal S528x128 .f32) : FVec Ideal S528x128 .f32 := addf X (dynamicRotate 0 b none X rotates_S528x128_d0)

/-- The sums over the group's rows up to each row. -/
def behind (X : FVec Ideal S528x128 .f32) : Fin 4 → FVec Ideal S528x128 .f32
  | 0 => fold 1#32 X
  | 1 => fold 2#32 (fold 1#32 X)
  | 2 => fold 4#32 (fold 2#32 (fold 1#32 X))
  | 3 => fold 8#32 (fold 4#32 (fold 2#32 (fold 1#32 X)))

/-- The sums over the group's rows from each row. -/
def ahead (X : FVec Ideal S528x128 .f32) : Fin 4 → FVec Ideal S528x128 .f32
  | 0 => fold 527#32 X
  | 1 => fold 526#32 (fold 527#32 X)
  | 2 => fold 524#32 (fold 526#32 (fold 527#32 X))
  | 3 => fold 520#32 (fold 524#32 (fold 526#32 (fold 527#32 X)))

theorem behind_at (X : FVec Ideal S528x128 .f32) (c : Fin 128) (e : ℕ → EReal) (h : ∀ p : Fin 528, X (ix2 p c) = e p.val) (g : Fin 4)
    (p : Fin 528) (hp : wid g ≤ p.val + 1) : behind X g (ix2 p c) = ∑ j ∈ Finset.range (wid g), e (p.val - j) := by
  have h1 := roll_back X rotates_S528x128_d0 c e 1 1#32 rfl (by decide) (fun p _ => by rw [h]; simp)
  have h2 := roll_back _ rotates_S528x128_d0 c e 2 2#32 rfl (by decide) h1
  have h3 := roll_back _ rotates_S528x128_d0 c e 4 4#32 rfl (by decide) h2
  have h4 := roll_back _ rotates_S528x128_d0 c e 8 8#32 rfl (by decide) h3
  match g with
  | 0 => exact h1 p hp
  | 1 => exact h2 p hp
  | 2 => exact h3 p hp
  | 3 => exact h4 p hp

theorem ahead_at (X : FVec Ideal S528x128 .f32) (c : Fin 128) (e : ℕ → EReal) (h : ∀ p : Fin 528, X (ix2 p c) = e p.val) (g : Fin 4)
    (p : Fin 528) (hp : p.val + wid g ≤ 528) : ahead X g (ix2 p c) = ∑ j ∈ Finset.range (wid g), e (p.val + j) := by
  have h1 := roll_ahead X rotates_S528x128_d0 c e 1 527#32 rfl (by decide) (by decide) (fun p _ => by rw [h]; simp)
  have h2 := roll_ahead _ rotates_S528x128_d0 c e 2 526#32 rfl (by decide) (by decide) h1
  have h3 := roll_ahead _ rotates_S528x128_d0 c e 4 524#32 rfl (by decide) (by decide) h2
  have h4 := roll_ahead _ rotates_S528x128_d0 c e 8 520#32 rfl (by decide) (by decide) h3
  match g with
  | 0 => exact h1 p hp
  | 1 => exact h2 p hp
  | 2 => exact h3 p hp
  | 3 => exact h4 p hp

/-- The number of rows of each row's mean, over a block. -/
def cntBlk (g : Fin 4) (P : FVec Ideal S512x1 .f32) : FVec Ideal S512x1 .f32 :=
  minimumf P (broadcast S512x1 (Scalar.ofBits (F := Ideal) .f32 (word g)))

/-- The rows before a block, zero before the first. -/
def before (b : BitVec 32) (H : FVec Ideal S16x128 .bf16) : FVec Ideal S16x128 .f32 :=
  Scalar.select (Scalar.cmpi .eq b 0#32) (broadcast S16x128 (Scalar.ofBits (F := Ideal) .f32 0x00000000#32)) (k0_pay19 H)

/-- The means of a group, less the rows. -/
def pooledBlk (g : Fin 4) (b : BitVec 32) (P : FVec Ideal S512x1 .f32) (U : FVec Ideal S512x128 .bf16) (H : FVec Ideal S16x128 .bf16) :
    FVec Ideal S512x128 .bf16 :=
  truncf .bf16 (subf (divf (extractStridedSlice S512x128 ![16, 0]
      (behind (concatenate S528x128 0 [⟨S16x128, before b H⟩, ⟨S512x128, k0_pay18 U⟩] concatenates_S16x128_S512x128_S528x128_d0) g)
      slices_S528x128_o16_0_S512x128) (broadcastTo S512x128 (cntBlk g P) broadcasts_S512x1_S512x128)) (k0_pay18 U)) bitsLt_bf16_f32

/-- The mixed means' cotangent over a block and the sixteen rows after it. -/
def dmixBlk (D : FVec Ideal S512x128 .f32) (N : FVec Ideal S16x128 .f32) (S : FVec Ideal S1x128 .f32) : FVec Ideal S528x128 .bf16 :=
  truncf .bf16 (mulf (concatenate S528x128 0 [⟨S512x128, D⟩, ⟨S16x128, N⟩] concatenates_S512x128_S16x128_S528x128_d0)
    (broadcastTo S528x128 (shapeCast S1x128 S shapeCasts_S1x128_S1x128) broadcasts_S1x128_S528x128)) bitsLt_bf16_f32

/-- The means' cotangent. -/
def dpoolBlk (M : FVec Ideal S528x128 .bf16) (W : FVec Ideal S1x128x128 .bf16) : FVec Ideal S528x128 .f32 :=
  matmul dot_S528x128_S128x128_S528x128_1_1_0_0_n_n none M (shapeCast S128x128 W shapeCasts_S1x128x128_S128x128)
    (constant S528x128 .f32 0x00000000#32)

/-- The gradient of the block's rows. -/
def duBlk (g : Fin 4) (P : FVec Ideal S528x1 .f32) (Q : FVec Ideal S528x128 .f32) : FVec Ideal S512x128 .bf16 :=
  truncf .bf16 (subf (extractStridedSlice S512x128 ![0, 0]
      (ahead (divf Q (broadcastTo S528x128 (minimumf P (broadcast S528x1 (Scalar.ofBits (F := Ideal) .f32 (word g)))) broadcasts_S528x1_S528x128)) g)
      slices_S528x128_o0_0_S512x128) (extractStridedSlice S512x128 ![0, 0] Q slices_S528x128_o0_0_S512x128)) bitsLt_bf16_f32

/-- The weight's gradient with the block's part added. -/
def dwpBlk (Q : FVec Ideal S512x128 .bf16) (M : FVec Ideal S528x128 .bf16) (acc : FVec Ideal S1x128x128 .f32) : FVec Ideal S1x128x128 .f32 :=
  shapeCast S1x128x128 (addf (shapeCast S128x128 acc shapeCasts_S1x128x128_S128x128)
    (matmul dot_S512x128_S512x128_S128x128_0_0_1_1_n_n none Q (extractStridedSlice S512x128 ![0, 0] M slices_S528x128_o0_0_S512x128)
      (constant S128x128 .f32 0x00000000#32))) shapeCasts_S128x128_S1x128x128

/-- The scale's gradient with the block's part added. -/
def dpsBlk (D : FVec Ideal S512x128 .f32) (Q : FVec Ideal S512x128 .bf16) (acc : FVec Ideal S1x128 .f32) (W : FVec Ideal S1x128x128 .bf16) :
    FVec Ideal S1x128 .f32 :=
  addf (shapeCast S1x128 acc shapeCasts_S1x128_S1x128) (shapeCast S1x128 (multiReduction .add [0] S128
    (mulf D (matmul dot_S512x128_S128x128_S512x128_1_0_0_1_n_n none Q (shapeCast S128x128 W shapeCasts_S1x128x128_S128x128)
      (constant S512x128 .f32 0x00000000#32))) 0x00000000#32 reduces_S512x128_S128 (.inl rfl) rfl) shapeCasts_S128_S1x128)

theorem dps_blk (D : FVec Ideal S512x128 .f32) (Q : FVec Ideal S512x128 .bf16) (acc : FVec Ideal S1x128 .f32) (W : FVec Ideal S1x128x128 .bf16)
    (l : Fin 128) : dpsBlk D Q acc W (ix2 0 l) = acc (ix2 0 l) + ∑ s : Fin 512, D (ix2 s l) * ∑ k : Fin 128, Q (ix2 s k) * W (ix3 0 k l) := by
  pointwise [dpsBlk]

theorem dwp_blk (Q : FVec Ideal S512x128 .bf16) (M : FVec Ideal S528x128 .bf16) (acc : FVec Ideal S1x128x128 .f32) (k l : Fin 128) :
    dwpBlk Q M acc (ix3 0 k l) = acc (ix3 0 k l) + ∑ s : Fin 512, Q (ix2 s k) * M (ix2 ⟨s.val, by have := s.isLt; omega⟩ l) := by
  pointwise [dwpBlk]

theorem dpool_blk (M : FVec Ideal S528x128 .bf16) (W : FVec Ideal S1x128x128 .bf16) (p : Fin 528) (k : Fin 128) :
    dpoolBlk M W (ix2 p k) = ∑ l : Fin 128, M (ix2 p l) * W (ix3 0 k l) := by
  pointwise [dpoolBlk]

theorem dmix_blk (D : FVec Ideal S512x128 .f32) (N : FVec Ideal S16x128 .f32) (S : FVec Ideal S1x128 .f32) (p : Fin 528) (l : Fin 128) :
    dmixBlk D N S (ix2 p l) = (if h : p.val < 512 then D (ix2 ⟨p.val, h⟩ l) else N (ix2 ⟨p.val - 512, by have := p.isLt; omega⟩ l)) * S (ix2 0 l) := by
  pointwise [dmixBlk]

theorem wid_le (g : Fin 4) : wid g ≤ 16 := by revert g; decide

/-- The number of a row, counted from one, as the kernel computes it from the block's number. -/
theorem count_word (n : ℕ) (hn : n < 16) (s : ℕ) (hs : s < 528) :
    FloatOps.sitofp (F := Ideal) FTy.f32 (IntOp.addi (Scalar.addi (Scalar.muli (BitVec.ofNat 32 n) 512#32) 1#32) (BitVec.ofNat 32 s)) = (((512 * n + s + 1 : ℕ) : ℝ) : EReal) := by
  have h : (BitVec.ofNat 32 n * 512#32 + 1#32 + BitVec.ofNat 32 s).toInt = ((512 * n + s + 1 : ℕ) : ℤ) := by
    rw [BitVec.toInt_eq_toNat_cond]
    simp
    omega
  show (((BitVec.ofNat 32 n * 512#32 + 1#32 + BitVec.ofNat 32 s).toInt : ℝ) : EReal) = _
  rw [h]
  simp

theorem pos_blk (n : ℕ) (hn : n < 16) (s : Fin 512) :
    k0_pay16 (F := Ideal) (BitVec.ofNat 32 n) (ix2 s 0) = (((512 * n + s.val + 1 : ℕ) : ℝ) : EReal) := by
  rw [← count_word n hn s.val (by have := s.isLt; omega)]
  pointwise [k0_pay16]

theorem pos_ahead (n : ℕ) (hn : n < 16) (p : Fin 528) :
    k0_pay17 (F := Ideal) (BitVec.ofNat 32 n) (ix2 p 0) = (((512 * n + p.val + 1 : ℕ) : ℝ) : EReal) := by
  rw [← count_word n hn p.val p.isLt]
  pointwise [k0_pay17]

theorem first_block : ∀ n : Fin 16, (Scalar.cmpi CmpIPredicate.eq (BitVec.ofNat 32 n.val) 0#32 = 1#1) ↔ n.val = 0 := by decide

/-- The means of block `n`, in terms of the column `f` of all rows. -/
theorem pooled_blk (g : Fin 4) (n : ℕ) (hn : n < 16) (U : FVec Ideal S512x128 .bf16) (H : FVec Ideal S16x128 .bf16) (l : Fin 128) (f : ℕ → EReal)
    (hU : ∀ s : Fin 512, U (ix2 s l) = f (512 * n + s.val)) (hH : ∀ p : Fin 16, 0 < n → H (ix2 p l) = f (512 * n - 16 + p.val)) (s : Fin 512) :
    pooledBlk g (BitVec.ofNat 32 n) (k0_pay16 (BitVec.ofNat 32 n)) U H (ix2 s l)
      = Ideal.div (win f (wid g) (512 * n + s.val)) (cnt g (512 * n + s.val)) - U (ix2 s l) := by
  have he : ∀ p : Fin 528, concatenate S528x128 0 [⟨S16x128, before (BitVec.ofNat 32 n) H⟩, ⟨S512x128, k0_pay18 (F := Ideal) U⟩]
      concatenates_S16x128_S512x128_S528x128_d0 (ix2 p l) = if n = 0 ∧ p.val < 16 then 0 else f (512 * n + p.val - 16) := fun p => by
    have hb : (Scalar.cmpi CmpIPredicate.eq (BitVec.ofNat 32 n) 0#32 = 1#1) ↔ n = 0 := first_block ⟨n, hn⟩
    by_cases hp : p.val < 16
    · by_cases h0 : n = 0
      · rw [if_pos ⟨h0, hp⟩]
        have hsel : before (BitVec.ofNat 32 n) H = broadcast S16x128 (Scalar.ofBits (F := Ideal) .f32 0x00000000#32) := if_pos (hb.mpr h0)
        rw [hsel]
        pointwise
        simp [hp]
      · rw [if_neg (by omega)]
        have hsel : before (BitVec.ofNat 32 n) H = k0_pay19 H := if_neg (fun h => h0 (hb.mp h))
        rw [hsel]
        pointwise [k0_pay19]
        rw [dif_pos hp, hH ⟨p.val, hp⟩ (by omega)]
        congr 1; show 512 * n - 16 + p.val = _; omega
    · rw [if_neg (by omega)]
      generalize before (BitVec.ofNat 32 n) H = K
      pointwise [k0_pay18]
      rw [dif_neg hp, hU]
      congr 1; show 512 * n + (p.val - 16) = _; omega
  have hw := behind_at _ l (fun i => if n = 0 ∧ i < 16 then 0 else f (512 * n + i - 16)) he g ⟨16 + s.val, by have := s.isLt; omega⟩ (by have := wid_le g; show _ ≤ 16 + s.val + 1; omega)
  have hs : (∑ j ∈ Finset.range (wid g), if n = 0 ∧ 16 + s.val - j < 16 then 0 else f (512 * n + (16 + s.val - j) - 16)) = win f (wid g) (512 * n + s.val) :=
    Finset.sum_congr rfl fun j hj => by
      have h16 := wid_le g
      have := Finset.mem_range.mp hj
      by_cases h : n = 0 ∧ 16 + s.val - j < 16
      · rw [if_pos h, if_neg (by omega)]
      · rw [if_neg h, if_pos (by omega)]; congr 1; omega
  rw [← hs, ← hw]
  unfold pooledBlk cntBlk cnt
  rw [← pos_blk n hn s]
  generalize behind _ g = B
  generalize k0_pay16 (F := Ideal) (BitVec.ofNat 32 n) = P
  pointwise [k0_pay18]

/-- The gradient of block `n`'s rows, in terms of the column `d` of the means' cotangent. -/
theorem du_blk (g : Fin 4) (n : ℕ) (hn : n < 16) (Q : FVec Ideal S528x128 .f32) (k : Fin 128) (d : ℕ → EReal)
    (hQ : ∀ p : Fin 528, Q (ix2 p k) = d (512 * n + p.val)) (s : Fin 512) :
    duBlk g (k0_pay17 (BitVec.ofNat 32 n)) Q (ix2 s k)
      = lead (fun r => Ideal.div (d r) (cnt g r)) (wid g) (512 * n + s.val) - d (512 * n + s.val) := by
  unfold duBlk
  have he : ∀ p : Fin 528, divf Q (broadcastTo S528x128 (minimumf (k0_pay17 (BitVec.ofNat 32 n)) (broadcast S528x1 (Scalar.ofBits (F := Ideal) .f32 (word g))))
      broadcasts_S528x1_S528x128) (ix2 p k) = Ideal.div (d (512 * n + p.val)) (cnt g (512 * n + p.val)) := fun p => by
    unfold cnt
    rw [← pos_ahead n hn p, ← hQ]
    generalize k0_pay17 (F := Ideal) (BitVec.ofNat 32 n) = P
    pointwise
  have hw := ahead_at _ k (fun i => Ideal.div (d (512 * n + i)) (cnt g (512 * n + i))) he g ⟨s.val, by have := s.isLt; omega⟩ (by have := wid_le g; have := s.isLt; show s.val + _ ≤ _; omega)
  have hq := hQ ⟨s.val, by have := s.isLt; omega⟩
  have hs : lead (fun r => Ideal.div (d r) (cnt g r)) (wid g) (512 * n + s.val)
      = ∑ j ∈ Finset.range (wid g), Ideal.div (d (512 * n + (s.val + j))) (cnt g (512 * n + (s.val + j))) :=
    Finset.sum_congr rfl fun j _ => by rw [Nat.add_assoc]
  rw [hs, ← hw, ← hq]
  generalize ahead _ g = B
  pointwise

end Cert.EvenOutIdeal.Gradient

end
-- ==== Proof.EvenOutPieces.lean ====
/- The four column groups of a block side by side: what the stores of the four groups leave of an output. -/
module

public import proofs.«01_k».proof.Proof.EvenOutBlock

@[expose] public section

set_option maxRecDepth 16384

noncomputable section

namespace Cert.EvenOutIdeal.Gradient

open Cert.EvenOutIdeal Cert.EvenOutIdeal.Gen Cert.Pool Cert.PoolGrad Idealize.ShloMosaic Idealize.ShloMosaic.TcCoe Idealize.SL.Sem

theorem inb_cols (n : ℕ) (g : Fin 4) : ∀ a, ![0, 128 * g.val] a + ![n, 128] a ≤ (⟨2, ![n, 512]⟩ : Shape).size a := by
  intro a
  have := g.isLt
  fin_cases a
  · show 0 + n ≤ n; omega
  · show 128 * g.val + 128 ≤ 512; omega

theorem inb_slab (g : Fin 4) : ∀ a, ![g.val, 0, 0] a + ![1, 128, 128] a ≤ (⟨3, ![4, 128, 128]⟩ : Shape).size a := by
  intro a
  have := g.isLt
  fin_cases a
  · show g.val + 1 ≤ 4; omega
  · show 0 + 128 ≤ 128; omega
  · show 0 + 128 ≤ 128; omega

/-- The columns of group `g`. -/
abbrev colRect (n : ℕ) (g : Fin 4) : Rect ⟨2, ![n, 512]⟩ := Rect.unit ![0, 128 * g.val] ![n, 128] (inb_cols n g)

/-- The slab of group `g`. -/
abbrev slabRect (g : Fin 4) : Rect ⟨3, ![4, 128, 128]⟩ := Rect.unit ![g.val, 0, 0] ![1, 128, 128] (inb_slab g)

theorem colRect_emb (n : ℕ) (g : Fin 4) (x : (colRect n g).shape.Idx) : (colRect n g).emb x = ix2 (x 0) (col g (x 1)) := by
  funext a
  apply Fin.ext
  rw [ValueKit.rect_emb_unit_val]
  fin_cases a
  · show 0 + (x 0).val = (x 0).val; omega
  · rfl

theorem slabRect_emb (g : Fin 4) (x : (slabRect g).shape.Idx) : (slabRect g).emb x = ix3 g (x 1) (x 2) := by
  have h0 : (x 0).val < 1 := (x 0).isLt
  funext a
  apply Fin.ext
  rw [ValueKit.rect_emb_unit_val]
  fin_cases a
  · show g.val + (x 0).val = g.val; omega
  · show 0 + (x 1).val = (x 1).val; omega
  · show 0 + (x 2).val = (x 2).val; omega

/-- The columns of group `g` of an array. -/
abbrev cols {n : ℕ} {e : EltTy} (X : (⟨2, ![n, 512]⟩ : Shape).Idx → Elt Ideal e) (g : Fin 4) : (⟨2, ![n, 128]⟩ : Shape).Idx → Elt Ideal e :=
  View.ld (Val := Elt Ideal) (e' := e) X (colRect n g)

/-- The slab of group `g` of an array. -/
abbrev slab {e : EltTy} (X : (⟨3, ![4, 128, 128]⟩ : Shape).Idx → Elt Ideal e) (g : Fin 4) : (⟨3, ![1, 128, 128]⟩ : Shape).Idx → Elt Ideal e :=
  View.ld (Val := Elt Ideal) (e' := e) X (slabRect g)

theorem cols_at {n : ℕ} {e : EltTy} (X : (⟨2, ![n, 512]⟩ : Shape).Idx → Elt Ideal e) (g : Fin 4) (s : Fin n) (l : Fin 128) :
    cols X g (ix2 s l) = X (ix2 s (col g l)) := by
  show X ((colRect n g).emb (ix2 s l)) = _
  rw [colRect_emb n g (ix2 s l)]
  rfl

theorem slab_at {e : EltTy} (X : (⟨3, ![4, 128, 128]⟩ : Shape).Idx → Elt Ideal e) (g : Fin 4) (k l : Fin 128) :
    slab X g (ix3 0 k l) = X (ix3 g k l) := by
  show X ((slabRect g).emb (ix3 0 k l)) = _
  rw [slabRect_emb g (ix3 0 k l)]
  rfl

/-- Four stores, one for the columns of each group. -/
abbrev colPieces (n : ℕ) {e : EltTy} (V : Fin 4 → (⟨2, ![n, 128]⟩ : Shape).Idx → Elt Ideal e) : List (View.Piece (Elt Ideal) ⟨2, ![n, 512]⟩ e) :=
  [⟨colRect n 3, V 3⟩, ⟨colRect n 2, V 2⟩, ⟨colRect n 1, V 1⟩, ⟨colRect n 0, V 0⟩]

/-- Four stores, one for the slab of each group. -/
abbrev slabPieces {e : EltTy} (V : Fin 4 → (⟨3, ![1, 128, 128]⟩ : Shape).Idx → Elt Ideal e) : List (View.Piece (Elt Ideal) ⟨3, ![4, 128, 128]⟩ e) :=
  [⟨slabRect 3, V 3⟩, ⟨slabRect 2, V 2⟩, ⟨slabRect 1, V 1⟩, ⟨slabRect 0, V 0⟩]

/-- The groups' column blocks side by side. -/
def joinCols {n : ℕ} {e : EltTy} (V : Fin 4 → (⟨2, ![n, 128]⟩ : Shape).Idx → Elt Ideal e) (y : (⟨2, ![n, 512]⟩ : Shape).Idx) : Elt Ideal e :=
  V (grp (y 1)) (ix2 (y 0) (lane (y 1)))

/-- The groups' slabs side by side. -/
def joinSlabs {e : EltTy} (V : Fin 4 → (⟨3, ![1, 128, 128]⟩ : Shape).Idx → Elt Ideal e) (y : (⟨3, ![4, 128, 128]⟩ : Shape).Idx) : Elt Ideal e :=
  V (y 0) (ix3 0 (y 1) (y 2))

theorem joinCols_at {n : ℕ} {e : EltTy} (V : Fin 4 → (⟨2, ![n, 128]⟩ : Shape).Idx → Elt Ideal e) (g : Fin 4) (x : (⟨2, ![n, 128]⟩ : Shape).Idx) :
    V g x = joinCols V (ix2 (x 0) (col g (x 1))) := by
  obtain ⟨s, l, rfl⟩ : ∃ (s : Fin n) (l : Fin 128), x = ix2 s l := ⟨x 0, x 1, by ext a; fin_cases a <;> rfl⟩
  show _ = V (grp (col g l)) (ix2 s (lane (col g l)))
  rw [grp_col, lane_col]

theorem joinSlabs_at {e : EltTy} (V : Fin 4 → (⟨3, ![1, 128, 128]⟩ : Shape).Idx → Elt Ideal e) (g : Fin 4) (x : (⟨3, ![1, 128, 128]⟩ : Shape).Idx) :
    V g x = joinSlabs V (ix3 g (x 1) (x 2)) := by
  show _ = V g (ix3 0 (x 1) (x 2))
  congr 1
  have h0 : (x 0).val < 1 := (x 0).isLt
  funext a
  fin_cases a
  · exact Fin.ext (by show (x 0).val = 0; omega)
  · rfl
  · rfl

/-- The stores of the four groups leave each group's block at its columns. -/
theorem canon_cols (n : ℕ) {e : EltTy} (V : Fin 4 → (⟨2, ![n, 128]⟩ : Shape).Idx → Elt Ideal e)
    (L : List (View.Piece (Elt Ideal) ⟨2, ![n, 512]⟩ e)) (y : (⟨2, ![n, 512]⟩ : Shape).Idx) :
    View.canon (colPieces n V ++ L) y = joinCols V y := by
  have hp : ∀ (g : Fin 4) (x : (colRect n g).shape.Idx), V g x = joinCols V ((colRect n g).emb x) := fun g x => by
    rw [colRect_emb]; exact joinCols_at V g x
  refine View.canon_append_of_piecesOf (joinCols V) L (colPieces n V) ⟨hp 3, hp 2, hp 1, hp 0, trivial⟩ y ?_
  have h0 : (y 0).val < n := (y 0).isLt
  have h1 : (y 1).val < 512 := (y 1).isLt
  have hy : ∀ g : Fin 4, 128 * g.val ≤ (y 1).val → (y 1).val < 128 * g.val + 128 → y ∈ (colRect n g).set := fun g hl hu =>
    Rect.mem_set_unit.mpr fun a => by
      fin_cases a
      · show 0 ≤ (y 0).val ∧ (y 0).val < 0 + n; omega
      · exact ⟨hl, hu⟩
  rcases Nat.lt_or_ge (y 1).val 128 with h | h
  · exact ⟨⟨colRect n 0, V 0⟩, .tail _ (.tail _ (.tail _ (.head _))), hy 0 (Nat.zero_le _) h⟩
  rcases Nat.lt_or_ge (y 1).val 256 with h' | h'
  · exact ⟨⟨colRect n 1, V 1⟩, .tail _ (.tail _ (.head _)), hy 1 h h'⟩
  rcases Nat.lt_or_ge (y 1).val 384 with h'' | h''
  · exact ⟨⟨colRect n 2, V 2⟩, .tail _ (.head _), hy 2 h' h''⟩
  · exact ⟨⟨colRect n 3, V 3⟩, .head _, hy 3 h'' h1⟩

/-- The stores of the four groups leave each group's slab at its place. -/
theorem canon_slabs {e : EltTy} (V : Fin 4 → (⟨3, ![1, 128, 128]⟩ : Shape).Idx → Elt Ideal e)
    (L : List (View.Piece (Elt Ideal) ⟨3, ![4, 128, 128]⟩ e)) (y : (⟨3, ![4, 128, 128]⟩ : Shape).Idx) :
    View.canon (slabPieces V ++ L) y = joinSlabs V y := by
  have hp : ∀ (g : Fin 4) (x : (slabRect g).shape.Idx), V g x = joinSlabs V ((slabRect g).emb x) := fun g x => by
    rw [slabRect_emb]; exact joinSlabs_at V g x
  refine View.canon_append_of_piecesOf (joinSlabs V) L (slabPieces V) ⟨hp 3, hp 2, hp 1, hp 0, trivial⟩ y ?_
  have h0 : (y 0).val < 4 := (y 0).isLt
  have h1 : (y 1).val < 128 := (y 1).isLt
  have h2 : (y 2).val < 128 := (y 2).isLt
  have hy : ∀ g : Fin 4, (y 0).val = g.val → y ∈ (slabRect g).set := fun g hg =>
    Rect.mem_set_unit.mpr fun a => by
      fin_cases a
      · show g.val ≤ (y 0).val ∧ (y 0).val < g.val + 1; omega
      · show 0 ≤ (y 1).val ∧ (y 1).val < 0 + 128; omega
      · show 0 ≤ (y 2).val ∧ (y 2).val < 0 + 128; omega
  rcases (by omega : (y 0).val = 0 ∨ (y 0).val = 1 ∨ (y 0).val = 2 ∨ (y 0).val = 3) with h | h | h | h
  · exact ⟨⟨slabRect 0, V 0⟩, .tail _ (.tail _ (.tail _ (.head _))), hy 0 h⟩
  · exact ⟨⟨slabRect 1, V 1⟩, .tail _ (.tail _ (.head _)), hy 1 h⟩
  · exact ⟨⟨slabRect 2, V 2⟩, .tail _ (.head _), hy 2 h⟩
  · exact ⟨⟨slabRect 3, V 3⟩, .head _, hy 3 h⟩

end Cert.EvenOutIdeal.Gradient

end
-- ==== Proof.EvenOutValue.lean ====
/- What one block of rows computes in the kernel of the gated pool's backward pass, and what it leaves of each output. -/
module

public import proofs.«01_k».proof.Proof.GateOut
public import proofs.«01_k».proof.Proof.EvenOutPieces

@[expose] public section

set_option maxRecDepth 16384

noncomputable section

namespace Cert.EvenOutIdeal.Gradient

open Cert.EvenOutIdeal Cert.EvenOutIdeal.Gen Cert.Pool Cert.PoolGrad Idealize.ShloMosaic Idealize.ShloMosaic.TcCoe Idealize.SL.Sem
open Idealize.ShloMosaic.Pipeline (Dat)

variable (m : (ℓ : Loc nD τ sig) → Buf (Elt Ideal) ℓ)

/-- The number of the block of point `t`, as a word: the blocks are taken from the last to the first. -/
abbrev bword (t : Fin cfg0.N) : BitVec 32 := Scalar.subi (15#32) (BitVec.ofNat 32 (grid0.coords t 0).val)

section
variable (b : BitVec 32) (D : FVec Ideal S512x1024 .bf16) (N : FVec Ideal S16x512 .f32) (S : FVec Ideal S1x512 .f32)
  (W : FVec Ideal S4x128x128 .bf16) (U : FVec Ideal S512x512 .bf16) (H : FVec Ideal S16x512 .bf16)
  (accP : FVec Ideal S4x128x128 .f32) (accS : FVec Ideal S1x512 .f32)

/-- The columns of the gated rows' cotangent that belong to a group. -/
def dyCols : Fin 4 → FVec Ideal S512x128 .f32
  | 0 => k0_pay21 D
  | 1 => k0_pay32 D
  | 2 => k0_pay41 (k0_pay40 D)
  | 3 => k0_pay50 D

/-- The means of the four groups over a block. -/
def pooledG (g : Fin 4) : FVec Ideal S512x128 .bf16 := pooledBlk g b (k0_pay16 b) (cols (n := 512) (e := .bf16) U g) (cols (n := 16) (e := .bf16) H g)

/-- The mixed means' cotangent of the four groups. -/
def dmixG (g : Fin 4) : FVec Ideal S528x128 .bf16 := dmixBlk (dyCols D g) (cols (n := 16) (e := .f32) N g) (cols (n := 1) (e := .f32) S g)

/-- The gradient of the rows of the four groups. -/
def duG (g : Fin 4) : FVec Ideal S512x128 .bf16 := duBlk g (k0_pay17 b) (dpoolBlk (dmixG D N S g) (slab (e := .bf16) W g))

/-- The gradient of the groups' weights with the block's part. -/
def dwpG (g : Fin 4) : FVec Ideal S1x128x128 .f32 := dwpBlk (pooledG b U H g) (dmixG D N S g) (slab (e := .f32) accP g)

/-- The gradient of the scale with the block's part. -/
def dpsG (g : Fin 4) : FVec Ideal S1x128 .f32 := dpsBlk (dyCols D g) (pooledG b U H g) (cols (n := 1) (e := .f32) accS g) (slab (e := .bf16) W g)

/-- The block's first sixteen rows of the cotangent, kept for the block before. -/
def keepG (g : Fin 4) : FVec Ideal S16x128 .f32 := k0_pay27 (dyCols D g)
end

/-! The kernel's text of each group is the same operations. -/
section
variable (b : BitVec 32) (D : FVec Ideal S512x1024 .bf16) (N : FVec Ideal S16x128 .f32) (S : FVec Ideal S1x128 .f32)
  (W : FVec Ideal S1x128x128 .bf16) (U : FVec Ideal S512x128 .bf16) (H : FVec Ideal S16x128 .bf16)
  (accP : FVec Ideal S1x128x128 .f32) (accS : FVec Ideal S1x128 .f32) (P : FVec Ideal S528x1 .f32)

theorem du_text0 : k0_pay26 P (k0_pay23 D N S) W = duBlk 0 P (dpoolBlk (dmixBlk (dyCols D 0) N S) W) := rfl
theorem du_text1 : k0_pay37 P (k0_pay36 D N S W) = duBlk 1 P (dpoolBlk (dmixBlk (dyCols D 1) N S) W) := rfl
theorem du_text2 : k0_pay47 (k0_pay45 (k0_pay40 D) N S W) (k0_pay46 P (k0_pay40 D) N S W) = duBlk 2 P (dpoolBlk (dmixBlk (dyCols D 2) N S) W) := rfl
theorem du_text3 : k0_pay1 (k0_pay54 D N S W) (k0_pay55 P) = duBlk 3 P (dpoolBlk (dmixBlk (dyCols D 3) N S) W) := rfl

theorem dwp_text0 : k0_pay25 (k0_pay24 D (k0_pay16 b) (k0_pay18 U) (Scalar.cmpi .eq b 0#32) (k0_pay19 H) N S accP)
    = dwpBlk (pooledBlk 0 b (k0_pay16 b) U H) (dmixBlk (dyCols D 0) N S) accP := rfl
theorem dwp_text1 : k0_pay35 D (k0_pay28 U) (k0_pay29 b U H) (k0_pay30 (k0_pay16 b)) N S accP
    = dwpBlk (pooledBlk 1 b (k0_pay16 b) U H) (dmixBlk (dyCols D 1) N S) accP := rfl
theorem dwp_text2 : k0_pay44 (k0_pay39 b (k0_pay16 b) U H) (k0_pay40 D) N S accP
    = dwpBlk (pooledBlk 2 b (k0_pay16 b) U H) (dmixBlk (dyCols D 2) N S) accP := rfl
theorem dwp_text3 : k0_pay53 D (k0_pay49 b (k0_pay16 b) U H) N S accP
    = dwpBlk (pooledBlk 3 b (k0_pay16 b) U H) (dmixBlk (dyCols D 3) N S) accP := rfl

theorem dps_text0 : k0_pay22 D (k0_pay16 b) (k0_pay18 U) (Scalar.cmpi .eq b 0#32) (k0_pay19 H) accS W
    = dpsBlk (dyCols D 0) (pooledBlk 0 b (k0_pay16 b) U H) accS W := rfl
theorem dps_text1 : k0_pay33 D (k0_pay28 U) (k0_pay29 b U H) (k0_pay30 (k0_pay16 b)) accS W
    = dpsBlk (dyCols D 1) (pooledBlk 1 b (k0_pay16 b) U H) accS W := rfl
theorem dps_text2 : k0_pay42 (k0_pay39 b (k0_pay16 b) U H) (k0_pay40 D) accS W
    = dpsBlk (dyCols D 2) (pooledBlk 2 b (k0_pay16 b) U H) accS W := rfl
theorem dps_text3 : k0_pay51 D (k0_pay49 b (k0_pay16 b) U H) accS W
    = dpsBlk (dyCols D 3) (pooledBlk 3 b (k0_pay16 b) U H) accS W := rfl
end

/-- The gated rows' cotangent over the rows of point `t`. -/
abbrev dyAt (c : Dev nD) (t : Fin cfg0.N) : FVec Ideal S512x1024 .bf16 := k0_pay13 (iblk m c 0 t) (iblk m c 1 t) (iblk m c 5 t)

theorem out10 (c : Dev nD) (t : Fin cfg0.N) : (outsAt0 m c t.val t.isLt).1 = dyAt m c t := by
  by_cases h : t.val % 16 = 0
  · funext y; rw [outsAt0_A m c t h]; frame_out
  · funext y; rw [outsAt0_B m c t h]; frame_out

/-- The gradient of the gate's argument over a block. -/
def dzBlk (DX : FVec Ideal S512x1024 .f32) (W : FVec Ideal S1024x1024 .bf16) (Yp Ys : FVec Ideal S512x512 .bf16) (Z : FVec Ideal S512x1024 .bf16)
    (y : S512x1024.Idx) : EReal :=
  k0_pay8 (F := Ideal) DX W y * GateOut.both (fun s e => Yp (ix2 s e)) (fun s e => Ys (ix2 s e)) (y 0) (y 1) * k0_pay12 (F := Ideal) Z y

/-- The left half of the columns, and the right half. -/
abbrev halfRect (o : ℕ) (inb : ∀ a, ![0, o] a + ![512, 512] a ≤ S512x1024.size a) : Rect S512x1024 := Rect.unit ![0, o] ![512, 512] inb

theorem half_emb (o : ℕ) (inb) (x : (halfRect o inb).shape.Idx) (j : Fin 1024) (hj : j.val = o + (x 1).val) :
    (halfRect o inb).emb x = ix2 (x 0) j := by
  funext a
  apply Fin.ext
  rw [ValueKit.rect_emb_unit_val]
  fin_cases a
  · show 0 + (x 0).val = (x 0).val; omega
  · exact hj.symm

/-- The stores of the two halves. -/
abbrev dzPieces (DX : FVec Ideal S512x1024 .f32) (W : FVec Ideal S1024x1024 .bf16) (Yp Ys : FVec Ideal S512x512 .bf16) (Z : FVec Ideal S512x1024 .bf16) :
    List (View.Piece (Elt Ideal) S512x1024 .bf16) :=
  [⟨Rect.unit ![0, 512] ![512, 512] inb_S512x1024_S512x512_0_512, k0_pay15 (k0_pay8 (F := Ideal) DX W) (k0_pay12 Z) Ys⟩,
    ⟨Rect.unit ![0, 0] ![512, 512] inb_S512x1024_S512x512_0_0, k0_pay14 (k0_pay8 (F := Ideal) DX W) (k0_pay12 Z) Yp⟩]

theorem out11 (c : Dev nD) (t : Fin cfg0.N) :
    (outsAt0 m c t.val t.isLt).2.1 = dzBlk (iblk m c 0 t) (iblk m c 1 t) (iblk m c 3 t) (iblk m c 4 t) (iblk m c 5 t) := by
  have key : ∀ (DX : FVec Ideal S512x1024 .f32) (W : FVec Ideal S1024x1024 .bf16) (Yp Ys : FVec Ideal S512x512 .bf16) (Z : FVec Ideal S512x1024 .bf16)
      (y : S512x1024.Idx), View.canon (dzPieces DX W Yp Ys Z ++ []) y = dzBlk DX W Yp Ys Z y := by
    intro DX W Yp Ys Z y
    have hp : View.PiecesOf (Val := Elt Ideal) (s := S512x1024) (e := .bf16) (dzBlk DX W Yp Ys Z) (dzPieces DX W Yp Ys Z) := by
      unfold dzPieces
      refine ⟨fun x => ?_, fun x => ?_, trivial⟩
      · have hx : (x 1).val < 512 := (x 1).isLt
        rw [half_emb 512 _ x ⟨512 + (x 1).val, by omega⟩ rfl]
        unfold dzBlk GateOut.both
        generalize k0_pay8 (F := Ideal) DX W = A
        generalize k0_pay12 (F := Ideal) Z = B
        obtain ⟨s, l, rfl⟩ : ∃ s l : Fin 512, x = ix2 s l := ⟨x 0, x 1, by ext a; fin_cases a <;> rfl⟩
        pointwise [k0_pay15]
      · have hx : (x 1).val < 512 := (x 1).isLt
        rw [half_emb 0 _ x ⟨0 + (x 1).val, by omega⟩ rfl]
        unfold dzBlk GateOut.both
        generalize k0_pay8 (F := Ideal) DX W = A
        generalize k0_pay12 (F := Ideal) Z = B
        obtain ⟨s, l, rfl⟩ : ∃ s l : Fin 512, x = ix2 s l := ⟨x 0, x 1, by ext a; fin_cases a <;> rfl⟩
        pointwise [k0_pay14]
    exact View.canon_append_of_piecesOf _ [] _ hp y (View.cover_of_tiledBy _ ![512, 512] (by sl_kernel_rfl) y)
  by_cases h : t.val % 16 = 0
  · funext y; rw [outsAt0_A m c t h]; frame_out
    exact key _ _ _ _ _ y
  · funext y; rw [outsAt0_B m c t h]; frame_out
    exact key _ _ _ _ _ y

theorem out12_A (c : Dev nD) (t : Fin cfg0.N) (h : t.val % 16 = 0) :
    (outsAt0 m c t.val t.isLt).2.2.1 = k0_pay9 (iblk m c 0 t) (k0_pay3 (F := Ideal)) (iblk m c 2 t) := by
  funext y; rw [outsAt0_A m c t h]; frame_out

theorem out12_B (c : Dev nD) (t : Fin cfg0.N) (h : ¬ t.val % 16 = 0) :
    (outsAt0 m c t.val t.isLt).2.2.1
      = k0_pay9 (iblk m c 0 t) (outsAt0 m c (t.val - 1) (by have := t.isLt; omega)).2.2.1 (iblk m c 2 t) := by
  funext y; rw [outsAt0_B m c t h]; frame_out

/-- What the kept rows, the weights' gradient and the scale's gradient hold before point `t`. -/
abbrev keptB (c : Dev nD) (t : Fin cfg0.N) : FVec Ideal S16x512 .f32 := (outsAt0 m c (t.val - 1) (by have := t.isLt; omega)).2.2.2.2.2.2
abbrev accPB (c : Dev nD) (t : Fin cfg0.N) : FVec Ideal S4x128x128 .f32 := (outsAt0 m c (t.val - 1) (by have := t.isLt; omega)).2.2.2.2.1
abbrev accSB (c : Dev nD) (t : Fin cfg0.N) : FVec Ideal S1x512 .f32 := (outsAt0 m c (t.val - 1) (by have := t.isLt; omega)).2.2.2.2.2.1

theorem out13_B (c : Dev nD) (t : Fin cfg0.N) (h : ¬ t.val % 16 = 0) :
    (outsAt0 m c t.val t.isLt).2.2.2.1
      = joinCols (n := 512) (e := .bf16) (duG (bword t) (dyAt m c t) (keptB m c t) (iblk m c 9 t) (iblk m c 8 t)) := by
  funext y; rw [outsAt0_B m c t h]; frame_out
  simp only [du_text0, du_text1, du_text2, du_text3, read_unread_whole]
  exact canon_cols 512 (e := .bf16) (duG (bword t) (dyAt m c t) (keptB m c t) (iblk m c 9 t) (iblk m c 8 t)) [] y

theorem out14_B (c : Dev nD) (t : Fin cfg0.N) (h : ¬ t.val % 16 = 0) :
    (outsAt0 m c t.val t.isLt).2.2.2.2.1
      = joinSlabs (e := .f32) (dwpG (bword t) (dyAt m c t) (keptB m c t) (iblk m c 9 t) (iblk m c 6 t) (iblk m c 7 t) (accPB m c t)) := by
  funext y; rw [outsAt0_B m c t h]; frame_out
  simp only [dwp_text0, dwp_text1, dwp_text2, dwp_text3, read_unread_whole]
  exact canon_slabs (e := .f32) (dwpG (bword t) (dyAt m c t) (keptB m c t) (iblk m c 9 t) (iblk m c 6 t) (iblk m c 7 t) (accPB m c t)) [] y

theorem out15_B (c : Dev nD) (t : Fin cfg0.N) (h : ¬ t.val % 16 = 0) :
    (outsAt0 m c t.val t.isLt).2.2.2.2.2.1
      = joinCols (n := 1) (e := .f32) (dpsG (bword t) (dyAt m c t) (iblk m c 8 t) (iblk m c 6 t) (iblk m c 7 t) (accSB m c t)) := by
  funext y; rw [outsAt0_B m c t h]; frame_out
  simp only [dps_text0, dps_text1, dps_text2, dps_text3]
  exact canon_cols 1 (e := .f32) (dpsG (bword t) (dyAt m c t) (iblk m c 8 t) (iblk m c 6 t) (iblk m c 7 t) (accSB m c t)) [] y

theorem scr_B (c : Dev nD) (t : Fin cfg0.N) (h : ¬ t.val % 16 = 0) :
    (outsAt0 m c t.val t.isLt).2.2.2.2.2.2 = joinCols (n := 16) (e := .f32) (keepG (dyAt m c t)) := by
  funext y; rw [outsAt0_B m c t h]; frame_out
  exact canon_cols 16 (e := .f32) (keepG (dyAt m c t)) [] y

theorem scr_A (c : Dev nD) (t : Fin cfg0.N) (h : t.val % 16 = 0) :
    (outsAt0 m c t.val t.isLt).2.2.2.2.2.2 = joinCols (n := 16) (e := .f32) (keepG (dyAt m c t)) := by
  funext y; rw [outsAt0_A m c t h]; frame_out
  generalize k0_pay6 (F := Ideal) = Z
  exact canon_cols 16 (e := .f32) (keepG (dyAt m c t)) [⟨Rect.unit ![0, 0] ![16, 512] inb_S16x512_S16x512_0_0, Z⟩] y

theorem out13_A (c : Dev nD) (t : Fin cfg0.N) (h : t.val % 16 = 0) :
    (outsAt0 m c t.val t.isLt).2.2.2.1
      = joinCols (n := 512) (e := .bf16) (duG (bword t) (dyAt m c t) (k0_pay6 (F := Ideal)) (iblk m c 9 t) (iblk m c 8 t)) := by
  funext y; rw [outsAt0_A m c t h]
  frame_open; simp (disch := decide) only [↓ View.readCov_skip, ↓ View.readCov_cons_toLoadRect, ↓ View.readCov_fill]; frame_out
  simp only [du_text0, du_text1, du_text2, du_text3]
  exact canon_cols 512 (e := .bf16) (duG (bword t) (dyAt m c t) (k0_pay6 (F := Ideal)) (iblk m c 9 t) (iblk m c 8 t)) [] y

theorem out14_A (c : Dev nD) (t : Fin cfg0.N) (h : t.val % 16 = 0) :
    (outsAt0 m c t.val t.isLt).2.2.2.2.1
      = joinSlabs (e := .f32) (dwpG (bword t) (dyAt m c t) (k0_pay6 (F := Ideal)) (iblk m c 9 t) (iblk m c 6 t) (iblk m c 7 t) (k0_pay4 (F := Ideal))) := by
  funext y; rw [outsAt0_A m c t h]
  frame_open; simp (disch := decide) only [↓ View.readCov_skip, ↓ View.readCov_cons_toLoadRect, ↓ View.readCov_fill]; frame_out
  simp only [dwp_text0, dwp_text1, dwp_text2, dwp_text3]
  exact canon_slabs (e := .f32) (dwpG (bword t) (dyAt m c t) (k0_pay6 (F := Ideal)) (iblk m c 9 t) (iblk m c 6 t) (iblk m c 7 t) (k0_pay4 (F := Ideal))) [⟨Rect.unit ![0, 0, 0] ![4, 128, 128] inb_S4x128x128_S4x128x128_0_0_0, k0_pay4 (F := Ideal)⟩] y

theorem out15_A (c : Dev nD) (t : Fin cfg0.N) (h : t.val % 16 = 0) :
    (outsAt0 m c t.val t.isLt).2.2.2.2.2.1
      = joinCols (n := 1) (e := .f32) (dpsG (bword t) (dyAt m c t) (iblk m c 8 t) (iblk m c 6 t) (iblk m c 7 t) (k0_pay5 (F := Ideal))) := by
  funext y; rw [outsAt0_A m c t h]
  frame_open; simp (disch := decide) only [↓ View.readCov_skip, ↓ View.readCov_cons_toLoadRect, ↓ View.readCov_fill]; frame_out
  simp only [dps_text0, dps_text1, dps_text2, dps_text3]
  exact canon_cols 1 (e := .f32) (dpsG (bword t) (dyAt m c t) (iblk m c 8 t) (iblk m c 6 t) (iblk m c 7 t) (k0_pay5 (F := Ideal))) [⟨Rect.unit ![0, 0] ![1, 512] inb_S1x512_S1x512_0_0, k0_pay5 (F := Ideal)⟩] y

/-! What the blocks hold, entry by entry. -/

/-- The rows of a block. -/
abbrev rows {e : FTy} {k : ℕ} (X : FVec Ideal ⟨2, ![512, k]⟩ e) (s : Fin 512) (d : Fin k) : EReal := X (ix2 s d)

/-- The entries of the weight. -/
abbrev mat (W : FVec Ideal S1024x1024 .bf16) (d e : Fin 1024) : EReal := W (ix2 d e)

section
variable (DX : FVec Ideal S512x1024 .f32) (W : FVec Ideal S1024x1024 .bf16) (Z Y : FVec Ideal S512x1024 .bf16) (D : FVec Ideal S512x1024 .bf16)

theorem dyg_blk (s : Fin 512) (d : Fin 1024) : k0_pay8 (F := Ideal) DX W (ix2 s d) = NormOut.dy (rows DX) (mat W) s d := by
  pointwise [k0_pay8, k0_pay7, NormOut.dy]

theorem sig_blk (s : Fin 512) (d : Fin 1024) : k0_pay11 (F := Ideal) Z (ix2 s d) = Gate.sig (rows Z s d) := by
  pointwise [k0_pay11, k0_pay10]
  simp only [Gate.sig, Gate.one_eq, EReal.coe_one, zero_sub]

theorem dsilu_blk (s : Fin 512) (d : Fin 1024) : k0_pay12 (F := Ideal) Z (ix2 s d) = Gate.dsilu (rows Z s d) := by
  unfold Gate.dsilu
  rw [← sig_blk]
  pointwise [k0_pay12, k0_pay10]

theorem dy_blk (s : Fin 512) (d : Fin 1024) : k0_pay13 (F := Ideal) DX W Z (ix2 s d) = GateOut.dy (rows DX) (rows Z) (mat W) s d := by
  unfold GateOut.dy Gate.silu
  rw [← sig_blk, ← dyg_blk]
  pointwise [k0_pay13, k0_pay10]

theorem dz_blk (Yp Ys : FVec Ideal S512x512 .bf16) (s : Fin 512) (d : Fin 1024) :
    dzBlk DX W Yp Ys Z (ix2 s d) = GateOut.dz (rows DX) (rows Yp) (rows Ys) (rows Z) (mat W) s d := by
  unfold GateOut.dz
  rw [← dyg_blk, ← dsilu_blk]
  rfl

/-- What a block adds to the weight's gradient. -/
theorem dw_blk (acc : FVec Ideal S1024x1024 .f32) (d e : Fin 1024) :
    k0_pay9 DX acc Y (ix2 d e) = acc (ix2 d e) + ∑ s : Fin 512, rows Y s d * rows DX s e := by
  pointwise [k0_pay9, k0_pay7]

/-- A group's columns of the cotangent. -/
theorem dyCols_at (g : Fin 4) (s : Fin 512) (l : Fin 128) : dyCols D g (ix2 s l) = D (ix2 s ⟨128 * g.val + l.val, by have := g.isLt; have := l.isLt; omega⟩) := by
  match g with
  | 0 => unfold dyCols; pointwise [k0_pay21]
  | 1 => unfold dyCols; pointwise [k0_pay32]
  | 2 => unfold dyCols; pointwise [k0_pay40, k0_pay41]
  | 3 => unfold dyCols; pointwise [k0_pay50]

theorem keep_at (g : Fin 4) (p : Fin 16) (l : Fin 128) :
    keepG D g (ix2 p l) = D (ix2 ⟨p.val, by have := p.isLt; omega⟩ ⟨128 * g.val + l.val, by have := g.isLt; have := l.isLt; omega⟩) := by
  rw [← dyCols_at D g ⟨p.val, by have := p.isLt; omega⟩ l]
  unfold keepG
  generalize dyCols D g = A
  pointwise [k0_pay27]
end

end Cert.EvenOutIdeal.Gradient

end
-- ==== Proof.PoolRun.lean ====
/- The mean over the rows before a row, computed as the difference of two running sums over the number of rows. -/
module

public import proofs.«01_k».proof.Proof.PoolGrad

@[expose] public section

noncomputable section

namespace Cert.PoolGrad

open scoped BigOperators
open Cert.Finite Cert.Pool Idealize.ShloMosaic

/-- A running sum over the rows of an array. -/
theorem cum_rows {n : ℕ} (f : Fin n → EReal) (r : Fin n) : (∑ i : Fin n, if i.val ≤ r.val then f i else 0) = cum (tail f) r.val := by
  unfold cum
  have h : ∀ i : Fin n, (if i.val ≤ r.val then f i else 0) = (fun k => if k ≤ r.val then tail f k else 0) i.val := fun i => by
    show _ = if i.val ≤ r.val then tail f i.val else 0
    rw [tail_lt]
  rw [Finset.sum_congr rfl fun i _ => h i, Fin.sum_univ_eq_sum_range (fun k => if k ≤ r.val then tail f k else 0) n, ← Finset.sum_filter]
  refine Finset.sum_congr (Finset.ext fun k => ?_) fun _ _ => rfl
  simp only [Finset.mem_filter, Finset.mem_range]
  have := r.isLt
  omega

/-- The number of rows up to a row, as the host counts them. -/
theorem count_row {n : ℕ} (hn : n ≤ 8192) (r : Fin n) :
    1 + FloatOps.sitofp (F := Ideal) FTy.f32 (BitVec.ofNat 32 r.val) = (((r.val + 1 : ℕ) : ℝ) : EReal) := by
  have hr := r.isLt
  have h : (BitVec.ofNat 32 r.val).toInt = (r.val : ℤ) := by
    have h2 : (BitVec.ofNat 32 r.val).toNat = r.val := by rw [BitVec.toNat_ofNat]; omega
    rw [BitVec.toInt_eq_toNat_of_lt (by omega), h2]
  show (1 : EReal) + ((((BitVec.ofNat 32 r.val).toInt : ℤ) : ℝ) : EReal) = _
  rw [h, ← EReal.coe_one, ← EReal.coe_add]
  congr 1
  push_cast
  ring

/-- The difference of two running sums over the number of rows, less the row, is the mean. -/
theorem pooled_run {n : ℕ} (hn : n ≤ 8192) (U : Fin n → Fin 512 → EReal) (hU : ∀ r c, IsReal (U r c)) (g : Fin 4) (l : Fin 128) (C : Fin n → EReal)
    (hC : ∀ r, C r = ∑ i : Fin n, if i.val ≤ r.val then U i (col g l) else 0) (u : Fin n → EReal) (hu : ∀ r, u r = U r (col g l)) (r : Fin n) :
    Ideal.div (C r - if h : r.val < wid g then 0 else C ⟨r.val - wid g, by have := r.isLt; omega⟩)
        (min (1 + FloatOps.sitofp (F := Ideal) FTy.f32 (BitVec.ofNat 32 r.val)) (Ideal.ofBits .f32 (word g))) - u r = pooled U g r l := by
  unfold pooled cnt
  rw [count_row hn, hu, ← cum_diff (isReal_tail fun i => hU i (col g l))]
  simp only [hC, cum_rows]
  congr 3
  by_cases h : r.val < wid g
  · rw [dif_pos h, if_neg (by omega)]
  · rw [dif_neg h, if_pos (by omega)]
    exact cum_rows (fun i => U i (col g l)) ⟨r.val - wid g, by have := r.isLt; omega⟩

/-- The same over the rows so near the beginning that no row falls out. -/
theorem pooled_first {n : ℕ} (hn : n ≤ 8192) (U : Fin n → Fin 512 → EReal) (hU : ∀ r c, IsReal (U r c)) (g : Fin 4) (l : Fin 128) (C : Fin n → EReal)
    (hC : ∀ r, C r = ∑ i : Fin n, if i.val ≤ r.val then U i (col g l) else 0) (u : Fin n → EReal) (hu : ∀ r, u r = U r (col g l)) (r : Fin n)
    (h : r.val < wid g) :
    Ideal.div (C r) (min (1 + FloatOps.sitofp (F := Ideal) FTy.f32 (BitVec.ofNat 32 r.val)) (Ideal.ofBits .f32 (word g))) - u r = pooled U g r l := by
  have e := pooled_run hn U hU g l C hC u hu r
  rwa [dif_pos h, sub_zero] at e

/-- The same over the rows past the width. -/
theorem pooled_rest {n : ℕ} (hn : n ≤ 8192) (U : Fin n → Fin 512 → EReal) (hU : ∀ r c, IsReal (U r c)) (g : Fin 4) (l : Fin 128) (C : Fin n → EReal)
    (hC : ∀ r, C r = ∑ i : Fin n, if i.val ≤ r.val then U i (col g l) else 0) (u : Fin n → EReal) (hu : ∀ r, u r = U r (col g l)) (r : Fin n)
    (h : ¬ r.val < wid g) :
    Ideal.div (C r - C ⟨r.val - wid g, by have := r.isLt; omega⟩)
        (min (1 + FloatOps.sitofp (F := Ideal) FTy.f32 (BitVec.ofNat 32 r.val)) (Ideal.ofBits .f32 (word g))) - u r = pooled U g r l := by
  have e := pooled_run hn U hU g l C hC u hu r
  rwa [dif_neg h] at e

/-- One of four values, by the group. -/
def four (A B C D : EReal) : Fin 4 → EReal
  | 0 => A
  | 1 => B
  | 2 => C
  | 3 => D

/-- The entry of a stack of four, found by counting down from the top. -/
theorem pick (g : Fin 4) (A B C D : Fin 1 → EReal) :
    (if h : g.val < 1 then A ⟨g.val, h⟩ else if h : g.val - 1 < 1 then B ⟨g.val - 1, h⟩ else if h : g.val - 1 - 1 < 1 then C ⟨g.val - 1 - 1, h⟩
      else D ⟨g.val - 1 - 1 - 1, by have := g.isLt; omega⟩) = four (A 0) (B 0) (C 0) (D 0) g := by
  fin_cases g <;> rfl

/-- The four groups' means, by the group. -/
theorem four_pooled {n : ℕ} (U : Fin n → Fin 512 → EReal) (r : Fin n) (l : Fin 128) (g : Fin 4) :
    four (pooled U 0 r l) (pooled U 1 r l) (pooled U 2 r l) (pooled U 3 r l) g = pooled U g r l := by
  fin_cases g <;> rfl

end Cert.PoolGrad

end
-- ==== Proof.RunningSum.lean ====
/- The host's running sums of the rows of an array, from either end, as sums over rows. -/
module

public import Idealize.ShloMosaic.Lib.KernelVsHost
public import Idealize.ShloMosaic.Lib.Pointwise

@[expose] public section

noncomputable section

namespace Cert.RunningSum

open Idealize.ShloMosaic
open scoped BigOperators

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The indices of a window over the first axis alone are the rows. -/
def colIdx (A : ℕ) : Fin A ≃ (⟨3, ![A, 1, 1]⟩ : Shape).Idx where
  toFun w := ix3 w 0 0
  invFun y := y 0
  left_inv _ := rfl
  right_inv y := by
    funext a
    match a with
    | ⟨0, _⟩ => rfl
    | ⟨1, _⟩ => exact (Fin.ext (by have := (y 1).isLt; change _ < 1 at this; show (0 : ℕ) = (y 1).val; omega))
    | ⟨2, _⟩ => exact (Fin.ext (by have := (y 2).isLt; change _ < 1 at this; show (0 : ℕ) = (y 2).val; omega))

/-- A fold over the positions of such a window is a sum over the rows. -/
theorem fold_window (A : ℕ) (f : Fin (⟨3, ![A, 1, 1]⟩ : Shape).numel → EReal) (v : EReal) :
    (List.finRange (⟨3, ![A, 1, 1]⟩ : Shape).numel).foldl (fun r n => r + f n) v
      = v + ∑ w : Fin A, f ((⟨3, ![A, 1, 1]⟩ : Shape).rowMajor (ix3 w 0 0)) := by
  rw [foldl_add, ← List.ofFn_eq_map, List.sum_ofFn, ← Equiv.sum_comp ((colIdx A).trans (⟨3, ![A, 1, 1]⟩ : Shape).rowMajor) f]
  rfl

/-- A row's position in the window's list, read back as an index. -/
abbrev pos (A : ℕ) (w : Fin A) : (⟨3, ![A, 1, 1]⟩ : Shape).Idx :=
  (⟨3, ![A, 1, 1]⟩ : Shape).rowMajor.symm ((⟨3, ![A, 1, 1]⟩ : Shape).rowMajor (ix3 w 0 0))

theorem pos_eq (A : ℕ) (w : Fin A) : pos A w = ix3 w 0 0 := Equiv.symm_apply_apply _ _

variable {A G C : ℕ} (x : (⟨3, ![A, G, C]⟩ : Shape).Idx → EReal)

/-- A window of all rows ending at a row sums the rows up to it. -/
theorem up_to (B : ℕ) (hB : B + 1 = A)
    (h : (⟨3, ![A, G, C]⟩ : Shape).ReduceWindows (![A, 1, 1] : Fin 3 → Nat) ![1, 1, 1] ![B, 0, 0] ![0, 0, 0] ⟨3, ![A, G, C]⟩) (r : Fin A) (g : Fin G) (c : Fin C) :
    Ideal.hostReduceWindowAdd (![A, 1, 1] : Fin 3 → Nat) ![1, 1, 1] ![B, 0, 0] ![0, 0, 0] h x 0 (ix3 r g c)
      = ∑ i : Fin A, if i.val ≤ r.val then x (ix3 i g c) else 0 := by
  have hr := r.isLt
  unfold Ideal.hostReduceWindowAdd Host.reduceWindow
  refine (fold_window A _ _).trans ?_
  rw [zero_add]
  refine (Finset.sum_congr rfl fun w _ => (?_ : _ = if hw : B ≤ r.val + w.val then x (ix3 ⟨r.val + w.val - B, by omega⟩ g c) else 0)).trans ?_
  · dsimp only
    have h0 : (pos A w 0).val = w.val := by rw [pos_eq]; rfl
    have h1 : (pos A w 1).val = 0 := by rw [pos_eq]; rfl
    have h2 : (pos A w 2).val = 0 := by rw [pos_eq]; rfl
    by_cases hw : B ≤ r.val + w.val
    · rw [dif_pos hw]
      refine (dif_pos fun a => ?_).trans (congrArg x (funext fun a => Fin.ext ?_))
      · match a with
        | ⟨0, _⟩ => show B ≤ r.val * 1 + (pos A w 0).val ∧ r.val * 1 + (pos A w 0).val - B < A; omega
        | ⟨1, _⟩ => show 0 ≤ g.val * 1 + (pos A w 1).val ∧ g.val * 1 + (pos A w 1).val - 0 < G; omega
        | ⟨2, _⟩ => show 0 ≤ c.val * 1 + (pos A w 2).val ∧ c.val * 1 + (pos A w 2).val - 0 < C; omega
      · match a with
        | ⟨0, _⟩ => show r.val * 1 + (pos A w 0).val - B = r.val + w.val - B; omega
        | ⟨1, _⟩ => show g.val * 1 + (pos A w 1).val - 0 = g.val; omega
        | ⟨2, _⟩ => show c.val * 1 + (pos A w 2).val - 0 = c.val; omega
    · rw [dif_neg hw]
      refine dif_neg fun hin => hw ?_
      have := hin 0; change B ≤ r.val * 1 + (pos A w 0).val ∧ r.val * 1 + (pos A w 0).val - B < A at this; omega
  rw [← Finset.sum_filter_add_sum_filter_not (s := Finset.univ) (p := fun w : Fin A => B ≤ r.val + w.val)]
  rw [Finset.sum_eq_zero (s := Finset.univ.filter fun w : Fin A => ¬ B ≤ r.val + w.val) (fun w hw => dif_neg (Finset.mem_filter.mp hw).2), add_zero,
    ← Finset.sum_filter]
  refine Finset.sum_bij (fun w hw => ⟨r.val + w.val - B, by have := w.isLt; omega⟩) (fun w hw => ?_) (fun w hw w' hw' he => ?_) (fun i hi => ?_) (fun w hw => ?_)
  · have := w.isLt
    simp only [Finset.mem_filter, Finset.mem_univ, true_and]; omega
  · have h1 := (Finset.mem_filter.mp hw).2; have h2 := (Finset.mem_filter.mp hw').2
    have := congrArg Fin.val he; dsimp only at this; exact Fin.ext (by omega)
  · have h1 := (Finset.mem_filter.mp hi).2
    exact ⟨⟨i.val + B - r.val, by omega⟩, by simp only [Finset.mem_filter, Finset.mem_univ, true_and]; omega, Fin.ext (by dsimp only; omega)⟩
  · exact dif_pos (Finset.mem_filter.mp hw).2

/-- A window of all rows beginning at a row sums the rows from it on. -/
theorem down_to (B : ℕ) (hB : B + 1 = A)
    (h : (⟨3, ![A, G, C]⟩ : Shape).ReduceWindows (![A, 1, 1] : Fin 3 → Nat) ![1, 1, 1] ![0, 0, 0] ![B, 0, 0] ⟨3, ![A, G, C]⟩) (r : Fin A) (g : Fin G) (c : Fin C) :
    Ideal.hostReduceWindowAdd (![A, 1, 1] : Fin 3 → Nat) ![1, 1, 1] ![0, 0, 0] ![B, 0, 0] h x 0 (ix3 r g c)
      = ∑ i : Fin A, if r.val ≤ i.val then x (ix3 i g c) else 0 := by
  have hr := r.isLt
  unfold Ideal.hostReduceWindowAdd Host.reduceWindow
  refine (fold_window A _ _).trans ?_
  rw [zero_add]
  refine (Finset.sum_congr rfl fun w _ => (?_ : _ = if hw : r.val + w.val < A then x (ix3 ⟨r.val + w.val, by omega⟩ g c) else 0)).trans ?_
  · dsimp only
    have h0 : (pos A w 0).val = w.val := by rw [pos_eq]; rfl
    have h1 : (pos A w 1).val = 0 := by rw [pos_eq]; rfl
    have h2 : (pos A w 2).val = 0 := by rw [pos_eq]; rfl
    by_cases hw : r.val + w.val < A
    · rw [dif_pos hw]
      refine (dif_pos fun a => ?_).trans (congrArg x (funext fun a => Fin.ext ?_))
      · match a with
        | ⟨0, _⟩ => show 0 ≤ r.val * 1 + (pos A w 0).val ∧ r.val * 1 + (pos A w 0).val - 0 < A; omega
        | ⟨1, _⟩ => show 0 ≤ g.val * 1 + (pos A w 1).val ∧ g.val * 1 + (pos A w 1).val - 0 < G; omega
        | ⟨2, _⟩ => show 0 ≤ c.val * 1 + (pos A w 2).val ∧ c.val * 1 + (pos A w 2).val - 0 < C; omega
      · match a with
        | ⟨0, _⟩ => show r.val * 1 + (pos A w 0).val - 0 = r.val + w.val; omega
        | ⟨1, _⟩ => show g.val * 1 + (pos A w 1).val - 0 = g.val; omega
        | ⟨2, _⟩ => show c.val * 1 + (pos A w 2).val - 0 = c.val; omega
    · rw [dif_neg hw]
      refine dif_neg fun hin => hw ?_
      have := hin 0; change 0 ≤ r.val * 1 + (pos A w 0).val ∧ r.val * 1 + (pos A w 0).val - 0 < A at this; omega
  rw [← Finset.sum_filter_add_sum_filter_not (s := Finset.univ) (p := fun w : Fin A => r.val + w.val < A)]
  rw [Finset.sum_eq_zero (s := Finset.univ.filter fun w : Fin A => ¬ r.val + w.val < A) (fun w hw => dif_neg (Finset.mem_filter.mp hw).2), add_zero,
    ← Finset.sum_filter]
  refine Finset.sum_bij (fun w hw => ⟨r.val + w.val, (Finset.mem_filter.mp hw).2⟩) (fun w hw => ?_) (fun w hw w' hw' he => ?_) (fun i hi => ?_) (fun w hw => ?_)
  · simp only [Finset.mem_filter, Finset.mem_univ, true_and]; omega
  · have := congrArg Fin.val he; dsimp only at this; exact Fin.ext (by omega)
  · have h1 := (Finset.mem_filter.mp hi).2
    exact ⟨⟨i.val - r.val, by omega⟩, by simp only [Finset.mem_filter, Finset.mem_univ, true_and]; omega, Fin.ext (by dsimp only; omega)⟩
  · exact dif_pos (Finset.mem_filter.mp hw).2

end Cert.RunningSum

end
-- ==== Proof.EvenOutHost.lean ====
/- What the host hands to the kernel of the gate's and the pool's backward pass: the pooled columns and the gated rows it computes
   before the kernel starts. -/
module

public import proofs.«01_k».proof.Proof.Gen.EvenOutIdeal.Value
public import proofs.«01_k».proof.Proof.PoolRun
public import proofs.«01_k».proof.Proof.RunningSum
public import proofs.«01_k».proof.Proof.GateOut
public import Idealize.ShloMosaic.Lib.StableHlo.ReadAt

@[expose] public section

set_option maxRecDepth 16384

noncomputable section

namespace Cert.EvenOutIdeal.Gradient

open Cert.EvenOutIdeal Cert.EvenOutIdeal.Gen Idealize.ShloMosaic Idealize.ShloMosaic.TcCoe Idealize.SL.Sem Idealize.ShloMosaic.StableHlo
open Cert.Finite Cert.PoolGrad

/-- The host's operations between the running sum and the gate. -/
abbrev host2 : List (HloOp τ sig (Elt Ideal)) := hostOps0_2 (F := Ideal)
/-- The four means. -/
abbrev means : List (HloOp τ sig (Elt Ideal)) := host2.take 69
/-- The mixing of the means. -/
abbrev mix : List (HloOp τ sig (Elt Ideal)) := (host2.drop 69).take 7
/-- The joining with the other columns. -/
abbrev join : List (HloOp τ sig (Elt Ideal)) := host2.drop 76

variable (X : Valuation τ sig (Elt Ideal))

/-- The contents after the running sum, after the means, after the mixing, after the joining and after everything. -/
abbrev st1 : Valuation τ sig (Elt Ideal) := after hostOps0_1 (after hostOps0 X)
abbrev st2 : Valuation τ sig (Elt Ideal) := after means (st1 X)
abbrev st3 : Valuation τ sig (Elt Ideal) := after mix (st2 X)
abbrev st4 : Valuation τ sig (Elt Ideal) := after join (st3 X)
abbrev st5 : Valuation τ sig (Elt Ideal) := after hostOps0_4 (after hostOps0_3 (st4 X))

abbrev inU (r : Fin 8192) (c : Fin 512) : EReal := X (Proc.devRef .tc main_arg1) (ix2 r ⟨c.val, by have := c.isLt; omega⟩)
abbrev inZ (r : Fin 8192) (c : Fin 1024) : EReal := X (Proc.devRef .tc main_arg1) (ix2 r ⟨1024 + c.val, by have := c.isLt; omega⟩)
abbrev inYS (r : Fin 8192) (c : Fin 512) : EReal := X (Proc.devRef .tc main_arg2) (ix2 r c)
abbrev inWP (g : Fin 4) (k l : Fin 128) : EReal := X (Proc.devRef .tc main_arg3) (ix3 g k l)
abbrev inPS (c : Fin 512) : EReal := X (Proc.devRef .tc main_arg4) (ix1 c)

theorem host_eq (m : (ℓ : Loc nD τ sig) → Buf (Elt Ideal) ℓ) (c : Dev nD) (b : Ref sig .tc) :
    V m c b = st5 (launchContents m c) (Proc.devRef .tc b) := by
  have h : hostOps0_2 (F := Ideal) = means ++ (mix ++ join) := rfl
  unfold V
  show after (hostOps0 ++ (hostOps0_1 ++ (hostOps0_2 ++ (hostOps0_3 ++ hostOps0_4)))) _ _ = _
  rw [h]
  simp only [after_append]

theorem v1_at (r : Fin 8192) (g : Fin 4) (l : Fin 128) : after hostOps0 X (Proc.devRef .tc main_v1) (ix3 r g l) = inU X r (col g l) := by
  after_reads_at
  congr 2
  exact Fin.ext (by show g.val * 128 + l.val = 128 * g.val + l.val; omega)

theorem v1_keep : after hostOps0_1 X (Proc.devRef .tc main_v1) = X (Proc.devRef .tc main_v1) := by after_reads_simp

theorem v2_at (r : Fin 8192) (g : Fin 4) (l : Fin 128) : after hostOps0_1 X (Proc.devRef .tc main_v2) (ix3 r g l)
    = (∑ i : Fin 8192, if i.val ≤ r.val then (X (Proc.devRef .tc main_v1) (ix3 i g l) : EReal) else 0 : EReal) := by
  after_reads_at
  have hz : broadcastInDim S_ ![] bcast_S_S_ (constant (F := Ideal) S_ .f32 0x00000000#32) (Shape.Idx.first h_S_) = (0 : EReal) := by pointwise
  generalize X (Proc.devRef .tc main_v1) = x
  unfold Host.reduceWindowAdd
  rw [Ideal.hostReduceWindowAdd_def, hz]
  exact RunningSum.up_to x 8191 rfl reduceWindows_S8192x4x128_S8192x4x128_w8192s1p8191_0_w1s1p0_0_w1s1p0_0 r g l

/-- The running sums and the columns before the means. -/
theorem st1_v1 (r : Fin 8192) (g : Fin 4) (l : Fin 128) : st1 X (Proc.devRef .tc main_v1) (ix3 r g l) = inU X r (col g l) := by
  unfold st1; rw [v1_keep, v1_at]

theorem st1_v2 (r : Fin 8192) (g : Fin 4) (l : Fin 128) : st1 X (Proc.devRef .tc main_v2) (ix3 r g l)
    = (∑ i : Fin 8192, if i.val ≤ r.val then inU X i (col g l) else 0 : EReal) := by
  unfold st1; rw [v2_at]
  exact Finset.sum_congr (M := EReal) rfl fun i _ => by rw [v1_at]

section
variable (hU : ∀ r c, IsReal (inU X r c)) (r : Fin 8192) (l : Fin 128)
include hU
theorem v59_at : st2 X (Proc.devRef .tc main_v59) (ix3 r 0 l) = pooled (inU X) 0 r l := by
  unfold st2
  have h1 := fun i => st1_v1 X i 0 l
  have h2 := fun i => st1_v2 X i 0 l
  generalize st1 X = Y at h1 h2 ⊢
  after_reads_at
  split
  · next h => after_reads_at; exact pooled_first (by decide) _ hU 0 l _ h2 _ h1 r h
  · next h => after_reads_at; exact pooled_rest (by decide) _ hU 0 l _ h2 _ h1 r h
theorem v60_at : st2 X (Proc.devRef .tc main_v60) (ix3 r 0 l) = pooled (inU X) 1 r l := by
  unfold st2
  have h1 := fun i => st1_v1 X i 1 l
  have h2 := fun i => st1_v2 X i 1 l
  generalize st1 X = Y at h1 h2 ⊢
  after_reads_at
  split
  · next h => after_reads_at; exact pooled_first (by decide) _ hU 1 l _ h2 _ h1 r h
  · next h => after_reads_at; exact pooled_rest (by decide) _ hU 1 l _ h2 _ h1 r h
theorem v61_at : st2 X (Proc.devRef .tc main_v61) (ix3 r 0 l) = pooled (inU X) 2 r l := by
  unfold st2
  have h1 := fun i => st1_v1 X i 2 l
  have h2 := fun i => st1_v2 X i 2 l
  generalize st1 X = Y at h1 h2 ⊢
  after_reads_at
  split
  · next h => after_reads_at; exact pooled_first (by decide) _ hU 2 l _ h2 _ h1 r h
  · next h => after_reads_at; exact pooled_rest (by decide) _ hU 2 l _ h2 _ h1 r h
theorem v62_at : st2 X (Proc.devRef .tc main_v62) (ix3 r 0 l) = pooled (inU X) 3 r l := by
  unfold st2
  have h1 := fun i => st1_v1 X i 3 l
  have h2 := fun i => st1_v2 X i 3 l
  generalize st1 X = Y at h1 h2 ⊢
  after_reads_at
  split
  · next h => after_reads_at; exact pooled_first (by decide) _ hU 3 l _ h2 _ h1 r h
  · next h => after_reads_at; exact pooled_rest (by decide) _ hU 3 l _ h2 _ h1 r h
end

/-- The four means, by their group. -/
abbrev stacked (Y : Valuation τ sig (Elt Ideal)) (r : Fin 8192) (x : Fin 128) : Fin 4 → EReal :=
  four (Y (Proc.devRef .tc main_v59) (ix3 r 0 x)) (Y (Proc.devRef .tc main_v60) (ix3 r 0 x))
    (Y (Proc.devRef .tc main_v61) (ix3 r 0 x)) (Y (Proc.devRef .tc main_v62) (ix3 r 0 x))

theorem v69_raw (r : Fin 8192) (c : Fin 512) : after mix X (Proc.devRef .tc main_v69) (ix2 r c)
    = ((∑ x, inWP X (grp c) x (lane c) * stacked X r x (grp c)) * inPS X c : EReal) := by
  after_reads_at
  refine congrArg₂ (HMul.hMul (α := EReal)) (Finset.sum_congr (M := EReal) rfl fun x _ => congrArg₂ (HMul.hMul (α := EReal)) rfl ?_) rfl
  exact pick (grp c) (fun i => X (Proc.devRef .tc main_v59) (ix3 r i x)) (fun i => X (Proc.devRef .tc main_v60) (ix3 r i x))
    (fun i => X (Proc.devRef .tc main_v61) (ix3 r i x)) (fun i => X (Proc.devRef .tc main_v62) (ix3 r i x))

/-- Neither the slice, the running sum nor the means change the arguments. -/
theorem args2 : st2 X (Proc.devRef .tc main_arg1) = X (Proc.devRef .tc main_arg1) ∧ st2 X (Proc.devRef .tc main_arg2) = X (Proc.devRef .tc main_arg2)
    ∧ st2 X (Proc.devRef .tc main_arg3) = X (Proc.devRef .tc main_arg3) ∧ st2 X (Proc.devRef .tc main_arg4) = X (Proc.devRef .tc main_arg4)  := by
  refine ⟨?_, ?_, ?_, ?_⟩ <;> after_reads_simp

theorem v69_keep : after join X (Proc.devRef .tc main_v69) = X (Proc.devRef .tc main_v69) := by after_reads_simp
theorem v69_keep' : after hostOps0_3 X (Proc.devRef .tc main_v69) = X (Proc.devRef .tc main_v69) := by after_reads_simp
theorem v70_keep : after hostOps0_3 X (Proc.devRef .tc main_v70) = X (Proc.devRef .tc main_v70) := by after_reads_simp
theorem args3 : after mix X (Proc.devRef .tc main_arg1) = X (Proc.devRef .tc main_arg1) ∧ after mix X (Proc.devRef .tc main_arg2) = X (Proc.devRef .tc main_arg2) := by
  refine ⟨?_, ?_⟩ <;> after_reads_simp

theorem v70_raw (r : Fin 8192) (c : Fin 1024) : after join X (Proc.devRef .tc main_v70) (ix2 r c)
    = GateOut.both (fun r c => X (Proc.devRef .tc main_v69) (ix2 r c)) (inYS X) r c := by
  after_reads_at
  rfl

theorem v71_at (r : Fin 8192) (c : Fin 1024) : st4 X (Proc.devRef .tc main_v71) (ix2 r c) = inZ X r c := by
  unfold inZ
  rw [← (args2 X).1, ← (args3 (st2 X)).1]
  unfold st4 st3
  generalize after mix (st2 X) = Y
  after_reads_at

theorem v72_raw (r : Fin 8192) (c : Fin 1024) : after hostOps0_3 X (Proc.devRef .tc main_v72) (ix2 r c)
    = Gate.silu (X (Proc.devRef .tc main_v71) (ix2 r c)) := by
  unfold Gate.silu Gate.sig; rw [Gate.one_eq, EReal.coe_one]
  after_reads_at

/-- The host leaves its arguments as they were. -/
theorem args4 : after (hostOps0_3 (F := Ideal)) (st4 X) (Proc.devRef .tc main_arg1) = X (Proc.devRef .tc main_arg1)
    ∧ after (hostOps0_3 (F := Ideal)) (st4 X) (Proc.devRef .tc main_arg2) = X (Proc.devRef .tc main_arg2)
    ∧ after (hostOps0_3 (F := Ideal)) (st4 X) (Proc.devRef .tc main_arg3) = X (Proc.devRef .tc main_arg3)
    ∧ after (hostOps0_3 (F := Ideal)) (st4 X) (Proc.devRef .tc main_arg4) = X (Proc.devRef .tc main_arg4)
    ∧ after (hostOps0_3 (F := Ideal)) (st4 X) (Proc.devRef .tc main_arg5) = X (Proc.devRef .tc main_arg5) := by
  refine ⟨?_, ?_, ?_, ?_, ?_⟩ <;> after_reads_simp

/-! The arguments the host hands on, rounded or reshaped. -/
section
theorem proj_arg (r : Fin 8192) (j : Fin 2048) : st5 X (Proc.devRef .tc main_v78) (ix2 r j) = X (Proc.devRef .tc main_arg1) (ix2 r j) := by
  rw [← (args4 X).1]; unfold st5; generalize after (hostOps0_3 (F := Ideal)) _ = Y; after_reads_at
theorem ys_arg (r : Fin 8192) (j : Fin 512) : st5 X (Proc.devRef .tc main_v77) (ix2 r j) = inYS X r j := by
  unfold inYS; rw [← (args4 X).2.1]; unfold st5; generalize after (hostOps0_3 (F := Ideal)) _ = Y; after_reads_at
theorem wp_arg (g : Fin 4) (k l : Fin 128) : st5 X (Proc.devRef .tc main_v79) (ix3 g k l) = inWP X g k l := by
  unfold inWP; rw [← (args4 X).2.2.1]; unfold st5; generalize after (hostOps0_3 (F := Ideal)) _ = Y; after_reads_at
theorem ps_arg (j : Fin 512) : st5 X (Proc.devRef .tc main_v80) (ix2 0 j) = inPS X j := by
  unfold inPS; rw [← (args4 X).2.2.2.1]; unfold st5; generalize after (hostOps0_3 (F := Ideal)) _ = Y; after_reads_at
theorem w_arg (d e : Fin 1024) : st5 X (Proc.devRef .tc main_v74) (ix2 d e) = X (Proc.devRef .tc main_arg5) (ix2 d e) := by
  rw [← (args4 X).2.2.2.2]; unfold st5; generalize after (hostOps0_3 (F := Ideal)) _ = Y; after_reads_at
end

section
variable (hU : ∀ r c, IsReal (inU X r c)) (r : Fin 8192)
include hU
theorem v69_at (c : Fin 512) : st3 X (Proc.devRef .tc main_v69) (ix2 r c) = out (inU X) (inWP X) (inPS X) r c := by
  unfold st3
  obtain ⟨-, -, k3, k4⟩ := args2 X
  rw [v69_raw]
  unfold out mixed inWP inPS stacked
  rw [k3, k4]
  refine congrArg₂ (HMul.hMul (α := EReal)) (Finset.sum_congr (M := EReal) rfl fun x _ => ?_) rfl
  rw [v59_at X hU, v60_at X hU, v61_at X hU, v62_at X hU, mul_comm (G := EReal)]
  exact congrArg₂ (HMul.hMul (α := EReal)) (four_pooled _ _ _ _) rfl

/-- The pooled columns the host hands to the kernel. -/
theorem pooled_arg (c : Fin 512) : st5 X (Proc.devRef .tc main_v76) (ix2 r c) = out (inU X) (inWP X) (inPS X) r c := by
  rw [← v69_at X hU, ← v69_keep (st3 X), ← v69_keep' (after join _)]
  unfold st5 st4
  generalize after (hostOps0_3 (F := Ideal)) _ = Y
  after_reads_at

theorem v70_at (c : Fin 1024) : st4 X (Proc.devRef .tc main_v70) (ix2 r c)
    = GateOut.both (out (inU X) (inWP X) (inPS X)) (inYS X) r c := by
  unfold st4
  rw [v70_raw]
  have h : inYS (st3 X) = inYS X := by
    unfold inYS st3
    rw [(args3 (st2 X)).2, (args2 X).2.1]
  rw [h]
  unfold GateOut.both
  split
  · exact v69_at X hU r _
  · rfl

/-- The gated rows the host hands to the kernel. -/
theorem gated_arg (c : Fin 1024) : st5 X (Proc.devRef .tc main_v75) (ix2 r c)
    = GateOut.gated (out (inU X) (inWP X) (inPS X)) (inYS X) (inZ X) r c := by
  unfold GateOut.gated
  rw [← v70_at X hU, ← v70_keep (st4 X), ← v71_at X, ← v72_raw]
  unfold st5
  generalize after (hostOps0_3 (F := Ideal)) _ = Y
  after_reads_at
end

end Cert.EvenOutIdeal.Gradient

end
-- ==== Proof.EvenOutFinal.lean ====
/- What the kernel of the gated pool's backward pass leaves in each of its six results, as plain sums over the rows and columns of
   the arguments. The blocks of rows are taken from the last to the first. -/
module

public import proofs.«01_k».proof.Proof.EvenOutValue
public import proofs.«01_k».proof.Proof.EvenOutHost

@[expose] public section

set_option maxRecDepth 16384

noncomputable section

namespace Cert.EvenOutIdeal.Gradient

open Cert.EvenOutIdeal Cert.EvenOutIdeal.Gen Cert.Finite Cert.Pool Cert.PoolGrad Idealize.ShloMosaic Idealize.ShloMosaic.TcCoe Idealize.SL.Sem
open Idealize.ShloMosaic.Pipeline (Dat)
open Idealize.ShloMosaic.StableHlo (launchContents)

variable (m : (ℓ : Loc nD τ sig) → Buf (Elt Ideal) ℓ)

/-- The block index of every window at every point. -/
theorem idx : ∀ t : Fin cfg0.N, win0_0.index t = ![15 - t.val, 0] ∧ win0_1.index t = ![0, 0] ∧ win0_2.index t = ![15 - t.val, 0]
    ∧ win0_3.index t = ![15 - t.val, 0] ∧ win0_4.index t = ![15 - t.val, 0] ∧ win0_5.index t = ![15 - t.val, 1] ∧ win0_6.index t = ![15 - t.val, 0]
    ∧ win0_7.index t = ![(15 - t.val) * 32 - 1, 0] ∧ win0_8.index t = ![0, 0, 0] ∧ win0_9.index t = ![0, 0] ∧ win0_10.index t = ![15 - t.val, 0]
    ∧ win0_11.index t = ![15 - t.val, 0] ∧ win0_12.index t = ![0, 0] ∧ win0_13.index t = ![15 - t.val, 0] ∧ win0_14.index t = ![0, 0, 0] ∧ win0_15.index t = ![0, 0] :=
  (by decide +kernel : ∀ t : Fin grid0.N, _)

theorem bword_eq : ∀ t : Fin cfg0.N, bword t = BitVec.ofNat 32 (15 - t.val) := (by decide +kernel : ∀ t : Fin grid0.N, _)

/-- Row `s` of the block of point `t`, as a row of the array. -/
def row (t : Fin cfg0.N) (s : Fin 512) : Fin 8192 := ⟨512 * (15 - t.val) + s.val, by have := s.isLt; omega⟩

/-- A sum over the points and the rows of a block is a sum over the rows of the array. -/
theorem sum_rows (G : Fin 8192 → EReal) : (∑ t : Fin cfg0.N, ∑ s : Fin 512, G (row t s)) = ∑ r, G r := by
  rw [← Equiv.sum_comp (Fin.revPerm : Equiv.Perm (Fin cfg0.N))]
  refine Fin.sum_mul_add_congr fun t s hl => congrArg G (Fin.ext ?_)
  have h : cfg0.N = 16 := N_0
  have ht := t.isLt
  show 512 * (15 - (Fin.rev t).val) + s.val = t.val * 512 + s.val
  rw [Fin.val_rev]
  omega

/-- The argument arrays of the kernel by row and column; of the projection the pooled columns and the gate's. -/
abbrev argDX (c : Dev nD) (r : Fin 8192) (j : Fin 1024) : EReal := m ((c : Thread nD τ).loc main_arg0) (ix2 r j)
abbrev argU (c : Dev nD) (r : Fin 8192) (j : Fin 512) : EReal := m ((c : Thread nD τ).loc main_arg1) (ix2 r ⟨j.val, by have := j.isLt; omega⟩)
abbrev argZ (c : Dev nD) (r : Fin 8192) (j : Fin 1024) : EReal :=
  m ((c : Thread nD τ).loc main_arg1) (ix2 r ⟨1024 + j.val, by have := j.isLt; omega⟩)
abbrev argYS (c : Dev nD) (r : Fin 8192) (j : Fin 512) : EReal := m ((c : Thread nD τ).loc main_arg2) (ix2 r j)
abbrev argWP (c : Dev nD) (g : Fin 4) (k l : Fin 128) : EReal := m ((c : Thread nD τ).loc main_arg3) (ix3 g k l)
abbrev argPS (c : Dev nD) (j : Fin 512) : EReal := m ((c : Thread nD τ).loc main_arg4) (ix1 j)
abbrev argW (c : Dev nD) (d e : Fin 1024) : EReal := m ((c : Thread nD τ).loc main_arg5) (ix2 d e)
/-- The pooled columns, and their cotangent. -/
abbrev argYP (c : Dev nD) : Fin 8192 → Fin 512 → EReal := out (argU m c) (argWP m c) (argPS m c)
abbrev argDY (c : Dev nD) : Fin 8192 → Fin 512 → EReal := GateOut.dyFirst (argDX m c) (argZ m c) (argW m c)

section
variable (c : Dev nD) (t : Fin cfg0.N)
theorem blkDX (s : Fin 512) (j : Fin 1024) : iblk m c 0 t (ix2 s j) = argDX m c (row t s) j := by
  blk_point [iblk, V, idx t, row]
theorem blkW (d e : Fin 1024) : iblk m c 1 t (ix2 d e) = argW m c d e := by
  have he : (win0_1.blk t).view.emb (ix2 d e) = ix2 d e := by blk_ext [idx t, row]
  blk_simp [iblk]
  rw [he, host_eq]
  exact w_arg (launchContents m c) d e
theorem blkYS (s : Fin 512) (j : Fin 512) : iblk m c 4 t (ix2 s j) = argYS m c (row t s) j := by
  have he : (win0_4.blk t).view.emb (ix2 s j) = ix2 (row t s) j := by blk_ext [idx t, row]
  blk_simp [iblk]
  rw [he, host_eq]
  exact ys_arg (launchContents m c) (row t s) j
theorem blkZ (s : Fin 512) (j : Fin 1024) : iblk m c 5 t (ix2 s j) = argZ m c (row t s) j := by
  have he : (win0_5.blk t).view.emb (ix2 s j) = ix2 (row t s) ⟨1024 + j.val, by omega⟩ := by blk_ext [idx t, row]
  blk_simp [iblk]
  rw [he, host_eq]
  exact proj_arg (launchContents m c) (row t s) _
theorem blkU (s : Fin 512) (j : Fin 512) : iblk m c 6 t (ix2 s j) = argU m c (row t s) j := by
  have he : (win0_6.blk t).view.emb (ix2 s j) = ix2 (row t s) ⟨j.val, by omega⟩ := by blk_ext [idx t, row]
  blk_simp [iblk]
  rw [he, host_eq]
  exact proj_arg (launchContents m c) (row t s) _
/-- The sixteen rows before a block that is not the first. -/
theorem blkH (ht : 0 < 15 - t.val) (p : Fin 16) (j : Fin 512) : iblk m c 7 t (ix2 p j) = argU m c ⟨512 * (15 - t.val) - 16 + p.val, by have := p.isLt; omega⟩ j := by
  have he : (win0_7.blk t).view.emb (ix2 p j) = ix2 ⟨512 * (15 - t.val) - 16 + p.val, by have := p.isLt; omega⟩ ⟨j.val, by omega⟩ := by blk_ext [idx t, row]
  blk_simp [iblk]
  rw [he, host_eq]
  exact proj_arg (launchContents m c) _ _
theorem blkWP (g : Fin 4) (k l : Fin 128) : iblk m c 8 t (ix3 g k l) = argWP m c g k l := by
  have he : (win0_8.blk t).view.emb (ix3 g k l) = ix3 g k l := by blk_ext [idx t, row]
  blk_simp [iblk]
  rw [he, host_eq]
  exact wp_arg (launchContents m c) g k l
theorem blkPS (j : Fin 512) : iblk m c 9 t (ix2 0 j) = argPS m c j := by
  have he : (win0_9.blk t).view.emb (ix2 0 j) = ix2 0 j := by blk_ext [idx t, row]
  blk_simp [iblk]
  rw [he, host_eq]
  exact ps_arg (launchContents m c) j

variable (hU : ∀ r j, IsReal (argU m c r j))
include hU
theorem blkYP (s : Fin 512) (j : Fin 512) : iblk m c 3 t (ix2 s j) = argYP m c (row t s) j := by
  have he : (win0_3.blk t).view.emb (ix2 s j) = ix2 (row t s) j := by blk_ext [idx t, row]
  blk_simp [iblk]
  rw [he, host_eq]
  exact pooled_arg (launchContents m c) hU (row t s) j
theorem blkY (s : Fin 512) (j : Fin 1024) : iblk m c 2 t (ix2 s j) = GateOut.gated (argYP m c) (argYS m c) (argZ m c) (row t s) j := by
  have he : (win0_2.blk t).view.emb (ix2 s j) = ix2 (row t s) j := by blk_ext [idx t, row]
  blk_simp [iblk]
  rw [he, host_eq]
  exact gated_arg (launchContents m c) hU (row t s) j
end

section
variable (c : Dev nD) (t : Fin cfg0.N)
theorem rowsDX : rows (e := .f32) (iblk m c 0 t) = fun s => argDX m c (row t s) := funext₂ (blkDX m c t)
theorem rowsZ : rows (e := .bf16) (iblk m c 5 t) = fun s => argZ m c (row t s) := funext₂ (blkZ m c t)
theorem rowsYS : rows (e := .bf16) (iblk m c 4 t) = fun s => argYS m c (row t s) := funext₂ (blkYS m c t)
theorem matW : mat (iblk m c 1 t) = argW m c := funext₂ (blkW m c t)

/-- The gated rows' cotangent over the block of a point. -/
theorem dyAt_at (s : Fin 512) (d : Fin 1024) : dyAt m c t (ix2 s d) = GateOut.dy (argDX m c) (argZ m c) (argW m c) (row t s) d := by
  refine (dy_blk _ _ _ s d).trans ?_
  rw [rowsDX, rowsZ, matW]
  rfl

theorem dyCols_row (g : Fin 4) (s : Fin 512) (l : Fin 128) : dyCols (dyAt m c t) g (ix2 s l) = argDY m c (row t s) (col g l) := by
  rw [dyCols_at, dyAt_at]
  rfl

/-- What the rows kept from the block before hold: the cotangent's rows after the block, zero past the last. -/
def Kept (N : FVec Ideal S16x512 .f32) : Prop :=
  ∀ (g : Fin 4) (p : Fin 16) (l : Fin 128), N (ix2 p (col g l)) = tail (fun i => argDY m c i (col g l)) (512 * (15 - t.val) + 512 + p.val)

theorem kept_A (h : t.val % 16 = 0) : Kept m c t (k0_pay6 (F := Ideal)) := fun g p l => by
  have ht := t.isLt
  have h16 : cfg0.N = 16 := N_0
  unfold tail
  rw [dif_neg (by omega)]
  pointwise [k0_pay6]

theorem kept_B (h : ¬ t.val % 16 = 0) : Kept m c t (keptB m c t) := fun g p l => by
  have ht := t.isLt
  have h16 : cfg0.N = 16 := N_0
  have hp := p.isLt
  have e : keptB m c t = joinCols (n := 16) (e := .f32) (keepG (dyAt m c ⟨t.val - 1, by omega⟩)) := by
    by_cases h1 : (t.val - 1) % 16 = 0
    · exact scr_A m c ⟨t.val - 1, by omega⟩ h1
    · exact scr_B m c ⟨t.val - 1, by omega⟩ h1
  rw [e]
  show keepG _ (grp (col g l)) (ix2 p (lane (col g l))) = _
  rw [grp_col, lane_col, keep_at, dyAt_at]
  have hr : 512 * (15 - t.val) + 512 + p.val = (row ⟨t.val - 1, by omega⟩ ⟨p.val, by omega⟩).val := by
    show _ = 512 * (15 - (t.val - 1)) + p.val; omega
  rw [hr, tail_lt]
  rfl

/-- The pooled columns' cotangent over a block and the rows after it. -/
theorem dmix_row {N : FVec Ideal S16x512 .f32} (hN : Kept m c t N) (g : Fin 4) (p : Fin 528) (l : Fin 128) :
    dmixG (dyAt m c t) N (iblk m c 9 t) g (ix2 p l) = dmix (argDY m c) (argPS m c) g (512 * (15 - t.val) + p.val) l := by
  unfold dmixG dmix
  rw [dmix_blk, cols_at (n := 1) (e := .f32), blkPS]
  refine congrArg₂ (HMul.hMul (α := EReal)) ?_ rfl
  split
  · next h =>
    rw [dyCols_row]
    exact (tail_lt (fun i => argDY m c i (col g l)) (row t ⟨p.val, h⟩)).symm
  · next h =>
    rw [cols_at (n := 16) (e := .f32), hN g ⟨p.val - 512, _⟩ l]
    congr 1
    show 512 * (15 - t.val) + 512 + (p.val - 512) = _
    omega

theorem dpool_row {N : FVec Ideal S16x512 .f32} (hN : Kept m c t N) (g : Fin 4) (p : Fin 528) (k : Fin 128) :
    dpoolBlk (dmixG (dyAt m c t) N (iblk m c 9 t) g) (slab (e := .bf16) (iblk m c 8 t) g) (ix2 p k)
      = dpool (argDY m c) (argWP m c) (argPS m c) g (512 * (15 - t.val) + p.val) k := by
  rw [dpool_blk]
  unfold dpool
  refine Finset.sum_congr rfl fun l _ => ?_
  rw [dmix_row m c t hN, slab_at (e := .bf16), blkWP]

/-- The rows' gradient over a block. -/
theorem du_row {N : FVec Ideal S16x512 .f32} (hN : Kept m c t N) (g : Fin 4) (s : Fin 512) (k : Fin 128) :
    duG (bword t) (dyAt m c t) N (iblk m c 9 t) (iblk m c 8 t) g (ix2 s k) = du (argDY m c) (argWP m c) (argPS m c) g (row t s) k := by
  unfold duG
  rw [bword_eq]
  exact du_blk g (15 - t.val) (by omega) _ k (fun r => dpool (argDY m c) (argWP m c) (argPS m c) g r k) (fun p => dpool_row m c t hN g p k) s

/-- The means over a block. -/
theorem pooled_row (g : Fin 4) (s : Fin 512) (l : Fin 128) :
    pooledG (bword t) (iblk m c 6 t) (iblk m c 7 t) g (ix2 s l) = pooled (argU m c) g (row t s) l := by
  unfold pooledG
  rw [bword_eq]
  have hu : ∀ s : Fin 512, cols (n := 512) (e := .bf16) (iblk m c 6 t) g (ix2 s l) = argU m c (row t s) (col g l) := fun s => by
    rw [cols_at (n := 512) (e := .bf16), blkU]
  refine (pooled_blk g (15 - t.val) (by omega) _ _ l (tail fun i => argU m c i (col g l)) (fun s => ?_) (fun p hp => ?_) s).trans ?_
  · rw [hu]; exact (tail_lt (fun i => argU m c i (col g l)) (row t s)).symm
  · rw [cols_at (n := 16) (e := .bf16), blkH m c t hp]
    exact (tail_lt (fun i => argU m c i (col g l)) ⟨512 * (15 - t.val) - 16 + p.val, _⟩).symm
  · rw [hu]; rfl
end

/-- The two halves' gradient the kernel leaves. -/
theorem final10 (c : Dev nD) : (dats m 0 c).arrAt 10 (cfgs 0).N = fun y : S8192x1024.Idx =>
    GateOut.dy (argDX m c) (argZ m c) (argW m c) (y 0) (y 1) := by
  refine (dats m 0 c).arrAt_eq_of_covers 10 _ (by decide +kernel) fun t hf y => ?_
  blk_simp
  rw [after0_10, out10 m c t]
  obtain ⟨s, d, rfl⟩ : ∃ (s : Fin 512) (d : Fin 1024), y = ix2 s d := ⟨y 0, y 1, by ext a; fin_cases a <;> rfl⟩
  have he : (win0_10.blk t).view.emb (ix2 s d) = ix2 (row t s) d := by blk_ext [idx t, row]
  rw [he]
  exact dyAt_at m c t s d

/-- The gate's gradient the kernel leaves. -/
theorem final11 (c : Dev nD) (hU : ∀ r j, IsReal (argU m c r j)) : (dats m 0 c).arrAt 11 (cfgs 0).N = fun y : S8192x1024.Idx =>
    GateOut.dz (argDX m c) (argYP m c) (argYS m c) (argZ m c) (argW m c) (y 0) (y 1) := by
  refine (dats m 0 c).arrAt_eq_of_covers 11 _ (by decide +kernel) fun t hf y => ?_
  blk_simp
  rw [after0_11, out11 m c t]
  obtain ⟨s, d, rfl⟩ : ∃ (s : Fin 512) (d : Fin 1024), y = ix2 s d := ⟨y 0, y 1, by ext a; fin_cases a <;> rfl⟩
  have he : (win0_11.blk t).view.emb (ix2 s d) = ix2 (row t s) d := by blk_ext [idx t, row]
  have hy : rows (e := .bf16) (iblk m c 3 t) = fun s => argYP m c (row t s) := funext₂ (blkYP m c t hU)
  refine (dz_blk _ _ _ _ _ s d).trans ?_
  rw [he, rowsDX, rowsZ, rowsYS, matW, hy]
  rfl

/-- The weight's gradient the kernel leaves. -/
theorem final12 (c : Dev nD) (hU : ∀ r j, IsReal (argU m c r j)) : (dats m 0 c).arrAt 12 (cfgs 0).N = fun y : S1024x1024.Idx =>
    GateOut.dw (argDX m c) (argYP m c) (argYS m c) (argZ m c) (y 0) (y 1) := by
  refine (dats m 0 c).arrAt_eq_of_after_last 12 t0_15 (by decide +kernel) _ fun j => ?_
  blk_simp
  have hz : ∀ i : S1024x1024.Idx, k0_pay3 (F := Ideal) i = 0 := fun i => by pointwise [k0_pay3]
  have hd : ∀ i : S1024x1024.Idx, i = ix2 (i 0) (i 1) := fun i => by ext a; fin_cases a <;> rfl
  have hp : ∀ (t : Fin cfg0.N) (acc : FVec Ideal S1024x1024 .f32) (i : S1024x1024.Idx),
      k0_pay9 (F := Ideal) (iblk m c 0 t) acc (iblk m c 2 t) i = acc i + ∑ s : Fin 512,
        GateOut.gated (argYP m c) (argYS m c) (argZ m c) (row t s) (i 0) * argDX m c (row t s) (i 1) := fun t acc i => by
    have hy : rows (e := .bf16) (iblk m c 2 t) = fun s => GateOut.gated (argYP m c) (argYS m c) (argZ m c) (row t s) := funext₂ (blkY m c t hU)
    rw [hd i]
    refine (dw_blk _ _ _ _ _).trans ?_
    rw [rowsDX, hy]
    rfl
  rw [after0_12, Pipeline.eq_sum_fin_of_reset_step_apply_last (fun n h => (outsAt0 m c n h).2.2.1) 16 (fun _ => 0) _
    (fun t h i => by rw [out12_A m c t h, hp, hz]) (fun t h i => by rw [out12_B m c t h, hp]) (le_of_eq N_0) t0_15 rfl j, zero_add]
  exact sum_rows fun r => GateOut.gated (argYP m c) (argYS m c) (argZ m c) r (j 0) * argDX m c r (j 1)

/-- The pooled rows' gradient the kernel leaves. -/
theorem final13 (c : Dev nD) : (dats m 0 c).arrAt 13 (cfgs 0).N = fun y : S8192x512.Idx =>
    du (argDY m c) (argWP m c) (argPS m c) (grp (y 1)) (y 0) (lane (y 1)) := by
  refine (dats m 0 c).arrAt_eq_of_covers 13 _ (by decide +kernel) fun t hf y => ?_
  blk_simp
  rw [after0_13]
  obtain ⟨s, d, rfl⟩ : ∃ (s : Fin 512) (d : Fin 512), y = ix2 s d := ⟨y 0, y 1, by ext a; fin_cases a <;> rfl⟩
  have he : (win0_13.blk t).view.emb (ix2 s d) = ix2 (row t s) d := by blk_ext [idx t, row]
  rw [he]
  by_cases h : t.val % 16 = 0
  · rw [out13_A m c t h]
    exact du_row m c t (kept_A m c t h) (grp d) s (lane d)
  · rw [out13_B m c t h]
    exact du_row m c t (kept_B m c t h) (grp d) s (lane d)

/-- The mixing weights' gradient the kernel leaves. -/
theorem final14 (c : Dev nD) : (dats m 0 c).arrAt 14 (cfgs 0).N = fun y : S4x128x128.Idx =>
    dwp (argU m c) (argDY m c) (argPS m c) (y 0) (y 1) (y 2) := by
  refine (dats m 0 c).arrAt_eq_of_after_last 14 t0_15 (by decide +kernel) _ fun j => ?_
  blk_simp
  have hz : ∀ i : S4x128x128.Idx, k0_pay4 (F := Ideal) i = 0 := fun i => by pointwise [k0_pay4]
  have hd : ∀ i : S4x128x128.Idx, i = ix3 (i 0) (i 1) (i 2) := fun i => by ext a; fin_cases a <;> rfl
  have hp : ∀ (t : Fin cfg0.N) (N : FVec Ideal S16x512 .f32) (hN : Kept m c t N) (acc : FVec Ideal S4x128x128 .f32) (i : S4x128x128.Idx),
      joinSlabs (e := .f32) (dwpG (bword t) (dyAt m c t) N (iblk m c 9 t) (iblk m c 6 t) (iblk m c 7 t) acc) i = acc i + ∑ s : Fin 512,
        pooled (argU m c) (i 0) (row t s) (i 1) * dmix (argDY m c) (argPS m c) (i 0) (row t s).val (i 2) := fun t N hN acc i => by
    obtain ⟨a, k, l, rfl⟩ : ∃ (a : Fin 4) (k l : Fin 128), i = ix3 a k l := ⟨i 0, i 1, i 2, hd i⟩
    show dwpG _ _ _ _ _ _ _ a (ix3 0 k l) = _
    unfold dwpG
    refine (dwp_blk _ _ _ _ _).trans ?_
    rw [slab_at (e := .f32)]
    refine congrArg₂ (HAdd.hAdd (α := EReal)) rfl (Finset.sum_congr rfl fun s _ => congrArg₂ (HMul.hMul (α := EReal)) (pooled_row m c t _ s _) ?_)
    exact dmix_row m c t hN _ ⟨s.val, _⟩ _
  rw [after0_14, Pipeline.eq_sum_fin_of_reset_step_apply_last (fun n h => (outsAt0 m c n h).2.2.2.2.1) 16 (fun _ => 0) _
    (fun t h i => by rw [out14_A m c t h, hp t _ (kept_A m c t h), hz]) (fun t h i => by rw [out14_B m c t h, hp t _ (kept_B m c t h)]) (le_of_eq N_0) t0_15 rfl j, zero_add]
  exact sum_rows fun r => pooled (argU m c) (j 0) r (j 1) * dmix (argDY m c) (argPS m c) (j 0) r.val (j 2)

/-- A row vector's index has first coordinate zero. -/
theorem row_idx (i : S1x512.Idx) : i = ix2 0 (i 1) := by
  ext a; fin_cases a
  · have h0 := (i 0).isLt; show (i 0).val = 0; change (i 0).val < 1 at h0; omega
  · rfl

/-- The scale's gradient the kernel leaves. -/
theorem final15 (c : Dev nD) : (dats m 0 c).arrAt 15 (cfgs 0).N = fun y : S1x512.Idx =>
    dps (argU m c) (argDY m c) (argWP m c) (grp (y 1)) (lane (y 1)) := by
  refine (dats m 0 c).arrAt_eq_of_after_last 15 t0_15 (by decide +kernel) _ fun j => ?_
  blk_simp
  have hz : ∀ i : S1x512.Idx, k0_pay5 (F := Ideal) i = 0 := fun i => by pointwise [k0_pay5]
  have hp : ∀ (t : Fin cfg0.N) (acc : FVec Ideal S1x512 .f32) (i : S1x512.Idx),
      joinCols (n := 1) (e := .f32) (dpsG (bword t) (dyAt m c t) (iblk m c 8 t) (iblk m c 6 t) (iblk m c 7 t) acc) i = acc i + ∑ s : Fin 512,
        argDY m c (row t s) (col (grp (i 1)) (lane (i 1))) * mixed (argU m c) (argWP m c) (grp (i 1)) (row t s) (lane (i 1)) := fun t acc i => by
    obtain ⟨d, rfl⟩ : ∃ d : Fin 512, i = ix2 0 d := ⟨i 1, row_idx i⟩
    unfold joinCols dpsG
    refine (dps_blk _ _ _ _ _).trans ?_
    rw [cols_at (n := 1) (e := .f32)]
    refine congrArg₂ (HAdd.hAdd (α := EReal)) (congrArg acc ?_) (Finset.sum_congr rfl fun s _ => congrArg₂ (HMul.hMul (α := EReal)) (dyCols_row m c t _ s _) ?_)
    · exact congrArg (ix2 0) (col_grp d)
    · unfold mixed
      refine Finset.sum_congr rfl fun k _ => ?_
      rw [pooled_row, slab_at (e := .bf16), blkWP]
  rw [after0_15, Pipeline.eq_sum_fin_of_reset_step_apply_last (fun n h => (outsAt0 m c n h).2.2.2.2.2.1) 16 (fun _ => 0) _
    (fun t h i => by rw [out15_A m c t h, hp, hz]) (fun t h i => by rw [out15_B m c t h, hp]) (le_of_eq N_0) t0_15 rfl j, zero_add]
  exact sum_rows fun r => argDY m c r (col (grp (j 1)) (lane (j 1))) * mixed (argU m c) (argWP m c) (grp (j 1)) r (lane (j 1))

end Cert.EvenOutIdeal.Gradient

end
-- ==== Proof.EvenOutRefValue.lean ====
/- What the derivative of the gated pool leaves in each of its six results, as the same plain sums the kernel leaves, on finite
   arguments. The reference's operations are read in stretches. -/
module

public import proofs.«01_k».proof.Proof.GateOut
public import proofs.«01_k».proof.Proof.PoolRun
public import proofs.«01_k».proof.Proof.RunningSum
public import proofs.«01_k».proof.Proof.Gen.EvenOutRefIdeal
public import Idealize.ShloMosaic.Lib.Pipeline.ValueKit
public import Idealize.ShloMosaic.Lib.Claim
public import Idealize.ShloMosaic.Lib.StableHlo.ReadAt

@[expose] public section

set_option maxRecDepth 16384

noncomputable section

namespace Cert.EvenOutRefIdeal.Gradient

open Cert.Finite Cert.Pool Cert.PoolGrad Cert.EvenOutRefIdeal Cert.EvenOutRefIdeal.Gen Idealize.ShloMosaic Idealize.ShloMosaic.TcCoe Idealize.SL.Sem Idealize.ShloMosaic.StableHlo

/-- The reference's operations, in order, as read off the program. -/
def line : { ops : List (HloOp τ sig (Elt Ideal)) // ∀ d, IsSeq (main (F := Ideal) d) ops } := by
  apply Subtype.mk; hlo_seq

/-- The reference's operations. -/
abbrev ops : List (HloOp τ sig (Elt Ideal)) := line.1

theorem ops_sub : ops.Forall fun op => op.bufs ⊆ tcRefs τ sig := by
  unfold ops line; simp

theorem ops_fresh : ∀ op ∈ ops, op.fresh = ∅ := by
  unfold ops line
  intro _ h; (repeat (cases h with | head => rfl | tail _ h => ?_)); exact nomatch h

/-- The reference runs to the contents its operations leave. -/
theorem ran (m : (ℓ : Loc nD τ sig) → Buf (Elt Ideal) ℓ) (g : Dev nD → PrngReg) :
    θ_run defs (onTc (τ := τ) (main (F := Ideal))) ⟨m, fun _ => 0, g⟩ fun r => ∀ (c : Dev nD) (b : Ref sig .tc),
      r.2.mem ((c.tc : Thread nD τ).loc b) = after ops (launchContents m c) (Proc.devRef .tc b) :=
  run_hlo _ _ line.2 (by decide) (by decide) ops_sub ops_fresh m g

/-! The operations in stretches: the columns, their running sum, the four means, the mixing, the joining, the gate, the gate's
    products, the gate's derivative, the way back to the means, the way back through each group's mean, the running sum from the
    end, and the results. -/

abbrev segA : List (HloOp τ sig (Elt Ideal)) := ops.take 2
abbrev segB : List (HloOp τ sig (Elt Ideal)) := (ops.drop 2).take 3
abbrev segC : List (HloOp τ sig (Elt Ideal)) := (ops.drop 5).take 77
abbrev segD : List (HloOp τ sig (Elt Ideal)) := (ops.drop 82).take 7
abbrev segE : List (HloOp τ sig (Elt Ideal)) := (ops.drop 89).take 2
abbrev segF : List (HloOp τ sig (Elt Ideal)) := (ops.drop 91).take 13
abbrev segG : List (HloOp τ sig (Elt Ideal)) := (ops.drop 104).take 7
abbrev segH : List (HloOp τ sig (Elt Ideal)) := (ops.drop 111).take 4
abbrev segI : List (HloOp τ sig (Elt Ideal)) := (ops.drop 115).take 16
abbrev segJ : List (HloOp τ sig (Elt Ideal)) := (ops.drop 131).take 74
abbrev segK : List (HloOp τ sig (Elt Ideal)) := (ops.drop 205).take 3
abbrev segL : List (HloOp τ sig (Elt Ideal)) := ops.drop 208

variable (V : Valuation τ sig (Elt Ideal))

abbrev st1 : Valuation τ sig (Elt Ideal) := after segB (after segA V)
abbrev st2 : Valuation τ sig (Elt Ideal) := after segC (st1 V)
abbrev st3 : Valuation τ sig (Elt Ideal) := after segD (st2 V)
abbrev st4 : Valuation τ sig (Elt Ideal) := after segF (after segE (st3 V))
abbrev st5 : Valuation τ sig (Elt Ideal) := after segG (st4 V)
abbrev st6 : Valuation τ sig (Elt Ideal) := after segH (st5 V)
abbrev st7 : Valuation τ sig (Elt Ideal) := after segI (st6 V)
abbrev st8 : Valuation τ sig (Elt Ideal) := after segJ (st7 V)
abbrev st9 : Valuation τ sig (Elt Ideal) := after segK (st8 V)

/-- The whole line is the stretches one after the other. -/
theorem after_ops : after ops V = after segL (st9 V) := by
  have h : ops = segA ++ (segB ++ (segC ++ (segD ++ (segE ++ (segF ++ (segG ++ (segH ++ (segI ++ (segJ ++ (segK ++ segL)))))))))) := rfl
  rw [h]
  simp only [after_append]

/-- The arguments by row and column; of the projection the pooled columns and the gate's. -/
abbrev argDX (r : Fin 8192) (j : Fin 1024) : EReal := V (Proc.devRef .tc main_arg0) (ix2 r j)
abbrev argU (r : Fin 8192) (j : Fin 512) : EReal := V (Proc.devRef .tc main_arg1) (ix2 r ⟨j.val, by have := j.isLt; omega⟩)
abbrev argZ (r : Fin 8192) (j : Fin 1024) : EReal := V (Proc.devRef .tc main_arg1) (ix2 r ⟨1024 + j.val, by have := j.isLt; omega⟩)
abbrev argYS (r : Fin 8192) (j : Fin 512) : EReal := V (Proc.devRef .tc main_arg2) (ix2 r j)
abbrev argWP (g : Fin 4) (k l : Fin 128) : EReal := V (Proc.devRef .tc main_arg3) (ix3 g k l)
abbrev argPS (j : Fin 512) : EReal := V (Proc.devRef .tc main_arg4) (ix1 j)
abbrev argW (d e : Fin 1024) : EReal := V (Proc.devRef .tc main_arg5) (ix2 d e)

/-- What the reference's values hold at an entry: the mixed means, the scale, the two halves, the gate's argument, the gate and its
    two derivatives, the halves' cotangents, and the means' cotangent. -/
abbrev mixedOf (r : Fin 8192) (c : Fin 512) : EReal := V (Proc.devRef .tc main_v70) (ix2 r c)
abbrev meansOf (r : Fin 8192) (g : Fin 4) (k : Fin 128) : EReal := V (Proc.devRef .tc main_v67) (ix3 r g k)
abbrev scaleOf (c : Fin 512) : EReal := V (Proc.devRef .tc main_v71) (ix2 0 c)
abbrev bothOf (r : Fin 8192) (e : Fin 1024) : EReal := V (Proc.devRef .tc main_v75) (ix2 r e)
abbrev zOf (r : Fin 8192) (e : Fin 1024) : EReal := V (Proc.devRef .tc main_v74) (ix2 r e)
abbrev siluOf (r : Fin 8192) (e : Fin 1024) : EReal := V (Proc.devRef .tc main_v76_0) (ix2 r e)
abbrev sigOf (r : Fin 8192) (e : Fin 1024) : EReal := V (Proc.devRef .tc main_v76_2) (ix2 r e)
abbrev slopeOf (r : Fin 8192) (e : Fin 1024) : EReal := V (Proc.devRef .tc main_v76_1) (ix2 r e)
abbrev ctOf (r : Fin 8192) (e : Fin 1024) : EReal := V (Proc.devRef .tc main_v82) (ix2 r e)
abbrev dyOf (r : Fin 8192) (e : Fin 1024) : EReal := V (Proc.devRef .tc main_v83) (ix2 r e)
abbrev dpoolOf (r : Fin 8192) (g : Fin 4) (k : Fin 128) : EReal := V (Proc.devRef .tc main_v96) (ix3 r g k)
abbrev negOf (r : Fin 8192) (g : Fin 4) (k : Fin 128) : EReal := V (Proc.devRef .tc main_v150) (ix3 r g k)
abbrev sumOf (r : Fin 8192) (g : Fin 4) (k : Fin 128) : EReal := V (Proc.devRef .tc main_v161) (ix3 r g k)

/-! The running sum and the means. -/

theorem v1_at (r : Fin 8192) (g : Fin 4) (l : Fin 128) : after segA V (Proc.devRef .tc main_v1) (ix3 r g l) = argU V r (col g l) := by
  after_reads_at
  congr 2
  exact Fin.ext (by show g.val * 128 + l.val = 128 * g.val + l.val; omega)

theorem v1_keep : after segB V (Proc.devRef .tc main_v1) = V (Proc.devRef .tc main_v1) := by after_reads_simp

theorem v2_at (r : Fin 8192) (g : Fin 4) (l : Fin 128) : after segB V (Proc.devRef .tc main_v2) (ix3 r g l)
    = (∑ i : Fin 8192, if i.val ≤ r.val then (V (Proc.devRef .tc main_v1) (ix3 i g l) : EReal) else 0 : EReal) := by
  after_reads_at
  have hz : broadcastInDim S_ ![] bcast_S_S_ (constant (F := Ideal) S_ .f32 0x00000000#32) (Shape.Idx.first h_S_) = (0 : EReal) := by pointwise
  generalize V (Proc.devRef .tc main_v1) = x
  unfold Host.reduceWindowAdd
  rw [Ideal.hostReduceWindowAdd_def, hz]
  exact RunningSum.up_to x 8191 rfl reduceWindows_S8192x4x128_S8192x4x128_w8192s1p8191_0_w1s1p0_0_w1s1p0_0 r g l

theorem v161_raw (r : Fin 8192) (g : Fin 4) (l : Fin 128) : after segK V (Proc.devRef .tc main_v161) (ix3 r g l)
    = (∑ i : Fin 8192, if r.val ≤ i.val then (V (Proc.devRef .tc main_v160) (ix3 i g l) : EReal) else 0 : EReal) := by
  after_reads_at
  have hz : broadcastInDim S_ ![] bcast_S_S_ (constant (F := Ideal) S_ .f32 0x00000000#32) (Shape.Idx.first h_S_) = (0 : EReal) := by pointwise
  generalize V (Proc.devRef .tc main_v160) = x
  unfold Host.reduceWindowAdd
  rw [Ideal.hostReduceWindowAdd_def, hz]
  exact RunningSum.down_to x 8191 rfl reduceWindows_S8192x4x128_S8192x4x128_w8192s1p0_8191_w1s1p0_0_w1s1p0_0 r g l

/-- The running sums and the columns before the means. -/
theorem st1_v1 (r : Fin 8192) (g : Fin 4) (l : Fin 128) : st1 V (Proc.devRef .tc main_v1) (ix3 r g l) = argU V r (col g l) := by
  unfold st1; rw [v1_keep, v1_at]

theorem st1_v2 (r : Fin 8192) (g : Fin 4) (l : Fin 128) : st1 V (Proc.devRef .tc main_v2) (ix3 r g l)
    = (∑ i : Fin 8192, if i.val ≤ r.val then argU V i (col g l) else 0 : EReal) := by
  unfold st1; rw [v2_at]
  exact Finset.sum_congr (M := EReal) rfl fun i _ => by rw [v1_at]

section
variable (hU : ∀ r c, IsReal (argU V r c)) (r : Fin 8192) (l : Fin 128)
include hU
theorem v63_at : st2 V (Proc.devRef .tc main_v63) (ix3 r 0 l) = pooled (argU V) 0 r l := by
  unfold st2
  have h1 := fun i => st1_v1 V i 0 l
  have h2 := fun i => st1_v2 V i 0 l
  generalize st1 V = Y at h1 h2 ⊢
  after_reads_at
  split
  · next h => after_reads_at; exact pooled_first (by decide) _ hU 0 l _ h2 _ h1 r h
  · next h => after_reads_at; exact pooled_rest (by decide) _ hU 0 l _ h2 _ h1 r h
theorem v64_at : st2 V (Proc.devRef .tc main_v64) (ix3 r 0 l) = pooled (argU V) 1 r l := by
  unfold st2
  have h1 := fun i => st1_v1 V i 1 l
  have h2 := fun i => st1_v2 V i 1 l
  generalize st1 V = Y at h1 h2 ⊢
  after_reads_at
  split
  · next h => after_reads_at; exact pooled_first (by decide) _ hU 1 l _ h2 _ h1 r h
  · next h => after_reads_at; exact pooled_rest (by decide) _ hU 1 l _ h2 _ h1 r h
theorem v65_at : st2 V (Proc.devRef .tc main_v65) (ix3 r 0 l) = pooled (argU V) 2 r l := by
  unfold st2
  have h1 := fun i => st1_v1 V i 2 l
  have h2 := fun i => st1_v2 V i 2 l
  generalize st1 V = Y at h1 h2 ⊢
  after_reads_at
  split
  · next h => after_reads_at; exact pooled_first (by decide) _ hU 2 l _ h2 _ h1 r h
  · next h => after_reads_at; exact pooled_rest (by decide) _ hU 2 l _ h2 _ h1 r h
theorem v66_at : st2 V (Proc.devRef .tc main_v66) (ix3 r 0 l) = pooled (argU V) 3 r l := by
  unfold st2
  have h1 := fun i => st1_v1 V i 3 l
  have h2 := fun i => st1_v2 V i 3 l
  generalize st1 V = Y at h1 h2 ⊢
  after_reads_at
  split
  · next h => after_reads_at; exact pooled_first (by decide) _ hU 3 l _ h2 _ h1 r h
  · next h => after_reads_at; exact pooled_rest (by decide) _ hU 3 l _ h2 _ h1 r h
end

section
variable (r : Fin 8192)
theorem v15_at : st2 V (Proc.devRef .tc main_v15) (ix2 r 0) = cnt 0 r.val := by
  unfold st2 cnt
  rw [← count_row (le_refl 8192)]
  generalize st1 V = Y
  after_reads_at
  rfl
theorem v29_at : st2 V (Proc.devRef .tc main_v29) (ix2 r 0) = cnt 1 r.val := by
  unfold st2 cnt
  rw [← count_row (le_refl 8192)]
  generalize st1 V = Y
  after_reads_at
  rfl
theorem v43_at : st2 V (Proc.devRef .tc main_v43) (ix2 r 0) = cnt 2 r.val := by
  unfold st2 cnt
  rw [← count_row (le_refl 8192)]
  generalize st1 V = Y
  after_reads_at
  rfl
theorem v57_at : st2 V (Proc.devRef .tc main_v57) (ix2 r 0) = cnt 3 r.val := by
  unfold st2 cnt
  rw [← count_row (le_refl 8192)]
  generalize st1 V = Y
  after_reads_at
  rfl
end

/-! The mixing and the joining. -/

/-- The four means, by their group. -/
abbrev stacked (Y : Valuation τ sig (Elt Ideal)) (r : Fin 8192) (x : Fin 128) : Fin 4 → EReal :=
  four (Y (Proc.devRef .tc main_v63) (ix3 r 0 x)) (Y (Proc.devRef .tc main_v64) (ix3 r 0 x))
    (Y (Proc.devRef .tc main_v65) (ix3 r 0 x)) (Y (Proc.devRef .tc main_v66) (ix3 r 0 x))

theorem v67_raw (r : Fin 8192) (g : Fin 4) (x : Fin 128) : after segD V (Proc.devRef .tc main_v67) (ix3 r g x) = stacked V r x g := by
  after_reads_at
  exact pick g (fun i => V (Proc.devRef .tc main_v63) (ix3 r i x)) (fun i => V (Proc.devRef .tc main_v64) (ix3 r i x))
    (fun i => V (Proc.devRef .tc main_v65) (ix3 r i x)) (fun i => V (Proc.devRef .tc main_v66) (ix3 r i x))

theorem v70_raw (r : Fin 8192) (c : Fin 512) : after segD V (Proc.devRef .tc main_v70) (ix2 r c)
    = (∑ x, argWP V (grp c) x (lane c) * stacked V r x (grp c) : EReal) := by
  after_reads_at
  refine Finset.sum_congr (M := EReal) rfl fun x _ => congrArg₂ (HMul.hMul (α := EReal)) rfl ?_
  exact pick (grp c) (fun i => V (Proc.devRef .tc main_v63) (ix3 r i x)) (fun i => V (Proc.devRef .tc main_v64) (ix3 r i x))
    (fun i => V (Proc.devRef .tc main_v65) (ix3 r i x)) (fun i => V (Proc.devRef .tc main_v66) (ix3 r i x))

theorem v73_raw (r : Fin 8192) (c : Fin 512) : after segD V (Proc.devRef .tc main_v73) (ix2 r c)
    = mixedOf (after segD V) r c * argPS V c := by
  unfold mixedOf; rw [v70_raw]
  after_reads_at
  refine congrArg₂ (HMul.hMul (α := EReal)) (Finset.sum_congr (M := EReal) rfl fun x _ => congrArg₂ (HMul.hMul (α := EReal)) rfl ?_) rfl
  exact pick (grp c) (fun i => V (Proc.devRef .tc main_v63) (ix3 r i x)) (fun i => V (Proc.devRef .tc main_v64) (ix3 r i x))
    (fun i => V (Proc.devRef .tc main_v65) (ix3 r i x)) (fun i => V (Proc.devRef .tc main_v66) (ix3 r i x))

theorem v71_raw (c : Fin 512) : after segD V (Proc.devRef .tc main_v71) (ix2 0 c) = argPS V c := by after_reads_at

/-- The means leave the arguments as they were. -/
theorem keep2 : st2 V (Proc.devRef .tc main_arg0) = V (Proc.devRef .tc main_arg0) ∧ st2 V (Proc.devRef .tc main_arg1) = V (Proc.devRef .tc main_arg1)
    ∧ st2 V (Proc.devRef .tc main_arg2) = V (Proc.devRef .tc main_arg2) ∧ st2 V (Proc.devRef .tc main_arg3) = V (Proc.devRef .tc main_arg3)
    ∧ st2 V (Proc.devRef .tc main_arg4) = V (Proc.devRef .tc main_arg4) ∧ st2 V (Proc.devRef .tc main_arg5) = V (Proc.devRef .tc main_arg5) := by
  refine ⟨?_, ?_, ?_, ?_, ?_, ?_⟩ <;> after_reads_simp

/-- The mixing leaves the arguments the gate reads, and the counts, as they were. -/
theorem keepD : after segD V (Proc.devRef .tc main_arg0) = V (Proc.devRef .tc main_arg0) ∧ after segD V (Proc.devRef .tc main_arg1) = V (Proc.devRef .tc main_arg1)
    ∧ after segD V (Proc.devRef .tc main_arg2) = V (Proc.devRef .tc main_arg2) ∧ after segD V (Proc.devRef .tc main_arg3) = V (Proc.devRef .tc main_arg3)
    ∧ after segD V (Proc.devRef .tc main_arg5) = V (Proc.devRef .tc main_arg5)
    ∧ after segD V (Proc.devRef .tc main_v15) = V (Proc.devRef .tc main_v15) ∧ after segD V (Proc.devRef .tc main_v29) = V (Proc.devRef .tc main_v29)
    ∧ after segD V (Proc.devRef .tc main_v43) = V (Proc.devRef .tc main_v43) ∧ after segD V (Proc.devRef .tc main_v57) = V (Proc.devRef .tc main_v57) := by
  refine ⟨?_, ?_, ?_, ?_, ?_, ?_, ?_, ?_, ?_⟩ <;> after_reads_simp

theorem v75_raw (r : Fin 8192) (e : Fin 1024) : after segE V (Proc.devRef .tc main_v75) (ix2 r e)
    = GateOut.both (fun r c => V (Proc.devRef .tc main_v73) (ix2 r c)) (argYS V) r e := by
  after_reads_at; rfl
theorem v74_raw (r : Fin 8192) (e : Fin 1024) : after segE V (Proc.devRef .tc main_v74) (ix2 r e) = argZ V r e := by after_reads_at

/-- The joining and the gate leave the cotangent and the weight as they were, the gate what was joined. -/
theorem keepEF : after segF (after segE V) (Proc.devRef .tc main_arg0) = V (Proc.devRef .tc main_arg0)
    ∧ after segF (after segE V) (Proc.devRef .tc main_arg5) = V (Proc.devRef .tc main_arg5)
    ∧ after segF V (Proc.devRef .tc main_v74) = V (Proc.devRef .tc main_v74) ∧ after segF V (Proc.devRef .tc main_v75) = V (Proc.devRef .tc main_v75) := by
  refine ⟨?_, ?_, ?_, ?_⟩ <;> after_reads_simp

/-- The sigmoid as the reference writes it. -/
theorem sig_one (y : EReal) : Ideal.div 1 (1 + Ideal.exp (-y)) = Gate.sig y := by
  unfold Gate.sig; rw [Gate.one_eq, EReal.coe_one]

section
variable (r : Fin 8192) (e : Fin 1024)
theorem v76_0_raw : after segF V (Proc.devRef .tc main_v76_0) (ix2 r e) = Gate.silu (zOf V r e) := by
  unfold Gate.silu; rw [← sig_one]; after_reads_at
theorem v76_2_raw : after segF V (Proc.devRef .tc main_v76_2) (ix2 r e) = Gate.sig (zOf V r e) := by
  rw [← sig_one]; after_reads_at
theorem v76_1_raw : after segF V (Proc.devRef .tc main_v76_1) (ix2 r e)
    = Gate.sig (zOf V r e) * (Gate.one - Gate.sig (zOf V r e)) := by
  rw [← sig_one, Gate.one_eq, EReal.coe_one]; after_reads_at
theorem v83_raw : after segG V (Proc.devRef .tc main_v83) (ix2 r e) = NormOut.dy (argDX V) (argW V) r e * siluOf V r e := by
  unfold NormOut.dy; after_reads_at
theorem v82_raw : after segG V (Proc.devRef .tc main_v82) (ix2 r e) = bothOf V r e * NormOut.dy (argDX V) (argW V) r e := by
  unfold NormOut.dy; after_reads_at
theorem v84_raw : after segH V (Proc.devRef .tc main_v84) (ix2 r e)
    = ctOf V r e * sigOf V r e + zOf V r e * ctOf V r e * slopeOf V r e := by
  after_reads_at
end

theorem v80_raw (d e : Fin 1024) : after segG V (Proc.devRef .tc main_v80) (ix2 d e)
    = (∑ s : Fin 8192, argDX V s e * (bothOf V s d * siluOf V s d) : EReal) := by
  after_reads_at

/-- The gate's products leave its values as they were. -/
theorem keepG : after segG V (Proc.devRef .tc main_v74) = V (Proc.devRef .tc main_v74) ∧ after segG V (Proc.devRef .tc main_v76_1) = V (Proc.devRef .tc main_v76_1)
    ∧ after segG V (Proc.devRef .tc main_v76_2) = V (Proc.devRef .tc main_v76_2) := by
  refine ⟨?_, ?_, ?_⟩ <;> after_reads_simp

/-- The gate's derivative leaves the products as they were. -/
theorem keepH : after segH V (Proc.devRef .tc main_v83) = V (Proc.devRef .tc main_v83) ∧ after segH V (Proc.devRef .tc main_v80) = V (Proc.devRef .tc main_v80) := by
  refine ⟨?_, ?_⟩ <;> after_reads_simp

/-- From the joining to the gate's derivative the mixing's values, the counts and the mixing's weight stay as they were. -/
theorem keepEH : after segH (after segG (after segF (after segE V))) (Proc.devRef .tc main_v67) = V (Proc.devRef .tc main_v67)
    ∧ after segH (after segG (after segF (after segE V))) (Proc.devRef .tc main_v70) = V (Proc.devRef .tc main_v70)
    ∧ after segH (after segG (after segF (after segE V))) (Proc.devRef .tc main_v71) = V (Proc.devRef .tc main_v71)
    ∧ after segH (after segG (after segF (after segE V))) (Proc.devRef .tc main_arg3) = V (Proc.devRef .tc main_arg3)
    ∧ after segH (after segG (after segF (after segE V))) (Proc.devRef .tc main_v15) = V (Proc.devRef .tc main_v15)
    ∧ after segH (after segG (after segF (after segE V))) (Proc.devRef .tc main_v29) = V (Proc.devRef .tc main_v29)
    ∧ after segH (after segG (after segF (after segE V))) (Proc.devRef .tc main_v43) = V (Proc.devRef .tc main_v43)
    ∧ after segH (after segG (after segF (after segE V))) (Proc.devRef .tc main_v57) = V (Proc.devRef .tc main_v57) := by
  refine ⟨?_, ?_, ?_, ?_, ?_, ?_, ?_, ?_⟩ <;> after_reads_simp

/-! The way back to the means. -/

theorem slot (g : Fin 4) (l : Fin 128) (h : g.val * 128 + l.val < 512) : (⟨g.val * 128 + l.val, h⟩ : Fin 512) = col g l :=
  Fin.ext (by show g.val * 128 + l.val = 128 * g.val + l.val; omega)

/-- A column of the first half among all. -/
abbrev left (c : Fin 512) : Fin 1024 := ⟨c.val, by have := c.isLt; omega⟩

theorem slot_left (g : Fin 4) (l : Fin 128) (h : g.val * 128 + l.val < 1024) : (⟨g.val * 128 + l.val, h⟩ : Fin 1024) = left (col g l) :=
  Fin.ext (by show g.val * 128 + l.val = 128 * g.val + l.val; omega)

theorem v92_raw (c : Fin 512) : after segI V (Proc.devRef .tc main_v92) (ix1 c) = (∑ r : Fin 8192, mixedOf V r c * dyOf V r (left c) : EReal) := by
  after_reads_at
  exact Fin.sum_univ_one (M := EReal) _

theorem v96_raw (r : Fin 8192) (g : Fin 4) (k : Fin 128) : after segI V (Proc.devRef .tc main_v96) (ix3 r g k)
    = (∑ l, dyOf V r (left (col g l)) * scaleOf V (col g l) * argWP V g k l : EReal) := by
  after_reads_at
  exact Finset.sum_congr (M := EReal) rfl fun l _ => by rw [slot_left, slot]

theorem v98_raw (g : Fin 4) (k l : Fin 128) : after segI V (Proc.devRef .tc main_v98) (ix3 g k l)
    = (∑ r : Fin 8192, dyOf V r (left (col g l)) * scaleOf V (col g l) * meansOf V r g k : EReal) := by
  after_reads_at
  exact Finset.sum_congr (M := EReal) rfl fun r _ => by rw [slot_left, slot]

theorem v85_raw (r : Fin 8192) (c : Fin 512) : after segI V (Proc.devRef .tc main_v85) (ix2 r c) = dyOf V r (left c) := by after_reads_at
theorem v86_raw (r : Fin 8192) (c : Fin 512) : after segI V (Proc.devRef .tc main_v86) (ix2 r c)
    = dyOf V r ⟨512 + c.val, by have := c.isLt; omega⟩ := by after_reads_at

theorem keepI : after segI V (Proc.devRef .tc main_v15) = V (Proc.devRef .tc main_v15) ∧ after segI V (Proc.devRef .tc main_v29) = V (Proc.devRef .tc main_v29)
    ∧ after segI V (Proc.devRef .tc main_v43) = V (Proc.devRef .tc main_v43) ∧ after segI V (Proc.devRef .tc main_v57) = V (Proc.devRef .tc main_v57) := by
  refine ⟨?_, ?_, ?_, ?_⟩ <;> after_reads_simp

/-! The way back through each group's mean. -/

/-- A quotient less the one `w` rows on, where there is one. -/
theorem step_eq (D : Fin 8192 → EReal) (C : Fin 8192 → EReal) (q : ℕ → EReal) (w : ℕ) (hq : ∀ r : Fin 8192, Ideal.div (D r) (C r) = q r.val)
    (h0 : ∀ i, 8192 ≤ i → q i = 0) (k : ℕ) (hk : k + w = 8192) (r : Fin 8192) :
    (Ideal.div (D r) (C r) + (if h : r.val < k then -Ideal.div (D ⟨w + r.val, by omega⟩) (C ⟨w + r.val, by omega⟩) else 0))
      = q r.val + -q (r.val + w) := by
  rw [hq r]
  congr 1
  split
  · rw [hq]; exact congrArg (fun i => -q i) (Nat.add_comm w r.val)
  · rw [h0 _ (by omega), neg_zero]

section
variable (r : Fin 8192) (k : Fin 128)
theorem v150_0 : after segJ V (Proc.devRef .tc main_v150) (ix3 r 0 k) = -dpoolOf V r 0 k := by after_reads_at
theorem v160_0 (q : ℕ → EReal) (hq : ∀ r : Fin 8192, Ideal.div (dpoolOf V r 0 k) (V (Proc.devRef .tc main_v15) (ix2 r 0)) = q r.val)
    (h0 : ∀ i, 8192 ≤ i → q i = 0) : after segJ V (Proc.devRef .tc main_v160) (ix3 r 0 k) = q r.val + -q (r.val + wid 0) := by
  after_reads_at
  exact step_eq (fun r => dpoolOf V r 0 k) (fun r => V (Proc.devRef .tc main_v15) (ix2 r 0)) q (wid 0) hq h0 8190 rfl r
theorem v150_1 : after segJ V (Proc.devRef .tc main_v150) (ix3 r 1 k) = -dpoolOf V r 1 k := by after_reads_at
theorem v160_1 (q : ℕ → EReal) (hq : ∀ r : Fin 8192, Ideal.div (dpoolOf V r 1 k) (V (Proc.devRef .tc main_v29) (ix2 r 0)) = q r.val)
    (h0 : ∀ i, 8192 ≤ i → q i = 0) : after segJ V (Proc.devRef .tc main_v160) (ix3 r 1 k) = q r.val + -q (r.val + wid 1) := by
  after_reads_at
  exact step_eq (fun r => dpoolOf V r 1 k) (fun r => V (Proc.devRef .tc main_v29) (ix2 r 0)) q (wid 1) hq h0 8188 rfl r
theorem v150_2 : after segJ V (Proc.devRef .tc main_v150) (ix3 r 2 k) = -dpoolOf V r 2 k := by after_reads_at
theorem v160_2 (q : ℕ → EReal) (hq : ∀ r : Fin 8192, Ideal.div (dpoolOf V r 2 k) (V (Proc.devRef .tc main_v43) (ix2 r 0)) = q r.val)
    (h0 : ∀ i, 8192 ≤ i → q i = 0) : after segJ V (Proc.devRef .tc main_v160) (ix3 r 2 k) = q r.val + -q (r.val + wid 2) := by
  after_reads_at
  exact step_eq (fun r => dpoolOf V r 2 k) (fun r => V (Proc.devRef .tc main_v43) (ix2 r 0)) q (wid 2) hq h0 8184 rfl r
theorem v150_3 : after segJ V (Proc.devRef .tc main_v150) (ix3 r 3 k) = -dpoolOf V r 3 k := by after_reads_at
theorem v160_3 (q : ℕ → EReal) (hq : ∀ r : Fin 8192, Ideal.div (dpoolOf V r 3 k) (V (Proc.devRef .tc main_v57) (ix2 r 0)) = q r.val)
    (h0 : ∀ i, 8192 ≤ i → q i = 0) : after segJ V (Proc.devRef .tc main_v160) (ix3 r 3 k) = q r.val + -q (r.val + wid 3) := by
  after_reads_at
  exact step_eq (fun r => dpoolOf V r 3 k) (fun r => V (Proc.devRef .tc main_v57) (ix2 r 0)) q (wid 3) hq h0 8176 rfl r
end

theorem v150_raw (r : Fin 8192) (g : Fin 4) (k : Fin 128) : after segJ V (Proc.devRef .tc main_v150) (ix3 r g k) = -dpoolOf V r g k :=
  match g with
  | 0 => v150_0 V r k
  | 1 => v150_1 V r k
  | 2 => v150_2 V r k
  | 3 => v150_3 V r k

/-- The numbers of rows, by the group. -/
abbrev countOf (r : Fin 8192) : Fin 4 → EReal :=
  four (V (Proc.devRef .tc main_v15) (ix2 r 0)) (V (Proc.devRef .tc main_v29) (ix2 r 0)) (V (Proc.devRef .tc main_v43) (ix2 r 0))
    (V (Proc.devRef .tc main_v57) (ix2 r 0))

theorem v160_raw (r : Fin 8192) (g : Fin 4) (k : Fin 128) (q : ℕ → EReal)
    (hq : ∀ r : Fin 8192, Ideal.div (dpoolOf V r g k) (countOf V r g) = q r.val) (h0 : ∀ i, 8192 ≤ i → q i = 0) :
    after segJ V (Proc.devRef .tc main_v160) (ix3 r g k) = q r.val + -q (r.val + wid g) :=
  match g with
  | 0 => v160_0 V r k q hq h0
  | 1 => v160_1 V r k q hq h0
  | 2 => v160_2 V r k q hq h0
  | 3 => v160_3 V r k q hq h0

theorem keepK : after segK V (Proc.devRef .tc main_v150) = V (Proc.devRef .tc main_v150) := by after_reads_simp

/-! The results. -/

theorem v165_raw (r : Fin 8192) (e : Fin 1024) : after segL (after segK (after segJ (after segI V))) (Proc.devRef .tc main_v165) (ix2 r e) = dyOf V r e := by
  have h1 : after segK (after segJ (after segI V)) (Proc.devRef .tc main_v85) = after segI V (Proc.devRef .tc main_v85) := by after_reads_simp
  have h2 : after segK (after segJ (after segI V)) (Proc.devRef .tc main_v86) = after segI V (Proc.devRef .tc main_v86) := by after_reads_simp
  have h3 := v85_raw V
  have h4 := v86_raw V
  rw [← h1] at h3
  rw [← h2] at h4
  generalize after segK (after segJ (after segI V)) = X at h3 h4 ⊢
  after_reads_at
  split
  · next h => after_reads_at; exact h3 r ⟨e.val, h⟩
  · next h =>
    after_reads_at
    refine (h4 r ⟨e.val - 512, by omega⟩).trans ?_
    congr 1
    exact Fin.ext (by show 512 + (e.val - 512) = e.val; omega)

theorem v166_raw (r : Fin 8192) (e : Fin 1024) : after segL (after segK (after segJ (after segI V))) (Proc.devRef .tc main_v166) (ix2 r e)
    = V (Proc.devRef .tc main_v84) (ix2 r e) := by
  have h1 : after segK (after segJ (after segI V)) (Proc.devRef .tc main_v84) = V (Proc.devRef .tc main_v84) := by after_reads_simp
  rw [← h1]
  generalize after segK (after segJ (after segI V)) = X
  after_reads_at

theorem v167_raw (r : Fin 8192) (c : Fin 512) : after segL V (Proc.devRef .tc main_v167) (ix2 r c)
    = negOf V r (grp c) (lane c) + sumOf V r (grp c) (lane c) := by
  after_reads_at; rfl

theorem v168_raw (c : Fin 512) : after segL (after segK (after segJ (after segI V))) (Proc.devRef .tc main_v168) (ix2 0 c)
    = (∑ r : Fin 8192, mixedOf V r c * dyOf V r (left c) : EReal) := by
  have h1 : after segK (after segJ (after segI V)) (Proc.devRef .tc main_v92) = after segI V (Proc.devRef .tc main_v92) := by after_reads_simp
  rw [← v92_raw, ← h1]
  generalize after segK (after segJ (after segI V)) = X
  after_reads_at

theorem keepEnd : after segL (after segK (after segJ (after segI V))) (Proc.devRef .tc main_v80) = V (Proc.devRef .tc main_v80)
    ∧ after segL (after segK (after segJ (after segI V))) (Proc.devRef .tc main_v98) = after segI V (Proc.devRef .tc main_v98) := by
  refine ⟨?_, ?_⟩ <;> after_reads_simp

/-! What each value holds, from the arguments. -/

/-- The first half's rows, and their cotangent. -/
abbrev argYP (r : Fin 8192) (c : Fin 512) : EReal := out (argU V) (argWP V) (argPS V) r c
abbrev argDY (r : Fin 8192) (c : Fin 512) : EReal := GateOut.dyFirst (argDX V) (argZ V) (argW V) r c

/-- All arguments are finite. -/
structure Finites (V : Valuation τ sig (Elt Ideal)) : Prop where
  dx : ∀ s e, IsReal (argDX V s e)
  u : ∀ r j, IsReal (argU V r j)
  z : ∀ r j, IsReal (argZ V r j)
  ys : ∀ r j, IsReal (argYS V r j)
  wp : ∀ g k l, IsReal (argWP V g k l)
  ps : ∀ j, IsReal (argPS V j)
  w : ∀ d e, IsReal (argW V d e)

section
variable (hU : ∀ r j, IsReal (argU V r j))
include hU

theorem means_at (r : Fin 8192) (g : Fin 4) (k : Fin 128) : meansOf (st3 V) r g k = pooled (argU V) g r k := by
  refine (v67_raw (st2 V) r g k).trans ?_
  unfold stacked
  rw [v63_at V hU, v64_at V hU, v65_at V hU, v66_at V hU, four_pooled]

theorem mixed_at (r : Fin 8192) (c : Fin 512) : mixedOf (st3 V) r c = mixed (argU V) (argWP V) (grp c) r (lane c) := by
  refine (v70_raw (st2 V) r c).trans (Finset.sum_congr (M := EReal) rfl fun k _ => ?_)
  unfold stacked argWP
  rw [v63_at V hU, v64_at V hU, v65_at V hU, v66_at V hU, four_pooled, (keep2 V).2.2.2.1]
  exact mul_comm (G := EReal) _ _

theorem half_at (r : Fin 8192) (c : Fin 512) : st3 V (Proc.devRef .tc main_v73) (ix2 r c) = argYP V r c := by
  refine (v73_raw (st2 V) r c).trans ?_
  rw [mixed_at V hU]
  unfold argPS
  rw [(keep2 V).2.2.2.2.1]
  rfl

theorem both_at (r : Fin 8192) (e : Fin 1024) : bothOf (st4 V) r e = GateOut.both (argYP V) (argYS V) r e := by
  refine (congrFun (keepEF (after segE (st3 V))).2.2.2 _).trans ((v75_raw (st3 V) r e).trans ?_)
  have h1 : (fun r c => st3 V (Proc.devRef .tc main_v73) (ix2 r c)) = argYP V := funext₂ fun r c => half_at V hU r c
  have h2 : argYS (st3 V) = argYS V := funext₂ fun r j => (congrFun (keepD (st2 V)).2.2.1 _).trans (congrFun (keep2 V).2.2.1 _)
  rw [h2]
  exact congrArg (fun f => GateOut.both f (argYS V) r e) h1
end

section
variable (r : Fin 8192) (e : Fin 1024)

theorem z_at : zOf (st4 V) r e = argZ V r e :=
  (congrFun (keepEF (after segE (st3 V))).2.2.1 _).trans ((v74_raw (st3 V) r e).trans
    ((congrFun (keepD (st2 V)).2.1 _).trans (congrFun (keep2 V).2.1 _)))

theorem zE_at : zOf (after segE (st3 V)) r e = argZ V r e :=
  (v74_raw (st3 V) r e).trans ((congrFun (keepD (st2 V)).2.1 _).trans (congrFun (keep2 V).2.1 _))

theorem silu_at : siluOf (st4 V) r e = Gate.silu (argZ V r e) := by
  refine (v76_0_raw (after segE (st3 V)) r e).trans ?_; rw [zE_at]
theorem sig_at : sigOf (st4 V) r e = Gate.sig (argZ V r e) := by
  refine (v76_2_raw (after segE (st3 V)) r e).trans ?_; rw [zE_at]
theorem slope_at : slopeOf (st4 V) r e = Gate.sig (argZ V r e) * (Gate.one - Gate.sig (argZ V r e)) := by
  refine (v76_1_raw (after segE (st3 V)) r e).trans ?_; rw [zE_at]

theorem dx_at : argDX (st4 V) = argDX V := funext₂ fun _ _ =>
  (congrFun (keepEF (st3 V)).1 _).trans ((congrFun (keepD (st2 V)).1 _).trans (congrFun (keep2 V).1 _))
theorem w_at : argW (st4 V) = argW V := funext₂ fun _ _ =>
  (congrFun (keepEF (st3 V)).2.1 _).trans ((congrFun (keepD (st2 V)).2.2.2.2.1 _).trans (congrFun (keep2 V).2.2.2.2.2 _))

theorem dy_at : dyOf (st5 V) r e = GateOut.dy (argDX V) (argZ V) (argW V) r e := by
  refine (v83_raw (st4 V) r e).trans ?_
  rw [dx_at, w_at, silu_at]; rfl

theorem ct_at (hU : ∀ r j, IsReal (argU V r j)) : ctOf (st5 V) r e
    = GateOut.both (argYP V) (argYS V) r e * NormOut.dy (argDX V) (argW V) r e := by
  refine (v82_raw (st4 V) r e).trans ?_
  rw [dx_at, w_at, both_at V hU]

theorem dz_at (h : Finites V) : st6 V (Proc.devRef .tc main_v84) (ix2 r e)
    = GateOut.dz (argDX V) (argYP V) (argYS V) (argZ V) (argW V) r e := by
  refine (v84_raw (st5 V) r e).trans ?_
  have h1 : zOf (st5 V) r e = argZ V r e := (congrFun (keepG (st4 V)).1 _).trans (z_at V r e)
  have h2 : slopeOf (st5 V) r e = _ := (congrFun (keepG (st4 V)).2.1 _).trans (slope_at V r e)
  have h3 : sigOf (st5 V) r e = _ := (congrFun (keepG (st4 V)).2.2 _).trans (sig_at V r e)
  rw [h1, h2, h3, ct_at V r e h.u]
  exact GateOut.dz_rule (argDX V) (argYP V) (argYS V) (argZ V) (argW V) h.dx
    (fun r c => isReal_out (argU V) (argWP V) (argPS V) h.u h.wp h.ps r c) h.ys h.z h.w r e
end

theorem dw_at (hU : ∀ r j, IsReal (argU V r j)) (d e : Fin 1024) : st6 V (Proc.devRef .tc main_v80) (ix2 d e)
    = GateOut.dw (argDX V) (argYP V) (argYS V) (argZ V) d e := by
  refine (congrFun (keepH (st5 V)).2 _).trans ((v80_raw (st4 V) d e).trans (Finset.sum_congr (M := EReal) rfl fun s _ => ?_))
  rw [dx_at, both_at V hU, silu_at]
  exact mul_comm (G := EReal) _ _

theorem half_dy_at (r : Fin 8192) (c : Fin 512) : dyOf (st6 V) r (left c) = argDY V r c :=
  (congrFun (keepH (st5 V)).1 _).trans (dy_at V r (left c))

theorem scale_at (c : Fin 512) : scaleOf (st6 V) c = argPS V c :=
  (congrFun (keepEH (st3 V)).2.2.1 _).trans ((v71_raw (st2 V) c).trans (congrFun (keep2 V).2.2.2.2.1 _))

theorem dmix_at (r : Fin 8192) (g : Fin 4) (l : Fin 128) :
    dyOf (st6 V) r (left (col g l)) * scaleOf (st6 V) (col g l) = dmix (argDY V) (argPS V) g r.val l := by
  rw [half_dy_at, scale_at]
  unfold dmix
  rw [tail_lt (fun i => argDY V i (col g l)) r]

theorem dpool_at (r : Fin 8192) (g : Fin 4) (k : Fin 128) : dpoolOf (st7 V) r g k = dpool (argDY V) (argWP V) (argPS V) g r.val k := by
  refine (v96_raw (st6 V) r g k).trans (Finset.sum_congr (M := EReal) rfl fun l _ => ?_)
  rw [dmix_at]
  exact congrArg (HMul.hMul (α := EReal) _) ((congrFun (keepEH (st3 V)).2.2.2.1 _).trans ((congrFun (keepD (st2 V)).2.2.2.1 _).trans (congrFun (keep2 V).2.2.2.1 _)))

theorem count_at (r : Fin 8192) (g : Fin 4) : countOf (st7 V) r g = cnt g r.val :=
  match g with
  | 0 => (congrFun (keepI (st6 V)).1 _).trans ((congrFun (keepEH (st3 V)).2.2.2.2.1 _).trans ((congrFun (keepD (st2 V)).2.2.2.2.2.1 _).trans (v15_at V r)))
  | 1 => (congrFun (keepI (st6 V)).2.1 _).trans ((congrFun (keepEH (st3 V)).2.2.2.2.2.1 _).trans ((congrFun (keepD (st2 V)).2.2.2.2.2.2.1 _).trans (v29_at V r)))
  | 2 => (congrFun (keepI (st6 V)).2.2.1 _).trans ((congrFun (keepEH (st3 V)).2.2.2.2.2.2.1 _).trans ((congrFun (keepD (st2 V)).2.2.2.2.2.2.2.1 _).trans (v43_at V r)))
  | 3 => (congrFun (keepI (st6 V)).2.2.2 _).trans ((congrFun (keepEH (st3 V)).2.2.2.2.2.2.2 _).trans ((congrFun (keepD (st2 V)).2.2.2.2.2.2.2.2 _).trans (v57_at V r)))

/-- The sum from the end is the windows' sum ahead. -/
theorem lead_at (h : Finites V) (r : Fin 8192) (g : Fin 4) (k : Fin 128) :
    sumOf (st9 V) r g k = lead (quot (argDY V) (argWP V) (argPS V) g k) (wid g) r.val := by
  have hDY : ∀ r c, IsReal (argDY V r c) := fun r c => GateOut.isReal_dy (argDX V) (argZ V) (argW V) h.dx h.z h.w r _
  have hp := quot_past (n := 8192) (argDY V) (argWP V) (argPS V) g k
  refine (v161_raw (st8 V) r g k).trans (Eq.trans ?_
    (rev_diff (isReal_quot (argDY V) (argWP V) (argPS V) hDY h.wp h.ps g k) hp (wid g) r.val r.isLt))
  rw [← Fin.sum_univ_eq_sum_range (fun i => if r.val ≤ i then quot (argDY V) (argWP V) (argPS V) g k i + -quot (argDY V) (argWP V) (argPS V) g k (i + wid g) else 0) 8192]
  refine Finset.sum_congr (M := EReal) rfl fun i _ => ?_
  split
  · exact v160_raw (st7 V) i g k _ (fun r => by rw [dpool_at, count_at]; rfl) hp
  · rfl

theorem du_at (h : Finites V) (r : Fin 8192) (c : Fin 512) : after segL (st9 V) (Proc.devRef .tc main_v167) (ix2 r c)
    = du (argDY V) (argWP V) (argPS V) (grp c) r (lane c) := by
  refine (v167_raw (st9 V) r c).trans ?_
  have h1 : negOf (st9 V) r (grp c) (lane c) = -dpool (argDY V) (argWP V) (argPS V) (grp c) r.val (lane c) :=
    (congrFun (keepK (st8 V)) _).trans ((v150_raw (st7 V) r (grp c) (lane c)).trans (congrArg (Neg.neg (α := EReal)) (dpool_at V r (grp c) (lane c))))
  rw [h1, lead_at V h, add_comm]
  unfold du
  rw [sub_eq_add_neg (G := EReal)]

theorem dwp_at (hU : ∀ r j, IsReal (argU V r j)) (g : Fin 4) (k l : Fin 128) : after segL (st9 V) (Proc.devRef .tc main_v98) (ix3 g k l)
    = dwp (argU V) (argDY V) (argPS V) g k l := by
  refine (congrFun (keepEnd (st6 V)).2 _).trans ((v98_raw (st6 V) g k l).trans (Finset.sum_congr (M := EReal) rfl fun r _ => ?_))
  have h1 : meansOf (st6 V) r g k = pooled (argU V) g r k := (congrFun (keepEH (st3 V)).1 _).trans (means_at V hU r g k)
  rw [dmix_at, h1]
  exact mul_comm (G := EReal) _ _

theorem dps_at (hU : ∀ r j, IsReal (argU V r j)) (c : Fin 512) : after segL (st9 V) (Proc.devRef .tc main_v168) (ix2 0 c)
    = dps (argU V) (argDY V) (argWP V) (grp c) (lane c) := by
  refine (v168_raw (st6 V) c).trans (Finset.sum_congr (M := EReal) rfl fun r _ => ?_)
  have h1 : mixedOf (st6 V) r c = _ := (congrFun (keepEH (st3 V)).2.1 _).trans (mixed_at V hU r c)
  rw [half_dy_at, h1, col_grp]
  exact mul_comm (G := EReal) _ _

theorem idx3 {a b c : ℕ} (y : (⟨3, ![a, b, c]⟩ : Shape).Idx) : y = ix3 (y 0) (y 1) (y 2) := by ext k; fin_cases k <;> rfl
theorem idx2 {a b : ℕ} (y : (⟨2, ![a, b]⟩ : Shape).Idx) : y = ix2 (y 0) (y 1) := by ext k; fin_cases k <;> rfl
theorem idx1 {b : ℕ} (y : (⟨2, ![1, b]⟩ : Shape).Idx) : y = ix2 0 (y 1) := by
  ext k; fin_cases k
  · exact congrArg Fin.val (Subsingleton.elim (α := Fin 1) (y 0) 0)
  · rfl

/-- The reference writes none of its arguments. -/
theorem args_keep : after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5) := by
  rw [after_ops]
  refine ⟨?_, ?_, ?_, ?_, ?_, ?_⟩ <;> after_reads_simp

/-- On finite arguments the reference leaves the six gradients and its arguments as they were. -/
theorem run (m : (ℓ : Loc nD τ sig) → Buf (Elt Ideal) ℓ) (g : Dev nD → PrngReg) (h : ∀ c, Finites (launchContents m c)) :
    θ_run defs (onTc (τ := τ) (main (F := Ideal))) ⟨m, fun _ => 0, g⟩ fun r => ∀ c : Dev nD,
      r.2.mem ((c.tc : Thread nD τ).loc main_v165) = (fun y : S8192x1024.Idx => GateOut.dy (argDX (launchContents m c)) (argZ (launchContents m c)) (argW (launchContents m c)) (y 0) (y 1))
      ∧ r.2.mem ((c.tc : Thread nD τ).loc main_v166) = (fun y : S8192x1024.Idx => GateOut.dz (argDX (launchContents m c)) (argYP (launchContents m c)) (argYS (launchContents m c)) (argZ (launchContents m c)) (argW (launchContents m c)) (y 0) (y 1))
      ∧ r.2.mem ((c.tc : Thread nD τ).loc main_v80) = (fun y : S1024x1024.Idx => GateOut.dw (argDX (launchContents m c)) (argYP (launchContents m c)) (argYS (launchContents m c)) (argZ (launchContents m c)) (y 0) (y 1))
      ∧ r.2.mem ((c.tc : Thread nD τ).loc main_v167) = (fun y : S8192x512.Idx => du (argDY (launchContents m c)) (argWP (launchContents m c)) (argPS (launchContents m c)) (grp (y 1)) (y 0) (lane (y 1)))
      ∧ r.2.mem ((c.tc : Thread nD τ).loc main_v98) = (fun y : S4x128x128.Idx => dwp (argU (launchContents m c)) (argDY (launchContents m c)) (argPS (launchContents m c)) (y 0) (y 1) (y 2))
      ∧ r.2.mem ((c.tc : Thread nD τ).loc main_v168) = (fun y : S1x512.Idx => dps (argU (launchContents m c)) (argDY (launchContents m c)) (argWP (launchContents m c)) (grp (y 1)) (lane (y 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ?_) (ran m g)
  have hc := h c
  simp only [hr c]
  refine ⟨funext fun y => ?_, funext fun y => ?_, funext fun y => ?_, funext fun y => ?_, funext fun y => ?_, funext fun y => ?_, args_keep _⟩
  all_goals generalize launchContents m c = V at *
  all_goals rw [after_ops]
  · exact (congrArg _ (idx2 y)).trans ((v165_raw (st6 V) (y 0) (y 1)).trans ((congrFun (keepH (st5 V)).1 _).trans (dy_at V (y 0) (y 1))))
  · exact (congrArg _ (idx2 y)).trans ((v166_raw (st6 V) (y 0) (y 1)).trans (dz_at V (y 0) (y 1) hc))
  · exact (congrArg _ (idx2 y)).trans ((congrFun (keepEnd (st6 V)).1 _).trans (dw_at V hc.u (y 0) (y 1)))
  · exact (congrArg _ (idx2 y)).trans (du_at V hc (y 0) (y 1))
  · exact (congrArg _ (idx3 y)).trans (dwp_at V hc.u (y 0) (y 1) (y 2))
  · exact (congrArg _ (idx1 y)).trans (dps_at V hc.u (y 1))

end Cert.EvenOutRefIdeal.Gradient

end
-- ==== Proof.EvenOutClaim.lean ====
/- The kernel's six gradients of the gated pool are the derivative's, on finite arguments. -/
module

public import proofs.«01_k».proof.Defs
public import proofs.«01_k».proof.Proof.EvenOutFinal
public import proofs.«01_k».proof.Proof.EvenOutRefValue
public import proofs.«01_k».proof.Proof.Gen.EvenOutIdeal
public import proofs.«01_k».proof.Proof.Gen.EvenOutRefIdeal

@[expose] public section

set_option maxRecDepth 16384

noncomputable section

namespace Cert.EvenOutIdeal

open Idealize.ShloMosaic Idealize.ShloMosaic.TcCoe Idealize.SL.Sem Cert.EvenOutIdeal.Gen

/-- On any arguments the kernel leaves the six gradients and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v81_0) = (dats m 0 c).arrAt 10 (cfgs 0).N
      ∧ r.2.mem ((c.tc : Thread nD τ).loc main_v81_1) = (dats m 0 c).arrAt 11 (cfgs 0).N
      ∧ r.2.mem ((c.tc : Thread nD τ).loc main_v81_2) = (dats m 0 c).arrAt 12 (cfgs 0).N
      ∧ r.2.mem ((c.tc : Thread nD τ).loc main_v81_3) = (dats m 0 c).arrAt 13 (cfgs 0).N
      ∧ r.2.mem ((c.tc : Thread nD τ).loc main_v81_4) = (dats m 0 c).arrAt 14 (cfgs 0).N
      ∧ r.2.mem ((c.tc : Thread nD τ).loc main_v81_5) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 10, (h.1 c).1 11, (h.1 c).1 12, (h.1 c).1 13, (h.1 c).1 14, (h.1 c).1 15, h.2 c⟩)
    (θ_run_and (run_main m g) (unchanged m g))

end Cert.EvenOutIdeal

namespace Cert.Proof

open Idealize.ShloMosaic Idealize.SL.Sem

/-- From the same finite arguments the kernel and the reference leave the same gradients of the two halves, of the gate's argument,
    of the weight, of the pooled rows, of the groups' weights and of the scale. -/
theorem algebraic_evenOut [Cert.Pre_finite_even_out.Facts] : Cert.algebraic_EvenOutIdeal_EvenOutRefIdeal_pre_finite_even_out := by
  intro m g m' g' hpre hagree
  refine ⟨_, _, _, _, _, _, Cert.EvenOutIdeal.run m g, ?_⟩
  have eDX : ∀ c, Cert.EvenOutRefIdeal.Gradient.argDX (StableHlo.launchContents m' c) = Cert.EvenOutIdeal.Gradient.argDX m c := fun c => funext₂ fun _ _ => congrFun (hagree c).1 _
  have eU : ∀ c, Cert.EvenOutRefIdeal.Gradient.argU (StableHlo.launchContents m' c) = Cert.EvenOutIdeal.Gradient.argU m c := fun c => funext₂ fun _ _ => congrFun (hagree c).2.1 _
  have eZ : ∀ c, Cert.EvenOutRefIdeal.Gradient.argZ (StableHlo.launchContents m' c) = Cert.EvenOutIdeal.Gradient.argZ m c := fun c => funext₂ fun _ _ => congrFun (hagree c).2.1 _
  have eYS : ∀ c, Cert.EvenOutRefIdeal.Gradient.argYS (StableHlo.launchContents m' c) = Cert.EvenOutIdeal.Gradient.argYS m c := fun c => funext₂ fun _ _ => congrFun (hagree c).2.2.1 _
  have eWP : ∀ c, Cert.EvenOutRefIdeal.Gradient.argWP (StableHlo.launchContents m' c) = Cert.EvenOutIdeal.Gradient.argWP m c := fun c => funext fun _ => funext₂ fun _ _ => congrFun (hagree c).2.2.2.1 _
  have ePS : ∀ c, Cert.EvenOutRefIdeal.Gradient.argPS (StableHlo.launchContents m' c) = Cert.EvenOutIdeal.Gradient.argPS m c := fun c => funext fun _ => congrFun (hagree c).2.2.2.2.1 _
  have eW : ∀ c, Cert.EvenOutRefIdeal.Gradient.argW (StableHlo.launchContents m' c) = Cert.EvenOutIdeal.Gradient.argW m c := fun c => funext₂ fun _ _ => congrFun (hagree c).2.2.2.2.2 _
  have hf : ∀ c, Cert.EvenOutRefIdeal.Gradient.Finites (StableHlo.launchContents m' c) := fun c => by
    obtain ⟨p0, p1, p2, p3, p4, p5⟩ := hpre c
    constructor
    · intro r j; rw [eDX c]; exact Cert.Finite.isReal_of_lt _ (congrFun p0 _)
    · intro r j; rw [eU c]; exact Cert.Finite.isReal_of_lt _ (congrFun p1 _)
    · intro r j; rw [eZ c]; exact Cert.Finite.isReal_of_lt _ (congrFun p1 _)
    · intro r j; rw [eYS c]; exact Cert.Finite.isReal_of_lt _ (congrFun p2 _)
    · intro g k l; rw [eWP c]; exact Cert.Finite.isReal_of_lt _ (congrFun p3 _)
    · intro j; rw [ePS c]; exact Cert.Finite.isReal_of_lt _ (congrFun p4 _)
    · intro r j; rw [eW c]; exact Cert.Finite.isReal_of_lt _ (congrFun p5 _)
  refine (θ_run _ _ _).mono (fun r hr c => ?_) (Cert.EvenOutRefIdeal.Gradient.run m' g' hf)
  obtain ⟨r0, r1, r2, r3, r4, r5, ra⟩ := hr c
  have hU : ∀ r j, Cert.Finite.IsReal (Cert.EvenOutIdeal.Gradient.argU m c r j) := by rw [← eU c]; exact (hf c).u
  have eYP : Cert.EvenOutRefIdeal.Gradient.argYP (StableHlo.launchContents m' c) = Cert.EvenOutIdeal.Gradient.argYP m c := by
    unfold Cert.EvenOutRefIdeal.Gradient.argYP Cert.EvenOutIdeal.Gradient.argYP; rw [eU c, eWP c, ePS c]
  have eDY : Cert.EvenOutRefIdeal.Gradient.argDY (StableHlo.launchContents m' c) = Cert.EvenOutIdeal.Gradient.argDY m c := by
    unfold Cert.EvenOutRefIdeal.Gradient.argDY Cert.EvenOutIdeal.Gradient.argDY; rw [eDX c, eZ c, eW c]
  rw [eDX c, eZ c, eW c] at r0
  rw [eDX c, eYP, eYS c, eZ c, eW c] at r1
  rw [eDX c, eYP, eYS c, eZ c] at r2
  rw [eDY, eWP c, ePS c] at r3
  rw [eU c, eDY, ePS c] at r4
  rw [eU c, eDY, eWP c] at r5
  exact ⟨r0.trans (Cert.EvenOutIdeal.Gradient.final10 m c).symm, r1.trans (Cert.EvenOutIdeal.Gradient.final11 m c hU).symm, r2.trans (Cert.EvenOutIdeal.Gradient.final12 m c hU).symm,
    r3.trans (Cert.EvenOutIdeal.Gradient.final13 m c).symm, r4.trans (Cert.EvenOutIdeal.Gradient.final14 m c).symm, r5.trans (Cert.EvenOutIdeal.Gradient.final15 m c).symm, ra⟩

end Cert.Proof

end
-- ==== Proof.ConvLoads.lean ====
/- The backward kernel of the convolution has two loops over the eight groups of 128 columns. Here: the buffers both loops are run
   with, and what a load of a rectangle reads, by the numbers of its row and column. -/
module

public import proofs.«01_k».proof.Proof.Gen.ConvIdeal.Frame
public import Idealize.ShloMosaic.Lib.Pipeline.ValueKit
public import Idealize.ShloMosaic.Lib.Pipeline.ReadBack
public import Idealize.ShloMosaic.Lib.Claim

@[expose] public section

set_option maxRecDepth 65536

noncomputable section

namespace Cert.ConvIdeal.Gradient

open Cert.ConvIdeal Cert.ConvIdeal.Gen Idealize.ShloMosaic Idealize.ShloMosaic.TcCoe Idealize.SL.Sem

/-- The buffers of one run of the kernel's body. -/
structure Bufs where
  arg1 : Memref sig .tc .vmem S256x1024 .f32
  harg1 : arg1.IsWhole
  arg2 : Memref sig .tc .vmem S32x1024 .f32
  harg2 : arg2.IsWhole
  arg3 : Memref sig .tc .vmem S256x1024 .bf16
  harg3 : arg3.IsWhole
  arg4 : Memref sig .tc .vmem S256x1024 .bf16
  harg4 : arg4.IsWhole
  arg5 : Memref sig .tc .vmem S32x1024 .bf16
  harg5 : arg5.IsWhole
  arg6 : Memref sig .tc .vmem S32x1024 .bf16
  harg6 : arg6.IsWhole
  arg7 : Memref sig .tc .vmem S32x1024 .f32
  harg7 : arg7.IsWhole
  arg8 : Memref sig .tc .vmem S256x1024 .bf16
  harg8 : arg8.IsWhole
  arg9 : Memref sig .tc .vmem S256x1024 .bf16
  harg9 : arg9.IsWhole
  arg10 : Memref sig .tc .vmem S256x1024 .f32
  harg10 : arg10.IsWhole
  arg11 : Memref sig .tc .vmem S1x1024 .f32
  harg11 : arg11.IsWhole
  arg12 : Memref sig .tc .vmem S288x1024 .f32
  harg12 : arg12.IsWhole
  arg13 : Memref sig .tc .vmem S288x1024 .f32
  harg13 : arg13.IsWhole
  arg14 : Memref sig .tc .vmem S256x1024 .f32
  harg14 : arg14.IsWhole
  arg15 : Memref sig .tc .vmem S7x280x1024 .f32
  harg15 : arg15.IsWhole
  arg16 : Memref sig .tc .vmem S7x280x1024 .f32
  harg16 : arg16.IsWhole

/-- One trip of the first loop: the pieces it stores. -/
abbrev trip1 (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) (k : Fin k0_t1_loop.trips) : List (View.Piece (Elt Ideal) S256x1024 .f32) :=
  tripL_k0_t1 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X7 X13 X16 k

/-- The pieces of the first trips of the first loop. -/
abbrev loop1 (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) : ℕ → List (View.Piece (Elt Ideal) S256x1024 .f32) :=
  pb_k0_t1 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X7 X13 X16

theorem loop1_succ (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) (k : Fin k0_t1_loop.trips) :
    loop1 B c i X7 X13 X16 (k.val + 1) = trip1 B c i X7 X13 X16 k ++ loop1 B c i X7 X13 X16 k.val :=
  pb_k0_t1_succ (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X7 X13 X16 k

/-- One trip of the second loop: the pieces it stores. -/
abbrev trip2 (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (k : Fin k0_t2_loop.trips) (f : BufTy.Contents (Elt Ideal) B.arg10.view.ty) :
    List (View.Piece (Elt Ideal) S256x1024 .f32) :=
  tripL_k0_t2 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X1 X12 X15 k f

/-- The pieces of the first trips of the second loop. -/
abbrev loop2 (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (f : BufTy.Contents (Elt Ideal) B.arg10.view.ty) : ℕ → List (View.Piece (Elt Ideal) S256x1024 .f32) :=
  pb_k0_t2 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X1 X12 X15 f

theorem loop2_succ (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (f : BufTy.Contents (Elt Ideal) B.arg10.view.ty) (k : Fin k0_t2_loop.trips) :
    loop2 B c i X1 X12 X15 f (k.val + 1)
      = trip2 B c i X1 X12 X15 k (B.arg10.view.writes (Elt Ideal) f (loop2 B c i X1 X12 X15 f k.val)) ++ loop2 B c i X1 X12 X15 f k.val :=
  pb_k0_t2_succ (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 X1 X12 X15 f k

/-- The entry of a matrix by the numbers of its row and column; zero outside it. -/
def at2 {a b : ℕ} {e : EltTy} (zero : Elt Ideal e) (X : (⟨2, ![a, b]⟩ : Shape).Idx → Elt Ideal e) (r c : ℕ) : Elt Ideal e :=
  if h : r < a ∧ c < b then X (ix2 ⟨r, h.1⟩ ⟨c, h.2⟩) else zero

/-- The entry of a stack of matrices by the numbers of its layer, row and column; zero outside it. -/
def at3 {n a b : ℕ} {e : EltTy} (zero : Elt Ideal e) (X : (⟨3, ![n, a, b]⟩ : Shape).Idx → Elt Ideal e) (j r c : ℕ) : Elt Ideal e :=
  if h : j < n ∧ r < a ∧ c < b then X (ix3 ⟨j, h.1⟩ ⟨r, h.2.1⟩ ⟨c, h.2.2⟩) else zero

theorem at2_lt {a b : ℕ} {e : EltTy} (zero : Elt Ideal e) (X : (⟨2, ![a, b]⟩ : Shape).Idx → Elt Ideal e) (r : Fin a) (c : Fin b) :
    at2 zero X r.val c.val = X (ix2 r c) := dif_pos ⟨r.isLt, c.isLt⟩

/-- Where an entry of a rectangle lies. -/
theorem emb_at {s : Shape} (off size : Fin s.rank → ℕ) (inb : ∀ a, off a + size a ≤ s.size a) (x : (Rect.unit off size inb).shape.Idx) (a : Fin s.rank) :
    ((Rect.unit off size inb).emb x a).val = (x a).val + off a := by
  rw [ValueKit.rect_emb_unit_val]; exact Nat.add_comm _ _

/-- A load of a rectangle of a matrix. -/
theorem load2 {a b : ℕ} {sp : Space} {e : EltTy} (zero : Elt Ideal e) (v : View sig .tc sp ⟨2, ![a, b]⟩ e) (f : BufTy.Contents (Elt Ideal) v.ty)
    (off size : Fin 2 → ℕ) (inb : ∀ x, off x + size x ≤ (⟨2, ![a, b]⟩ : Shape).size x) (x : (Rect.unit (s := ⟨2, ![a, b]⟩) off size inb).shape.Idx) :
    v.readAt (Elt Ideal) (Rect.unit (s := ⟨2, ![a, b]⟩) off size inb).toLoadRect f x = at2 zero (v.read (Elt Ideal) f) ((x 0).val + off 0) ((x 1).val + off 1) := by
  have h0 : (x 0).val + off 0 < a := lt_of_lt_of_le ((Nat.add_comm _ _).trans_lt (Nat.add_lt_add_left (x 0).isLt _)) (inb 0)
  have h1 : (x 1).val + off 1 < b := lt_of_lt_of_le ((Nat.add_comm _ _).trans_lt (Nat.add_lt_add_left (x 1).isLt _)) (inb 1)
  unfold at2
  rw [dif_pos ⟨h0, h1⟩]
  show v.read (Elt Ideal) f ((Rect.unit (s := ⟨2, ![a, b]⟩) off size inb).emb x) = _
  congr 1
  funext y
  apply Fin.ext
  rw [emb_at]
  fin_cases y <;> rfl

/-- A load of a rectangle of a stack of matrices. -/
theorem load3 {n a b : ℕ} {sp : Space} {e : EltTy} (zero : Elt Ideal e) (v : View sig .tc sp ⟨3, ![n, a, b]⟩ e) (f : BufTy.Contents (Elt Ideal) v.ty)
    (off size : Fin 3 → ℕ) (inb : ∀ x, off x + size x ≤ (⟨3, ![n, a, b]⟩ : Shape).size x) (x : (Rect.unit (s := ⟨3, ![n, a, b]⟩) off size inb).shape.Idx) :
    v.readAt (Elt Ideal) (Rect.unit (s := ⟨3, ![n, a, b]⟩) off size inb).toLoadRect f x
      = at3 zero (v.read (Elt Ideal) f) ((x 0).val + off 0) ((x 1).val + off 1) ((x 2).val + off 2) := by
  have h0 : (x 0).val + off 0 < n := lt_of_lt_of_le ((Nat.add_comm _ _).trans_lt (Nat.add_lt_add_left (x 0).isLt _)) (inb 0)
  have h1 : (x 1).val + off 1 < a := lt_of_lt_of_le ((Nat.add_comm _ _).trans_lt (Nat.add_lt_add_left (x 1).isLt _)) (inb 1)
  have h2 : (x 2).val + off 2 < b := lt_of_lt_of_le ((Nat.add_comm _ _).trans_lt (Nat.add_lt_add_left (x 2).isLt _)) (inb 2)
  unfold at3
  rw [dif_pos ⟨h0, h1, h2⟩]
  show v.read (Elt Ideal) f ((Rect.unit (s := ⟨3, ![n, a, b]⟩) off size inb).emb x) = _
  congr 1
  funext y
  apply Fin.ext
  rw [emb_at]
  fin_cases y <;> rfl

/-- The entry of a matrix of floats by the numbers of its row and column; zero outside it. -/
abbrev en {a b : ℕ} (X : (⟨2, ![a, b]⟩ : Shape).Idx → EReal) (r c : ℕ) : EReal := at2 (e := .f32) (0 : EReal) X r c

/-- The gradient of the convolved rows: the kernel's rows against the cotangent's rows in reverse order. -/
def taps (w : S32x1024.Idx → EReal) (d : S288x1024.Idx → EReal) (r c : ℕ) : EReal :=
  ∑ k ∈ Finset.range 31, en w k c * en d (r + (30 - k)) c

/-- What a point leaves of the kernel's gradient: for tap `n` and residue `s`, at row `8 n + s`, the rows of the cotangent that
    are `s` modulo 8 against the rows of the input that lie `n + 2` behind. -/
def tapGrad (o d : S256x1024.Idx → EReal) (g : S288x1024.Idx → EReal) (r c : ℕ) : EReal :=
  en o r c + ∑ q ∈ Finset.range 32, en d (r % 8 + 8 * q) c * en g (r % 8 + (8 * q + (r / 8 + 2))) c

/-- A stack of seven matrices that holds a matrix moved up by 1, …, 7 rows. -/
def Moved (X : S7x280x1024.Idx → EReal) (Y : S288x1024.Idx → EReal) : Prop :=
  ∀ j r l : ℕ, j < 7 → r < 280 → l < 1024 → at3 (e := .f32) (0 : EReal) X j r l = en Y (r + (j + 1)) l

theorem ix2_0 {a b : ℕ} (r : Fin a) (c : Fin b) : (ix2 r c 0).val = r.val := rfl
theorem ix2_1 {a b : ℕ} (r : Fin a) (c : Fin b) : (ix2 r c 1).val = c.val := rfl
theorem ix3_0 {a b n : ℕ} (j : Fin n) (r : Fin a) (c : Fin b) : (ix3 j r c 0).val = j.val := rfl
theorem ix3_1 {a b n : ℕ} (j : Fin n) (r : Fin a) (c : Fin b) : (ix3 j r c 1).val = r.val := rfl
theorem ix3_2 {a b n : ℕ} (j : Fin n) (r : Fin a) (c : Fin b) : (ix3 j r c 2).val = c.val := rfl

theorem mod_row (s m : ℕ) (hs : s < 8) (hm : m % 8 = 0) : (s + m) % 8 = s := by omega
theorem div_row (s m : ℕ) (hs : s < 8) (hm : m % 8 = 0) : (s + m) / 8 = m / 8 := by omega

end Cert.ConvIdeal.Gradient

end
-- ==== Proof.ConvTrips.lean ====
/- One trip of each of the two loops of the convolution's backward kernel, on 128 columns: what the stores of a trip write, entry by
   entry. -/
module

public import proofs.«01_k».proof.Proof.ConvLoads

@[expose] public section

set_option maxRecDepth 65536
set_option maxHeartbeats 4000000

noncomputable section

namespace Cert.ConvIdeal.Gradient

open Cert.ConvIdeal Cert.ConvIdeal.Gen Idealize.ShloMosaic Idealize.ShloMosaic.TcCoe Idealize.SL.Sem

/-- Each store of a trip of the first loop writes the gradient of the convolved rows. -/
theorem trip1_pieces (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty)
    (h16 : Moved (B.arg16.view.read (Elt Ideal) X16) (B.arg13.view.read (Elt Ideal) X13)) (k : Fin k0_t1_loop.trips) :
    ∀ p ∈ trip1 B c i X7 X13 X16 k, ∀ x : p.1.shape.Idx,
      p.2 x = taps (B.arg7.view.read (Elt Ideal) X7) (B.arg13.view.read (Elt Ideal) X13) (p.1.emb x 0).val (p.1.emb x 1).val := by
  unfold trip1 tripL_k0_t1 trip_k0_t1
  dsimp only
  simp only [List.forall_mem_cons]
  refine ⟨?_, fun _ h => absurd h List.not_mem_nil⟩
  intro x
  obtain ⟨s, l, rfl⟩ : ∃ (s : Fin 256) (l : Fin 128), x = ix2 s l := ⟨x 0, x 1, by funext a; fin_cases a <;> rfl⟩
  pointwise [trip_k0_t1.sl.r_9, trip_k0_t1.sl.r, trip_k0_t1.sl.r_1, trip_k0_t1.sl.r_8, trip_k0_t1.sl.r_6, trip_k0_t1.sl.r_10, trip_k0_t1.sl.v126,
    trip_k0_t1.sl.r_3, trip_k0_t1.sl.r_11, trip_k0_t1.sl.r_2, trip_k0_t1.sl.r_4, trip_k0_t1.sl.r_5, trip_k0_t1.sl.r_12, trip_k0_t1.sl.r_7,
    k0_pay1, k0_pay8, k0_pay9, k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33, k0_pay34, k0_pay35]
  simp only [load2 (e := .f32) (0 : EReal), load3 (e := .f32) (0 : EReal), emb_at,
    k0_off1_eq, k0_off2_eq, k0_off3_eq, k0_off4_eq, k0_off5_eq, k0_off6_eq, k0_off7_eq, k0_off8_eq, k0_off9_eq, k0_off10_eq, k0_off11_eq, k0_off12_eq,
    k0_off13_eq, k0_off14_eq, k0_off15_eq, k0_off16_eq, k0_off17_eq, k0_off18_eq, k0_off19_eq, k0_off20_eq, k0_off21_eq, k0_off22_eq, k0_off23_eq,
    k0_off24_eq, k0_off25_eq, k0_off26_eq, k0_off27_eq, k0_off28_eq, k0_off29_eq, k0_off30_eq, k0_off31_eq, k0_off32_eq, k0_off33_eq, k0_off34_eq,
    k0_off35_eq, k0_off36_eq, k0_off37_eq, k0_off38_eq, k0_off39_eq, k0_off40_eq, k0_off41_eq, k0_off42_eq, k0_off43_eq, k0_off44_eq, k0_off45_eq,
    k0_off46_eq, k0_off47_eq, k0_off48_eq, k0_off49_eq, k0_off50_eq, k0_off51_eq, k0_off52_eq, k0_off53_eq, k0_off54_eq, k0_off55_eq, k0_off56_eq,
    k0_off57_eq, k0_off58_eq, k0_off59_eq, k0_off60_eq, k0_off61_eq, k0_off62_eq, k0_off63_eq]
  have hk : k.val < 8 := k.isLt
  have hs : s.val < 256 := s.isLt
  have hl : l.val < 128 := l.isLt
  simp only [Matrix.cons_val_zero, Matrix.cons_val_one, Matrix.cons_val, ix2_0, ix2_1, ix3_0, ix3_1, ix3_2]
  unfold Moved en at h16
  generalize B.arg7.view.read (Elt Ideal) X7 = w
  generalize B.arg16.view.read (Elt Ideal) X16 = d' at h16 ⊢
  generalize B.arg13.view.read (Elt Ideal) X13 = d at h16 ⊢
  simp (disch := omega) only [h16]
  unfold taps en
  simp only [Finset.sum_range_succ, Finset.sum_range_zero, Nat.add_assoc, Nat.reduceAdd, Nat.reduceSub, Nat.add_zero, Nat.zero_add, Fin.val_zero, zero_add]

/-- Each store of a trip of the second loop writes the kernel's gradient. -/
theorem trip2_pieces (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (h15 : Moved (B.arg15.view.read (Elt Ideal) X15) (B.arg12.view.read (Elt Ideal) X12))
    (k : Fin k0_t2_loop.trips) (f : BufTy.Contents (Elt Ideal) B.arg10.view.ty) :
    ∀ p ∈ trip2 B c i X1 X12 X15 k f, ∀ x : p.1.shape.Idx,
      p.2 x = tapGrad (B.arg10.view.read (Elt Ideal) f) (B.arg1.view.read (Elt Ideal) X1) (B.arg12.view.read (Elt Ideal) X12)
        (p.1.emb x 0).val (p.1.emb x 1).val := by
  unfold trip2 tripL_k0_t2 trip_k0_t2
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  all_goals
    intro x
    obtain ⟨s, l, rfl⟩ : ∃ (s : Fin 8) (l : Fin 128), x = ix2 s l := ⟨x 0, x 1, by funext a; fin_cases a <;> rfl⟩
    pointwise [trip_k0_t2.sl.r, trip_k0_t2.sl.r_1, trip_k0_t2.sl.r_2, trip_k0_t2.sl.r_3, trip_k0_t2.sl.r_4, trip_k0_t2.sl.r_5, trip_k0_t2.sl.r_6,
    trip_k0_t2.sl.r_7, trip_k0_t2.sl.r_8, trip_k0_t2.sl.r_9, trip_k0_t2.sl.r_10, trip_k0_t2.sl.r_11, trip_k0_t2.sl.r_12, trip_k0_t2.sl.r_13,
    trip_k0_t2.sl.r_14, trip_k0_t2.sl.r_15, trip_k0_t2.sl.r_16, trip_k0_t2.sl.r_17, trip_k0_t2.sl.r_18, trip_k0_t2.sl.r_19, trip_k0_t2.sl.r_20,
    trip_k0_t2.sl.r_21, trip_k0_t2.sl.r_22, trip_k0_t2.sl.r_23, trip_k0_t2.sl.r_24, trip_k0_t2.sl.r_25, trip_k0_t2.sl.r_26, trip_k0_t2.sl.r_27,
    trip_k0_t2.sl.r_28, trip_k0_t2.sl.r_29, trip_k0_t2.sl.r_30, trip_k0_t2.sl.r_31, trip_k0_t2.sl.r_32, trip_k0_t2.sl.r_33, trip_k0_t2.sl.r_34,
    trip_k0_t2.sl.r_35, trip_k0_t2.sl.r_36, trip_k0_t2.sl.r_37, trip_k0_t2.sl.r_38, trip_k0_t2.sl.r_39, trip_k0_t2.sl.r_40, trip_k0_t2.sl.r_41,
    trip_k0_t2.sl.r_42, trip_k0_t2.sl.r_43, trip_k0_t2.sl.r_44, trip_k0_t2.sl.r_45, trip_k0_t2.sl.r_46, trip_k0_t2.sl.r_47, trip_k0_t2.sl.r_48,
    trip_k0_t2.sl.r_49, trip_k0_t2.sl.r_50, trip_k0_t2.sl.r_51, trip_k0_t2.sl.r_52, trip_k0_t2.sl.r_53, trip_k0_t2.sl.r_54, trip_k0_t2.sl.r_55,
    trip_k0_t2.sl.r_56, trip_k0_t2.sl.r_57, trip_k0_t2.sl.r_58, trip_k0_t2.sl.r_59, trip_k0_t2.sl.r_60, trip_k0_t2.sl.r_61, trip_k0_t2.sl.r_62,
    trip_k0_t2.sl.r_63, trip_k0_t2.sl.r_64, trip_k0_t2.sl.r_65, trip_k0_t2.sl.r_66, trip_k0_t2.sl.r_67, trip_k0_t2.sl.r_68, trip_k0_t2.sl.r_69,
    trip_k0_t2.sl.r_70, trip_k0_t2.sl.r_71, trip_k0_t2.sl.r_72, trip_k0_t2.sl.r_73, trip_k0_t2.sl.r_74, trip_k0_t2.sl.r_75, trip_k0_t2.sl.r_76,
    trip_k0_t2.sl.r_77, trip_k0_t2.sl.r_78, trip_k0_t2.sl.r_79, trip_k0_t2.sl.r_80, trip_k0_t2.sl.r_81, trip_k0_t2.sl.r_82, trip_k0_t2.sl.r_83,
    trip_k0_t2.sl.r_84, trip_k0_t2.sl.r_85, trip_k0_t2.sl.r_86, trip_k0_t2.sl.r_87, trip_k0_t2.sl.r_88, trip_k0_t2.sl.r_89, trip_k0_t2.sl.r_90,
    trip_k0_t2.sl.r_91, trip_k0_t2.sl.r_92, trip_k0_t2.sl.r_93, trip_k0_t2.sl.r_94, trip_k0_t2.sl.r_95, trip_k0_t2.sl.r_96, trip_k0_t2.sl.r_97,
    trip_k0_t2.sl.r_98, trip_k0_t2.sl.r_99, trip_k0_t2.sl.r_100, trip_k0_t2.sl.r_101, trip_k0_t2.sl.r_102, trip_k0_t2.sl.r_103, trip_k0_t2.sl.r_104,
    trip_k0_t2.sl.r_105, trip_k0_t2.sl.r_106, trip_k0_t2.sl.r_107, trip_k0_t2.sl.r_108, trip_k0_t2.sl.r_109, trip_k0_t2.sl.r_110, trip_k0_t2.sl.r_111,
    trip_k0_t2.sl.r_112, trip_k0_t2.sl.r_113, trip_k0_t2.sl.r_114, trip_k0_t2.sl.r_115, trip_k0_t2.sl.r_116, trip_k0_t2.sl.r_117, trip_k0_t2.sl.r_118,
    trip_k0_t2.sl.r_119, trip_k0_t2.sl.r_120, trip_k0_t2.sl.r_121, trip_k0_t2.sl.r_122, trip_k0_t2.sl.r_123, trip_k0_t2.sl.r_124, trip_k0_t2.sl.r_125,
    trip_k0_t2.sl.r_126, trip_k0_t2.sl.r_127, trip_k0_t2.sl.r_128, trip_k0_t2.sl.r_129, trip_k0_t2.sl.r_130, trip_k0_t2.sl.r_131, trip_k0_t2.sl.r_132,
    trip_k0_t2.sl.r_133, trip_k0_t2.sl.r_134, trip_k0_t2.sl.r_135, trip_k0_t2.sl.r_136, trip_k0_t2.sl.r_137, trip_k0_t2.sl.r_138, trip_k0_t2.sl.r_139,
    trip_k0_t2.sl.r_140, trip_k0_t2.sl.r_141, trip_k0_t2.sl.r_142, trip_k0_t2.sl.r_143, trip_k0_t2.sl.r_144, trip_k0_t2.sl.r_145, trip_k0_t2.sl.r_146,
    trip_k0_t2.sl.r_147, trip_k0_t2.sl.r_148, trip_k0_t2.sl.r_149, trip_k0_t2.sl.r_150, trip_k0_t2.sl.r_151, trip_k0_t2.sl.r_152, trip_k0_t2.sl.r_153,
    trip_k0_t2.sl.r_154, trip_k0_t2.sl.r_155, trip_k0_t2.sl.r_156, trip_k0_t2.sl.r_157, trip_k0_t2.sl.r_158, trip_k0_t2.sl.r_159, trip_k0_t2.sl.r_160,
    trip_k0_t2.sl.r_161, trip_k0_t2.sl.r_162, trip_k0_t2.sl.r_163, trip_k0_t2.sl.r_164, trip_k0_t2.sl.r_165, trip_k0_t2.sl.r_166, trip_k0_t2.sl.r_167,
    trip_k0_t2.sl.r_168, trip_k0_t2.sl.r_169, trip_k0_t2.sl.r_170, trip_k0_t2.sl.r_171, trip_k0_t2.sl.r_172, trip_k0_t2.sl.r_173, trip_k0_t2.sl.r_174,
    trip_k0_t2.sl.r_175, trip_k0_t2.sl.r_176, trip_k0_t2.sl.r_177, trip_k0_t2.sl.r_178, trip_k0_t2.sl.r_179, trip_k0_t2.sl.r_180, trip_k0_t2.sl.r_181,
    trip_k0_t2.sl.r_182, trip_k0_t2.sl.r_183, trip_k0_t2.sl.r_184, trip_k0_t2.sl.r_185, trip_k0_t2.sl.r_186, trip_k0_t2.sl.r_187, trip_k0_t2.sl.r_188,
    trip_k0_t2.sl.r_189, trip_k0_t2.sl.r_190, trip_k0_t2.sl.r_191, trip_k0_t2.sl.r_192, trip_k0_t2.sl.r_193, trip_k0_t2.sl.r_194, trip_k0_t2.sl.r_195,
    trip_k0_t2.sl.r_196, trip_k0_t2.sl.r_197, trip_k0_t2.sl.r_198, trip_k0_t2.sl.r_199, trip_k0_t2.sl.r_200, trip_k0_t2.sl.r_201, trip_k0_t2.sl.r_202,
    trip_k0_t2.sl.r_203, trip_k0_t2.sl.r_204, trip_k0_t2.sl.r_205, trip_k0_t2.sl.r_206, trip_k0_t2.sl.r_207, trip_k0_t2.sl.r_208, trip_k0_t2.sl.r_209,
    trip_k0_t2.sl.r_210, trip_k0_t2.sl.r_211, trip_k0_t2.sl.r_212, trip_k0_t2.sl.r_213, trip_k0_t2.sl.r_214, trip_k0_t2.sl.r_215, trip_k0_t2.sl.r_216,
    trip_k0_t2.sl.r_217, trip_k0_t2.sl.r_218, trip_k0_t2.sl.r_219, trip_k0_t2.sl.r_220, trip_k0_t2.sl.r_221, trip_k0_t2.sl.r_222, trip_k0_t2.sl.r_223,
    trip_k0_t2.sl.r_224, trip_k0_t2.sl.r_225, trip_k0_t2.sl.r_226, trip_k0_t2.sl.r_227, trip_k0_t2.sl.r_228, trip_k0_t2.sl.r_229, trip_k0_t2.sl.r_230,
    trip_k0_t2.sl.r_231, trip_k0_t2.sl.r_232, trip_k0_t2.sl.r_233, trip_k0_t2.sl.r_234, trip_k0_t2.sl.r_235, trip_k0_t2.sl.r_236, trip_k0_t2.sl.r_237,
    trip_k0_t2.sl.r_238, trip_k0_t2.sl.r_239, trip_k0_t2.sl.r_240, trip_k0_t2.sl.r_241, trip_k0_t2.sl.r_242, trip_k0_t2.sl.r_243, trip_k0_t2.sl.r_244,
    trip_k0_t2.sl.r_245, trip_k0_t2.sl.r_246, trip_k0_t2.sl.r_247, trip_k0_t2.sl.r_248, trip_k0_t2.sl.r_249, trip_k0_t2.sl.r_250, trip_k0_t2.sl.r_251,
    trip_k0_t2.sl.r_252, trip_k0_t2.sl.r_253, trip_k0_t2.sl.r_254, trip_k0_t2.sl.r_255, trip_k0_t2.sl.r_256, trip_k0_t2.sl.r_257, trip_k0_t2.sl.r_258,
    trip_k0_t2.sl.r_259, trip_k0_t2.sl.r_260, trip_k0_t2.sl.r_261, trip_k0_t2.sl.r_262, trip_k0_t2.sl.r_263, trip_k0_t2.sl.r_264, trip_k0_t2.sl.r_265,
    trip_k0_t2.sl.r_266, trip_k0_t2.sl.r_267, trip_k0_t2.sl.r_268, trip_k0_t2.sl.r_269, trip_k0_t2.sl.r_270, trip_k0_t2.sl.r_271, trip_k0_t2.sl.r_272,
    trip_k0_t2.sl.r_273, trip_k0_t2.sl.r_274, trip_k0_t2.sl.r_275, trip_k0_t2.sl.r_276, trip_k0_t2.sl.r_277, trip_k0_t2.sl.r_278, trip_k0_t2.sl.r_279,
    trip_k0_t2.sl.r_280, trip_k0_t2.sl.r_281, trip_k0_t2.sl.r_282, trip_k0_t2.sl.r_283, trip_k0_t2.sl.r_284, trip_k0_t2.sl.r_285, trip_k0_t2.sl.r_286,
    trip_k0_t2.sl.r_287, trip_k0_t2.sl.r_288, trip_k0_t2.sl.r_289, trip_k0_t2.sl.r_290, trip_k0_t2.sl.r_291, trip_k0_t2.sl.r_292, trip_k0_t2.sl.r_293,
    trip_k0_t2.sl.r_294, trip_k0_t2.sl.r_295, trip_k0_t2.sl.r_296, trip_k0_t2.sl.r_297, trip_k0_t2.sl.r_298, trip_k0_t2.sl.r_299, trip_k0_t2.sl.v126,
    trip_k0_t2.sl.v128, trip_k0_t2.sl.v521, trip_k0_t2.sl.v527, trip_k0_t2.sl.v533, trip_k0_t2.sl.v830, trip_k0_t2.sl.v836, trip_k0_t2.sl.v842,
    trip_k0_t2.sl.v1205, trip_k0_t2.sl.v1211, trip_k0_t2.sl.v1217, trip_k0_t2.sl.v1223, trip_k0_t2.sl.v1586, trip_k0_t2.sl.v1592, trip_k0_t2.sl.v1598,
    trip_k0_t2.sl.v1604, trip_k0_t2.sl.v1967, trip_k0_t2.sl.v1973, trip_k0_t2.sl.v1979, trip_k0_t2.sl.v1985, trip_k0_t2.sl.v2348, trip_k0_t2.sl.v2354,
    trip_k0_t2.sl.v2360, trip_k0_t2.sl.v2366, trip_k0_t2.sl.v2729, trip_k0_t2.sl.v2735, trip_k0_t2.sl.v2741, trip_k0_t2.sl.v2747, trip_k0_t2.sl.v3110,
    trip_k0_t2.sl.v3116, trip_k0_t2.sl.v3122, trip_k0_t2.sl.v3128,
      k0_pay2, k0_pay3, k0_pay4, k0_pay5, k0_pay6, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40, k0_pay41, k0_pay42, k0_pay43,
    k0_pay44, k0_pay45, k0_pay46, k0_pay47, k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97, k0_pay98, k0_pay99,
    k0_pay100, k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136, k0_pay137, k0_pay138,
    k0_pay139, k0_pay140, k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240, k0_pay241, k0_pay242,
    k0_pay243, k0_pay244, k0_pay245, k0_pay246, k0_pay247, k0_pay248, k0_pay249, k0_pay250, k0_pay251, k0_pay252, k0_pay253, k0_pay254, k0_pay255,
    k0_pay256, k0_pay257, k0_pay258, k0_pay259, k0_pay260, k0_pay261, k0_pay262, k0_pay263, k0_pay264, k0_pay265, k0_pay266, k0_pay267, k0_pay268,
    k0_pay269, k0_pay270, k0_pay271, k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291, k0_pay292, k0_pay293, k0_pay294,
    k0_pay295, k0_pay296, k0_pay297, k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330, k0_pay331, k0_pay332, k0_pay333,
    k0_pay334, k0_pay335, k0_pay336, k0_pay337, k0_pay338, k0_pay339, k0_pay340, k0_pay341, k0_pay342, k0_pay343, k0_pay344, k0_pay345, k0_pay346,
    k0_pay347, k0_pay348, k0_pay349, k0_pay350, k0_pay351, k0_pay352, k0_pay353, k0_pay354, k0_pay355, k0_pay356, k0_pay357, k0_pay358, k0_pay359,
    k0_pay360, k0_pay361, k0_pay362, k0_pay363, k0_pay364, k0_pay365, k0_pay366, k0_pay367, k0_pay368, k0_pay369, k0_pay370, k0_pay371, k0_pay372,
    k0_pay373, k0_pay374, k0_pay375, k0_pay376, k0_pay377, k0_pay378, k0_pay379, k0_pay380, k0_pay381, k0_pay382, k0_pay383, k0_pay384, k0_pay385,
    k0_pay386, k0_pay387, k0_pay388, k0_pay389, k0_pay390, k0_pay391, k0_pay392, k0_pay393, k0_pay394, k0_pay395, k0_pay396, k0_pay397, k0_pay398,
    k0_pay399, k0_pay400, k0_pay401, k0_pay402, k0_pay403, k0_pay404, k0_pay405, k0_pay406, k0_pay407, k0_pay408, k0_pay409, k0_pay410, k0_pay411,
    k0_pay412, k0_pay413, k0_pay414, k0_pay415, k0_pay416, k0_pay417, k0_pay418, k0_pay419, k0_pay420, k0_pay421, k0_pay422, k0_pay423, k0_pay424,
    k0_pay425, k0_pay426, k0_pay427, k0_pay428, k0_pay429, k0_pay430, k0_pay431, k0_pay432, k0_pay433, k0_pay434, k0_pay435, k0_pay436, k0_pay437,
    k0_pay438, k0_pay439, k0_pay440, k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460, k0_pay461, k0_pay462, k0_pay463,
    k0_pay464, k0_pay465, k0_pay466, k0_pay467, k0_pay468, k0_pay469, k0_pay470, k0_pay471, k0_pay472, k0_pay473, k0_pay474, k0_pay475, k0_pay476,
    k0_pay477, k0_pay478, k0_pay479, k0_pay480, k0_pay481, k0_pay482, k0_pay483, k0_pay484, k0_pay485, k0_pay486, k0_pay487, k0_pay488, k0_pay489,
    k0_pay490, k0_pay491, k0_pay492, k0_pay493, k0_pay494, k0_pay495, k0_pay496, k0_pay497, k0_pay498, k0_pay499, k0_pay500, k0_pay501, k0_pay502,
    k0_pay503, k0_pay504, k0_pay505, k0_pay506, k0_pay507, k0_pay508, k0_pay509, k0_pay510, k0_pay511, k0_pay512, k0_pay513, k0_pay514, k0_pay515,
    k0_pay516, k0_pay517, k0_pay518, k0_pay519, k0_pay520, k0_pay521, k0_pay522, k0_pay523, k0_pay524, k0_pay525, k0_pay526, k0_pay527, k0_pay528,
    k0_pay529, k0_pay530]
    simp only [load2 (e := .f32) (0 : EReal), load3 (e := .f32) (0 : EReal), emb_at,
      k0_off64_eq, k0_off65_eq, k0_off66_eq, k0_off67_eq, k0_off68_eq, k0_off69_eq, k0_off70_eq, k0_off71_eq, k0_off72_eq, k0_off73_eq, k0_off74_eq,
    k0_off75_eq, k0_off76_eq, k0_off77_eq, k0_off78_eq, k0_off79_eq, k0_off80_eq, k0_off81_eq, k0_off82_eq, k0_off83_eq, k0_off84_eq, k0_off85_eq,
    k0_off86_eq, k0_off87_eq, k0_off88_eq, k0_off89_eq, k0_off90_eq, k0_off91_eq, k0_off92_eq, k0_off93_eq, k0_off94_eq, k0_off95_eq, k0_off96_eq,
    k0_off97_eq, k0_off98_eq, k0_off99_eq, k0_off100_eq, k0_off101_eq, k0_off102_eq, k0_off103_eq, k0_off104_eq, k0_off105_eq, k0_off106_eq,
    k0_off107_eq, k0_off108_eq, k0_off109_eq, k0_off110_eq, k0_off111_eq, k0_off112_eq, k0_off113_eq, k0_off114_eq, k0_off115_eq, k0_off116_eq,
    k0_off117_eq, k0_off118_eq, k0_off119_eq, k0_off120_eq, k0_off121_eq, k0_off122_eq, k0_off123_eq, k0_off124_eq, k0_off125_eq, k0_off126_eq,
    k0_off127_eq, k0_off128_eq, k0_off129_eq, k0_off130_eq, k0_off131_eq, k0_off132_eq, k0_off133_eq, k0_off134_eq, k0_off135_eq, k0_off136_eq,
    k0_off137_eq, k0_off138_eq, k0_off139_eq, k0_off140_eq, k0_off141_eq, k0_off142_eq, k0_off143_eq, k0_off144_eq, k0_off145_eq, k0_off146_eq,
    k0_off147_eq, k0_off148_eq, k0_off149_eq, k0_off150_eq, k0_off151_eq, k0_off152_eq, k0_off153_eq, k0_off154_eq, k0_off155_eq, k0_off156_eq,
    k0_off157_eq, k0_off158_eq, k0_off159_eq, k0_off160_eq, k0_off161_eq, k0_off162_eq, k0_off163_eq, k0_off164_eq, k0_off165_eq, k0_off166_eq,
    k0_off167_eq, k0_off168_eq, k0_off169_eq, k0_off170_eq, k0_off171_eq, k0_off172_eq, k0_off173_eq, k0_off174_eq, k0_off175_eq, k0_off176_eq,
    k0_off177_eq, k0_off178_eq, k0_off179_eq, k0_off180_eq, k0_off181_eq, k0_off182_eq, k0_off183_eq, k0_off184_eq, k0_off185_eq, k0_off186_eq,
    k0_off187_eq, k0_off188_eq, k0_off189_eq, k0_off190_eq, k0_off191_eq, k0_off192_eq, k0_off193_eq, k0_off194_eq, k0_off195_eq, k0_off196_eq,
    k0_off197_eq, k0_off198_eq, k0_off199_eq, k0_off200_eq, k0_off201_eq, k0_off202_eq, k0_off203_eq, k0_off204_eq, k0_off205_eq, k0_off206_eq,
    k0_off207_eq, k0_off208_eq, k0_off209_eq, k0_off210_eq, k0_off211_eq, k0_off212_eq, k0_off213_eq, k0_off214_eq, k0_off215_eq, k0_off216_eq,
    k0_off217_eq, k0_off218_eq, k0_off219_eq, k0_off220_eq, k0_off221_eq, k0_off222_eq, k0_off223_eq, k0_off224_eq, k0_off225_eq, k0_off226_eq,
    k0_off227_eq, k0_off228_eq, k0_off229_eq, k0_off230_eq, k0_off231_eq, k0_off232_eq, k0_off233_eq, k0_off234_eq, k0_off235_eq, k0_off236_eq,
    k0_off237_eq, k0_off238_eq, k0_off239_eq, k0_off240_eq, k0_off241_eq, k0_off242_eq, k0_off243_eq, k0_off244_eq, k0_off245_eq, k0_off246_eq,
    k0_off247_eq, k0_off248_eq, k0_off249_eq, k0_off250_eq, k0_off251_eq, k0_off252_eq, k0_off253_eq, k0_off254_eq, k0_off255_eq, k0_off256_eq,
    k0_off257_eq, k0_off258_eq, k0_off259_eq, k0_off260_eq, k0_off261_eq, k0_off262_eq, k0_off263_eq, k0_off264_eq, k0_off265_eq, k0_off266_eq,
    k0_off267_eq, k0_off268_eq, k0_off269_eq, k0_off270_eq, k0_off271_eq, k0_off272_eq, k0_off273_eq, k0_off274_eq, k0_off275_eq, k0_off276_eq,
    k0_off277_eq, k0_off278_eq, k0_off279_eq, k0_off280_eq, k0_off281_eq, k0_off282_eq, k0_off283_eq, k0_off284_eq, k0_off285_eq, k0_off286_eq,
    k0_off287_eq, k0_off288_eq, k0_off289_eq, k0_off290_eq, k0_off291_eq, k0_off292_eq, k0_off293_eq, k0_off294_eq, k0_off295_eq, k0_off296_eq,
    k0_off297_eq, k0_off298_eq, k0_off299_eq, k0_off300_eq, k0_off301_eq, k0_off302_eq, k0_off303_eq, k0_off304_eq, k0_off305_eq, k0_off306_eq,
    k0_off307_eq, k0_off308_eq, k0_off309_eq, k0_off310_eq, k0_off311_eq, k0_off312_eq, k0_off313_eq, k0_off314_eq, k0_off315_eq, k0_off316_eq,
    k0_off317_eq, k0_off318_eq, k0_off319_eq, k0_off320_eq, k0_off321_eq, k0_off322_eq, k0_off323_eq, k0_off324_eq, k0_off325_eq, k0_off326_eq,
    k0_off327_eq, k0_off328_eq, k0_off329_eq, k0_off330_eq, k0_off331_eq, k0_off332_eq, k0_off333_eq, k0_off334_eq, k0_off335_eq, k0_off336_eq,
    k0_off337_eq, k0_off338_eq, k0_off339_eq, k0_off340_eq, k0_off341_eq, k0_off342_eq, k0_off343_eq, k0_off344_eq, k0_off345_eq, k0_off346_eq,
    k0_off347_eq, k0_off348_eq, k0_off349_eq, k0_off350_eq, k0_off351_eq, k0_off352_eq, k0_off353_eq, k0_off354_eq, k0_off355_eq, k0_off356_eq,
    k0_off357_eq, k0_off358_eq, k0_off359_eq, k0_off360_eq, k0_off361_eq, k0_off362_eq, k0_off363_eq, k0_off364_eq, k0_off365_eq, k0_off366_eq,
    k0_off367_eq, k0_off368_eq, k0_off369_eq, k0_off370_eq, k0_off371_eq, k0_off372_eq, k0_off373_eq, k0_off374_eq]
    have hk : k.val < 8 := k.isLt
    have hs : s.val < 8 := s.isLt
    have hl : l.val < 128 := l.isLt
    simp only [Matrix.cons_val_zero, Matrix.cons_val_one, Matrix.cons_val, ix2_0, ix2_1, ix3_0, ix3_1, ix3_2]
    unfold Moved en at h15
    generalize B.arg10.view.read (Elt Ideal) f = o
    generalize B.arg1.view.read (Elt Ideal) X1 = d
    generalize B.arg15.view.read (Elt Ideal) X15 = g' at h15 ⊢
    generalize B.arg12.view.read (Elt Ideal) X12 = g at h15 ⊢
    try simp (disch := omega) only [h15]
    unfold tapGrad en
    simp (disch := omega) only [mod_row, div_row]
    simp only [Finset.sum_range_succ, Finset.sum_range_zero, Nat.add_assoc, Nat.reduceAdd, Nat.reduceMul, Nat.reduceDiv, Nat.add_zero, Nat.zero_add, Fin.val_zero, zero_add]

end Cert.ConvIdeal.Gradient

end
-- ==== Proof.ConvCover.lean ====
/- Which entries the stores of a trip of the convolution's two loops cover. -/
module

public import proofs.«01_k».proof.Proof.ConvLoads

@[expose] public section

set_option maxRecDepth 65536
set_option maxHeartbeats 4000000

noncomputable section

namespace Cert.ConvIdeal.Gradient

open Cert.ConvIdeal Cert.ConvIdeal.Gen Idealize.ShloMosaic Idealize.ShloMosaic.TcCoe Idealize.SL.Sem

/-- An entry of a matrix lies in a rectangle when its row and its column do. -/
theorem mem2 {a b : ℕ} (off size : Fin 2 → ℕ) (inb : ∀ x, off x + size x ≤ (⟨2, ![a, b]⟩ : Shape).size x) (y : (⟨2, ![a, b]⟩ : Shape).Idx) :
    y ∈ (Rect.unit (s := ⟨2, ![a, b]⟩) off size inb).set
      ↔ (off 0 ≤ (y 0).val ∧ (y 0).val < off 0 + size 0) ∧ off 1 ≤ (y 1).val ∧ (y 1).val < off 1 + size 1 := by
  rw [Rect.mem_set_unit]
  constructor
  · exact fun h => ⟨h 0, h 1⟩
  · intro h x
    fin_cases x
    · exact h.1
    · exact h.2

/-- A trip of the first loop stores its 128 columns. -/
theorem trip1_mem (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) (k : Fin k0_t1_loop.trips) (y : S256x1024.Idx) :
    (∃ p ∈ trip1 B c i X7 X13 X16 k, y ∈ p.1.set) ↔ 128 * k.val ≤ (y 1).val ∧ (y 1).val < 128 * k.val + 128 := by
  have h0 : (y 0).val < 256 := (y 0).isLt
  unfold trip1 tripL_k0_t1 trip_k0_t1
  dsimp only
  simp only [List.mem_cons, exists_eq_or_imp, exists_eq_left, List.not_mem_nil, false_and, exists_false, or_false, mem2, k0_off63_eq, Matrix.cons_val_zero, Matrix.cons_val_one, Matrix.cons_val]
  omega

/-- A trip of the second loop stores its 128 columns of the first 248 rows. -/
theorem trip2_mem (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (k : Fin k0_t2_loop.trips) (f : BufTy.Contents (Elt Ideal) B.arg10.view.ty) (y : S256x1024.Idx) :
    (∃ p ∈ trip2 B c i X1 X12 X15 k f, y ∈ p.1.set) ↔ (y 0).val < 248 ∧ 128 * k.val ≤ (y 1).val ∧ (y 1).val < 128 * k.val + 128 := by
  have h0 : (y 0).val < 256 := (y 0).isLt
  unfold trip2 tripL_k0_t2 trip_k0_t2
  dsimp only
  simp only [List.mem_cons, exists_eq_or_imp, exists_eq_left, List.not_mem_nil, false_and, exists_false, or_false, mem2, Matrix.cons_val_zero, Matrix.cons_val_one, Matrix.cons_val,
    k0_off64_eq, k0_off65_eq, k0_off66_eq, k0_off67_eq, k0_off68_eq, k0_off69_eq, k0_off70_eq, k0_off71_eq, k0_off72_eq, k0_off73_eq, k0_off74_eq,
    k0_off75_eq, k0_off76_eq, k0_off77_eq, k0_off78_eq, k0_off79_eq, k0_off80_eq, k0_off81_eq, k0_off82_eq, k0_off83_eq, k0_off84_eq, k0_off85_eq,
    k0_off86_eq, k0_off87_eq, k0_off88_eq, k0_off89_eq, k0_off90_eq, k0_off91_eq, k0_off92_eq, k0_off93_eq, k0_off94_eq]
  generalize (y 0).val = r at *
  by_cases hc : 128 * k.val ≤ (y 1).val ∧ (y 1).val < 128 * k.val + 128
  · simp only [hc, and_true]
    omega
  · simp only [hc, and_false, or_false]

end Cert.ConvIdeal.Gradient

end
-- ==== Proof.ConvLoops.lean ====
/- What the two loops of the convolution's backward kernel leave once all eight groups of columns are done. -/
module

public import proofs.«01_k».proof.Proof.ConvTrips
public import proofs.«01_k».proof.Proof.ConvCover

@[expose] public section

noncomputable section

namespace Cert.ConvIdeal.Gradient

open Cert.ConvIdeal Cert.ConvIdeal.Gen Idealize.ShloMosaic Idealize.ShloMosaic.TcCoe Idealize.SL.Sem

theorem at2_idx {a b : ℕ} {e : EltTy} (zero : Elt Ideal e) (X : (⟨2, ![a, b]⟩ : Shape).Idx → Elt Ideal e) (y : (⟨2, ![a, b]⟩ : Shape).Idx) :
    at2 zero X (y 0).val (y 1).val = X y := by
  unfold at2
  rw [dif_pos ⟨(y 0).isLt, (y 1).isLt⟩]
  congr 1
  funext x
  fin_cases x <;> rfl

/-- The first trips of the first loop store the gradient of the convolved rows over their columns. -/
theorem loop1_pieces (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) (h16 : Moved (B.arg16.view.read (Elt Ideal) X16) (B.arg13.view.read (Elt Ideal) X13)) :
    ∀ n : ℕ, n ≤ 8 →
      (∀ p ∈ loop1 B c i X7 X13 X16 n, ∀ x : p.1.shape.Idx,
        p.2 x = taps (B.arg7.view.read (Elt Ideal) X7) (B.arg13.view.read (Elt Ideal) X13) (p.1.emb x 0).val (p.1.emb x 1).val)
      ∧ ∀ y : S256x1024.Idx, (y 1).val < 128 * n → ∃ p ∈ loop1 B c i X7 X13 X16 n, y ∈ p.1.set
  | 0, _ => ⟨fun p h => absurd h List.not_mem_nil, fun y h => absurd h (by omega)⟩
  | n + 1, hn => by
    obtain ⟨ih1, ih2⟩ := loop1_pieces B c i X7 X13 X16 h16 n (by omega)
    have hk : n < k0_t1_loop.trips := hn
    have e := loop1_succ B c i X7 X13 X16 ⟨n, hk⟩
    dsimp only at e
    rw [e]
    constructor
    · intro p hp
      rcases List.mem_append.mp hp with h | h
      · exact trip1_pieces B c i X7 X13 X16 h16 ⟨n, hk⟩ p h
      · exact ih1 p h
    · intro y hy
      by_cases hc : (y 1).val < 128 * n
      · obtain ⟨p, hp, h⟩ := ih2 y hc
        exact ⟨p, List.mem_append.mpr (.inr hp), h⟩
      · obtain ⟨p, hp, h⟩ := (trip1_mem B c i X7 X13 X16 ⟨n, hk⟩ y).mpr ⟨by show 128 * n ≤ _; omega, by show _ < 128 * n + 128; omega⟩
        exact ⟨p, List.mem_append.mpr (.inl hp), h⟩

/-- After the first loop its buffer holds the gradient of the convolved rows. -/
theorem loop1_read (B : Bufs) (c : Dev nD) (i : grid0.Coords) (X7 : BufTy.Contents (Elt Ideal) B.arg7.view.ty) (X13 : BufTy.Contents (Elt Ideal) B.arg13.view.ty)
    (X16 : BufTy.Contents (Elt Ideal) B.arg16.view.ty) (h16 : Moved (B.arg16.view.read (Elt Ideal) X16) (B.arg13.view.read (Elt Ideal) X13))
    (f : BufTy.Contents (Elt Ideal) B.arg14.view.ty) (y : S256x1024.Idx) :
    B.arg14.view.read (Elt Ideal) (B.arg14.view.writes (Elt Ideal) f (loop1 B c i X7 X13 X16 8)) y
      = taps (B.arg7.view.read (Elt Ideal) X7) (B.arg13.view.read (Elt Ideal) X13) (y 0).val (y 1).val := by
  obtain ⟨h1, h2⟩ := loop1_pieces B c i X7 X13 X16 h16 8 le_rfl
  exact View.read_writes_apply_of_pieces B.arg14.view f (fun y => taps _ _ (y 0).val (y 1).val) _ h1 y (h2 y (y 1).isLt)

/-- After the first trips of the second loop its buffer holds the kernel's gradient in their columns of the first 248 rows, and
    elsewhere what it held before. -/
theorem loop2_read (B : Bufs) (c : Dev nD) (i : grid0.Coords) (X1 : BufTy.Contents (Elt Ideal) B.arg1.view.ty) (X12 : BufTy.Contents (Elt Ideal) B.arg12.view.ty)
    (X15 : BufTy.Contents (Elt Ideal) B.arg15.view.ty) (h15 : Moved (B.arg15.view.read (Elt Ideal) X15) (B.arg12.view.read (Elt Ideal) X12))
    (f : BufTy.Contents (Elt Ideal) B.arg10.view.ty) :
    ∀ n : ℕ, n ≤ 8 → ∀ y : S256x1024.Idx,
      B.arg10.view.read (Elt Ideal) (B.arg10.view.writes (Elt Ideal) f (loop2 B c i X1 X12 X15 f n)) y
        = if (y 0).val < 248 ∧ (y 1).val < 128 * n then
            tapGrad (B.arg10.view.read (Elt Ideal) f) (B.arg1.view.read (Elt Ideal) X1) (B.arg12.view.read (Elt Ideal) X12) (y 0).val (y 1).val
          else B.arg10.view.read (Elt Ideal) f y
  | 0, _ => fun y => (if_neg (by omega)).symm
  | n + 1, hn => by
    intro y
    have ih := loop2_read B c i X1 X12 X15 h15 f n (by omega)
    have hk : n < k0_t2_loop.trips := hn
    have e := loop2_succ B c i X1 X12 X15 f ⟨n, hk⟩
    dsimp only at e
    rw [e, View.writes_append]
    have hm := trip2_mem B c i X1 X12 X15 ⟨n, hk⟩ (B.arg10.view.writes (Elt Ideal) f (loop2 B c i X1 X12 X15 f n)) y
    have hp := trip2_pieces B c i X1 X12 X15 h15 ⟨n, hk⟩ (B.arg10.view.writes (Elt Ideal) f (loop2 B c i X1 X12 X15 f n))
    dsimp only at hm
    by_cases hy : (y 0).val < 248 ∧ 128 * n ≤ (y 1).val ∧ (y 1).val < 128 * n + 128
    · rw [if_pos ⟨hy.1, by omega⟩]
      rw [View.read_writes_apply_of_pieces B.arg10.view _
        (fun y => tapGrad (B.arg10.view.read (Elt Ideal) (B.arg10.view.writes (Elt Ideal) f (loop2 B c i X1 X12 X15 f n)))
          (B.arg1.view.read (Elt Ideal) X1) (B.arg12.view.read (Elt Ideal) X12) (y 0).val (y 1).val) _ hp y (hm.mpr hy)]
      have ho : B.arg10.view.read (Elt Ideal) (B.arg10.view.writes (Elt Ideal) f (loop2 B c i X1 X12 X15 f n)) y = B.arg10.view.read (Elt Ideal) f y := by
        rw [ih y, if_neg (by omega)]
      have hen : ∀ X : S256x1024.Idx → EReal, en X (y 0).val (y 1).val = X y := fun X => at2_idx (e := .f32) (0 : EReal) X y
      unfold tapGrad
      rw [hen, hen, ho]
    · rw [View.read_writes_apply_of_forall_not_mem B.arg10.view _ y _ (fun p hp h => hy (hm.mp ⟨p, hp, h⟩)), ih y]
      by_cases hb : (y 0).val < 248 ∧ (y 1).val < 128 * n
      · rw [if_pos hb, if_pos ⟨hb.1, by omega⟩]
      · rw [if_neg hb, if_neg (by omega)]

end Cert.ConvIdeal.Gradient

end
-- ==== Proof.ConvScratch.lean ====
/- What the scratch buffers of the convolution's backward kernel hold during a point: the rows of the input and of the cotangent with
   the rows beside them, and the stacks of both moved up by 1, …, 7 rows. -/
module

public import proofs.«01_k».proof.Proof.ConvCover

@[expose] public section

set_option maxRecDepth 65536
set_option maxHeartbeats 4000000

noncomputable section

namespace Cert.ConvIdeal.Gradient

open Cert.ConvIdeal Cert.ConvIdeal.Gen Idealize.ShloMosaic Idealize.ShloMosaic.TcCoe Idealize.SL.Sem

/-- A load of a whole buffer reads what the buffer holds. -/
theorem rd {s : Shape} {e : EltTy} (m : Memref sig .tc .vmem s e) (h : m.IsWhole) (X : s.Idx → Elt Ideal e) (off : Fin s.rank → ℕ) (inb : ∀ a, off a + s.size a ≤ s.size a) :
    m.view.readAt (Elt Ideal) (Rect.unit off s.size inb).toLoadRect (h.unread X) = X := by
  funext x
  show m.view.read (Elt Ideal) (h.unread X) ((Rect.unit off s.size inb).emb x) = X x
  rw [h.read_unread]
  congr 1
  funext a
  apply Fin.ext
  rw [emb_at]
  have := inb a
  omega

/-- The rows of the input of a point under the 32 rows before them. -/
def below (P : S32x1024.Idx → EReal) (Q : S256x1024.Idx → EReal) (y : S288x1024.Idx) : EReal :=
  if h : (y 0).val < 32 then P (ix2 ⟨(y 0).val, h⟩ (y 1)) else Q (ix2 ⟨(y 0).val - 32, by have : (y 0).val < 288 := (y 0).isLt; omega⟩ (y 1))

/-- The rows of the cotangent of a point above the 32 rows behind them. -/
def above (P : S256x1024.Idx → EReal) (Q : S32x1024.Idx → EReal) (y : S288x1024.Idx) : EReal :=
  if h : (y 0).val < 256 then P (ix2 ⟨(y 0).val, h⟩ (y 1)) else Q (ix2 ⟨(y 0).val - 256, by have : (y 0).val < 288 := (y 0).isLt; omega⟩ (y 1))

variable (B : Bufs) (c : Dev nD) (i : grid0.Coords)
  (x0 : Vec Ideal S256x1024 .f32) (x1 : Vec Ideal S32x1024 .f32) (x2 x3 : Vec Ideal S256x1024 .bf16) (x4 x5 : Vec Ideal S32x1024 .bf16)

/-- The pieces of the input's rows, of the cotangent's rows, and of their stacks. -/
abbrev gL : List (View.Piece (Elt Ideal) S288x1024 .f32) := kernelRun0_A.sl.HS0_2 (F := Ideal) c i B.arg3 B.harg3 B.arg4 B.harg4 B.arg5 B.harg5 B.arg6 B.harg6 x2 x3 x4 x5
abbrev dL : List (View.Piece (Elt Ideal) S288x1024 .f32) := kernelRun0_A.sl.HS1_2 (F := Ideal) c i B.arg1 B.harg1 B.arg2 B.harg2 x0 x1
abbrev gsL : List (View.Piece (Elt Ideal) S7x280x1024 .f32) := kernelRun0_A.sl.HS3_7 (F := Ideal) c i B.arg3 B.harg3 B.arg4 B.harg4 B.arg5 B.harg5 B.arg6 B.harg6 B.arg12 x2 x3 x4 x5
abbrev dsL : List (View.Piece (Elt Ideal) S7x280x1024 .f32) := kernelRun0_A.sl.HS4_7 (F := Ideal) c i B.arg1 B.harg1 B.arg2 B.harg2 B.arg13 x0 x1

abbrev gAt : S288x1024.Idx → EReal := below (k0_pay511 (F := Ideal) i x4 x5) (k0_pay512 (F := Ideal) x2 x3)
abbrev dAt : S288x1024.Idx → EReal := above x0 (k0_pay515 (F := Ideal) (BitVec.ofNat 32 (i 0).val) x1)

theorem gL_read (f : BufTy.Contents (Elt Ideal) B.arg12.view.ty) :
    B.arg12.view.read (Elt Ideal) (B.arg12.view.writes (Elt Ideal) f (gL B c i x2 x3 x4 x5)) = gAt i x2 x3 x4 x5 := by
  funext y
  refine View.read_writes_apply_of_pieces B.arg12.view f (gAt i x2 x3 x4 x5) _ ?_ y ?_
  · unfold gL kernelRun0_A.sl.HS0_2
    simp only [List.forall_mem_cons]
    refine ⟨?_, ?_, fun _ h => absurd h List.not_mem_nil⟩
    · intro x
      have h0 : ((Rect.unit (s := S288x1024) ![32, 0] S256x1024.size inb_S288x1024_S256x1024_32_0).emb x 0).val = (x 0).val + 32 := emb_at _ _ _ x 0
      have h1 : (Rect.unit (s := S288x1024) ![32, 0] S256x1024.size inb_S288x1024_S256x1024_32_0).emb x 1 = x 1 := Fin.ext (emb_at _ _ _ x 1)
      unfold gAt below
      rw [dif_neg (by rw [h0]; omega)]
      unfold k0_pay513 kernelRun0_A.sl.r_2
      rw [rd, rd]
      rw [shapeCast_self]
      congr 1
      funext a
      fin_cases a
      · exact Fin.ext (by show (x 0).val = _ - 32; rw [h0]; omega)
      · exact h1.symm
    · intro x
      have h0 : ((Rect.unit (s := S288x1024) ![0, 0] S32x1024.size inb_S288x1024_S32x1024_0_0).emb x 0).val = (x 0).val := emb_at _ _ _ x 0
      have h1 : (Rect.unit (s := S288x1024) ![0, 0] S32x1024.size inb_S288x1024_S32x1024_0_0).emb x 1 = x 1 := Fin.ext (emb_at _ _ _ x 1)
      unfold gAt below
      have hx : (x 0).val < 32 := (x 0).isLt
      rw [dif_pos (by rw [h0]; exact hx)]
      rw [rd, rd]
      congr 1
      funext a
      fin_cases a
      · exact Fin.ext h0.symm
      · exact h1.symm
  · have hy : (y 0).val < 288 := (y 0).isLt
    have hy1 : (y 1).val < 1024 := (y 1).isLt
    unfold gL kernelRun0_A.sl.HS0_2
    by_cases h : (y 0).val < 32
    · exact ⟨_, List.mem_cons_of_mem _ List.mem_cons_self, (mem2 _ _ inb_S288x1024_S32x1024_0_0 y).mpr
        ⟨⟨Nat.zero_le _, by show (y 0).val < 0 + 32; omega⟩, Nat.zero_le _, by show (y 1).val < 0 + 1024; omega⟩⟩
    · exact ⟨_, List.mem_cons_self, (mem2 _ _ inb_S288x1024_S256x1024_32_0 y).mpr
        ⟨⟨by show 32 ≤ (y 0).val; omega, by show (y 0).val < 32 + 256; omega⟩, Nat.zero_le _, by show (y 1).val < 0 + 1024; omega⟩⟩

theorem dL_read (f : BufTy.Contents (Elt Ideal) B.arg13.view.ty) :
    B.arg13.view.read (Elt Ideal) (B.arg13.view.writes (Elt Ideal) f (dL B c i x0 x1)) = dAt i x0 x1 := by
  funext y
  refine View.read_writes_apply_of_pieces B.arg13.view f (dAt i x0 x1) _ ?_ y ?_
  · unfold dL kernelRun0_A.sl.HS1_2
    simp only [List.forall_mem_cons]
    refine ⟨?_, ?_, fun _ h => absurd h List.not_mem_nil⟩
    · intro x
      have h0 : ((Rect.unit (s := S288x1024) ![256, 0] S32x1024.size inb_S288x1024_S32x1024_256_0).emb x 0).val = (x 0).val + 256 := emb_at _ _ _ x 0
      have h1 : (Rect.unit (s := S288x1024) ![256, 0] S32x1024.size inb_S288x1024_S32x1024_256_0).emb x 1 = x 1 := Fin.ext (emb_at _ _ _ x 1)
      unfold dAt above
      rw [dif_neg (by rw [h0]; omega)]
      rw [rd]
      congr 1
      funext a
      fin_cases a
      · exact Fin.ext (by show (x 0).val = _ - 256; rw [h0]; omega)
      · exact h1.symm
    · intro x
      have h0 : ((Rect.unit (s := S288x1024) ![0, 0] S256x1024.size inb_S288x1024_S256x1024_0_0).emb x 0).val = (x 0).val := emb_at _ _ _ x 0
      have h1 : (Rect.unit (s := S288x1024) ![0, 0] S256x1024.size inb_S288x1024_S256x1024_0_0).emb x 1 = x 1 := Fin.ext (emb_at _ _ _ x 1)
      unfold dAt above
      have hx : (x 0).val < 256 := (x 0).isLt
      rw [dif_pos (by rw [h0]; exact hx)]
      unfold k0_pay514
      rw [rd, shapeCast_self]
      congr 1
      funext a
      fin_cases a
      · exact Fin.ext h0.symm
      · exact h1.symm
  · have hy : (y 0).val < 288 := (y 0).isLt
    have hy1 : (y 1).val < 1024 := (y 1).isLt
    unfold dL kernelRun0_A.sl.HS1_2
    by_cases h : (y 0).val < 256
    · exact ⟨_, List.mem_cons_of_mem _ List.mem_cons_self, (mem2 _ _ inb_S288x1024_S256x1024_0_0 y).mpr
        ⟨⟨Nat.zero_le _, by show (y 0).val < 0 + 256; omega⟩, Nat.zero_le _, by show (y 1).val < 0 + 1024; omega⟩⟩
    · exact ⟨_, List.mem_cons_self, (mem2 _ _ inb_S288x1024_S32x1024_256_0 y).mpr
        ⟨⟨by show 256 ≤ (y 0).val; omega, by show (y 0).val < 256 + 32; omega⟩, Nat.zero_le _, by show (y 1).val < 0 + 1024; omega⟩⟩

/-- The seven stores of a stack cover it. -/
theorem stack_mem (y : S7x280x1024.Idx) (j : ℕ) (hj : (y 0).val = j) (inb : ∀ a, ![j, 0, 0] a + S1x280x1024.size a ≤ S7x280x1024.size a) :
    y ∈ (Rect.unit (s := S7x280x1024) ![j, 0, 0] S1x280x1024.size inb).set :=
  Rect.mem_set_unit.mpr fun a => by
    have h1 : (y 1).val < 280 := (y 1).isLt
    have h2 : (y 2).val < 1024 := (y 2).isLt
    fin_cases a
    · exact ⟨by show j ≤ (y 0).val; omega, by show (y 0).val < j + 1; omega⟩
    · exact ⟨Nat.zero_le _, by show (y 1).val < 0 + 280; omega⟩
    · exact ⟨Nat.zero_le _, by show (y 2).val < 0 + 1024; omega⟩

/-- The stack of the input's rows holds them moved up. -/
theorem gsL_moved (f : BufTy.Contents (Elt Ideal) B.arg15.view.ty) :
    Moved (B.arg15.view.read (Elt Ideal) (B.arg15.view.writes (Elt Ideal) f (gsL B c i x2 x3 x4 x5))) (gAt i x2 x3 x4 x5) := by
  intro j r l hj hr hl
  unfold at3
  rw [dif_pos ⟨hj, hr, hl⟩]
  refine View.read_writes_apply_of_pieces B.arg15.view f (fun y => en (gAt i x2 x3 x4 x5) ((y 1).val + ((y 0).val + 1)) (y 2).val) _ ?_
    (ix3 ⟨j, hj⟩ ⟨r, hr⟩ ⟨l, hl⟩) ?_
  · unfold gsL kernelRun0_A.sl.HS3_7
    simp only [List.forall_mem_cons]
    refine ⟨?_, ?_, ?_, ?_, ?_, ?_, ?_, fun _ h => absurd h List.not_mem_nil⟩
    all_goals
      intro x
      obtain ⟨z, s, l, rfl⟩ : ∃ (z : Fin 1) (s : Fin 280) (l : Fin 1024), x = ix3 z s l := ⟨x 0, x 1, x 2, by funext a; fin_cases a <;> rfl⟩
      obtain rfl : z = 0 := Subsingleton.elim _ _
      pointwise [k0_pay516, k0_pay517, k0_pay518, k0_pay519, k0_pay520, k0_pay521, k0_pay522, kernelRun0_A.sl.v51, kernelRun0_A.sl.v55, kernelRun0_A.sl.v59, kernelRun0_A.sl.v63, kernelRun0_A.sl.v67, kernelRun0_A.sl.v71, kernelRun0_A.sl.v75]
      unfold View.readCov
      rw [load2 (e := .f32) (0 : EReal), gL_read B c i x2 x3 x4 x5]
      simp only [emb_at, Matrix.cons_val_zero, Matrix.cons_val_one, Matrix.cons_val, ix2_0, ix2_1, ix3_0, ix3_1, ix3_2, Nat.add_zero, Nat.zero_add, Fin.val_zero,
        Nat.reduceAdd]
  · unfold gsL kernelRun0_A.sl.HS3_7
    match j, hj with
    | 6, _ => exact ⟨_, List.mem_cons_self, stack_mem _ 6 rfl inb_S7x280x1024_S1x280x1024_6_0_0⟩
    | 5, _ => exact ⟨_, List.mem_cons_of_mem _ List.mem_cons_self, stack_mem _ 5 rfl inb_S7x280x1024_S1x280x1024_5_0_0⟩
    | 4, _ => exact ⟨_, List.mem_cons_of_mem _ (List.mem_cons_of_mem _ List.mem_cons_self), stack_mem _ 4 rfl inb_S7x280x1024_S1x280x1024_4_0_0⟩
    | 3, _ => exact ⟨_, List.mem_cons_of_mem _ (List.mem_cons_of_mem _ (List.mem_cons_of_mem _ List.mem_cons_self)), stack_mem _ 3 rfl inb_S7x280x1024_S1x280x1024_3_0_0⟩
    | 2, _ => exact ⟨_, List.mem_cons_of_mem _ (List.mem_cons_of_mem _ (List.mem_cons_of_mem _ (List.mem_cons_of_mem _ List.mem_cons_self))), stack_mem _ 2 rfl inb_S7x280x1024_S1x280x1024_2_0_0⟩
    | 1, _ => exact ⟨_, List.mem_cons_of_mem _ (List.mem_cons_of_mem _ (List.mem_cons_of_mem _ (List.mem_cons_of_mem _ (List.mem_cons_of_mem _ List.mem_cons_self)))), stack_mem _ 1 rfl inb_S7x280x1024_S1x280x1024_1_0_0⟩
    | 0, _ => exact ⟨_, List.mem_cons_of_mem _ (List.mem_cons_of_mem _ (List.mem_cons_of_mem _ (List.mem_cons_of_mem _ (List.mem_cons_of_mem _ (List.mem_cons_of_mem _ List.mem_cons_self))))), stack_mem _ 0 rfl inb_S7x280x1024_S1x280x1024_0_0_0⟩

/-- The stack of the cotangent's rows holds them moved up. -/
theorem dsL_moved (f : BufTy.Contents (Elt Ideal) B.arg16.view.ty) :
    Moved (B.arg16.view.read (Elt Ideal) (B.arg16.view.writes (Elt Ideal) f (dsL B c i x0 x1))) (dAt i x0 x1) := by
  intro j r l hj hr hl
  unfold at3
  rw [dif_pos ⟨hj, hr, hl⟩]
  refine View.read_writes_apply_of_pieces B.arg16.view f (fun y => en (dAt i x0 x1) ((y 1).val + ((y 0).val + 1)) (y 2).val) _ ?_
    (ix3 ⟨j, hj⟩ ⟨r, hr⟩ ⟨l, hl⟩) ?_
  · unfold dsL kernelRun0_A.sl.HS4_7
    simp only [List.forall_mem_cons]
    refine ⟨?_, ?_, ?_, ?_, ?_, ?_, ?_, fun _ h => absurd h List.not_mem_nil⟩
    all_goals
      intro x
      obtain ⟨z, s, l, rfl⟩ : ∃ (z : Fin 1) (s : Fin 280) (l : Fin 1024), x = ix3 z s l := ⟨x 0, x 1, x 2, by funext a; fin_cases a <;> rfl⟩
      obtain rfl : z = 0 := Subsingleton.elim _ _
      pointwise [k0_pay523, k0_pay524, k0_pay525, k0_pay526, k0_pay527, k0_pay528, k0_pay529, kernelRun0_A.sl.v79, kernelRun0_A.sl.v83, kernelRun0_A.sl.v87, kernelRun0_A.sl.v91, kernelRun0_A.sl.v95, kernelRun0_A.sl.v99, kernelRun0_A.sl.v103]
      unfold View.readCov
      rw [load2 (e := .f32) (0 : EReal), dL_read B c i x0 x1]
      simp only [emb_at, Matrix.cons_val_zero, Matrix.cons_val_one, Matrix.cons_val, ix2_0, ix2_1, ix3_0, ix3_1, ix3_2, Nat.add_zero, Nat.zero_add, Fin.val_zero,
        Nat.reduceAdd]
  · unfold dsL kernelRun0_A.sl.HS4_7
    match j, hj with
    | 6, _ => exact ⟨_, List.mem_cons_self, stack_mem _ 6 rfl inb_S7x280x1024_S1x280x1024_6_0_0⟩
    | 5, _ => exact ⟨_, List.mem_cons_of_mem _ List.mem_cons_self, stack_mem _ 5 rfl inb_S7x280x1024_S1x280x1024_5_0_0⟩
    | 4, _ => exact ⟨_, List.mem_cons_of_mem _ (List.mem_cons_of_mem _ List.mem_cons_self), stack_mem _ 4 rfl inb_S7x280x1024_S1x280x1024_4_0_0⟩
    | 3, _ => exact ⟨_, List.mem_cons_of_mem _ (List.mem_cons_of_mem _ (List.mem_cons_of_mem _ List.mem_cons_self)), stack_mem _ 3 rfl inb_S7x280x1024_S1x280x1024_3_0_0⟩
    | 2, _ => exact ⟨_, List.mem_cons_of_mem _ (List.mem_cons_of_mem _ (List.mem_cons_of_mem _ (List.mem_cons_of_mem _ List.mem_cons_self))), stack_mem _ 2 rfl inb_S7x280x1024_S1x280x1024_2_0_0⟩
    | 1, _ => exact ⟨_, List.mem_cons_of_mem _ (List.mem_cons_of_mem _ (List.mem_cons_of_mem _ (List.mem_cons_of_mem _ (List.mem_cons_of_mem _ List.mem_cons_self)))), stack_mem _ 1 rfl inb_S7x280x1024_S1x280x1024_1_0_0⟩
    | 0, _ => exact ⟨_, List.mem_cons_of_mem _ (List.mem_cons_of_mem _ (List.mem_cons_of_mem _ (List.mem_cons_of_mem _ (List.mem_cons_of_mem _ (List.mem_cons_of_mem _ List.mem_cons_self))))), stack_mem _ 0 rfl inb_S7x280x1024_S1x280x1024_0_0_0⟩

end Cert.ConvIdeal.Gradient

end
-- ==== Proof.ConvValue.lean ====
/- What a point of the convolution's backward kernel leaves in its four outputs. -/
module

public import proofs.«01_k».proof.Proof.ConvLoops
public import proofs.«01_k».proof.Proof.ConvScratch
public import proofs.«01_k».proof.Proof.Gate

@[expose] public section

set_option maxRecDepth 65536
set_option maxHeartbeats 4000000

noncomputable section

namespace Cert.ConvIdeal.Gradient

open Cert.ConvIdeal Cert.ConvIdeal.Gen Idealize.ShloMosaic Idealize.ShloMosaic.TcCoe Idealize.SL.Sem

/-- A store of a whole buffer leaves what it stores. -/
theorem whole_store {s : Shape} {e : EltTy} {sp : Space} (v : View sig .tc sp s e) (f : BufTy.Contents (Elt Ideal) v.ty) (off : Fin s.rank → ℕ)
    (size : Fin s.rank → ℕ) (inb : ∀ a, off a + size a ≤ s.size a) (hz : ∀ a, off a = 0) (hs : size = s.size)
    (P : (Rect.unit off size inb).shape.Idx → Elt Ideal e) (y : s.Idx) (x : (Rect.unit off size inb).shape.Idx) (hx : ∀ a, (x a).val = (y a).val) :
    v.read (Elt Ideal) (v.writes (Elt Ideal) f [⟨Rect.unit off size inb, P⟩]) y = P x := by
  have he : ∀ z : (Rect.unit off size inb).shape.Idx, ∀ a, ((Rect.unit off size inb).emb z a).val = (z a).val := fun z a => by
    rw [emb_at, hz, Nat.add_zero]
  have hm : y ∈ (Rect.unit off size inb).set := Rect.mem_set_unit.mpr fun a => by
    rw [hz a, congrFun hs a]; exact ⟨Nat.zero_le _, by rw [Nat.zero_add]; exact (y a).isLt⟩
  have hg := View.read_writes_apply_of_pieces v f (fun w => P fun a => ⟨(w a).val, lt_of_lt_of_eq (w a).isLt (congrFun hs a).symm⟩)
    [⟨Rect.unit off size inb, P⟩] (fun p hp z => by
      obtain rfl := List.mem_singleton.mp hp
      exact congrArg P (funext fun a => Fin.ext (he z a).symm)) y
    ⟨_, List.mem_singleton.mpr rfl, hm⟩
  exact hg.trans (congrArg P (funext fun a => Fin.ext (hx a).symm))

/-- A load of a whole buffer reads its contents. -/
theorem whole_load {s : Shape} {e : EltTy} {sp : Space} (v : View sig .tc sp s e) (f : BufTy.Contents (Elt Ideal) v.ty) (off : Fin s.rank → ℕ)
    (size : Fin s.rank → ℕ) (inb : ∀ a, off a + size a ≤ s.size a) (hz : ∀ a, off a = 0) (x : (Rect.unit off size inb).shape.Idx) (y : s.Idx)
    (hx : ∀ a, (x a).val = (y a).val) : v.readAt (Elt Ideal) (Rect.unit off size inb).toLoadRect f x = v.read (Elt Ideal) f y := by
  show v.read (Elt Ideal) f ((Rect.unit off size inb).emb x) = _
  congr 1
  funext a
  apply Fin.ext
  rw [emb_at, hz, Nat.add_zero, hx]

theorem off2 : ∀ a : Fin 2, ![0, 0] a = 0 := by decide

variable (B : Bufs) (c : Dev nD) (i : grid0.Coords)
  (x0 : Vec Ideal S256x1024 .f32) (x1 : Vec Ideal S32x1024 .f32) (x2 x3 : Vec Ideal S256x1024 .bf16) (x4 x5 : Vec Ideal S32x1024 .bf16)
  (x6 : Vec Ideal S32x1024 .f32) (xo9 : Vec Ideal S256x1024 .f32) (xo10 : Vec Ideal S1x1024 .f32)

theorem sig_blk (y : S256x1024.Idx) : k0_pay510 (F := Ideal) x3 y = Gate.sig (x3 y) := by
  pointwise [k0_pay510]
  simp only [Gate.sig, Gate.one_eq, EReal.coe_one, zero_sub]

theorem val_blk (y : S256x1024.Idx) : k0_pay509 (F := Ideal) x2 y = x2 y := by
  pointwise [k0_pay509]

theorem prod_blk (y : S256x1024.Idx) : k0_pay512 (F := Ideal) x2 x3 y = x2 y * Gate.sig (x3 y) := by
  rw [← sig_blk, ← val_blk x2]
  pointwise [k0_pay512]

theorem dv_blk (D : Vec Ideal S256x1024 .f32) (y : S256x1024.Idx) : k0_pay7 (F := Ideal) (k0_pay510 x3) D y = D y * Gate.sig (x3 y) := by
  rw [← sig_blk]
  pointwise [k0_pay7]

theorem dgate_blk (D : Vec Ideal S256x1024 .f32) (y : S256x1024.Idx) :
    k0_pay8 (F := Ideal) (k0_pay509 x2) (k0_pay510 x3) D y = D y * x2 y * Gate.sig (x3 y) * (Gate.one - Gate.sig (x3 y)) := by
  rw [← sig_blk, ← val_blk x2]
  pointwise [k0_pay8]

/-- The bias's gradient after a point: the sum of the cotangent's rows added to what was there. -/
theorem db_blk (o : Vec Ideal S1x1024 .f32) (l : Fin 1024) :
    k0_pay530 (F := Ideal) x0 o (ix2 0 l) = o (ix2 0 l) + ∑ s : Fin 256, x0 (ix2 s l) := by
  pointwise [k0_pay530]

/-- The gradient of the convolved rows, as the loop leaves it. -/
def dgBlk (y : S256x1024.Idx) : EReal := taps x6 (dAt i x0 x1) (y 0).val (y 1).val

abbrev X13 := B.arg13.view.writes (Elt Ideal) B.arg13.view.junk (dL B c i x0 x1)
abbrev X16 := B.arg16.view.writes (Elt Ideal) B.arg16.view.junk (dsL B c i x0 x1)
abbrev X12 := B.arg12.view.writes (Elt Ideal) B.arg12.view.junk (gL B c i x2 x3 x4 x5)
abbrev X15 := B.arg15.view.writes (Elt Ideal) B.arg15.view.junk (gsL B c i x2 x3 x4 x5)

/-- The load of the first loop's buffer. -/
abbrev ld14 : (Rect.unit (s := S256x1024) ![0, 0] ![256, 1024] inb_S256x1024_S256x1024_0_0).shape.Idx → Elt Ideal .f32 :=
  B.arg14.view.readCov (loop1 B c i (B.harg7.unread x6) (X13 B c i x0 x1) (X16 B c i x0 x1) 8) (Rect.unit ![0, 0] ![256, 1024] inb_S256x1024_S256x1024_0_0).toLoadRect

theorem ld14_eq : ld14 B c i x0 x1 x6 = dgBlk i x0 x1 x6 := by
  funext y
  refine (whole_load B.arg14.view _ _ _ _ off2 _ y fun a => rfl).trans ?_
  refine (loop1_read B c i _ (X13 B c i x0 x1) (X16 B c i x0 x1) ?_ _ y).trans ?_
  · rw [dL_read]
    exact dsL_moved B c i x0 x1 _
  · rw [dL_read, B.harg7.read_unread]
    rfl

/-- The pieces of the two block outputs. -/
abbrev dvL : List (View.Piece (Elt Ideal) S256x1024 .bf16) :=
  [⟨Rect.unit ![0, 0] ![256, 1024] inb_S256x1024_S256x1024_0_0, k0_pay7 (F := Ideal) (kernelRun0_A.sl.r_1 c B.arg4 B.harg4 x3) (ld14 B c i x0 x1 x6)⟩]
abbrev dgateL : List (View.Piece (Elt Ideal) S256x1024 .bf16) :=
  [⟨Rect.unit ![0, 0] ![256, 1024] inb_S256x1024_S256x1024_0_0,
    k0_pay8 (F := Ideal) (kernelRun0_A.sl.r c B.arg3 B.harg3 x2) (kernelRun0_A.sl.r_1 c B.arg4 B.harg4 x3) (ld14 B c i x0 x1 x6)⟩]

theorem dvL_read (v : View sig .tc .vmem S256x1024 .bf16) (f : BufTy.Contents (Elt Ideal) v.ty) (y : S256x1024.Idx) :
    v.read (Elt Ideal) (v.writes (Elt Ideal) f (dvL B c i x0 x1 x3 x6)) y = dgBlk i x0 x1 x6 y * Gate.sig (x3 y) := by
  refine (whole_store v f _ _ _ off2 rfl _ y y fun a => rfl).trans ?_
  unfold kernelRun0_A.sl.r_1
  rw [rd, ld14_eq, dv_blk]

theorem dgateL_read (v : View sig .tc .vmem S256x1024 .bf16) (f : BufTy.Contents (Elt Ideal) v.ty) (y : S256x1024.Idx) :
    v.read (Elt Ideal) (v.writes (Elt Ideal) f (dgateL B c i x0 x1 x2 x3 x6)) y
      = dgBlk i x0 x1 x6 y * x2 y * Gate.sig (x3 y) * (Gate.one - Gate.sig (x3 y)) := by
  refine (whole_store v f _ _ _ off2 rfl _ y y fun a => rfl).trans ?_
  unfold kernelRun0_A.sl.r_1 kernelRun0_A.sl.r
  rw [rd, rd, ld14_eq, dgate_blk]

/-- What the second loop leaves, from what it found. -/
theorem dwL_read (f : BufTy.Contents (Elt Ideal) B.arg10.view.ty) (y : S256x1024.Idx) (hy : (y 0).val < 248) :
    B.arg10.view.read (Elt Ideal) (B.arg10.view.writes (Elt Ideal) f
      (loop2 B c i (B.harg1.unread x0) (X12 B c i x2 x3 x4 x5) (X15 B c i x2 x3 x4 x5) f 8)) y
      = tapGrad (B.arg10.view.read (Elt Ideal) f) x0 (gAt i x2 x3 x4 x5) (y 0).val (y 1).val := by
  refine (loop2_read B c i _ (X12 B c i x2 x3 x4 x5) (X15 B c i x2 x3 x4 x5) ?_ f 8 le_rfl y).trans ?_
  · rw [gL_read]
    exact gsL_moved B c i x2 x3 x4 x5 _
  · rw [if_pos ⟨hy, (y 1).isLt⟩, gL_read, B.harg1.read_unread]

section
variable (arg1 : Memref sig .tc .vmem S256x1024 .f32) (harg1 : arg1.IsWhole)
  (arg2 : Memref sig .tc .vmem S32x1024 .f32) (harg2 : arg2.IsWhole)
  (arg3 : Memref sig .tc .vmem S256x1024 .bf16) (harg3 : arg3.IsWhole)
  (arg4 : Memref sig .tc .vmem S256x1024 .bf16) (harg4 : arg4.IsWhole)
  (arg5 : Memref sig .tc .vmem S32x1024 .bf16) (harg5 : arg5.IsWhole)
  (arg6 : Memref sig .tc .vmem S32x1024 .bf16) (harg6 : arg6.IsWhole)
  (arg7 : Memref sig .tc .vmem S32x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S288x1024 .f32) (harg12 : arg12.IsWhole)
  (arg13 : Memref sig .tc .vmem S288x1024 .f32) (harg13 : arg13.IsWhole)
  (arg14 : Memref sig .tc .vmem S256x1024 .f32) (harg14 : arg14.IsWhole)
  (arg15 : Memref sig .tc .vmem S7x280x1024 .f32) (harg15 : arg15.IsWhole)
  (arg16 : Memref sig .tc .vmem S7x280x1024 .f32) (harg16 : arg16.IsWhole)
  (hc0 : cond0_0 i)

theorem outA_7 (y : S256x1024.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = dgBlk i x0 x1 x6 y * Gate.sig (x3 y) :=
  dvL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x1 x3 x6 VO0_7 _ y

theorem outA_8 (y : S256x1024.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y
    = dgBlk i x0 x1 x6 y * x2 y * Gate.sig (x3 y) * (Gate.one - Gate.sig (x3 y)) :=
  dgateL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x1 x2 x3 x6 VO0_8 _ y

theorem outA_10 (l : Fin 1024) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 (ix2 0 l) = ∑ s : Fin 256, x0 (ix2 s l) := by
  refine (View.writes_append VO0_10 _ [_] (kernelRun0_A.sl.H10_1 (F := Ideal)) ▸ whole_store VO0_10 _ _ _ _ off2 rfl _ (ix2 0 l) (ix2 0 l) fun a => rfl).trans ?_
  unfold kernelRun0_A.sl.r_4 kernelRun0_A.sl.r_3 kernelRun0_A.sl.v107
  rw [rd, db_blk]
  refine (congrArg₂ (HAdd.hAdd (α := EReal)) ?_ rfl).trans (zero_add _)
  refine (whole_load arg11.view _ _ _ _ off2 _ (ix2 0 l) fun a => rfl).trans ?_
  unfold kernelRun0_A.sl.H10_1
  refine (whole_store arg11.view _ _ _ _ off2 rfl _ (ix2 0 l) (ix2 0 l) fun a => rfl).trans ?_
  pointwise [k0_pay508]

theorem outA_9 (y : S256x1024.Idx) (hy : (y 0).val < 248) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 y = tapGrad (fun _ => 0) x0 (gAt i x2 x3 x4 x5) (y 0).val (y 1).val := by
  have hz : arg10.view.read (Elt Ideal) (arg10.view.writes (Elt Ideal) arg10.view.junk (kernelRun0_A.sl.H9_1 (F := Ideal))) = fun _ => (0 : EReal) := by
    funext y
    unfold kernelRun0_A.sl.H9_1
    refine (whole_store arg10.view _ _ _ _ off2 rfl _ y y fun a => rfl).trans ?_
    pointwise [k0_pay507]
  have h := dwL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x2 x3 x4 x5 (arg10.view.writes (Elt Ideal) arg10.view.junk (kernelRun0_A.sl.H9_1 (F := Ideal))) y hy
  rw [hz, ← View.writes_append] at h
  refine Eq.trans ?_ h
  refine View.read_writes_apply_eq VO0_9 _ arg10.view _ y _ ?_
  refine ⟨_, List.mem_append.mpr (.inr (List.mem_singleton.mpr rfl)), (Rect.mem_set_unit (inb := inb_S256x1024_S256x1024_0_0)).mpr fun a => ?_⟩
  fin_cases a
  · exact ⟨Nat.zero_le _, by show (y 0).val < 0 + 256; have : (y 0).val < 256 := (y 0).isLt; omega⟩
  · exact ⟨Nat.zero_le _, by show (y 1).val < 0 + 1024; have : (y 1).val < 1024 := (y 1).isLt; omega⟩
end

section
variable (arg1 : Memref sig .tc .vmem S256x1024 .f32) (harg1 : arg1.IsWhole)
  (arg2 : Memref sig .tc .vmem S32x1024 .f32) (harg2 : arg2.IsWhole)
  (arg3 : Memref sig .tc .vmem S256x1024 .bf16) (harg3 : arg3.IsWhole)
  (arg4 : Memref sig .tc .vmem S256x1024 .bf16) (harg4 : arg4.IsWhole)
  (arg5 : Memref sig .tc .vmem S32x1024 .bf16) (harg5 : arg5.IsWhole)
  (arg6 : Memref sig .tc .vmem S32x1024 .bf16) (harg6 : arg6.IsWhole)
  (arg7 : Memref sig .tc .vmem S32x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S256x1024 .f32) (harg10 : arg10.IsWhole)
  (arg11 : Memref sig .tc .vmem S1x1024 .f32) (harg11 : arg11.IsWhole)
  (arg12 : Memref sig .tc .vmem S288x1024 .f32) (harg12 : arg12.IsWhole)
  (arg13 : Memref sig .tc .vmem S288x1024 .f32) (harg13 : arg13.IsWhole)
  (arg14 : Memref sig .tc .vmem S256x1024 .f32) (harg14 : arg14.IsWhole)
  (arg15 : Memref sig .tc .vmem S7x280x1024 .f32) (harg15 : arg15.IsWhole)
  (arg16 : Memref sig .tc .vmem S7x280x1024 .f32) (harg16 : arg16.IsWhole)
  (hc0 : ¬cond0_0 i)

theorem outB_7 (y : S256x1024.Idx) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo9 xo10 y = dgBlk i x0 x1 x6 y * Gate.sig (x3 y) :=
  dvL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x1 x3 x6 VO0_7 _ y

theorem outB_8 (y : S256x1024.Idx) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo9 xo10 y
    = dgBlk i x0 x1 x6 y * x2 y * Gate.sig (x3 y) * (Gate.one - Gate.sig (x3 y)) :=
  dgateL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x1 x2 x3 x6 VO0_8 _ y

theorem outB_10 (l : Fin 1024) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo9 xo10 (ix2 0 l) = xo10 (ix2 0 l) + ∑ s : Fin 256, x0 (ix2 s l) := by
  refine (whole_store VO0_10 _ _ _ _ off2 rfl _ (ix2 0 l) (ix2 0 l) fun a => rfl).trans ?_
  unfold kernelRun0_B.sl.r_4 kernelRun0_B.sl.r_3
  rw [rd, rd, db_blk]

theorem outB_9 (y : S256x1024.Idx) (hy : (y 0).val < 248) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xo9 xo10 y = tapGrad xo9 x0 (gAt i x2 x3 x4 x5) (y 0).val (y 1).val := by
  have h := dwL_read ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16⟩ c i x0 x2 x3 x4 x5 (harg10.unread xo9) y hy
  rw [harg10.read_unread] at h
  exact h
end

end Cert.ConvIdeal.Gradient

end
-- ==== Proof.ConvPoints.lean ====
/- What the outputs of the convolution's backward kernel hold after each point of the grid. -/
module

public import proofs.«01_k».proof.Proof.ConvValue

@[expose] public section

set_option maxRecDepth 65536
set_option maxHeartbeats 4000000

noncomputable section

namespace Cert.ConvIdeal.Gradient

open Cert.ConvIdeal Cert.ConvIdeal.Gen Idealize.ShloMosaic Idealize.ShloMosaic.TcCoe Idealize.SL.Sem

section
variable (m : (ℓ : Loc nD τ sig) → Buf (Elt Ideal) ℓ) (c : Dev nD) (t : Fin cfg0.N)

/-- The gradient of the convolved rows at a point. -/
abbrev dgAt : S256x1024.Idx → EReal := dgBlk (grid0.coords t) (iblk m c 0 t) (iblk m c 1 t) (iblk m c 6 t)
/-- The rows of the cotangent at a point. -/
abbrev dRows : S256x1024.Idx → EReal := iblk m c 0 t
/-- The two factors' rows at a point. -/
abbrev valRows : S256x1024.Idx → EReal := iblk m c 2 t
abbrev gateRows : S256x1024.Idx → EReal := iblk m c 3 t
/-- The rows of the input at a point. -/
abbrev gRows : S288x1024.Idx → EReal := gAt (grid0.coords t) (iblk m c 2 t) (iblk m c 3 t) (iblk m c 4 t) (iblk m c 5 t)

theorem out7 (y : S256x1024.Idx) : (outsAt0 m c t.val t.isLt).1 y = dgAt m c t y * Gate.sig (gateRows m c t y) := by
  by_cases h : t.val % 32 = 0
  · rw [outsAt0_A m c t h]
    dsimp only
    exact outA_7 (hc0 := ((hcond0_0 t).mpr h)) (y := y) ..
  · rw [outsAt0_B m c t h]
    dsimp only
    exact outB_7 (hc0 := (fun hc => h ((hcond0_0 t).mp hc))) (y := y) ..

theorem out8 (y : S256x1024.Idx) : (outsAt0 m c t.val t.isLt).2.1 y
    = dgAt m c t y * valRows m c t y * Gate.sig (gateRows m c t y) * (Gate.one - Gate.sig (gateRows m c t y)) := by
  by_cases h : t.val % 32 = 0
  · rw [outsAt0_A m c t h]
    dsimp only
    exact outA_8 (hc0 := ((hcond0_0 t).mpr h)) (y := y) ..
  · rw [outsAt0_B m c t h]
    dsimp only
    exact outB_8 (hc0 := (fun hc => h ((hcond0_0 t).mp hc))) (y := y) ..

theorem out9_A (h : t.val % 32 = 0) (y : S256x1024.Idx) (hy : (y 0).val < 248) :
    (outsAt0 m c t.val t.isLt).2.2.1 y = tapGrad (fun _ => 0) (iblk m c 0 t) (gRows m c t) (y 0).val (y 1).val := by
  rw [outsAt0_A m c t h]
  dsimp only
  exact outA_9 (hc0 := ((hcond0_0 t).mpr h)) (y := y) (hy := hy) ..

theorem out9_B (h : ¬t.val % 32 = 0) (y : S256x1024.Idx) (hy : (y 0).val < 248) :
    (outsAt0 m c t.val t.isLt).2.2.1 y = tapGrad (outsAt0 m c (t.val - 1) (Nat.lt_of_le_of_lt (Nat.sub_le _ _) t.isLt)).2.2.1
      (iblk m c 0 t) (gRows m c t) (y 0).val (y 1).val := by
  rw [outsAt0_B m c t h]
  dsimp only
  exact outB_9 (hc0 := (fun hc => h ((hcond0_0 t).mp hc))) (y := y) (hy := hy) ..

theorem out10_A (h : t.val % 32 = 0) (l : Fin 1024) :
    (outsAt0 m c t.val t.isLt).2.2.2 (ix2 0 l) = ∑ s : Fin 256, dRows m c t (ix2 s l) := by
  rw [outsAt0_A m c t h]
  dsimp only
  exact outA_10 (hc0 := ((hcond0_0 t).mpr h)) (l := l) ..

theorem out10_B (h : ¬t.val % 32 = 0) (l : Fin 1024) :
    (outsAt0 m c t.val t.isLt).2.2.2 (ix2 0 l)
      = (outsAt0 m c (t.val - 1) (Nat.lt_of_le_of_lt (Nat.sub_le _ _) t.isLt)).2.2.2 (ix2 0 l) + ∑ s : Fin 256, dRows m c t (ix2 s l) := by
  rw [outsAt0_B m c t h]
  dsimp only
  exact outB_10 (hc0 := (fun hc => h ((hcond0_0 t).mp hc))) (l := l) ..
end

end Cert.ConvIdeal.Gradient

end
-- ==== Proof.ConvGrad.lean ====
/- The gradients of a causal convolution of gated rows, one channel at a time, in plain sums: `g` is the input (values times gates), `w`
   the kernel of 31 taps, `d` the cotangent of the convolved rows. -/
module

public import proofs.«01_k».proof.Proof.Gate
public import Idealize.ShloMosaic.Lib.Pipeline.ValueKit.Acc

@[expose] public section

noncomputable section

namespace Cert.ConvGrad

open Idealize.ShloMosaic

/-- A column continued by zeros past its last row. -/
def col {n : ℕ} (x : Fin n → EReal) (r : ℕ) : EReal := if h : r < n then x ⟨r, h⟩ else 0

/-- A column moved down by 32 rows, with zeros above. -/
def low {n : ℕ} (x : Fin n → EReal) (r : ℕ) : EReal := if 32 ≤ r then col x (r - 32) else 0

theorem col_of_lt {n : ℕ} (x : Fin n → EReal) (r : ℕ) (h : r < n) : col x r = x ⟨r, h⟩ := by unfold col; rw [dif_pos h]
theorem col_of_ge {n : ℕ} (x : Fin n → EReal) (r : ℕ) (h : n ≤ r) : col x r = 0 := by unfold col; rw [dif_neg (by omega)]

/-- The gradient of the input's row `s`: every tap against the cotangent of the row it was read for. -/
def din (w : Fin 31 → EReal) (d : Fin 8192 → EReal) (s : ℕ) : EReal := ∑ k : Fin 31, w k * col d (s + (30 - k.val))

/-- The gradient of tap `k`: the cotangent's rows against the rows of the input the tap read. -/
def dtap (d g : Fin 8192 → EReal) (k : ℕ) : EReal := ∑ t : Fin 8192, d t * low g (t.val + (k + 2))

/-- The rows of 256 in residues modulo 8. -/
theorem sum_residues (f : ℕ → EReal) : ∑ s : Fin 8, ∑ q ∈ Finset.range 32, f (s.val + 8 * q) = ∑ k : Fin 256, f k.val := by
  rw [Finset.sum_comm, Finset.sum_range fun q => ∑ s : Fin 8, f (s.val + 8 * q)]
  exact Fin.sum_mul_add_congr (L := 256) (S := 32) (n := 8) (f := fun k : Fin 256 => f k.val) fun q s h => congrArg f (by show s.val + 8 * q.val = q.val * 8 + s.val; omega)

/-- The tap's gradient, gathered by residues of the row modulo 8 and by blocks of 256 rows. -/
theorem dtap_eq (d g : Fin 8192 → EReal) (k : ℕ) :
    ∑ s : Fin 8, ∑ t : Fin 32, ∑ q ∈ Finset.range 32, col d (t.val * 256 + (s.val + 8 * q)) * low g (t.val * 256 + (s.val + 8 * q) + (k + 2)) = dtap d g k := by
  rw [Finset.sum_comm]
  unfold dtap
  have h : ∀ t : Fin 32, ∑ s : Fin 8, ∑ q ∈ Finset.range 32, col d (t.val * 256 + (s.val + 8 * q)) * low g (t.val * 256 + (s.val + 8 * q) + (k + 2))
      = ∑ r : Fin 256, col d (t.val * 256 + r.val) * low g (t.val * 256 + r.val + (k + 2)) := fun t =>
    sum_residues fun n => col d (t.val * 256 + n) * low g (t.val * 256 + n + (k + 2))
  rw [Finset.sum_congr rfl fun t _ => h t]
  exact Fin.sum_mul_add_congr (f := fun t : Fin 8192 => d t * low g (t.val + (k + 2))) fun t r hl => by rw [col_of_lt d _ hl]

end Cert.ConvGrad

end
-- ==== Proof.ConvBlocks.lean ====
/- What the windows of the convolution's backward kernel hold at each point, in terms of the arguments. -/
module

public import proofs.«01_k».proof.Proof.ConvPoints
public import proofs.«01_k».proof.Proof.ConvGrad
public import Idealize.ShloMosaic.Lib.Pipeline.ValueKit
public import Idealize.ShloMosaic.Lib.StableHlo.ReadAt

@[expose] public section

set_option maxRecDepth 16384

noncomputable section

namespace Cert.ConvIdeal.Gradient

open Cert.ConvIdeal Cert.ConvIdeal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The block index of every window at every point. -/
theorem idx : ∀ t : Fin cfg0.N, win0_0.index t = ![t.val, 0] ∧ win0_1.index t = ![min ((t.val + 1) * 8) 255, 0] ∧ win0_2.index t = ![t.val, 0]
    ∧ win0_3.index t = ![t.val, 1] ∧ win0_4.index t = ![t.val * 8 - 1, 0] ∧ win0_5.index t = ![t.val * 8 - 1, 1] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The comparisons by which the kernel knows the last point and the first. -/
theorem last : ∀ t : Fin cfg0.N, Scalar.cmpi .eq (BitVec.ofNat 32 (grid0.coords t 0).val) 31#32 = if t.val < 31 then 0#1 else 1#1 :=
  (by decide +kernel : ∀ t : Fin grid0.N, _)
theorem first : ∀ t : Fin cfg0.N, Scalar.cmpi .eq (BitVec.ofNat 32 (grid0.coords t 0).val) 0#32 = if 0 < t.val then 0#1 else 1#1 :=
  (by decide +kernel : ∀ t : Fin grid0.N, _)

theorem lt32 (t : Fin cfg0.N) : t.val < 32 := by have := t.isLt; have h : cfg0.N = 32 := N_0; omega

/-- Row `s` of block `t`, as a row of the array. -/
def row (t : Fin cfg0.N) (s : Fin 256) : Fin 8192 := ⟨t.val * 256 + s.val, by have := lt32 t; have := s.isLt; omega⟩

/-- A channel of the cotangent, of the values, of the gates, of the input and of the kernel. -/
abbrev argD (l : Fin 1024) (r : Fin 8192) : EReal := m ((c : Thread nD τ).loc main_arg0) (ix2 r l)
abbrev argV (l : Fin 1024) (r : Fin 8192) : EReal := m ((c : Thread nD τ).loc main_arg1) (ix2 r ⟨l.val, by have := l.isLt; omega⟩)
abbrev argH (l : Fin 1024) (r : Fin 8192) : EReal := m ((c : Thread nD τ).loc main_arg1) (ix2 r ⟨1024 + l.val, by have := l.isLt; omega⟩)
abbrev argG (l : Fin 1024) (r : Fin 8192) : EReal := argV m c l r * Gate.sig (argH m c l r)
abbrev argW (l : Fin 1024) (k : Fin 31) : EReal := m ((c : Thread nD τ).loc main_arg2) (ix2 k l)

theorem host_v1 (r : Fin 8192) (j : Fin 3072) : V m c main_v1 (ix2 r j) = m ((c : Thread nD τ).loc main_arg1) (ix2 r j) := by
  show after (hostOps0 ++ (hostOps0_1 ++ (hostOps0_2 ++ []))) _ _ _ = _
  after_reads_at
theorem host_v0 (k : Fin 32) (h : k.val < 31) (l : Fin 1024) : V m c main_v0 (ix2 k l) = argW m c l ⟨k.val, h⟩ := by
  show after (hostOps0 ++ (hostOps0_1 ++ (hostOps0_2 ++ []))) _ _ _ = _
  after_reads_at
  exact dif_pos h
theorem host_arg0 : V m c main_arg0 = m ((c : Thread nD τ).loc main_arg0) := by
  show after (hostOps0 ++ (hostOps0_1 ++ (hostOps0_2 ++ []))) _ _ = _
  after_reads_simp

theorem blkD (s : Fin 256) (l : Fin 1024) : iblk m c 0 t (ix2 s l) = argD m c l (row t s) := by
  have he : (win0_0.blk t).view.emb (ix2 s l) = ix2 (row t s) l := by blk_ext [idx t, row]
  blk_simp [iblk]
  rw [he, host_arg0]
theorem blkN (h : t.val < 31) (s : Fin 32) (l : Fin 1024) (r : Fin 8192) (hr : r.val = (t.val + 1) * 256 + s.val) : iblk m c 1 t (ix2 s l) = argD m c l r := by
  have he : (win0_1.blk t).view.emb (ix2 s l) = ix2 r l := by blk_ext [idx t, hr]
  blk_simp [iblk]
  rw [he, host_arg0]
theorem blkV (s : Fin 256) (l : Fin 1024) : iblk m c 2 t (ix2 s l) = argV m c l (row t s) := by
  have he : (win0_2.blk t).view.emb (ix2 s l) = ix2 (row t s) ⟨l.val, by omega⟩ := by blk_ext [idx t, row]
  blk_simp [iblk]
  rw [he]
  exact host_v1 ..
theorem blkH (s : Fin 256) (l : Fin 1024) : iblk m c 3 t (ix2 s l) = argH m c l (row t s) := by
  have he : (win0_3.blk t).view.emb (ix2 s l) = ix2 (row t s) ⟨1024 + l.val, by omega⟩ := by blk_ext [idx t, row]
  blk_simp [iblk]
  rw [he]
  exact host_v1 ..
theorem blkPV (h : 0 < t.val) (s : Fin 32) (l : Fin 1024) (r : Fin 8192) (hr : r.val = t.val * 256 + s.val - 32) : iblk m c 4 t (ix2 s l) = argV m c l r := by
  have he : (win0_4.blk t).view.emb (ix2 s l) = ix2 r ⟨l.val, by omega⟩ := by blk_ext [idx t, hr]
  blk_simp [iblk]
  rw [he]
  exact host_v1 ..
theorem blkPH (h : 0 < t.val) (s : Fin 32) (l : Fin 1024) (r : Fin 8192) (hr : r.val = t.val * 256 + s.val - 32) : iblk m c 5 t (ix2 s l) = argH m c l r := by
  have he : (win0_5.blk t).view.emb (ix2 s l) = ix2 r ⟨1024 + l.val, by omega⟩ := by blk_ext [idx t, hr]
  blk_simp [iblk]
  rw [he]
  exact host_v1 ..
theorem blkW (k : Fin 32) (h : k.val < 31) (l : Fin 1024) : iblk m c 6 t (ix2 k l) = argW m c l ⟨k.val, h⟩ := by
  have he : (win0_6.blk t).view.emb (ix2 k l) = ix2 k l := by blk_ext [idx t]
  blk_simp [iblk]
  rw [he]
  exact host_v0 ..

/-- The cotangent's rows at a point, with the rows behind them: rows of the array, with zeros past its end. -/
theorem dAt_at (y : S288x1024.Idx) : dAt (grid0.coords t) (iblk m c 0 t) (iblk m c 1 t) y = ConvGrad.col (argD m c (y 1)) (t.val * 256 + (y 0).val) := by
  have hy : (y 0).val < 288 := (y 0).isLt
  have ht := lt32 t
  unfold dAt above
  split
  · next h => rw [ConvGrad.col_of_lt _ _ (by omega)]; exact blkD m c t _ _
  · next h =>
    by_cases h31 : t.val < 31
    · rw [ConvGrad.col_of_lt _ _ (by omega), ← blkN m c t h31 ⟨(y 0).val - 256, by omega⟩ (y 1) _ (by show t.val * 256 + (y 0).val = (t.val + 1) * 256 + ((y 0).val - 256); omega)]
      pointwise [k0_pay515]
      rw [last t, if_pos h31]
      rfl
    · rw [ConvGrad.col_of_ge _ _ (by omega)]
      pointwise [k0_pay515]
      rw [last t, if_neg h31]
      rfl

/-- The input's rows at a point, after the rows before them: rows of the array, with zeros before its start. -/
theorem gAt_at (y : S288x1024.Idx) : gRows m c t y = ConvGrad.low (argG m c (y 1)) (t.val * 256 + (y 0).val) := by
  have hy : (y 0).val < 288 := (y 0).isLt
  have ht := lt32 t
  unfold gRows gAt below
  split
  · next h =>
    by_cases h0 : 0 < t.val
    · rw [ConvGrad.low, if_pos (by omega), ConvGrad.col_of_lt _ _ (by omega)]
      refine Eq.trans ?_ (congrArg₂ (HMul.hMul (α := EReal)) (blkPV m c t h0 ⟨(y 0).val, h⟩ (y 1) _ rfl) (congrArg Gate.sig (blkPH m c t h0 ⟨(y 0).val, h⟩ (y 1) _ rfl)))
      pointwise [k0_pay511]
      rw [first t, if_pos h0]
      simp only [Gate.sig, Gate.one_eq, EReal.coe_one, zero_sub]
      rfl
    · rw [ConvGrad.low, if_neg (by omega)]
      pointwise [k0_pay511]
      rw [first t, if_neg h0]
      rfl
  · next h =>
    rw [ConvGrad.low, if_pos (by omega), ConvGrad.col_of_lt _ _ (by omega), prod_blk]
    have hr : (⟨t.val * 256 + (y 0).val - 32, by omega⟩ : Fin 8192) = row t ⟨(y 0).val - 32, by omega⟩ := Fin.ext (by show t.val * 256 + (y 0).val - 32 = t.val * 256 + ((y 0).val - 32); omega)
    rw [hr]
    exact congrArg₂ (HMul.hMul (α := EReal)) (blkV m c t _ _) (congrArg Gate.sig (blkH m c t _ _))

end Cert.ConvIdeal.Gradient

end
-- ==== Proof.ConvFinal.lean ====
/- What the convolution's backward kernel leaves in its arrays when the grid is done. -/
module

public import proofs.«01_k».proof.Proof.ConvBlocks

@[expose] public section

set_option maxRecDepth 16384

noncomputable section

namespace Cert.ConvIdeal.Gradient

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem en_at {a b : ℕ} (X : (⟨2, ![a, b]⟩ : Shape).Idx → EReal) (r : Fin a) (l : Fin b) : en X r.val l.val = X (ix2 r l) := at2_idx (e := .f32) (0 : EReal) X (ix2 r l)

/-- The gradient of the input's rows at a point. -/
theorem dgAt_at (s : Fin 256) (l : Fin 1024) : dgAt m c t (ix2 s l) = ConvGrad.din (argW m c l) (argD m c l) (row t s).val := by
  unfold dgAt dgBlk taps ConvGrad.din
  rw [Finset.sum_range]
  refine Finset.sum_congr (M := EReal) rfl fun k _ => ?_
  have hk := k.isLt
  have hs := s.isLt
  have h1 : en (iblk m c 6 t) k.val l.val = argW m c l k :=
    (en_at _ (⟨k.val, by omega⟩ : Fin 32) l).trans (blkW m c t ⟨k.val, by omega⟩ hk l)
  have h2 : en (dAt (grid0.coords t) (iblk m c 0 t) (iblk m c 1 t)) (s.val + (30 - k.val)) l.val = ConvGrad.col (argD m c l) ((row t s).val + (30 - k.val)) := by
    refine (en_at _ (⟨s.val + (30 - k.val), by omega⟩ : Fin 288) l).trans ((dAt_at m c t _).trans (congrArg (ConvGrad.col (argD m c l)) ?_))
    show t.val * 256 + (s.val + (30 - k.val)) = t.val * 256 + s.val + (30 - k.val)
    omega
  exact congrArg₂ (HMul.hMul (α := EReal)) h1 h2

/-- The values' gradient and the gates' gradient in row `r` and channel `l`. -/
def dval (r : Fin 8192) (l : Fin 1024) : EReal := ConvGrad.din (argW m c l) (argD m c l) r.val * Gate.sig (argH m c l r)
def dgate (r : Fin 8192) (l : Fin 1024) : EReal :=
  ConvGrad.din (argW m c l) (argD m c l) r.val * argV m c l r * Gate.sig (argH m c l r) * (Gate.one - Gate.sig (argH m c l r))

theorem dval_at (s : Fin 256) (l : Fin 1024) : dgAt m c t (ix2 s l) * Gate.sig (gateRows m c t (ix2 s l)) = dval m c (row t s) l :=
  congrArg₂ (HMul.hMul (α := EReal)) (dgAt_at m c t s l) (congrArg Gate.sig (blkH m c t s l))

theorem dgate_at (s : Fin 256) (l : Fin 1024) :
    dgAt m c t (ix2 s l) * valRows m c t (ix2 s l) * Gate.sig (gateRows m c t (ix2 s l)) * (Gate.one - Gate.sig (gateRows m c t (ix2 s l)))
      = dgate m c (row t s) l := by
  have h1 := dgAt_at m c t s l
  have h2 : valRows m c t (ix2 s l) = argV m c l (row t s) := blkV m c t s l
  have h3 : gateRows m c t (ix2 s l) = argH m c l (row t s) := blkH m c t s l
  rw [h1, h2, h3]
  rfl

/-- The values' gradient the kernel leaves. -/
theorem final7 : (dats m 0 c).arrAt 7 (cfgs 0).N = fun y : S8192x1024.Idx => dval m c (y 0) (y 1) := by
  refine (dats m 0 c).arrAt_eq_of_covers 7 _ (by decide +kernel) fun t hf y => ?_
  blk_simp
  rw [after0_7, out7 m c t]
  obtain ⟨s, l, rfl⟩ : ∃ (s : Fin 256) (l : Fin 1024), y = ix2 s l := ⟨y 0, y 1, by ext a; fin_cases a <;> rfl⟩
  have he : (win0_7.blk t).view.emb (ix2 s l) = ix2 (row t s) l := by blk_ext [idx t, row]
  rw [he]
  exact dval_at m c t s l

/-- The gates' gradient the kernel leaves. -/
theorem final8 : (dats m 0 c).arrAt 8 (cfgs 0).N = fun y : S8192x1024.Idx => dgate m c (y 0) (y 1) := by
  refine (dats m 0 c).arrAt_eq_of_covers 8 _ (by decide +kernel) fun t hf y => ?_
  blk_simp
  rw [after0_8, out8 m c t]
  obtain ⟨s, l, rfl⟩ : ∃ (s : Fin 256) (l : Fin 1024), y = ix2 s l := ⟨y 0, y 1, by ext a; fin_cases a <;> rfl⟩
  have he : (win0_8.blk t).view.emb (ix2 s l) = ix2 (row t s) l := by blk_ext [idx t, row]
  rw [he]
  exact dgate_at m c t s l

/-- The last point. -/
abbrev t0_31 : Fin cfg0.N := ⟨31, by have h : cfg0.N = 32 := N_0; omega⟩

/-- What a point adds to the gradient of tap `r / 8` on the rows that are `r % 8` modulo 8. -/
abbrev tapPart (t : Fin cfg0.N) (r : ℕ) (l : Fin 1024) : EReal :=
  ∑ q ∈ Finset.range 32, ConvGrad.col (argD m c l) (t.val * 256 + (r % 8 + 8 * q)) * ConvGrad.low (argG m c l) (t.val * 256 + (r % 8 + 8 * q) + (r / 8 + 2))

theorem tapGrad_at (o : S256x1024.Idx → EReal) (r : ℕ) (h : r < 248) (l : Fin 1024) :
    tapGrad o (iblk m c 0 t) (gRows m c t) r l.val = en o r l.val + tapPart m c t r l := by
  unfold tapGrad tapPart
  refine congrArg₂ (HAdd.hAdd (α := EReal)) rfl (Finset.sum_congr (M := EReal) rfl fun q hq => ?_)
  have hq := Finset.mem_range.mp hq
  have ht := lt32 t
  have h1 : en (dRows m c t) (r % 8 + 8 * q) l.val = ConvGrad.col (argD m c l) (t.val * 256 + (r % 8 + 8 * q)) := by
    rw [ConvGrad.col_of_lt _ _ (by omega)]
    exact (en_at _ (⟨r % 8 + 8 * q, by omega⟩ : Fin 256) l).trans (blkD m c t _ l)
  have h2 : en (gRows m c t) (r % 8 + (8 * q + (r / 8 + 2))) l.val = ConvGrad.low (argG m c l) (t.val * 256 + (r % 8 + 8 * q) + (r / 8 + 2)) := by
    refine (en_at _ (⟨r % 8 + (8 * q + (r / 8 + 2)), by omega⟩ : Fin 288) l).trans ((gAt_at m c t _).trans (congrArg (ConvGrad.low (argG m c l)) ?_))
    show t.val * 256 + (r % 8 + (8 * q + (r / 8 + 2))) = t.val * 256 + (r % 8 + 8 * q) + (r / 8 + 2)
    omega
  exact congrArg₂ (HMul.hMul (α := EReal)) h1 h2

/-- The third output after a point, on its first 248 rows. -/
abbrev part9 (n : ℕ) (h : n < cfg0.N) (y : S256x1024.Idx) : EReal := if (y 0).val < 248 then (outsAt0 m c n h).2.2.1 y else 0
abbrev term9 (t : Fin cfg0.N) (y : S256x1024.Idx) : EReal := if (y 0).val < 248 then tapPart m c t (y 0).val (y 1) else 0

/-- The array of the kernel's gradient, by tap and residue: what the last point leaves. -/
theorem final9 (r : Fin 256) (h : r.val < 248) (l : Fin 1024) :
    (dats m 0 c).arrAt 9 (cfgs 0).N (ix2 r l) = ∑ t : Fin cfg0.N, tapPart m c t r.val l := by
  have hA : (dats m 0 c).arrAt 9 (cfgs 0).N = (outsAt0 m c t0_31.val t0_31.isLt).2.2.1 := by
    refine (dats m 0 c).arrAt_eq_of_after_last 9 t0_31 (by decide +kernel) _ fun j => ?_
    blk_simp
    rw [after0_9]
  have hP := Pipeline.eq_sum_fin_of_reset_step_apply_last (part9 m c) 32 (fun _ => (0 : EReal)) (term9 m c)
    (fun t ht y => by
      unfold part9 term9
      split
      · next hy =>
        rw [out9_A m c t ht y hy]
        refine (tapGrad_at m c t _ _ hy (y 1)).trans (congrArg₂ (HAdd.hAdd (α := EReal)) ?_ rfl)
        exact at2_idx (e := .f32) (0 : EReal) (fun _ => 0) y
      · exact (zero_add _).symm)
    (fun t ht y => by
      unfold part9 term9
      split
      · next hy =>
        rw [out9_B m c t ht y hy]
        refine (tapGrad_at m c t _ _ hy (y 1)).trans (congrArg₂ (HAdd.hAdd (α := EReal)) ?_ rfl)
        exact at2_idx (e := .f32) (0 : EReal) _ y
      · exact (zero_add _).symm)
    (le_of_eq N_0) t0_31 rfl (ix2 r l)
  unfold part9 term9 at hP
  rw [if_pos (show (ix2 r l 0).val < 248 from h)] at hP
  rw [hA]
  refine hP.trans ((zero_add _).trans (Finset.sum_congr (M := EReal) rfl fun t _ => ?_))
  exact if_pos h

/-- The bias's gradient the kernel leaves. -/
theorem final10 : (dats m 0 c).arrAt 10 (cfgs 0).N = fun y : S1x1024.Idx => ∑ r : Fin 8192, argD m c (y 1) r := by
  refine (dats m 0 c).arrAt_eq_of_after_last 10 t0_31 (by decide +kernel) _ fun j => ?_
  blk_simp
  have hd : ∀ i : S1x1024.Idx, i = ix2 0 (i 1) := fun i => by
    ext a; fin_cases a
    · have h0 := (i 0).isLt; show (i 0).val = 0; change (i 0).val < 1 at h0; omega
    · rfl
  rw [after0_10, Pipeline.eq_sum_fin_of_reset_step_apply_last (fun n h => (outsAt0 m c n h).2.2.2) 32 (fun _ => (0 : EReal))
    (fun t i => ∑ s : Fin 256, argD m c (i 1) (row t s))
    (fun t h i => by
      rw [hd i]
      refine (out10_A m c t h _).trans ((Finset.sum_congr (M := EReal) rfl fun s _ => blkD m c t s _).trans (zero_add _).symm))
    (fun t h i => by
      rw [hd i]
      refine (out10_B m c t h _).trans (congrArg₂ (HAdd.hAdd (α := EReal)) rfl (Finset.sum_congr (M := EReal) rfl fun s _ => blkD m c t s _)))
    (le_of_eq N_0) t0_31 rfl j]
  refine (zero_add (M := EReal) _).trans ?_
  exact Fin.sum_mul_add_congr fun t k hl => rfl

end Cert.ConvIdeal.Gradient

end
-- ==== Proof.ConvRun.lean ====
/- What a run of the convolution's backward kernel leaves in its four results: two are arrays of the grid, the kernel's gradient is
   an array of the grid summed over the residues by the host after the grid is done, the bias's gradient is an array of the grid. -/
module

public import proofs.«01_k».proof.Proof.ConvFinal

@[expose] public section

set_option maxRecDepth 16384

noncomputable section

namespace Cert.ConvIdeal.Gradient

open Cert.ConvIdeal Cert.ConvIdeal.Gen Idealize.ShloMosaic Idealize.ShloMosaic.TcCoe Idealize.SL.Sem Idealize.ShloMosaic.StableHlo

variable (m : (ℓ : Loc nD τ sig) → Buf (Elt Ideal) ℓ) (c : Dev nD)

/-- The contents when the grid is done. -/
abbrev done : Valuation τ sig (Elt Ideal) := Pipeline.withArrays (cfgs 0).spec c (V0 m c) fun w => (dats m 0 c).arrAt w (cfgs 0).N

theorem done_taps : done m c (Proc.devRef .tc main_v2_2) = (dats m 0 c).arrAt 9 (cfgs 0).N :=
  Pipeline.withArrays_arr_shared (cfgs 0).spec c (V0 m c) (fun w => (dats m 0 c).arrAt w (cfgs 0).N)
    ((dats m 0 c).arrAt_sharedIn sharedIn0 (V0 m c) (fun w => A_eq m c w) (cfgs 0).N) 9

/-- The array the host sums over the residues. -/
abbrev tapRows (X : Valuation τ sig (Elt Ideal)) : S256x1024.Idx → EReal := X (Proc.devRef .tc main_v2_2)

/-- The host's sum over the residues, from the contents when the grid is done. -/
theorem host_v5 (X : Valuation τ sig (Elt Ideal)) (k : Fin 31) (l : Fin 1024) :
    after hostOps1 X (Proc.devRef .tc main_v5) (ix2 k l)
      = ∑ s : Fin 8, tapRows X (ix2 ⟨k.val * 8 + s.val, by have := k.isLt; have := s.isLt; omega⟩ l) := by
  after_reads_at

/-- The kernel's gradient after the host's sum. -/
theorem final_taps (k : Fin 31) (l : Fin 1024) :
    Pipeline.afterTail₀ cfgs (dats m) 0 (V0 m) [hostOps1] c main_v5 (ix2 k l) = ConvGrad.dtap (argD m c l) (argG m c l) k.val := by
  have hk := k.isLt
  refine (host_v5 (done m c) k l).trans ?_
  rw [← ConvGrad.dtap_eq, tapRows, done_taps]
  refine Finset.sum_congr (M := EReal) rfl fun s _ => ?_
  have hs := s.isLt
  refine (final9 m c _ (by show k.val * 8 + s.val < 248; omega) l).trans ?_
  have h1 : (k.val * 8 + s.val) % 8 = s.val := by omega
  have h2 : (k.val * 8 + s.val) / 8 = k.val := by omega
  unfold tapPart
  simp only [h1, h2]
  exact Fin.sum_congr' (fun t : Fin 32 => ∑ q ∈ Finset.range 32, ConvGrad.col (argD m c l) (t.val * 256 + (s.val + 8 * q)) * ConvGrad.low (argG m c l) (t.val * 256 + (s.val + 8 * q) + (k.val + 2))) N_0

/-- On any arguments the kernel leaves the four gradients and its arguments as they were. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v2_0) = (dats m 0 c).arrAt 7 (cfgs 0).N
      ∧ r.2.mem ((c.tc : Thread nD τ).loc main_v2_1) = (dats m 0 c).arrAt 8 (cfgs 0).N
      ∧ r.2.mem ((c.tc : Thread nD τ).loc main_v5) = Pipeline.afterTail₀ cfgs (dats m) 0 (V0 m) [hostOps1] c main_v5
      ∧ r.2.mem ((c.tc : Thread nD τ).loc main_v2_3) = (dats m 0 c).arrAt 10 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 7, (h.1 c).1 8, (h.1 c).2 main_v5 (Pipeline.mem_restRefs_of main_v5 (by decide) (by decide)), (h.1 c).1 10, h.2 c⟩)
    (θ_run_and (run_main m g) (unchanged m g))

end Cert.ConvIdeal.Gradient

end
-- ==== Proof.ConvRefValue.lean ====
/- What the derivative of the convolution of gated rows leaves in each of its four results, as the same plain sums the kernel leaves. -/
module

public import proofs.«01_k».proof.Proof.ConvGrad
public import proofs.«01_k».proof.Proof.Gen.ConvRefIdeal.Read
public import Idealize.ShloMosaic.Lib.Pipeline.ValueKit
public import Idealize.ShloMosaic.Lib.Claim

@[expose] public section

set_option maxRecDepth 16384

noncomputable section

namespace Cert.ConvRefIdeal.Gradient

open Cert.ConvRefIdeal Cert.ConvRefIdeal.Read Idealize.ShloMosaic Idealize.ShloMosaic.TcCoe Idealize.SL.Sem

variable (x0 : FVec Ideal S8192x1024 .f32) (x1 : FVec Ideal S8192x3072 .f32) (x2 : FVec Ideal S31x1024 .f32)

/-- A channel of the values, of the gates, of the input, of the cotangent and of the kernel. -/
abbrev val (c : Fin 1024) (r : Fin 8192) : EReal := x1 (ix2 r ⟨c.val, by have := c.isLt; omega⟩)
abbrev gate (c : Fin 1024) (r : Fin 8192) : EReal := x1 (ix2 r ⟨1024 + c.val, by have := c.isLt; omega⟩)
abbrev inp (c : Fin 1024) (r : Fin 8192) : EReal := val x1 c r * Gate.sig (gate x1 c r)
abbrev cot (c : Fin 1024) (r : Fin 8192) : EReal := x0 (ix2 r c)
abbrev tap (c : Fin 1024) (k : Fin 31) : EReal := x2 (ix2 k c)

theorem v0_at (r : Fin 8192) (c : Fin 1024) : val_main_v0 (F := Ideal) x1 (ix2 r c) = val x1 c r := by
  pointwise [val_main_v0]
theorem v7_at (r : Fin 8192) (c : Fin 1024) : val_main_v7 (F := Ideal) x1 (ix2 r c) = Gate.sig (gate x1 c r) := by
  pointwise [val_main_v7, val_main_v6, val_main_v5, val_main_v4, val_main_v3, val_main_v2, val_main_v1, val_main_cst, val_main_cst_0, Gate.sig]
theorem v10_at (r : Fin 8192) (c : Fin 1024) :
    val_main_v10 (F := Ideal) x1 (ix2 r c) = Gate.sig (gate x1 c r) * (Gate.one - Gate.sig (gate x1 c r)) := by
  rw [← v7_at]
  pointwise [val_main_v10, val_main_v9, val_main_v8, val_main_cst_1]
theorem v11_at (r : Fin 8192) (c : Fin 1024) : val_main_v11 (F := Ideal) x1 (ix2 r c) = inp x1 c r := by
  rw [inp, ← v7_at, ← v0_at]
  pointwise [val_main_v11]

/-- The selection: row `u` is what tap `k` reads for row `t`. -/
theorem v25_at (k : Fin 31) (t u : Fin 8192) :
    val_main_v25 (F := Ideal) (ix3 k t u) = if u.val + 30 = t.val + k.val then (1 : EReal) else 0 := by
  pointwise [val_main_v25, val_main_v24, val_main_v23, val_main_v22, val_main_v21, val_main_v20, val_main_v19, val_main_v18, val_main_v17, val_main_v16,
    val_main_v15, val_main_v14, val_main_v13, val_main_v12, val_main_c]
  have hk := k.isLt
  have ht := t.isLt
  have hu := u.isLt
  have he : (BitVec.ofNat 32 t.val + BitVec.ofNat 32 k.val - 30#32 == BitVec.ofNat 32 u.val) = decide (u.val + 30 = t.val + k.val) := by
    rw [beq_eq_decide]
    refine decide_eq_decide.mpr ⟨fun h => ?_, fun h => ?_⟩
    · have h' := congrArg BitVec.toNat h
      simp only [BitVec.toNat_sub, BitVec.toNat_add, BitVec.toNat_ofNat] at h'
      omega
    · apply BitVec.eq_of_toNat_eq
      simp only [BitVec.toNat_sub, BitVec.toNat_add, BitVec.toNat_ofNat]
      omega
  show (((BitVec.ofBool (BitVec.ofNat 32 t.val + BitVec.ofNat 32 k.val - 30#32 == BitVec.ofNat 32 u.val)).toNat : ℝ) : EReal) = _
  rw [he]
  by_cases h : u.val + 30 = t.val + k.val <;> simp [h]

/-- A sum over the rows in which one row is selected. -/
theorem sum_row (f : Fin 8192 → EReal) (p : ℕ → Prop) [DecidablePred p] (n : ℕ) (hn : n < 8192) (hp : ∀ u : Fin 8192, p u.val ↔ u.val = n) :
    ∑ u : Fin 8192, f u * (if p u.val then (1 : EReal) else 0) = f ⟨n, hn⟩ := by
  rw [Finset.sum_eq_single_of_mem (⟨n, hn⟩ : Fin 8192) (Finset.mem_univ _) fun u _ hne => ?_]
  · rw [if_pos ((hp _).mpr rfl), mul_one]
  · rw [if_neg fun h => hne (Fin.ext ((hp u).mp h)), mul_zero]

/-- A sum over the rows in which no row is selected. -/
theorem sum_none (f : Fin 8192 → EReal) (p : ℕ → Prop) [DecidablePred p] (hp : ∀ u : Fin 8192, ¬p u.val) :
    ∑ u : Fin 8192, f u * (if p u.val then (1 : EReal) else 0) = 0 :=
  Finset.sum_eq_zero fun u _ => by rw [if_neg (hp u), mul_zero]

/-- The row of the input that tap `k` reads for row `t`. -/
theorem v26_at (k : Fin 31) (t : Fin 8192) (c : Fin 1024) :
    val_main_v26 (F := Ideal) x1 (ix3 k t c) = ConvGrad.low (inp x1 c) (t.val + (k.val + 2)) := by
  pointwise [val_main_v26]
  have hk := k.isLt
  have ht := t.isLt
  rw [Finset.sum_congr (M := EReal) rfl fun u _ => (congrArg₂ (HMul.hMul (α := EReal)) (v25_at k t u) (v11_at x1 u c)).trans (mul_comm (G := EReal) _ _)]
  unfold ConvGrad.low
  by_cases h : 30 ≤ t.val + k.val
  · rw [if_pos (by omega), ConvGrad.col_of_lt _ _ (by omega)]
    exact sum_row (inp x1 c) (fun u => u + 30 = t.val + k.val) _ _ fun u => by omega
  · rw [if_neg (by omega)]
    exact sum_none (inp x1 c) (fun u => u + 30 = t.val + k.val) fun u => by omega

/-- The kernel's gradient of the reference. -/
theorem v44_at (k : Fin 31) (c : Fin 1024) :
    val_main_v44 (F := Ideal) x0 x1 (ix2 k c) = ConvGrad.dtap (cot x0 c) (inp x1 c) k.val := by
  pointwise [val_main_v44, val_main_v41, val_main_v40, val_main_v39, val_main_v38, val_main_v34, val_main_cst_5, val_main_cst_6]
  rw [Fin.sum_univ_one]
  exact Finset.sum_congr (M := EReal) rfl fun t _ => (congrArg₂ (HMul.hMul (α := EReal)) (v26_at x1 k t c) rfl).trans (mul_comm (G := EReal) _ _)

/-- The bias's gradient of the reference. -/
theorem v52_at (c : Fin 1024) : val_main_v52 (F := Ideal) x0 (ix2 0 c) = ∑ t : Fin 8192, cot x0 c t := by
  pointwise [val_main_v52, val_main_v37, val_main_v36, val_main_v35, val_main_cst_3, val_main_cst_4]
  exact Fin.sum_univ_one _

/-- The input's gradient of the reference. -/
theorem v46_at (s : Fin 8192) (c : Fin 1024) : val_main_v46 (F := Ideal) x0 x2 (ix2 s c) = ConvGrad.din (tap x2 c) (cot x0 c) s.val := by
  pointwise [val_main_v46, val_main_v45, val_main_v43, val_main_v42, val_main_v38, val_main_v27, val_main_v34]
  unfold ConvGrad.din
  refine Finset.sum_congr (M := EReal) rfl fun k _ => ?_
  have hk := k.isLt
  have hs := s.isLt
  rw [Finset.sum_congr (M := EReal) rfl fun t _ => congrArg₂ (HMul.hMul (α := EReal)) (mul_comm (G := EReal) (x0 (ix2 t c)) _) (v25_at k t s)]
  by_cases h : s.val + (30 - k.val) < 8192
  · rw [ConvGrad.col_of_lt _ _ h]
    exact sum_row (fun t => tap x2 c k * cot x0 c t) (fun t => s.val + 30 = t + k.val) _ h fun t => by omega
  · rw [ConvGrad.col_of_ge _ _ (by omega), mul_zero]
    exact sum_none (fun t => tap x2 c k * cot x0 c t) (fun t => s.val + 30 = t + k.val) fun t => by have := t.isLt; omega

/-- The values' gradient of the reference. -/
theorem v50_at (s : Fin 8192) (c : Fin 1024) :
    val_main_v50 (F := Ideal) x0 x1 x2 (ix2 s c) = ConvGrad.din (tap x2 c) (cot x0 c) s.val * Gate.sig (gate x1 c s) := by
  rw [← v46_at x0 x2 s c, ← v7_at]
  pointwise [val_main_v50, val_main_v48]

/-- The gates' gradient of the reference. -/
theorem v51_at (s : Fin 8192) (c : Fin 1024) :
    val_main_v51 (F := Ideal) x0 x1 x2 (ix2 s c)
      = val x1 c s * ConvGrad.din (tap x2 c) (cot x0 c) s.val * (Gate.sig (gate x1 c s) * (Gate.one - Gate.sig (gate x1 c s))) := by
  rw [← v46_at x0 x2 s c, ← v10_at, ← v0_at]
  pointwise [val_main_v51, val_main_v49, val_main_v47]

end Cert.ConvRefIdeal.Gradient

end
-- ==== Proof.ConvClaim.lean ====
/- The kernel's four gradients of the convolution of gated rows are the derivative's. -/
module

public import proofs.«01_k».proof.Defs
public import proofs.«01_k».proof.Proof.ConvRun
public import proofs.«01_k».proof.Proof.ConvRefValue
public import proofs.«01_k».proof.Proof.Gen.ConvIdeal
public import proofs.«01_k».proof.Proof.Gen.ConvRefIdeal

@[expose] public section

set_option maxRecDepth 16384

noncomputable section

namespace Cert.Proof

open Idealize.ShloMosaic Idealize.SL.Sem

/-- From the same arguments the kernel and the reference leave the same gradients of the values, of the gates, of the convolution's
    kernel and of its bias. -/
theorem algebraic_conv : Cert.algebraic_ConvIdeal_ConvRefIdeal := by
  pair_intro
  · run_from Cert.ConvIdeal.Gradient.run m g
  · run_from Cert.ConvRefIdeal.Value.run m' g'
    · rw [Cert.ConvIdeal.Gradient.final7 m c, Cert.ConvRefIdeal.Read.val_main_v50_eq]
      funext y
      obtain ⟨s, d, rfl⟩ : ∃ (s : Fin 8192) (d : Fin 1024), y = ix2 s d := ⟨y 0, y 1, by ext a; fin_cases a <;> rfl⟩
      exact Cert.ConvRefIdeal.Gradient.v50_at _ _ _ s d
    · rw [Cert.ConvIdeal.Gradient.final8 m c, Cert.ConvRefIdeal.Read.val_main_v51_eq]
      funext y
      obtain ⟨s, d, rfl⟩ : ∃ (s : Fin 8192) (d : Fin 1024), y = ix2 s d := ⟨y 0, y 1, by ext a; fin_cases a <;> rfl⟩
      refine (Cert.ConvRefIdeal.Gradient.v51_at _ _ _ s d).trans ?_
      rw [← mul_assoc, mul_comm (Cert.ConvRefIdeal.Gradient.val _ d s)]
      rfl
    · rw [Cert.ConvRefIdeal.Read.val_main_v44_eq]
      funext y
      obtain ⟨k, d, rfl⟩ : ∃ (k : Fin 31) (d : Fin 1024), y = ix2 k d := ⟨y 0, y 1, by ext a; fin_cases a <;> rfl⟩
      exact (Cert.ConvRefIdeal.Gradient.v44_at _ _ k d).trans (Cert.ConvIdeal.Gradient.final_taps m c k d).symm
    · rw [Cert.ConvIdeal.Gradient.final10 m c]
      refine (Cert.ConvRefIdeal.Read.val_main_v52_eq _).trans (funext fun y => ?_)
      obtain ⟨s, d, rfl⟩ : ∃ (s : Fin 1) (d : Fin 1024), y = ix2 s d := ⟨y 0, y 1, by ext a; fin_cases a <;> rfl⟩
      obtain rfl : s = 0 := Subsingleton.elim _ _
      exact Cert.ConvRefIdeal.Gradient.v52_at _ d

end Cert.Proof

end
-- ==== Proof.ConvFwdLoads.lean ====
/- The forward kernel of the convolution has one loop over the eight groups of 128 columns. Here: the buffers the loop is run with, what
   a trip of it is called, and what a load reads of these buffers. -/
module

public import proofs.«01_k».proof.Proof.Gen.ConvFwdIdeal.Frame
public import proofs.«01_k».proof.Proof.ConvScratch

@[expose] public section

set_option maxRecDepth 65536

noncomputable section

namespace Cert.ConvFwdIdeal.Forward

open Cert.ConvFwdIdeal Cert.ConvFwdIdeal.Gen Idealize.ShloMosaic Idealize.ShloMosaic.TcCoe Idealize.SL.Sem
open Cert.ConvIdeal.Gradient (at2 at3 en Moved emb_at)

/-- The buffers of one run of the kernel's body. -/
structure Bufs where
  arg1 : Memref sig .tc .vmem S256x1024 .bf16
  harg1 : arg1.IsWhole
  arg2 : Memref sig .tc .vmem S256x1024 .bf16
  harg2 : arg2.IsWhole
  arg3 : Memref sig .tc .vmem S32x1024 .bf16
  harg3 : arg3.IsWhole
  arg4 : Memref sig .tc .vmem S32x1024 .bf16
  harg4 : arg4.IsWhole
  arg5 : Memref sig .tc .vmem S256x1024 .bf16
  harg5 : arg5.IsWhole
  arg6 : Memref sig .tc .vmem S32x1024 .f32
  harg6 : arg6.IsWhole
  arg7 : Memref sig .tc .vmem S1x1024 .f32
  harg7 : arg7.IsWhole
  arg8 : Memref sig .tc .vmem S1x1024 .f32
  harg8 : arg8.IsWhole
  arg9 : Memref sig .tc .vmem S1x1024 .f32
  harg9 : arg9.IsWhole
  arg10 : Memref sig .tc .vmem S256x1024 .bf16
  harg10 : arg10.IsWhole
  arg11 : Memref sig .tc .vmem S256x1024 .f32
  harg11 : arg11.IsWhole
  arg12 : Memref sig .tc .vmem S288x1024 .f32
  harg12 : arg12.IsWhole
  arg13 : Memref sig .tc .vmem S7x280x1024 .f32
  harg13 : arg13.IsWhole

/-- One trip of the loop: the pieces it stores. -/
abbrev trip (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty) (k : Fin k0_t1_loop.trips) : List (View.Piece (Elt Ideal) S256x1024 .f32) :=
  tripL_k0_t1 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 X6 X7 X12 X13 k

/-- The pieces of the first trips of the loop. -/
abbrev loop (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty) : ℕ → List (View.Piece (Elt Ideal) S256x1024 .f32) :=
  pb_k0_t1 (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 X6 X7 X12 X13

theorem loop_succ (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty) (k : Fin k0_t1_loop.trips) :
    loop B c i X6 X7 X12 X13 (k.val + 1) = trip B c i X6 X7 X12 X13 k ++ loop B c i X6 X7 X12 X13 k.val :=
  pb_k0_t1_succ (F := Ideal) Variants.none c none i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 X6 X7 X12 X13 k

/-- A load of a rectangle of a matrix. -/
theorem load2 {a b : ℕ} {sp : Space} {e : EltTy} (zero : Elt Ideal e) (v : View sig .tc sp ⟨2, ![a, b]⟩ e) (f : BufTy.Contents (Elt Ideal) v.ty)
    (off size : Fin 2 → ℕ) (inb : ∀ x, off x + size x ≤ (⟨2, ![a, b]⟩ : Shape).size x) (x : (Rect.unit (s := ⟨2, ![a, b]⟩) off size inb).shape.Idx) :
    v.readAt (Elt Ideal) (Rect.unit (s := ⟨2, ![a, b]⟩) off size inb).toLoadRect f x = at2 zero (v.read (Elt Ideal) f) ((x 0).val + off 0) ((x 1).val + off 1) := by
  have h0 : (x 0).val + off 0 < a := lt_of_lt_of_le ((Nat.add_comm _ _).trans_lt (Nat.add_lt_add_left (x 0).isLt _)) (inb 0)
  have h1 : (x 1).val + off 1 < b := lt_of_lt_of_le ((Nat.add_comm _ _).trans_lt (Nat.add_lt_add_left (x 1).isLt _)) (inb 1)
  unfold at2
  rw [dif_pos ⟨h0, h1⟩]
  show v.read (Elt Ideal) f ((Rect.unit (s := ⟨2, ![a, b]⟩) off size inb).emb x) = _
  congr 1
  funext y
  apply Fin.ext
  rw [emb_at]
  fin_cases y <;> rfl

/-- A load of a rectangle of a stack of matrices. -/
theorem load3 {n a b : ℕ} {sp : Space} {e : EltTy} (zero : Elt Ideal e) (v : View sig .tc sp ⟨3, ![n, a, b]⟩ e) (f : BufTy.Contents (Elt Ideal) v.ty)
    (off size : Fin 3 → ℕ) (inb : ∀ x, off x + size x ≤ (⟨3, ![n, a, b]⟩ : Shape).size x) (x : (Rect.unit (s := ⟨3, ![n, a, b]⟩) off size inb).shape.Idx) :
    v.readAt (Elt Ideal) (Rect.unit (s := ⟨3, ![n, a, b]⟩) off size inb).toLoadRect f x
      = at3 zero (v.read (Elt Ideal) f) ((x 0).val + off 0) ((x 1).val + off 1) ((x 2).val + off 2) := by
  have h0 : (x 0).val + off 0 < n := lt_of_lt_of_le ((Nat.add_comm _ _).trans_lt (Nat.add_lt_add_left (x 0).isLt _)) (inb 0)
  have h1 : (x 1).val + off 1 < a := lt_of_lt_of_le ((Nat.add_comm _ _).trans_lt (Nat.add_lt_add_left (x 1).isLt _)) (inb 1)
  have h2 : (x 2).val + off 2 < b := lt_of_lt_of_le ((Nat.add_comm _ _).trans_lt (Nat.add_lt_add_left (x 2).isLt _)) (inb 2)
  unfold at3
  rw [dif_pos ⟨h0, h1, h2⟩]
  show v.read (Elt Ideal) f ((Rect.unit (s := ⟨3, ![n, a, b]⟩) off size inb).emb x) = _
  congr 1
  funext y
  apply Fin.ext
  rw [emb_at]
  fin_cases y <;> rfl

/-- The convolved rows: the bias and the kernel's rows against the input's rows, which start two rows into the buffer. -/
def conv (b : S1x1024.Idx → EReal) (w : S32x1024.Idx → EReal) (g : S288x1024.Idx → EReal) (r c : ℕ) : EReal :=
  en b 0 c + ∑ k ∈ Finset.range 31, en w k c * en g (r + (k + 2)) c

end Cert.ConvFwdIdeal.Forward

end
-- ==== Proof.ConvFwdTrips.lean ====
/- One trip of the loop of the convolution's forward kernel, on 128 columns: what its store writes, entry by entry, and which entries
   it covers. -/
module

public import proofs.«01_k».proof.Proof.ConvFwdLoads

@[expose] public section

set_option maxRecDepth 65536
set_option maxHeartbeats 4000000

noncomputable section

namespace Cert.ConvFwdIdeal.Forward

open Cert.ConvFwdIdeal Cert.ConvFwdIdeal.Gen Idealize.ShloMosaic Idealize.ShloMosaic.TcCoe Idealize.SL.Sem
open Cert.ConvIdeal.Gradient (at2 at3 en Moved emb_at mem2)

/-- The store of a trip writes the convolved rows. -/
theorem trip_pieces (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty)
    (h13 : Moved (B.arg13.view.read (Elt Ideal) X13) (B.arg12.view.read (Elt Ideal) X12)) (k : Fin k0_t1_loop.trips) :
    ∀ p ∈ trip B c i X6 X7 X12 X13 k, ∀ x : p.1.shape.Idx,
      p.2 x = conv (B.arg7.view.read (Elt Ideal) X7) (B.arg6.view.read (Elt Ideal) X6) (B.arg12.view.read (Elt Ideal) X12) (p.1.emb x 0).val (p.1.emb x 1).val := by
  unfold trip tripL_k0_t1 trip_k0_t1
  dsimp only
  simp only [List.forall_mem_cons]
  refine ⟨?_, fun _ h => absurd h List.not_mem_nil⟩
  intro x
  obtain ⟨s, l, rfl⟩ : ∃ (s : Fin 256) (l : Fin 128), x = ix2 s l := ⟨x 0, x 1, by funext a; fin_cases a <;> rfl⟩
  pointwise [trip_k0_t1.sl.r, trip_k0_t1.sl.r_1, trip_k0_t1.sl.r_2, trip_k0_t1.sl.r_3, trip_k0_t1.sl.r_4, trip_k0_t1.sl.r_5, trip_k0_t1.sl.r_6,
    trip_k0_t1.sl.r_7, trip_k0_t1.sl.r_8, trip_k0_t1.sl.r_9, trip_k0_t1.sl.r_10, trip_k0_t1.sl.r_11, trip_k0_t1.sl.r_12, k0_pay2, k0_pay3,
    k0_pay4, k0_pay5, k0_pay6, k0_pay7, k0_pay8, k0_pay9, k0_pay10, k0_pay11, k0_pay12, k0_pay22]
  simp only [load2 (e := .f32) (0 : EReal), load3 (e := .f32) (0 : EReal), emb_at, k0_off64_eq, k0_off1_eq, k0_off2_eq, k0_off3_eq, k0_off4_eq, k0_off5_eq, k0_off6_eq, k0_off7_eq, k0_off8_eq, k0_off9_eq, k0_off10_eq, k0_off11_eq,
    k0_off12_eq, k0_off13_eq, k0_off14_eq, k0_off15_eq, k0_off16_eq, k0_off17_eq, k0_off18_eq, k0_off19_eq, k0_off20_eq, k0_off21_eq,
    k0_off22_eq, k0_off23_eq, k0_off24_eq, k0_off25_eq, k0_off26_eq, k0_off27_eq, k0_off28_eq, k0_off29_eq, k0_off30_eq, k0_off31_eq,
    k0_off32_eq, k0_off33_eq, k0_off34_eq, k0_off35_eq, k0_off36_eq, k0_off37_eq, k0_off38_eq, k0_off39_eq, k0_off40_eq, k0_off41_eq,
    k0_off42_eq, k0_off43_eq, k0_off44_eq, k0_off45_eq, k0_off46_eq, k0_off47_eq, k0_off48_eq, k0_off49_eq, k0_off50_eq, k0_off51_eq,
    k0_off52_eq, k0_off53_eq, k0_off54_eq, k0_off55_eq, k0_off56_eq, k0_off57_eq, k0_off58_eq, k0_off59_eq, k0_off60_eq, k0_off61_eq,
    k0_off62_eq, k0_off63_eq]
  have hk : k.val < 8 := k.isLt
  have hs : s.val < 256 := s.isLt
  have hl : l.val < 128 := l.isLt
  simp only [Matrix.cons_val_zero, Matrix.cons_val_one, Matrix.cons_val, Cert.ConvIdeal.Gradient.ix2_0, Cert.ConvIdeal.Gradient.ix2_1, Cert.ConvIdeal.Gradient.ix3_0, Cert.ConvIdeal.Gradient.ix3_1,
    Cert.ConvIdeal.Gradient.ix3_2]
  unfold Moved en at h13
  generalize B.arg6.view.read (Elt Ideal) X6 = w
  generalize B.arg7.view.read (Elt Ideal) X7 = b
  generalize B.arg13.view.read (Elt Ideal) X13 = g' at h13 ⊢
  generalize B.arg12.view.read (Elt Ideal) X12 = g at h13 ⊢
  simp (disch := omega) only [h13]
  unfold conv en
  simp only [Finset.sum_range_succ, Finset.sum_range_zero, Nat.add_assoc, Nat.reduceAdd, Nat.reduceSub, Nat.add_zero, Nat.zero_add, Fin.val_zero, zero_add,
    ← add_assoc (G := EReal)]

/-- A trip stores its 128 columns. -/
theorem trip_mem (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty) (k : Fin k0_t1_loop.trips) (y : S256x1024.Idx) :
    (∃ p ∈ trip B c i X6 X7 X12 X13 k, y ∈ p.1.set) ↔ 128 * k.val ≤ (y 1).val ∧ (y 1).val < 128 * k.val + 128 := by
  have h0 : (y 0).val < 256 := (y 0).isLt
  unfold trip tripL_k0_t1 trip_k0_t1
  dsimp only
  simp only [List.mem_cons, exists_eq_or_imp, exists_eq_left, List.not_mem_nil, false_and, exists_false, or_false, mem2, k0_off64_eq, Matrix.cons_val_zero, Matrix.cons_val_one, Matrix.cons_val]
  omega

end Cert.ConvFwdIdeal.Forward

end
-- ==== Proof.ConvFwdLoops.lean ====
/- What the loop of the convolution's forward kernel leaves once all eight groups of columns are done. -/
module

public import proofs.«01_k».proof.Proof.ConvFwdTrips
public import proofs.«01_k».proof.Proof.ConvLoops

@[expose] public section

set_option maxRecDepth 65536
set_option maxHeartbeats 4000000

noncomputable section

namespace Cert.ConvFwdIdeal.Forward

open Cert.ConvFwdIdeal Cert.ConvFwdIdeal.Gen Idealize.ShloMosaic Idealize.ShloMosaic.TcCoe Idealize.SL.Sem
open Cert.ConvIdeal.Gradient (at2 at3 en Moved emb_at)

/-- The first trips store the convolved rows over their columns. -/
theorem loop_pieces (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty)
    (h13 : Moved (B.arg13.view.read (Elt Ideal) X13) (B.arg12.view.read (Elt Ideal) X12)) :
    ∀ n : ℕ, n ≤ 8 →
      (∀ p ∈ loop B c i X6 X7 X12 X13 n, ∀ x : p.1.shape.Idx, p.2 x = conv (B.arg7.view.read (Elt Ideal) X7) (B.arg6.view.read (Elt Ideal) X6) (B.arg12.view.read (Elt Ideal) X12) (p.1.emb x 0).val (p.1.emb x 1).val)
      ∧ ∀ y : S256x1024.Idx, (y 1).val < 128 * n → ∃ p ∈ loop B c i X6 X7 X12 X13 n, y ∈ p.1.set
  | 0, _ => ⟨fun p h => absurd h List.not_mem_nil, fun y h => absurd h (by omega)⟩
  | n + 1, hn => by
    obtain ⟨ih1, ih2⟩ := loop_pieces B c i X6 X7 X12 X13 h13 n (by omega)
    have hk : n < k0_t1_loop.trips := hn
    have e := loop_succ B c i X6 X7 X12 X13 ⟨n, hk⟩
    dsimp only at e
    rw [e]
    constructor
    · intro p hp
      rcases List.mem_append.mp hp with h | h
      · exact trip_pieces B c i X6 X7 X12 X13 h13 ⟨n, hk⟩ p h
      · exact ih1 p h
    · intro y hy
      by_cases hc : (y 1).val < 128 * n
      · obtain ⟨p, hp, h⟩ := ih2 y hc
        exact ⟨p, List.mem_append.mpr (.inr hp), h⟩
      · obtain ⟨p, hp, h⟩ := (trip_mem B c i X6 X7 X12 X13 ⟨n, hk⟩ y).mpr ⟨by show 128 * n ≤ _; omega, by show _ < 128 * n + 128; omega⟩
        exact ⟨p, List.mem_append.mpr (.inl hp), h⟩

/-- After the loop a buffer with its stores holds the convolved rows. -/
theorem loop_read (B : Bufs) (c : Dev nD) (i : grid0.Coords) (X6 : BufTy.Contents (Elt Ideal) B.arg6.view.ty) (X7 : BufTy.Contents (Elt Ideal) B.arg7.view.ty)
    (X12 : BufTy.Contents (Elt Ideal) B.arg12.view.ty) (X13 : BufTy.Contents (Elt Ideal) B.arg13.view.ty)
    (h13 : Moved (B.arg13.view.read (Elt Ideal) X13) (B.arg12.view.read (Elt Ideal) X12))
    {sp : Space} (v : View sig .tc sp S256x1024 .f32) (f : BufTy.Contents (Elt Ideal) v.ty) (y : S256x1024.Idx) :
    v.read (Elt Ideal) (v.writes (Elt Ideal) f (loop B c i X6 X7 X12 X13 8)) y = conv (B.arg7.view.read (Elt Ideal) X7) (B.arg6.view.read (Elt Ideal) X6) (B.arg12.view.read (Elt Ideal) X12) (y 0).val (y 1).val := by
  obtain ⟨h1, h2⟩ := loop_pieces B c i X6 X7 X12 X13 h13 8 le_rfl
  exact View.read_writes_apply_of_pieces v f (fun y => conv _ _ _ (y 0).val (y 1).val) _ h1 y (h2 y (y 1).isLt)

end Cert.ConvFwdIdeal.Forward

end
-- ==== Proof.ConvFwdScratch.lean ====
/- What the scratch buffers of the convolution's forward kernel hold during a point: the rows of its input under the rows before them,
   and the stack of these moved up by 1, …, 7 rows. -/
module

public import proofs.«01_k».proof.Proof.ConvFwdLoads

@[expose] public section

set_option maxRecDepth 65536
set_option maxHeartbeats 4000000

noncomputable section

namespace Cert.ConvFwdIdeal.Forward

open Cert.ConvFwdIdeal Cert.ConvFwdIdeal.Gen Idealize.ShloMosaic Idealize.ShloMosaic.TcCoe Idealize.SL.Sem
open Cert.ConvIdeal.Gradient (at2 at3 en Moved emb_at mem2 below stack_mem)

/-- A load of a whole buffer reads what the buffer holds. -/
theorem rd {s : Shape} {e : EltTy} (m : Memref sig .tc .vmem s e) (h : m.IsWhole) (X : s.Idx → Elt Ideal e) (off : Fin s.rank → ℕ) (inb : ∀ a, off a + s.size a ≤ s.size a) :
    m.view.readAt (Elt Ideal) (Rect.unit off s.size inb).toLoadRect (h.unread X) = X := by
  funext x
  show m.view.read (Elt Ideal) (h.unread X) ((Rect.unit off s.size inb).emb x) = X x
  rw [h.read_unread]
  congr 1
  funext a
  apply Fin.ext
  rw [emb_at]
  have := inb a
  omega

/-- A store of a whole buffer leaves what it stores. -/
theorem whole_store {s : Shape} {e : EltTy} {sp : Space} (v : View sig .tc sp s e) (f : BufTy.Contents (Elt Ideal) v.ty) (off : Fin s.rank → ℕ)
    (size : Fin s.rank → ℕ) (inb : ∀ a, off a + size a ≤ s.size a) (hz : ∀ a, off a = 0) (hs : size = s.size)
    (P : (Rect.unit off size inb).shape.Idx → Elt Ideal e) (y : s.Idx) (x : (Rect.unit off size inb).shape.Idx) (hx : ∀ a, (x a).val = (y a).val) :
    v.read (Elt Ideal) (v.writes (Elt Ideal) f [⟨Rect.unit off size inb, P⟩]) y = P x := by
  have he : ∀ z : (Rect.unit off size inb).shape.Idx, ∀ a, ((Rect.unit off size inb).emb z a).val = (z a).val := fun z a => by
    rw [emb_at, hz, Nat.add_zero]
  have hm : y ∈ (Rect.unit off size inb).set := Rect.mem_set_unit.mpr fun a => by
    rw [hz a, congrFun hs a]; exact ⟨Nat.zero_le _, by rw [Nat.zero_add]; exact (y a).isLt⟩
  have hg := View.read_writes_apply_of_pieces v f (fun w => P fun a => ⟨(w a).val, lt_of_lt_of_eq (w a).isLt (congrFun hs a).symm⟩)
    [⟨Rect.unit off size inb, P⟩] (fun p hp z => by
      obtain rfl := List.mem_singleton.mp hp
      exact congrArg P (funext fun a => Fin.ext (he z a).symm)) y
    ⟨_, List.mem_singleton.mpr rfl, hm⟩
  exact hg.trans (congrArg P (funext fun a => Fin.ext (hx a).symm))

/-- A load of a whole buffer reads its contents. -/
theorem whole_load {s : Shape} {e : EltTy} {sp : Space} (v : View sig .tc sp s e) (f : BufTy.Contents (Elt Ideal) v.ty) (off : Fin s.rank → ℕ)
    (size : Fin s.rank → ℕ) (inb : ∀ a, off a + size a ≤ s.size a) (hz : ∀ a, off a = 0) (x : (Rect.unit off size inb).shape.Idx) (y : s.Idx)
    (hx : ∀ a, (x a).val = (y a).val) : v.readAt (Elt Ideal) (Rect.unit off size inb).toLoadRect f x = v.read (Elt Ideal) f y := by
  show v.read (Elt Ideal) f ((Rect.unit off size inb).emb x) = _
  congr 1
  funext a
  apply Fin.ext
  rw [emb_at, hz, Nat.add_zero, hx]

variable (B : Bufs) (c : Dev nD) (i : grid0.Coords) (x0 x1 : Vec Ideal S256x1024 .bf16) (x2 x3 : Vec Ideal S32x1024 .bf16)

/-- The pieces of the input's rows, and of their stack. -/
abbrev gL : List (View.Piece (Elt Ideal) S288x1024 .f32) :=
  kernelRun0_A.sl.HS0_2 (F := Ideal) c i B.arg1 B.harg1 B.arg2 B.harg2 B.arg3 B.harg3 B.arg4 B.harg4 x0 x1 x2 x3
abbrev gsL : List (View.Piece (Elt Ideal) S7x280x1024 .f32) :=
  kernelRun0_A.sl.HS1_7 (F := Ideal) c i B.arg1 B.harg1 B.arg2 B.harg2 B.arg3 B.harg3 B.arg4 B.harg4 B.arg12 x0 x1 x2 x3

abbrev gAt : S288x1024.Idx → EReal := below (k0_pay13 (F := Ideal) i x2 x3) (k0_pay14 (F := Ideal) x0 x1)

theorem gL_read (f : BufTy.Contents (Elt Ideal) B.arg12.view.ty) :
    B.arg12.view.read (Elt Ideal) (B.arg12.view.writes (Elt Ideal) f (gL B c i x0 x1 x2 x3)) = gAt i x0 x1 x2 x3 := by
  funext y
  refine View.read_writes_apply_of_pieces B.arg12.view f (gAt i x0 x1 x2 x3) _ ?_ y ?_
  · unfold gL kernelRun0_A.sl.HS0_2
    simp only [List.forall_mem_cons]
    refine ⟨?_, ?_, fun _ h => absurd h List.not_mem_nil⟩
    · intro x
      have h0 : ((Rect.unit (s := S288x1024) ![32, 0] S256x1024.size inb_S288x1024_S256x1024_32_0).emb x 0).val = (x 0).val + 32 := emb_at _ _ _ x 0
      have h1 : (Rect.unit (s := S288x1024) ![32, 0] S256x1024.size inb_S288x1024_S256x1024_32_0).emb x 1 = x 1 := Fin.ext (emb_at _ _ _ x 1)
      unfold gAt below
      rw [dif_neg (by rw [h0]; omega)]
      rw [rd, rd]
      congr 1
      funext a
      fin_cases a
      · exact Fin.ext (by show (x 0).val = _ - 32; rw [h0]; omega)
      · exact h1.symm
    · intro x
      have h0 : ((Rect.unit (s := S288x1024) ![0, 0] S32x1024.size inb_S288x1024_S32x1024_0_0).emb x 0).val = (x 0).val := emb_at _ _ _ x 0
      have h1 : (Rect.unit (s := S288x1024) ![0, 0] S32x1024.size inb_S288x1024_S32x1024_0_0).emb x 1 = x 1 := Fin.ext (emb_at _ _ _ x 1)
      unfold gAt below
      have hx : (x 0).val < 32 := (x 0).isLt
      rw [dif_pos (by rw [h0]; exact hx)]
      rw [rd, rd]
      congr 1
      funext a
      fin_cases a
      · exact Fin.ext h0.symm
      · exact h1.symm
  · have hy : (y 0).val < 288 := (y 0).isLt
    have hy1 : (y 1).val < 1024 := (y 1).isLt
    unfold gL kernelRun0_A.sl.HS0_2
    by_cases h : (y 0).val < 32
    · exact ⟨_, List.mem_cons_of_mem _ List.mem_cons_self, (mem2 _ _ inb_S288x1024_S32x1024_0_0 y).mpr
        ⟨⟨Nat.zero_le _, by show (y 0).val < 0 + 32; omega⟩, Nat.zero_le _, by show (y 1).val < 0 + 1024; omega⟩⟩
    · exact ⟨_, List.mem_cons_self, (mem2 _ _ inb_S288x1024_S256x1024_32_0 y).mpr
        ⟨⟨by show 32 ≤ (y 0).val; omega, by show (y 0).val < 32 + 256; omega⟩, Nat.zero_le _, by show (y 1).val < 0 + 1024; omega⟩⟩

/-- The stack of the input's rows holds them moved up. -/
theorem gsL_moved (f : BufTy.Contents (Elt Ideal) B.arg13.view.ty) :
    Moved (B.arg13.view.read (Elt Ideal) (B.arg13.view.writes (Elt Ideal) f (gsL B c i x0 x1 x2 x3))) (gAt i x0 x1 x2 x3) := by
  intro j r l hj hr hl
  unfold at3
  rw [dif_pos ⟨hj, hr, hl⟩]
  refine View.read_writes_apply_of_pieces B.arg13.view f (fun y => en (gAt i x0 x1 x2 x3) ((y 1).val + ((y 0).val + 1)) (y 2).val) _ ?_
    (ix3 ⟨j, hj⟩ ⟨r, hr⟩ ⟨l, hl⟩) ?_
  · unfold gsL kernelRun0_A.sl.HS1_7
    simp only [List.forall_mem_cons]
    refine ⟨?_, ?_, ?_, ?_, ?_, ?_, ?_, fun _ h => absurd h List.not_mem_nil⟩
    all_goals
      intro x
      obtain ⟨z, s, l, rfl⟩ : ∃ (z : Fin 1) (s : Fin 280) (l : Fin 1024), x = ix3 z s l := ⟨x 0, x 1, x 2, by funext a; fin_cases a <;> rfl⟩
      obtain rfl : z = 0 := Subsingleton.elim _ _
      pointwise [k0_pay15, k0_pay16, k0_pay17, k0_pay18, k0_pay19, k0_pay20, k0_pay21, kernelRun0_A.sl.v37, kernelRun0_A.sl.v41, kernelRun0_A.sl.v45, kernelRun0_A.sl.v49, kernelRun0_A.sl.v53, kernelRun0_A.sl.v57, kernelRun0_A.sl.v61]
      unfold View.readCov
      rw [load2 (e := .f32) (0 : EReal), gL_read B c i x0 x1 x2 x3]
      simp only [emb_at, Matrix.cons_val_zero, Matrix.cons_val_one, Matrix.cons_val, Cert.ConvIdeal.Gradient.ix2_0, Cert.ConvIdeal.Gradient.ix2_1, Cert.ConvIdeal.Gradient.ix3_0, Cert.ConvIdeal.Gradient.ix3_1,
    Cert.ConvIdeal.Gradient.ix3_2, Nat.add_zero, Nat.zero_add, Fin.val_zero,
        Nat.reduceAdd]
  · unfold gsL kernelRun0_A.sl.HS1_7
    match j, hj with
    | 6, _ => exact ⟨_, List.mem_cons_self, stack_mem _ 6 rfl inb_S7x280x1024_S1x280x1024_6_0_0⟩
    | 5, _ => exact ⟨_, List.mem_cons_of_mem _ List.mem_cons_self, stack_mem _ 5 rfl inb_S7x280x1024_S1x280x1024_5_0_0⟩
    | 4, _ => exact ⟨_, List.mem_cons_of_mem _ (List.mem_cons_of_mem _ List.mem_cons_self), stack_mem _ 4 rfl inb_S7x280x1024_S1x280x1024_4_0_0⟩
    | 3, _ => exact ⟨_, List.mem_cons_of_mem _ (List.mem_cons_of_mem _ (List.mem_cons_of_mem _ List.mem_cons_self)), stack_mem _ 3 rfl inb_S7x280x1024_S1x280x1024_3_0_0⟩
    | 2, _ => exact ⟨_, List.mem_cons_of_mem _ (List.mem_cons_of_mem _ (List.mem_cons_of_mem _ (List.mem_cons_of_mem _ List.mem_cons_self))), stack_mem _ 2 rfl inb_S7x280x1024_S1x280x1024_2_0_0⟩
    | 1, _ => exact ⟨_, List.mem_cons_of_mem _ (List.mem_cons_of_mem _ (List.mem_cons_of_mem _ (List.mem_cons_of_mem _ (List.mem_cons_of_mem _ List.mem_cons_self)))), stack_mem _ 1 rfl inb_S7x280x1024_S1x280x1024_1_0_0⟩
    | 0, _ => exact ⟨_, List.mem_cons_of_mem _ (List.mem_cons_of_mem _ (List.mem_cons_of_mem _ (List.mem_cons_of_mem _ (List.mem_cons_of_mem _ (List.mem_cons_of_mem _ List.mem_cons_self))))), stack_mem _ 0 rfl inb_S7x280x1024_S1x280x1024_0_0_0⟩

end Cert.ConvFwdIdeal.Forward

end
-- ==== Proof.ConvFwdValue.lean ====
/- What a point of the convolution's forward kernel leaves in its two outputs. -/
module

public import proofs.«01_k».proof.Proof.ConvFwdLoops
public import proofs.«01_k».proof.Proof.ConvFwdScratch
public import proofs.«01_k».proof.Proof.ConvValue
public import proofs.«01_k».proof.Proof.NormOut

@[expose] public section

set_option maxRecDepth 65536
set_option maxHeartbeats 4000000

noncomputable section

namespace Cert.ConvFwdIdeal.Forward

open Cert.ConvFwdIdeal Cert.ConvFwdIdeal.Gen Idealize.ShloMosaic Idealize.ShloMosaic.TcCoe Idealize.SL.Sem
open Cert.ConvIdeal.Gradient (at2 at3 en Moved emb_at below off2)

/-- The input's rows: the values times the gates' sigmoid. -/
theorem prod_blk (x0 x1 : Vec Ideal S256x1024 .bf16) (y : S256x1024.Idx) : k0_pay14 (F := Ideal) x0 x1 y = x0 y * Gate.sig (x1 y) := by
  pointwise [k0_pay14]
  simp only [Gate.sig, Gate.one_eq, EReal.coe_one, zero_sub]

/-- The rows of a block and the only row of a matrix. -/
abbrev rows (X : S256x1024.Idx → EReal) (s : Fin 256) (d : Fin 1024) : EReal := X (ix2 s d)
abbrev vec (X : S1x1024.Idx → EReal) (d : Fin 1024) : EReal := X (ix2 0 d)

/-- The normalized rows, scaled and shifted. -/
theorem act_blk (X : FVec Ideal S256x1024 .f32) (G H : FVec Ideal S1x1024 .f32) (s : Fin 256) (d : Fin 1024) :
    k0_pay23 (F := Ideal) X G H (ix2 s d) = NormOut.act (rows X) (vec G) (vec H) s d := by
  pointwise [k0_pay23, NormOut.act, LayerNorm.xh, LayerNorm.var, LayerNorm.cen, LayerNorm.mean]

theorem z_blk (Z : Vec Ideal S256x1024 .bf16) (y : S256x1024.Idx) : k0_pay24 (F := Ideal) Z y = Z y := by
  pointwise [k0_pay24]

/-- The gated rows. -/
theorem gate_blk (A Z : FVec Ideal S256x1024 .f32) (y : S256x1024.Idx) : k0_pay1 (F := Ideal) A Z k0_pay25 y = Gate.silu (A y) * Gate.silu (Z y) := by
  unfold Gate.silu
  rw [← mul_assoc]
  pointwise [k0_pay1, k0_pay25]
  simp only [Gate.sig, Gate.one_eq, EReal.coe_one, zero_sub]

variable (B : Bufs) (c : Dev nD) (i : grid0.Coords) (x0 x1 : Vec Ideal S256x1024 .bf16) (x2 x3 : Vec Ideal S32x1024 .bf16)
  (x4 : Vec Ideal S256x1024 .bf16) (x5 : Vec Ideal S32x1024 .f32) (x6 x7 x8 : Vec Ideal S1x1024 .f32)

/-- The convolved rows of a point. -/
def convBlk (y : S256x1024.Idx) : EReal := conv x6 x5 (gAt i x0 x1 x2 x3) (y 0).val (y 1).val

abbrev X12 := B.arg12.view.writes (Elt Ideal) B.arg12.view.junk (gL B c i x0 x1 x2 x3)
abbrev X13 := B.arg13.view.writes (Elt Ideal) B.arg13.view.junk (gsL B c i x0 x1 x2 x3)

/-- The pieces of the convolved rows. -/
abbrev cvL : List (View.Piece (Elt Ideal) S256x1024 .f32) :=
  loop B c i (B.harg6.unread x5) (B.harg7.unread x6) (X12 B c i x0 x1 x2 x3) (X13 B c i x0 x1 x2 x3) 8

theorem cvL_read {sp : Space} (v : View sig .tc sp S256x1024 .f32) (f : BufTy.Contents (Elt Ideal) v.ty) (y : S256x1024.Idx) :
    v.read (Elt Ideal) (v.writes (Elt Ideal) f (cvL B c i x0 x1 x2 x3 x5 x6)) y = convBlk i x0 x1 x2 x3 x5 x6 y := by
  refine (loop_read B c i _ _ (X12 B c i x0 x1 x2 x3) (X13 B c i x0 x1 x2 x3) ?_ v f y).trans ?_
  · rw [gL_read]
    exact gsL_moved B c i x0 x1 x2 x3 _
  · rw [gL_read, B.harg6.read_unread, B.harg7.read_unread]
    rfl

/-- The load of the convolved rows. -/
abbrev ld11 : (Rect.unit (s := S256x1024) ![0, 0] ![256, 1024] inb_S256x1024_S256x1024_0_0).shape.Idx → Elt Ideal .f32 :=
  B.arg11.view.readCov (cvL B c i x0 x1 x2 x3 x5 x6) (Rect.unit ![0, 0] ![256, 1024] inb_S256x1024_S256x1024_0_0).toLoadRect

theorem ld11_eq : ld11 B c i x0 x1 x2 x3 x5 x6 = convBlk i x0 x1 x2 x3 x5 x6 := by
  funext y
  refine (whole_load B.arg11.view _ _ _ _ off2 _ y fun a => rfl).trans ?_
  exact cvL_read B c i x0 x1 x2 x3 x5 x6 _ _ y

/-- The gated rows of a point. -/
def yBlk (s : Fin 256) (d : Fin 1024) : EReal :=
  NormOut.gated (rows (convBlk i x0 x1 x2 x3 x5 x6)) (rows x4) (vec x7) (vec x8) s d

theorem actL_eq : kernelRun0_A.sl.r (F := Ideal) c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 x0 x1 x2 x3 x5 x6 x7 x8
    = k0_pay23 (F := Ideal) (convBlk i x0 x1 x2 x3 x5 x6) x7 x8 := by
  show k0_pay23 (F := Ideal) (ld11 B c i x0 x1 x2 x3 x5 x6) _ _ = _
  rw [ld11_eq, rd, rd]

theorem yL_read (v : View sig .tc .vmem S256x1024 .bf16) (f : BufTy.Contents (Elt Ideal) v.ty) (s : Fin 256) (d : Fin 1024) :
    v.read (Elt Ideal) (v.writes (Elt Ideal) f [⟨Rect.unit ![0, 0] ![256, 1024] inb_S256x1024_S256x1024_0_0,
      k0_pay1 (F := Ideal) (kernelRun0_A.sl.r (F := Ideal) c i B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 x0 x1 x2 x3 x5 x6 x7 x8)
        (kernelRun0_A.sl.r_1 c B.arg5 B.harg5 x4) k0_pay25⟩]) (ix2 s d) = yBlk i x0 x1 x2 x3 x4 x5 x6 x7 x8 s d := by
  refine (whole_store v f _ _ _ off2 rfl _ (ix2 s d) (ix2 s d) fun a => rfl).trans ?_
  unfold kernelRun0_A.sl.r_1
  rw [gate_blk, rd, z_blk, actL_eq, act_blk]
  rfl

section
variable (arg1 : Memref sig .tc .vmem S256x1024 .bf16) (harg1 : arg1.IsWhole)
  (arg2 : Memref sig .tc .vmem S256x1024 .bf16) (harg2 : arg2.IsWhole)
  (arg3 : Memref sig .tc .vmem S32x1024 .bf16) (harg3 : arg3.IsWhole)
  (arg4 : Memref sig .tc .vmem S32x1024 .bf16) (harg4 : arg4.IsWhole)
  (arg5 : Memref sig .tc .vmem S256x1024 .bf16) (harg5 : arg5.IsWhole)
  (arg6 : Memref sig .tc .vmem S32x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .bf16) (harg10 : arg10.IsWhole)
  (arg11 : Memref sig .tc .vmem S256x1024 .f32) (harg11 : arg11.IsWhole)
  (arg12 : Memref sig .tc .vmem S288x1024 .f32) (harg12 : arg12.IsWhole)
  (arg13 : Memref sig .tc .vmem S7x280x1024 .f32) (harg13 : arg13.IsWhole)

theorem outA_10 (y : S256x1024.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y = convBlk i x0 x1 x2 x3 x5 x6 y :=
  cvL_read ⟨arg1, harg1, arg2, harg2, arg3, harg3, arg4, harg4, arg5, harg5, arg6, harg6, arg7, harg7, arg8, harg8, arg9, harg9, arg10, harg10, arg11, harg11, arg12, harg12, arg13, harg13⟩ c i x0 x1 x2 x3 x5 x6 VO0_10 _ y

theorem outA_9 (s : Fin 256) (d : Fin 1024) : out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 s d)
    = yBlk i x0 x1 x2 x3 x4 x5 x6 x7 x8 s d :=
  yL_read ⟨arg1, harg1, arg2, harg2, arg3, harg3, arg4, harg4, arg5, harg5, arg6, harg6, arg7, harg7, arg8, harg8, arg9, harg9, arg10, harg10, arg11, harg11, arg12, harg12, arg13, harg13⟩ c i x0 x1 x2 x3 x4 x5 x6 x7 x8 VO0_9 _ s d
end

section
variable (m : (ℓ : Loc nD τ sig) → Buf (Elt Ideal) ℓ) (t : Fin cfg0.N)

/-- The convolved rows and the gated rows at a point. -/
abbrev convAt : S256x1024.Idx → EReal :=
  convBlk (grid0.coords t) (iblk m c 0 t) (iblk m c 1 t) (iblk m c 2 t) (iblk m c 3 t) (iblk m c 5 t) (iblk m c 6 t)
abbrev yAt (s : Fin 256) (d : Fin 1024) : EReal :=
  yBlk (grid0.coords t) (iblk m c 0 t) (iblk m c 1 t) (iblk m c 2 t) (iblk m c 3 t) (iblk m c 4 t) (iblk m c 5 t) (iblk m c 6 t) (iblk m c 7 t) (iblk m c 8 t) s d
/-- The rows of the input at a point. -/
abbrev gRows : S288x1024.Idx → EReal := gAt (grid0.coords t) (iblk m c 0 t) (iblk m c 1 t) (iblk m c 2 t) (iblk m c 3 t)

theorem out9 (s : Fin 256) (d : Fin 1024) : (outsAt0 m c t).1 (ix2 s d) = yAt c m t s d := by
  unfold outsAt0
  dsimp only
  exact outA_9 ..

theorem out10 (y : S256x1024.Idx) : (outsAt0 m c t).2 y = convAt c m t y := by
  unfold outsAt0
  dsimp only
  exact outA_10 ..
end

end Cert.ConvFwdIdeal.Forward

end
-- ==== Proof.ConvFwdFinal.lean ====
/- What the windows of the convolution's forward kernel hold at each point, in terms of the arguments, and what the kernel leaves in its
   two arrays when the grid is done. -/
module

public import proofs.«01_k».proof.Proof.ConvFwdValue
public import proofs.«01_k».proof.Proof.ConvGrad
public import proofs.«01_k».proof.Proof.Gen.ConvFwdIdeal.Value
public import Idealize.ShloMosaic.Lib.Pipeline.ValueKit
public import Idealize.ShloMosaic.Lib.StableHlo.ReadAt

@[expose] public section

set_option maxRecDepth 16384
set_option maxHeartbeats 4000000

noncomputable section

namespace Cert.ConvFwdIdeal.Forward

open Cert.ConvFwdIdeal Cert.ConvFwdIdeal.Gen Idealize.ShloMosaic Idealize.ShloMosaic.TcCoe Idealize.SL.Sem Idealize.ShloMosaic.StableHlo
open Idealize.ShloMosaic.Pipeline (Dat)
open Cert.ConvIdeal.Gradient (at2 en below at2_idx)

variable (m : (ℓ : Loc nD τ sig) → Buf (Elt Ideal) ℓ) (c : Dev nD) (t : Fin cfg0.N)

/-- The block index of every window at every point. -/
theorem idx : ∀ t : Fin cfg0.N, win0_0.index t = ![t.val, 0] ∧ win0_1.index t = ![t.val, 1] ∧ win0_2.index t = ![t.val * 8 - 1, 0]
    ∧ win0_3.index t = ![t.val * 8 - 1, 1] ∧ win0_4.index t = ![t.val, 2] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- The comparison by which the kernel knows the first point. -/
theorem first : ∀ t : Fin cfg0.N, Scalar.cmpi .eq (BitVec.ofNat 32 (grid0.coords t 0).val) 0#32 = if 0 < t.val then 0#1 else 1#1 :=
  (by decide +kernel : ∀ t : Fin grid0.N, _)

theorem lt32 (t : Fin cfg0.N) : t.val < 32 := by have := t.isLt; have h : cfg0.N = 32 := N_0; omega

/-- Row `s` of block `t`, as a row of the array. -/
def row (t : Fin cfg0.N) (s : Fin 256) : Fin 8192 := ⟨t.val * 256 + s.val, by have := lt32 t; have := s.isLt; omega⟩

/-- A channel of the values, of the gates, of the input and of the kernel; the rows of the other factor; the bias, the scale, the shift. -/
abbrev argV (l : Fin 1024) (r : Fin 8192) : EReal := m ((c : Thread nD τ).loc main_arg0) (ix2 r ⟨l.val, by have := l.isLt; omega⟩)
abbrev argH (l : Fin 1024) (r : Fin 8192) : EReal := m ((c : Thread nD τ).loc main_arg0) (ix2 r ⟨1024 + l.val, by have := l.isLt; omega⟩)
abbrev argG (l : Fin 1024) (r : Fin 8192) : EReal := argV m c l r * Gate.sig (argH m c l r)
abbrev argW (l : Fin 1024) (k : Fin 31) : EReal := m ((c : Thread nD τ).loc main_arg1) (ix2 k l)
abbrev argZ (r : Fin 8192) (l : Fin 1024) : EReal := m ((c : Thread nD τ).loc main_arg0) (ix2 r ⟨2048 + l.val, by have := l.isLt; omega⟩)
abbrev argB (l : Fin 1024) : EReal := m ((c : Thread nD τ).loc main_arg2) (ix1 l)
abbrev argLG (l : Fin 1024) : EReal := m ((c : Thread nD τ).loc main_arg3) (ix1 l)
abbrev argLB (l : Fin 1024) : EReal := m ((c : Thread nD τ).loc main_arg4) (ix1 l)

theorem host_v1 (r : Fin 8192) (j : Fin 3072) : V m c main_v1 (ix2 r j) = m ((c : Thread nD τ).loc main_arg0) (ix2 r j) := by
  show after (hostOps0 ++ (hostOps0_1 ++ (hostOps0_2 ++ []))) _ _ _ = _
  after_reads_at
theorem host_v0 (k : Fin 32) (h : k.val < 31) (l : Fin 1024) : V m c main_v0 (ix2 k l) = argW m c l ⟨k.val, h⟩ := by
  show after (hostOps0 ++ (hostOps0_1 ++ (hostOps0_2 ++ []))) _ _ _ = _
  after_reads_at
  exact dif_pos h
theorem host_v2 (l : Fin 1024) : V m c main_v2 (ix2 0 l) = argB m c l := by
  show after (hostOps0 ++ (hostOps0_1 ++ (hostOps0_2 ++ []))) _ _ _ = _
  after_reads_at
theorem host_v3 (l : Fin 1024) : V m c main_v3 (ix2 0 l) = argLG m c l := by
  show after (hostOps0 ++ (hostOps0_1 ++ (hostOps0_2 ++ []))) _ _ _ = _
  after_reads_at
theorem host_v4 (l : Fin 1024) : V m c main_v4 (ix2 0 l) = argLB m c l := by
  show after (hostOps0 ++ (hostOps0_1 ++ (hostOps0_2 ++ []))) _ _ _ = _
  after_reads_at

theorem blkV (s : Fin 256) (l : Fin 1024) : iblk m c 0 t (ix2 s l) = argV m c l (row t s) := by
  have he : (win0_0.blk t).view.emb (ix2 s l) = ix2 (row t s) ⟨l.val, by omega⟩ := by blk_ext [idx t, row]
  blk_simp [iblk]
  rw [he]
  exact host_v1 ..
theorem blkH (s : Fin 256) (l : Fin 1024) : iblk m c 1 t (ix2 s l) = argH m c l (row t s) := by
  have he : (win0_1.blk t).view.emb (ix2 s l) = ix2 (row t s) ⟨1024 + l.val, by omega⟩ := by blk_ext [idx t, row]
  blk_simp [iblk]
  rw [he]
  exact host_v1 ..
theorem blkPV (h : 0 < t.val) (s : Fin 32) (l : Fin 1024) (r : Fin 8192) (hr : r.val = t.val * 256 + s.val - 32) : iblk m c 2 t (ix2 s l) = argV m c l r := by
  have he : (win0_2.blk t).view.emb (ix2 s l) = ix2 r ⟨l.val, by omega⟩ := by blk_ext [idx t, hr]
  blk_simp [iblk]
  rw [he]
  exact host_v1 ..
theorem blkPH (h : 0 < t.val) (s : Fin 32) (l : Fin 1024) (r : Fin 8192) (hr : r.val = t.val * 256 + s.val - 32) : iblk m c 3 t (ix2 s l) = argH m c l r := by
  have he : (win0_3.blk t).view.emb (ix2 s l) = ix2 r ⟨1024 + l.val, by omega⟩ := by blk_ext [idx t, hr]
  blk_simp [iblk]
  rw [he]
  exact host_v1 ..
theorem blkZ (s : Fin 256) (l : Fin 1024) : iblk m c 4 t (ix2 s l) = argZ m c (row t s) l := by
  have he : (win0_4.blk t).view.emb (ix2 s l) = ix2 (row t s) ⟨2048 + l.val, by omega⟩ := by blk_ext [idx t, row]
  blk_simp [iblk]
  rw [he]
  exact host_v1 ..
theorem blkW (k : Fin 32) (h : k.val < 31) (l : Fin 1024) : iblk m c 5 t (ix2 k l) = argW m c l ⟨k.val, h⟩ := by
  have he : (win0_5.blk t).view.emb (ix2 k l) = ix2 k l := by blk_ext [idx t]
  blk_simp [iblk]
  rw [he]
  exact host_v0 ..
theorem blkB (l : Fin 1024) : iblk m c 6 t (ix2 0 l) = argB m c l := by
  have he : (win0_6.blk t).view.emb (ix2 0 l) = ix2 0 l := by blk_ext [idx t]
  blk_simp [iblk]
  rw [he]
  exact host_v2 ..
theorem blkLG (l : Fin 1024) : iblk m c 7 t (ix2 0 l) = argLG m c l := by
  have he : (win0_7.blk t).view.emb (ix2 0 l) = ix2 0 l := by blk_ext [idx t]
  blk_simp [iblk]
  rw [he]
  exact host_v3 ..
theorem blkLB (l : Fin 1024) : iblk m c 8 t (ix2 0 l) = argLB m c l := by
  have he : (win0_8.blk t).view.emb (ix2 0 l) = ix2 0 l := by blk_ext [idx t]
  blk_simp [iblk]
  rw [he]
  exact host_v4 ..

/-- The input's rows at a point, after the rows before them: rows of the array, with zeros before its start. -/
theorem gAt_at (y : S288x1024.Idx) : gRows c m t y = ConvGrad.low (argG m c (y 1)) (t.val * 256 + (y 0).val) := by
  have hy : (y 0).val < 288 := (y 0).isLt
  have ht := lt32 t
  unfold gRows gAt below
  split
  · next h =>
    by_cases h0 : 0 < t.val
    · rw [ConvGrad.low, if_pos (by omega), ConvGrad.col_of_lt _ _ (by omega)]
      refine Eq.trans ?_ (congrArg₂ (HMul.hMul (α := EReal)) (blkPV m c t h0 ⟨(y 0).val, h⟩ (y 1) _ rfl) (congrArg Gate.sig (blkPH m c t h0 ⟨(y 0).val, h⟩ (y 1) _ rfl)))
      pointwise [k0_pay13]
      rw [first t, if_pos h0]
      simp only [Gate.sig, Gate.one_eq, EReal.coe_one, zero_sub]
      rfl
    · rw [ConvGrad.low, if_neg (by omega)]
      pointwise [k0_pay13]
      rw [first t, if_neg h0]
      rfl
  · next h =>
    rw [ConvGrad.low, if_pos (by omega), ConvGrad.col_of_lt _ _ (by omega), prod_blk]
    have hr : (⟨t.val * 256 + (y 0).val - 32, by omega⟩ : Fin 8192) = row t ⟨(y 0).val - 32, by omega⟩ := Fin.ext (by show t.val * 256 + (y 0).val - 32 = t.val * 256 + ((y 0).val - 32); omega)
    rw [hr]
    exact congrArg₂ (HMul.hMul (α := EReal)) (blkV m c t _ _) (congrArg Gate.sig (blkH m c t _ _))

/-- The convolved rows. -/
def convR (r : Fin 8192) (l : Fin 1024) : EReal := argB m c l + ∑ k : Fin 31, argW m c l k * ConvGrad.low (argG m c l) (r.val + (k.val + 2))

theorem en_at {a b : ℕ} (X : (⟨2, ![a, b]⟩ : Shape).Idx → EReal) (r : Fin a) (l : Fin b) : en X r.val l.val = X (ix2 r l) := at2_idx (e := .f32) (0 : EReal) X (ix2 r l)

theorem convAt_at (s : Fin 256) (l : Fin 1024) : convAt c m t (ix2 s l) = convR m c (row t s) l := by
  unfold convAt convBlk conv convR
  rw [Finset.sum_range]
  refine congrArg₂ (HAdd.hAdd (α := EReal)) ((en_at _ (0 : Fin 1) l).trans (blkB m c t l)) (Finset.sum_congr (M := EReal) rfl fun k _ => ?_)
  have hk := k.isLt
  have hs := s.isLt
  have h1 : en (iblk m c 5 t) k.val l.val = argW m c l k :=
    (en_at _ (⟨k.val, by omega⟩ : Fin 32) l).trans (blkW m c t ⟨k.val, by omega⟩ hk l)
  have h2 : en (gRows c m t) (s.val + (k.val + 2)) l.val = ConvGrad.low (argG m c l) ((row t s).val + (k.val + 2)) := by
    refine (en_at _ (⟨s.val + (k.val + 2), by omega⟩ : Fin 288) l).trans ((gAt_at m c t _).trans (congrArg (ConvGrad.low (argG m c l)) ?_))
    show t.val * 256 + (s.val + (k.val + 2)) = t.val * 256 + s.val + (k.val + 2)
    omega
  exact congrArg₂ (HMul.hMul (α := EReal)) h1 h2

/-- The gated rows. -/
def yR (r : Fin 8192) (l : Fin 1024) : EReal := NormOut.gated (convR m c) (argZ m c) (argLG m c) (argLB m c) r l

theorem yAt_at (s : Fin 256) (l : Fin 1024) : yAt c m t s l = yR m c (row t s) l := by
  have h1 : rows (convAt c m t) s = convR m c (row t s) := funext fun l => convAt_at m c t s l
  have h2 : rows (iblk m c 4 t) s l = argZ m c (row t s) l := blkZ m c t s l
  have h3 : vec (iblk m c 7 t) l = argLG m c l := blkLG m c t l
  have h4 : vec (iblk m c 8 t) l = argLB m c l := blkLB m c t l
  show Gate.silu (LayerNorm.xh (rows (convAt c m t) s) l * vec (iblk m c 7 t) l + vec (iblk m c 8 t) l) * Gate.silu (rows (iblk m c 4 t) s l) = _
  rw [h1, h2, h3, h4]
  rfl

/-- The gated rows the kernel leaves. -/
theorem final9 : (dats m 0 c).arrAt 9 cfg0.N = fun y : S8192x1024.Idx => yR m c (y 0) (y 1) := by
  refine (dats m 0 c).arrAt_eq_of_covers 9 _ (by decide +kernel) fun t hf y => ?_
  blk_simp
  rw [after0_9]
  obtain ⟨s, l, rfl⟩ : ∃ (s : Fin 256) (l : Fin 1024), y = ix2 s l := ⟨y 0, y 1, by ext a; fin_cases a <;> rfl⟩
  have he : (win0_9.blk t).view.emb (ix2 s l) = ix2 (row t s) l := by blk_ext [idx t, row]
  rw [he]
  exact (out9 c m t s l).trans (yAt_at m c t s l)

/-- The convolved rows the kernel leaves. -/
theorem final10 : (dats m 0 c).arrAt 10 cfg0.N = fun y : S8192x1024.Idx => convR m c (y 0) (y 1) := by
  refine (dats m 0 c).arrAt_eq_of_covers 10 _ (by decide +kernel) fun t hf y => ?_
  blk_simp
  rw [after0_10]
  obtain ⟨s, l, rfl⟩ : ∃ (s : Fin 256) (l : Fin 1024), y = ix2 s l := ⟨y 0, y 1, by ext a; fin_cases a <;> rfl⟩
  have he : (win0_10.blk t).view.emb (ix2 s l) = ix2 (row t s) l := by blk_ext [idx t, row]
  rw [he]
  exact (out10 c m t _).trans (convAt_at m c t s l)

end Cert.ConvFwdIdeal.Forward

end
-- ==== Proof.ConvFwdRefValue.lean ====
/- What the convolution of gated rows and its gated layer normalization are, by their definition, as plain sums over taps and rows. -/
module

public import proofs.«01_k».proof.Proof.ConvGrad
public import proofs.«01_k».proof.Proof.NormOut
public import proofs.«01_k».proof.Proof.ConvRefValue
public import proofs.«01_k».proof.Proof.Gen.ConvFwdRefIdeal.Read

@[expose] public section

set_option maxRecDepth 16384

noncomputable section

namespace Cert.ConvFwdRefIdeal.Forward

open Cert.ConvFwdRefIdeal Cert.ConvFwdRefIdeal.Read Idealize.ShloMosaic Idealize.ShloMosaic.TcCoe Idealize.SL.Sem
open Cert.ConvRefIdeal.Gradient (sum_row sum_none)

variable (x0 : FVec Ideal S8192x3072 .f32) (x1 : FVec Ideal S31x1024 .f32) (x2 x3 x4 : FVec Ideal S1024 .f32)

/-- A channel of the values, of the gates, of the input and of the kernel; the rows of the other factor. -/
abbrev val (c : Fin 1024) (r : Fin 8192) : EReal := x0 (ix2 r ⟨c.val, by have := c.isLt; omega⟩)
abbrev gate (c : Fin 1024) (r : Fin 8192) : EReal := x0 (ix2 r ⟨1024 + c.val, by have := c.isLt; omega⟩)
abbrev inp (c : Fin 1024) (r : Fin 8192) : EReal := val x0 c r * Gate.sig (gate x0 c r)
abbrev tap (c : Fin 1024) (k : Fin 31) : EReal := x1 (ix2 k c)
abbrev other (r : Fin 8192) (c : Fin 1024) : EReal := x0 (ix2 r ⟨2048 + c.val, by have := c.isLt; omega⟩)
abbrev vec (x : FVec Ideal S1024 .f32) (c : Fin 1024) : EReal := x (ix1 c)

/-- The convolved rows. -/
def conv (r : Fin 8192) (c : Fin 1024) : EReal :=
  (∑ k : Fin 31, ConvGrad.low (inp x0 c) (r.val + (k.val + 2)) * tap x1 c k) + vec x2 c

theorem v0_at (r : Fin 8192) (c : Fin 1024) : val_main_v0 (F := Ideal) x0 (ix2 r c) = val x0 c r := by
  pointwise [val_main_v0]
theorem v7_at (r : Fin 8192) (c : Fin 1024) : val_main_v7 (F := Ideal) x0 (ix2 r c) = Gate.sig (gate x0 c r) := by
  pointwise [val_main_v7, val_main_v6, val_main_v5, val_main_v4, val_main_v3, val_main_v2, val_main_v1, val_main_cst, val_main_cst_0, Gate.sig]
theorem v8_at (r : Fin 8192) (c : Fin 1024) : val_main_v8 (F := Ideal) x0 (ix2 r c) = inp x0 c r := by
  rw [inp, ← v7_at, ← v0_at]
  pointwise [val_main_v8]

/-- The selection: row `u` is what tap `k` reads for row `t`. -/
theorem v22_at (k : Fin 31) (t u : Fin 8192) :
    val_main_v22 (F := Ideal) (ix3 k t u) = if u.val + 30 = t.val + k.val then (1 : EReal) else 0 := by
  pointwise [val_main_v22, val_main_v21, val_main_v20, val_main_v19, val_main_v18, val_main_v17, val_main_v16,
    val_main_v15, val_main_v14, val_main_v13, val_main_v12, val_main_v11, val_main_v10, val_main_v9, val_main_c]
  have hk := k.isLt
  have ht := t.isLt
  have hu := u.isLt
  have he : (BitVec.ofNat 32 t.val + BitVec.ofNat 32 k.val - 30#32 == BitVec.ofNat 32 u.val) = decide (u.val + 30 = t.val + k.val) := by
    rw [beq_eq_decide]
    refine decide_eq_decide.mpr ⟨fun h => ?_, fun h => ?_⟩
    · have h' := congrArg BitVec.toNat h
      simp only [BitVec.toNat_sub, BitVec.toNat_add, BitVec.toNat_ofNat] at h'
      omega
    · apply BitVec.eq_of_toNat_eq
      simp only [BitVec.toNat_sub, BitVec.toNat_add, BitVec.toNat_ofNat]
      omega
  show (((BitVec.ofBool (BitVec.ofNat 32 t.val + BitVec.ofNat 32 k.val - 30#32 == BitVec.ofNat 32 u.val)).toNat : ℝ) : EReal) = _
  rw [he]
  by_cases h : u.val + 30 = t.val + k.val <;> simp [h]

/-- The row of the input that tap `k` reads for row `t`. -/
theorem v23_at (k : Fin 31) (t : Fin 8192) (c : Fin 1024) :
    val_main_v23 (F := Ideal) x0 (ix3 k t c) = ConvGrad.low (inp x0 c) (t.val + (k.val + 2)) := by
  pointwise [val_main_v23]
  have hk := k.isLt
  have ht := t.isLt
  rw [Finset.sum_congr (M := EReal) rfl fun u _ => (congrArg₂ (HMul.hMul (α := EReal)) (v22_at k t u) (v8_at x0 u c)).trans (mul_comm (G := EReal) _ _)]
  unfold ConvGrad.low
  by_cases h : 30 ≤ t.val + k.val
  · rw [if_pos (by omega), ConvGrad.col_of_lt _ _ (by omega)]
    exact sum_row (inp x0 c) (fun u => u + 30 = t.val + k.val) _ _ fun u => by omega
  · rw [if_neg (by omega)]
    exact sum_none (inp x0 c) (fun u => u + 30 = t.val + k.val) fun u => by omega

/-- The convolved rows of the reference. -/
theorem v30_at (t : Fin 8192) (c : Fin 1024) : val_main_v30 (F := Ideal) x0 x1 x2 (ix2 t c) = conv x0 x1 x2 t c := by
  pointwise [val_main_v30, val_main_v29, val_main_v28, val_main_v27, val_main_v26, val_main_v25, val_main_v24, val_main_cst_1]
  refine congrArg₂ (HAdd.hAdd (α := EReal)) (Finset.sum_congr (M := EReal) rfl fun k _ => ?_) rfl
  exact congrArg₂ (HMul.hMul (α := EReal)) (v23_at x0 k t c) rfl

/-- The normalized rows of the reference, scaled and shifted. -/
theorem v53_at (t : Fin 8192) (c : Fin 1024) :
    val_main_v53 (F := Ideal) x0 x1 x2 x3 x4 (ix2 t c) = NormOut.act (conv x0 x1 x2) (vec x3) (vec x4) t c := by
  rw [show conv x0 x1 x2 = fun r l => val_main_v30 (F := Ideal) x0 x1 x2 (ix2 r l) from funext fun r => funext fun l => (v30_at x0 x1 x2 r l).symm]
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33,
    val_main_v32, val_main_cst_2, val_main_cst_3, val_main_cst_4, val_main_cst_5, val_main_cst_6, NormOut.act, LayerNorm.xh, LayerNorm.var, LayerNorm.cen,
    LayerNorm.mean]

theorem v54_at (t : Fin 8192) (c : Fin 1024) :
    val_main_v54 (F := Ideal) x0 x1 x2 x3 x4 (ix2 t c) = Gate.silu (NormOut.act (conv x0 x1 x2) (vec x3) (vec x4) t c) := by
  rw [← v53_at]
  pointwise [val_main_v54, val_main_call0_v5, val_main_call0_v4, val_main_call0_v3, val_main_call0_v2, val_main_call0_v1, val_main_call0_v0,
    val_main_call0_cst, val_main_call0_cst_0, Gate.silu, Gate.sig]

theorem v55_at (t : Fin 8192) (c : Fin 1024) : val_main_v55 (F := Ideal) x0 (ix2 t c) = Gate.silu (other x0 t c) := by
  pointwise [val_main_v55, val_main_call1_v5, val_main_call1_v4, val_main_call1_v3, val_main_call1_v2, val_main_call1_v1, val_main_call1_v0,
    val_main_call1_cst, val_main_call1_cst_0, val_main_v31, Gate.silu, Gate.sig]

/-- The gated rows of the reference. -/
theorem v57_at (t : Fin 8192) (c : Fin 1024) :
    val_main_v57 (F := Ideal) x0 x1 x2 x3 x4 (ix2 t c) = NormOut.gated (conv x0 x1 x2) (other x0) (vec x3) (vec x4) t c := by
  unfold NormOut.gated
  rw [← v54_at, ← v55_at]
  pointwise [val_main_v57, val_main_v56]

end Cert.ConvFwdRefIdeal.Forward

end
-- ==== Proof.ConvFwdClaim.lean ====
/- The kernel's convolved rows and gated rows are those the forward pass defines. -/
module

public import proofs.«01_k».proof.Defs
public import proofs.«01_k».proof.Proof.ConvFwdFinal
public import proofs.«01_k».proof.Proof.ConvFwdRefValue
public import proofs.«01_k».proof.Proof.Gen.ConvFwdIdeal
public import proofs.«01_k».proof.Proof.Gen.ConvFwdRefIdeal

@[expose] public section

set_option maxRecDepth 16384

noncomputable section

namespace Cert.Proof

open Idealize.ShloMosaic Idealize.SL.Sem

/-- The convolved rows, with the bias first and with the bias last. -/
theorem conv_eq (m : (ℓ : Loc Cert.ConvFwdIdeal.nD Cert.ConvFwdIdeal.τ Cert.ConvFwdIdeal.sig) → Buf (Elt Ideal) ℓ) (c : Dev Cert.ConvFwdIdeal.nD) :
    Cert.ConvFwdRefIdeal.Forward.conv (m ((c.tc : Thread _ _).loc Cert.ConvFwdIdeal.main_arg0)) (m ((c.tc : Thread _ _).loc Cert.ConvFwdIdeal.main_arg1))
      (m ((c.tc : Thread _ _).loc Cert.ConvFwdIdeal.main_arg2)) = Cert.ConvFwdIdeal.Forward.convR m c := by
  funext r l
  unfold Cert.ConvFwdRefIdeal.Forward.conv Cert.ConvFwdIdeal.Forward.convR
  rw [add_comm (G := EReal)]
  exact congrArg₂ (HAdd.hAdd (α := EReal)) rfl (Finset.sum_congr (M := EReal) rfl fun k _ => mul_comm (G := EReal) _ _)

/-- From the same arguments the kernel and the reference leave the same gated rows and the same convolved rows. -/
theorem algebraic_convFwd : Cert.algebraic_ConvFwdIdeal_ConvFwdRefIdeal := by
  pair_intro
  · run_from Cert.ConvFwdIdeal.Value.run_blocks m g
  · run_from Cert.ConvFwdRefIdeal.Value.run m' g'
    · rw [Cert.ConvFwdIdeal.Forward.final9 m c, Cert.ConvFwdRefIdeal.Read.val_main_v57_eq]
      obtain ⟨h0, h1, h2, h3, h4⟩ := hagree c
      rw [h0, h1, h2, h3, h4]
      funext y
      obtain ⟨s, d, rfl⟩ : ∃ (s : Fin 8192) (d : Fin 1024), y = ix2 s d := ⟨y 0, y 1, by ext a; fin_cases a <;> rfl⟩
      refine (Cert.ConvFwdRefIdeal.Forward.v57_at _ _ _ _ _ s d).trans ?_
      rw [conv_eq]
      rfl
    · rw [Cert.ConvFwdIdeal.Forward.final10 m c]
      refine (Cert.ConvFwdRefIdeal.Read.val_main_v30_eq _ _ _).trans (funext fun y => ?_)
      obtain ⟨s, d, rfl⟩ : ∃ (s : Fin 8192) (d : Fin 1024), y = ix2 s d := ⟨y 0, y 1, by ext a; fin_cases a <;> rfl⟩
      refine (Cert.ConvFwdRefIdeal.Forward.v30_at _ _ _ s d).trans ?_
      rw [conv_eq]
      rfl

end Cert.Proof

end
-- ==== Proof.OddProjValue.lean ====
/- The odd layer's input projection with its norm: what the kernel computes of a block, and what it leaves in the array. -/
module

public import proofs.«01_k».proof.Proof.NormIn
public import proofs.«01_k».proof.Proof.Gen.OddProjIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.OddProjIdeal.Forward

open Cert.OddProjIdeal Cert.OddProjIdeal.Gen Idealize.ShloMosaic Idealize.ShloMosaic.TcCoe Idealize.SL.Sem
open Idealize.ShloMosaic.Pipeline (Dat)
open scoped BigOperators

section block
variable (x0 : FVec Ideal S512x1024 .f32) (x1 : FVec Ideal S1x1024 .f32) (x2 : FVec Ideal S4x1024x768 .bf16)

/-- A block's rows, normalized and scaled. -/
def hRow (s : Fin 512) (d : Fin 1024) : EReal := NormIn.xn (fun r j => x0 (ix2 r j)) s d * x1 (ix2 0 d)

/-- A block's rows, normalized, scaled and multiplied with the weight held in four slabs of 768 columns. -/
def projBlk (y : S512x3072.Idx) : EReal :=
  ∑ k : Fin 1024, hRow x0 x1 (y 0) k * x2 (ix3 ⟨(y 1).val / 768, by have h : (y 1).val < 3072 := (y 1).isLt; omega⟩ k ⟨(y 1).val % 768, by omega⟩)

theorem proj_at (s : Fin 512) (p : Fin 4) (q : Fin 768) (y : S512x3072.Idx) (h0 : (y 0).val = s.val) (h1 : (y 1).val = 768 * p.val + q.val) :
    projBlk x0 x1 x2 y = ∑ k : Fin 1024, hRow x0 x1 s k * x2 (ix3 p k q) := by
  have hq := q.isLt
  unfold projBlk
  refine Finset.sum_congr (M := EReal) rfl fun k _ => congrArg₂ (HMul.hMul (α := EReal)) (congrArg (fun s => hRow x0 x1 s k) (Fin.ext h0)) (congrArg x2 ?_)
  funext a
  apply Fin.ext
  fin_cases a
  · show (y 1).val / 768 = p.val; omega
  · rfl
  · show (y 1).val % 768 = q.val; omega

theorem norm_blk (s : Fin 512) (d : Fin 1024) : k0_pay2 (F := Ideal) x0 x1 (ix2 s d) = hRow x0 x1 s d := by
  pointwise [k0_pay2, hRow, NormIn.xn, Rms.ms]

end block

/-- Row and column of a store's index in the block. -/
theorem emb_row {p : ℕ} (inb : ∀ a, ![0, p] a + S512x768.size a ≤ S512x3072.size a) (x : S512x768.Idx) :
    ((Rect.unit (s := S512x3072) ![0, p] S512x768.size inb).emb x 0).val = (x 0).val := by
  rw [ValueKit.rect_emb_unit_val]
  show 0 + (x 0).val = _; omega
theorem emb_col {p : ℕ} (inb : ∀ a, ![0, p] a + S512x768.size a ≤ S512x3072.size a) (x : S512x768.Idx) :
    ((Rect.unit (s := S512x3072) ![0, p] S512x768.size inb).emb x 1).val = p + (x 1).val := by
  rw [ValueKit.rect_emb_unit_val]
  rfl

/-- A slab of the weight, read at a row and a column. -/
theorem slab {p : ℕ} (i : Fin 4) (hp : i.val = p) (inb : ∀ a, ![p, 0, 0] a + S1x1024x768.size a ≤ S4x1024x768.size a) (k : Fin 1024) (q : Fin 768) :
    (Rect.unit (s := S4x1024x768) ![p, 0, 0] S1x1024x768.size inb).emb (ix3 0 k q) = ix3 i k q := by
  funext a
  apply Fin.ext
  rw [ValueKit.rect_emb_unit_val]
  fin_cases a
  · show p + 0 = i.val; omega
  · show 0 + k.val = k.val; omega
  · show 0 + q.val = q.val; omega

section product
variable (H : FVec Ideal S512x1024 .bf16) (w : FVec Ideal S1x1024x768 .bf16)

/-- A product of the normalized rows with one slab. -/
theorem prod_at (x : S512x768.Idx) : k0_pay1 (F := Ideal) H w x = ∑ k : Fin 1024, H (ix2 (x 0) k) * w (ix3 0 k (x 1)) := by
  pointwise [k0_pay1]
end product

variable (m : (ℓ : Loc nD τ sig) → Buf (Elt Ideal) ℓ) (c : Dev nD) (t : Fin cfg0.N)

theorem ld0 (x0 : FVec Ideal S512x1024 .f32) : View.ld (Val := Elt Ideal) (e' := .f32) x0 r0_0 = x0 :=
  View.ld_unit_zero (by ext a; fin_cases a <;> rfl) _ _
theorem ld1 (x1 : FVec Ideal S1x1024 .f32) : View.ld (Val := Elt Ideal) (e' := .f32) x1 r0_1 = x1 :=
  View.ld_unit_zero (by ext a; fin_cases a <;> rfl) _ _

section block
variable (x0 : FVec Ideal S512x1024 .f32) (x1 : FVec Ideal S1x1024 .f32) (x2 : FVec Ideal S4x1024x768 .bf16)

/-- What one of the four stores holds is its part of the block's product. -/
theorem store_at {p j : ℕ} (i : Fin 4) (hp : i.val = p) (hj : 768 * i.val = j) (inb : ∀ a, ![p, 0, 0] a + S1x1024x768.size a ≤ S4x1024x768.size a)
    (inb' : ∀ a, ![0, j] a + S512x768.size a ≤ S512x3072.size a) (x : S512x768.Idx) :
    k0_pay1 (F := Ideal) (k0_pay2 x0 x1) (View.ld (Val := Elt Ideal) (e' := .bf16) x2 (Rect.unit (s := S4x1024x768) ![p, 0, 0] S1x1024x768.size inb)) x
      = projBlk x0 x1 x2 ((Rect.unit (s := S512x3072) ![0, j] S512x768.size inb').emb x) := by
  refine Eq.trans ?_ (proj_at x0 x1 x2 (x 0) i (x 1) _ (emb_row inb' x) (by rw [emb_col inb' x, hj])).symm
  refine (prod_at _ _ x).trans (Finset.sum_congr (M := EReal) rfl fun k _ => congrArg₂ (HMul.hMul (α := EReal)) (norm_blk x0 x1 (x 0) k) ?_)
  exact congrArg x2 (slab i hp inb k (x 1))

/-- The block the kernel leaves. -/
theorem out_eq (y : S512x3072.Idx) : out0_3 (F := Ideal) x0 x1 x2 y = projBlk x0 x1 x2 y := by
  unfold out0_3
  rw [ld0, ld1]
  refine View.canon_apply_of_pieces (Val := Elt Ideal) (e := .bf16) (projBlk x0 x1 x2) _ ?_ y (cover0_3 _ _ _ _ y)
  intro pc hpc x
  simp only [List.mem_cons, List.not_mem_nil, or_false] at hpc
  rcases hpc with rfl | rfl | rfl | rfl
  · exact store_at x0 x1 x2 3 rfl rfl inb_S4x1024x768_S1x1024x768_3_0_0 inb_S512x3072_S512x768_0_2304 x
  · exact store_at x0 x1 x2 2 rfl rfl inb_S4x1024x768_S1x1024x768_2_0_0 inb_S512x3072_S512x768_0_1536 x
  · exact store_at x0 x1 x2 1 rfl rfl inb_S4x1024x768_S1x1024x768_1_0_0 inb_S512x3072_S512x768_0_768 x
  · exact store_at x0 x1 x2 0 rfl rfl inb_S4x1024x768_S1x1024x768_0_0_0 inb_S512x3072_S512x768_0_0 x
end block

/-- The block index of every window at every point. -/
theorem idx : ∀ t : Fin cfg0.N, win0_0.index t = ![t.val, 0] ∧ win0_1.index t = ![0, 0] ∧ win0_2.index t = ![0, 0, 0] ∧ win0_3.index t = ![t.val, 0] :=
  (by decide +kernel : ∀ t : Fin grid0.N, _)

/-- Row `s` of block `t`, as a row of the array. -/
def row (t : Fin cfg0.N) (s : Fin 512) : Fin 8192 :=
  ⟨t.val * 512 + s.val, by have := t.isLt; have h : cfg0.N = 16 := N_0; have := s.isLt; omega⟩

/-- The argument arrays by row and column. -/
abbrev argX (r : Fin 8192) (j : Fin 1024) : EReal := m ((c : Thread nD τ).loc main_arg0) (ix2 r j)
abbrev argG (j : Fin 1024) : EReal := m ((c : Thread nD τ).loc main_arg1) (ix1 j)
abbrev argW (d : Fin 1024) (e : Fin 3072) : EReal := m ((c : Thread nD τ).loc main_arg2) (ix2 d e)

theorem blkX (s : Fin 512) (j : Fin 1024) : iblk m c 0 t (ix2 s j) = argX m c (row t s) j := by
  blk_point [iblk, V, idx t, row]
theorem blkG (j : Fin 1024) : iblk m c 1 t (ix2 0 j) = argG m c j := by
  blk_point [iblk, V, idx t, row]
theorem blkW (p : Fin 4) (d : Fin 1024) (q : Fin 768) (e : Fin 3072) (h : e.val = 768 * p.val + q.val) :
    iblk m c 2 t (ix3 p d q) = argW m c d e := by
  blk_point [iblk, V, idx t]

/-- The projected rows. -/
def proj (r : Fin 8192) (e : Fin 3072) : EReal := ∑ k : Fin 1024, NormIn.xn (argX m c) r k * argG m c k * argW m c k e

theorem proj_blk (s : Fin 512) (e : Fin 3072) : projBlk (iblk m c 0 t) (iblk m c 1 t) (iblk m c 2 t) (ix2 s e) = proj m c (row t s) e := by
  have hx : (fun j => iblk m c 0 t (ix2 s j)) = argX m c (row t s) := funext fun j => blkX m c t s j
  have he := e.isLt
  refine (proj_at _ _ _ s ⟨e.val / 768, by omega⟩ ⟨e.val % 768, by omega⟩ _ rfl (by show e.val = 768 * (e.val / 768) + e.val % 768; omega)).trans ?_
  refine Finset.sum_congr (M := EReal) rfl fun k _ => congrArg₂ (HMul.hMul (α := EReal)) (congrArg₂ (HMul.hMul (α := EReal))
    (congrArg₂ (HMul.hMul (α := EReal)) (blkX m c t s k) (congrArg (fun f => Ideal.rsqrt (Rms.ms f)) hx)) (blkG m c t k)) (blkW m c t _ k _ e ?_)
  show e.val = 768 * (e.val / 768) + e.val % 768; omega

/-- The array the kernel leaves. -/
theorem final3 : (dats m 0 c).arrAt 3 cfg0.N = fun y : S8192x3072.Idx => proj m c (y 0) (y 1) := by
  refine (dats m 0 c).arrAt_eq_of_covers 3 _ (by decide +kernel) fun t hf y => ?_
  blk_simp
  rw [after0_3, out_eq]
  obtain ⟨s, e, rfl⟩ : ∃ (s : Fin 512) (e : Fin 3072), y = ix2 s e := ⟨y 0, y 1, by ext a; fin_cases a <;> rfl⟩
  have he : (win0_3.blk t).view.emb (ix2 s e) = ix2 (row t s) e := by blk_ext [idx t, row]
  rw [he]
  exact proj_blk m c t s e

end Cert.OddProjIdeal.Forward

end
-- ==== Proof.OddProjClaim.lean ====
/- The kernel's projected rows are those the forward pass defines. -/
module

public import proofs.«01_k».proof.Defs
public import proofs.«01_k».proof.Proof.OddProjValue
public import proofs.«01_k».proof.Proof.Gen.OddProjRefIdeal.Read
public import proofs.«01_k».proof.Proof.Gen.OddProjRefIdeal.Run
public import proofs.«01_k».proof.Proof.Gen.OddProjIdeal
public import proofs.«01_k».proof.Proof.Gen.OddProjRefIdeal

@[expose] public section

set_option maxRecDepth 16384

noncomputable section

namespace Cert.OddProjRefIdeal.Forward

open Cert.OddProjRefIdeal Cert.OddProjRefIdeal.Read Idealize.ShloMosaic Idealize.ShloMosaic.TcCoe Idealize.SL.Sem
open scoped BigOperators

/-- The projected rows of the reference. -/
theorem v14_at (x0 : FVec Ideal S8192x1024 .f32) (x1 : FVec Ideal S1024 .f32) (x2 : FVec Ideal S1024x3072 .f32) (s : Fin 8192) (e : Fin 3072) :
    val_main_v14 (F := Ideal) x0 x1 x2 (ix2 s e)
      = ∑ k : Fin 1024, NormIn.xn (fun r j => x0 (ix2 r j)) s k * x1 (ix1 k) * x2 (ix2 k e) := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, NormIn.xn, Rms.ms]

end Cert.OddProjRefIdeal.Forward

namespace Cert.Proof

open Idealize.ShloMosaic Idealize.SL.Sem

/-- From the same arguments the kernel and the reference leave the same projected rows. -/
theorem algebraic_oddProj : Cert.algebraic_OddProjIdeal_OddProjRefIdeal := by
  pair_intro
  · run_from Cert.OddProjIdeal.Value.run_blocks m g
  · run_from Cert.OddProjRefIdeal.Value.run m' g'
    rw [Cert.OddProjIdeal.Forward.final3 m c]
    refine (Cert.OddProjRefIdeal.Read.val_main_v14_eq _ _ _).trans (funext fun y => ?_)
    obtain ⟨s, e, rfl⟩ : ∃ (s : Fin 8192) (e : Fin 3072), y = ix2 s e := ⟨y 0, y 1, by ext a; fin_cases a <;> rfl⟩
    exact Cert.OddProjRefIdeal.Forward.v14_at _ _ _ s e

end Cert.Proof

end
-- ==== Proof.NormPool.lean ====
/- The forward pass of "normalise the rows, scale them, multiply with a weight", with the first 512 columns set apart, as plain
   sums; the results are finite on finite arguments. -/
module

public import proofs.«01_k».proof.Proof.NormIn
public import proofs.«01_k».proof.Proof.Finite

@[expose] public section

noncomputable section

namespace Cert.NormPool

open scoped BigOperators
open Cert.Finite Idealize.ShloMosaic

variable {n : ℕ} (X : Fin n → Fin 1024 → EReal) (G : Fin 1024 → EReal) (W : Fin 1024 → Fin 2048 → EReal)

/-- The projected rows. -/
def proj (r : Fin n) (e : Fin 2048) : EReal := ∑ k : Fin 1024, NormIn.xn X r k * G k * W k e

/-- The first 512 columns of the projected rows. -/
def left (r : Fin n) (c : Fin 512) : EReal := proj X G W r ⟨c.val, by have := c.isLt; omega⟩

theorem isReal_proj (hX : ∀ r d, IsReal (X r d)) (hG : ∀ d, IsReal (G d)) (hW : ∀ d e, IsReal (W d e)) (r : Fin n) (e : Fin 2048) :
    IsReal (proj X G W r e) :=
  isReal_sum _ fun k => by
    obtain ⟨s, -, hs, -⟩ := Rms.rsqrt_facts _ (Rms.ms_sq_nonneg (X r))
    exact (((hX r k).mul ⟨s, hs⟩).mul (hG k)).mul (hW k e)

end Cert.NormPool

end
-- ==== Proof.EvenProjBlock.lean ====
/- The even layer's input projection with its norm and the mean over earlier rows of its first columns: what one block of rows
   computes, the same operations for each of the four groups of columns. -/
module

public import proofs.«01_k».proof.Proof.NormPool
public import proofs.«01_k».proof.Proof.EvenOutPieces
public import proofs.«01_k».proof.Proof.Gen.EvenProjIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.EvenProjIdeal.Forward

open Cert.EvenProjIdeal Cert.EvenProjIdeal.Gen Cert.Pool Cert.PoolGrad Idealize.ShloMosaic Idealize.ShloMosaic.TcCoe Idealize.SL.Sem
open Cert.EvenOutIdeal.Gradient (behind behind_at count_word wid_le)
open scoped BigOperators

/-! The projected block. -/

section block
variable (x0 : FVec Ideal S512x1024 .f32) (x1 : FVec Ideal S1x1024 .f32) (x2 : FVec Ideal S4x1024x512 .bf16)

/-- A block's rows, normalized and scaled. -/
def hRow (s : Fin 512) (d : Fin 1024) : EReal := NormIn.xn (fun r j => x0 (ix2 r j)) s d * x1 (ix2 0 d)

/-- A block's rows, normalized, scaled and multiplied with the weight held in four slabs of 512 columns. -/
def projBlk (y : S512x2048.Idx) : EReal :=
  ∑ k : Fin 1024, hRow x0 x1 (y 0) k * x2 (ix3 ⟨(y 1).val / 512, by have h : (y 1).val < 2048 := (y 1).isLt; omega⟩ k ⟨(y 1).val % 512, by omega⟩)

theorem proj_at (s : Fin 512) (p : Fin 4) (q : Fin 512) (y : S512x2048.Idx) (h0 : (y 0).val = s.val) (h1 : (y 1).val = 512 * p.val + q.val) :
    projBlk x0 x1 x2 y = ∑ k : Fin 1024, hRow x0 x1 s k * x2 (ix3 p k q) := by
  have hq := q.isLt
  unfold projBlk
  refine Finset.sum_congr (M := EReal) rfl fun k _ => congrArg₂ (HMul.hMul (α := EReal)) (congrArg (fun s => hRow x0 x1 s k) (Fin.ext h0)) (congrArg x2 ?_)
  funext a
  apply Fin.ext
  fin_cases a
  · show (y 1).val / 512 = p.val; omega
  · rfl
  · show (y 1).val % 512 = q.val; omega

theorem norm_blk (s : Fin 512) (d : Fin 1024) : k0_pay4 (F := Ideal) x0 x1 (ix2 s d) = hRow x0 x1 s d := by
  pointwise [k0_pay4, hRow, NormIn.xn, Rms.ms]
end block

/-- Row and column of a store's index in the block. -/
theorem emb_row {p : ℕ} (inb : ∀ a, ![0, p] a + S512x512.size a ≤ S512x2048.size a) (x : S512x512.Idx) :
    ((Rect.unit (s := S512x2048) ![0, p] S512x512.size inb).emb x 0).val = (x 0).val := by
  rw [ValueKit.rect_emb_unit_val]
  show 0 + (x 0).val = _; omega
theorem emb_col {p : ℕ} (inb : ∀ a, ![0, p] a + S512x512.size a ≤ S512x2048.size a) (x : S512x512.Idx) :
    ((Rect.unit (s := S512x2048) ![0, p] S512x512.size inb).emb x 1).val = p + (x 1).val := by
  rw [ValueKit.rect_emb_unit_val]
  rfl

/-- A slab of the weight, read at a row and a column. -/
theorem slab_emb {p : ℕ} (i : Fin 4) (hp : i.val = p) (inb : ∀ a, ![p, 0, 0] a + S1x1024x512.size a ≤ S4x1024x512.size a) (k : Fin 1024) (q : Fin 512) :
    (Rect.unit (s := S4x1024x512) ![p, 0, 0] S1x1024x512.size inb).emb (ix3 0 k q) = ix3 i k q := by
  funext a
  apply Fin.ext
  rw [ValueKit.rect_emb_unit_val]
  fin_cases a
  · show p + 0 = i.val; omega
  · show 0 + k.val = k.val; omega
  · show 0 + q.val = q.val; omega

section product
variable (H : FVec Ideal S512x1024 .bf16) (w : FVec Ideal S1x1024x512 .bf16)

/-- A product of the normalized rows with one slab. -/
theorem prod_at (x : S512x512.Idx) : k0_pay1 (F := Ideal) H w x = ∑ k : Fin 1024, H (ix2 (x 0) k) * w (ix3 0 k (x 1)) := by
  pointwise [k0_pay1]
end product

section block
variable (x0 : FVec Ideal S512x1024 .f32) (x1 : FVec Ideal S1x1024 .f32) (x2 : FVec Ideal S4x1024x512 .bf16)

/-- A slab of the weight. -/
abbrev slabW (p : ℕ) (inb : ∀ a, ![p, 0, 0] a + S1x1024x512.size a ≤ S4x1024x512.size a) : FVec Ideal S1x1024x512 .bf16 :=
  View.ld (Val := Elt Ideal) (e' := .bf16) x2 (Rect.unit (s := S4x1024x512) ![p, 0, 0] S1x1024x512.size inb)

/-- The first 512 columns of the projected block. -/
abbrev firstBlk : FVec Ideal S512x512 .bf16 := k0_pay5 x0 x1 (slabW x2 0 inb_S4x1024x512_S1x1024x512_0_0_0)

/-- What one of the four stores holds is its part of the block's product. -/
theorem store_at {p j : ℕ} (i : Fin 4) (hp : i.val = p) (hj : 512 * i.val = j) (inb : ∀ a, ![p, 0, 0] a + S1x1024x512.size a ≤ S4x1024x512.size a)
    (inb' : ∀ a, ![0, j] a + S512x512.size a ≤ S512x2048.size a) (x : S512x512.Idx) :
    k0_pay1 (F := Ideal) (k0_pay4 x0 x1) (slabW x2 p inb) x
      = projBlk x0 x1 x2 ((Rect.unit (s := S512x2048) ![0, j] S512x512.size inb').emb x) := by
  refine Eq.trans ?_ (proj_at x0 x1 x2 (x 0) i (x 1) _ (emb_row inb' x) (by rw [emb_col inb' x, hj])).symm
  refine (prod_at _ _ x).trans (Finset.sum_congr (M := EReal) rfl fun k _ => congrArg₂ (HMul.hMul (α := EReal)) (norm_blk x0 x1 (x 0) k) ?_)
  exact congrArg x2 (slab_emb i hp inb k (x 1))

/-- The four stores of the projected block. -/
abbrev projPieces : List (View.Piece (Elt Ideal) S512x2048 .bf16) :=
  [⟨Rect.unit ![0, 1536] S512x512.size inb_S512x2048_S512x512_0_1536, k0_pay3 (F := Ideal) (k0_pay4 x0 x1) (slabW x2 3 inb_S4x1024x512_S1x1024x512_3_0_0)⟩,
    ⟨Rect.unit ![0, 1024] S512x512.size inb_S512x2048_S512x512_0_1024, k0_pay2 (F := Ideal) (k0_pay4 x0 x1) (slabW x2 2 inb_S4x1024x512_S1x1024x512_2_0_0)⟩,
    ⟨Rect.unit ![0, 512] S512x512.size inb_S512x2048_S512x512_0_512, k0_pay1 (F := Ideal) (k0_pay4 x0 x1) (slabW x2 1 inb_S4x1024x512_S1x1024x512_1_0_0)⟩,
    ⟨Rect.unit ![0, 0] S512x512.size inb_S512x2048_S512x512_0_0, firstBlk x0 x1 x2⟩]

/-- The four stores leave the projected block. -/
theorem canon_proj (y : S512x2048.Idx) : View.canon (projPieces x0 x1 x2) y = projBlk x0 x1 x2 y := by
  refine View.canon_apply_of_pieces (Val := Elt Ideal) (e := .bf16) (projBlk x0 x1 x2) _ ?_ y
    (View.cover_of_tiledBy _ ![512, 512] (by sl_kernel_rfl) y)
  intro pc hpc x
  simp only [List.mem_cons, List.not_mem_nil, or_false] at hpc
  rcases hpc with rfl | rfl | rfl | rfl
  · exact store_at x0 x1 x2 3 rfl rfl inb_S4x1024x512_S1x1024x512_3_0_0 inb_S512x2048_S512x512_0_1536 x
  · exact store_at x0 x1 x2 2 rfl rfl inb_S4x1024x512_S1x1024x512_2_0_0 inb_S512x2048_S512x512_0_1024 x
  · exact store_at x0 x1 x2 1 rfl rfl inb_S4x1024x512_S1x1024x512_1_0_0 inb_S512x2048_S512x512_0_512 x
  · exact store_at x0 x1 x2 0 rfl rfl inb_S4x1024x512_S1x1024x512_0_0_0 inb_S512x2048_S512x512_0_0 x

/-- The first columns are those of the projected block. -/
theorem first_at (s : Fin 512) (e : Fin 512) : firstBlk x0 x1 x2 (ix2 s e) = projBlk x0 x1 x2 (ix2 s ⟨e.val, by have := e.isLt; omega⟩) := by
  refine (store_at x0 x1 x2 0 rfl rfl inb_S4x1024x512_S1x1024x512_0_0_0 inb_S512x2048_S512x512_0_0 (ix2 s e)).trans (congrArg _ ?_)
  funext a
  apply Fin.ext
  fin_cases a
  · exact emb_row _ _
  · refine (emb_col inb_S512x2048_S512x512_0_0 (ix2 s e)).trans ?_
    show 0 + e.val = e.val; omega
end block

/-! The means of one group. -/

/-- A group's columns of the block. -/
def uBlk (U : FVec Ideal S512x512 .bf16) : Fin 4 → FVec Ideal S512x128 .f32
  | 0 => extf .f32 (extractStridedSlice S512x128 ![0, 0] U slices_S512x512_o0_0_S512x128) bitsLt_bf16_f32
  | 1 => k0_pay12 U
  | 2 => k0_pay16 U
  | 3 => k0_pay20 U

theorem uBlk_at (U : FVec Ideal S512x512 .bf16) (g : Fin 4) (s : Fin 512) (l : Fin 128) : uBlk U g (ix2 s l) = U (ix2 s (col g l)) := by
  match g with
  | 0 => unfold uBlk; pointwise; exact congrArg (fun j => U (ix2 s j)) (Fin.ext (by show l.val = 128 * 0 + l.val; omega))
  | 1 => unfold uBlk; pointwise [k0_pay12]; exact congrArg (fun j => U (ix2 s j)) (Fin.ext rfl)
  | 2 => unfold uBlk; pointwise [k0_pay16]; exact congrArg (fun j => U (ix2 s j)) (Fin.ext rfl)
  | 3 => unfold uBlk; pointwise [k0_pay20]; exact congrArg (fun j => U (ix2 s j)) (Fin.ext rfl)

/-- The means of a group, less the rows. -/
def pooledBlk (g : Fin 4) (P : FVec Ideal S512x1 .f32) (u : FVec Ideal S512x128 .f32) (H : FVec Ideal S16x128 .f32) : FVec Ideal S512x128 .bf16 :=
  truncf .bf16 (subf (divf (extractStridedSlice S512x128 ![16, 0]
      (behind (concatenate S528x128 0 [⟨S16x128, H⟩, ⟨S512x128, u⟩] concatenates_S16x128_S512x128_S528x128_d0) g)
      slices_S528x128_o16_0_S512x128) (broadcastTo S512x128 (minimumf P (broadcast S512x1 (Scalar.ofBits (F := Ideal) .f32 (word g)))) broadcasts_S512x1_S512x128)) u)
    bitsLt_bf16_f32

/-- The means mixed and scaled. -/
def ypBlk (g : Fin 4) (P : FVec Ideal S512x1 .f32) (u : FVec Ideal S512x128 .f32) (H : FVec Ideal S16x128 .f32) (W : FVec Ideal S1x128x128 .bf16)
    (S : FVec Ideal S1x128 .f32) : FVec Ideal S512x128 .bf16 :=
  truncf .bf16 (mulf (matmul dot_S512x128_S128x128_S512x128_1_0_0_1_n_n none (pooledBlk g P u H) (shapeCast S128x128 W shapeCasts_S1x128x128_S128x128)
    (constant S512x128 .f32 0x00000000#32)) (broadcastTo S512x128 (shapeCast S1x128 S shapeCasts_S1x128_S1x128) broadcasts_S1x128_S512x128)) bitsLt_bf16_f32

/-- The block's last sixteen rows, kept for the block after. -/
def keepBlk (u : FVec Ideal S512x128 .f32) : FVec Ideal S16x128 .f32 :=
  shapeCast S16x128 (extractStridedSlice S16x128 ![496, 0] u slices_S512x128_o496_0_S16x128) shapeCasts_S16x128_S16x128

/-! The kernel's text of each group is the same operations. -/
section
variable (x0 : FVec Ideal S512x1024 .f32) (x1 : FVec Ideal S1x1024 .f32) (w : FVec Ideal S1x1024x512 .bf16) (U : FVec Ideal S512x512 .bf16)
  (P : FVec Ideal S512x1 .f32) (H : FVec Ideal S16x128 .f32) (W : FVec Ideal S1x128x128 .bf16) (S : FVec Ideal S1x128 .f32)

theorem yp_text0 : k0_pay10 P (k0_pay8 x0 x1 w) (k0_pay9 x0 x1 w H) W S = ypBlk 0 P (uBlk (k0_pay5 x0 x1 w) 0) H W S := rfl
theorem yp_text1 : k0_pay14 (k0_pay13 U P H W) S = ypBlk 1 P (uBlk U 1) H W S := rfl
theorem yp_text2 : k0_pay17 U P H W S = ypBlk 2 P (uBlk U 2) H W S := rfl
theorem yp_text3 : k0_pay21 U P H W S = ypBlk 3 P (uBlk U 3) H W S := rfl
theorem keep_text0 : k0_pay11 (k0_pay8 x0 x1 w) = keepBlk (uBlk (k0_pay5 x0 x1 w) 0) := rfl
theorem keep_text1 : k0_pay15 (k0_pay12 U) = keepBlk (uBlk U 1) := rfl
theorem keep_text2 : k0_pay19 (k0_pay18 U) = keepBlk (uBlk U 2) := rfl
theorem keep_text3 : k0_pay22 U = keepBlk (uBlk U 3) := rfl
end

theorem yp_blk (g : Fin 4) (P : FVec Ideal S512x1 .f32) (u : FVec Ideal S512x128 .f32) (H : FVec Ideal S16x128 .f32) (W : FVec Ideal S1x128x128 .bf16)
    (S : FVec Ideal S1x128 .f32) (s : Fin 512) (l : Fin 128) :
    ypBlk g P u H W S (ix2 s l) = (∑ k : Fin 128, pooledBlk g P u H (ix2 s k) * W (ix3 0 k l)) * S (ix2 0 l) := by
  unfold ypBlk
  generalize pooledBlk g P u H = Q
  pointwise

theorem keep_at (u : FVec Ideal S512x128 .f32) (p : Fin 16) (l : Fin 128) : keepBlk u (ix2 p l) = u (ix2 ⟨496 + p.val, by have := p.isLt; omega⟩ l) := by
  pointwise [keepBlk]

theorem pos_at (i : grid0.Coords) (s : Fin 512) : k0_pay7 (F := Ideal) i (ix2 s 0) = (((512 * (i 0).val + s.val + 1 : ℕ) : ℝ) : EReal) := by
  have h : (i 0).val < 16 := (i 0).isLt
  rw [← count_word (i 0).val h s.val (by have := s.isLt; omega)]
  pointwise [k0_pay7]

/-- The means of block `n`, in terms of the column `f` of all rows. -/
theorem pooled_blk (g : Fin 4) (n : ℕ) (P : FVec Ideal S512x1 .f32) (hP : ∀ s : Fin 512, P (ix2 s 0) = (((512 * n + s.val + 1 : ℕ) : ℝ) : EReal))
    (u : FVec Ideal S512x128 .f32) (H : FVec Ideal S16x128 .f32) (l : Fin 128) (f : ℕ → EReal)
    (hU : ∀ s : Fin 512, u (ix2 s l) = f (512 * n + s.val)) (hH : ∀ p : Fin 16, H (ix2 p l) = if n = 0 then 0 else f (512 * n - 16 + p.val)) (s : Fin 512) :
    pooledBlk g P u H (ix2 s l) = Ideal.div (win f (wid g) (512 * n + s.val)) (cnt g (512 * n + s.val)) - u (ix2 s l) := by
  have he : ∀ p : Fin 528, concatenate S528x128 0 [⟨S16x128, H⟩, ⟨S512x128, u⟩]
      concatenates_S16x128_S512x128_S528x128_d0 (ix2 p l) = if n = 0 ∧ p.val < 16 then 0 else f (512 * n + p.val - 16) := fun p => by
    pointwise
    by_cases hp : p.val < 16
    · rw [dif_pos hp, hH ⟨p.val, hp⟩]
      by_cases h0 : n = 0
      · rw [if_pos h0, if_pos ⟨h0, hp⟩]
      · rw [if_neg h0, if_neg (by omega)]
        congr 1; show 512 * n - 16 + p.val = _; omega
    · refine (dif_neg hp).trans ((hU _).trans (Eq.trans ?_ (if_neg fun h : n = 0 ∧ p.val < 16 => hp h.2).symm))
      exact congrArg f (by show 512 * n + (p.val - 16) = 512 * n + p.val - 16; omega)
  have hw := behind_at _ l (fun i => if n = 0 ∧ i < 16 then 0 else f (512 * n + i - 16)) he g ⟨16 + s.val, by have := s.isLt; omega⟩ (by have := wid_le g; show _ ≤ 16 + s.val + 1; omega)
  have hs : (∑ j ∈ Finset.range (wid g), if n = 0 ∧ 16 + s.val - j < 16 then 0 else f (512 * n + (16 + s.val - j) - 16)) = win f (wid g) (512 * n + s.val) :=
    Finset.sum_congr rfl fun j hj => by
      have h16 := wid_le g
      have := Finset.mem_range.mp hj
      by_cases h : n = 0 ∧ 16 + s.val - j < 16
      · rw [if_pos h, if_neg (by omega)]
      · rw [if_neg h, if_pos (by omega)]; congr 1; omega
  rw [← hs, ← hw]
  unfold pooledBlk cnt
  rw [← hP s]
  generalize behind _ g = B
  pointwise

end Cert.EvenProjIdeal.Forward

end
-- ==== Proof.EvenProjValue.lean ====
/- The even layer's input projection with its norm and the mean over earlier rows: what each block leaves, and what the kernel
   leaves in its two arrays. -/
module

public import proofs.«01_k».proof.Proof.EvenProjBlock

@[expose] public section

set_option maxRecDepth 16384

noncomputable section

namespace Cert.EvenProjIdeal.Forward

open Cert.EvenProjIdeal Cert.EvenProjIdeal.Gen Cert.Pool Cert.PoolGrad Idealize.ShloMosaic Idealize.ShloMosaic.TcCoe Idealize.SL.Sem
open Cert.EvenOutIdeal.Gradient (cols slab cols_at slab_at joinCols canon_cols)
open Idealize.ShloMosaic.Pipeline (Dat)
open scoped BigOperators

variable (m : (ℓ : Loc nD τ sig) → Buf (Elt Ideal) ℓ) (c : Dev nD) (t : Fin cfg0.N)

/-- The first columns of the block of point `t`. -/
abbrev firstAt : FVec Ideal S512x512 .bf16 := firstBlk (iblk m c 0 t) (iblk m c 1 t) (iblk m c 2 t)

/-- The mixed means of the four groups over the block of point `t`, from the sixteen rows `H` before it. -/
def ypG (H : FVec Ideal S16x512 .f32) (g : Fin 4) : FVec Ideal S512x128 .bf16 :=
  ypBlk g (k0_pay7 (grid0.coords t)) (uBlk (firstAt m c t) g) (cols (n := 16) (e := .f32) H g) (slab (e := .bf16) (iblk m c 3 t) g)
    (cols (n := 1) (e := .f32) (iblk m c 4 t) g)

/-- The sixteen rows the block of point `t` keeps. -/
def keepG (g : Fin 4) : FVec Ideal S16x128 .f32 := keepBlk (uBlk (firstAt m c t) g)

/-- What the kept rows hold before point `t`. -/
abbrev keptB : FVec Ideal S16x512 .f32 := (outsAt0 m c (t.val - 1) (by have := t.isLt; omega)).2.2

theorem out5 : (outsAt0 m c t.val t.isLt).1 = projBlk (iblk m c 0 t) (iblk m c 1 t) (iblk m c 2 t) := by
  by_cases h : t.val % 16 = 0
  · funext y; rw [outsAt0_A m c t h]; frame_out
    exact canon_proj _ _ _ y
  · funext y; rw [outsAt0_B m c t h]; frame_out
    exact canon_proj _ _ _ y

theorem scr_A (h : t.val % 16 = 0) : (outsAt0 m c t.val t.isLt).2.2 = joinCols (n := 16) (e := .f32) (keepG m c t) := by
  funext y; rw [outsAt0_A m c t h]; frame_out
  generalize k0_pay6 (F := Ideal) = Z
  simp only [keep_text0, keep_text1, keep_text2, keep_text3]
  exact canon_cols 16 (e := .f32) (keepG m c t) [⟨Rect.unit ![0, 0] ![16, 512] inb_S16x512_S16x512_0_0, Z⟩] y

theorem scr_B (h : ¬ t.val % 16 = 0) : (outsAt0 m c t.val t.isLt).2.2 = joinCols (n := 16) (e := .f32) (keepG m c t) := by
  funext y; rw [outsAt0_B m c t h]; frame_out
  simp only [keep_text0, keep_text1, keep_text2, keep_text3]
  exact canon_cols 16 (e := .f32) (keepG m c t) [] y

theorem out6_B (h : ¬ t.val % 16 = 0) : (outsAt0 m c t.val t.isLt).2.1 = joinCols (n := 512) (e := .bf16) (ypG m c t (keptB m c t)) := by
  funext y; rw [outsAt0_B m c t h]; frame_out
  simp only [yp_text0, yp_text1, yp_text2, yp_text3, read_unread_whole]
  exact canon_cols 512 (e := .bf16) (ypG m c t (keptB m c t)) [] y

theorem out6_A (h : t.val % 16 = 0) : (outsAt0 m c t.val t.isLt).2.1 = joinCols (n := 512) (e := .bf16) (ypG m c t (k0_pay6 (F := Ideal))) := by
  funext y; rw [outsAt0_A m c t h]
  frame_open; simp (disch := decide) only [↓ View.readCov_skip, ↓ View.readCov_cons_toLoadRect, ↓ View.readCov_fill]; frame_out
  simp only [yp_text0, yp_text1, yp_text2, yp_text3]
  exact canon_cols 512 (e := .bf16) (ypG m c t (k0_pay6 (F := Ideal))) [] y

/-! What the blocks hold, entry by entry. -/

/-- The block index of every window at every point. -/
theorem idx : ∀ t : Fin cfg0.N, win0_0.index t = ![t.val, 0] ∧ win0_1.index t = ![0, 0] ∧ win0_2.index t = ![0, 0, 0] ∧ win0_3.index t = ![0, 0, 0]
    ∧ win0_4.index t = ![0, 0] ∧ win0_5.index t = ![t.val, 0] ∧ win0_6.index t = ![t.val, 0] :=
  (by decide +kernel : ∀ t : Fin grid0.N, _)

/-- Row `s` of block `t`, as a row of the array. -/
def row (t : Fin cfg0.N) (s : Fin 512) : Fin 8192 :=
  ⟨t.val * 512 + s.val, by have := t.isLt; have h : cfg0.N = 16 := N_0; have := s.isLt; omega⟩

/-- The argument arrays by row and column. -/
abbrev argX (r : Fin 8192) (j : Fin 1024) : EReal := m ((c : Thread nD τ).loc main_arg0) (ix2 r j)
abbrev argG (j : Fin 1024) : EReal := m ((c : Thread nD τ).loc main_arg1) (ix1 j)
abbrev argW (d : Fin 1024) (e : Fin 2048) : EReal := m ((c : Thread nD τ).loc main_arg2) (ix2 d e)
abbrev argWP (g : Fin 4) (k l : Fin 128) : EReal := m ((c : Thread nD τ).loc main_arg3) (ix3 g k l)
abbrev argPS (j : Fin 512) : EReal := m ((c : Thread nD τ).loc main_arg4) (ix1 j)

/-- The projected rows, and their first columns. -/
abbrev inP (r : Fin 8192) (e : Fin 2048) : EReal := NormPool.proj (argX m c) (argG m c) (argW m c) r e
abbrev inU (r : Fin 8192) (e : Fin 512) : EReal := NormPool.left (argX m c) (argG m c) (argW m c) r e

theorem blkX (s : Fin 512) (j : Fin 1024) : iblk m c 0 t (ix2 s j) = argX m c (row t s) j := by
  blk_point [iblk, V, idx t, row]
theorem blkG (j : Fin 1024) : iblk m c 1 t (ix2 0 j) = argG m c j := by
  blk_point [iblk, V, idx t, row]
theorem blkW (p : Fin 4) (d : Fin 1024) (q : Fin 512) (e : Fin 2048) (h : e.val = 512 * p.val + q.val) :
    iblk m c 2 t (ix3 p d q) = argW m c d e := by
  blk_point [iblk, V, idx t]
theorem blkWP (g : Fin 4) (k l : Fin 128) : iblk m c 3 t (ix3 g k l) = argWP m c g k l := by
  blk_point [iblk, V, idx t]
theorem blkPS (j : Fin 512) : iblk m c 4 t (ix2 0 j) = argPS m c j := by
  blk_point [iblk, V, idx t]

theorem proj_blk (s : Fin 512) (e : Fin 2048) : projBlk (iblk m c 0 t) (iblk m c 1 t) (iblk m c 2 t) (ix2 s e) = inP m c (row t s) e := by
  have hx : (fun j => iblk m c 0 t (ix2 s j)) = argX m c (row t s) := funext fun j => blkX m c t s j
  have he := e.isLt
  refine (proj_at _ _ _ s ⟨e.val / 512, by omega⟩ ⟨e.val % 512, by omega⟩ _ rfl (by show e.val = 512 * (e.val / 512) + e.val % 512; omega)).trans ?_
  refine Finset.sum_congr (M := EReal) rfl fun k _ => congrArg₂ (HMul.hMul (α := EReal)) (congrArg₂ (HMul.hMul (α := EReal))
    (congrArg₂ (HMul.hMul (α := EReal)) (blkX m c t s k) (congrArg (fun f => Ideal.rsqrt (Rms.ms f)) hx)) (blkG m c t k)) (blkW m c t _ k _ e ?_)
  show e.val = 512 * (e.val / 512) + e.val % 512; omega

/-- A group's columns of the block of point `t`, as rows of the array. -/
theorem u_at (g : Fin 4) (s : Fin 512) (l : Fin 128) : uBlk (firstAt m c t) g (ix2 s l) = inU m c (row t s) (col g l) :=
  (uBlk_at _ g s l).trans ((first_at _ _ _ s _).trans (proj_blk m c t s _))

/-- A group's column of all rows, zero past the last. -/
abbrev colOf (g : Fin 4) (l : Fin 128) : ℕ → EReal := tail fun i => inU m c i (col g l)

theorem col_at (g : Fin 4) (s : Fin 512) (l : Fin 128) (k : ℕ) (hk : k = 512 * t.val + s.val) :
    uBlk (firstAt m c t) g (ix2 s l) = colOf m c g l k := by
  have h : k = (row t s).val := by rw [hk]; show _ = t.val * 512 + s.val; omega
  rw [u_at, h]
  exact (tail_lt (fun i => inU m c i (col g l)) (row t s)).symm

/-- The scratch rows after point `t`. -/
theorem scr : (outsAt0 m c t.val t.isLt).2.2 = joinCols (n := 16) (e := .f32) (keepG m c t) := by
  by_cases h : t.val % 16 = 0
  · exact scr_A m c t h
  · exact scr_B m c t h

theorem keepG_at (g : Fin 4) (p : Fin 16) (l : Fin 128) : joinCols (n := 16) (e := .f32) (keepG m c t) (ix2 p (col g l)) = colOf m c g l (512 * t.val + 496 + p.val) := by
  show keepG m c t (grp (col g l)) (ix2 p (lane (col g l))) = _
  rw [grp_col, lane_col]
  exact (keep_at _ p l).trans (col_at m c t g _ l _ (by show _ = 512 * t.val + (496 + p.val); omega))

theorem coord : ∀ t : Fin cfg0.N, (grid0.coords t 0).val = t.val := (by decide +kernel : ∀ t : Fin grid0.N, _)

/-- The mixed means of a group over a block whose kept rows are those before it. -/
theorem ypG_at (H : FVec Ideal S16x512 .f32) (g : Fin 4)
    (hH : ∀ (p : Fin 16) (l : Fin 128), H (ix2 p (col g l)) = if t.val = 0 then 0 else colOf m c g l (512 * t.val - 16 + p.val)) (s : Fin 512) (l : Fin 128) :
    ypG m c t H g (ix2 s l) = mixed (inU m c) (argWP m c) g (row t s) l * argPS m c (col g l) := by
  have hr : (row t s).val = 512 * t.val + s.val := by show t.val * 512 + s.val = _; omega
  unfold ypG
  rw [yp_blk]
  refine congrArg₂ (HMul.hMul (α := EReal)) (Finset.sum_congr (M := EReal) rfl fun k _ => congrArg₂ (HMul.hMul (α := EReal)) ?_ ?_) ?_
  · rw [pooled_blk g t.val _ (fun s => by rw [pos_at, coord t]) _ _ k (colOf m c g k) (fun s => col_at m c t g s k _ rfl)
      (fun p => (cols_at (n := 16) (e := .f32) H g p k).trans (hH p k)) s, u_at, ← hr]
    rfl
  · exact (slab_at (e := .bf16) (iblk m c 3 t) g k l).trans (blkWP m c t g k l)
  · exact (cols_at (n := 1) (e := .f32) (iblk m c 4 t) g 0 l).trans (blkPS m c t (col g l))

theorem zero_at (y : S16x512.Idx) : k0_pay6 (F := Ideal) y = 0 := by pointwise [k0_pay6]

theorem out6 (s : Fin 512) (e : Fin 512) : (outsAt0 m c t.val t.isLt).2.1 (ix2 s e) = out (inU m c) (argWP m c) (argPS m c) (row t s) e := by
  have hN : t.val < 16 := lt_of_lt_of_eq t.isLt N_0
  have key : ∀ H : FVec Ideal S16x512 .f32,
      (∀ (g : Fin 4) (p : Fin 16) (l : Fin 128), H (ix2 p (col g l)) = if t.val = 0 then 0 else colOf m c g l (512 * t.val - 16 + p.val)) →
      joinCols (n := 512) (e := .bf16) (ypG m c t H) (ix2 s e) = out (inU m c) (argWP m c) (argPS m c) (row t s) e := fun H hH => by
    show ypG m c t H (grp e) (ix2 s (lane e)) = _
    rw [ypG_at m c t H (grp e) (hH (grp e)) s (lane e), col_grp]
    rfl
  by_cases h : t.val % 16 = 0
  · rw [out6_A m c t h]
    exact key _ fun g p l => by rw [if_pos (by omega), zero_at]
  · rw [out6_B m c t h]
    refine key _ fun g p l => ?_
    rw [if_neg (by omega)]
    have hk := scr m c ⟨t.val - 1, by have := t.isLt; omega⟩
    refine (congrFun hk _).trans ((keepG_at m c _ g p l).trans (congrArg _ ?_))
    show 512 * (t.val - 1) + 496 + p.val = 512 * t.val - 16 + p.val; omega

/-- The array of projected rows the kernel leaves. -/
theorem final5 : (dats m 0 c).arrAt 5 cfg0.N = fun y : S8192x2048.Idx => inP m c (y 0) (y 1) := by
  refine (dats m 0 c).arrAt_eq_of_covers 5 _ (by decide +kernel) fun t hf y => ?_
  blk_simp
  rw [after0_5, out5]
  obtain ⟨s, e, rfl⟩ : ∃ (s : Fin 512) (e : Fin 2048), y = ix2 s e := ⟨y 0, y 1, by ext a; fin_cases a <;> rfl⟩
  have he : (win0_5.blk t).view.emb (ix2 s e) = ix2 (row t s) e := by blk_ext [idx t, row]
  rw [he]
  exact proj_blk m c t s e

/-- The array of mixed means the kernel leaves. -/
theorem final6 : (dats m 0 c).arrAt 6 cfg0.N = fun y : S8192x512.Idx => out (inU m c) (argWP m c) (argPS m c) (y 0) (y 1) := by
  refine (dats m 0 c).arrAt_eq_of_covers 6 _ (by decide +kernel) fun t hf y => ?_
  blk_simp
  rw [after0_6]
  obtain ⟨s, e, rfl⟩ : ∃ (s : Fin 512) (e : Fin 512), y = ix2 s e := ⟨y 0, y 1, by ext a; fin_cases a <;> rfl⟩
  have he : (win0_6.blk t).view.emb (ix2 s e) = ix2 (row t s) e := by blk_ext [idx t, row]
  rw [he]
  exact out6 m c t s e

end Cert.EvenProjIdeal.Forward

end
-- ==== Proof.EvenProjRefValue.lean ====
/- What the reference of the even layer's input projection leaves: the projected rows, and on finite arguments the mixed means of
   their first columns, as plain sums. The reference's operations are read in stretches. -/
module

public import proofs.«01_k».proof.Proof.NormPool
public import proofs.«01_k».proof.Proof.PoolRun
public import proofs.«01_k».proof.Proof.RunningSum
public import proofs.«01_k».proof.Proof.Gen.EvenProjRefIdeal
public import Idealize.ShloMosaic.Lib.Pipeline.ValueKit
public import Idealize.ShloMosaic.Lib.Claim
public import Idealize.ShloMosaic.Lib.StableHlo.ReadAt

@[expose] public section

set_option maxRecDepth 16384

noncomputable section

namespace Cert.EvenProjRefIdeal.Forward

open Cert.Finite Cert.Pool Cert.PoolGrad Cert.EvenProjRefIdeal Cert.EvenProjRefIdeal.Gen Idealize.ShloMosaic Idealize.ShloMosaic.TcCoe Idealize.SL.Sem Idealize.ShloMosaic.StableHlo

/-- The reference's operations, in order, as read off the program. -/
def line : { ops : List (HloOp τ sig (Elt Ideal)) // ∀ d, IsSeq (main (F := Ideal) d) ops } := by
  apply Subtype.mk; hlo_seq

/-- The reference's operations. -/
abbrev ops : List (HloOp τ sig (Elt Ideal)) := line.1

theorem ops_sub : ops.Forall fun op => op.bufs ⊆ tcRefs τ sig := by
  unfold ops line; simp

theorem ops_fresh : ∀ op ∈ ops, op.fresh = ∅ := by
  unfold ops line
  intro _ h; (repeat (cases h with | head => rfl | tail _ h => ?_)); exact nomatch h

/-- The reference runs to the contents its operations leave. -/
theorem ran (m : (ℓ : Loc nD τ sig) → Buf (Elt Ideal) ℓ) (g : Dev nD → PrngReg) :
    θ_run defs (onTc (τ := τ) (main (F := Ideal))) ⟨m, fun _ => 0, g⟩ fun r => ∀ (c : Dev nD) (b : Ref sig .tc),
      r.2.mem ((c.tc : Thread nD τ).loc b) = after ops (launchContents m c) (Proc.devRef .tc b) :=
  run_hlo _ _ line.2 (by decide) (by decide) ops_sub ops_fresh m g

/-! The operations in stretches: the projection, its first columns, their running sum, the four means, and the mixing. -/

abbrev segP : List (HloOp τ sig (Elt Ideal)) := ops.take 17
abbrev segA : List (HloOp τ sig (Elt Ideal)) := (ops.drop 17).take 3
abbrev segB : List (HloOp τ sig (Elt Ideal)) := (ops.drop 20).take 3
abbrev segC : List (HloOp τ sig (Elt Ideal)) := (ops.drop 23).take 69
abbrev segD : List (HloOp τ sig (Elt Ideal)) := ops.drop 92

variable (V : Valuation τ sig (Elt Ideal))

abbrev st0 : Valuation τ sig (Elt Ideal) := after segP V
abbrev st1 : Valuation τ sig (Elt Ideal) := after segB (after segA (st0 V))
abbrev st2 : Valuation τ sig (Elt Ideal) := after segC (st1 V)

/-- The whole line is the stretches one after the other. -/
theorem after_ops : after ops V = after segD (st2 V) := by
  have h : ops = segP ++ (segA ++ (segB ++ (segC ++ segD))) := rfl
  rw [h]
  simp only [after_append]

/-- The arguments by row and column. -/
abbrev argX (r : Fin 8192) (j : Fin 1024) : EReal := V (Proc.devRef .tc main_arg0) (ix2 r j)
abbrev argG (j : Fin 1024) : EReal := V (Proc.devRef .tc main_arg1) (ix1 j)
abbrev argW (d : Fin 1024) (e : Fin 2048) : EReal := V (Proc.devRef .tc main_arg2) (ix2 d e)
abbrev argWP (g : Fin 4) (k l : Fin 128) : EReal := V (Proc.devRef .tc main_arg3) (ix3 g k l)
abbrev argPS (j : Fin 512) : EReal := V (Proc.devRef .tc main_arg4) (ix1 j)

/-- The projected rows, and their first columns. -/
abbrev inP (r : Fin 8192) (e : Fin 2048) : EReal := NormPool.proj (argX V) (argG V) (argW V) r e
abbrev inU (r : Fin 8192) (c : Fin 512) : EReal := NormPool.left (argX V) (argG V) (argW V) r c

theorem v13_at (r : Fin 8192) (e : Fin 2048) : st0 V (Proc.devRef .tc main_v13) (ix2 r e) = inP V r e := by
  unfold st0 inP NormPool.proj NormIn.xn Rms.ms
  after_reads_at

theorem v14_raw (r : Fin 8192) (e : Fin 2048) : after segA V (Proc.devRef .tc main_v14) (ix2 r e) = V (Proc.devRef .tc main_v13) (ix2 r e) := by
  after_reads_at

theorem v16_raw (r : Fin 8192) (g : Fin 4) (l : Fin 128) : after segA V (Proc.devRef .tc main_v16) (ix3 r g l)
    = V (Proc.devRef .tc main_v13) (ix2 r ⟨(col g l).val, by have := (col g l).isLt; omega⟩) := by
  after_reads_at
  congr 2
  exact Fin.ext (by show g.val * 128 + l.val = 128 * g.val + l.val; omega)

theorem v16_keep : after segB V (Proc.devRef .tc main_v16) = V (Proc.devRef .tc main_v16) := by after_reads_simp
theorem v14_keep : after segD (after segC (after segB V)) (Proc.devRef .tc main_v14) = V (Proc.devRef .tc main_v14) := by after_reads_simp

theorem v17_raw (r : Fin 8192) (g : Fin 4) (l : Fin 128) : after segB V (Proc.devRef .tc main_v17) (ix3 r g l)
    = (∑ i : Fin 8192, if i.val ≤ r.val then (V (Proc.devRef .tc main_v16) (ix3 i g l) : EReal) else 0 : EReal) := by
  after_reads_at
  have hz : broadcastInDim S_ ![] bcast_S_S_ (constant (F := Ideal) S_ .f32 0x00000000#32) (Shape.Idx.first h_S_) = (0 : EReal) := by pointwise
  generalize V (Proc.devRef .tc main_v16) = x
  unfold Host.reduceWindowAdd
  rw [Ideal.hostReduceWindowAdd_def, hz]
  exact RunningSum.up_to x 8191 rfl reduceWindows_S8192x4x128_S8192x4x128_w8192s1p8191_0_w1s1p0_0_w1s1p0_0 r g l

/-- The running sums and the columns before the means. -/
theorem st1_v16 (r : Fin 8192) (g : Fin 4) (l : Fin 128) : st1 V (Proc.devRef .tc main_v16) (ix3 r g l) = inU V r (col g l) := by
  unfold st1; rw [v16_keep, v16_raw, v13_at]; rfl

theorem st1_v17 (r : Fin 8192) (g : Fin 4) (l : Fin 128) : st1 V (Proc.devRef .tc main_v17) (ix3 r g l)
    = (∑ i : Fin 8192, if i.val ≤ r.val then inU V i (col g l) else 0 : EReal) := by
  unfold st1; rw [v17_raw]
  exact Finset.sum_congr (M := EReal) rfl fun i _ => by rw [v16_raw, v13_at]; rfl

section
variable (hU : ∀ r c, IsReal (inU V r c)) (r : Fin 8192) (l : Fin 128)
include hU
theorem v74_at : st2 V (Proc.devRef .tc main_v74) (ix3 r 0 l) = pooled (inU V) 0 r l := by
  unfold st2
  have h1 := fun i => st1_v16 V i 0 l
  have h2 := fun i => st1_v17 V i 0 l
  generalize st1 V = Y at h1 h2 ⊢
  after_reads_at
  split
  · next h => after_reads_at; exact pooled_first (by decide) _ hU 0 l _ h2 _ h1 r h
  · next h => after_reads_at; exact pooled_rest (by decide) _ hU 0 l _ h2 _ h1 r h
theorem v75_at : st2 V (Proc.devRef .tc main_v75) (ix3 r 0 l) = pooled (inU V) 1 r l := by
  unfold st2
  have h1 := fun i => st1_v16 V i 1 l
  have h2 := fun i => st1_v17 V i 1 l
  generalize st1 V = Y at h1 h2 ⊢
  after_reads_at
  split
  · next h => after_reads_at; exact pooled_first (by decide) _ hU 1 l _ h2 _ h1 r h
  · next h => after_reads_at; exact pooled_rest (by decide) _ hU 1 l _ h2 _ h1 r h
theorem v76_at : st2 V (Proc.devRef .tc main_v76) (ix3 r 0 l) = pooled (inU V) 2 r l := by
  unfold st2
  have h1 := fun i => st1_v16 V i 2 l
  have h2 := fun i => st1_v17 V i 2 l
  generalize st1 V = Y at h1 h2 ⊢
  after_reads_at
  split
  · next h => after_reads_at; exact pooled_first (by decide) _ hU 2 l _ h2 _ h1 r h
  · next h => after_reads_at; exact pooled_rest (by decide) _ hU 2 l _ h2 _ h1 r h
theorem v77_at : st2 V (Proc.devRef .tc main_v77) (ix3 r 0 l) = pooled (inU V) 3 r l := by
  unfold st2
  have h1 := fun i => st1_v16 V i 3 l
  have h2 := fun i => st1_v17 V i 3 l
  generalize st1 V = Y at h1 h2 ⊢
  after_reads_at
  split
  · next h => after_reads_at; exact pooled_first (by decide) _ hU 3 l _ h2 _ h1 r h
  · next h => after_reads_at; exact pooled_rest (by decide) _ hU 3 l _ h2 _ h1 r h
end

/-- The four means, by their group. -/
abbrev stacked (Y : Valuation τ sig (Elt Ideal)) (r : Fin 8192) (x : Fin 128) : Fin 4 → EReal :=
  four (Y (Proc.devRef .tc main_v74) (ix3 r 0 x)) (Y (Proc.devRef .tc main_v75) (ix3 r 0 x))
    (Y (Proc.devRef .tc main_v76) (ix3 r 0 x)) (Y (Proc.devRef .tc main_v77) (ix3 r 0 x))

theorem v85_raw (r : Fin 8192) (c : Fin 512) : after segD V (Proc.devRef .tc main_v85) (ix2 r c)
    = ((∑ x, argWP V (grp c) x (lane c) * stacked V r x (grp c)) * argPS V c : EReal) := by
  after_reads_at
  refine congrArg₂ (HMul.hMul (α := EReal)) (Finset.sum_congr (M := EReal) rfl fun x _ => congrArg₂ (HMul.hMul (α := EReal)) rfl ?_) rfl
  exact pick (grp c) (fun i => V (Proc.devRef .tc main_v74) (ix3 r i x)) (fun i => V (Proc.devRef .tc main_v75) (ix3 r i x))
    (fun i => V (Proc.devRef .tc main_v76) (ix3 r i x)) (fun i => V (Proc.devRef .tc main_v77) (ix3 r i x))

/-- The means leave the mixing's arguments as they were. -/
theorem keep2 : st2 V (Proc.devRef .tc main_arg3) = V (Proc.devRef .tc main_arg3) ∧ st2 V (Proc.devRef .tc main_arg4) = V (Proc.devRef .tc main_arg4) := by
  refine ⟨?_, ?_⟩ <;> after_reads_simp

theorem v85_at (hU : ∀ r c, IsReal (inU V r c)) (r : Fin 8192) (c : Fin 512) : after segD (st2 V) (Proc.devRef .tc main_v85) (ix2 r c)
    = out (inU V) (argWP V) (argPS V) r c := by
  rw [v85_raw]
  obtain ⟨k3, k4⟩ := keep2 V
  unfold out mixed argWP argPS stacked
  rw [k3, k4]
  refine congrArg₂ (HMul.hMul (α := EReal)) (Finset.sum_congr (M := EReal) rfl fun x _ => ?_) rfl
  rw [v74_at V hU, v75_at V hU, v76_at V hU, v77_at V hU, mul_comm (G := EReal)]
  exact congrArg₂ (HMul.hMul (α := EReal)) (four_pooled _ _ _ _) rfl

theorem v14_at (r : Fin 8192) (e : Fin 2048) : after segD (st2 V) (Proc.devRef .tc main_v14) (ix2 r e) = inP V r e :=
  (congrFun (v14_keep (after segA (st0 V))) _).trans ((v14_raw _ r e).trans (v13_at V r e))

/-- The reference writes none of its arguments. -/
theorem args_keep : after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4) := by
  rw [after_ops]
  refine ⟨?_, ?_, ?_, ?_, ?_⟩ <;> after_reads_simp

theorem idx2 {a b : ℕ} (y : (⟨2, ![a, b]⟩ : Shape).Idx) : y = ix2 (y 0) (y 1) := by ext k; fin_cases k <;> rfl

/-- With a finite projection the reference leaves the projected rows, the mixed means and its arguments as they were. -/
theorem run (m : (ℓ : Loc nD τ sig) → Buf (Elt Ideal) ℓ) (g : Dev nD → PrngReg) (h : ∀ c r j, IsReal (inU (launchContents m c) r j)) :
    θ_run defs (onTc (τ := τ) (main (F := Ideal))) ⟨m, fun _ => 0, g⟩ fun r => ∀ c : Dev nD,
      r.2.mem ((c.tc : Thread nD τ).loc main_v14) = (fun y : S8192x2048.Idx => inP (launchContents m c) (y 0) (y 1))
      ∧ r.2.mem ((c.tc : Thread nD τ).loc main_v85) = (fun y : S8192x512.Idx => out (inU (launchContents m c)) (argWP (launchContents m c)) (argPS (launchContents m c)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (ran m g)
  have hc := h c
  simp only [hr c]
  refine ⟨funext fun y => ?_, funext fun y => ?_, args_keep _⟩
  all_goals generalize launchContents m c = V at *
  all_goals rw [after_ops]
  · exact (congrArg _ (idx2 y)).trans (v14_at V (y 0) (y 1))
  · exact (congrArg _ (idx2 y)).trans (v85_at V hc (y 0) (y 1))

end Cert.EvenProjRefIdeal.Forward

end
-- ==== Proof.EvenProjClaim.lean ====
/- The kernel's projected rows and mixed means of earlier rows are those the forward pass defines, on finite rows, scale and weight. -/
module

public import proofs.«01_k».proof.Defs
public import proofs.«01_k».proof.Proof.EvenProjValue
public import proofs.«01_k».proof.Proof.EvenProjRefValue
public import proofs.«01_k».proof.Proof.Gen.EvenProjIdeal
public import proofs.«01_k».proof.Proof.Gen.EvenProjRefIdeal

@[expose] public section

set_option maxRecDepth 16384

noncomputable section

namespace Cert.EvenProjIdeal

open Idealize.ShloMosaic Idealize.ShloMosaic.TcCoe Idealize.SL.Sem Cert.EvenProjIdeal.Gen

/-- On any arguments the kernel leaves its two arrays and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6_0) = (dats m 0 c).arrAt 5 (cfgs 0).N
      ∧ r.2.mem ((c.tc : Thread nD τ).loc main_v6_1) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, h.2 c⟩)
    (θ_run_and (run_main m g) (unchanged m g))

end Cert.EvenProjIdeal

namespace Cert.Proof

open Idealize.ShloMosaic Idealize.SL.Sem

/-- From the same arguments, with finite rows, scale and weight, the kernel and the reference leave the same projected rows and the same
    mixed means. -/
theorem algebraic_evenProj [Cert.Pre_finite_even_proj.Facts] : Cert.algebraic_EvenProjIdeal_EvenProjRefIdeal_pre_finite_even_proj := by
  intro m g m' g' hpre hagree
  refine ⟨_, _, Cert.EvenProjIdeal.run m g, ?_⟩
  have eX : ∀ c, Cert.EvenProjRefIdeal.Forward.argX (StableHlo.launchContents m' c) = Cert.EvenProjIdeal.Forward.argX m c := fun c => funext₂ fun _ _ => congrFun (hagree c).1 _
  have eG : ∀ c, Cert.EvenProjRefIdeal.Forward.argG (StableHlo.launchContents m' c) = Cert.EvenProjIdeal.Forward.argG m c := fun c => funext fun _ => congrFun (hagree c).2.1 _
  have eW : ∀ c, Cert.EvenProjRefIdeal.Forward.argW (StableHlo.launchContents m' c) = Cert.EvenProjIdeal.Forward.argW m c := fun c => funext₂ fun _ _ => congrFun (hagree c).2.2.1 _
  have eWP : ∀ c, Cert.EvenProjRefIdeal.Forward.argWP (StableHlo.launchContents m' c) = Cert.EvenProjIdeal.Forward.argWP m c := fun c => funext fun _ => funext₂ fun _ _ => congrFun (hagree c).2.2.2.1 _
  have ePS : ∀ c, Cert.EvenProjRefIdeal.Forward.argPS (StableHlo.launchContents m' c) = Cert.EvenProjIdeal.Forward.argPS m c := fun c => funext fun _ => congrFun (hagree c).2.2.2.2 _
  have eP : ∀ c, Cert.EvenProjRefIdeal.Forward.inP (StableHlo.launchContents m' c) = Cert.EvenProjIdeal.Forward.inP m c := fun c => by
    unfold Cert.EvenProjRefIdeal.Forward.inP Cert.EvenProjIdeal.Forward.inP; rw [eX c, eG c, eW c]
  have eU : ∀ c, Cert.EvenProjRefIdeal.Forward.inU (StableHlo.launchContents m' c) = Cert.EvenProjIdeal.Forward.inU m c := fun c => by
    unfold Cert.EvenProjRefIdeal.Forward.inU Cert.EvenProjIdeal.Forward.inU; rw [eX c, eG c, eW c]
  have hf : ∀ c r j, Cert.Finite.IsReal (Cert.EvenProjRefIdeal.Forward.inU (StableHlo.launchContents m' c) r j) := fun c r j => by
    obtain ⟨p0, p1, p2⟩ := hpre c
    rw [eU c]
    exact NormPool.isReal_proj _ _ _ (fun r j => Cert.Finite.isReal_of_lt _ (congrFun p0 _)) (fun j => Cert.Finite.isReal_of_lt _ (congrFun p1 _))
      (fun r j => Cert.Finite.isReal_of_lt _ (congrFun p2 _)) r _
  refine (θ_run _ _ _).mono (fun r hr c => ?_) (Cert.EvenProjRefIdeal.Forward.run m' g' hf)
  obtain ⟨r0, r1, ra⟩ := hr c
  rw [eP c] at r0
  rw [eU c, eWP c, ePS c] at r1
  exact ⟨r0.trans (Cert.EvenProjIdeal.Forward.final5 m c).symm, r1.trans (Cert.EvenProjIdeal.Forward.final6 m c).symm, ra⟩

end Cert.Proof

end
-- ==== Proof.ChipSumClaim.lean ====
/- The sum of the four devices' parts of a gradient: the kernel's array is the plain sum. -/
module

public import proofs.«01_k».proof.Defs
public import proofs.«01_k».proof.Proof.Gen.ChipSumIdeal.Value
public import proofs.«01_k».proof.Proof.Gen.ChipSumRefIdeal.Read
public import proofs.«01_k».proof.Proof.Gen.ChipSumRefIdeal.Run
public import proofs.«01_k».proof.Proof.Gen.ChipSumIdeal
public import proofs.«01_k».proof.Proof.Gen.ChipSumRefIdeal
public import Idealize.ShloMosaic.Lib.Pipeline.ValueKit
public import Idealize.ShloMosaic.Lib.Pipeline.ReadBack
public import Idealize.ShloMosaic.Lib.Claim

@[expose] public section

set_option maxRecDepth 16384

noncomputable section

namespace Cert.ChipSumIdeal.Sum

open Cert.ChipSumIdeal Cert.ChipSumIdeal.Gen Idealize.ShloMosaic Idealize.ShloMosaic.TcCoe Idealize.SL.Sem
open Idealize.ShloMosaic.Pipeline (Dat)
open scoped BigOperators

/-- A part of a block, read at a row and a column. -/
theorem part_at (x0 : FVec Ideal S4x128x1024 .bf16) {p : ℕ} (i : Fin 4) (hp : i.val = p) (inb : ∀ a, ![p, 0, 0] a + S1x128x1024.size a ≤ S4x128x1024.size a)
    (j : S1x128x1024.Idx) (s : Fin 128) (e : Fin 1024) (h1 : (j 1).val = s.val) (h2 : (j 2).val = e.val) :
    View.ld (Val := Elt Ideal) (e' := .bf16) x0 (Rect.unit (s := S4x128x1024) ![p, 0, 0] S1x128x1024.size inb) j = x0 (ix3 i s e) := by
  have h0 : (j 0).val < 1 := (j 0).isLt
  refine congrArg x0 (funext fun a => Fin.ext ?_)
  fin_cases a
  · show p + 1 * (j 0).val = i.val; omega
  · show 0 + 1 * (j 1).val = s.val; omega
  · show 0 + 1 * (j 2).val = e.val; omega

/-- The entry a block's result has: the sum of the four parts. -/
theorem block_at (x0 : FVec Ideal S4x128x1024 .bf16) (s : Fin 128) (e : Fin 1024) :
    out0_1 (F := Ideal) x0 (ix2 s e) = (∑ k : Fin 4, x0 (ix3 k s e) : EReal) := by
  rw [Fin.sum_univ_four (M := EReal)]
  refine (Cert.ChipSumIdeal.Value.canon1_eq (F := Ideal) _ _ _ _ (ix2 s e)).trans ?_
  exact congrArg₂ (HAdd.hAdd (α := EReal)) (congrArg₂ (HAdd.hAdd (α := EReal)) (congrArg₂ (HAdd.hAdd (α := EReal))
    (part_at x0 0 rfl _ _ s e rfl rfl) (part_at x0 1 rfl _ _ s e rfl rfl)) (part_at x0 2 rfl _ _ s e rfl rfl)) (part_at x0 3 rfl _ _ s e rfl rfl)

variable (m : (ℓ : Loc nD τ sig) → Buf (Elt Ideal) ℓ) (c : Dev nD) (t : Fin cfg0.N)

theorem idx : ∀ t : Fin cfg0.N, win0_0.index t = ![0, t.val, 0] ∧ win0_1.index t = ![t.val, 0] :=
  (by decide +kernel : ∀ t : Fin grid0.N, _)

/-- Row `s` of block `t`, as a row of the array. -/
def row (t : Fin cfg0.N) (s : Fin 128) : Fin 640 :=
  ⟨t.val * 128 + s.val, by have := t.isLt; have h : cfg0.N = 5 := N_0; have := s.isLt; omega⟩

/-- The argument array by part, row and column. -/
abbrev argA (k : Fin 4) (r : Fin 640) (j : Fin 1024) : EReal := m ((c : Thread nD τ).loc main_arg0) (ix3 k r j)

theorem blkA (k : Fin 4) (s : Fin 128) (j : Fin 1024) : iblk m c 0 t (ix3 k s j) = argA m c k (row t s) j := by
  blk_point [iblk, V, idx t, row]

/-- The array the kernel leaves. -/
theorem final1 : (dats m 0 c).arrAt 1 cfg0.N = fun y : S640x1024.Idx => (∑ k : Fin 4, argA m c k (y 0) (y 1) : EReal) := by
  refine (dats m 0 c).arrAt_eq_of_covers 1 _ (by decide +kernel) fun t hf y => ?_
  blk_simp
  rw [after0_1]
  obtain ⟨s, e, rfl⟩ : ∃ (s : Fin 128) (e : Fin 1024), y = ix2 s e := ⟨y 0, y 1, by ext a; fin_cases a <;> rfl⟩
  have he : (win0_1.blk t).view.emb (ix2 s e) = ix2 (row t s) e := by blk_ext [idx t, row]
  rw [he, block_at]
  exact Finset.sum_congr (M := EReal) rfl fun k _ => blkA m c t k s e

end Cert.ChipSumIdeal.Sum

namespace Cert.ChipSumRefIdeal.Sum

open Cert.ChipSumRefIdeal Cert.ChipSumRefIdeal.Read Idealize.ShloMosaic Idealize.ShloMosaic.TcCoe Idealize.SL.Sem
open scoped BigOperators

/-- The reference's sum. -/
theorem v1_at (x0 : FVec Ideal S4x640x1024 .bf16) (r : Fin 640) (e : Fin 1024) :
    val_main_v1 (F := Ideal) x0 (ix2 r e) = (∑ k : Fin 4, x0 (ix3 k r e) : EReal) := by
  pointwise [val_main_v1, val_main_v0, val_main_cst]

end Cert.ChipSumRefIdeal.Sum

namespace Cert.Proof

open Idealize.ShloMosaic Idealize.SL.Sem

/-- From the same parts the kernel and the reference leave the same sum. -/
theorem algebraic_chipSum : Cert.algebraic_ChipSumIdeal_ChipSumRefIdeal := by
  intro m g m' g' _ hagree
  refine ⟨_, Cert.ChipSumIdeal.Value.run_blocks m g, ?_⟩
  refine (θ_run _ _ _).mono (fun r hr c => ⟨?_, (hr c).2⟩) (Cert.ChipSumRefIdeal.Value.run m' g')
  refine (hr c).1.trans ((Cert.ChipSumRefIdeal.Read.val_main_v1_eq _).trans ((funext fun y => ?_).trans (Cert.ChipSumIdeal.Sum.final1 m c).symm))
  obtain ⟨s, e, rfl⟩ : ∃ (s : Fin 640) (e : Fin 1024), y = ix2 s e := ⟨y 0, y 1, by ext a; fin_cases a <;> rfl⟩
  refine (Cert.ChipSumRefIdeal.Sum.v1_at _ s e).trans (Finset.sum_congr (M := EReal) rfl fun k _ => ?_)
  exact congrFun (hagree c) (ix3 k s e)

end Cert.Proof

end
-- ==== Proof.AdamClaim.lean ====
/- The optimiser's step of the replicated weights: the kernel multiplies by the reciprocals of the bias corrections, the
   reference divides by them. -/
module

public import proofs.«01_k».proof.Defs
public import proofs.«01_k».proof.Proof.Gen.AdamIdeal.Value
public import proofs.«01_k».proof.Proof.Gen.AdamRefIdeal.Read
public import proofs.«01_k».proof.Proof.Gen.AdamRefIdeal.Run
public import proofs.«01_k».proof.Proof.Gen.AdamIdeal
public import proofs.«01_k».proof.Proof.Gen.AdamRefIdeal
public import Idealize.ShloMosaic.Lib.Pipeline.ValueKit
public import Idealize.ShloMosaic.Lib.Claim

@[expose] public section

set_option maxRecDepth 16384

noncomputable section

namespace Cert.AdamIdeal.Step

open Idealize.ShloMosaic Idealize.ShloMosaic.TcCoe Idealize.SL.Sem

theorem inv_bias1 : Named.named (F := Ideal) Cert.AdamIdeal.κ "inv_bias1" (φ := .f32) 0x3FC48605#32 = ((8388608 / 5463681 : ℝ) : EReal) :=
  IdealRules.named_const.ideal_named_scalar _ _ _ _ rfl

theorem inv_bias2 : Named.named (F := Ideal) Cert.AdamIdeal.κ "inv_bias2" (φ := .f32) 0x42C8E6D3#32 = ((268435456 / 2672307 : ℝ) : EReal) :=
  IdealRules.named_const.ideal_named_scalar _ _ _ _ rfl

theorem bias1 : Ideal.ofBits .f32 0x3F26BD02#32 = ((5463681 / 8388608 : ℝ) : EReal) := by
  simp [Ideal.ofBits, Ideal.ieee, -EReal.coe_mul]; norm_num

theorem bias2 : Ideal.ofBits .f32 0x3C231ACC#32 = ((2672307 / 268435456 : ℝ) : EReal) := by
  simp [Ideal.ofBits, Ideal.ieee, -EReal.coe_mul]; norm_num

/-- Dividing by the first bias correction is multiplying by its reciprocal. -/
theorem div_bias1 (x : EReal) :
    Ideal.div x (Ideal.ofBits .f32 0x3F26BD02#32) = x * Named.named (F := Ideal) Cert.AdamIdeal.κ "inv_bias1" (φ := .f32) 0x3FC48605#32 := by
  rw [inv_bias1, bias1, Ideal.div_coe (by norm_num)]; norm_num

theorem div_bias2 (x : EReal) :
    Ideal.div x (Ideal.ofBits .f32 0x3C231ACC#32) = x * Named.named (F := Ideal) Cert.AdamIdeal.κ "inv_bias2" (φ := .f32) 0x42C8E6D3#32 := by
  rw [inv_bias2, bias2, Ideal.div_coe (by norm_num)]; norm_num

end Cert.AdamIdeal.Step

namespace Cert.AdamRefIdeal.Step

open Cert.AdamRefIdeal Cert.AdamRefIdeal.Read Idealize.ShloMosaic Idealize.ShloMosaic.TcCoe Idealize.SL.Sem

/-- The new first moment. -/
theorem m_eq (g mm : FVec Ideal S200x1024 .f32) : val_main_v4 (F := Ideal) g mm = Cert.AdamIdeal.Value.G5 (F := Ideal) g mm := by
  funext i
  simp only [Cert.AdamIdeal.Value.G5, val_main_v4_apply, val_main_v3_apply, val_main_v2_apply, val_main_v1_apply, val_main_v0_apply, val_main_cst_apply,
    val_main_cst_0_apply]

/-- The new second moment. -/
theorem v_eq (g vv : FVec Ideal S200x1024 .f32) : val_main_v10 (F := Ideal) g vv = Cert.AdamIdeal.Value.G6 (F := Ideal) g vv := by
  funext i
  simp only [Cert.AdamIdeal.Value.G6, val_main_v10_apply, val_main_v9_apply, val_main_v8_apply, val_main_v7_apply, val_main_v6_apply, val_main_v5_apply,
    val_main_cst_1_apply, val_main_cst_2_apply]

/-- The step. -/
theorem d_eq (w g mm vv : FVec Ideal S200x1024 .f32) : val_main_v23 (F := Ideal) w g mm vv = Cert.AdamIdeal.Value.G4 (F := Ideal) g mm vv w := by
  funext i
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_cst_3_apply,
    val_main_cst_4_apply, val_main_cst_5_apply, val_main_cst_6_apply, val_main_cst_7_apply, m_eq, v_eq, Ideal.hostDivf_def, Ideal.hostUnary_sqrt_def,
    Ideal.ofBits_def, Cert.AdamIdeal.Step.div_bias1, Cert.AdamIdeal.Step.div_bias2]
  rfl

end Cert.AdamRefIdeal.Step

namespace Cert.Proof

open Idealize.ShloMosaic Idealize.SL.Sem

/-- The kernel's two names are the reciprocals of the reference's f32 constants. -/
theorem preserves_adam : Cert.preserves_Adam_AdamIdeal :=
  ⟨IdealRules.named_const.statement Cert.AdamIdeal.κ "inv_bias1" .f32 0x3FC48605#32 ((8388608 / 5463681 : ℝ) : EReal) rfl,
   IdealRules.named_const.statement Cert.AdamIdeal.κ "inv_bias2" .f32 0x42C8E6D3#32 ((268435456 / 2672307 : ℝ) : EReal) rfl⟩

/-- From the same weights, gradients and moments the kernel and the reference leave the same step and the same moments. -/
theorem algebraic_adam : Cert.algebraic_AdamIdeal_AdamRefIdeal := by
  intro m g m' g' _ hagree
  refine ⟨_, _, _, Cert.AdamIdeal.Value.run (F := Ideal) m g, ?_⟩
  refine (θ_run _ _ _).mono (fun r hr c => ?_) (Cert.AdamRefIdeal.Value.run m' g')
  obtain ⟨a0, a1, a2, a3⟩ := hagree c
  obtain ⟨r0, r1, r2, rest⟩ := hr c
  refine ⟨?_, ?_, ?_, rest⟩
  · rw [r0, a0, a1, a2, a3]; exact (Cert.AdamRefIdeal.Read.val_main_v23_eq _ _ _ _).trans (Cert.AdamRefIdeal.Step.d_eq _ _ _ _)
  · rw [r1, a1, a2]; exact (Cert.AdamRefIdeal.Read.val_main_v4_eq _ _).trans (Cert.AdamRefIdeal.Step.m_eq _ _)
  · rw [r2, a1, a3]; exact (Cert.AdamRefIdeal.Read.val_main_v10_eq _ _).trans (Cert.AdamRefIdeal.Step.v_eq _ _)

end Cert.Proof

end
-- ==== Proof.RefFrames.lean ====
/- The references end with their arguments unchanged and every counter at zero. -/
module

public import proofs.«01_k».proof.Defs
public import proofs.«01_k».proof.Proof.OddOutRefValue
public import proofs.«01_k».proof.Proof.Gen.EvenOutRefIdeal
public import proofs.«01_k».proof.Proof.Gen.ConvRefIdeal
public import proofs.«01_k».proof.Proof.Gen.ConvFwdRefIdeal
public import proofs.«01_k».proof.Proof.Gen.OddProjRefIdeal
public import proofs.«01_k».proof.Proof.Gen.EvenProjRefIdeal
public import proofs.«01_k».proof.Proof.Gen.ChipSumRefIdeal
public import proofs.«01_k».proof.Proof.Gen.AdamRefIdeal
public import Idealize.ShloMosaic.Lib.Claim

@[expose] public section

set_option maxRecDepth 16384

noncomputable section

namespace Cert.Proof

open Idealize.ShloMosaic Idealize.SL.Sem

/-- The frame of the gated layer normalization's reference. -/
theorem frame_oddOutRef : Cert.quiescent_OddOutRefIdeal := by
  intro m g _
  exact (θ_run _ _ _).mono (fun r h => ⟨fun c => by
    obtain ⟨k0, k1, k2, k3, k4, k5⟩ := Cert.OddOutRefIdeal.Gradient.args_keep (StableHlo.launchContents m c)
    exact ⟨(h c _).trans k0, (h c _).trans k1, (h c _).trans k2, (h c _).trans k3, (h c _).trans k4, (h c _).trans k5⟩,
    sem_eq_zero_of_no_sems (sig := Cert.OddOutRefIdeal.sig) rfl _⟩) (Cert.OddOutRefIdeal.Gradient.ran m g)

/-- The frame of the even output projection's reference. -/
theorem frame_evenOutRef : Cert.quiescent_EvenOutRefIdeal := by
  intro m g _; hlo_run; simp; exact sem_eq_zero_of_no_sems (sig := Cert.EvenOutRefIdeal.sig) rfl _

/-- The frame of the convolution's reference. -/
theorem frame_convRef : Cert.quiescent_ConvRefIdeal := by
  intro m g _; hlo_run; simp; exact sem_eq_zero_of_no_sems (sig := Cert.ConvRefIdeal.sig) rfl _

/-- The frame of the forward convolution's reference. -/
theorem frame_convFwdRef : Cert.quiescent_ConvFwdRefIdeal := by
  intro m g _; hlo_run; simp; exact sem_eq_zero_of_no_sems (sig := Cert.ConvFwdRefIdeal.sig) rfl _

/-- The frame of the odd input projection's reference. -/
theorem frame_oddProjRef : Cert.quiescent_OddProjRefIdeal := by
  intro m g _; hlo_run; simp; exact sem_eq_zero_of_no_sems (sig := Cert.OddProjRefIdeal.sig) rfl _

/-- The frame of the even input projection's reference. -/
theorem frame_evenProjRef : Cert.quiescent_EvenProjRefIdeal := by
  intro m g _; hlo_run; simp; exact sem_eq_zero_of_no_sems (sig := Cert.EvenProjRefIdeal.sig) rfl _

/-- The frame of the sum's reference. -/
theorem frame_chipSumRef : Cert.quiescent_ChipSumRefIdeal := by
  intro m g _; hlo_run; simp; exact sem_eq_zero_of_no_sems (sig := Cert.ChipSumRefIdeal.sig) rfl _

/-- The frame of the optimiser's reference. -/
theorem frame_adamRef : Cert.quiescent_AdamRefIdeal := by
  intro m g _; hlo_run; simp; exact sem_eq_zero_of_no_sems (sig := Cert.AdamRefIdeal.sig) rfl _

end Cert.Proof

end
-- ==== Proof.lean ====
/- The claims of Defs.lean, assembled from the modules that prove them. -/
module

public import proofs.«01_k».proof.Defs
public import proofs.«01_k».proof.Proof.Gen.OddInIdeal.Value
public import proofs.«01_k».proof.Proof.Gen.EvenInIdeal.Value
public import proofs.«01_k».proof.Proof.Gen.OddOutIdeal.Value
public import proofs.«01_k».proof.Proof.Gen.EvenOutIdeal.Value
public import proofs.«01_k».proof.Proof.Gen.ConvRefIdeal.Run
public import proofs.«01_k».proof.Proof.Gen.ConvRefIdeal.Read
public import proofs.«01_k».proof.Proof.Gen.OddInRefIdeal.Run
public import proofs.«01_k».proof.Proof.Gen.OddInRefIdeal.Read
public import proofs.«01_k».proof.Proof.Gen.EvenInRefIdeal.Run
public import proofs.«01_k».proof.Proof.Gen.EvenInRefIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.Conv
public import proofs.«01_k».proof.Proof.Gen.Conv.Skeleton
public import proofs.«01_k».proof.Proof.Gen.Conv.Loops
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Loops
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvFwd
public import proofs.«01_k».proof.Proof.Gen.ConvFwd.Skeleton
public import proofs.«01_k».proof.Proof.Gen.ConvFwd.Loops
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Loops
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.OddProj
public import proofs.«01_k».proof.Proof.Gen.OddProj.Skeleton
public import proofs.«01_k».proof.Proof.Gen.OddProj.Launch
public import proofs.«01_k».proof.Proof.Gen.OddProj.Points
public import proofs.«01_k».proof.Proof.Gen.OddProj.Frame
public import proofs.«01_k».proof.Proof.Gen.OddProjIdeal
public import proofs.«01_k».proof.Proof.Gen.OddProjIdeal.Skeleton
public import proofs.«01_k».proof.Proof.Gen.OddProjIdeal.Launch
public import proofs.«01_k».proof.Proof.Gen.OddProjIdeal.Points
public import proofs.«01_k».proof.Proof.Gen.OddProjIdeal.Frame
public import proofs.«01_k».proof.Proof.Gen.OddProjRefIdeal
public import proofs.«01_k».proof.Proof.Gen.OddProjIdeal.Value
public import proofs.«01_k».proof.Proof.Gen.OddProjRefIdeal.Run
public import proofs.«01_k».proof.Proof.Gen.OddProjRefIdeal.Read
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenProjRefIdeal
public import proofs.«01_k».proof.Proof.Gen.EvenProjIdeal.Value
public import proofs.«01_k».proof.Proof.Gen.EvenProjRefIdeal.Run
public import proofs.«01_k».proof.Proof.Gen.EvenProjRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumRefIdeal
public import proofs.«01_k».proof.Proof.Gen.ChipSumIdeal.Value
public import proofs.«01_k».proof.Proof.Gen.ChipSumRefIdeal.Run
public import proofs.«01_k».proof.Proof.Gen.ChipSumRefIdeal.Read
public import proofs.«01_k».proof.Proof.OddInClaim
public import proofs.«01_k».proof.Proof.EvenInClaim
public import proofs.«01_k».proof.Proof.OddOutClaim
public import proofs.«01_k».proof.Proof.EvenOutClaim
public import proofs.«01_k».proof.Proof.ConvClaim
public import proofs.«01_k».proof.Proof.ConvFwdClaim
public import proofs.«01_k».proof.Proof.OddProjClaim
public import proofs.«01_k».proof.Proof.EvenProjClaim
public import proofs.«01_k».proof.Proof.ChipSumClaim
public import proofs.«01_k».proof.Proof.AdamClaim
public import proofs.«01_k».proof.Proof.RefFrames
public import Idealize.ShloMosaic.Adequacy
public import Idealize.ShloMosaic.Init

@[expose] public section

noncomputable section

namespace Cert.Proof

open Idealize.ShloMosaic Idealize.SL.Sem Cert.OddIn

/-- The shapes the preconditions' operations take. -/
theorem facts_finite_odd_out : Cert.Pre_finite_odd_out.Facts := by constructor <;> decide

theorem facts_finite_even_out : Cert.Pre_finite_even_out.Facts := by constructor <;> decide

theorem facts_finite_even_proj : Cert.Pre_finite_even_proj.Facts := by constructor <;> decide

/-- The claims about the input projections' gradients, the gated layer normalization's, the gated pool's and the convolution's
    gradients, and about the forward convolution with its gated layer normalization and
    the two layers' input projections with their norms, the even one with its mean over earlier rows; and about the sum of the devices' parts
    of the odd layer's gradients; and about the optimiser's step of the replicated weights. -/
theorem claim : Cert.Claim := ⟨Cert.OddIn.Gen.facts, Cert.OddInIdeal.Gen.facts, Cert.OddInRefIdeal.Gen.facts, Cert.EvenIn.Gen.facts, Cert.EvenInIdeal.Gen.facts, Cert.EvenInRefIdeal.Gen.facts, Cert.OddOut.Gen.facts, Cert.OddOutIdeal.Gen.facts, Cert.OddOutRefIdeal.Gen.facts, Cert.EvenOut.Gen.facts, Cert.EvenOutIdeal.Gen.facts, Cert.EvenOutRefIdeal.Gen.facts, Cert.Conv.Gen.facts, Cert.ConvIdeal.Gen.facts, Cert.ConvRefIdeal.Gen.facts,
  Cert.ConvFwd.Gen.facts, Cert.ConvFwdIdeal.Gen.facts, Cert.ConvFwdRefIdeal.Gen.facts,
  Cert.OddProj.Gen.facts, Cert.OddProjIdeal.Gen.facts, Cert.OddProjRefIdeal.Gen.facts,
  Cert.EvenProj.Gen.facts, Cert.EvenProjIdeal.Gen.facts, Cert.EvenProjRefIdeal.Gen.facts,
  Cert.ChipSum.Gen.facts, Cert.ChipSumIdeal.Gen.facts, Cert.ChipSumRefIdeal.Gen.facts,
  Cert.Adam.Gen.facts, Cert.AdamIdeal.Gen.facts, Cert.AdamRefIdeal.Gen.facts, facts_finite_odd_out, facts_finite_even_out, facts_finite_even_proj,
  fun m ρ _ => Cert.OddIn.Gen.frame m ρ, fun m ρ _ => Cert.OddInIdeal.Gen.frame m ρ,
  by intro m g _; hlo_run; simp; exact sem_eq_zero_of_no_sems (sig := Cert.OddInRefIdeal.sig) rfl _,
  fun m ρ _ => Cert.EvenIn.Gen.frame m ρ, fun m ρ _ => Cert.EvenInIdeal.Gen.frame m ρ,
  by intro m g _; hlo_run; simp; exact sem_eq_zero_of_no_sems (sig := Cert.EvenInRefIdeal.sig) rfl _,
  fun m ρ _ => Cert.OddOut.Gen.frame m ρ, fun m ρ _ => Cert.OddOutIdeal.Gen.frame m ρ, fun m ρ _ => Cert.OddOutIdeal.Gen.frame m ρ,
  frame_oddOutRef, fun m g _ => frame_oddOutRef m g trivial,
  fun m ρ _ => Cert.EvenOut.Gen.frame m ρ, fun m ρ _ => Cert.EvenOutIdeal.Gen.frame m ρ, fun m ρ _ => Cert.EvenOutIdeal.Gen.frame m ρ,
  frame_evenOutRef, fun m g _ => frame_evenOutRef m g trivial,
  fun m ρ _ => Cert.Conv.Gen.frame m ρ, fun m ρ _ => Cert.ConvIdeal.Gen.frame m ρ, frame_convRef,
  fun m ρ _ => Cert.ConvFwd.Gen.frame m ρ, fun m ρ _ => Cert.ConvFwdIdeal.Gen.frame m ρ, frame_convFwdRef,
  fun m ρ _ => Cert.OddProj.Gen.frame m ρ, fun m ρ _ => Cert.OddProjIdeal.Gen.frame m ρ, frame_oddProjRef,
  fun m ρ _ => Cert.EvenProj.Gen.frame m ρ, fun m ρ _ => Cert.EvenProjIdeal.Gen.frame m ρ, fun m ρ _ => Cert.EvenProjIdeal.Gen.frame m ρ,
  frame_evenProjRef, fun m g _ => frame_evenProjRef m g trivial,
  fun m ρ _ => Cert.ChipSum.Gen.frame m ρ, fun m ρ _ => Cert.ChipSumIdeal.Gen.frame m ρ, frame_chipSumRef,
  fun m ρ _ => Cert.Adam.Gen.frame m ρ, fun m ρ _ => Cert.AdamIdeal.Gen.frame m ρ, frame_adamRef,
  trivial, algebraic_oddIn, trivial, algebraic_evenIn, trivial, @algebraic_oddOut facts_finite_odd_out,
  trivial, @algebraic_evenOut facts_finite_even_out, trivial, algebraic_conv, trivial, algebraic_convFwd, trivial, algebraic_oddProj,
  trivial, @algebraic_evenProj facts_finite_even_proj, trivial, algebraic_chipSum, preserves_adam, algebraic_adam⟩

end Cert.Proof

end
